-- ==== Defs.lean ====
def Pre_GateKernel (m : (ℓ : Loc Cert.GateKernel.nD Cert.GateKernel.τ Cert.GateKernel.sig) → Buf (Elt Bits) ℓ) : Prop :=
  True

def Pre_GateKernelIdeal (m : (ℓ : Loc Cert.GateKernelIdeal.nD Cert.GateKernelIdeal.τ Cert.GateKernelIdeal.sig) → Buf (Elt Ideal) ℓ) : Prop :=
  True

def Pre_GateKernelIdeal_gate_finite [hPre_gate_finite : Cert.Pre_gate_finite.Facts] (m : (ℓ : Loc Cert.GateKernelIdeal.nD Cert.GateKernelIdeal.τ Cert.GateKernelIdeal.sig) → Buf (Elt Ideal) ℓ) : Prop :=
  ∀ c : Dev Cert.GateKernelIdeal.nD,
    (Cert.Pre_gate_finite.fn (F := Ideal) (m ((c.tc : Thread Cert.GateKernelIdeal.nD Cert.GateKernelIdeal.τ).loc Cert.GateKernelIdeal.main_arg0)) (m ((c.tc : Thread Cert.GateKernelIdeal.nD Cert.GateKernelIdeal.τ).loc Cert.GateKernelIdeal.main_arg1)) (m ((c.tc : Thread Cert.GateKernelIdeal.nD Cert.GateKernelIdeal.τ).loc Cert.GateKernelIdeal.main_arg2))) = (fun _ => 1#1)

def Pre_GateReferenceIdeal (m : (ℓ : Loc Cert.GateReferenceIdeal.nD Cert.GateReferenceIdeal.τ Cert.GateReferenceIdeal.sig) → Buf (Elt Ideal) ℓ) : Prop :=
  True

def Pre_GateReferenceIdeal_gate_finite [hPre_gate_finite : Cert.Pre_gate_finite.Facts] (m : (ℓ : Loc Cert.GateReferenceIdeal.nD Cert.GateReferenceIdeal.τ Cert.GateReferenceIdeal.sig) → Buf (Elt Ideal) ℓ) : Prop :=
  ∀ c : Dev Cert.GateReferenceIdeal.nD,
    (Cert.Pre_gate_finite.fn (F := Ideal) (m ((c.tc : Thread Cert.GateReferenceIdeal.nD Cert.GateReferenceIdeal.τ).loc Cert.GateReferenceIdeal.main_arg0)) (m ((c.tc : Thread Cert.GateReferenceIdeal.nD Cert.GateReferenceIdeal.τ).loc Cert.GateReferenceIdeal.main_arg1)) (m ((c.tc : Thread Cert.GateReferenceIdeal.nD Cert.GateReferenceIdeal.τ).loc Cert.GateReferenceIdeal.main_arg2))) = (fun _ => 1#1)

def Pre_FoxKernel (m : (ℓ : Loc Cert.FoxKernel.nD Cert.FoxKernel.τ Cert.FoxKernel.sig) → Buf (Elt Bits) ℓ) : Prop :=
  True

def Pre_FoxKernelIdeal (m : (ℓ : Loc Cert.FoxKernelIdeal.nD Cert.FoxKernelIdeal.τ Cert.FoxKernelIdeal.sig) → Buf (Elt Ideal) ℓ) : Prop :=
  True

def Pre_FoxKernelIdeal_fox_finite [hPre_fox_finite : Cert.Pre_fox_finite.Facts] (m : (ℓ : Loc Cert.FoxKernelIdeal.nD Cert.FoxKernelIdeal.τ Cert.FoxKernelIdeal.sig) → Buf (Elt Ideal) ℓ) : Prop :=
  ∀ c : Dev Cert.FoxKernelIdeal.nD,
    (Cert.Pre_fox_finite.fn (F := Ideal) (m ((c.tc : Thread Cert.FoxKernelIdeal.nD Cert.FoxKernelIdeal.τ).loc Cert.FoxKernelIdeal.main_arg0)) (m ((c.tc : Thread Cert.FoxKernelIdeal.nD Cert.FoxKernelIdeal.τ).loc Cert.FoxKernelIdeal.main_arg1)) (m ((c.tc : Thread Cert.FoxKernelIdeal.nD Cert.FoxKernelIdeal.τ).loc Cert.FoxKernelIdeal.main_arg2)) (m ((c.tc : Thread Cert.FoxKernelIdeal.nD Cert.FoxKernelIdeal.τ).loc Cert.FoxKernelIdeal.main_arg3)) (m ((c.tc : Thread Cert.FoxKernelIdeal.nD Cert.FoxKernelIdeal.τ).loc Cert.FoxKernelIdeal.main_arg4))) = (fun _ => 1#1)

def Pre_FoxReferenceIdeal (m : (ℓ : Loc Cert.FoxReferenceIdeal.nD Cert.FoxReferenceIdeal.τ Cert.FoxReferenceIdeal.sig) → Buf (Elt Ideal) ℓ) : Prop :=
  True

def Pre_FoxReferenceIdeal_fox_finite [hPre_fox_finite : Cert.Pre_fox_finite.Facts] (m : (ℓ : Loc Cert.FoxReferenceIdeal.nD Cert.FoxReferenceIdeal.τ Cert.FoxReferenceIdeal.sig) → Buf (Elt Ideal) ℓ) : Prop :=
  ∀ c : Dev Cert.FoxReferenceIdeal.nD,
    (Cert.Pre_fox_finite.fn (F := Ideal) (m ((c.tc : Thread Cert.FoxReferenceIdeal.nD Cert.FoxReferenceIdeal.τ).loc Cert.FoxReferenceIdeal.main_arg0)) (m ((c.tc : Thread Cert.FoxReferenceIdeal.nD Cert.FoxReferenceIdeal.τ).loc Cert.FoxReferenceIdeal.main_arg1)) (m ((c.tc : Thread Cert.FoxReferenceIdeal.nD Cert.FoxReferenceIdeal.τ).loc Cert.FoxReferenceIdeal.main_arg2)) (m ((c.tc : Thread Cert.FoxReferenceIdeal.nD Cert.FoxReferenceIdeal.τ).loc Cert.FoxReferenceIdeal.main_arg3)) (m ((c.tc : Thread Cert.FoxReferenceIdeal.nD Cert.FoxReferenceIdeal.τ).loc Cert.FoxReferenceIdeal.main_arg4))) = (fun _ => 1#1)

def Pre_FoxFKernel (m : (ℓ : Loc Cert.FoxFKernel.nD Cert.FoxFKernel.τ Cert.FoxFKernel.sig) → Buf (Elt Bits) ℓ) : Prop :=
  True

def Pre_FoxFKernelIdeal (m : (ℓ : Loc Cert.FoxFKernelIdeal.nD Cert.FoxFKernelIdeal.τ Cert.FoxFKernelIdeal.sig) → Buf (Elt Ideal) ℓ) : Prop :=
  True

def Pre_FoxFKernelIdeal_foxf_finite [hPre_foxf_finite : Cert.Pre_foxf_finite.Facts] (m : (ℓ : Loc Cert.FoxFKernelIdeal.nD Cert.FoxFKernelIdeal.τ Cert.FoxFKernelIdeal.sig) → Buf (Elt Ideal) ℓ) : Prop :=
  ∀ c : Dev Cert.FoxFKernelIdeal.nD,
    (Cert.Pre_foxf_finite.fn (F := Ideal) (m ((c.tc : Thread Cert.FoxFKernelIdeal.nD Cert.FoxFKernelIdeal.τ).loc Cert.FoxFKernelIdeal.main_arg0)) (m ((c.tc : Thread Cert.FoxFKernelIdeal.nD Cert.FoxFKernelIdeal.τ).loc Cert.FoxFKernelIdeal.main_arg1)) (m ((c.tc : Thread Cert.FoxFKernelIdeal.nD Cert.FoxFKernelIdeal.τ).loc Cert.FoxFKernelIdeal.main_arg2)) (m ((c.tc : Thread Cert.FoxFKernelIdeal.nD Cert.FoxFKernelIdeal.τ).loc Cert.FoxFKernelIdeal.main_arg3))) = (fun _ => 1#1)

def Pre_FoxFReferenceIdeal (m : (ℓ : Loc Cert.FoxFReferenceIdeal.nD Cert.FoxFReferenceIdeal.τ Cert.FoxFReferenceIdeal.sig) → Buf (Elt Ideal) ℓ) : Prop :=
  True

def Pre_FoxFReferenceIdeal_foxf_finite [hPre_foxf_finite : Cert.Pre_foxf_finite.Facts] (m : (ℓ : Loc Cert.FoxFReferenceIdeal.nD Cert.FoxFReferenceIdeal.τ Cert.FoxFReferenceIdeal.sig) → Buf (Elt Ideal) ℓ) : Prop :=
  ∀ c : Dev Cert.FoxFReferenceIdeal.nD,
    (Cert.Pre_foxf_finite.fn (F := Ideal) (m ((c.tc : Thread Cert.FoxFReferenceIdeal.nD Cert.FoxFReferenceIdeal.τ).loc Cert.FoxFReferenceIdeal.main_arg0)) (m ((c.tc : Thread Cert.FoxFReferenceIdeal.nD Cert.FoxFReferenceIdeal.τ).loc Cert.FoxFReferenceIdeal.main_arg1)) (m ((c.tc : Thread Cert.FoxFReferenceIdeal.nD Cert.FoxFReferenceIdeal.τ).loc Cert.FoxFReferenceIdeal.main_arg2)) (m ((c.tc : Thread Cert.FoxFReferenceIdeal.nD Cert.FoxFReferenceIdeal.τ).loc Cert.FoxFReferenceIdeal.main_arg3))) = (fun _ => 1#1)

def Pre_MlaKernel (m : (ℓ : Loc Cert.MlaKernel.nD Cert.MlaKernel.τ Cert.MlaKernel.sig) → Buf (Elt Bits) ℓ) : Prop :=
  True

def Pre_MlaKernelIdeal (m : (ℓ : Loc Cert.MlaKernelIdeal.nD Cert.MlaKernelIdeal.τ Cert.MlaKernelIdeal.sig) → Buf (Elt Ideal) ℓ) : Prop :=
  True

def Pre_MlaKernelIdeal_mla_finite [hPre_mla_finite : Cert.Pre_mla_finite.Facts] (m : (ℓ : Loc Cert.MlaKernelIdeal.nD Cert.MlaKernelIdeal.τ Cert.MlaKernelIdeal.sig) → Buf (Elt Ideal) ℓ) : Prop :=
  ∀ c : Dev Cert.MlaKernelIdeal.nD,
    (Cert.Pre_mla_finite.fn (F := Ideal) (m ((c.tc : Thread Cert.MlaKernelIdeal.nD Cert.MlaKernelIdeal.τ).loc Cert.MlaKernelIdeal.main_arg0)) (m ((c.tc : Thread Cert.MlaKernelIdeal.nD Cert.MlaKernelIdeal.τ).loc Cert.MlaKernelIdeal.main_arg1)) (m ((c.tc : Thread Cert.MlaKernelIdeal.nD Cert.MlaKernelIdeal.τ).loc Cert.MlaKernelIdeal.main_arg2)) (m ((c.tc : Thread Cert.MlaKernelIdeal.nD Cert.MlaKernelIdeal.τ).loc Cert.MlaKernelIdeal.main_arg3)) (m ((c.tc : Thread Cert.MlaKernelIdeal.nD Cert.MlaKernelIdeal.τ).loc Cert.MlaKernelIdeal.main_arg4))) = (fun _ => 1#1)

def Pre_MlaReferenceIdeal (m : (ℓ : Loc Cert.MlaReferenceIdeal.nD Cert.MlaReferenceIdeal.τ Cert.MlaReferenceIdeal.sig) → Buf (Elt Ideal) ℓ) : Prop :=
  True

def Pre_MlaReferenceIdeal_mla_finite [hPre_mla_finite : Cert.Pre_mla_finite.Facts] (m : (ℓ : Loc Cert.MlaReferenceIdeal.nD Cert.MlaReferenceIdeal.τ Cert.MlaReferenceIdeal.sig) → Buf (Elt Ideal) ℓ) : Prop :=
  ∀ c : Dev Cert.MlaReferenceIdeal.nD,
    (Cert.Pre_mla_finite.fn (F := Ideal) (m ((c.tc : Thread Cert.MlaReferenceIdeal.nD Cert.MlaReferenceIdeal.τ).loc Cert.MlaReferenceIdeal.main_arg0)) (m ((c.tc : Thread Cert.MlaReferenceIdeal.nD Cert.MlaReferenceIdeal.τ).loc Cert.MlaReferenceIdeal.main_arg1)) (m ((c.tc : Thread Cert.MlaReferenceIdeal.nD Cert.MlaReferenceIdeal.τ).loc Cert.MlaReferenceIdeal.main_arg2)) (m ((c.tc : Thread Cert.MlaReferenceIdeal.nD Cert.MlaReferenceIdeal.τ).loc Cert.MlaReferenceIdeal.main_arg3)) (m ((c.tc : Thread Cert.MlaReferenceIdeal.nD Cert.MlaReferenceIdeal.τ).loc Cert.MlaReferenceIdeal.main_arg4))) = (fun _ => 1#1)

def Pre_SwiKernel (m : (ℓ : Loc Cert.SwiKernel.nD Cert.SwiKernel.τ Cert.SwiKernel.sig) → Buf (Elt Bits) ℓ) : Prop :=
  True

def Pre_SwiKernelIdeal (m : (ℓ : Loc Cert.SwiKernelIdeal.nD Cert.SwiKernelIdeal.τ Cert.SwiKernelIdeal.sig) → Buf (Elt Ideal) ℓ) : Prop :=
  True

def Pre_SwiKernelIdeal_swi_finite [hPre_swi_finite : Cert.Pre_swi_finite.Facts] (m : (ℓ : Loc Cert.SwiKernelIdeal.nD Cert.SwiKernelIdeal.τ Cert.SwiKernelIdeal.sig) → Buf (Elt Ideal) ℓ) : Prop :=
  ∀ c : Dev Cert.SwiKernelIdeal.nD,
    (Cert.Pre_swi_finite.fn (F := Ideal) (m ((c.tc : Thread Cert.SwiKernelIdeal.nD Cert.SwiKernelIdeal.τ).loc Cert.SwiKernelIdeal.main_arg0)) (m ((c.tc : Thread Cert.SwiKernelIdeal.nD Cert.SwiKernelIdeal.τ).loc Cert.SwiKernelIdeal.main_arg1)) (m ((c.tc : Thread Cert.SwiKernelIdeal.nD Cert.SwiKernelIdeal.τ).loc Cert.SwiKernelIdeal.main_arg2)) (m ((c.tc : Thread Cert.SwiKernelIdeal.nD Cert.SwiKernelIdeal.τ).loc Cert.SwiKernelIdeal.main_arg3)) (m ((c.tc : Thread Cert.SwiKernelIdeal.nD Cert.SwiKernelIdeal.τ).loc Cert.SwiKernelIdeal.main_arg4))) = (fun _ => 1#1)

def Pre_SwiReferenceIdeal (m : (ℓ : Loc Cert.SwiReferenceIdeal.nD Cert.SwiReferenceIdeal.τ Cert.SwiReferenceIdeal.sig) → Buf (Elt Ideal) ℓ) : Prop :=
  True

def Pre_SwiReferenceIdeal_swi_finite [hPre_swi_finite : Cert.Pre_swi_finite.Facts] (m : (ℓ : Loc Cert.SwiReferenceIdeal.nD Cert.SwiReferenceIdeal.τ Cert.SwiReferenceIdeal.sig) → Buf (Elt Ideal) ℓ) : Prop :=
  ∀ c : Dev Cert.SwiReferenceIdeal.nD,
    (Cert.Pre_swi_finite.fn (F := Ideal) (m ((c.tc : Thread Cert.SwiReferenceIdeal.nD Cert.SwiReferenceIdeal.τ).loc Cert.SwiReferenceIdeal.main_arg0)) (m ((c.tc : Thread Cert.SwiReferenceIdeal.nD Cert.SwiReferenceIdeal.τ).loc Cert.SwiReferenceIdeal.main_arg1)) (m ((c.tc : Thread Cert.SwiReferenceIdeal.nD Cert.SwiReferenceIdeal.τ).loc Cert.SwiReferenceIdeal.main_arg2)) (m ((c.tc : Thread Cert.SwiReferenceIdeal.nD Cert.SwiReferenceIdeal.τ).loc Cert.SwiReferenceIdeal.main_arg3)) (m ((c.tc : Thread Cert.SwiReferenceIdeal.nD Cert.SwiReferenceIdeal.τ).loc Cert.SwiReferenceIdeal.main_arg4))) = (fun _ => 1#1)

def Pre_FfnKernel (m : (ℓ : Loc Cert.FfnKernel.nD Cert.FfnKernel.τ Cert.FfnKernel.sig) → Buf (Elt Bits) ℓ) : Prop :=
  True

def Pre_FfnKernelIdeal (m : (ℓ : Loc Cert.FfnKernelIdeal.nD Cert.FfnKernelIdeal.τ Cert.FfnKernelIdeal.sig) → Buf (Elt Ideal) ℓ) : Prop :=
  True

def Pre_FfnKernelIdeal_ffn_finite [hPre_ffn_finite : Cert.Pre_ffn_finite.Facts] (m : (ℓ : Loc Cert.FfnKernelIdeal.nD Cert.FfnKernelIdeal.τ Cert.FfnKernelIdeal.sig) → Buf (Elt Ideal) ℓ) : Prop :=
  ∀ c : Dev Cert.FfnKernelIdeal.nD,
    (Cert.Pre_ffn_finite.fn (F := Ideal) (m ((c.tc : Thread Cert.FfnKernelIdeal.nD Cert.FfnKernelIdeal.τ).loc Cert.FfnKernelIdeal.main_arg0)) (m ((c.tc : Thread Cert.FfnKernelIdeal.nD Cert.FfnKernelIdeal.τ).loc Cert.FfnKernelIdeal.main_arg1)) (m ((c.tc : Thread Cert.FfnKernelIdeal.nD Cert.FfnKernelIdeal.τ).loc Cert.FfnKernelIdeal.main_arg2)) (m ((c.tc : Thread Cert.FfnKernelIdeal.nD Cert.FfnKernelIdeal.τ).loc Cert.FfnKernelIdeal.main_arg3)) (m ((c.tc : Thread Cert.FfnKernelIdeal.nD Cert.FfnKernelIdeal.τ).loc Cert.FfnKernelIdeal.main_arg4)) (m ((c.tc : Thread Cert.FfnKernelIdeal.nD Cert.FfnKernelIdeal.τ).loc Cert.FfnKernelIdeal.main_arg5)) (m ((c.tc : Thread Cert.FfnKernelIdeal.nD Cert.FfnKernelIdeal.τ).loc Cert.FfnKernelIdeal.main_arg6))) = (fun _ => 1#1)

def Pre_FfnReferenceIdeal (m : (ℓ : Loc Cert.FfnReferenceIdeal.nD Cert.FfnReferenceIdeal.τ Cert.FfnReferenceIdeal.sig) → Buf (Elt Ideal) ℓ) : Prop :=
  True

def Pre_FfnReferenceIdeal_ffn_finite [hPre_ffn_finite : Cert.Pre_ffn_finite.Facts] (m : (ℓ : Loc Cert.FfnReferenceIdeal.nD Cert.FfnReferenceIdeal.τ Cert.FfnReferenceIdeal.sig) → Buf (Elt Ideal) ℓ) : Prop :=
  ∀ c : Dev Cert.FfnReferenceIdeal.nD,
    (Cert.Pre_ffn_finite.fn (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3)) (m ((c.tc : Thread Cert.FfnReferenceIdeal.nD Cert.FfnReferenceIdeal.τ).loc Cert.FfnReferenceIdeal.main_arg4)) (m ((c.tc : Thread Cert.FfnReferenceIdeal.nD Cert.FfnReferenceIdeal.τ).loc Cert.FfnReferenceIdeal.main_arg5)) (m ((c.tc : Thread Cert.FfnReferenceIdeal.nD Cert.FfnReferenceIdeal.τ).loc Cert.FfnReferenceIdeal.main_arg6))) = (fun _ => 1#1)

def Pre_LossKernel (m : (ℓ : Loc Cert.LossKernel.nD Cert.LossKernel.τ Cert.LossKernel.sig) → Buf (Elt Bits) ℓ) : Prop :=
  True

def Pre_LossKernelIdeal (m : (ℓ : Loc Cert.LossKernelIdeal.nD Cert.LossKernelIdeal.τ Cert.LossKernelIdeal.sig) → Buf (Elt Ideal) ℓ) : Prop :=
  True

def Pre_LossKernelIdeal_loss_finite [hPre_loss_finite : Cert.Pre_loss_finite.Facts] (m : (ℓ : Loc Cert.LossKernelIdeal.nD Cert.LossKernelIdeal.τ Cert.LossKernelIdeal.sig) → Buf (Elt Ideal) ℓ) : Prop :=
  ∀ c : Dev Cert.LossKernelIdeal.nD,
    (Cert.Pre_loss_finite.fn (F := Ideal) (m ((c.tc : Thread Cert.LossKernelIdeal.nD Cert.LossKernelIdeal.τ).loc Cert.LossKernelIdeal.main_arg0)) (m ((c.tc : Thread Cert.LossKernelIdeal.nD Cert.LossKernelIdeal.τ).loc Cert.LossKernelIdeal.main_arg1)) (m ((c.tc : Thread Cert.LossKernelIdeal.nD Cert.LossKernelIdeal.τ).loc Cert.LossKernelIdeal.main_arg2)) (m ((c.tc : Thread Cert.LossKernelIdeal.nD Cert.LossKernelIdeal.τ).loc Cert.LossKernelIdeal.main_arg3)) (m ((c.tc : Thread Cert.LossKernelIdeal.nD Cert.LossKernelIdeal.τ).loc Cert.LossKernelIdeal.main_arg4))) = (fun _ => 1#1)

def Pre_LossReferenceIdeal (m : (ℓ : Loc Cert.LossReferenceIdeal.nD Cert.LossReferenceIdeal.τ Cert.LossReferenceIdeal.sig) → Buf (Elt Ideal) ℓ) : Prop :=
  True

def Pre_LossReferenceIdeal_loss_finite [hPre_loss_finite : Cert.Pre_loss_finite.Facts] (m : (ℓ : Loc Cert.LossReferenceIdeal.nD Cert.LossReferenceIdeal.τ Cert.LossReferenceIdeal.sig) → Buf (Elt Ideal) ℓ) : Prop :=
  ∀ c : Dev Cert.LossReferenceIdeal.nD,
    (Cert.Pre_loss_finite.fn (F := Ideal) (m ((c.tc : Thread Cert.LossReferenceIdeal.nD Cert.LossReferenceIdeal.τ).loc Cert.LossReferenceIdeal.main_arg0)) (m ((c.tc : Thread Cert.LossReferenceIdeal.nD Cert.LossReferenceIdeal.τ).loc Cert.LossReferenceIdeal.main_arg1)) (m ((c.tc : Thread Cert.LossReferenceIdeal.nD Cert.LossReferenceIdeal.τ).loc Cert.LossReferenceIdeal.main_arg2)) (m ((c.tc : Thread Cert.LossReferenceIdeal.nD Cert.LossReferenceIdeal.τ).loc Cert.LossReferenceIdeal.main_arg3)) (m ((c.tc : Thread Cert.LossReferenceIdeal.nD Cert.LossReferenceIdeal.τ).loc Cert.LossReferenceIdeal.main_arg4))) = (fun _ => 1#1)

def Pre_InpKernel (m : (ℓ : Loc Cert.InpKernel.nD Cert.InpKernel.τ Cert.InpKernel.sig) → Buf (Elt Bits) ℓ) : Prop :=
  True

def Pre_InpKernelIdeal (m : (ℓ : Loc Cert.InpKernelIdeal.nD Cert.InpKernelIdeal.τ Cert.InpKernelIdeal.sig) → Buf (Elt Ideal) ℓ) : Prop :=
  True

def Pre_InpKernelIdeal_inp_finite [hPre_inp_finite : Cert.Pre_inp_finite.Facts] (m : (ℓ : Loc Cert.InpKernelIdeal.nD Cert.InpKernelIdeal.τ Cert.InpKernelIdeal.sig) → Buf (Elt Ideal) ℓ) : Prop :=
  ∀ c : Dev Cert.InpKernelIdeal.nD,
    (Cert.Pre_inp_finite.fn (F := Ideal) (m ((c.tc : Thread Cert.InpKernelIdeal.nD Cert.InpKernelIdeal.τ).loc Cert.InpKernelIdeal.main_arg0)) (m ((c.tc : Thread Cert.InpKernelIdeal.nD Cert.InpKernelIdeal.τ).loc Cert.InpKernelIdeal.main_arg1)) (m ((c.tc : Thread Cert.InpKernelIdeal.nD Cert.InpKernelIdeal.τ).loc Cert.InpKernelIdeal.main_arg2)) (m ((c.tc : Thread Cert.InpKernelIdeal.nD Cert.InpKernelIdeal.τ).loc Cert.InpKernelIdeal.main_arg3)) (m ((c.tc : Thread Cert.InpKernelIdeal.nD Cert.InpKernelIdeal.τ).loc Cert.InpKernelIdeal.main_arg4)) (m ((c.tc : Thread Cert.InpKernelIdeal.nD Cert.InpKernelIdeal.τ).loc Cert.InpKernelIdeal.main_arg5)) (m ((c.tc : Thread Cert.InpKernelIdeal.nD Cert.InpKernelIdeal.τ).loc Cert.InpKernelIdeal.main_arg6))) = (fun _ => 1#1)

def Pre_InpReferenceIdeal (m : (ℓ : Loc Cert.InpReferenceIdeal.nD Cert.InpReferenceIdeal.τ Cert.InpReferenceIdeal.sig) → Buf (Elt Ideal) ℓ) : Prop :=
  True

def Pre_InpReferenceIdeal_inp_finite [hPre_inp_finite : Cert.Pre_inp_finite.Facts] (m : (ℓ : Loc Cert.InpReferenceIdeal.nD Cert.InpReferenceIdeal.τ Cert.InpReferenceIdeal.sig) → Buf (Elt Ideal) ℓ) : Prop :=
  ∀ c : Dev Cert.InpReferenceIdeal.nD,
    (Cert.Pre_inp_finite.fn (F := Ideal) (m ((c.tc : Thread Cert.InpReferenceIdeal.nD Cert.InpReferenceIdeal.τ).loc Cert.InpReferenceIdeal.main_arg0)) (m ((c.tc : Thread Cert.InpReferenceIdeal.nD Cert.InpReferenceIdeal.τ).loc Cert.InpReferenceIdeal.main_arg1)) (m ((c.tc : Thread Cert.InpReferenceIdeal.nD Cert.InpReferenceIdeal.τ).loc Cert.InpReferenceIdeal.main_arg2)) (m ((c.tc : Thread Cert.InpReferenceIdeal.nD Cert.InpReferenceIdeal.τ).loc Cert.InpReferenceIdeal.main_arg3)) (m ((c.tc : Thread Cert.InpReferenceIdeal.nD Cert.InpReferenceIdeal.τ).loc Cert.InpReferenceIdeal.main_arg4)) (m ((c.tc : Thread Cert.InpReferenceIdeal.nD Cert.InpReferenceIdeal.τ).loc Cert.InpReferenceIdeal.main_arg5)) (m ((c.tc : Thread Cert.InpReferenceIdeal.nD Cert.InpReferenceIdeal.τ).loc Cert.InpReferenceIdeal.main_arg6))) = (fun _ => 1#1)

def Pre_MixKernel (m : (ℓ : Loc Cert.MixKernel.nD Cert.MixKernel.τ Cert.MixKernel.sig) → Buf (Elt Bits) ℓ) : Prop :=
  True

def Pre_MixKernelIdeal (m : (ℓ : Loc Cert.MixKernelIdeal.nD Cert.MixKernelIdeal.τ Cert.MixKernelIdeal.sig) → Buf (Elt Ideal) ℓ) : Prop :=
  True

def Pre_MixKernelIdeal_mix_finite [hPre_mix_finite : Cert.Pre_mix_finite.Facts] (m : (ℓ : Loc Cert.MixKernelIdeal.nD Cert.MixKernelIdeal.τ Cert.MixKernelIdeal.sig) → Buf (Elt Ideal) ℓ) : Prop :=
  ∀ c : Dev Cert.MixKernelIdeal.nD,
    (Cert.Pre_mix_finite.fn (F := Ideal) (m ((c.tc : Thread Cert.MixKernelIdeal.nD Cert.MixKernelIdeal.τ).loc Cert.MixKernelIdeal.main_arg0)) (m ((c.tc : Thread Cert.MixKernelIdeal.nD Cert.MixKernelIdeal.τ).loc Cert.MixKernelIdeal.main_arg1)) (m ((c.tc : Thread Cert.MixKernelIdeal.nD Cert.MixKernelIdeal.τ).loc Cert.MixKernelIdeal.main_arg2)) (m ((c.tc : Thread Cert.MixKernelIdeal.nD Cert.MixKernelIdeal.τ).loc Cert.MixKernelIdeal.main_arg3)) (m ((c.tc : Thread Cert.MixKernelIdeal.nD Cert.MixKernelIdeal.τ).loc Cert.MixKernelIdeal.main_arg4)) (m ((c.tc : Thread Cert.MixKernelIdeal.nD Cert.MixKernelIdeal.τ).loc Cert.MixKernelIdeal.main_arg5))) = (fun _ => 1#1)

def Pre_MixReferenceIdeal (m : (ℓ : Loc Cert.MixReferenceIdeal.nD Cert.MixReferenceIdeal.τ Cert.MixReferenceIdeal.sig) → Buf (Elt Ideal) ℓ) : Prop :=
  True

def Pre_MixReferenceIdeal_mix_finite [hPre_mix_finite : Cert.Pre_mix_finite.Facts] (m : (ℓ : Loc Cert.MixReferenceIdeal.nD Cert.MixReferenceIdeal.τ Cert.MixReferenceIdeal.sig) → Buf (Elt Ideal) ℓ) : Prop :=
  ∀ c : Dev Cert.MixReferenceIdeal.nD,
    (Cert.Pre_mix_finite.fn (F := Ideal) (m ((c.tc : Thread Cert.MixReferenceIdeal.nD Cert.MixReferenceIdeal.τ).loc Cert.MixReferenceIdeal.main_arg0)) (m ((c.tc : Thread Cert.MixReferenceIdeal.nD Cert.MixReferenceIdeal.τ).loc Cert.MixReferenceIdeal.main_arg1)) (m ((c.tc : Thread Cert.MixReferenceIdeal.nD Cert.MixReferenceIdeal.τ).loc Cert.MixReferenceIdeal.main_arg2)) (m ((c.tc : Thread Cert.MixReferenceIdeal.nD Cert.MixReferenceIdeal.τ).loc Cert.MixReferenceIdeal.main_arg3)) (m ((c.tc : Thread Cert.MixReferenceIdeal.nD Cert.MixReferenceIdeal.τ).loc Cert.MixReferenceIdeal.main_arg4)) (m ((c.tc : Thread Cert.MixReferenceIdeal.nD Cert.MixReferenceIdeal.τ).loc Cert.MixReferenceIdeal.main_arg5))) = (fun _ => 1#1)

def Pre_SwiFKernel (m : (ℓ : Loc Cert.SwiFKernel.nD Cert.SwiFKernel.τ Cert.SwiFKernel.sig) → Buf (Elt Bits) ℓ) : Prop :=
  True

def Pre_SwiFKernelIdeal (m : (ℓ : Loc Cert.SwiFKernelIdeal.nD Cert.SwiFKernelIdeal.τ Cert.SwiFKernelIdeal.sig) → Buf (Elt Ideal) ℓ) : Prop :=
  True

def Pre_SwiFKernelIdeal_swif_finite [hPre_swif_finite : Cert.Pre_swif_finite.Facts] (m : (ℓ : Loc Cert.SwiFKernelIdeal.nD Cert.SwiFKernelIdeal.τ Cert.SwiFKernelIdeal.sig) → Buf (Elt Ideal) ℓ) : Prop :=
  ∀ c : Dev Cert.SwiFKernelIdeal.nD,
    (Cert.Pre_swif_finite.fn (F := Ideal) (m ((c.tc : Thread Cert.SwiFKernelIdeal.nD Cert.SwiFKernelIdeal.τ).loc Cert.SwiFKernelIdeal.main_arg0)) (m ((c.tc : Thread Cert.SwiFKernelIdeal.nD Cert.SwiFKernelIdeal.τ).loc Cert.SwiFKernelIdeal.main_arg1)) (m ((c.tc : Thread Cert.SwiFKernelIdeal.nD Cert.SwiFKernelIdeal.τ).loc Cert.SwiFKernelIdeal.main_arg2))) = (fun _ => 1#1)

def Pre_SwiFReferenceIdeal (m : (ℓ : Loc Cert.SwiFReferenceIdeal.nD Cert.SwiFReferenceIdeal.τ Cert.SwiFReferenceIdeal.sig) → Buf (Elt Ideal) ℓ) : Prop :=
  True

def Pre_SwiFReferenceIdeal_swif_finite [hPre_swif_finite : Cert.Pre_swif_finite.Facts] (m : (ℓ : Loc Cert.SwiFReferenceIdeal.nD Cert.SwiFReferenceIdeal.τ Cert.SwiFReferenceIdeal.sig) → Buf (Elt Ideal) ℓ) : Prop :=
  ∀ c : Dev Cert.SwiFReferenceIdeal.nD,
    (Cert.Pre_swif_finite.fn (F := Ideal) (m ((c.tc : Thread Cert.SwiFReferenceIdeal.nD Cert.SwiFReferenceIdeal.τ).loc Cert.SwiFReferenceIdeal.main_arg0)) (m ((c.tc : Thread Cert.SwiFReferenceIdeal.nD Cert.SwiFReferenceIdeal.τ).loc Cert.SwiFReferenceIdeal.main_arg1)) (m ((c.tc : Thread Cert.SwiFReferenceIdeal.nD Cert.SwiFReferenceIdeal.τ).loc Cert.SwiFReferenceIdeal.main_arg2))) = (fun _ => 1#1)

def Pre_PrepKernel (m : (ℓ : Loc Cert.PrepKernel.nD Cert.PrepKernel.τ Cert.PrepKernel.sig) → Buf (Elt Bits) ℓ) : Prop :=
  True

def Pre_PrepKernelIdeal (m : (ℓ : Loc Cert.PrepKernelIdeal.nD Cert.PrepKernelIdeal.τ Cert.PrepKernelIdeal.sig) → Buf (Elt Ideal) ℓ) : Prop :=
  True

def Pre_PrepKernelIdeal_prep_finite [hPre_prep_finite : Cert.Pre_prep_finite.Facts] (m : (ℓ : Loc Cert.PrepKernelIdeal.nD Cert.PrepKernelIdeal.τ Cert.PrepKernelIdeal.sig) → Buf (Elt Ideal) ℓ) : Prop :=
  ∀ c : Dev Cert.PrepKernelIdeal.nD,
    (Cert.Pre_prep_finite.fn (F := Ideal) (m ((c.tc : Thread Cert.PrepKernelIdeal.nD Cert.PrepKernelIdeal.τ).loc Cert.PrepKernelIdeal.main_arg0)) (m ((c.tc : Thread Cert.PrepKernelIdeal.nD Cert.PrepKernelIdeal.τ).loc Cert.PrepKernelIdeal.main_arg1)) (m ((c.tc : Thread Cert.PrepKernelIdeal.nD Cert.PrepKernelIdeal.τ).loc Cert.PrepKernelIdeal.main_arg2)) (m ((c.tc : Thread Cert.PrepKernelIdeal.nD Cert.PrepKernelIdeal.τ).loc Cert.PrepKernelIdeal.main_arg3)) (m ((c.tc : Thread Cert.PrepKernelIdeal.nD Cert.PrepKernelIdeal.τ).loc Cert.PrepKernelIdeal.main_arg4)) (m ((c.tc : Thread Cert.PrepKernelIdeal.nD Cert.PrepKernelIdeal.τ).loc Cert.PrepKernelIdeal.main_arg5)) (m ((c.tc : Thread Cert.PrepKernelIdeal.nD Cert.PrepKernelIdeal.τ).loc Cert.PrepKernelIdeal.main_arg6)) (m ((c.tc : Thread Cert.PrepKernelIdeal.nD Cert.PrepKernelIdeal.τ).loc Cert.PrepKernelIdeal.main_arg7)) (m ((c.tc : Thread Cert.PrepKernelIdeal.nD Cert.PrepKernelIdeal.τ).loc Cert.PrepKernelIdeal.main_arg8)) (m ((c.tc : Thread Cert.PrepKernelIdeal.nD Cert.PrepKernelIdeal.τ).loc Cert.PrepKernelIdeal.main_arg9)) (m ((c.tc : Thread Cert.PrepKernelIdeal.nD Cert.PrepKernelIdeal.τ).loc Cert.PrepKernelIdeal.main_arg10)) (m ((c.tc : Thread Cert.PrepKernelIdeal.nD Cert.PrepKernelIdeal.τ).loc Cert.PrepKernelIdeal.main_arg11))) = (fun _ => 1#1)

def Pre_PrepReferenceIdeal (m : (ℓ : Loc Cert.PrepReferenceIdeal.nD Cert.PrepReferenceIdeal.τ Cert.PrepReferenceIdeal.sig) → Buf (Elt Ideal) ℓ) : Prop :=
  True

def Pre_PrepReferenceIdeal_prep_finite [hPre_prep_finite : Cert.Pre_prep_finite.Facts] (m : (ℓ : Loc Cert.PrepReferenceIdeal.nD Cert.PrepReferenceIdeal.τ Cert.PrepReferenceIdeal.sig) → Buf (Elt Ideal) ℓ) : Prop :=
  ∀ c : Dev Cert.PrepReferenceIdeal.nD,
    (Cert.Pre_prep_finite.fn (F := Ideal) (m ((c.tc : Thread Cert.PrepReferenceIdeal.nD Cert.PrepReferenceIdeal.τ).loc Cert.PrepReferenceIdeal.main_arg0)) (m ((c.tc : Thread Cert.PrepReferenceIdeal.nD Cert.PrepReferenceIdeal.τ).loc Cert.PrepReferenceIdeal.main_arg1)) (m ((c.tc : Thread Cert.PrepReferenceIdeal.nD Cert.PrepReferenceIdeal.τ).loc Cert.PrepReferenceIdeal.main_arg2)) (m ((c.tc : Thread Cert.PrepReferenceIdeal.nD Cert.PrepReferenceIdeal.τ).loc Cert.PrepReferenceIdeal.main_arg3)) (m ((c.tc : Thread Cert.PrepReferenceIdeal.nD Cert.PrepReferenceIdeal.τ).loc Cert.PrepReferenceIdeal.main_arg4)) (m ((c.tc : Thread Cert.PrepReferenceIdeal.nD Cert.PrepReferenceIdeal.τ).loc Cert.PrepReferenceIdeal.main_arg5)) (m ((c.tc : Thread Cert.PrepReferenceIdeal.nD Cert.PrepReferenceIdeal.τ).loc Cert.PrepReferenceIdeal.main_arg6)) (m ((c.tc : Thread Cert.PrepReferenceIdeal.nD Cert.PrepReferenceIdeal.τ).loc Cert.PrepReferenceIdeal.main_arg7)) (m ((c.tc : Thread Cert.PrepReferenceIdeal.nD Cert.PrepReferenceIdeal.τ).loc Cert.PrepReferenceIdeal.main_arg8)) (m ((c.tc : Thread Cert.PrepReferenceIdeal.nD Cert.PrepReferenceIdeal.τ).loc Cert.PrepReferenceIdeal.main_arg9)) (m ((c.tc : Thread Cert.PrepReferenceIdeal.nD Cert.PrepReferenceIdeal.τ).loc Cert.PrepReferenceIdeal.main_arg10)) (m ((c.tc : Thread Cert.PrepReferenceIdeal.nD Cert.PrepReferenceIdeal.τ).loc Cert.PrepReferenceIdeal.main_arg11))) = (fun _ => 1#1)

def quiescent_GateKernel [hGateKernel : Cert.GateKernel.Facts] : Prop :=
  ∀ (m : (ℓ : Loc Cert.GateKernel.nD Cert.GateKernel.τ Cert.GateKernel.sig) → Buf (Elt Bits) ℓ) (g : Dev Cert.GateKernel.nD → PrngReg), Pre_GateKernel m →
    θ_run (Cert.GateKernel.defs (F := Bits)) (onTc (τ := Cert.GateKernel.τ) (Cert.GateKernel.main (F := Bits))) ⟨m, fun _ => 0, g⟩ (fun r => (∀ c : Dev Cert.GateKernel.nD,
      r.2.mem ((c.tc : Thread Cert.GateKernel.nD Cert.GateKernel.τ).loc Cert.GateKernel.main_arg0) = m ((c.tc : Thread Cert.GateKernel.nD Cert.GateKernel.τ).loc Cert.GateKernel.main_arg0)
      ∧ r.2.mem ((c.tc : Thread Cert.GateKernel.nD Cert.GateKernel.τ).loc Cert.GateKernel.main_arg1) = m ((c.tc : Thread Cert.GateKernel.nD Cert.GateKernel.τ).loc Cert.GateKernel.main_arg1)
      ∧ r.2.mem ((c.tc : Thread Cert.GateKernel.nD Cert.GateKernel.τ).loc Cert.GateKernel.main_arg2) = m ((c.tc : Thread Cert.GateKernel.nD Cert.GateKernel.τ).loc Cert.GateKernel.main_arg2))
      ∧ r.2.sem = fun _ => 0)

def quiescent_GateKernelIdeal [hGateKernelIdeal : Cert.GateKernelIdeal.Facts] : Prop :=
  ∀ (m : (ℓ : Loc Cert.GateKernelIdeal.nD Cert.GateKernelIdeal.τ Cert.GateKernelIdeal.sig) → Buf (Elt Ideal) ℓ) (g : Dev Cert.GateKernelIdeal.nD → PrngReg), Pre_GateKernelIdeal m →
    θ_run (Cert.GateKernelIdeal.defs (F := Ideal)) (onTc (τ := Cert.GateKernelIdeal.τ) (Cert.GateKernelIdeal.main (F := Ideal))) ⟨m, fun _ => 0, g⟩ (fun r => (∀ c : Dev Cert.GateKernelIdeal.nD,
      r.2.mem ((c.tc : Thread Cert.GateKernelIdeal.nD Cert.GateKernelIdeal.τ).loc Cert.GateKernelIdeal.main_arg0) = m ((c.tc : Thread Cert.GateKernelIdeal.nD Cert.GateKernelIdeal.τ).loc Cert.GateKernelIdeal.main_arg0)
      ∧ r.2.mem ((c.tc : Thread Cert.GateKernelIdeal.nD Cert.GateKernelIdeal.τ).loc Cert.GateKernelIdeal.main_arg1) = m ((c.tc : Thread Cert.GateKernelIdeal.nD Cert.GateKernelIdeal.τ).loc Cert.GateKernelIdeal.main_arg1)
      ∧ r.2.mem ((c.tc : Thread Cert.GateKernelIdeal.nD Cert.GateKernelIdeal.τ).loc Cert.GateKernelIdeal.main_arg2) = m ((c.tc : Thread Cert.GateKernelIdeal.nD Cert.GateKernelIdeal.τ).loc Cert.GateKernelIdeal.main_arg2))
      ∧ r.2.sem = fun _ => 0)

def quiescent_GateKernelIdeal_pre_gate_finite [hGateKernelIdeal : Cert.GateKernelIdeal.Facts] [hPre_gate_finite : Cert.Pre_gate_finite.Facts] : Prop :=
  ∀ (m : (ℓ : Loc Cert.GateKernelIdeal.nD Cert.GateKernelIdeal.τ Cert.GateKernelIdeal.sig) → Buf (Elt Ideal) ℓ) (g : Dev Cert.GateKernelIdeal.nD → PrngReg), Pre_GateKernelIdeal_gate_finite m →
    θ_run (Cert.GateKernelIdeal.defs (F := Ideal)) (onTc (τ := Cert.GateKernelIdeal.τ) (Cert.GateKernelIdeal.main (F := Ideal))) ⟨m, fun _ => 0, g⟩ (fun r => (∀ c : Dev Cert.GateKernelIdeal.nD,
      r.2.mem ((c.tc : Thread Cert.GateKernelIdeal.nD Cert.GateKernelIdeal.τ).loc Cert.GateKernelIdeal.main_arg0) = m ((c.tc : Thread Cert.GateKernelIdeal.nD Cert.GateKernelIdeal.τ).loc Cert.GateKernelIdeal.main_arg0)
      ∧ r.2.mem ((c.tc : Thread Cert.GateKernelIdeal.nD Cert.GateKernelIdeal.τ).loc Cert.GateKernelIdeal.main_arg1) = m ((c.tc : Thread Cert.GateKernelIdeal.nD Cert.GateKernelIdeal.τ).loc Cert.GateKernelIdeal.main_arg1)
      ∧ r.2.mem ((c.tc : Thread Cert.GateKernelIdeal.nD Cert.GateKernelIdeal.τ).loc Cert.GateKernelIdeal.main_arg2) = m ((c.tc : Thread Cert.GateKernelIdeal.nD Cert.GateKernelIdeal.τ).loc Cert.GateKernelIdeal.main_arg2))
      ∧ r.2.sem = fun _ => 0)

def quiescent_GateReferenceIdeal [hGateReferenceIdeal : Cert.GateReferenceIdeal.Facts] : Prop :=
  ∀ (m : (ℓ : Loc Cert.GateReferenceIdeal.nD Cert.GateReferenceIdeal.τ Cert.GateReferenceIdeal.sig) → Buf (Elt Ideal) ℓ) (g : Dev Cert.GateReferenceIdeal.nD → PrngReg), Pre_GateReferenceIdeal m →
    θ_run (Cert.GateReferenceIdeal.defs (F := Ideal)) (onTc (τ := Cert.GateReferenceIdeal.τ) (Cert.GateReferenceIdeal.main (F := Ideal))) ⟨m, fun _ => 0, g⟩ (fun r => (∀ c : Dev Cert.GateReferenceIdeal.nD,
      r.2.mem ((c.tc : Thread Cert.GateReferenceIdeal.nD Cert.GateReferenceIdeal.τ).loc Cert.GateReferenceIdeal.main_arg0) = m ((c.tc : Thread Cert.GateReferenceIdeal.nD Cert.GateReferenceIdeal.τ).loc Cert.GateReferenceIdeal.main_arg0)
      ∧ r.2.mem ((c.tc : Thread Cert.GateReferenceIdeal.nD Cert.GateReferenceIdeal.τ).loc Cert.GateReferenceIdeal.main_arg1) = m ((c.tc : Thread Cert.GateReferenceIdeal.nD Cert.GateReferenceIdeal.τ).loc Cert.GateReferenceIdeal.main_arg1)
      ∧ r.2.mem ((c.tc : Thread Cert.GateReferenceIdeal.nD Cert.GateReferenceIdeal.τ).loc Cert.GateReferenceIdeal.main_arg2) = m ((c.tc : Thread Cert.GateReferenceIdeal.nD Cert.GateReferenceIdeal.τ).loc Cert.GateReferenceIdeal.main_arg2))
      ∧ r.2.sem = fun _ => 0)

def quiescent_GateReferenceIdeal_pre_gate_finite [hGateReferenceIdeal : Cert.GateReferenceIdeal.Facts] [hPre_gate_finite : Cert.Pre_gate_finite.Facts] : Prop :=
  ∀ (m : (ℓ : Loc Cert.GateReferenceIdeal.nD Cert.GateReferenceIdeal.τ Cert.GateReferenceIdeal.sig) → Buf (Elt Ideal) ℓ) (g : Dev Cert.GateReferenceIdeal.nD → PrngReg), Pre_GateReferenceIdeal_gate_finite m →
    θ_run (Cert.GateReferenceIdeal.defs (F := Ideal)) (onTc (τ := Cert.GateReferenceIdeal.τ) (Cert.GateReferenceIdeal.main (F := Ideal))) ⟨m, fun _ => 0, g⟩ (fun r => (∀ c : Dev Cert.GateReferenceIdeal.nD,
      r.2.mem ((c.tc : Thread Cert.GateReferenceIdeal.nD Cert.GateReferenceIdeal.τ).loc Cert.GateReferenceIdeal.main_arg0) = m ((c.tc : Thread Cert.GateReferenceIdeal.nD Cert.GateReferenceIdeal.τ).loc Cert.GateReferenceIdeal.main_arg0)
      ∧ r.2.mem ((c.tc : Thread Cert.GateReferenceIdeal.nD Cert.GateReferenceIdeal.τ).loc Cert.GateReferenceIdeal.main_arg1) = m ((c.tc : Thread Cert.GateReferenceIdeal.nD Cert.GateReferenceIdeal.τ).loc Cert.GateReferenceIdeal.main_arg1)
      ∧ r.2.mem ((c.tc : Thread Cert.GateReferenceIdeal.nD Cert.GateReferenceIdeal.τ).loc Cert.GateReferenceIdeal.main_arg2) = m ((c.tc : Thread Cert.GateReferenceIdeal.nD Cert.GateReferenceIdeal.τ).loc Cert.GateReferenceIdeal.main_arg2))
      ∧ r.2.sem = fun _ => 0)

def quiescent_FoxKernel [hFoxKernel : Cert.FoxKernel.Facts] : Prop :=
  ∀ (m : (ℓ : Loc Cert.FoxKernel.nD Cert.FoxKernel.τ Cert.FoxKernel.sig) → Buf (Elt Bits) ℓ) (g : Dev Cert.FoxKernel.nD → PrngReg), Pre_FoxKernel m →
    θ_run (Cert.FoxKernel.defs (F := Bits)) (onTc (τ := Cert.FoxKernel.τ) (Cert.FoxKernel.main (F := Bits))) ⟨m, fun _ => 0, g⟩ (fun r => (∀ c : Dev Cert.FoxKernel.nD,
      r.2.mem ((c.tc : Thread Cert.FoxKernel.nD Cert.FoxKernel.τ).loc Cert.FoxKernel.main_arg0) = m ((c.tc : Thread Cert.FoxKernel.nD Cert.FoxKernel.τ).loc Cert.FoxKernel.main_arg0)
      ∧ r.2.mem ((c.tc : Thread Cert.FoxKernel.nD Cert.FoxKernel.τ).loc Cert.FoxKernel.main_arg1) = m ((c.tc : Thread Cert.FoxKernel.nD Cert.FoxKernel.τ).loc Cert.FoxKernel.main_arg1)
      ∧ r.2.mem ((c.tc : Thread Cert.FoxKernel.nD Cert.FoxKernel.τ).loc Cert.FoxKernel.main_arg2) = m ((c.tc : Thread Cert.FoxKernel.nD Cert.FoxKernel.τ).loc Cert.FoxKernel.main_arg2)
      ∧ r.2.mem ((c.tc : Thread Cert.FoxKernel.nD Cert.FoxKernel.τ).loc Cert.FoxKernel.main_arg3) = m ((c.tc : Thread Cert.FoxKernel.nD Cert.FoxKernel.τ).loc Cert.FoxKernel.main_arg3)
      ∧ r.2.mem ((c.tc : Thread Cert.FoxKernel.nD Cert.FoxKernel.τ).loc Cert.FoxKernel.main_arg4) = m ((c.tc : Thread Cert.FoxKernel.nD Cert.FoxKernel.τ).loc Cert.FoxKernel.main_arg4))
      ∧ r.2.sem = fun _ => 0)

def quiescent_FoxKernelIdeal [hFoxKernelIdeal : Cert.FoxKernelIdeal.Facts] : Prop :=
  ∀ (m : (ℓ : Loc Cert.FoxKernelIdeal.nD Cert.FoxKernelIdeal.τ Cert.FoxKernelIdeal.sig) → Buf (Elt Ideal) ℓ) (g : Dev Cert.FoxKernelIdeal.nD → PrngReg), Pre_FoxKernelIdeal m →
    θ_run (Cert.FoxKernelIdeal.defs (F := Ideal)) (onTc (τ := Cert.FoxKernelIdeal.τ) (Cert.FoxKernelIdeal.main (F := Ideal))) ⟨m, fun _ => 0, g⟩ (fun r => (∀ c : Dev Cert.FoxKernelIdeal.nD,
      r.2.mem ((c.tc : Thread Cert.FoxKernelIdeal.nD Cert.FoxKernelIdeal.τ).loc Cert.FoxKernelIdeal.main_arg0) = m ((c.tc : Thread Cert.FoxKernelIdeal.nD Cert.FoxKernelIdeal.τ).loc Cert.FoxKernelIdeal.main_arg0)
      ∧ r.2.mem ((c.tc : Thread Cert.FoxKernelIdeal.nD Cert.FoxKernelIdeal.τ).loc Cert.FoxKernelIdeal.main_arg1) = m ((c.tc : Thread Cert.FoxKernelIdeal.nD Cert.FoxKernelIdeal.τ).loc Cert.FoxKernelIdeal.main_arg1)
      ∧ r.2.mem ((c.tc : Thread Cert.FoxKernelIdeal.nD Cert.FoxKernelIdeal.τ).loc Cert.FoxKernelIdeal.main_arg2) = m ((c.tc : Thread Cert.FoxKernelIdeal.nD Cert.FoxKernelIdeal.τ).loc Cert.FoxKernelIdeal.main_arg2)
      ∧ r.2.mem ((c.tc : Thread Cert.FoxKernelIdeal.nD Cert.FoxKernelIdeal.τ).loc Cert.FoxKernelIdeal.main_arg3) = m ((c.tc : Thread Cert.FoxKernelIdeal.nD Cert.FoxKernelIdeal.τ).loc Cert.FoxKernelIdeal.main_arg3)
      ∧ r.2.mem ((c.tc : Thread Cert.FoxKernelIdeal.nD Cert.FoxKernelIdeal.τ).loc Cert.FoxKernelIdeal.main_arg4) = m ((c.tc : Thread Cert.FoxKernelIdeal.nD Cert.FoxKernelIdeal.τ).loc Cert.FoxKernelIdeal.main_arg4))
      ∧ r.2.sem = fun _ => 0)

def quiescent_FoxKernelIdeal_pre_fox_finite [hFoxKernelIdeal : Cert.FoxKernelIdeal.Facts] [hPre_fox_finite : Cert.Pre_fox_finite.Facts] : Prop :=
  ∀ (m : (ℓ : Loc Cert.FoxKernelIdeal.nD Cert.FoxKernelIdeal.τ Cert.FoxKernelIdeal.sig) → Buf (Elt Ideal) ℓ) (g : Dev Cert.FoxKernelIdeal.nD → PrngReg), Pre_FoxKernelIdeal_fox_finite m →
    θ_run (Cert.FoxKernelIdeal.defs (F := Ideal)) (onTc (τ := Cert.FoxKernelIdeal.τ) (Cert.FoxKernelIdeal.main (F := Ideal))) ⟨m, fun _ => 0, g⟩ (fun r => (∀ c : Dev Cert.FoxKernelIdeal.nD,
      r.2.mem ((c.tc : Thread Cert.FoxKernelIdeal.nD Cert.FoxKernelIdeal.τ).loc Cert.FoxKernelIdeal.main_arg0) = m ((c.tc : Thread Cert.FoxKernelIdeal.nD Cert.FoxKernelIdeal.τ).loc Cert.FoxKernelIdeal.main_arg0)
      ∧ r.2.mem ((c.tc : Thread Cert.FoxKernelIdeal.nD Cert.FoxKernelIdeal.τ).loc Cert.FoxKernelIdeal.main_arg1) = m ((c.tc : Thread Cert.FoxKernelIdeal.nD Cert.FoxKernelIdeal.τ).loc Cert.FoxKernelIdeal.main_arg1)
      ∧ r.2.mem ((c.tc : Thread Cert.FoxKernelIdeal.nD Cert.FoxKernelIdeal.τ).loc Cert.FoxKernelIdeal.main_arg2) = m ((c.tc : Thread Cert.FoxKernelIdeal.nD Cert.FoxKernelIdeal.τ).loc Cert.FoxKernelIdeal.main_arg2)
      ∧ r.2.mem ((c.tc : Thread Cert.FoxKernelIdeal.nD Cert.FoxKernelIdeal.τ).loc Cert.FoxKernelIdeal.main_arg3) = m ((c.tc : Thread Cert.FoxKernelIdeal.nD Cert.FoxKernelIdeal.τ).loc Cert.FoxKernelIdeal.main_arg3)
      ∧ r.2.mem ((c.tc : Thread Cert.FoxKernelIdeal.nD Cert.FoxKernelIdeal.τ).loc Cert.FoxKernelIdeal.main_arg4) = m ((c.tc : Thread Cert.FoxKernelIdeal.nD Cert.FoxKernelIdeal.τ).loc Cert.FoxKernelIdeal.main_arg4))
      ∧ r.2.sem = fun _ => 0)

def quiescent_FoxReferenceIdeal [hFoxReferenceIdeal : Cert.FoxReferenceIdeal.Facts] : Prop :=
  ∀ (m : (ℓ : Loc Cert.FoxReferenceIdeal.nD Cert.FoxReferenceIdeal.τ Cert.FoxReferenceIdeal.sig) → Buf (Elt Ideal) ℓ) (g : Dev Cert.FoxReferenceIdeal.nD → PrngReg), Pre_FoxReferenceIdeal m →
    θ_run (Cert.FoxReferenceIdeal.defs (F := Ideal)) (onTc (τ := Cert.FoxReferenceIdeal.τ) (Cert.FoxReferenceIdeal.main (F := Ideal))) ⟨m, fun _ => 0, g⟩ (fun r => (∀ c : Dev Cert.FoxReferenceIdeal.nD,
      r.2.mem ((c.tc : Thread Cert.FoxReferenceIdeal.nD Cert.FoxReferenceIdeal.τ).loc Cert.FoxReferenceIdeal.main_arg0) = m ((c.tc : Thread Cert.FoxReferenceIdeal.nD Cert.FoxReferenceIdeal.τ).loc Cert.FoxReferenceIdeal.main_arg0)
      ∧ r.2.mem ((c.tc : Thread Cert.FoxReferenceIdeal.nD Cert.FoxReferenceIdeal.τ).loc Cert.FoxReferenceIdeal.main_arg1) = m ((c.tc : Thread Cert.FoxReferenceIdeal.nD Cert.FoxReferenceIdeal.τ).loc Cert.FoxReferenceIdeal.main_arg1)
      ∧ r.2.mem ((c.tc : Thread Cert.FoxReferenceIdeal.nD Cert.FoxReferenceIdeal.τ).loc Cert.FoxReferenceIdeal.main_arg2) = m ((c.tc : Thread Cert.FoxReferenceIdeal.nD Cert.FoxReferenceIdeal.τ).loc Cert.FoxReferenceIdeal.main_arg2)
      ∧ r.2.mem ((c.tc : Thread Cert.FoxReferenceIdeal.nD Cert.FoxReferenceIdeal.τ).loc Cert.FoxReferenceIdeal.main_arg3) = m ((c.tc : Thread Cert.FoxReferenceIdeal.nD Cert.FoxReferenceIdeal.τ).loc Cert.FoxReferenceIdeal.main_arg3)
      ∧ r.2.mem ((c.tc : Thread Cert.FoxReferenceIdeal.nD Cert.FoxReferenceIdeal.τ).loc Cert.FoxReferenceIdeal.main_arg4) = m ((c.tc : Thread Cert.FoxReferenceIdeal.nD Cert.FoxReferenceIdeal.τ).loc Cert.FoxReferenceIdeal.main_arg4))
      ∧ r.2.sem = fun _ => 0)

def quiescent_FoxReferenceIdeal_pre_fox_finite [hFoxReferenceIdeal : Cert.FoxReferenceIdeal.Facts] [hPre_fox_finite : Cert.Pre_fox_finite.Facts] : Prop :=
  ∀ (m : (ℓ : Loc Cert.FoxReferenceIdeal.nD Cert.FoxReferenceIdeal.τ Cert.FoxReferenceIdeal.sig) → Buf (Elt Ideal) ℓ) (g : Dev Cert.FoxReferenceIdeal.nD → PrngReg), Pre_FoxReferenceIdeal_fox_finite m →
    θ_run (Cert.FoxReferenceIdeal.defs (F := Ideal)) (onTc (τ := Cert.FoxReferenceIdeal.τ) (Cert.FoxReferenceIdeal.main (F := Ideal))) ⟨m, fun _ => 0, g⟩ (fun r => (∀ c : Dev Cert.FoxReferenceIdeal.nD,
      r.2.mem ((c.tc : Thread Cert.FoxReferenceIdeal.nD Cert.FoxReferenceIdeal.τ).loc Cert.FoxReferenceIdeal.main_arg0) = m ((c.tc : Thread Cert.FoxReferenceIdeal.nD Cert.FoxReferenceIdeal.τ).loc Cert.FoxReferenceIdeal.main_arg0)
      ∧ r.2.mem ((c.tc : Thread Cert.FoxReferenceIdeal.nD Cert.FoxReferenceIdeal.τ).loc Cert.FoxReferenceIdeal.main_arg1) = m ((c.tc : Thread Cert.FoxReferenceIdeal.nD Cert.FoxReferenceIdeal.τ).loc Cert.FoxReferenceIdeal.main_arg1)
      ∧ r.2.mem ((c.tc : Thread Cert.FoxReferenceIdeal.nD Cert.FoxReferenceIdeal.τ).loc Cert.FoxReferenceIdeal.main_arg2) = m ((c.tc : Thread Cert.FoxReferenceIdeal.nD Cert.FoxReferenceIdeal.τ).loc Cert.FoxReferenceIdeal.main_arg2)
      ∧ r.2.mem ((c.tc : Thread Cert.FoxReferenceIdeal.nD Cert.FoxReferenceIdeal.τ).loc Cert.FoxReferenceIdeal.main_arg3) = m ((c.tc : Thread Cert.FoxReferenceIdeal.nD Cert.FoxReferenceIdeal.τ).loc Cert.FoxReferenceIdeal.main_arg3)
      ∧ r.2.mem ((c.tc : Thread Cert.FoxReferenceIdeal.nD Cert.FoxReferenceIdeal.τ).loc Cert.FoxReferenceIdeal.main_arg4) = m ((c.tc : Thread Cert.FoxReferenceIdeal.nD Cert.FoxReferenceIdeal.τ).loc Cert.FoxReferenceIdeal.main_arg4))
      ∧ r.2.sem = fun _ => 0)

def quiescent_FoxFKernel [hFoxFKernel : Cert.FoxFKernel.Facts] : Prop :=
  ∀ (m : (ℓ : Loc Cert.FoxFKernel.nD Cert.FoxFKernel.τ Cert.FoxFKernel.sig) → Buf (Elt Bits) ℓ) (g : Dev Cert.FoxFKernel.nD → PrngReg), Pre_FoxFKernel m →
    θ_run (Cert.FoxFKernel.defs (F := Bits)) (onTc (τ := Cert.FoxFKernel.τ) (Cert.FoxFKernel.main (F := Bits))) ⟨m, fun _ => 0, g⟩ (fun r => (∀ c : Dev Cert.FoxFKernel.nD,
      r.2.mem ((c.tc : Thread Cert.FoxFKernel.nD Cert.FoxFKernel.τ).loc Cert.FoxFKernel.main_arg0) = m ((c.tc : Thread Cert.FoxFKernel.nD Cert.FoxFKernel.τ).loc Cert.FoxFKernel.main_arg0)
      ∧ r.2.mem ((c.tc : Thread Cert.FoxFKernel.nD Cert.FoxFKernel.τ).loc Cert.FoxFKernel.main_arg1) = m ((c.tc : Thread Cert.FoxFKernel.nD Cert.FoxFKernel.τ).loc Cert.FoxFKernel.main_arg1)
      ∧ r.2.mem ((c.tc : Thread Cert.FoxFKernel.nD Cert.FoxFKernel.τ).loc Cert.FoxFKernel.main_arg2) = m ((c.tc : Thread Cert.FoxFKernel.nD Cert.FoxFKernel.τ).loc Cert.FoxFKernel.main_arg2)
      ∧ r.2.mem ((c.tc : Thread Cert.FoxFKernel.nD Cert.FoxFKernel.τ).loc Cert.FoxFKernel.main_arg3) = m ((c.tc : Thread Cert.FoxFKernel.nD Cert.FoxFKernel.τ).loc Cert.FoxFKernel.main_arg3))
      ∧ r.2.sem = fun _ => 0)

def quiescent_FoxFKernelIdeal [hFoxFKernelIdeal : Cert.FoxFKernelIdeal.Facts] : Prop :=
  ∀ (m : (ℓ : Loc Cert.FoxFKernelIdeal.nD Cert.FoxFKernelIdeal.τ Cert.FoxFKernelIdeal.sig) → Buf (Elt Ideal) ℓ) (g : Dev Cert.FoxFKernelIdeal.nD → PrngReg), Pre_FoxFKernelIdeal m →
    θ_run (Cert.FoxFKernelIdeal.defs (F := Ideal)) (onTc (τ := Cert.FoxFKernelIdeal.τ) (Cert.FoxFKernelIdeal.main (F := Ideal))) ⟨m, fun _ => 0, g⟩ (fun r => (∀ c : Dev Cert.FoxFKernelIdeal.nD,
      r.2.mem ((c.tc : Thread Cert.FoxFKernelIdeal.nD Cert.FoxFKernelIdeal.τ).loc Cert.FoxFKernelIdeal.main_arg0) = m ((c.tc : Thread Cert.FoxFKernelIdeal.nD Cert.FoxFKernelIdeal.τ).loc Cert.FoxFKernelIdeal.main_arg0)
      ∧ r.2.mem ((c.tc : Thread Cert.FoxFKernelIdeal.nD Cert.FoxFKernelIdeal.τ).loc Cert.FoxFKernelIdeal.main_arg1) = m ((c.tc : Thread Cert.FoxFKernelIdeal.nD Cert.FoxFKernelIdeal.τ).loc Cert.FoxFKernelIdeal.main_arg1)
      ∧ r.2.mem ((c.tc : Thread Cert.FoxFKernelIdeal.nD Cert.FoxFKernelIdeal.τ).loc Cert.FoxFKernelIdeal.main_arg2) = m ((c.tc : Thread Cert.FoxFKernelIdeal.nD Cert.FoxFKernelIdeal.τ).loc Cert.FoxFKernelIdeal.main_arg2)
      ∧ r.2.mem ((c.tc : Thread Cert.FoxFKernelIdeal.nD Cert.FoxFKernelIdeal.τ).loc Cert.FoxFKernelIdeal.main_arg3) = m ((c.tc : Thread Cert.FoxFKernelIdeal.nD Cert.FoxFKernelIdeal.τ).loc Cert.FoxFKernelIdeal.main_arg3))
      ∧ r.2.sem = fun _ => 0)

def quiescent_FoxFKernelIdeal_pre_foxf_finite [hFoxFKernelIdeal : Cert.FoxFKernelIdeal.Facts] [hPre_foxf_finite : Cert.Pre_foxf_finite.Facts] : Prop :=
  ∀ (m : (ℓ : Loc Cert.FoxFKernelIdeal.nD Cert.FoxFKernelIdeal.τ Cert.FoxFKernelIdeal.sig) → Buf (Elt Ideal) ℓ) (g : Dev Cert.FoxFKernelIdeal.nD → PrngReg), Pre_FoxFKernelIdeal_foxf_finite m →
    θ_run (Cert.FoxFKernelIdeal.defs (F := Ideal)) (onTc (τ := Cert.FoxFKernelIdeal.τ) (Cert.FoxFKernelIdeal.main (F := Ideal))) ⟨m, fun _ => 0, g⟩ (fun r => (∀ c : Dev Cert.FoxFKernelIdeal.nD,
      r.2.mem ((c.tc : Thread Cert.FoxFKernelIdeal.nD Cert.FoxFKernelIdeal.τ).loc Cert.FoxFKernelIdeal.main_arg0) = m ((c.tc : Thread Cert.FoxFKernelIdeal.nD Cert.FoxFKernelIdeal.τ).loc Cert.FoxFKernelIdeal.main_arg0)
      ∧ r.2.mem ((c.tc : Thread Cert.FoxFKernelIdeal.nD Cert.FoxFKernelIdeal.τ).loc Cert.FoxFKernelIdeal.main_arg1) = m ((c.tc : Thread Cert.FoxFKernelIdeal.nD Cert.FoxFKernelIdeal.τ).loc Cert.FoxFKernelIdeal.main_arg1)
      ∧ r.2.mem ((c.tc : Thread Cert.FoxFKernelIdeal.nD Cert.FoxFKernelIdeal.τ).loc Cert.FoxFKernelIdeal.main_arg2) = m ((c.tc : Thread Cert.FoxFKernelIdeal.nD Cert.FoxFKernelIdeal.τ).loc Cert.FoxFKernelIdeal.main_arg2)
      ∧ r.2.mem ((c.tc : Thread Cert.FoxFKernelIdeal.nD Cert.FoxFKernelIdeal.τ).loc Cert.FoxFKernelIdeal.main_arg3) = m ((c.tc : Thread Cert.FoxFKernelIdeal.nD Cert.FoxFKernelIdeal.τ).loc Cert.FoxFKernelIdeal.main_arg3))
      ∧ r.2.sem = fun _ => 0)

def quiescent_FoxFReferenceIdeal [hFoxFReferenceIdeal : Cert.FoxFReferenceIdeal.Facts] : Prop :=
  ∀ (m : (ℓ : Loc Cert.FoxFReferenceIdeal.nD Cert.FoxFReferenceIdeal.τ Cert.FoxFReferenceIdeal.sig) → Buf (Elt Ideal) ℓ) (g : Dev Cert.FoxFReferenceIdeal.nD → PrngReg), Pre_FoxFReferenceIdeal m →
    θ_run (Cert.FoxFReferenceIdeal.defs (F := Ideal)) (onTc (τ := Cert.FoxFReferenceIdeal.τ) (Cert.FoxFReferenceIdeal.main (F := Ideal))) ⟨m, fun _ => 0, g⟩ (fun r => (∀ c : Dev Cert.FoxFReferenceIdeal.nD,
      r.2.mem ((c.tc : Thread Cert.FoxFReferenceIdeal.nD Cert.FoxFReferenceIdeal.τ).loc Cert.FoxFReferenceIdeal.main_arg0) = m ((c.tc : Thread Cert.FoxFReferenceIdeal.nD Cert.FoxFReferenceIdeal.τ).loc Cert.FoxFReferenceIdeal.main_arg0)
      ∧ r.2.mem ((c.tc : Thread Cert.FoxFReferenceIdeal.nD Cert.FoxFReferenceIdeal.τ).loc Cert.FoxFReferenceIdeal.main_arg1) = m ((c.tc : Thread Cert.FoxFReferenceIdeal.nD Cert.FoxFReferenceIdeal.τ).loc Cert.FoxFReferenceIdeal.main_arg1)
      ∧ r.2.mem ((c.tc : Thread Cert.FoxFReferenceIdeal.nD Cert.FoxFReferenceIdeal.τ).loc Cert.FoxFReferenceIdeal.main_arg2) = m ((c.tc : Thread Cert.FoxFReferenceIdeal.nD Cert.FoxFReferenceIdeal.τ).loc Cert.FoxFReferenceIdeal.main_arg2)
      ∧ r.2.mem ((c.tc : Thread Cert.FoxFReferenceIdeal.nD Cert.FoxFReferenceIdeal.τ).loc Cert.FoxFReferenceIdeal.main_arg3) = m ((c.tc : Thread Cert.FoxFReferenceIdeal.nD Cert.FoxFReferenceIdeal.τ).loc Cert.FoxFReferenceIdeal.main_arg3))
      ∧ r.2.sem = fun _ => 0)

def quiescent_FoxFReferenceIdeal_pre_foxf_finite [hFoxFReferenceIdeal : Cert.FoxFReferenceIdeal.Facts] [hPre_foxf_finite : Cert.Pre_foxf_finite.Facts] : Prop :=
  ∀ (m : (ℓ : Loc Cert.FoxFReferenceIdeal.nD Cert.FoxFReferenceIdeal.τ Cert.FoxFReferenceIdeal.sig) → Buf (Elt Ideal) ℓ) (g : Dev Cert.FoxFReferenceIdeal.nD → PrngReg), Pre_FoxFReferenceIdeal_foxf_finite m →
    θ_run (Cert.FoxFReferenceIdeal.defs (F := Ideal)) (onTc (τ := Cert.FoxFReferenceIdeal.τ) (Cert.FoxFReferenceIdeal.main (F := Ideal))) ⟨m, fun _ => 0, g⟩ (fun r => (∀ c : Dev Cert.FoxFReferenceIdeal.nD,
      r.2.mem ((c.tc : Thread Cert.FoxFReferenceIdeal.nD Cert.FoxFReferenceIdeal.τ).loc Cert.FoxFReferenceIdeal.main_arg0) = m ((c.tc : Thread Cert.FoxFReferenceIdeal.nD Cert.FoxFReferenceIdeal.τ).loc Cert.FoxFReferenceIdeal.main_arg0)
      ∧ r.2.mem ((c.tc : Thread Cert.FoxFReferenceIdeal.nD Cert.FoxFReferenceIdeal.τ).loc Cert.FoxFReferenceIdeal.main_arg1) = m ((c.tc : Thread Cert.FoxFReferenceIdeal.nD Cert.FoxFReferenceIdeal.τ).loc Cert.FoxFReferenceIdeal.main_arg1)
      ∧ r.2.mem ((c.tc : Thread Cert.FoxFReferenceIdeal.nD Cert.FoxFReferenceIdeal.τ).loc Cert.FoxFReferenceIdeal.main_arg2) = m ((c.tc : Thread Cert.FoxFReferenceIdeal.nD Cert.FoxFReferenceIdeal.τ).loc Cert.FoxFReferenceIdeal.main_arg2)
      ∧ r.2.mem ((c.tc : Thread Cert.FoxFReferenceIdeal.nD Cert.FoxFReferenceIdeal.τ).loc Cert.FoxFReferenceIdeal.main_arg3) = m ((c.tc : Thread Cert.FoxFReferenceIdeal.nD Cert.FoxFReferenceIdeal.τ).loc Cert.FoxFReferenceIdeal.main_arg3))
      ∧ r.2.sem = fun _ => 0)

def quiescent_MlaKernel [hMlaKernel : Cert.MlaKernel.Facts] : Prop :=
  ∀ (m : (ℓ : Loc Cert.MlaKernel.nD Cert.MlaKernel.τ Cert.MlaKernel.sig) → Buf (Elt Bits) ℓ) (g : Dev Cert.MlaKernel.nD → PrngReg), Pre_MlaKernel m →
    θ_run (Cert.MlaKernel.defs (F := Bits)) (onTc (τ := Cert.MlaKernel.τ) (Cert.MlaKernel.main (F := Bits))) ⟨m, fun _ => 0, g⟩ (fun r => (∀ c : Dev Cert.MlaKernel.nD,
      r.2.mem ((c.tc : Thread Cert.MlaKernel.nD Cert.MlaKernel.τ).loc Cert.MlaKernel.main_arg0) = m ((c.tc : Thread Cert.MlaKernel.nD Cert.MlaKernel.τ).loc Cert.MlaKernel.main_arg0)
      ∧ r.2.mem ((c.tc : Thread Cert.MlaKernel.nD Cert.MlaKernel.τ).loc Cert.MlaKernel.main_arg1) = m ((c.tc : Thread Cert.MlaKernel.nD Cert.MlaKernel.τ).loc Cert.MlaKernel.main_arg1)
      ∧ r.2.mem ((c.tc : Thread Cert.MlaKernel.nD Cert.MlaKernel.τ).loc Cert.MlaKernel.main_arg2) = m ((c.tc : Thread Cert.MlaKernel.nD Cert.MlaKernel.τ).loc Cert.MlaKernel.main_arg2)
      ∧ r.2.mem ((c.tc : Thread Cert.MlaKernel.nD Cert.MlaKernel.τ).loc Cert.MlaKernel.main_arg3) = m ((c.tc : Thread Cert.MlaKernel.nD Cert.MlaKernel.τ).loc Cert.MlaKernel.main_arg3)
      ∧ r.2.mem ((c.tc : Thread Cert.MlaKernel.nD Cert.MlaKernel.τ).loc Cert.MlaKernel.main_arg4) = m ((c.tc : Thread Cert.MlaKernel.nD Cert.MlaKernel.τ).loc Cert.MlaKernel.main_arg4))
      ∧ r.2.sem = fun _ => 0)

def quiescent_MlaKernelIdeal [hMlaKernelIdeal : Cert.MlaKernelIdeal.Facts] : Prop :=
  ∀ (m : (ℓ : Loc Cert.MlaKernelIdeal.nD Cert.MlaKernelIdeal.τ Cert.MlaKernelIdeal.sig) → Buf (Elt Ideal) ℓ) (g : Dev Cert.MlaKernelIdeal.nD → PrngReg), Pre_MlaKernelIdeal m →
    θ_run (Cert.MlaKernelIdeal.defs (F := Ideal)) (onTc (τ := Cert.MlaKernelIdeal.τ) (Cert.MlaKernelIdeal.main (F := Ideal))) ⟨m, fun _ => 0, g⟩ (fun r => (∀ c : Dev Cert.MlaKernelIdeal.nD,
      r.2.mem ((c.tc : Thread Cert.MlaKernelIdeal.nD Cert.MlaKernelIdeal.τ).loc Cert.MlaKernelIdeal.main_arg0) = m ((c.tc : Thread Cert.MlaKernelIdeal.nD Cert.MlaKernelIdeal.τ).loc Cert.MlaKernelIdeal.main_arg0)
      ∧ r.2.mem ((c.tc : Thread Cert.MlaKernelIdeal.nD Cert.MlaKernelIdeal.τ).loc Cert.MlaKernelIdeal.main_arg1) = m ((c.tc : Thread Cert.MlaKernelIdeal.nD Cert.MlaKernelIdeal.τ).loc Cert.MlaKernelIdeal.main_arg1)
      ∧ r.2.mem ((c.tc : Thread Cert.MlaKernelIdeal.nD Cert.MlaKernelIdeal.τ).loc Cert.MlaKernelIdeal.main_arg2) = m ((c.tc : Thread Cert.MlaKernelIdeal.nD Cert.MlaKernelIdeal.τ).loc Cert.MlaKernelIdeal.main_arg2)
      ∧ r.2.mem ((c.tc : Thread Cert.MlaKernelIdeal.nD Cert.MlaKernelIdeal.τ).loc Cert.MlaKernelIdeal.main_arg3) = m ((c.tc : Thread Cert.MlaKernelIdeal.nD Cert.MlaKernelIdeal.τ).loc Cert.MlaKernelIdeal.main_arg3)
      ∧ r.2.mem ((c.tc : Thread Cert.MlaKernelIdeal.nD Cert.MlaKernelIdeal.τ).loc Cert.MlaKernelIdeal.main_arg4) = m ((c.tc : Thread Cert.MlaKernelIdeal.nD Cert.MlaKernelIdeal.τ).loc Cert.MlaKernelIdeal.main_arg4))
      ∧ r.2.sem = fun _ => 0)

def quiescent_MlaKernelIdeal_pre_mla_finite [hMlaKernelIdeal : Cert.MlaKernelIdeal.Facts] [hPre_mla_finite : Cert.Pre_mla_finite.Facts] : Prop :=
  ∀ (m : (ℓ : Loc Cert.MlaKernelIdeal.nD Cert.MlaKernelIdeal.τ Cert.MlaKernelIdeal.sig) → Buf (Elt Ideal) ℓ) (g : Dev Cert.MlaKernelIdeal.nD → PrngReg), Pre_MlaKernelIdeal_mla_finite m →
    θ_run (Cert.MlaKernelIdeal.defs (F := Ideal)) (onTc (τ := Cert.MlaKernelIdeal.τ) (Cert.MlaKernelIdeal.main (F := Ideal))) ⟨m, fun _ => 0, g⟩ (fun r => (∀ c : Dev Cert.MlaKernelIdeal.nD,
      r.2.mem ((c.tc : Thread Cert.MlaKernelIdeal.nD Cert.MlaKernelIdeal.τ).loc Cert.MlaKernelIdeal.main_arg0) = m ((c.tc : Thread Cert.MlaKernelIdeal.nD Cert.MlaKernelIdeal.τ).loc Cert.MlaKernelIdeal.main_arg0)
      ∧ r.2.mem ((c.tc : Thread Cert.MlaKernelIdeal.nD Cert.MlaKernelIdeal.τ).loc Cert.MlaKernelIdeal.main_arg1) = m ((c.tc : Thread Cert.MlaKernelIdeal.nD Cert.MlaKernelIdeal.τ).loc Cert.MlaKernelIdeal.main_arg1)
      ∧ r.2.mem ((c.tc : Thread Cert.MlaKernelIdeal.nD Cert.MlaKernelIdeal.τ).loc Cert.MlaKernelIdeal.main_arg2) = m ((c.tc : Thread Cert.MlaKernelIdeal.nD Cert.MlaKernelIdeal.τ).loc Cert.MlaKernelIdeal.main_arg2)
      ∧ r.2.mem ((c.tc : Thread Cert.MlaKernelIdeal.nD Cert.MlaKernelIdeal.τ).loc Cert.MlaKernelIdeal.main_arg3) = m ((c.tc : Thread Cert.MlaKernelIdeal.nD Cert.MlaKernelIdeal.τ).loc Cert.MlaKernelIdeal.main_arg3)
      ∧ r.2.mem ((c.tc : Thread Cert.MlaKernelIdeal.nD Cert.MlaKernelIdeal.τ).loc Cert.MlaKernelIdeal.main_arg4) = m ((c.tc : Thread Cert.MlaKernelIdeal.nD Cert.MlaKernelIdeal.τ).loc Cert.MlaKernelIdeal.main_arg4))
      ∧ r.2.sem = fun _ => 0)

def quiescent_MlaReferenceIdeal [hMlaReferenceIdeal : Cert.MlaReferenceIdeal.Facts] : Prop :=
  ∀ (m : (ℓ : Loc Cert.MlaReferenceIdeal.nD Cert.MlaReferenceIdeal.τ Cert.MlaReferenceIdeal.sig) → Buf (Elt Ideal) ℓ) (g : Dev Cert.MlaReferenceIdeal.nD → PrngReg), Pre_MlaReferenceIdeal m →
    θ_run (Cert.MlaReferenceIdeal.defs (F := Ideal)) (onTc (τ := Cert.MlaReferenceIdeal.τ) (Cert.MlaReferenceIdeal.main (F := Ideal))) ⟨m, fun _ => 0, g⟩ (fun r => (∀ c : Dev Cert.MlaReferenceIdeal.nD,
      r.2.mem ((c.tc : Thread Cert.MlaReferenceIdeal.nD Cert.MlaReferenceIdeal.τ).loc Cert.MlaReferenceIdeal.main_arg0) = m ((c.tc : Thread Cert.MlaReferenceIdeal.nD Cert.MlaReferenceIdeal.τ).loc Cert.MlaReferenceIdeal.main_arg0)
      ∧ r.2.mem ((c.tc : Thread Cert.MlaReferenceIdeal.nD Cert.MlaReferenceIdeal.τ).loc Cert.MlaReferenceIdeal.main_arg1) = m ((c.tc : Thread Cert.MlaReferenceIdeal.nD Cert.MlaReferenceIdeal.τ).loc Cert.MlaReferenceIdeal.main_arg1)
      ∧ r.2.mem ((c.tc : Thread Cert.MlaReferenceIdeal.nD Cert.MlaReferenceIdeal.τ).loc Cert.MlaReferenceIdeal.main_arg2) = m ((c.tc : Thread Cert.MlaReferenceIdeal.nD Cert.MlaReferenceIdeal.τ).loc Cert.MlaReferenceIdeal.main_arg2)
      ∧ r.2.mem ((c.tc : Thread Cert.MlaReferenceIdeal.nD Cert.MlaReferenceIdeal.τ).loc Cert.MlaReferenceIdeal.main_arg3) = m ((c.tc : Thread Cert.MlaReferenceIdeal.nD Cert.MlaReferenceIdeal.τ).loc Cert.MlaReferenceIdeal.main_arg3)
      ∧ r.2.mem ((c.tc : Thread Cert.MlaReferenceIdeal.nD Cert.MlaReferenceIdeal.τ).loc Cert.MlaReferenceIdeal.main_arg4) = m ((c.tc : Thread Cert.MlaReferenceIdeal.nD Cert.MlaReferenceIdeal.τ).loc Cert.MlaReferenceIdeal.main_arg4))
      ∧ r.2.sem = fun _ => 0)

def quiescent_MlaReferenceIdeal_pre_mla_finite [hMlaReferenceIdeal : Cert.MlaReferenceIdeal.Facts] [hPre_mla_finite : Cert.Pre_mla_finite.Facts] : Prop :=
  ∀ (m : (ℓ : Loc Cert.MlaReferenceIdeal.nD Cert.MlaReferenceIdeal.τ Cert.MlaReferenceIdeal.sig) → Buf (Elt Ideal) ℓ) (g : Dev Cert.MlaReferenceIdeal.nD → PrngReg), Pre_MlaReferenceIdeal_mla_finite m →
    θ_run (Cert.MlaReferenceIdeal.defs (F := Ideal)) (onTc (τ := Cert.MlaReferenceIdeal.τ) (Cert.MlaReferenceIdeal.main (F := Ideal))) ⟨m, fun _ => 0, g⟩ (fun r => (∀ c : Dev Cert.MlaReferenceIdeal.nD,
      r.2.mem ((c.tc : Thread Cert.MlaReferenceIdeal.nD Cert.MlaReferenceIdeal.τ).loc Cert.MlaReferenceIdeal.main_arg0) = m ((c.tc : Thread Cert.MlaReferenceIdeal.nD Cert.MlaReferenceIdeal.τ).loc Cert.MlaReferenceIdeal.main_arg0)
      ∧ r.2.mem ((c.tc : Thread Cert.MlaReferenceIdeal.nD Cert.MlaReferenceIdeal.τ).loc Cert.MlaReferenceIdeal.main_arg1) = m ((c.tc : Thread Cert.MlaReferenceIdeal.nD Cert.MlaReferenceIdeal.τ).loc Cert.MlaReferenceIdeal.main_arg1)
      ∧ r.2.mem ((c.tc : Thread Cert.MlaReferenceIdeal.nD Cert.MlaReferenceIdeal.τ).loc Cert.MlaReferenceIdeal.main_arg2) = m ((c.tc : Thread Cert.MlaReferenceIdeal.nD Cert.MlaReferenceIdeal.τ).loc Cert.MlaReferenceIdeal.main_arg2)
      ∧ r.2.mem ((c.tc : Thread Cert.MlaReferenceIdeal.nD Cert.MlaReferenceIdeal.τ).loc Cert.MlaReferenceIdeal.main_arg3) = m ((c.tc : Thread Cert.MlaReferenceIdeal.nD Cert.MlaReferenceIdeal.τ).loc Cert.MlaReferenceIdeal.main_arg3)
      ∧ r.2.mem ((c.tc : Thread Cert.MlaReferenceIdeal.nD Cert.MlaReferenceIdeal.τ).loc Cert.MlaReferenceIdeal.main_arg4) = m ((c.tc : Thread Cert.MlaReferenceIdeal.nD Cert.MlaReferenceIdeal.τ).loc Cert.MlaReferenceIdeal.main_arg4))
      ∧ r.2.sem = fun _ => 0)

def quiescent_SwiKernel [hSwiKernel : Cert.SwiKernel.Facts] : Prop :=
  ∀ (m : (ℓ : Loc Cert.SwiKernel.nD Cert.SwiKernel.τ Cert.SwiKernel.sig) → Buf (Elt Bits) ℓ) (g : Dev Cert.SwiKernel.nD → PrngReg), Pre_SwiKernel m →
    θ_run (Cert.SwiKernel.defs (F := Bits)) (onTc (τ := Cert.SwiKernel.τ) (Cert.SwiKernel.main (F := Bits))) ⟨m, fun _ => 0, g⟩ (fun r => (∀ c : Dev Cert.SwiKernel.nD,
      r.2.mem ((c.tc : Thread Cert.SwiKernel.nD Cert.SwiKernel.τ).loc Cert.SwiKernel.main_arg0) = m ((c.tc : Thread Cert.SwiKernel.nD Cert.SwiKernel.τ).loc Cert.SwiKernel.main_arg0)
      ∧ r.2.mem ((c.tc : Thread Cert.SwiKernel.nD Cert.SwiKernel.τ).loc Cert.SwiKernel.main_arg1) = m ((c.tc : Thread Cert.SwiKernel.nD Cert.SwiKernel.τ).loc Cert.SwiKernel.main_arg1)
      ∧ r.2.mem ((c.tc : Thread Cert.SwiKernel.nD Cert.SwiKernel.τ).loc Cert.SwiKernel.main_arg2) = m ((c.tc : Thread Cert.SwiKernel.nD Cert.SwiKernel.τ).loc Cert.SwiKernel.main_arg2)
      ∧ r.2.mem ((c.tc : Thread Cert.SwiKernel.nD Cert.SwiKernel.τ).loc Cert.SwiKernel.main_arg3) = m ((c.tc : Thread Cert.SwiKernel.nD Cert.SwiKernel.τ).loc Cert.SwiKernel.main_arg3)
      ∧ r.2.mem ((c.tc : Thread Cert.SwiKernel.nD Cert.SwiKernel.τ).loc Cert.SwiKernel.main_arg4) = m ((c.tc : Thread Cert.SwiKernel.nD Cert.SwiKernel.τ).loc Cert.SwiKernel.main_arg4))
      ∧ r.2.sem = fun _ => 0)

def quiescent_SwiKernelIdeal [hSwiKernelIdeal : Cert.SwiKernelIdeal.Facts] : Prop :=
  ∀ (m : (ℓ : Loc Cert.SwiKernelIdeal.nD Cert.SwiKernelIdeal.τ Cert.SwiKernelIdeal.sig) → Buf (Elt Ideal) ℓ) (g : Dev Cert.SwiKernelIdeal.nD → PrngReg), Pre_SwiKernelIdeal m →
    θ_run (Cert.SwiKernelIdeal.defs (F := Ideal)) (onTc (τ := Cert.SwiKernelIdeal.τ) (Cert.SwiKernelIdeal.main (F := Ideal))) ⟨m, fun _ => 0, g⟩ (fun r => (∀ c : Dev Cert.SwiKernelIdeal.nD,
      r.2.mem ((c.tc : Thread Cert.SwiKernelIdeal.nD Cert.SwiKernelIdeal.τ).loc Cert.SwiKernelIdeal.main_arg0) = m ((c.tc : Thread Cert.SwiKernelIdeal.nD Cert.SwiKernelIdeal.τ).loc Cert.SwiKernelIdeal.main_arg0)
      ∧ r.2.mem ((c.tc : Thread Cert.SwiKernelIdeal.nD Cert.SwiKernelIdeal.τ).loc Cert.SwiKernelIdeal.main_arg1) = m ((c.tc : Thread Cert.SwiKernelIdeal.nD Cert.SwiKernelIdeal.τ).loc Cert.SwiKernelIdeal.main_arg1)
      ∧ r.2.mem ((c.tc : Thread Cert.SwiKernelIdeal.nD Cert.SwiKernelIdeal.τ).loc Cert.SwiKernelIdeal.main_arg2) = m ((c.tc : Thread Cert.SwiKernelIdeal.nD Cert.SwiKernelIdeal.τ).loc Cert.SwiKernelIdeal.main_arg2)
      ∧ r.2.mem ((c.tc : Thread Cert.SwiKernelIdeal.nD Cert.SwiKernelIdeal.τ).loc Cert.SwiKernelIdeal.main_arg3) = m ((c.tc : Thread Cert.SwiKernelIdeal.nD Cert.SwiKernelIdeal.τ).loc Cert.SwiKernelIdeal.main_arg3)
      ∧ r.2.mem ((c.tc : Thread Cert.SwiKernelIdeal.nD Cert.SwiKernelIdeal.τ).loc Cert.SwiKernelIdeal.main_arg4) = m ((c.tc : Thread Cert.SwiKernelIdeal.nD Cert.SwiKernelIdeal.τ).loc Cert.SwiKernelIdeal.main_arg4))
      ∧ r.2.sem = fun _ => 0)

def quiescent_SwiKernelIdeal_pre_swi_finite [hSwiKernelIdeal : Cert.SwiKernelIdeal.Facts] [hPre_swi_finite : Cert.Pre_swi_finite.Facts] : Prop :=
  ∀ (m : (ℓ : Loc Cert.SwiKernelIdeal.nD Cert.SwiKernelIdeal.τ Cert.SwiKernelIdeal.sig) → Buf (Elt Ideal) ℓ) (g : Dev Cert.SwiKernelIdeal.nD → PrngReg), Pre_SwiKernelIdeal_swi_finite m →
    θ_run (Cert.SwiKernelIdeal.defs (F := Ideal)) (onTc (τ := Cert.SwiKernelIdeal.τ) (Cert.SwiKernelIdeal.main (F := Ideal))) ⟨m, fun _ => 0, g⟩ (fun r => (∀ c : Dev Cert.SwiKernelIdeal.nD,
      r.2.mem ((c.tc : Thread Cert.SwiKernelIdeal.nD Cert.SwiKernelIdeal.τ).loc Cert.SwiKernelIdeal.main_arg0) = m ((c.tc : Thread Cert.SwiKernelIdeal.nD Cert.SwiKernelIdeal.τ).loc Cert.SwiKernelIdeal.main_arg0)
      ∧ r.2.mem ((c.tc : Thread Cert.SwiKernelIdeal.nD Cert.SwiKernelIdeal.τ).loc Cert.SwiKernelIdeal.main_arg1) = m ((c.tc : Thread Cert.SwiKernelIdeal.nD Cert.SwiKernelIdeal.τ).loc Cert.SwiKernelIdeal.main_arg1)
      ∧ r.2.mem ((c.tc : Thread Cert.SwiKernelIdeal.nD Cert.SwiKernelIdeal.τ).loc Cert.SwiKernelIdeal.main_arg2) = m ((c.tc : Thread Cert.SwiKernelIdeal.nD Cert.SwiKernelIdeal.τ).loc Cert.SwiKernelIdeal.main_arg2)
      ∧ r.2.mem ((c.tc : Thread Cert.SwiKernelIdeal.nD Cert.SwiKernelIdeal.τ).loc Cert.SwiKernelIdeal.main_arg3) = m ((c.tc : Thread Cert.SwiKernelIdeal.nD Cert.SwiKernelIdeal.τ).loc Cert.SwiKernelIdeal.main_arg3)
      ∧ r.2.mem ((c.tc : Thread Cert.SwiKernelIdeal.nD Cert.SwiKernelIdeal.τ).loc Cert.SwiKernelIdeal.main_arg4) = m ((c.tc : Thread Cert.SwiKernelIdeal.nD Cert.SwiKernelIdeal.τ).loc Cert.SwiKernelIdeal.main_arg4))
      ∧ r.2.sem = fun _ => 0)

def quiescent_SwiReferenceIdeal [hSwiReferenceIdeal : Cert.SwiReferenceIdeal.Facts] : Prop :=
  ∀ (m : (ℓ : Loc Cert.SwiReferenceIdeal.nD Cert.SwiReferenceIdeal.τ Cert.SwiReferenceIdeal.sig) → Buf (Elt Ideal) ℓ) (g : Dev Cert.SwiReferenceIdeal.nD → PrngReg), Pre_SwiReferenceIdeal m →
    θ_run (Cert.SwiReferenceIdeal.defs (F := Ideal)) (onTc (τ := Cert.SwiReferenceIdeal.τ) (Cert.SwiReferenceIdeal.main (F := Ideal))) ⟨m, fun _ => 0, g⟩ (fun r => (∀ c : Dev Cert.SwiReferenceIdeal.nD,
      r.2.mem ((c.tc : Thread Cert.SwiReferenceIdeal.nD Cert.SwiReferenceIdeal.τ).loc Cert.SwiReferenceIdeal.main_arg0) = m ((c.tc : Thread Cert.SwiReferenceIdeal.nD Cert.SwiReferenceIdeal.τ).loc Cert.SwiReferenceIdeal.main_arg0)
      ∧ r.2.mem ((c.tc : Thread Cert.SwiReferenceIdeal.nD Cert.SwiReferenceIdeal.τ).loc Cert.SwiReferenceIdeal.main_arg1) = m ((c.tc : Thread Cert.SwiReferenceIdeal.nD Cert.SwiReferenceIdeal.τ).loc Cert.SwiReferenceIdeal.main_arg1)
      ∧ r.2.mem ((c.tc : Thread Cert.SwiReferenceIdeal.nD Cert.SwiReferenceIdeal.τ).loc Cert.SwiReferenceIdeal.main_arg2) = m ((c.tc : Thread Cert.SwiReferenceIdeal.nD Cert.SwiReferenceIdeal.τ).loc Cert.SwiReferenceIdeal.main_arg2)
      ∧ r.2.mem ((c.tc : Thread Cert.SwiReferenceIdeal.nD Cert.SwiReferenceIdeal.τ).loc Cert.SwiReferenceIdeal.main_arg3) = m ((c.tc : Thread Cert.SwiReferenceIdeal.nD Cert.SwiReferenceIdeal.τ).loc Cert.SwiReferenceIdeal.main_arg3)
      ∧ r.2.mem ((c.tc : Thread Cert.SwiReferenceIdeal.nD Cert.SwiReferenceIdeal.τ).loc Cert.SwiReferenceIdeal.main_arg4) = m ((c.tc : Thread Cert.SwiReferenceIdeal.nD Cert.SwiReferenceIdeal.τ).loc Cert.SwiReferenceIdeal.main_arg4))
      ∧ r.2.sem = fun _ => 0)

def quiescent_SwiReferenceIdeal_pre_swi_finite [hSwiReferenceIdeal : Cert.SwiReferenceIdeal.Facts] [hPre_swi_finite : Cert.Pre_swi_finite.Facts] : Prop :=
  ∀ (m : (ℓ : Loc Cert.SwiReferenceIdeal.nD Cert.SwiReferenceIdeal.τ Cert.SwiReferenceIdeal.sig) → Buf (Elt Ideal) ℓ) (g : Dev Cert.SwiReferenceIdeal.nD → PrngReg), Pre_SwiReferenceIdeal_swi_finite m →
    θ_run (Cert.SwiReferenceIdeal.defs (F := Ideal)) (onTc (τ := Cert.SwiReferenceIdeal.τ) (Cert.SwiReferenceIdeal.main (F := Ideal))) ⟨m, fun _ => 0, g⟩ (fun r => (∀ c : Dev Cert.SwiReferenceIdeal.nD,
      r.2.mem ((c.tc : Thread Cert.SwiReferenceIdeal.nD Cert.SwiReferenceIdeal.τ).loc Cert.SwiReferenceIdeal.main_arg0) = m ((c.tc : Thread Cert.SwiReferenceIdeal.nD Cert.SwiReferenceIdeal.τ).loc Cert.SwiReferenceIdeal.main_arg0)
      ∧ r.2.mem ((c.tc : Thread Cert.SwiReferenceIdeal.nD Cert.SwiReferenceIdeal.τ).loc Cert.SwiReferenceIdeal.main_arg1) = m ((c.tc : Thread Cert.SwiReferenceIdeal.nD Cert.SwiReferenceIdeal.τ).loc Cert.SwiReferenceIdeal.main_arg1)
      ∧ r.2.mem ((c.tc : Thread Cert.SwiReferenceIdeal.nD Cert.SwiReferenceIdeal.τ).loc Cert.SwiReferenceIdeal.main_arg2) = m ((c.tc : Thread Cert.SwiReferenceIdeal.nD Cert.SwiReferenceIdeal.τ).loc Cert.SwiReferenceIdeal.main_arg2)
      ∧ r.2.mem ((c.tc : Thread Cert.SwiReferenceIdeal.nD Cert.SwiReferenceIdeal.τ).loc Cert.SwiReferenceIdeal.main_arg3) = m ((c.tc : Thread Cert.SwiReferenceIdeal.nD Cert.SwiReferenceIdeal.τ).loc Cert.SwiReferenceIdeal.main_arg3)
      ∧ r.2.mem ((c.tc : Thread Cert.SwiReferenceIdeal.nD Cert.SwiReferenceIdeal.τ).loc Cert.SwiReferenceIdeal.main_arg4) = m ((c.tc : Thread Cert.SwiReferenceIdeal.nD Cert.SwiReferenceIdeal.τ).loc Cert.SwiReferenceIdeal.main_arg4))
      ∧ r.2.sem = fun _ => 0)

def quiescent_FfnKernel [hFfnKernel : Cert.FfnKernel.Facts] : Prop :=
  ∀ (m : (ℓ : Loc Cert.FfnKernel.nD Cert.FfnKernel.τ Cert.FfnKernel.sig) → Buf (Elt Bits) ℓ) (g : Dev Cert.FfnKernel.nD → PrngReg), Pre_FfnKernel m →
    θ_run (Cert.FfnKernel.defs (F := Bits)) (onTc (τ := Cert.FfnKernel.τ) (Cert.FfnKernel.main (F := Bits))) ⟨m, fun _ => 0, g⟩ (fun r => (∀ c : Dev Cert.FfnKernel.nD,
      r.2.mem ((c.tc : Thread Cert.FfnKernel.nD Cert.FfnKernel.τ).loc Cert.FfnKernel.main_arg0) = m ((c.tc : Thread Cert.FfnKernel.nD Cert.FfnKernel.τ).loc Cert.FfnKernel.main_arg0)
      ∧ r.2.mem ((c.tc : Thread Cert.FfnKernel.nD Cert.FfnKernel.τ).loc Cert.FfnKernel.main_arg1) = m ((c.tc : Thread Cert.FfnKernel.nD Cert.FfnKernel.τ).loc Cert.FfnKernel.main_arg1)
      ∧ r.2.mem ((c.tc : Thread Cert.FfnKernel.nD Cert.FfnKernel.τ).loc Cert.FfnKernel.main_arg2) = m ((c.tc : Thread Cert.FfnKernel.nD Cert.FfnKernel.τ).loc Cert.FfnKernel.main_arg2)
      ∧ r.2.mem ((c.tc : Thread Cert.FfnKernel.nD Cert.FfnKernel.τ).loc Cert.FfnKernel.main_arg3) = m ((c.tc : Thread Cert.FfnKernel.nD Cert.FfnKernel.τ).loc Cert.FfnKernel.main_arg3)
      ∧ r.2.mem ((c.tc : Thread Cert.FfnKernel.nD Cert.FfnKernel.τ).loc Cert.FfnKernel.main_arg4) = m ((c.tc : Thread Cert.FfnKernel.nD Cert.FfnKernel.τ).loc Cert.FfnKernel.main_arg4)
      ∧ r.2.mem ((c.tc : Thread Cert.FfnKernel.nD Cert.FfnKernel.τ).loc Cert.FfnKernel.main_arg5) = m ((c.tc : Thread Cert.FfnKernel.nD Cert.FfnKernel.τ).loc Cert.FfnKernel.main_arg5)
      ∧ r.2.mem ((c.tc : Thread Cert.FfnKernel.nD Cert.FfnKernel.τ).loc Cert.FfnKernel.main_arg6) = m ((c.tc : Thread Cert.FfnKernel.nD Cert.FfnKernel.τ).loc Cert.FfnKernel.main_arg6))
      ∧ r.2.sem = fun _ => 0)

def quiescent_FfnKernelIdeal [hFfnKernelIdeal : Cert.FfnKernelIdeal.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg), Pre_FfnKernelIdeal m →
    θ_run (Cert.FfnKernelIdeal.defs (F := Ideal)) (onTc (τ := Cert.FfnKernelIdeal.τ) (Cert.FfnKernelIdeal.main (F := Ideal))) ⟨m, fun _ => 0, g⟩ (fun r => (∀ c : Dev Cert.FfnKernelIdeal.nD,
      r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
      ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
      ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
      ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
      ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4)
      ∧ r.2.mem ((c.tc : Thread Cert.FfnKernelIdeal.nD Cert.FfnKernelIdeal.τ).loc Cert.FfnKernelIdeal.main_arg5) = m ((c.tc : Thread Cert.FfnKernelIdeal.nD Cert.FfnKernelIdeal.τ).loc Cert.FfnKernelIdeal.main_arg5)
      ∧ r.2.mem ((c.tc : Thread Cert.FfnKernelIdeal.nD Cert.FfnKernelIdeal.τ).loc Cert.FfnKernelIdeal.main_arg6) = m ((c.tc : Thread Cert.FfnKernelIdeal.nD Cert.FfnKernelIdeal.τ).loc Cert.FfnKernelIdeal.main_arg6))
      ∧ r.2.sem = fun _ => 0)

def quiescent_FfnKernelIdeal_pre_ffn_finite [hFfnKernelIdeal : Cert.FfnKernelIdeal.Facts] [hPre_ffn_finite : Cert.Pre_ffn_finite.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg), Pre_FfnKernelIdeal_ffn_finite m →
    θ_run (Cert.FfnKernelIdeal.defs (F := Ideal)) (onTc (τ := Cert.FfnKernelIdeal.τ) (Cert.FfnKernelIdeal.main (F := Ideal))) ⟨m, fun _ => 0, g⟩ (fun r => (∀ c : Dev Cert.FfnKernelIdeal.nD,
      r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
      ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
      ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
      ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
      ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4)
      ∧ r.2.mem ((c.tc : Thread Cert.FfnKernelIdeal.nD Cert.FfnKernelIdeal.τ).loc Cert.FfnKernelIdeal.main_arg5) = m ((c.tc : Thread Cert.FfnKernelIdeal.nD Cert.FfnKernelIdeal.τ).loc Cert.FfnKernelIdeal.main_arg5)
      ∧ r.2.mem ((c.tc : Thread Cert.FfnKernelIdeal.nD Cert.FfnKernelIdeal.τ).loc Cert.FfnKernelIdeal.main_arg6) = m ((c.tc : Thread Cert.FfnKernelIdeal.nD Cert.FfnKernelIdeal.τ).loc Cert.FfnKernelIdeal.main_arg6))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5)
      ∧ r.2.mem ((c.tc : Thread Cert.FfnReferenceIdeal.nD Cert.FfnReferenceIdeal.τ).loc Cert.FfnReferenceIdeal.main_arg6) = m ((c.tc : Thread Cert.FfnReferenceIdeal.nD Cert.FfnReferenceIdeal.τ).loc Cert.FfnReferenceIdeal.main_arg6))
      ∧ r.2.sem = fun _ => 0)

def quiescent_FfnReferenceIdeal_pre_ffn_finite [hFfnReferenceIdeal : Cert.FfnReferenceIdeal.Facts] [hPre_ffn_finite : Cert.Pre_ffn_finite.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal_ffn_finite m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5)
      ∧ r.2.mem ((c.tc : Thread Cert.FfnReferenceIdeal.nD Cert.FfnReferenceIdeal.τ).loc Cert.FfnReferenceIdeal.main_arg6) = m ((c.tc : Thread Cert.FfnReferenceIdeal.nD Cert.FfnReferenceIdeal.τ).loc Cert.FfnReferenceIdeal.main_arg6))
      ∧ r.2.sem = fun _ => 0)

def quiescent_LossKernel [hLossKernel : Cert.LossKernel.Facts] : Prop :=
  ∀ (m : (ℓ : Loc Cert.LossKernel.nD Cert.LossKernel.τ Cert.LossKernel.sig) → Buf (Elt Bits) ℓ) (g : Dev Cert.LossKernel.nD → PrngReg), Pre_LossKernel m →
    θ_run (Cert.LossKernel.defs (F := Bits)) (onTc (τ := Cert.LossKernel.τ) (Cert.LossKernel.main (F := Bits))) ⟨m, fun _ => 0, g⟩ (fun r => (∀ c : Dev Cert.LossKernel.nD,
      r.2.mem ((c.tc : Thread Cert.LossKernel.nD Cert.LossKernel.τ).loc Cert.LossKernel.main_arg0) = m ((c.tc : Thread Cert.LossKernel.nD Cert.LossKernel.τ).loc Cert.LossKernel.main_arg0)
      ∧ r.2.mem ((c.tc : Thread Cert.LossKernel.nD Cert.LossKernel.τ).loc Cert.LossKernel.main_arg1) = m ((c.tc : Thread Cert.LossKernel.nD Cert.LossKernel.τ).loc Cert.LossKernel.main_arg1)
      ∧ r.2.mem ((c.tc : Thread Cert.LossKernel.nD Cert.LossKernel.τ).loc Cert.LossKernel.main_arg2) = m ((c.tc : Thread Cert.LossKernel.nD Cert.LossKernel.τ).loc Cert.LossKernel.main_arg2)
      ∧ r.2.mem ((c.tc : Thread Cert.LossKernel.nD Cert.LossKernel.τ).loc Cert.LossKernel.main_arg3) = m ((c.tc : Thread Cert.LossKernel.nD Cert.LossKernel.τ).loc Cert.LossKernel.main_arg3)
      ∧ r.2.mem ((c.tc : Thread Cert.LossKernel.nD Cert.LossKernel.τ).loc Cert.LossKernel.main_arg4) = m ((c.tc : Thread Cert.LossKernel.nD Cert.LossKernel.τ).loc Cert.LossKernel.main_arg4))
      ∧ r.2.sem = fun _ => 0)

def quiescent_LossKernelIdeal [hLossKernelIdeal : Cert.LossKernelIdeal.Facts] : Prop :=
  ∀ (m : (ℓ : Loc Cert.LossKernelIdeal.nD Cert.LossKernelIdeal.τ Cert.LossKernelIdeal.sig) → Buf (Elt Ideal) ℓ) (g : Dev Cert.LossKernelIdeal.nD → PrngReg), Pre_LossKernelIdeal m →
    θ_run (Cert.LossKernelIdeal.defs (F := Ideal)) (onTc (τ := Cert.LossKernelIdeal.τ) (Cert.LossKernelIdeal.main (F := Ideal))) ⟨m, fun _ => 0, g⟩ (fun r => (∀ c : Dev Cert.LossKernelIdeal.nD,
      r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
      ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1)
      ∧ r.2.mem ((c.tc : Thread Cert.LossKernelIdeal.nD Cert.LossKernelIdeal.τ).loc Cert.LossKernelIdeal.main_arg2) = m ((c.tc : Thread Cert.LossKernelIdeal.nD Cert.LossKernelIdeal.τ).loc Cert.LossKernelIdeal.main_arg2)
      ∧ r.2.mem ((c.tc : Thread Cert.LossKernelIdeal.nD Cert.LossKernelIdeal.τ).loc Cert.LossKernelIdeal.main_arg3) = m ((c.tc : Thread Cert.LossKernelIdeal.nD Cert.LossKernelIdeal.τ).loc Cert.LossKernelIdeal.main_arg3)
      ∧ r.2.mem ((c.tc : Thread Cert.LossKernelIdeal.nD Cert.LossKernelIdeal.τ).loc Cert.LossKernelIdeal.main_arg4) = m ((c.tc : Thread Cert.LossKernelIdeal.nD Cert.LossKernelIdeal.τ).loc Cert.LossKernelIdeal.main_arg4))
      ∧ r.2.sem = fun _ => 0)

def quiescent_LossKernelIdeal_pre_loss_finite [hLossKernelIdeal : Cert.LossKernelIdeal.Facts] [hPre_loss_finite : Cert.Pre_loss_finite.Facts] : Prop :=
  ∀ (m : (ℓ : Loc Cert.LossKernelIdeal.nD Cert.LossKernelIdeal.τ Cert.LossKernelIdeal.sig) → Buf (Elt Ideal) ℓ) (g : Dev Cert.LossKernelIdeal.nD → PrngReg), Pre_LossKernelIdeal_loss_finite m →
    θ_run (Cert.LossKernelIdeal.defs (F := Ideal)) (onTc (τ := Cert.LossKernelIdeal.τ) (Cert.LossKernelIdeal.main (F := Ideal))) ⟨m, fun _ => 0, g⟩ (fun r => (∀ c : Dev Cert.LossKernelIdeal.nD,
      r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
      ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1)
      ∧ r.2.mem ((c.tc : Thread Cert.LossKernelIdeal.nD Cert.LossKernelIdeal.τ).loc Cert.LossKernelIdeal.main_arg2) = m ((c.tc : Thread Cert.LossKernelIdeal.nD Cert.LossKernelIdeal.τ).loc Cert.LossKernelIdeal.main_arg2)
      ∧ r.2.mem ((c.tc : Thread Cert.LossKernelIdeal.nD Cert.LossKernelIdeal.τ).loc Cert.LossKernelIdeal.main_arg3) = m ((c.tc : Thread Cert.LossKernelIdeal.nD Cert.LossKernelIdeal.τ).loc Cert.LossKernelIdeal.main_arg3)
      ∧ r.2.mem ((c.tc : Thread Cert.LossKernelIdeal.nD Cert.LossKernelIdeal.τ).loc Cert.LossKernelIdeal.main_arg4) = m ((c.tc : Thread Cert.LossKernelIdeal.nD Cert.LossKernelIdeal.τ).loc Cert.LossKernelIdeal.main_arg4))
      ∧ r.2.sem = fun _ => 0)

def quiescent_LossReferenceIdeal [hLossReferenceIdeal : Cert.LossReferenceIdeal.Facts] : Prop :=
  ∀ (m : (ℓ : Loc Cert.LossReferenceIdeal.nD Cert.LossReferenceIdeal.τ Cert.LossReferenceIdeal.sig) → Buf (Elt Ideal) ℓ) (g : Dev Cert.LossReferenceIdeal.nD → PrngReg), Pre_LossReferenceIdeal m →
    θ_run (Cert.LossReferenceIdeal.defs (F := Ideal)) (onTc (τ := Cert.LossReferenceIdeal.τ) (Cert.LossReferenceIdeal.main (F := Ideal))) ⟨m, fun _ => 0, g⟩ (fun r => (∀ c : Dev Cert.LossReferenceIdeal.nD,
      r.2.mem ((c.tc : Thread Cert.LossReferenceIdeal.nD Cert.LossReferenceIdeal.τ).loc Cert.LossReferenceIdeal.main_arg0) = m ((c.tc : Thread Cert.LossReferenceIdeal.nD Cert.LossReferenceIdeal.τ).loc Cert.LossReferenceIdeal.main_arg0)
      ∧ r.2.mem ((c.tc : Thread Cert.LossReferenceIdeal.nD Cert.LossReferenceIdeal.τ).loc Cert.LossReferenceIdeal.main_arg1) = m ((c.tc : Thread Cert.LossReferenceIdeal.nD Cert.LossReferenceIdeal.τ).loc Cert.LossReferenceIdeal.main_arg1)
      ∧ r.2.mem ((c.tc : Thread Cert.LossReferenceIdeal.nD Cert.LossReferenceIdeal.τ).loc Cert.LossReferenceIdeal.main_arg2) = m ((c.tc : Thread Cert.LossReferenceIdeal.nD Cert.LossReferenceIdeal.τ).loc Cert.LossReferenceIdeal.main_arg2)
      ∧ r.2.mem ((c.tc : Thread Cert.LossReferenceIdeal.nD Cert.LossReferenceIdeal.τ).loc Cert.LossReferenceIdeal.main_arg3) = m ((c.tc : Thread Cert.LossReferenceIdeal.nD Cert.LossReferenceIdeal.τ).loc Cert.LossReferenceIdeal.main_arg3)
      ∧ r.2.mem ((c.tc : Thread Cert.LossReferenceIdeal.nD Cert.LossReferenceIdeal.τ).loc Cert.LossReferenceIdeal.main_arg4) = m ((c.tc : Thread Cert.LossReferenceIdeal.nD Cert.LossReferenceIdeal.τ).loc Cert.LossReferenceIdeal.main_arg4))
      ∧ r.2.sem = fun _ => 0)

def quiescent_LossReferenceIdeal_pre_loss_finite [hLossReferenceIdeal : Cert.LossReferenceIdeal.Facts] [hPre_loss_finite : Cert.Pre_loss_finite.Facts] : Prop :=
  ∀ (m : (ℓ : Loc Cert.LossReferenceIdeal.nD Cert.LossReferenceIdeal.τ Cert.LossReferenceIdeal.sig) → Buf (Elt Ideal) ℓ) (g : Dev Cert.LossReferenceIdeal.nD → PrngReg), Pre_LossReferenceIdeal_loss_finite m →
    θ_run (Cert.LossReferenceIdeal.defs (F := Ideal)) (onTc (τ := Cert.LossReferenceIdeal.τ) (Cert.LossReferenceIdeal.main (F := Ideal))) ⟨m, fun _ => 0, g⟩ (fun r => (∀ c : Dev Cert.LossReferenceIdeal.nD,
      r.2.mem ((c.tc : Thread Cert.LossReferenceIdeal.nD Cert.LossReferenceIdeal.τ).loc Cert.LossReferenceIdeal.main_arg0) = m ((c.tc : Thread Cert.LossReferenceIdeal.nD Cert.LossReferenceIdeal.τ).loc Cert.LossReferenceIdeal.main_arg0)
      ∧ r.2.mem ((c.tc : Thread Cert.LossReferenceIdeal.nD Cert.LossReferenceIdeal.τ).loc Cert.LossReferenceIdeal.main_arg1) = m ((c.tc : Thread Cert.LossReferenceIdeal.nD Cert.LossReferenceIdeal.τ).loc Cert.LossReferenceIdeal.main_arg1)
      ∧ r.2.mem ((c.tc : Thread Cert.LossReferenceIdeal.nD Cert.LossReferenceIdeal.τ).loc Cert.LossReferenceIdeal.main_arg2) = m ((c.tc : Thread Cert.LossReferenceIdeal.nD Cert.LossReferenceIdeal.τ).loc Cert.LossReferenceIdeal.main_arg2)
      ∧ r.2.mem ((c.tc : Thread Cert.LossReferenceIdeal.nD Cert.LossReferenceIdeal.τ).loc Cert.LossReferenceIdeal.main_arg3) = m ((c.tc : Thread Cert.LossReferenceIdeal.nD Cert.LossReferenceIdeal.τ).loc Cert.LossReferenceIdeal.main_arg3)
      ∧ r.2.mem ((c.tc : Thread Cert.LossReferenceIdeal.nD Cert.LossReferenceIdeal.τ).loc Cert.LossReferenceIdeal.main_arg4) = m ((c.tc : Thread Cert.LossReferenceIdeal.nD Cert.LossReferenceIdeal.τ).loc Cert.LossReferenceIdeal.main_arg4))
      ∧ r.2.sem = fun _ => 0)

def quiescent_InpKernel [hInpKernel : Cert.InpKernel.Facts] : Prop :=
  ∀ (m : (ℓ : Loc Cert.InpKernel.nD Cert.InpKernel.τ Cert.InpKernel.sig) → Buf (Elt Bits) ℓ) (g : Dev Cert.InpKernel.nD → PrngReg), Pre_InpKernel m →
    θ_run (Cert.InpKernel.defs (F := Bits)) (onTc (τ := Cert.InpKernel.τ) (Cert.InpKernel.main (F := Bits))) ⟨m, fun _ => 0, g⟩ (fun r => (∀ c : Dev Cert.InpKernel.nD,
      r.2.mem ((c.tc : Thread Cert.InpKernel.nD Cert.InpKernel.τ).loc Cert.InpKernel.main_arg0) = m ((c.tc : Thread Cert.InpKernel.nD Cert.InpKernel.τ).loc Cert.InpKernel.main_arg0)
      ∧ r.2.mem ((c.tc : Thread Cert.InpKernel.nD Cert.InpKernel.τ).loc Cert.InpKernel.main_arg1) = m ((c.tc : Thread Cert.InpKernel.nD Cert.InpKernel.τ).loc Cert.InpKernel.main_arg1)
      ∧ r.2.mem ((c.tc : Thread Cert.InpKernel.nD Cert.InpKernel.τ).loc Cert.InpKernel.main_arg2) = m ((c.tc : Thread Cert.InpKernel.nD Cert.InpKernel.τ).loc Cert.InpKernel.main_arg2)
      ∧ r.2.mem ((c.tc : Thread Cert.InpKernel.nD Cert.InpKernel.τ).loc Cert.InpKernel.main_arg3) = m ((c.tc : Thread Cert.InpKernel.nD Cert.InpKernel.τ).loc Cert.InpKernel.main_arg3)
      ∧ r.2.mem ((c.tc : Thread Cert.InpKernel.nD Cert.InpKernel.τ).loc Cert.InpKernel.main_arg4) = m ((c.tc : Thread Cert.InpKernel.nD Cert.InpKernel.τ).loc Cert.InpKernel.main_arg4)
      ∧ r.2.mem ((c.tc : Thread Cert.InpKernel.nD Cert.InpKernel.τ).loc Cert.InpKernel.main_arg5) = m ((c.tc : Thread Cert.InpKernel.nD Cert.InpKernel.τ).loc Cert.InpKernel.main_arg5)
      ∧ r.2.mem ((c.tc : Thread Cert.InpKernel.nD Cert.InpKernel.τ).loc Cert.InpKernel.main_arg6) = m ((c.tc : Thread Cert.InpKernel.nD Cert.InpKernel.τ).loc Cert.InpKernel.main_arg6))
      ∧ r.2.sem = fun _ => 0)

def quiescent_InpKernelIdeal [hInpKernelIdeal : Cert.InpKernelIdeal.Facts] : Prop :=
  ∀ (m : (ℓ : Loc Cert.InpKernelIdeal.nD Cert.InpKernelIdeal.τ Cert.InpKernelIdeal.sig) → Buf (Elt Ideal) ℓ) (g : Dev Cert.InpKernelIdeal.nD → PrngReg), Pre_InpKernelIdeal m →
    θ_run (Cert.InpKernelIdeal.defs (F := Ideal)) (onTc (τ := Cert.InpKernelIdeal.τ) (Cert.InpKernelIdeal.main (F := Ideal))) ⟨m, fun _ => 0, g⟩ (fun r => (∀ c : Dev Cert.InpKernelIdeal.nD,
      r.2.mem ((c.tc : Thread Cert.InpKernelIdeal.nD Cert.InpKernelIdeal.τ).loc Cert.InpKernelIdeal.main_arg0) = m ((c.tc : Thread Cert.InpKernelIdeal.nD Cert.InpKernelIdeal.τ).loc Cert.InpKernelIdeal.main_arg0)
      ∧ r.2.mem ((c.tc : Thread Cert.InpKernelIdeal.nD Cert.InpKernelIdeal.τ).loc Cert.InpKernelIdeal.main_arg1) = m ((c.tc : Thread Cert.InpKernelIdeal.nD Cert.InpKernelIdeal.τ).loc Cert.InpKernelIdeal.main_arg1)
      ∧ r.2.mem ((c.tc : Thread Cert.InpKernelIdeal.nD Cert.InpKernelIdeal.τ).loc Cert.InpKernelIdeal.main_arg2) = m ((c.tc : Thread Cert.InpKernelIdeal.nD Cert.InpKernelIdeal.τ).loc Cert.InpKernelIdeal.main_arg2)
      ∧ r.2.mem ((c.tc : Thread Cert.InpKernelIdeal.nD Cert.InpKernelIdeal.τ).loc Cert.InpKernelIdeal.main_arg3) = m ((c.tc : Thread Cert.InpKernelIdeal.nD Cert.InpKernelIdeal.τ).loc Cert.InpKernelIdeal.main_arg3)
      ∧ r.2.mem ((c.tc : Thread Cert.InpKernelIdeal.nD Cert.InpKernelIdeal.τ).loc Cert.InpKernelIdeal.main_arg4) = m ((c.tc : Thread Cert.InpKernelIdeal.nD Cert.InpKernelIdeal.τ).loc Cert.InpKernelIdeal.main_arg4)
      ∧ r.2.mem ((c.tc : Thread Cert.InpKernelIdeal.nD Cert.InpKernelIdeal.τ).loc Cert.InpKernelIdeal.main_arg5) = m ((c.tc : Thread Cert.InpKernelIdeal.nD Cert.InpKernelIdeal.τ).loc Cert.InpKernelIdeal.main_arg5)
      ∧ r.2.mem ((c.tc : Thread Cert.InpKernelIdeal.nD Cert.InpKernelIdeal.τ).loc Cert.InpKernelIdeal.main_arg6) = m ((c.tc : Thread Cert.InpKernelIdeal.nD Cert.InpKernelIdeal.τ).loc Cert.InpKernelIdeal.main_arg6))
      ∧ r.2.sem = fun _ => 0)

def quiescent_InpKernelIdeal_pre_inp_finite [hInpKernelIdeal : Cert.InpKernelIdeal.Facts] [hPre_inp_finite : Cert.Pre_inp_finite.Facts] : Prop :=
  ∀ (m : (ℓ : Loc Cert.InpKernelIdeal.nD Cert.InpKernelIdeal.τ Cert.InpKernelIdeal.sig) → Buf (Elt Ideal) ℓ) (g : Dev Cert.InpKernelIdeal.nD → PrngReg), Pre_InpKernelIdeal_inp_finite m →
    θ_run (Cert.InpKernelIdeal.defs (F := Ideal)) (onTc (τ := Cert.InpKernelIdeal.τ) (Cert.InpKernelIdeal.main (F := Ideal))) ⟨m, fun _ => 0, g⟩ (fun r => (∀ c : Dev Cert.InpKernelIdeal.nD,
      r.2.mem ((c.tc : Thread Cert.InpKernelIdeal.nD Cert.InpKernelIdeal.τ).loc Cert.InpKernelIdeal.main_arg0) = m ((c.tc : Thread Cert.InpKernelIdeal.nD Cert.InpKernelIdeal.τ).loc Cert.InpKernelIdeal.main_arg0)
      ∧ r.2.mem ((c.tc : Thread Cert.InpKernelIdeal.nD Cert.InpKernelIdeal.τ).loc Cert.InpKernelIdeal.main_arg1) = m ((c.tc : Thread Cert.InpKernelIdeal.nD Cert.InpKernelIdeal.τ).loc Cert.InpKernelIdeal.main_arg1)
      ∧ r.2.mem ((c.tc : Thread Cert.InpKernelIdeal.nD Cert.InpKernelIdeal.τ).loc Cert.InpKernelIdeal.main_arg2) = m ((c.tc : Thread Cert.InpKernelIdeal.nD Cert.InpKernelIdeal.τ).loc Cert.InpKernelIdeal.main_arg2)
      ∧ r.2.mem ((c.tc : Thread Cert.InpKernelIdeal.nD Cert.InpKernelIdeal.τ).loc Cert.InpKernelIdeal.main_arg3) = m ((c.tc : Thread Cert.InpKernelIdeal.nD Cert.InpKernelIdeal.τ).loc Cert.InpKernelIdeal.main_arg3)
      ∧ r.2.mem ((c.tc : Thread Cert.InpKernelIdeal.nD Cert.InpKernelIdeal.τ).loc Cert.InpKernelIdeal.main_arg4) = m ((c.tc : Thread Cert.InpKernelIdeal.nD Cert.InpKernelIdeal.τ).loc Cert.InpKernelIdeal.main_arg4)
      ∧ r.2.mem ((c.tc : Thread Cert.InpKernelIdeal.nD Cert.InpKernelIdeal.τ).loc Cert.InpKernelIdeal.main_arg5) = m ((c.tc : Thread Cert.InpKernelIdeal.nD Cert.InpKernelIdeal.τ).loc Cert.InpKernelIdeal.main_arg5)
      ∧ r.2.mem ((c.tc : Thread Cert.InpKernelIdeal.nD Cert.InpKernelIdeal.τ).loc Cert.InpKernelIdeal.main_arg6) = m ((c.tc : Thread Cert.InpKernelIdeal.nD Cert.InpKernelIdeal.τ).loc Cert.InpKernelIdeal.main_arg6))
      ∧ r.2.sem = fun _ => 0)

def quiescent_InpReferenceIdeal [hInpReferenceIdeal : Cert.InpReferenceIdeal.Facts] : Prop :=
  ∀ (m : (ℓ : Loc Cert.InpReferenceIdeal.nD Cert.InpReferenceIdeal.τ Cert.InpReferenceIdeal.sig) → Buf (Elt Ideal) ℓ) (g : Dev Cert.InpReferenceIdeal.nD → PrngReg), Pre_InpReferenceIdeal m →
    θ_run (Cert.InpReferenceIdeal.defs (F := Ideal)) (onTc (τ := Cert.InpReferenceIdeal.τ) (Cert.InpReferenceIdeal.main (F := Ideal))) ⟨m, fun _ => 0, g⟩ (fun r => (∀ c : Dev Cert.InpReferenceIdeal.nD,
      r.2.mem ((c.tc : Thread Cert.InpReferenceIdeal.nD Cert.InpReferenceIdeal.τ).loc Cert.InpReferenceIdeal.main_arg0) = m ((c.tc : Thread Cert.InpReferenceIdeal.nD Cert.InpReferenceIdeal.τ).loc Cert.InpReferenceIdeal.main_arg0)
      ∧ r.2.mem ((c.tc : Thread Cert.InpReferenceIdeal.nD Cert.InpReferenceIdeal.τ).loc Cert.InpReferenceIdeal.main_arg1) = m ((c.tc : Thread Cert.InpReferenceIdeal.nD Cert.InpReferenceIdeal.τ).loc Cert.InpReferenceIdeal.main_arg1)
      ∧ r.2.mem ((c.tc : Thread Cert.InpReferenceIdeal.nD Cert.InpReferenceIdeal.τ).loc Cert.InpReferenceIdeal.main_arg2) = m ((c.tc : Thread Cert.InpReferenceIdeal.nD Cert.InpReferenceIdeal.τ).loc Cert.InpReferenceIdeal.main_arg2)
      ∧ r.2.mem ((c.tc : Thread Cert.InpReferenceIdeal.nD Cert.InpReferenceIdeal.τ).loc Cert.InpReferenceIdeal.main_arg3) = m ((c.tc : Thread Cert.InpReferenceIdeal.nD Cert.InpReferenceIdeal.τ).loc Cert.InpReferenceIdeal.main_arg3)
      ∧ r.2.mem ((c.tc : Thread Cert.InpReferenceIdeal.nD Cert.InpReferenceIdeal.τ).loc Cert.InpReferenceIdeal.main_arg4) = m ((c.tc : Thread Cert.InpReferenceIdeal.nD Cert.InpReferenceIdeal.τ).loc Cert.InpReferenceIdeal.main_arg4)
      ∧ r.2.mem ((c.tc : Thread Cert.InpReferenceIdeal.nD Cert.InpReferenceIdeal.τ).loc Cert.InpReferenceIdeal.main_arg5) = m ((c.tc : Thread Cert.InpReferenceIdeal.nD Cert.InpReferenceIdeal.τ).loc Cert.InpReferenceIdeal.main_arg5)
      ∧ r.2.mem ((c.tc : Thread Cert.InpReferenceIdeal.nD Cert.InpReferenceIdeal.τ).loc Cert.InpReferenceIdeal.main_arg6) = m ((c.tc : Thread Cert.InpReferenceIdeal.nD Cert.InpReferenceIdeal.τ).loc Cert.InpReferenceIdeal.main_arg6))
      ∧ r.2.sem = fun _ => 0)

def quiescent_InpReferenceIdeal_pre_inp_finite [hInpReferenceIdeal : Cert.InpReferenceIdeal.Facts] [hPre_inp_finite : Cert.Pre_inp_finite.Facts] : Prop :=
  ∀ (m : (ℓ : Loc Cert.InpReferenceIdeal.nD Cert.InpReferenceIdeal.τ Cert.InpReferenceIdeal.sig) → Buf (Elt Ideal) ℓ) (g : Dev Cert.InpReferenceIdeal.nD → PrngReg), Pre_InpReferenceIdeal_inp_finite m →
    θ_run (Cert.InpReferenceIdeal.defs (F := Ideal)) (onTc (τ := Cert.InpReferenceIdeal.τ) (Cert.InpReferenceIdeal.main (F := Ideal))) ⟨m, fun _ => 0, g⟩ (fun r => (∀ c : Dev Cert.InpReferenceIdeal.nD,
      r.2.mem ((c.tc : Thread Cert.InpReferenceIdeal.nD Cert.InpReferenceIdeal.τ).loc Cert.InpReferenceIdeal.main_arg0) = m ((c.tc : Thread Cert.InpReferenceIdeal.nD Cert.InpReferenceIdeal.τ).loc Cert.InpReferenceIdeal.main_arg0)
      ∧ r.2.mem ((c.tc : Thread Cert.InpReferenceIdeal.nD Cert.InpReferenceIdeal.τ).loc Cert.InpReferenceIdeal.main_arg1) = m ((c.tc : Thread Cert.InpReferenceIdeal.nD Cert.InpReferenceIdeal.τ).loc Cert.InpReferenceIdeal.main_arg1)
      ∧ r.2.mem ((c.tc : Thread Cert.InpReferenceIdeal.nD Cert.InpReferenceIdeal.τ).loc Cert.InpReferenceIdeal.main_arg2) = m ((c.tc : Thread Cert.InpReferenceIdeal.nD Cert.InpReferenceIdeal.τ).loc Cert.InpReferenceIdeal.main_arg2)
      ∧ r.2.mem ((c.tc : Thread Cert.InpReferenceIdeal.nD Cert.InpReferenceIdeal.τ).loc Cert.InpReferenceIdeal.main_arg3) = m ((c.tc : Thread Cert.InpReferenceIdeal.nD Cert.InpReferenceIdeal.τ).loc Cert.InpReferenceIdeal.main_arg3)
      ∧ r.2.mem ((c.tc : Thread Cert.InpReferenceIdeal.nD Cert.InpReferenceIdeal.τ).loc Cert.InpReferenceIdeal.main_arg4) = m ((c.tc : Thread Cert.InpReferenceIdeal.nD Cert.InpReferenceIdeal.τ).loc Cert.InpReferenceIdeal.main_arg4)
      ∧ r.2.mem ((c.tc : Thread Cert.InpReferenceIdeal.nD Cert.InpReferenceIdeal.τ).loc Cert.InpReferenceIdeal.main_arg5) = m ((c.tc : Thread Cert.InpReferenceIdeal.nD Cert.InpReferenceIdeal.τ).loc Cert.InpReferenceIdeal.main_arg5)
      ∧ r.2.mem ((c.tc : Thread Cert.InpReferenceIdeal.nD Cert.InpReferenceIdeal.τ).loc Cert.InpReferenceIdeal.main_arg6) = m ((c.tc : Thread Cert.InpReferenceIdeal.nD Cert.InpReferenceIdeal.τ).loc Cert.InpReferenceIdeal.main_arg6))
      ∧ r.2.sem = fun _ => 0)

def quiescent_MixKernel [hMixKernel : Cert.MixKernel.Facts] : Prop :=
  ∀ (m : (ℓ : Loc Cert.MixKernel.nD Cert.MixKernel.τ Cert.MixKernel.sig) → Buf (Elt Bits) ℓ) (g : Dev Cert.MixKernel.nD → PrngReg), Pre_MixKernel m →
    θ_run (Cert.MixKernel.defs (F := Bits)) (onTc (τ := Cert.MixKernel.τ) (Cert.MixKernel.main (F := Bits))) ⟨m, fun _ => 0, g⟩ (fun r => (∀ c : Dev Cert.MixKernel.nD,
      r.2.mem ((c.tc : Thread Cert.MixKernel.nD Cert.MixKernel.τ).loc Cert.MixKernel.main_arg0) = m ((c.tc : Thread Cert.MixKernel.nD Cert.MixKernel.τ).loc Cert.MixKernel.main_arg0)
      ∧ r.2.mem ((c.tc : Thread Cert.MixKernel.nD Cert.MixKernel.τ).loc Cert.MixKernel.main_arg1) = m ((c.tc : Thread Cert.MixKernel.nD Cert.MixKernel.τ).loc Cert.MixKernel.main_arg1)
      ∧ r.2.mem ((c.tc : Thread Cert.MixKernel.nD Cert.MixKernel.τ).loc Cert.MixKernel.main_arg2) = m ((c.tc : Thread Cert.MixKernel.nD Cert.MixKernel.τ).loc Cert.MixKernel.main_arg2)
      ∧ r.2.mem ((c.tc : Thread Cert.MixKernel.nD Cert.MixKernel.τ).loc Cert.MixKernel.main_arg3) = m ((c.tc : Thread Cert.MixKernel.nD Cert.MixKernel.τ).loc Cert.MixKernel.main_arg3)
      ∧ r.2.mem ((c.tc : Thread Cert.MixKernel.nD Cert.MixKernel.τ).loc Cert.MixKernel.main_arg4) = m ((c.tc : Thread Cert.MixKernel.nD Cert.MixKernel.τ).loc Cert.MixKernel.main_arg4)
      ∧ r.2.mem ((c.tc : Thread Cert.MixKernel.nD Cert.MixKernel.τ).loc Cert.MixKernel.main_arg5) = m ((c.tc : Thread Cert.MixKernel.nD Cert.MixKernel.τ).loc Cert.MixKernel.main_arg5))
      ∧ r.2.sem = fun _ => 0)

def quiescent_MixKernelIdeal [hMixKernelIdeal : Cert.MixKernelIdeal.Facts] : Prop :=
  ∀ (m : (ℓ : Loc Cert.MixKernelIdeal.nD Cert.MixKernelIdeal.τ Cert.MixKernelIdeal.sig) → Buf (Elt Ideal) ℓ) (g : Dev Cert.MixKernelIdeal.nD → PrngReg), Pre_MixKernelIdeal m →
    θ_run (Cert.MixKernelIdeal.defs (F := Ideal)) (onTc (τ := Cert.MixKernelIdeal.τ) (Cert.MixKernelIdeal.main (F := Ideal))) ⟨m, fun _ => 0, g⟩ (fun r => (∀ c : Dev Cert.MixKernelIdeal.nD,
      r.2.mem ((c.tc : Thread Cert.MixKernelIdeal.nD Cert.MixKernelIdeal.τ).loc Cert.MixKernelIdeal.main_arg0) = m ((c.tc : Thread Cert.MixKernelIdeal.nD Cert.MixKernelIdeal.τ).loc Cert.MixKernelIdeal.main_arg0)
      ∧ r.2.mem ((c.tc : Thread Cert.MixKernelIdeal.nD Cert.MixKernelIdeal.τ).loc Cert.MixKernelIdeal.main_arg1) = m ((c.tc : Thread Cert.MixKernelIdeal.nD Cert.MixKernelIdeal.τ).loc Cert.MixKernelIdeal.main_arg1)
      ∧ r.2.mem ((c.tc : Thread Cert.MixKernelIdeal.nD Cert.MixKernelIdeal.τ).loc Cert.MixKernelIdeal.main_arg2) = m ((c.tc : Thread Cert.MixKernelIdeal.nD Cert.MixKernelIdeal.τ).loc Cert.MixKernelIdeal.main_arg2)
      ∧ r.2.mem ((c.tc : Thread Cert.MixKernelIdeal.nD Cert.MixKernelIdeal.τ).loc Cert.MixKernelIdeal.main_arg3) = m ((c.tc : Thread Cert.MixKernelIdeal.nD Cert.MixKernelIdeal.τ).loc Cert.MixKernelIdeal.main_arg3)
      ∧ r.2.mem ((c.tc : Thread Cert.MixKernelIdeal.nD Cert.MixKernelIdeal.τ).loc Cert.MixKernelIdeal.main_arg4) = m ((c.tc : Thread Cert.MixKernelIdeal.nD Cert.MixKernelIdeal.τ).loc Cert.MixKernelIdeal.main_arg4)
      ∧ r.2.mem ((c.tc : Thread Cert.MixKernelIdeal.nD Cert.MixKernelIdeal.τ).loc Cert.MixKernelIdeal.main_arg5) = m ((c.tc : Thread Cert.MixKernelIdeal.nD Cert.MixKernelIdeal.τ).loc Cert.MixKernelIdeal.main_arg5))
      ∧ r.2.sem = fun _ => 0)

def quiescent_MixKernelIdeal_pre_mix_finite [hMixKernelIdeal : Cert.MixKernelIdeal.Facts] [hPre_mix_finite : Cert.Pre_mix_finite.Facts] : Prop :=
  ∀ (m : (ℓ : Loc Cert.MixKernelIdeal.nD Cert.MixKernelIdeal.τ Cert.MixKernelIdeal.sig) → Buf (Elt Ideal) ℓ) (g : Dev Cert.MixKernelIdeal.nD → PrngReg), Pre_MixKernelIdeal_mix_finite m →
    θ_run (Cert.MixKernelIdeal.defs (F := Ideal)) (onTc (τ := Cert.MixKernelIdeal.τ) (Cert.MixKernelIdeal.main (F := Ideal))) ⟨m, fun _ => 0, g⟩ (fun r => (∀ c : Dev Cert.MixKernelIdeal.nD,
      r.2.mem ((c.tc : Thread Cert.MixKernelIdeal.nD Cert.MixKernelIdeal.τ).loc Cert.MixKernelIdeal.main_arg0) = m ((c.tc : Thread Cert.MixKernelIdeal.nD Cert.MixKernelIdeal.τ).loc Cert.MixKernelIdeal.main_arg0)
      ∧ r.2.mem ((c.tc : Thread Cert.MixKernelIdeal.nD Cert.MixKernelIdeal.τ).loc Cert.MixKernelIdeal.main_arg1) = m ((c.tc : Thread Cert.MixKernelIdeal.nD Cert.MixKernelIdeal.τ).loc Cert.MixKernelIdeal.main_arg1)
      ∧ r.2.mem ((c.tc : Thread Cert.MixKernelIdeal.nD Cert.MixKernelIdeal.τ).loc Cert.MixKernelIdeal.main_arg2) = m ((c.tc : Thread Cert.MixKernelIdeal.nD Cert.MixKernelIdeal.τ).loc Cert.MixKernelIdeal.main_arg2)
      ∧ r.2.mem ((c.tc : Thread Cert.MixKernelIdeal.nD Cert.MixKernelIdeal.τ).loc Cert.MixKernelIdeal.main_arg3) = m ((c.tc : Thread Cert.MixKernelIdeal.nD Cert.MixKernelIdeal.τ).loc Cert.MixKernelIdeal.main_arg3)
      ∧ r.2.mem ((c.tc : Thread Cert.MixKernelIdeal.nD Cert.MixKernelIdeal.τ).loc Cert.MixKernelIdeal.main_arg4) = m ((c.tc : Thread Cert.MixKernelIdeal.nD Cert.MixKernelIdeal.τ).loc Cert.MixKernelIdeal.main_arg4)
      ∧ r.2.mem ((c.tc : Thread Cert.MixKernelIdeal.nD Cert.MixKernelIdeal.τ).loc Cert.MixKernelIdeal.main_arg5) = m ((c.tc : Thread Cert.MixKernelIdeal.nD Cert.MixKernelIdeal.τ).loc Cert.MixKernelIdeal.main_arg5))
      ∧ r.2.sem = fun _ => 0)

def quiescent_MixReferenceIdeal [hMixReferenceIdeal : Cert.MixReferenceIdeal.Facts] : Prop :=
  ∀ (m : (ℓ : Loc Cert.MixReferenceIdeal.nD Cert.MixReferenceIdeal.τ Cert.MixReferenceIdeal.sig) → Buf (Elt Ideal) ℓ) (g : Dev Cert.MixReferenceIdeal.nD → PrngReg), Pre_MixReferenceIdeal m →
    θ_run (Cert.MixReferenceIdeal.defs (F := Ideal)) (onTc (τ := Cert.MixReferenceIdeal.τ) (Cert.MixReferenceIdeal.main (F := Ideal))) ⟨m, fun _ => 0, g⟩ (fun r => (∀ c : Dev Cert.MixReferenceIdeal.nD,
      r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
      ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1)
      ∧ r.2.mem ((c.tc : Thread Cert.MixReferenceIdeal.nD Cert.MixReferenceIdeal.τ).loc Cert.MixReferenceIdeal.main_arg2) = m ((c.tc : Thread Cert.MixReferenceIdeal.nD Cert.MixReferenceIdeal.τ).loc Cert.MixReferenceIdeal.main_arg2)
      ∧ r.2.mem ((c.tc : Thread Cert.MixReferenceIdeal.nD Cert.MixReferenceIdeal.τ).loc Cert.MixReferenceIdeal.main_arg3) = m ((c.tc : Thread Cert.MixReferenceIdeal.nD Cert.MixReferenceIdeal.τ).loc Cert.MixReferenceIdeal.main_arg3)
      ∧ r.2.mem ((c.tc : Thread Cert.MixReferenceIdeal.nD Cert.MixReferenceIdeal.τ).loc Cert.MixReferenceIdeal.main_arg4) = m ((c.tc : Thread Cert.MixReferenceIdeal.nD Cert.MixReferenceIdeal.τ).loc Cert.MixReferenceIdeal.main_arg4)
      ∧ r.2.mem ((c.tc : Thread Cert.MixReferenceIdeal.nD Cert.MixReferenceIdeal.τ).loc Cert.MixReferenceIdeal.main_arg5) = m ((c.tc : Thread Cert.MixReferenceIdeal.nD Cert.MixReferenceIdeal.τ).loc Cert.MixReferenceIdeal.main_arg5))
      ∧ r.2.sem = fun _ => 0)

def quiescent_MixReferenceIdeal_pre_mix_finite [hMixReferenceIdeal : Cert.MixReferenceIdeal.Facts] [hPre_mix_finite : Cert.Pre_mix_finite.Facts] : Prop :=
  ∀ (m : (ℓ : Loc Cert.MixReferenceIdeal.nD Cert.MixReferenceIdeal.τ Cert.MixReferenceIdeal.sig) → Buf (Elt Ideal) ℓ) (g : Dev Cert.MixReferenceIdeal.nD → PrngReg), Pre_MixReferenceIdeal_mix_finite m →
    θ_run (Cert.MixReferenceIdeal.defs (F := Ideal)) (onTc (τ := Cert.MixReferenceIdeal.τ) (Cert.MixReferenceIdeal.main (F := Ideal))) ⟨m, fun _ => 0, g⟩ (fun r => (∀ c : Dev Cert.MixReferenceIdeal.nD,
      r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
      ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1)
      ∧ r.2.mem ((c.tc : Thread Cert.MixReferenceIdeal.nD Cert.MixReferenceIdeal.τ).loc Cert.MixReferenceIdeal.main_arg2) = m ((c.tc : Thread Cert.MixReferenceIdeal.nD Cert.MixReferenceIdeal.τ).loc Cert.MixReferenceIdeal.main_arg2)
      ∧ r.2.mem ((c.tc : Thread Cert.MixReferenceIdeal.nD Cert.MixReferenceIdeal.τ).loc Cert.MixReferenceIdeal.main_arg3) = m ((c.tc : Thread Cert.MixReferenceIdeal.nD Cert.MixReferenceIdeal.τ).loc Cert.MixReferenceIdeal.main_arg3)
      ∧ r.2.mem ((c.tc : Thread Cert.MixReferenceIdeal.nD Cert.MixReferenceIdeal.τ).loc Cert.MixReferenceIdeal.main_arg4) = m ((c.tc : Thread Cert.MixReferenceIdeal.nD Cert.MixReferenceIdeal.τ).loc Cert.MixReferenceIdeal.main_arg4)
      ∧ r.2.mem ((c.tc : Thread Cert.MixReferenceIdeal.nD Cert.MixReferenceIdeal.τ).loc Cert.MixReferenceIdeal.main_arg5) = m ((c.tc : Thread Cert.MixReferenceIdeal.nD Cert.MixReferenceIdeal.τ).loc Cert.MixReferenceIdeal.main_arg5))
      ∧ r.2.sem = fun _ => 0)

def quiescent_SwiFKernel [hSwiFKernel : Cert.SwiFKernel.Facts] : Prop :=
  ∀ (m : (ℓ : Loc Cert.SwiFKernel.nD Cert.SwiFKernel.τ Cert.SwiFKernel.sig) → Buf (Elt Bits) ℓ) (g : Dev Cert.SwiFKernel.nD → PrngReg), Pre_SwiFKernel m →
    θ_run (Cert.SwiFKernel.defs (F := Bits)) (onTc (τ := Cert.SwiFKernel.τ) (Cert.SwiFKernel.main (F := Bits))) ⟨m, fun _ => 0, g⟩ (fun r => (∀ c : Dev Cert.SwiFKernel.nD,
      r.2.mem ((c.tc : Thread Cert.SwiFKernel.nD Cert.SwiFKernel.τ).loc Cert.SwiFKernel.main_arg0) = m ((c.tc : Thread Cert.SwiFKernel.nD Cert.SwiFKernel.τ).loc Cert.SwiFKernel.main_arg0)
      ∧ r.2.mem ((c.tc : Thread Cert.SwiFKernel.nD Cert.SwiFKernel.τ).loc Cert.SwiFKernel.main_arg1) = m ((c.tc : Thread Cert.SwiFKernel.nD Cert.SwiFKernel.τ).loc Cert.SwiFKernel.main_arg1)
      ∧ r.2.mem ((c.tc : Thread Cert.SwiFKernel.nD Cert.SwiFKernel.τ).loc Cert.SwiFKernel.main_arg2) = m ((c.tc : Thread Cert.SwiFKernel.nD Cert.SwiFKernel.τ).loc Cert.SwiFKernel.main_arg2))
      ∧ r.2.sem = fun _ => 0)

def quiescent_SwiFKernelIdeal [hSwiFKernelIdeal : Cert.SwiFKernelIdeal.Facts] : Prop :=
  ∀ (m : (ℓ : Loc Cert.SwiFKernelIdeal.nD Cert.SwiFKernelIdeal.τ Cert.SwiFKernelIdeal.sig) → Buf (Elt Ideal) ℓ) (g : Dev Cert.SwiFKernelIdeal.nD → PrngReg), Pre_SwiFKernelIdeal m →
    θ_run (Cert.SwiFKernelIdeal.defs (F := Ideal)) (onTc (τ := Cert.SwiFKernelIdeal.τ) (Cert.SwiFKernelIdeal.main (F := Ideal))) ⟨m, fun _ => 0, g⟩ (fun r => (∀ c : Dev Cert.SwiFKernelIdeal.nD,
      r.2.mem ((c.tc : Thread Cert.SwiFKernelIdeal.nD Cert.SwiFKernelIdeal.τ).loc Cert.SwiFKernelIdeal.main_arg0) = m ((c.tc : Thread Cert.SwiFKernelIdeal.nD Cert.SwiFKernelIdeal.τ).loc Cert.SwiFKernelIdeal.main_arg0)
      ∧ r.2.mem ((c.tc : Thread Cert.SwiFKernelIdeal.nD Cert.SwiFKernelIdeal.τ).loc Cert.SwiFKernelIdeal.main_arg1) = m ((c.tc : Thread Cert.SwiFKernelIdeal.nD Cert.SwiFKernelIdeal.τ).loc Cert.SwiFKernelIdeal.main_arg1)
      ∧ r.2.mem ((c.tc : Thread Cert.SwiFKernelIdeal.nD Cert.SwiFKernelIdeal.τ).loc Cert.SwiFKernelIdeal.main_arg2) = m ((c.tc : Thread Cert.SwiFKernelIdeal.nD Cert.SwiFKernelIdeal.τ).loc Cert.SwiFKernelIdeal.main_arg2))
      ∧ r.2.sem = fun _ => 0)

def quiescent_SwiFKernelIdeal_pre_swif_finite [hSwiFKernelIdeal : Cert.SwiFKernelIdeal.Facts] [hPre_swif_finite : Cert.Pre_swif_finite.Facts] : Prop :=
  ∀ (m : (ℓ : Loc Cert.SwiFKernelIdeal.nD Cert.SwiFKernelIdeal.τ Cert.SwiFKernelIdeal.sig) → Buf (Elt Ideal) ℓ) (g : Dev Cert.SwiFKernelIdeal.nD → PrngReg), Pre_SwiFKernelIdeal_swif_finite m →
    θ_run (Cert.SwiFKernelIdeal.defs (F := Ideal)) (onTc (τ := Cert.SwiFKernelIdeal.τ) (Cert.SwiFKernelIdeal.main (F := Ideal))) ⟨m, fun _ => 0, g⟩ (fun r => (∀ c : Dev Cert.SwiFKernelIdeal.nD,
      r.2.mem ((c.tc : Thread Cert.SwiFKernelIdeal.nD Cert.SwiFKernelIdeal.τ).loc Cert.SwiFKernelIdeal.main_arg0) = m ((c.tc : Thread Cert.SwiFKernelIdeal.nD Cert.SwiFKernelIdeal.τ).loc Cert.SwiFKernelIdeal.main_arg0)
      ∧ r.2.mem ((c.tc : Thread Cert.SwiFKernelIdeal.nD Cert.SwiFKernelIdeal.τ).loc Cert.SwiFKernelIdeal.main_arg1) = m ((c.tc : Thread Cert.SwiFKernelIdeal.nD Cert.SwiFKernelIdeal.τ).loc Cert.SwiFKernelIdeal.main_arg1)
      ∧ r.2.mem ((c.tc : Thread Cert.SwiFKernelIdeal.nD Cert.SwiFKernelIdeal.τ).loc Cert.SwiFKernelIdeal.main_arg2) = m ((c.tc : Thread Cert.SwiFKernelIdeal.nD Cert.SwiFKernelIdeal.τ).loc Cert.SwiFKernelIdeal.main_arg2))
      ∧ r.2.sem = fun _ => 0)

def quiescent_SwiFReferenceIdeal [hSwiFReferenceIdeal : Cert.SwiFReferenceIdeal.Facts] : Prop :=
  ∀ (m : (ℓ : Loc Cert.SwiFReferenceIdeal.nD Cert.SwiFReferenceIdeal.τ Cert.SwiFReferenceIdeal.sig) → Buf (Elt Ideal) ℓ) (g : Dev Cert.SwiFReferenceIdeal.nD → PrngReg), Pre_SwiFReferenceIdeal m →
    θ_run (Cert.SwiFReferenceIdeal.defs (F := Ideal)) (onTc (τ := Cert.SwiFReferenceIdeal.τ) (Cert.SwiFReferenceIdeal.main (F := Ideal))) ⟨m, fun _ => 0, g⟩ (fun r => (∀ c : Dev Cert.SwiFReferenceIdeal.nD,
      r.2.mem ((c.tc : Thread Cert.SwiFReferenceIdeal.nD Cert.SwiFReferenceIdeal.τ).loc Cert.SwiFReferenceIdeal.main_arg0) = m ((c.tc : Thread Cert.SwiFReferenceIdeal.nD Cert.SwiFReferenceIdeal.τ).loc Cert.SwiFReferenceIdeal.main_arg0)
      ∧ r.2.mem ((c.tc : Thread Cert.SwiFReferenceIdeal.nD Cert.SwiFReferenceIdeal.τ).loc Cert.SwiFReferenceIdeal.main_arg1) = m ((c.tc : Thread Cert.SwiFReferenceIdeal.nD Cert.SwiFReferenceIdeal.τ).loc Cert.SwiFReferenceIdeal.main_arg1)
      ∧ r.2.mem ((c.tc : Thread Cert.SwiFReferenceIdeal.nD Cert.SwiFReferenceIdeal.τ).loc Cert.SwiFReferenceIdeal.main_arg2) = m ((c.tc : Thread Cert.SwiFReferenceIdeal.nD Cert.SwiFReferenceIdeal.τ).loc Cert.SwiFReferenceIdeal.main_arg2))
      ∧ r.2.sem = fun _ => 0)

def quiescent_SwiFReferenceIdeal_pre_swif_finite [hSwiFReferenceIdeal : Cert.SwiFReferenceIdeal.Facts] [hPre_swif_finite : Cert.Pre_swif_finite.Facts] : Prop :=
  ∀ (m : (ℓ : Loc Cert.SwiFReferenceIdeal.nD Cert.SwiFReferenceIdeal.τ Cert.SwiFReferenceIdeal.sig) → Buf (Elt Ideal) ℓ) (g : Dev Cert.SwiFReferenceIdeal.nD → PrngReg), Pre_SwiFReferenceIdeal_swif_finite m →
    θ_run (Cert.SwiFReferenceIdeal.defs (F := Ideal)) (onTc (τ := Cert.SwiFReferenceIdeal.τ) (Cert.SwiFReferenceIdeal.main (F := Ideal))) ⟨m, fun _ => 0, g⟩ (fun r => (∀ c : Dev Cert.SwiFReferenceIdeal.nD,
      r.2.mem ((c.tc : Thread Cert.SwiFReferenceIdeal.nD Cert.SwiFReferenceIdeal.τ).loc Cert.SwiFReferenceIdeal.main_arg0) = m ((c.tc : Thread Cert.SwiFReferenceIdeal.nD Cert.SwiFReferenceIdeal.τ).loc Cert.SwiFReferenceIdeal.main_arg0)
      ∧ r.2.mem ((c.tc : Thread Cert.SwiFReferenceIdeal.nD Cert.SwiFReferenceIdeal.τ).loc Cert.SwiFReferenceIdeal.main_arg1) = m ((c.tc : Thread Cert.SwiFReferenceIdeal.nD Cert.SwiFReferenceIdeal.τ).loc Cert.SwiFReferenceIdeal.main_arg1)
      ∧ r.2.mem ((c.tc : Thread Cert.SwiFReferenceIdeal.nD Cert.SwiFReferenceIdeal.τ).loc Cert.SwiFReferenceIdeal.main_arg2) = m ((c.tc : Thread Cert.SwiFReferenceIdeal.nD Cert.SwiFReferenceIdeal.τ).loc Cert.SwiFReferenceIdeal.main_arg2))
      ∧ r.2.sem = fun _ => 0)

def quiescent_PrepKernel [hPrepKernel : Cert.PrepKernel.Facts] : Prop :=
  ∀ (m : (ℓ : Loc Cert.PrepKernel.nD Cert.PrepKernel.τ Cert.PrepKernel.sig) → Buf (Elt Bits) ℓ) (g : Dev Cert.PrepKernel.nD → PrngReg), Pre_PrepKernel m →
    θ_run (Cert.PrepKernel.defs (F := Bits)) (onTc (τ := Cert.PrepKernel.τ) (Cert.PrepKernel.main (F := Bits))) ⟨m, fun _ => 0, g⟩ (fun r => (∀ c : Dev Cert.PrepKernel.nD,
      r.2.mem ((c.tc : Thread Cert.PrepKernel.nD Cert.PrepKernel.τ).loc Cert.PrepKernel.main_arg0) = m ((c.tc : Thread Cert.PrepKernel.nD Cert.PrepKernel.τ).loc Cert.PrepKernel.main_arg0)
      ∧ r.2.mem ((c.tc : Thread Cert.PrepKernel.nD Cert.PrepKernel.τ).loc Cert.PrepKernel.main_arg1) = m ((c.tc : Thread Cert.PrepKernel.nD Cert.PrepKernel.τ).loc Cert.PrepKernel.main_arg1)
      ∧ r.2.mem ((c.tc : Thread Cert.PrepKernel.nD Cert.PrepKernel.τ).loc Cert.PrepKernel.main_arg2) = m ((c.tc : Thread Cert.PrepKernel.nD Cert.PrepKernel.τ).loc Cert.PrepKernel.main_arg2)
      ∧ r.2.mem ((c.tc : Thread Cert.PrepKernel.nD Cert.PrepKernel.τ).loc Cert.PrepKernel.main_arg3) = m ((c.tc : Thread Cert.PrepKernel.nD Cert.PrepKernel.τ).loc Cert.PrepKernel.main_arg3)
      ∧ r.2.mem ((c.tc : Thread Cert.PrepKernel.nD Cert.PrepKernel.τ).loc Cert.PrepKernel.main_arg4) = m ((c.tc : Thread Cert.PrepKernel.nD Cert.PrepKernel.τ).loc Cert.PrepKernel.main_arg4)
      ∧ r.2.mem ((c.tc : Thread Cert.PrepKernel.nD Cert.PrepKernel.τ).loc Cert.PrepKernel.main_arg5) = m ((c.tc : Thread Cert.PrepKernel.nD Cert.PrepKernel.τ).loc Cert.PrepKernel.main_arg5)
      ∧ r.2.mem ((c.tc : Thread Cert.PrepKernel.nD Cert.PrepKernel.τ).loc Cert.PrepKernel.main_arg6) = m ((c.tc : Thread Cert.PrepKernel.nD Cert.PrepKernel.τ).loc Cert.PrepKernel.main_arg6)
      ∧ r.2.mem ((c.tc : Thread Cert.PrepKernel.nD Cert.PrepKernel.τ).loc Cert.PrepKernel.main_arg7) = m ((c.tc : Thread Cert.PrepKernel.nD Cert.PrepKernel.τ).loc Cert.PrepKernel.main_arg7)
      ∧ r.2.mem ((c.tc : Thread Cert.PrepKernel.nD Cert.PrepKernel.τ).loc Cert.PrepKernel.main_arg8) = m ((c.tc : Thread Cert.PrepKernel.nD Cert.PrepKernel.τ).loc Cert.PrepKernel.main_arg8)
      ∧ r.2.mem ((c.tc : Thread Cert.PrepKernel.nD Cert.PrepKernel.τ).loc Cert.PrepKernel.main_arg9) = m ((c.tc : Thread Cert.PrepKernel.nD Cert.PrepKernel.τ).loc Cert.PrepKernel.main_arg9)
      ∧ r.2.mem ((c.tc : Thread Cert.PrepKernel.nD Cert.PrepKernel.τ).loc Cert.PrepKernel.main_arg10) = m ((c.tc : Thread Cert.PrepKernel.nD Cert.PrepKernel.τ).loc Cert.PrepKernel.main_arg10)
      ∧ r.2.mem ((c.tc : Thread Cert.PrepKernel.nD Cert.PrepKernel.τ).loc Cert.PrepKernel.main_arg11) = m ((c.tc : Thread Cert.PrepKernel.nD Cert.PrepKernel.τ).loc Cert.PrepKernel.main_arg11))
      ∧ r.2.sem = fun _ => 0)

def quiescent_PrepKernelIdeal [hPrepKernelIdeal : Cert.PrepKernelIdeal.Facts] : Prop :=
  ∀ (m : (ℓ : Loc Cert.PrepKernelIdeal.nD Cert.PrepKernelIdeal.τ Cert.PrepKernelIdeal.sig) → Buf (Elt Ideal) ℓ) (g : Dev Cert.PrepKernelIdeal.nD → PrngReg), Pre_PrepKernelIdeal m →
    θ_run (Cert.PrepKernelIdeal.defs (F := Ideal)) (onTc (τ := Cert.PrepKernelIdeal.τ) (Cert.PrepKernelIdeal.main (F := Ideal))) ⟨m, fun _ => 0, g⟩ (fun r => (∀ c : Dev Cert.PrepKernelIdeal.nD,
      r.2.mem ((c.tc : Thread Cert.PrepKernelIdeal.nD Cert.PrepKernelIdeal.τ).loc Cert.PrepKernelIdeal.main_arg0) = m ((c.tc : Thread Cert.PrepKernelIdeal.nD Cert.PrepKernelIdeal.τ).loc Cert.PrepKernelIdeal.main_arg0)
      ∧ r.2.mem ((c.tc : Thread Cert.PrepKernelIdeal.nD Cert.PrepKernelIdeal.τ).loc Cert.PrepKernelIdeal.main_arg1) = m ((c.tc : Thread Cert.PrepKernelIdeal.nD Cert.PrepKernelIdeal.τ).loc Cert.PrepKernelIdeal.main_arg1)
      ∧ r.2.mem ((c.tc : Thread Cert.PrepKernelIdeal.nD Cert.PrepKernelIdeal.τ).loc Cert.PrepKernelIdeal.main_arg2) = m ((c.tc : Thread Cert.PrepKernelIdeal.nD Cert.PrepKernelIdeal.τ).loc Cert.PrepKernelIdeal.main_arg2)
      ∧ r.2.mem ((c.tc : Thread Cert.PrepKernelIdeal.nD Cert.PrepKernelIdeal.τ).loc Cert.PrepKernelIdeal.main_arg3) = m ((c.tc : Thread Cert.PrepKernelIdeal.nD Cert.PrepKernelIdeal.τ).loc Cert.PrepKernelIdeal.main_arg3)
      ∧ r.2.mem ((c.tc : Thread Cert.PrepKernelIdeal.nD Cert.PrepKernelIdeal.τ).loc Cert.PrepKernelIdeal.main_arg4) = m ((c.tc : Thread Cert.PrepKernelIdeal.nD Cert.PrepKernelIdeal.τ).loc Cert.PrepKernelIdeal.main_arg4)
      ∧ r.2.mem ((c.tc : Thread Cert.PrepKernelIdeal.nD Cert.PrepKernelIdeal.τ).loc Cert.PrepKernelIdeal.main_arg5) = m ((c.tc : Thread Cert.PrepKernelIdeal.nD Cert.PrepKernelIdeal.τ).loc Cert.PrepKernelIdeal.main_arg5)
      ∧ r.2.mem ((c.tc : Thread Cert.PrepKernelIdeal.nD Cert.PrepKernelIdeal.τ).loc Cert.PrepKernelIdeal.main_arg6) = m ((c.tc : Thread Cert.PrepKernelIdeal.nD Cert.PrepKernelIdeal.τ).loc Cert.PrepKernelIdeal.main_arg6)
      ∧ r.2.mem ((c.tc : Thread Cert.PrepKernelIdeal.nD Cert.PrepKernelIdeal.τ).loc Cert.PrepKernelIdeal.main_arg7) = m ((c.tc : Thread Cert.PrepKernelIdeal.nD Cert.PrepKernelIdeal.τ).loc Cert.PrepKernelIdeal.main_arg7)
      ∧ r.2.mem ((c.tc : Thread Cert.PrepKernelIdeal.nD Cert.PrepKernelIdeal.τ).loc Cert.PrepKernelIdeal.main_arg8) = m ((c.tc : Thread Cert.PrepKernelIdeal.nD Cert.PrepKernelIdeal.τ).loc Cert.PrepKernelIdeal.main_arg8)
      ∧ r.2.mem ((c.tc : Thread Cert.PrepKernelIdeal.nD Cert.PrepKernelIdeal.τ).loc Cert.PrepKernelIdeal.main_arg9) = m ((c.tc : Thread Cert.PrepKernelIdeal.nD Cert.PrepKernelIdeal.τ).loc Cert.PrepKernelIdeal.main_arg9)
      ∧ r.2.mem ((c.tc : Thread Cert.PrepKernelIdeal.nD Cert.PrepKernelIdeal.τ).loc Cert.PrepKernelIdeal.main_arg10) = m ((c.tc : Thread Cert.PrepKernelIdeal.nD Cert.PrepKernelIdeal.τ).loc Cert.PrepKernelIdeal.main_arg10)
      ∧ r.2.mem ((c.tc : Thread Cert.PrepKernelIdeal.nD Cert.PrepKernelIdeal.τ).loc Cert.PrepKernelIdeal.main_arg11) = m ((c.tc : Thread Cert.PrepKernelIdeal.nD Cert.PrepKernelIdeal.τ).loc Cert.PrepKernelIdeal.main_arg11))
      ∧ r.2.sem = fun _ => 0)

def quiescent_PrepKernelIdeal_pre_prep_finite [hPrepKernelIdeal : Cert.PrepKernelIdeal.Facts] [hPre_prep_finite : Cert.Pre_prep_finite.Facts] : Prop :=
  ∀ (m : (ℓ : Loc Cert.PrepKernelIdeal.nD Cert.PrepKernelIdeal.τ Cert.PrepKernelIdeal.sig) → Buf (Elt Ideal) ℓ) (g : Dev Cert.PrepKernelIdeal.nD → PrngReg), Pre_PrepKernelIdeal_prep_finite m →
    θ_run (Cert.PrepKernelIdeal.defs (F := Ideal)) (onTc (τ := Cert.PrepKernelIdeal.τ) (Cert.PrepKernelIdeal.main (F := Ideal))) ⟨m, fun _ => 0, g⟩ (fun r => (∀ c : Dev Cert.PrepKernelIdeal.nD,
      r.2.mem ((c.tc : Thread Cert.PrepKernelIdeal.nD Cert.PrepKernelIdeal.τ).loc Cert.PrepKernelIdeal.main_arg0) = m ((c.tc : Thread Cert.PrepKernelIdeal.nD Cert.PrepKernelIdeal.τ).loc Cert.PrepKernelIdeal.main_arg0)
      ∧ r.2.mem ((c.tc : Thread Cert.PrepKernelIdeal.nD Cert.PrepKernelIdeal.τ).loc Cert.PrepKernelIdeal.main_arg1) = m ((c.tc : Thread Cert.PrepKernelIdeal.nD Cert.PrepKernelIdeal.τ).loc Cert.PrepKernelIdeal.main_arg1)
      ∧ r.2.mem ((c.tc : Thread Cert.PrepKernelIdeal.nD Cert.PrepKernelIdeal.τ).loc Cert.PrepKernelIdeal.main_arg2) = m ((c.tc : Thread Cert.PrepKernelIdeal.nD Cert.PrepKernelIdeal.τ).loc Cert.PrepKernelIdeal.main_arg2)
      ∧ r.2.mem ((c.tc : Thread Cert.PrepKernelIdeal.nD Cert.PrepKernelIdeal.τ).loc Cert.PrepKernelIdeal.main_arg3) = m ((c.tc : Thread Cert.PrepKernelIdeal.nD Cert.PrepKernelIdeal.τ).loc Cert.PrepKernelIdeal.main_arg3)
      ∧ r.2.mem ((c.tc : Thread Cert.PrepKernelIdeal.nD Cert.PrepKernelIdeal.τ).loc Cert.PrepKernelIdeal.main_arg4) = m ((c.tc : Thread Cert.PrepKernelIdeal.nD Cert.PrepKernelIdeal.τ).loc Cert.PrepKernelIdeal.main_arg4)
      ∧ r.2.mem ((c.tc : Thread Cert.PrepKernelIdeal.nD Cert.PrepKernelIdeal.τ).loc Cert.PrepKernelIdeal.main_arg5) = m ((c.tc : Thread Cert.PrepKernelIdeal.nD Cert.PrepKernelIdeal.τ).loc Cert.PrepKernelIdeal.main_arg5)
      ∧ r.2.mem ((c.tc : Thread Cert.PrepKernelIdeal.nD Cert.PrepKernelIdeal.τ).loc Cert.PrepKernelIdeal.main_arg6) = m ((c.tc : Thread Cert.PrepKernelIdeal.nD Cert.PrepKernelIdeal.τ).loc Cert.PrepKernelIdeal.main_arg6)
      ∧ r.2.mem ((c.tc : Thread Cert.PrepKernelIdeal.nD Cert.PrepKernelIdeal.τ).loc Cert.PrepKernelIdeal.main_arg7) = m ((c.tc : Thread Cert.PrepKernelIdeal.nD Cert.PrepKernelIdeal.τ).loc Cert.PrepKernelIdeal.main_arg7)
      ∧ r.2.mem ((c.tc : Thread Cert.PrepKernelIdeal.nD Cert.PrepKernelIdeal.τ).loc Cert.PrepKernelIdeal.main_arg8) = m ((c.tc : Thread Cert.PrepKernelIdeal.nD Cert.PrepKernelIdeal.τ).loc Cert.PrepKernelIdeal.main_arg8)
      ∧ r.2.mem ((c.tc : Thread Cert.PrepKernelIdeal.nD Cert.PrepKernelIdeal.τ).loc Cert.PrepKernelIdeal.main_arg9) = m ((c.tc : Thread Cert.PrepKernelIdeal.nD Cert.PrepKernelIdeal.τ).loc Cert.PrepKernelIdeal.main_arg9)
      ∧ r.2.mem ((c.tc : Thread Cert.PrepKernelIdeal.nD Cert.PrepKernelIdeal.τ).loc Cert.PrepKernelIdeal.main_arg10) = m ((c.tc : Thread Cert.PrepKernelIdeal.nD Cert.PrepKernelIdeal.τ).loc Cert.PrepKernelIdeal.main_arg10)
      ∧ r.2.mem ((c.tc : Thread Cert.PrepKernelIdeal.nD Cert.PrepKernelIdeal.τ).loc Cert.PrepKernelIdeal.main_arg11) = m ((c.tc : Thread Cert.PrepKernelIdeal.nD Cert.PrepKernelIdeal.τ).loc Cert.PrepKernelIdeal.main_arg11))
      ∧ r.2.sem = fun _ => 0)

def quiescent_PrepReferenceIdeal [hPrepReferenceIdeal : Cert.PrepReferenceIdeal.Facts] : Prop :=
  ∀ (m : (ℓ : Loc Cert.PrepReferenceIdeal.nD Cert.PrepReferenceIdeal.τ Cert.PrepReferenceIdeal.sig) → Buf (Elt Ideal) ℓ) (g : Dev Cert.PrepReferenceIdeal.nD → PrngReg), Pre_PrepReferenceIdeal m →
    θ_run (Cert.PrepReferenceIdeal.defs (F := Ideal)) (onTc (τ := Cert.PrepReferenceIdeal.τ) (Cert.PrepReferenceIdeal.main (F := Ideal))) ⟨m, fun _ => 0, g⟩ (fun r => (∀ c : Dev Cert.PrepReferenceIdeal.nD,
      r.2.mem ((c.tc : Thread Cert.PrepReferenceIdeal.nD Cert.PrepReferenceIdeal.τ).loc Cert.PrepReferenceIdeal.main_arg0) = m ((c.tc : Thread Cert.PrepReferenceIdeal.nD Cert.PrepReferenceIdeal.τ).loc Cert.PrepReferenceIdeal.main_arg0)
      ∧ r.2.mem ((c.tc : Thread Cert.PrepReferenceIdeal.nD Cert.PrepReferenceIdeal.τ).loc Cert.PrepReferenceIdeal.main_arg1) = m ((c.tc : Thread Cert.PrepReferenceIdeal.nD Cert.PrepReferenceIdeal.τ).loc Cert.PrepReferenceIdeal.main_arg1)
      ∧ r.2.mem ((c.tc : Thread Cert.PrepReferenceIdeal.nD Cert.PrepReferenceIdeal.τ).loc Cert.PrepReferenceIdeal.main_arg2) = m ((c.tc : Thread Cert.PrepReferenceIdeal.nD Cert.PrepReferenceIdeal.τ).loc Cert.PrepReferenceIdeal.main_arg2)
      ∧ r.2.mem ((c.tc : Thread Cert.PrepReferenceIdeal.nD Cert.PrepReferenceIdeal.τ).loc Cert.PrepReferenceIdeal.main_arg3) = m ((c.tc : Thread Cert.PrepReferenceIdeal.nD Cert.PrepReferenceIdeal.τ).loc Cert.PrepReferenceIdeal.main_arg3)
      ∧ r.2.mem ((c.tc : Thread Cert.PrepReferenceIdeal.nD Cert.PrepReferenceIdeal.τ).loc Cert.PrepReferenceIdeal.main_arg4) = m ((c.tc : Thread Cert.PrepReferenceIdeal.nD Cert.PrepReferenceIdeal.τ).loc Cert.PrepReferenceIdeal.main_arg4)
      ∧ r.2.mem ((c.tc : Thread Cert.PrepReferenceIdeal.nD Cert.PrepReferenceIdeal.τ).loc Cert.PrepReferenceIdeal.main_arg5) = m ((c.tc : Thread Cert.PrepReferenceIdeal.nD Cert.PrepReferenceIdeal.τ).loc Cert.PrepReferenceIdeal.main_arg5)
      ∧ r.2.mem ((c.tc : Thread Cert.PrepReferenceIdeal.nD Cert.PrepReferenceIdeal.τ).loc Cert.PrepReferenceIdeal.main_arg6) = m ((c.tc : Thread Cert.PrepReferenceIdeal.nD Cert.PrepReferenceIdeal.τ).loc Cert.PrepReferenceIdeal.main_arg6)
      ∧ r.2.mem ((c.tc : Thread Cert.PrepReferenceIdeal.nD Cert.PrepReferenceIdeal.τ).loc Cert.PrepReferenceIdeal.main_arg7) = m ((c.tc : Thread Cert.PrepReferenceIdeal.nD Cert.PrepReferenceIdeal.τ).loc Cert.PrepReferenceIdeal.main_arg7)
      ∧ r.2.mem ((c.tc : Thread Cert.PrepReferenceIdeal.nD Cert.PrepReferenceIdeal.τ).loc Cert.PrepReferenceIdeal.main_arg8) = m ((c.tc : Thread Cert.PrepReferenceIdeal.nD Cert.PrepReferenceIdeal.τ).loc Cert.PrepReferenceIdeal.main_arg8)
      ∧ r.2.mem ((c.tc : Thread Cert.PrepReferenceIdeal.nD Cert.PrepReferenceIdeal.τ).loc Cert.PrepReferenceIdeal.main_arg9) = m ((c.tc : Thread Cert.PrepReferenceIdeal.nD Cert.PrepReferenceIdeal.τ).loc Cert.PrepReferenceIdeal.main_arg9)
      ∧ r.2.mem ((c.tc : Thread Cert.PrepReferenceIdeal.nD Cert.PrepReferenceIdeal.τ).loc Cert.PrepReferenceIdeal.main_arg10) = m ((c.tc : Thread Cert.PrepReferenceIdeal.nD Cert.PrepReferenceIdeal.τ).loc Cert.PrepReferenceIdeal.main_arg10)
      ∧ r.2.mem ((c.tc : Thread Cert.PrepReferenceIdeal.nD Cert.PrepReferenceIdeal.τ).loc Cert.PrepReferenceIdeal.main_arg11) = m ((c.tc : Thread Cert.PrepReferenceIdeal.nD Cert.PrepReferenceIdeal.τ).loc Cert.PrepReferenceIdeal.main_arg11))
      ∧ r.2.sem = fun _ => 0)

def quiescent_PrepReferenceIdeal_pre_prep_finite [hPrepReferenceIdeal : Cert.PrepReferenceIdeal.Facts] [hPre_prep_finite : Cert.Pre_prep_finite.Facts] : Prop :=
  ∀ (m : (ℓ : Loc Cert.PrepReferenceIdeal.nD Cert.PrepReferenceIdeal.τ Cert.PrepReferenceIdeal.sig) → Buf (Elt Ideal) ℓ) (g : Dev Cert.PrepReferenceIdeal.nD → PrngReg), Pre_PrepReferenceIdeal_prep_finite m →
    θ_run (Cert.PrepReferenceIdeal.defs (F := Ideal)) (onTc (τ := Cert.PrepReferenceIdeal.τ) (Cert.PrepReferenceIdeal.main (F := Ideal))) ⟨m, fun _ => 0, g⟩ (fun r => (∀ c : Dev Cert.PrepReferenceIdeal.nD,
      r.2.mem ((c.tc : Thread Cert.PrepReferenceIdeal.nD Cert.PrepReferenceIdeal.τ).loc Cert.PrepReferenceIdeal.main_arg0) = m ((c.tc : Thread Cert.PrepReferenceIdeal.nD Cert.PrepReferenceIdeal.τ).loc Cert.PrepReferenceIdeal.main_arg0)
      ∧ r.2.mem ((c.tc : Thread Cert.PrepReferenceIdeal.nD Cert.PrepReferenceIdeal.τ).loc Cert.PrepReferenceIdeal.main_arg1) = m ((c.tc : Thread Cert.PrepReferenceIdeal.nD Cert.PrepReferenceIdeal.τ).loc Cert.PrepReferenceIdeal.main_arg1)
      ∧ r.2.mem ((c.tc : Thread Cert.PrepReferenceIdeal.nD Cert.PrepReferenceIdeal.τ).loc Cert.PrepReferenceIdeal.main_arg2) = m ((c.tc : Thread Cert.PrepReferenceIdeal.nD Cert.PrepReferenceIdeal.τ).loc Cert.PrepReferenceIdeal.main_arg2)
      ∧ r.2.mem ((c.tc : Thread Cert.PrepReferenceIdeal.nD Cert.PrepReferenceIdeal.τ).loc Cert.PrepReferenceIdeal.main_arg3) = m ((c.tc : Thread Cert.PrepReferenceIdeal.nD Cert.PrepReferenceIdeal.τ).loc Cert.PrepReferenceIdeal.main_arg3)
      ∧ r.2.mem ((c.tc : Thread Cert.PrepReferenceIdeal.nD Cert.PrepReferenceIdeal.τ).loc Cert.PrepReferenceIdeal.main_arg4) = m ((c.tc : Thread Cert.PrepReferenceIdeal.nD Cert.PrepReferenceIdeal.τ).loc Cert.PrepReferenceIdeal.main_arg4)
      ∧ r.2.mem ((c.tc : Thread Cert.PrepReferenceIdeal.nD Cert.PrepReferenceIdeal.τ).loc Cert.PrepReferenceIdeal.main_arg5) = m ((c.tc : Thread Cert.PrepReferenceIdeal.nD Cert.PrepReferenceIdeal.τ).loc Cert.PrepReferenceIdeal.main_arg5)
      ∧ r.2.mem ((c.tc : Thread Cert.PrepReferenceIdeal.nD Cert.PrepReferenceIdeal.τ).loc Cert.PrepReferenceIdeal.main_arg6) = m ((c.tc : Thread Cert.PrepReferenceIdeal.nD Cert.PrepReferenceIdeal.τ).loc Cert.PrepReferenceIdeal.main_arg6)
      ∧ r.2.mem ((c.tc : Thread Cert.PrepReferenceIdeal.nD Cert.PrepReferenceIdeal.τ).loc Cert.PrepReferenceIdeal.main_arg7) = m ((c.tc : Thread Cert.PrepReferenceIdeal.nD Cert.PrepReferenceIdeal.τ).loc Cert.PrepReferenceIdeal.main_arg7)
      ∧ r.2.mem ((c.tc : Thread Cert.PrepReferenceIdeal.nD Cert.PrepReferenceIdeal.τ).loc Cert.PrepReferenceIdeal.main_arg8) = m ((c.tc : Thread Cert.PrepReferenceIdeal.nD Cert.PrepReferenceIdeal.τ).loc Cert.PrepReferenceIdeal.main_arg8)
      ∧ r.2.mem ((c.tc : Thread Cert.PrepReferenceIdeal.nD Cert.PrepReferenceIdeal.τ).loc Cert.PrepReferenceIdeal.main_arg9) = m ((c.tc : Thread Cert.PrepReferenceIdeal.nD Cert.PrepReferenceIdeal.τ).loc Cert.PrepReferenceIdeal.main_arg9)
      ∧ r.2.mem ((c.tc : Thread Cert.PrepReferenceIdeal.nD Cert.PrepReferenceIdeal.τ).loc Cert.PrepReferenceIdeal.main_arg10) = m ((c.tc : Thread Cert.PrepReferenceIdeal.nD Cert.PrepReferenceIdeal.τ).loc Cert.PrepReferenceIdeal.main_arg10)
      ∧ r.2.mem ((c.tc : Thread Cert.PrepReferenceIdeal.nD Cert.PrepReferenceIdeal.τ).loc Cert.PrepReferenceIdeal.main_arg11) = m ((c.tc : Thread Cert.PrepReferenceIdeal.nD Cert.PrepReferenceIdeal.τ).loc Cert.PrepReferenceIdeal.main_arg11))
      ∧ r.2.sem = fun _ => 0)

def preserves_GateKernel_GateKernelIdeal : Prop :=
  True

def algebraic_GateKernelIdeal_GateReferenceIdeal_pre_gate_finite [hGateKernelIdeal : Cert.GateKernelIdeal.Facts] [hGateReferenceIdeal : Cert.GateReferenceIdeal.Facts] [hPre_gate_finite : Cert.Pre_gate_finite.Facts] : Prop :=
  ∀ (m : (ℓ : Loc Cert.GateKernelIdeal.nD Cert.GateKernelIdeal.τ Cert.GateKernelIdeal.sig) → Buf (Elt Ideal) ℓ) (g : Dev Cert.GateKernelIdeal.nD → PrngReg)
    (m' : (ℓ : Loc Cert.GateReferenceIdeal.nD Cert.GateReferenceIdeal.τ Cert.GateReferenceIdeal.sig) → Buf (Elt Ideal) ℓ) (g' : Dev Cert.GateReferenceIdeal.nD → PrngReg), Pre_GateKernelIdeal_gate_finite m →
    (∀ c : Dev Cert.GateKernelIdeal.nD,
      m' ((c.tc : Thread Cert.GateReferenceIdeal.nD Cert.GateReferenceIdeal.τ).loc Cert.GateReferenceIdeal.main_arg0) = m ((c.tc : Thread Cert.GateKernelIdeal.nD Cert.GateKernelIdeal.τ).loc Cert.GateKernelIdeal.main_arg0)
      ∧ m' ((c.tc : Thread Cert.GateReferenceIdeal.nD Cert.GateReferenceIdeal.τ).loc Cert.GateReferenceIdeal.main_arg1) = m ((c.tc : Thread Cert.GateKernelIdeal.nD Cert.GateKernelIdeal.τ).loc Cert.GateKernelIdeal.main_arg1)
      ∧ m' ((c.tc : Thread Cert.GateReferenceIdeal.nD Cert.GateReferenceIdeal.τ).loc Cert.GateReferenceIdeal.main_arg2) = m ((c.tc : Thread Cert.GateKernelIdeal.nD Cert.GateKernelIdeal.τ).loc Cert.GateKernelIdeal.main_arg2)) →
    ∃ (v0 : (c : Dev Cert.GateKernelIdeal.nD) → Buf (Elt Ideal) ((c.tc : Thread Cert.GateKernelIdeal.nD Cert.GateKernelIdeal.τ).loc Cert.GateKernelIdeal.main_v6_0)) (v1 : (c : Dev Cert.GateKernelIdeal.nD) → Buf (Elt Ideal) ((c.tc : Thread Cert.GateKernelIdeal.nD Cert.GateKernelIdeal.τ).loc Cert.GateKernelIdeal.main_v6_1)),
      θ_run (Cert.GateKernelIdeal.defs (F := Ideal)) (onTc (τ := Cert.GateKernelIdeal.τ) (Cert.GateKernelIdeal.main (F := Ideal))) ⟨m, fun _ => 0, g⟩ (fun r => ∀ c : Dev Cert.GateKernelIdeal.nD,
          r.2.mem ((c.tc : Thread Cert.GateKernelIdeal.nD Cert.GateKernelIdeal.τ).loc Cert.GateKernelIdeal.main_v6_0) = v0 c
          ∧ r.2.mem ((c.tc : Thread Cert.GateKernelIdeal.nD Cert.GateKernelIdeal.τ).loc Cert.GateKernelIdeal.main_v6_1) = v1 c
          ∧ r.2.mem ((c.tc : Thread Cert.GateKernelIdeal.nD Cert.GateKernelIdeal.τ).loc Cert.GateKernelIdeal.main_arg0) = m ((c.tc : Thread Cert.GateKernelIdeal.nD Cert.GateKernelIdeal.τ).loc Cert.GateKernelIdeal.main_arg0)
          ∧ r.2.mem ((c.tc : Thread Cert.GateKernelIdeal.nD Cert.GateKernelIdeal.τ).loc Cert.GateKernelIdeal.main_arg1) = m ((c.tc : Thread Cert.GateKernelIdeal.nD Cert.GateKernelIdeal.τ).loc Cert.GateKernelIdeal.main_arg1)
          ∧ r.2.mem ((c.tc : Thread Cert.GateKernelIdeal.nD Cert.GateKernelIdeal.τ).loc Cert.GateKernelIdeal.main_arg2) = m ((c.tc : Thread Cert.GateKernelIdeal.nD Cert.GateKernelIdeal.τ).loc Cert.GateKernelIdeal.main_arg2))
      ∧ θ_run (Cert.GateReferenceIdeal.defs (F := Ideal)) (onTc (τ := Cert.GateReferenceIdeal.τ) (Cert.GateReferenceIdeal.main (F := Ideal))) ⟨m', fun _ => 0, g'⟩ (fun r => ∀ c : Dev Cert.GateReferenceIdeal.nD,
          r.2.mem ((c.tc : Thread Cert.GateReferenceIdeal.nD Cert.GateReferenceIdeal.τ).loc Cert.GateReferenceIdeal.main_v14) = v0 c
          ∧ r.2.mem ((c.tc : Thread Cert.GateReferenceIdeal.nD Cert.GateReferenceIdeal.τ).loc Cert.GateReferenceIdeal.main_v15) = v1 c
          ∧ r.2.mem ((c.tc : Thread Cert.GateReferenceIdeal.nD Cert.GateReferenceIdeal.τ).loc Cert.GateReferenceIdeal.main_arg0) = m' ((c.tc : Thread Cert.GateReferenceIdeal.nD Cert.GateReferenceIdeal.τ).loc Cert.GateReferenceIdeal.main_arg0)
          ∧ r.2.mem ((c.tc : Thread Cert.GateReferenceIdeal.nD Cert.GateReferenceIdeal.τ).loc Cert.GateReferenceIdeal.main_arg1) = m' ((c.tc : Thread Cert.GateReferenceIdeal.nD Cert.GateReferenceIdeal.τ).loc Cert.GateReferenceIdeal.main_arg1)
          ∧ r.2.mem ((c.tc : Thread Cert.GateReferenceIdeal.nD Cert.GateReferenceIdeal.τ).loc Cert.GateReferenceIdeal.main_arg2) = m' ((c.tc : Thread Cert.GateReferenceIdeal.nD Cert.GateReferenceIdeal.τ).loc Cert.GateReferenceIdeal.main_arg2))

def preserves_FoxKernel_FoxKernelIdeal : Prop :=
  IdealRules.named_const.Statement Cert.FoxKernelIdeal.κ "mask" .f32 0xF149F2CA#32 ⊥

def algebraic_FoxKernelIdeal_FoxReferenceIdeal_pre_fox_finite [hFoxKernelIdeal : Cert.FoxKernelIdeal.Facts] [hFoxReferenceIdeal : Cert.FoxReferenceIdeal.Facts] [hPre_fox_finite : Cert.Pre_fox_finite.Facts] : Prop :=
  ∀ (m : (ℓ : Loc Cert.FoxKernelIdeal.nD Cert.FoxKernelIdeal.τ Cert.FoxKernelIdeal.sig) → Buf (Elt Ideal) ℓ) (g : Dev Cert.FoxKernelIdeal.nD → PrngReg)
    (m' : (ℓ : Loc Cert.FoxReferenceIdeal.nD Cert.FoxReferenceIdeal.τ Cert.FoxReferenceIdeal.sig) → Buf (Elt Ideal) ℓ) (g' : Dev Cert.FoxReferenceIdeal.nD → PrngReg), Pre_FoxKernelIdeal_fox_finite m →
    (∀ c : Dev Cert.FoxKernelIdeal.nD,
      m' ((c.tc : Thread Cert.FoxReferenceIdeal.nD Cert.FoxReferenceIdeal.τ).loc Cert.FoxReferenceIdeal.main_arg0) = m ((c.tc : Thread Cert.FoxKernelIdeal.nD Cert.FoxKernelIdeal.τ).loc Cert.FoxKernelIdeal.main_arg0)
      ∧ m' ((c.tc : Thread Cert.FoxReferenceIdeal.nD Cert.FoxReferenceIdeal.τ).loc Cert.FoxReferenceIdeal.main_arg1) = m ((c.tc : Thread Cert.FoxKernelIdeal.nD Cert.FoxKernelIdeal.τ).loc Cert.FoxKernelIdeal.main_arg1)
      ∧ m' ((c.tc : Thread Cert.FoxReferenceIdeal.nD Cert.FoxReferenceIdeal.τ).loc Cert.FoxReferenceIdeal.main_arg2) = m ((c.tc : Thread Cert.FoxKernelIdeal.nD Cert.FoxKernelIdeal.τ).loc Cert.FoxKernelIdeal.main_arg2)
      ∧ m' ((c.tc : Thread Cert.FoxReferenceIdeal.nD Cert.FoxReferenceIdeal.τ).loc Cert.FoxReferenceIdeal.main_arg3) = m ((c.tc : Thread Cert.FoxKernelIdeal.nD Cert.FoxKernelIdeal.τ).loc Cert.FoxKernelIdeal.main_arg3)
      ∧ m' ((c.tc : Thread Cert.FoxReferenceIdeal.nD Cert.FoxReferenceIdeal.τ).loc Cert.FoxReferenceIdeal.main_arg4) = m ((c.tc : Thread Cert.FoxKernelIdeal.nD Cert.FoxKernelIdeal.τ).loc Cert.FoxKernelIdeal.main_arg4)) →
    ∃ (v0 : (c : Dev Cert.FoxKernelIdeal.nD) → Buf (Elt Ideal) ((c.tc : Thread Cert.FoxKernelIdeal.nD Cert.FoxKernelIdeal.τ).loc Cert.FoxKernelIdeal.main_v78_0)) (v1 : (c : Dev Cert.FoxKernelIdeal.nD) → Buf (Elt Ideal) ((c.tc : Thread Cert.FoxKernelIdeal.nD Cert.FoxKernelIdeal.τ).loc Cert.FoxKernelIdeal.main_v78_1)),
      θ_run (Cert.FoxKernelIdeal.defs (F := Ideal)) (onTc (τ := Cert.FoxKernelIdeal.τ) (Cert.FoxKernelIdeal.main (F := Ideal))) ⟨m, fun _ => 0, g⟩ (fun r => ∀ c : Dev Cert.FoxKernelIdeal.nD,
          r.2.mem ((c.tc : Thread Cert.FoxKernelIdeal.nD Cert.FoxKernelIdeal.τ).loc Cert.FoxKernelIdeal.main_v78_0) = v0 c
          ∧ r.2.mem ((c.tc : Thread Cert.FoxKernelIdeal.nD Cert.FoxKernelIdeal.τ).loc Cert.FoxKernelIdeal.main_v78_1) = v1 c
          ∧ r.2.mem ((c.tc : Thread Cert.FoxKernelIdeal.nD Cert.FoxKernelIdeal.τ).loc Cert.FoxKernelIdeal.main_arg0) = m ((c.tc : Thread Cert.FoxKernelIdeal.nD Cert.FoxKernelIdeal.τ).loc Cert.FoxKernelIdeal.main_arg0)
          ∧ r.2.mem ((c.tc : Thread Cert.FoxKernelIdeal.nD Cert.FoxKernelIdeal.τ).loc Cert.FoxKernelIdeal.main_arg1) = m ((c.tc : Thread Cert.FoxKernelIdeal.nD Cert.FoxKernelIdeal.τ).loc Cert.FoxKernelIdeal.main_arg1)
          ∧ r.2.mem ((c.tc : Thread Cert.FoxKernelIdeal.nD Cert.FoxKernelIdeal.τ).loc Cert.FoxKernelIdeal.main_arg2) = m ((c.tc : Thread Cert.FoxKernelIdeal.nD Cert.FoxKernelIdeal.τ).loc Cert.FoxKernelIdeal.main_arg2)
          ∧ r.2.mem ((c.tc : Thread Cert.FoxKernelIdeal.nD Cert.FoxKernelIdeal.τ).loc Cert.FoxKernelIdeal.main_arg3) = m ((c.tc : Thread Cert.FoxKernelIdeal.nD Cert.FoxKernelIdeal.τ).loc Cert.FoxKernelIdeal.main_arg3)
          ∧ r.2.mem ((c.tc : Thread Cert.FoxKernelIdeal.nD Cert.FoxKernelIdeal.τ).loc Cert.FoxKernelIdeal.main_arg4) = m ((c.tc : Thread Cert.FoxKernelIdeal.nD Cert.FoxKernelIdeal.τ).loc Cert.FoxKernelIdeal.main_arg4))
      ∧ θ_run (Cert.FoxReferenceIdeal.defs (F := Ideal)) (onTc (τ := Cert.FoxReferenceIdeal.τ) (Cert.FoxReferenceIdeal.main (F := Ideal))) ⟨m', fun _ => 0, g'⟩ (fun r => ∀ c : Dev Cert.FoxReferenceIdeal.nD,
          r.2.mem ((c.tc : Thread Cert.FoxReferenceIdeal.nD Cert.FoxReferenceIdeal.τ).loc Cert.FoxReferenceIdeal.main_v95) = v0 c
          ∧ r.2.mem ((c.tc : Thread Cert.FoxReferenceIdeal.nD Cert.FoxReferenceIdeal.τ).loc Cert.FoxReferenceIdeal.main_v96) = v1 c
          ∧ r.2.mem ((c.tc : Thread Cert.FoxReferenceIdeal.nD Cert.FoxReferenceIdeal.τ).loc Cert.FoxReferenceIdeal.main_arg0) = m' ((c.tc : Thread Cert.FoxReferenceIdeal.nD Cert.FoxReferenceIdeal.τ).loc Cert.FoxReferenceIdeal.main_arg0)
          ∧ r.2.mem ((c.tc : Thread Cert.FoxReferenceIdeal.nD Cert.FoxReferenceIdeal.τ).loc Cert.FoxReferenceIdeal.main_arg1) = m' ((c.tc : Thread Cert.FoxReferenceIdeal.nD Cert.FoxReferenceIdeal.τ).loc Cert.FoxReferenceIdeal.main_arg1)
          ∧ r.2.mem ((c.tc : Thread Cert.FoxReferenceIdeal.nD Cert.FoxReferenceIdeal.τ).loc Cert.FoxReferenceIdeal.main_arg2) = m' ((c.tc : Thread Cert.FoxReferenceIdeal.nD Cert.FoxReferenceIdeal.τ).loc Cert.FoxReferenceIdeal.main_arg2)
          ∧ r.2.mem ((c.tc : Thread Cert.FoxReferenceIdeal.nD Cert.FoxReferenceIdeal.τ).loc Cert.FoxReferenceIdeal.main_arg3) = m' ((c.tc : Thread Cert.FoxReferenceIdeal.nD Cert.FoxReferenceIdeal.τ).loc Cert.FoxReferenceIdeal.main_arg3)
          ∧ r.2.mem ((c.tc : Thread Cert.FoxReferenceIdeal.nD Cert.FoxReferenceIdeal.τ).loc Cert.FoxReferenceIdeal.main_arg4) = m' ((c.tc : Thread Cert.FoxReferenceIdeal.nD Cert.FoxReferenceIdeal.τ).loc Cert.FoxReferenceIdeal.main_arg4))

def preserves_FoxFKernel_FoxFKernelIdeal : Prop :=
  IdealRules.named_const.Statement Cert.FoxFKernelIdeal.κ "mask" .f32 0xF149F2CA#32 ⊥

def algebraic_FoxFKernelIdeal_FoxFReferenceIdeal_pre_foxf_finite [hFoxFKernelIdeal : Cert.FoxFKernelIdeal.Facts] [hFoxFReferenceIdeal : Cert.FoxFReferenceIdeal.Facts] [hPre_foxf_finite : Cert.Pre_foxf_finite.Facts] : Prop :=
  ∀ (m : (ℓ : Loc Cert.FoxFKernelIdeal.nD Cert.FoxFKernelIdeal.τ Cert.FoxFKernelIdeal.sig) → Buf (Elt Ideal) ℓ) (g : Dev Cert.FoxFKernelIdeal.nD → PrngReg)
    (m' : (ℓ : Loc Cert.FoxFReferenceIdeal.nD Cert.FoxFReferenceIdeal.τ Cert.FoxFReferenceIdeal.sig) → Buf (Elt Ideal) ℓ) (g' : Dev Cert.FoxFReferenceIdeal.nD → PrngReg), Pre_FoxFKernelIdeal_foxf_finite m →
    (∀ c : Dev Cert.FoxFKernelIdeal.nD,
      m' ((c.tc : Thread Cert.FoxFReferenceIdeal.nD Cert.FoxFReferenceIdeal.τ).loc Cert.FoxFReferenceIdeal.main_arg0) = m ((c.tc : Thread Cert.FoxFKernelIdeal.nD Cert.FoxFKernelIdeal.τ).loc Cert.FoxFKernelIdeal.main_arg0)
      ∧ m' ((c.tc : Thread Cert.FoxFReferenceIdeal.nD Cert.FoxFReferenceIdeal.τ).loc Cert.FoxFReferenceIdeal.main_arg1) = m ((c.tc : Thread Cert.FoxFKernelIdeal.nD Cert.FoxFKernelIdeal.τ).loc Cert.FoxFKernelIdeal.main_arg1)
      ∧ m' ((c.tc : Thread Cert.FoxFReferenceIdeal.nD Cert.FoxFReferenceIdeal.τ).loc Cert.FoxFReferenceIdeal.main_arg2) = m ((c.tc : Thread Cert.FoxFKernelIdeal.nD Cert.FoxFKernelIdeal.τ).loc Cert.FoxFKernelIdeal.main_arg2)
      ∧ m' ((c.tc : Thread Cert.FoxFReferenceIdeal.nD Cert.FoxFReferenceIdeal.τ).loc Cert.FoxFReferenceIdeal.main_arg3) = m ((c.tc : Thread Cert.FoxFKernelIdeal.nD Cert.FoxFKernelIdeal.τ).loc Cert.FoxFKernelIdeal.main_arg3)) →
    ∃ (v0 : (c : Dev Cert.FoxFKernelIdeal.nD) → Buf (Elt Ideal) ((c.tc : Thread Cert.FoxFKernelIdeal.nD Cert.FoxFKernelIdeal.τ).loc Cert.FoxFKernelIdeal.main_v10_0)) (v1 : (c : Dev Cert.FoxFKernelIdeal.nD) → Buf (Elt Ideal) ((c.tc : Thread Cert.FoxFKernelIdeal.nD Cert.FoxFKernelIdeal.τ).loc Cert.FoxFKernelIdeal.main_v10_1)),
      θ_run (Cert.FoxFKernelIdeal.defs (F := Ideal)) (onTc (τ := Cert.FoxFKernelIdeal.τ) (Cert.FoxFKernelIdeal.main (F := Ideal))) ⟨m, fun _ => 0, g⟩ (fun r => ∀ c : Dev Cert.FoxFKernelIdeal.nD,
          r.2.mem ((c.tc : Thread Cert.FoxFKernelIdeal.nD Cert.FoxFKernelIdeal.τ).loc Cert.FoxFKernelIdeal.main_v10_0) = v0 c
          ∧ r.2.mem ((c.tc : Thread Cert.FoxFKernelIdeal.nD Cert.FoxFKernelIdeal.τ).loc Cert.FoxFKernelIdeal.main_v10_1) = v1 c
          ∧ r.2.mem ((c.tc : Thread Cert.FoxFKernelIdeal.nD Cert.FoxFKernelIdeal.τ).loc Cert.FoxFKernelIdeal.main_arg0) = m ((c.tc : Thread Cert.FoxFKernelIdeal.nD Cert.FoxFKernelIdeal.τ).loc Cert.FoxFKernelIdeal.main_arg0)
          ∧ r.2.mem ((c.tc : Thread Cert.FoxFKernelIdeal.nD Cert.FoxFKernelIdeal.τ).loc Cert.FoxFKernelIdeal.main_arg1) = m ((c.tc : Thread Cert.FoxFKernelIdeal.nD Cert.FoxFKernelIdeal.τ).loc Cert.FoxFKernelIdeal.main_arg1)
          ∧ r.2.mem ((c.tc : Thread Cert.FoxFKernelIdeal.nD Cert.FoxFKernelIdeal.τ).loc Cert.FoxFKernelIdeal.main_arg2) = m ((c.tc : Thread Cert.FoxFKernelIdeal.nD Cert.FoxFKernelIdeal.τ).loc Cert.FoxFKernelIdeal.main_arg2)
          ∧ r.2.mem ((c.tc : Thread Cert.FoxFKernelIdeal.nD Cert.FoxFKernelIdeal.τ).loc Cert.FoxFKernelIdeal.main_arg3) = m ((c.tc : Thread Cert.FoxFKernelIdeal.nD Cert.FoxFKernelIdeal.τ).loc Cert.FoxFKernelIdeal.main_arg3))
      ∧ θ_run (Cert.FoxFReferenceIdeal.defs (F := Ideal)) (onTc (τ := Cert.FoxFReferenceIdeal.τ) (Cert.FoxFReferenceIdeal.main (F := Ideal))) ⟨m', fun _ => 0, g'⟩ (fun r => ∀ c : Dev Cert.FoxFReferenceIdeal.nD,
          r.2.mem ((c.tc : Thread Cert.FoxFReferenceIdeal.nD Cert.FoxFReferenceIdeal.τ).loc Cert.FoxFReferenceIdeal.main_v62) = v0 c
          ∧ r.2.mem ((c.tc : Thread Cert.FoxFReferenceIdeal.nD Cert.FoxFReferenceIdeal.τ).loc Cert.FoxFReferenceIdeal.main_v63) = v1 c
          ∧ r.2.mem ((c.tc : Thread Cert.FoxFReferenceIdeal.nD Cert.FoxFReferenceIdeal.τ).loc Cert.FoxFReferenceIdeal.main_arg0) = m' ((c.tc : Thread Cert.FoxFReferenceIdeal.nD Cert.FoxFReferenceIdeal.τ).loc Cert.FoxFReferenceIdeal.main_arg0)
          ∧ r.2.mem ((c.tc : Thread Cert.FoxFReferenceIdeal.nD Cert.FoxFReferenceIdeal.τ).loc Cert.FoxFReferenceIdeal.main_arg1) = m' ((c.tc : Thread Cert.FoxFReferenceIdeal.nD Cert.FoxFReferenceIdeal.τ).loc Cert.FoxFReferenceIdeal.main_arg1)
          ∧ r.2.mem ((c.tc : Thread Cert.FoxFReferenceIdeal.nD Cert.FoxFReferenceIdeal.τ).loc Cert.FoxFReferenceIdeal.main_arg2) = m' ((c.tc : Thread Cert.FoxFReferenceIdeal.nD Cert.FoxFReferenceIdeal.τ).loc Cert.FoxFReferenceIdeal.main_arg2)
          ∧ r.2.mem ((c.tc : Thread Cert.FoxFReferenceIdeal.nD Cert.FoxFReferenceIdeal.τ).loc Cert.FoxFReferenceIdeal.main_arg3) = m' ((c.tc : Thread Cert.FoxFReferenceIdeal.nD Cert.FoxFReferenceIdeal.τ).loc Cert.FoxFReferenceIdeal.main_arg3))

def preserves_MlaKernel_MlaKernelIdeal : Prop :=
  IdealRules.named_const.Statement Cert.MlaKernelIdeal.κ "mask" .f32 0xF149F2CA#32 ⊥

def algebraic_MlaKernelIdeal_MlaReferenceIdeal_pre_mla_finite [hMlaKernelIdeal : Cert.MlaKernelIdeal.Facts] [hMlaReferenceIdeal : Cert.MlaReferenceIdeal.Facts] [hPre_mla_finite : Cert.Pre_mla_finite.Facts] : Prop :=
  ∀ (m : (ℓ : Loc Cert.MlaKernelIdeal.nD Cert.MlaKernelIdeal.τ Cert.MlaKernelIdeal.sig) → Buf (Elt Ideal) ℓ) (g : Dev Cert.MlaKernelIdeal.nD → PrngReg)
    (m' : (ℓ : Loc Cert.MlaReferenceIdeal.nD Cert.MlaReferenceIdeal.τ Cert.MlaReferenceIdeal.sig) → Buf (Elt Ideal) ℓ) (g' : Dev Cert.MlaReferenceIdeal.nD → PrngReg), Pre_MlaKernelIdeal_mla_finite m →
    (∀ c : Dev Cert.MlaKernelIdeal.nD,
      m' ((c.tc : Thread Cert.MlaReferenceIdeal.nD Cert.MlaReferenceIdeal.τ).loc Cert.MlaReferenceIdeal.main_arg0) = m ((c.tc : Thread Cert.MlaKernelIdeal.nD Cert.MlaKernelIdeal.τ).loc Cert.MlaKernelIdeal.main_arg0)
      ∧ m' ((c.tc : Thread Cert.MlaReferenceIdeal.nD Cert.MlaReferenceIdeal.τ).loc Cert.MlaReferenceIdeal.main_arg1) = m ((c.tc : Thread Cert.MlaKernelIdeal.nD Cert.MlaKernelIdeal.τ).loc Cert.MlaKernelIdeal.main_arg1)
      ∧ m' ((c.tc : Thread Cert.MlaReferenceIdeal.nD Cert.MlaReferenceIdeal.τ).loc Cert.MlaReferenceIdeal.main_arg2) = m ((c.tc : Thread Cert.MlaKernelIdeal.nD Cert.MlaKernelIdeal.τ).loc Cert.MlaKernelIdeal.main_arg2)
      ∧ m' ((c.tc : Thread Cert.MlaReferenceIdeal.nD Cert.MlaReferenceIdeal.τ).loc Cert.MlaReferenceIdeal.main_arg3) = m ((c.tc : Thread Cert.MlaKernelIdeal.nD Cert.MlaKernelIdeal.τ).loc Cert.MlaKernelIdeal.main_arg3)
      ∧ m' ((c.tc : Thread Cert.MlaReferenceIdeal.nD Cert.MlaReferenceIdeal.τ).loc Cert.MlaReferenceIdeal.main_arg4) = m ((c.tc : Thread Cert.MlaKernelIdeal.nD Cert.MlaKernelIdeal.τ).loc Cert.MlaKernelIdeal.main_arg4)) →
    ∃ (v0 : (c : Dev Cert.MlaKernelIdeal.nD) → Buf (Elt Ideal) ((c.tc : Thread Cert.MlaKernelIdeal.nD Cert.MlaKernelIdeal.τ).loc Cert.MlaKernelIdeal.main_v75_0)) (v1 : (c : Dev Cert.MlaKernelIdeal.nD) → Buf (Elt Ideal) ((c.tc : Thread Cert.MlaKernelIdeal.nD Cert.MlaKernelIdeal.τ).loc Cert.MlaKernelIdeal.main_v75_1)) (v2 : (c : Dev Cert.MlaKernelIdeal.nD) → Buf (Elt Ideal) ((c.tc : Thread Cert.MlaKernelIdeal.nD Cert.MlaKernelIdeal.τ).loc Cert.MlaKernelIdeal.main_v75_2)) (v3 : (c : Dev Cert.MlaKernelIdeal.nD) → Buf (Elt Ideal) ((c.tc : Thread Cert.MlaKernelIdeal.nD Cert.MlaKernelIdeal.τ).loc Cert.MlaKernelIdeal.main_v75_3)),
      θ_run (Cert.MlaKernelIdeal.defs (F := Ideal)) (onTc (τ := Cert.MlaKernelIdeal.τ) (Cert.MlaKernelIdeal.main (F := Ideal))) ⟨m, fun _ => 0, g⟩ (fun r => ∀ c : Dev Cert.MlaKernelIdeal.nD,
          r.2.mem ((c.tc : Thread Cert.MlaKernelIdeal.nD Cert.MlaKernelIdeal.τ).loc Cert.MlaKernelIdeal.main_v75_0) = v0 c
          ∧ r.2.mem ((c.tc : Thread Cert.MlaKernelIdeal.nD Cert.MlaKernelIdeal.τ).loc Cert.MlaKernelIdeal.main_v75_1) = v1 c
          ∧ r.2.mem ((c.tc : Thread Cert.MlaKernelIdeal.nD Cert.MlaKernelIdeal.τ).loc Cert.MlaKernelIdeal.main_v75_2) = v2 c
          ∧ r.2.mem ((c.tc : Thread Cert.MlaKernelIdeal.nD Cert.MlaKernelIdeal.τ).loc Cert.MlaKernelIdeal.main_v75_3) = v3 c
          ∧ r.2.mem ((c.tc : Thread Cert.MlaKernelIdeal.nD Cert.MlaKernelIdeal.τ).loc Cert.MlaKernelIdeal.main_arg0) = m ((c.tc : Thread Cert.MlaKernelIdeal.nD Cert.MlaKernelIdeal.τ).loc Cert.MlaKernelIdeal.main_arg0)
          ∧ r.2.mem ((c.tc : Thread Cert.MlaKernelIdeal.nD Cert.MlaKernelIdeal.τ).loc Cert.MlaKernelIdeal.main_arg1) = m ((c.tc : Thread Cert.MlaKernelIdeal.nD Cert.MlaKernelIdeal.τ).loc Cert.MlaKernelIdeal.main_arg1)
          ∧ r.2.mem ((c.tc : Thread Cert.MlaKernelIdeal.nD Cert.MlaKernelIdeal.τ).loc Cert.MlaKernelIdeal.main_arg2) = m ((c.tc : Thread Cert.MlaKernelIdeal.nD Cert.MlaKernelIdeal.τ).loc Cert.MlaKernelIdeal.main_arg2)
          ∧ r.2.mem ((c.tc : Thread Cert.MlaKernelIdeal.nD Cert.MlaKernelIdeal.τ).loc Cert.MlaKernelIdeal.main_arg3) = m ((c.tc : Thread Cert.MlaKernelIdeal.nD Cert.MlaKernelIdeal.τ).loc Cert.MlaKernelIdeal.main_arg3)
          ∧ r.2.mem ((c.tc : Thread Cert.MlaKernelIdeal.nD Cert.MlaKernelIdeal.τ).loc Cert.MlaKernelIdeal.main_arg4) = m ((c.tc : Thread Cert.MlaKernelIdeal.nD Cert.MlaKernelIdeal.τ).loc Cert.MlaKernelIdeal.main_arg4))
      ∧ θ_run (Cert.MlaReferenceIdeal.defs (F := Ideal)) (onTc (τ := Cert.MlaReferenceIdeal.τ) (Cert.MlaReferenceIdeal.main (F := Ideal))) ⟨m', fun _ => 0, g'⟩ (fun r => ∀ c : Dev Cert.MlaReferenceIdeal.nD,
          r.2.mem ((c.tc : Thread Cert.MlaReferenceIdeal.nD Cert.MlaReferenceIdeal.τ).loc Cert.MlaReferenceIdeal.main_v91) = v0 c
          ∧ r.2.mem ((c.tc : Thread Cert.MlaReferenceIdeal.nD Cert.MlaReferenceIdeal.τ).loc Cert.MlaReferenceIdeal.main_v92) = v1 c
          ∧ r.2.mem ((c.tc : Thread Cert.MlaReferenceIdeal.nD Cert.MlaReferenceIdeal.τ).loc Cert.MlaReferenceIdeal.main_v83) = v2 c
          ∧ r.2.mem ((c.tc : Thread Cert.MlaReferenceIdeal.nD Cert.MlaReferenceIdeal.τ).loc Cert.MlaReferenceIdeal.main_v86) = v3 c
          ∧ r.2.mem ((c.tc : Thread Cert.MlaReferenceIdeal.nD Cert.MlaReferenceIdeal.τ).loc Cert.MlaReferenceIdeal.main_arg0) = m' ((c.tc : Thread Cert.MlaReferenceIdeal.nD Cert.MlaReferenceIdeal.τ).loc Cert.MlaReferenceIdeal.main_arg0)
          ∧ r.2.mem ((c.tc : Thread Cert.MlaReferenceIdeal.nD Cert.MlaReferenceIdeal.τ).loc Cert.MlaReferenceIdeal.main_arg1) = m' ((c.tc : Thread Cert.MlaReferenceIdeal.nD Cert.MlaReferenceIdeal.τ).loc Cert.MlaReferenceIdeal.main_arg1)
          ∧ r.2.mem ((c.tc : Thread Cert.MlaReferenceIdeal.nD Cert.MlaReferenceIdeal.τ).loc Cert.MlaReferenceIdeal.main_arg2) = m' ((c.tc : Thread Cert.MlaReferenceIdeal.nD Cert.MlaReferenceIdeal.τ).loc Cert.MlaReferenceIdeal.main_arg2)
          ∧ r.2.mem ((c.tc : Thread Cert.MlaReferenceIdeal.nD Cert.MlaReferenceIdeal.τ).loc Cert.MlaReferenceIdeal.main_arg3) = m' ((c.tc : Thread Cert.MlaReferenceIdeal.nD Cert.MlaReferenceIdeal.τ).loc Cert.MlaReferenceIdeal.main_arg3)
          ∧ r.2.mem ((c.tc : Thread Cert.MlaReferenceIdeal.nD Cert.MlaReferenceIdeal.τ).loc Cert.MlaReferenceIdeal.main_arg4) = m' ((c.tc : Thread Cert.MlaReferenceIdeal.nD Cert.MlaReferenceIdeal.τ).loc Cert.MlaReferenceIdeal.main_arg4))

def preserves_SwiKernel_SwiKernelIdeal : Prop :=
  True

def algebraic_SwiKernelIdeal_SwiReferenceIdeal_pre_swi_finite [hSwiKernelIdeal : Cert.SwiKernelIdeal.Facts] [hSwiReferenceIdeal : Cert.SwiReferenceIdeal.Facts] [hPre_swi_finite : Cert.Pre_swi_finite.Facts] : Prop :=
  ∀ (m : (ℓ : Loc Cert.SwiKernelIdeal.nD Cert.SwiKernelIdeal.τ Cert.SwiKernelIdeal.sig) → Buf (Elt Ideal) ℓ) (g : Dev Cert.SwiKernelIdeal.nD → PrngReg)
    (m' : (ℓ : Loc Cert.SwiReferenceIdeal.nD Cert.SwiReferenceIdeal.τ Cert.SwiReferenceIdeal.sig) → Buf (Elt Ideal) ℓ) (g' : Dev Cert.SwiReferenceIdeal.nD → PrngReg), Pre_SwiKernelIdeal_swi_finite m →
    (∀ c : Dev Cert.SwiKernelIdeal.nD,
      m' ((c.tc : Thread Cert.SwiReferenceIdeal.nD Cert.SwiReferenceIdeal.τ).loc Cert.SwiReferenceIdeal.main_arg0) = m ((c.tc : Thread Cert.SwiKernelIdeal.nD Cert.SwiKernelIdeal.τ).loc Cert.SwiKernelIdeal.main_arg0)
      ∧ m' ((c.tc : Thread Cert.SwiReferenceIdeal.nD Cert.SwiReferenceIdeal.τ).loc Cert.SwiReferenceIdeal.main_arg1) = m ((c.tc : Thread Cert.SwiKernelIdeal.nD Cert.SwiKernelIdeal.τ).loc Cert.SwiKernelIdeal.main_arg1)
      ∧ m' ((c.tc : Thread Cert.SwiReferenceIdeal.nD Cert.SwiReferenceIdeal.τ).loc Cert.SwiReferenceIdeal.main_arg2) = m ((c.tc : Thread Cert.SwiKernelIdeal.nD Cert.SwiKernelIdeal.τ).loc Cert.SwiKernelIdeal.main_arg2)
      ∧ m' ((c.tc : Thread Cert.SwiReferenceIdeal.nD Cert.SwiReferenceIdeal.τ).loc Cert.SwiReferenceIdeal.main_arg3) = m ((c.tc : Thread Cert.SwiKernelIdeal.nD Cert.SwiKernelIdeal.τ).loc Cert.SwiKernelIdeal.main_arg3)
      ∧ m' ((c.tc : Thread Cert.SwiReferenceIdeal.nD Cert.SwiReferenceIdeal.τ).loc Cert.SwiReferenceIdeal.main_arg4) = m ((c.tc : Thread Cert.SwiKernelIdeal.nD Cert.SwiKernelIdeal.τ).loc Cert.SwiKernelIdeal.main_arg4)) →
    ∃ (v0 : (c : Dev Cert.SwiKernelIdeal.nD) → Buf (Elt Ideal) ((c.tc : Thread Cert.SwiKernelIdeal.nD Cert.SwiKernelIdeal.τ).loc Cert.SwiKernelIdeal.main_v20_0)) (v1 : (c : Dev Cert.SwiKernelIdeal.nD) → Buf (Elt Ideal) ((c.tc : Thread Cert.SwiKernelIdeal.nD Cert.SwiKernelIdeal.τ).loc Cert.SwiKernelIdeal.main_v20_1)),
      θ_run (Cert.SwiKernelIdeal.defs (F := Ideal)) (onTc (τ := Cert.SwiKernelIdeal.τ) (Cert.SwiKernelIdeal.main (F := Ideal))) ⟨m, fun _ => 0, g⟩ (fun r => ∀ c : Dev Cert.SwiKernelIdeal.nD,
          r.2.mem ((c.tc : Thread Cert.SwiKernelIdeal.nD Cert.SwiKernelIdeal.τ).loc Cert.SwiKernelIdeal.main_v20_0) = v0 c
          ∧ r.2.mem ((c.tc : Thread Cert.SwiKernelIdeal.nD Cert.SwiKernelIdeal.τ).loc Cert.SwiKernelIdeal.main_v20_1) = v1 c
          ∧ r.2.mem ((c.tc : Thread Cert.SwiKernelIdeal.nD Cert.SwiKernelIdeal.τ).loc Cert.SwiKernelIdeal.main_arg0) = m ((c.tc : Thread Cert.SwiKernelIdeal.nD Cert.SwiKernelIdeal.τ).loc Cert.SwiKernelIdeal.main_arg0)
          ∧ r.2.mem ((c.tc : Thread Cert.SwiKernelIdeal.nD Cert.SwiKernelIdeal.τ).loc Cert.SwiKernelIdeal.main_arg1) = m ((c.tc : Thread Cert.SwiKernelIdeal.nD Cert.SwiKernelIdeal.τ).loc Cert.SwiKernelIdeal.main_arg1)
          ∧ r.2.mem ((c.tc : Thread Cert.SwiKernelIdeal.nD Cert.SwiKernelIdeal.τ).loc Cert.SwiKernelIdeal.main_arg2) = m ((c.tc : Thread Cert.SwiKernelIdeal.nD Cert.SwiKernelIdeal.τ).loc Cert.SwiKernelIdeal.main_arg2)
          ∧ r.2.mem ((c.tc : Thread Cert.SwiKernelIdeal.nD Cert.SwiKernelIdeal.τ).loc Cert.SwiKernelIdeal.main_arg3) = m ((c.tc : Thread Cert.SwiKernelIdeal.nD Cert.SwiKernelIdeal.τ).loc Cert.SwiKernelIdeal.main_arg3)
          ∧ r.2.mem ((c.tc : Thread Cert.SwiKernelIdeal.nD Cert.SwiKernelIdeal.τ).loc Cert.SwiKernelIdeal.main_arg4) = m ((c.tc : Thread Cert.SwiKernelIdeal.nD Cert.SwiKernelIdeal.τ).loc Cert.SwiKernelIdeal.main_arg4))
      ∧ θ_run (Cert.SwiReferenceIdeal.defs (F := Ideal)) (onTc (τ := Cert.SwiReferenceIdeal.τ) (Cert.SwiReferenceIdeal.main (F := Ideal))) ⟨m', fun _ => 0, g'⟩ (fun r => ∀ c : Dev Cert.SwiReferenceIdeal.nD,
          r.2.mem ((c.tc : Thread Cert.SwiReferenceIdeal.nD Cert.SwiReferenceIdeal.τ).loc Cert.SwiReferenceIdeal.main_v9) = v0 c
          ∧ r.2.mem ((c.tc : Thread Cert.SwiReferenceIdeal.nD Cert.SwiReferenceIdeal.τ).loc Cert.SwiReferenceIdeal.main_v10) = v1 c
          ∧ r.2.mem ((c.tc : Thread Cert.SwiReferenceIdeal.nD Cert.SwiReferenceIdeal.τ).loc Cert.SwiReferenceIdeal.main_arg0) = m' ((c.tc : Thread Cert.SwiReferenceIdeal.nD Cert.SwiReferenceIdeal.τ).loc Cert.SwiReferenceIdeal.main_arg0)
          ∧ r.2.mem ((c.tc : Thread Cert.SwiReferenceIdeal.nD Cert.SwiReferenceIdeal.τ).loc Cert.SwiReferenceIdeal.main_arg1) = m' ((c.tc : Thread Cert.SwiReferenceIdeal.nD Cert.SwiReferenceIdeal.τ).loc Cert.SwiReferenceIdeal.main_arg1)
          ∧ r.2.mem ((c.tc : Thread Cert.SwiReferenceIdeal.nD Cert.SwiReferenceIdeal.τ).loc Cert.SwiReferenceIdeal.main_arg2) = m' ((c.tc : Thread Cert.SwiReferenceIdeal.nD Cert.SwiReferenceIdeal.τ).loc Cert.SwiReferenceIdeal.main_arg2)
          ∧ r.2.mem ((c.tc : Thread Cert.SwiReferenceIdeal.nD Cert.SwiReferenceIdeal.τ).loc Cert.SwiReferenceIdeal.main_arg3) = m' ((c.tc : Thread Cert.SwiReferenceIdeal.nD Cert.SwiReferenceIdeal.τ).loc Cert.SwiReferenceIdeal.main_arg3)
          ∧ r.2.mem ((c.tc : Thread Cert.SwiReferenceIdeal.nD Cert.SwiReferenceIdeal.τ).loc Cert.SwiReferenceIdeal.main_arg4) = m' ((c.tc : Thread Cert.SwiReferenceIdeal.nD Cert.SwiReferenceIdeal.τ).loc Cert.SwiReferenceIdeal.main_arg4))

def preserves_FfnKernel_FfnKernelIdeal : Prop :=
  True

def algebraic_FfnKernelIdeal_FfnReferenceIdeal_pre_ffn_finite [hFfnKernelIdeal : Cert.FfnKernelIdeal.Facts] [hFfnReferenceIdeal : Cert.FfnReferenceIdeal.Facts] [hPre_ffn_finite : Cert.Pre_ffn_finite.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnKernelIdeal_ffn_finite m →
    (∀ c : Dev Cert.FfnKernelIdeal.nD,
      m' ((c.tc : Thread Cert.FfnReferenceIdeal.nD Cert.FfnReferenceIdeal.τ).loc Cert.FfnReferenceIdeal.main_arg0) = m ((c.tc : Thread Cert.FfnKernelIdeal.nD Cert.FfnKernelIdeal.τ).loc Cert.FfnKernelIdeal.main_arg0)
      ∧ m' ((c.tc : Thread Cert.FfnReferenceIdeal.nD Cert.FfnReferenceIdeal.τ).loc Cert.FfnReferenceIdeal.main_arg1) = m ((c.tc : Thread Cert.FfnKernelIdeal.nD Cert.FfnKernelIdeal.τ).loc Cert.FfnKernelIdeal.main_arg1)
      ∧ m' ((c.tc : Thread Cert.FfnReferenceIdeal.nD Cert.FfnReferenceIdeal.τ).loc Cert.FfnReferenceIdeal.main_arg2) = m ((c.tc : Thread Cert.FfnKernelIdeal.nD Cert.FfnKernelIdeal.τ).loc Cert.FfnKernelIdeal.main_arg2)
      ∧ m' ((c.tc : Thread Cert.FfnReferenceIdeal.nD Cert.FfnReferenceIdeal.τ).loc Cert.FfnReferenceIdeal.main_arg3) = m ((c.tc : Thread Cert.FfnKernelIdeal.nD Cert.FfnKernelIdeal.τ).loc Cert.FfnKernelIdeal.main_arg3)
      ∧ m' ((c.tc : Thread Cert.FfnReferenceIdeal.nD Cert.FfnReferenceIdeal.τ).loc Cert.FfnReferenceIdeal.main_arg4) = m ((c.tc : Thread Cert.FfnKernelIdeal.nD Cert.FfnKernelIdeal.τ).loc Cert.FfnKernelIdeal.main_arg4)
      ∧ m' ((c.tc : Thread Cert.FfnReferenceIdeal.nD Cert.FfnReferenceIdeal.τ).loc Cert.FfnReferenceIdeal.main_arg5) = m ((c.tc : Thread Cert.FfnKernelIdeal.nD Cert.FfnKernelIdeal.τ).loc Cert.FfnKernelIdeal.main_arg5)
      ∧ m' ((c.tc : Thread Cert.FfnReferenceIdeal.nD Cert.FfnReferenceIdeal.τ).loc Cert.FfnReferenceIdeal.main_arg6) = m ((c.tc : Thread Cert.FfnKernelIdeal.nD Cert.FfnKernelIdeal.τ).loc Cert.FfnKernelIdeal.main_arg6)) →
    ∃ (v0 : (c : Dev Cert.FfnKernelIdeal.nD) → Buf (Elt Ideal) ((c.tc : Thread Cert.FfnKernelIdeal.nD Cert.FfnKernelIdeal.τ).loc Cert.FfnKernelIdeal.main_v6_0)) (v1 : (c : Dev Cert.FfnKernelIdeal.nD) → Buf (Elt Ideal) ((c.tc : Thread Cert.FfnKernelIdeal.nD Cert.FfnKernelIdeal.τ).loc Cert.FfnKernelIdeal.main_v6_1)) (v2 : (c : Dev Cert.FfnKernelIdeal.nD) → Buf (Elt Ideal) ((c.tc : Thread Cert.FfnKernelIdeal.nD Cert.FfnKernelIdeal.τ).loc Cert.FfnKernelIdeal.main_v6_2)),
      θ_run (Cert.FfnKernelIdeal.defs (F := Ideal)) (onTc (τ := Cert.FfnKernelIdeal.τ) (Cert.FfnKernelIdeal.main (F := Ideal))) ⟨m, fun _ => 0, g⟩ (fun r => ∀ c : Dev Cert.FfnKernelIdeal.nD,
          r.2.mem ((c.tc : Thread Cert.FfnKernelIdeal.nD Cert.FfnKernelIdeal.τ).loc Cert.FfnKernelIdeal.main_v6_0) = v0 c
          ∧ r.2.mem ((c.tc : Thread Cert.FfnKernelIdeal.nD Cert.FfnKernelIdeal.τ).loc Cert.FfnKernelIdeal.main_v6_1) = v1 c
          ∧ r.2.mem ((c.tc : Thread Cert.FfnKernelIdeal.nD Cert.FfnKernelIdeal.τ).loc Cert.FfnKernelIdeal.main_v6_2) = v2 c
          ∧ r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
          ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
          ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
          ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
          ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4)
          ∧ r.2.mem ((c.tc : Thread Cert.FfnKernelIdeal.nD Cert.FfnKernelIdeal.τ).loc Cert.FfnKernelIdeal.main_arg5) = m ((c.tc : Thread Cert.FfnKernelIdeal.nD Cert.FfnKernelIdeal.τ).loc Cert.FfnKernelIdeal.main_arg5)
          ∧ r.2.mem ((c.tc : Thread Cert.FfnKernelIdeal.nD Cert.FfnKernelIdeal.τ).loc Cert.FfnKernelIdeal.main_arg6) = m ((c.tc : Thread Cert.FfnKernelIdeal.nD Cert.FfnKernelIdeal.τ).loc Cert.FfnKernelIdeal.main_arg6))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v42) = v0 c
          ∧ r.2.mem ((c.tc : Thread Cert.FfnReferenceIdeal.nD Cert.FfnReferenceIdeal.τ).loc Cert.FfnReferenceIdeal.main_v43) = v1 c
          ∧ r.2.mem ((c.tc : Thread Cert.FfnReferenceIdeal.nD Cert.FfnReferenceIdeal.τ).loc Cert.FfnReferenceIdeal.main_v44) = v2 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4)
          ∧ r.2.mem ((c.tc : Thread Cert.FfnReferenceIdeal.nD Cert.FfnReferenceIdeal.τ).loc Cert.FfnReferenceIdeal.main_arg5) = m' ((c.tc : Thread Cert.FfnReferenceIdeal.nD Cert.FfnReferenceIdeal.τ).loc Cert.FfnReferenceIdeal.main_arg5)
          ∧ r.2.mem ((c.tc : Thread Cert.FfnReferenceIdeal.nD Cert.FfnReferenceIdeal.τ).loc Cert.FfnReferenceIdeal.main_arg6) = m' ((c.tc : Thread Cert.FfnReferenceIdeal.nD Cert.FfnReferenceIdeal.τ).loc Cert.FfnReferenceIdeal.main_arg6))

def preserves_LossKernel_LossKernelIdeal : Prop :=
  True

def algebraic_LossKernelIdeal_LossReferenceIdeal_pre_loss_finite [hLossKernelIdeal : Cert.LossKernelIdeal.Facts] [hLossReferenceIdeal : Cert.LossReferenceIdeal.Facts] [hPre_loss_finite : Cert.Pre_loss_finite.Facts] : Prop :=
  ∀ (m : (ℓ : Loc Cert.LossKernelIdeal.nD Cert.LossKernelIdeal.τ Cert.LossKernelIdeal.sig) → Buf (Elt Ideal) ℓ) (g : Dev Cert.LossKernelIdeal.nD → PrngReg)
    (m' : (ℓ : Loc Cert.LossReferenceIdeal.nD Cert.LossReferenceIdeal.τ Cert.LossReferenceIdeal.sig) → Buf (Elt Ideal) ℓ) (g' : Dev Cert.LossReferenceIdeal.nD → PrngReg), Pre_LossKernelIdeal_loss_finite m →
    (∀ c : Dev Cert.LossKernelIdeal.nD,
      m' ((c.tc : Thread Cert.LossReferenceIdeal.nD Cert.LossReferenceIdeal.τ).loc Cert.LossReferenceIdeal.main_arg0) = m ((c.tc : Thread Cert.LossKernelIdeal.nD Cert.LossKernelIdeal.τ).loc Cert.LossKernelIdeal.main_arg0)
      ∧ m' ((c.tc : Thread Cert.LossReferenceIdeal.nD Cert.LossReferenceIdeal.τ).loc Cert.LossReferenceIdeal.main_arg1) = m ((c.tc : Thread Cert.LossKernelIdeal.nD Cert.LossKernelIdeal.τ).loc Cert.LossKernelIdeal.main_arg1)
      ∧ m' ((c.tc : Thread Cert.LossReferenceIdeal.nD Cert.LossReferenceIdeal.τ).loc Cert.LossReferenceIdeal.main_arg2) = m ((c.tc : Thread Cert.LossKernelIdeal.nD Cert.LossKernelIdeal.τ).loc Cert.LossKernelIdeal.main_arg2)
      ∧ m' ((c.tc : Thread Cert.LossReferenceIdeal.nD Cert.LossReferenceIdeal.τ).loc Cert.LossReferenceIdeal.main_arg3) = m ((c.tc : Thread Cert.LossKernelIdeal.nD Cert.LossKernelIdeal.τ).loc Cert.LossKernelIdeal.main_arg3)
      ∧ m' ((c.tc : Thread Cert.LossReferenceIdeal.nD Cert.LossReferenceIdeal.τ).loc Cert.LossReferenceIdeal.main_arg4) = m ((c.tc : Thread Cert.LossKernelIdeal.nD Cert.LossKernelIdeal.τ).loc Cert.LossKernelIdeal.main_arg4)) →
    ∃ (v0 : (c : Dev Cert.LossKernelIdeal.nD) → Buf (Elt Ideal) ((c.tc : Thread Cert.LossKernelIdeal.nD Cert.LossKernelIdeal.τ).loc Cert.LossKernelIdeal.main_v3_0)) (v1 : (c : Dev Cert.LossKernelIdeal.nD) → Buf (Elt Ideal) ((c.tc : Thread Cert.LossKernelIdeal.nD Cert.LossKernelIdeal.τ).loc Cert.LossKernelIdeal.main_v3_1)) (v2 : (c : Dev Cert.LossKernelIdeal.nD) → Buf (Elt Ideal) ((c.tc : Thread Cert.LossKernelIdeal.nD Cert.LossKernelIdeal.τ).loc Cert.LossKernelIdeal.main_v3_2)) (v3 : (c : Dev Cert.LossKernelIdeal.nD) → Buf (Elt Ideal) ((c.tc : Thread Cert.LossKernelIdeal.nD Cert.LossKernelIdeal.τ).loc Cert.LossKernelIdeal.main_v3_3)),
      θ_run (Cert.LossKernelIdeal.defs (F := Ideal)) (onTc (τ := Cert.LossKernelIdeal.τ) (Cert.LossKernelIdeal.main (F := Ideal))) ⟨m, fun _ => 0, g⟩ (fun r => ∀ c : Dev Cert.LossKernelIdeal.nD,
          r.2.mem ((c.tc : Thread Cert.LossKernelIdeal.nD Cert.LossKernelIdeal.τ).loc Cert.LossKernelIdeal.main_v3_0) = v0 c
          ∧ r.2.mem ((c.tc : Thread Cert.LossKernelIdeal.nD Cert.LossKernelIdeal.τ).loc Cert.LossKernelIdeal.main_v3_1) = v1 c
          ∧ r.2.mem ((c.tc : Thread Cert.LossKernelIdeal.nD Cert.LossKernelIdeal.τ).loc Cert.LossKernelIdeal.main_v3_2) = v2 c
          ∧ r.2.mem ((c.tc : Thread Cert.LossKernelIdeal.nD Cert.LossKernelIdeal.τ).loc Cert.LossKernelIdeal.main_v3_3) = v3 c
          ∧ r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
          ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1)
          ∧ r.2.mem ((c.tc : Thread Cert.LossKernelIdeal.nD Cert.LossKernelIdeal.τ).loc Cert.LossKernelIdeal.main_arg2) = m ((c.tc : Thread Cert.LossKernelIdeal.nD Cert.LossKernelIdeal.τ).loc Cert.LossKernelIdeal.main_arg2)
          ∧ r.2.mem ((c.tc : Thread Cert.LossKernelIdeal.nD Cert.LossKernelIdeal.τ).loc Cert.LossKernelIdeal.main_arg3) = m ((c.tc : Thread Cert.LossKernelIdeal.nD Cert.LossKernelIdeal.τ).loc Cert.LossKernelIdeal.main_arg3)
          ∧ r.2.mem ((c.tc : Thread Cert.LossKernelIdeal.nD Cert.LossKernelIdeal.τ).loc Cert.LossKernelIdeal.main_arg4) = m ((c.tc : Thread Cert.LossKernelIdeal.nD Cert.LossKernelIdeal.τ).loc Cert.LossKernelIdeal.main_arg4))
      ∧ θ_run (Cert.LossReferenceIdeal.defs (F := Ideal)) (onTc (τ := Cert.LossReferenceIdeal.τ) (Cert.LossReferenceIdeal.main (F := Ideal))) ⟨m', fun _ => 0, g'⟩ (fun r => ∀ c : Dev Cert.LossReferenceIdeal.nD,
          r.2.mem ((c.tc : Thread Cert.LossReferenceIdeal.nD Cert.LossReferenceIdeal.τ).loc Cert.LossReferenceIdeal.main_v52) = v0 c
          ∧ r.2.mem ((c.tc : Thread Cert.LossReferenceIdeal.nD Cert.LossReferenceIdeal.τ).loc Cert.LossReferenceIdeal.main_v53) = v1 c
          ∧ r.2.mem ((c.tc : Thread Cert.LossReferenceIdeal.nD Cert.LossReferenceIdeal.τ).loc Cert.LossReferenceIdeal.main_v54) = v2 c
          ∧ r.2.mem ((c.tc : Thread Cert.LossReferenceIdeal.nD Cert.LossReferenceIdeal.τ).loc Cert.LossReferenceIdeal.main_v55) = v3 c
          ∧ r.2.mem ((c.tc : Thread Cert.LossReferenceIdeal.nD Cert.LossReferenceIdeal.τ).loc Cert.LossReferenceIdeal.main_arg0) = m' ((c.tc : Thread Cert.LossReferenceIdeal.nD Cert.LossReferenceIdeal.τ).loc Cert.LossReferenceIdeal.main_arg0)
          ∧ r.2.mem ((c.tc : Thread Cert.LossReferenceIdeal.nD Cert.LossReferenceIdeal.τ).loc Cert.LossReferenceIdeal.main_arg1) = m' ((c.tc : Thread Cert.LossReferenceIdeal.nD Cert.LossReferenceIdeal.τ).loc Cert.LossReferenceIdeal.main_arg1)
          ∧ r.2.mem ((c.tc : Thread Cert.LossReferenceIdeal.nD Cert.LossReferenceIdeal.τ).loc Cert.LossReferenceIdeal.main_arg2) = m' ((c.tc : Thread Cert.LossReferenceIdeal.nD Cert.LossReferenceIdeal.τ).loc Cert.LossReferenceIdeal.main_arg2)
          ∧ r.2.mem ((c.tc : Thread Cert.LossReferenceIdeal.nD Cert.LossReferenceIdeal.τ).loc Cert.LossReferenceIdeal.main_arg3) = m' ((c.tc : Thread Cert.LossReferenceIdeal.nD Cert.LossReferenceIdeal.τ).loc Cert.LossReferenceIdeal.main_arg3)
          ∧ r.2.mem ((c.tc : Thread Cert.LossReferenceIdeal.nD Cert.LossReferenceIdeal.τ).loc Cert.LossReferenceIdeal.main_arg4) = m' ((c.tc : Thread Cert.LossReferenceIdeal.nD Cert.LossReferenceIdeal.τ).loc Cert.LossReferenceIdeal.main_arg4))

def preserves_InpKernel_InpKernelIdeal : Prop :=
  True

def algebraic_InpKernelIdeal_InpReferenceIdeal_pre_inp_finite [hInpKernelIdeal : Cert.InpKernelIdeal.Facts] [hInpReferenceIdeal : Cert.InpReferenceIdeal.Facts] [hPre_inp_finite : Cert.Pre_inp_finite.Facts] : Prop :=
  ∀ (m : (ℓ : Loc Cert.InpKernelIdeal.nD Cert.InpKernelIdeal.τ Cert.InpKernelIdeal.sig) → Buf (Elt Ideal) ℓ) (g : Dev Cert.InpKernelIdeal.nD → PrngReg)
    (m' : (ℓ : Loc Cert.InpReferenceIdeal.nD Cert.InpReferenceIdeal.τ Cert.InpReferenceIdeal.sig) → Buf (Elt Ideal) ℓ) (g' : Dev Cert.InpReferenceIdeal.nD → PrngReg), Pre_InpKernelIdeal_inp_finite m →
    (∀ c : Dev Cert.InpKernelIdeal.nD,
      m' ((c.tc : Thread Cert.InpReferenceIdeal.nD Cert.InpReferenceIdeal.τ).loc Cert.InpReferenceIdeal.main_arg0) = m ((c.tc : Thread Cert.InpKernelIdeal.nD Cert.InpKernelIdeal.τ).loc Cert.InpKernelIdeal.main_arg0)
      ∧ m' ((c.tc : Thread Cert.InpReferenceIdeal.nD Cert.InpReferenceIdeal.τ).loc Cert.InpReferenceIdeal.main_arg1) = m ((c.tc : Thread Cert.InpKernelIdeal.nD Cert.InpKernelIdeal.τ).loc Cert.InpKernelIdeal.main_arg1)
      ∧ m' ((c.tc : Thread Cert.InpReferenceIdeal.nD Cert.InpReferenceIdeal.τ).loc Cert.InpReferenceIdeal.main_arg2) = m ((c.tc : Thread Cert.InpKernelIdeal.nD Cert.InpKernelIdeal.τ).loc Cert.InpKernelIdeal.main_arg2)
      ∧ m' ((c.tc : Thread Cert.InpReferenceIdeal.nD Cert.InpReferenceIdeal.τ).loc Cert.InpReferenceIdeal.main_arg3) = m ((c.tc : Thread Cert.InpKernelIdeal.nD Cert.InpKernelIdeal.τ).loc Cert.InpKernelIdeal.main_arg3)
      ∧ m' ((c.tc : Thread Cert.InpReferenceIdeal.nD Cert.InpReferenceIdeal.τ).loc Cert.InpReferenceIdeal.main_arg4) = m ((c.tc : Thread Cert.InpKernelIdeal.nD Cert.InpKernelIdeal.τ).loc Cert.InpKernelIdeal.main_arg4)
      ∧ m' ((c.tc : Thread Cert.InpReferenceIdeal.nD Cert.InpReferenceIdeal.τ).loc Cert.InpReferenceIdeal.main_arg5) = m ((c.tc : Thread Cert.InpKernelIdeal.nD Cert.InpKernelIdeal.τ).loc Cert.InpKernelIdeal.main_arg5)
      ∧ m' ((c.tc : Thread Cert.InpReferenceIdeal.nD Cert.InpReferenceIdeal.τ).loc Cert.InpReferenceIdeal.main_arg6) = m ((c.tc : Thread Cert.InpKernelIdeal.nD Cert.InpKernelIdeal.τ).loc Cert.InpKernelIdeal.main_arg6)) →
    ∃ (v0 : (c : Dev Cert.InpKernelIdeal.nD) → Buf (Elt Ideal) ((c.tc : Thread Cert.InpKernelIdeal.nD Cert.InpKernelIdeal.τ).loc Cert.InpKernelIdeal.main_v4_0)) (v1 : (c : Dev Cert.InpKernelIdeal.nD) → Buf (Elt Ideal) ((c.tc : Thread Cert.InpKernelIdeal.nD Cert.InpKernelIdeal.τ).loc Cert.InpKernelIdeal.main_v4_1)),
      θ_run (Cert.InpKernelIdeal.defs (F := Ideal)) (onTc (τ := Cert.InpKernelIdeal.τ) (Cert.InpKernelIdeal.main (F := Ideal))) ⟨m, fun _ => 0, g⟩ (fun r => ∀ c : Dev Cert.InpKernelIdeal.nD,
          r.2.mem ((c.tc : Thread Cert.InpKernelIdeal.nD Cert.InpKernelIdeal.τ).loc Cert.InpKernelIdeal.main_v4_0) = v0 c
          ∧ r.2.mem ((c.tc : Thread Cert.InpKernelIdeal.nD Cert.InpKernelIdeal.τ).loc Cert.InpKernelIdeal.main_v4_1) = v1 c
          ∧ r.2.mem ((c.tc : Thread Cert.InpKernelIdeal.nD Cert.InpKernelIdeal.τ).loc Cert.InpKernelIdeal.main_arg0) = m ((c.tc : Thread Cert.InpKernelIdeal.nD Cert.InpKernelIdeal.τ).loc Cert.InpKernelIdeal.main_arg0)
          ∧ r.2.mem ((c.tc : Thread Cert.InpKernelIdeal.nD Cert.InpKernelIdeal.τ).loc Cert.InpKernelIdeal.main_arg1) = m ((c.tc : Thread Cert.InpKernelIdeal.nD Cert.InpKernelIdeal.τ).loc Cert.InpKernelIdeal.main_arg1)
          ∧ r.2.mem ((c.tc : Thread Cert.InpKernelIdeal.nD Cert.InpKernelIdeal.τ).loc Cert.InpKernelIdeal.main_arg2) = m ((c.tc : Thread Cert.InpKernelIdeal.nD Cert.InpKernelIdeal.τ).loc Cert.InpKernelIdeal.main_arg2)
          ∧ r.2.mem ((c.tc : Thread Cert.InpKernelIdeal.nD Cert.InpKernelIdeal.τ).loc Cert.InpKernelIdeal.main_arg3) = m ((c.tc : Thread Cert.InpKernelIdeal.nD Cert.InpKernelIdeal.τ).loc Cert.InpKernelIdeal.main_arg3)
          ∧ r.2.mem ((c.tc : Thread Cert.InpKernelIdeal.nD Cert.InpKernelIdeal.τ).loc Cert.InpKernelIdeal.main_arg4) = m ((c.tc : Thread Cert.InpKernelIdeal.nD Cert.InpKernelIdeal.τ).loc Cert.InpKernelIdeal.main_arg4)
          ∧ r.2.mem ((c.tc : Thread Cert.InpKernelIdeal.nD Cert.InpKernelIdeal.τ).loc Cert.InpKernelIdeal.main_arg5) = m ((c.tc : Thread Cert.InpKernelIdeal.nD Cert.InpKernelIdeal.τ).loc Cert.InpKernelIdeal.main_arg5)
          ∧ r.2.mem ((c.tc : Thread Cert.InpKernelIdeal.nD Cert.InpKernelIdeal.τ).loc Cert.InpKernelIdeal.main_arg6) = m ((c.tc : Thread Cert.InpKernelIdeal.nD Cert.InpKernelIdeal.τ).loc Cert.InpKernelIdeal.main_arg6))
      ∧ θ_run (Cert.InpReferenceIdeal.defs (F := Ideal)) (onTc (τ := Cert.InpReferenceIdeal.τ) (Cert.InpReferenceIdeal.main (F := Ideal))) ⟨m', fun _ => 0, g'⟩ (fun r => ∀ c : Dev Cert.InpReferenceIdeal.nD,
          r.2.mem ((c.tc : Thread Cert.InpReferenceIdeal.nD Cert.InpReferenceIdeal.τ).loc Cert.InpReferenceIdeal.main_v42) = v0 c
          ∧ r.2.mem ((c.tc : Thread Cert.InpReferenceIdeal.nD Cert.InpReferenceIdeal.τ).loc Cert.InpReferenceIdeal.main_v43) = v1 c
          ∧ r.2.mem ((c.tc : Thread Cert.InpReferenceIdeal.nD Cert.InpReferenceIdeal.τ).loc Cert.InpReferenceIdeal.main_arg0) = m' ((c.tc : Thread Cert.InpReferenceIdeal.nD Cert.InpReferenceIdeal.τ).loc Cert.InpReferenceIdeal.main_arg0)
          ∧ r.2.mem ((c.tc : Thread Cert.InpReferenceIdeal.nD Cert.InpReferenceIdeal.τ).loc Cert.InpReferenceIdeal.main_arg1) = m' ((c.tc : Thread Cert.InpReferenceIdeal.nD Cert.InpReferenceIdeal.τ).loc Cert.InpReferenceIdeal.main_arg1)
          ∧ r.2.mem ((c.tc : Thread Cert.InpReferenceIdeal.nD Cert.InpReferenceIdeal.τ).loc Cert.InpReferenceIdeal.main_arg2) = m' ((c.tc : Thread Cert.InpReferenceIdeal.nD Cert.InpReferenceIdeal.τ).loc Cert.InpReferenceIdeal.main_arg2)
          ∧ r.2.mem ((c.tc : Thread Cert.InpReferenceIdeal.nD Cert.InpReferenceIdeal.τ).loc Cert.InpReferenceIdeal.main_arg3) = m' ((c.tc : Thread Cert.InpReferenceIdeal.nD Cert.InpReferenceIdeal.τ).loc Cert.InpReferenceIdeal.main_arg3)
          ∧ r.2.mem ((c.tc : Thread Cert.InpReferenceIdeal.nD Cert.InpReferenceIdeal.τ).loc Cert.InpReferenceIdeal.main_arg4) = m' ((c.tc : Thread Cert.InpReferenceIdeal.nD Cert.InpReferenceIdeal.τ).loc Cert.InpReferenceIdeal.main_arg4)
          ∧ r.2.mem ((c.tc : Thread Cert.InpReferenceIdeal.nD Cert.InpReferenceIdeal.τ).loc Cert.InpReferenceIdeal.main_arg5) = m' ((c.tc : Thread Cert.InpReferenceIdeal.nD Cert.InpReferenceIdeal.τ).loc Cert.InpReferenceIdeal.main_arg5)
          ∧ r.2.mem ((c.tc : Thread Cert.InpReferenceIdeal.nD Cert.InpReferenceIdeal.τ).loc Cert.InpReferenceIdeal.main_arg6) = m' ((c.tc : Thread Cert.InpReferenceIdeal.nD Cert.InpReferenceIdeal.τ).loc Cert.InpReferenceIdeal.main_arg6))

def preserves_MixKernel_MixKernelIdeal : Prop :=
  True

def algebraic_MixKernelIdeal_MixReferenceIdeal_pre_mix_finite [hMixKernelIdeal : Cert.MixKernelIdeal.Facts] [hMixReferenceIdeal : Cert.MixReferenceIdeal.Facts] [hPre_mix_finite : Cert.Pre_mix_finite.Facts] : Prop :=
  ∀ (m : (ℓ : Loc Cert.MixKernelIdeal.nD Cert.MixKernelIdeal.τ Cert.MixKernelIdeal.sig) → Buf (Elt Ideal) ℓ) (g : Dev Cert.MixKernelIdeal.nD → PrngReg)
    (m' : (ℓ : Loc Cert.MixReferenceIdeal.nD Cert.MixReferenceIdeal.τ Cert.MixReferenceIdeal.sig) → Buf (Elt Ideal) ℓ) (g' : Dev Cert.MixReferenceIdeal.nD → PrngReg), Pre_MixKernelIdeal_mix_finite m →
    (∀ c : Dev Cert.MixKernelIdeal.nD,
      m' ((c.tc : Thread Cert.MixReferenceIdeal.nD Cert.MixReferenceIdeal.τ).loc Cert.MixReferenceIdeal.main_arg0) = m ((c.tc : Thread Cert.MixKernelIdeal.nD Cert.MixKernelIdeal.τ).loc Cert.MixKernelIdeal.main_arg0)
      ∧ m' ((c.tc : Thread Cert.MixReferenceIdeal.nD Cert.MixReferenceIdeal.τ).loc Cert.MixReferenceIdeal.main_arg1) = m ((c.tc : Thread Cert.MixKernelIdeal.nD Cert.MixKernelIdeal.τ).loc Cert.MixKernelIdeal.main_arg1)
      ∧ m' ((c.tc : Thread Cert.MixReferenceIdeal.nD Cert.MixReferenceIdeal.τ).loc Cert.MixReferenceIdeal.main_arg2) = m ((c.tc : Thread Cert.MixKernelIdeal.nD Cert.MixKernelIdeal.τ).loc Cert.MixKernelIdeal.main_arg2)
      ∧ m' ((c.tc : Thread Cert.MixReferenceIdeal.nD Cert.MixReferenceIdeal.τ).loc Cert.MixReferenceIdeal.main_arg3) = m ((c.tc : Thread Cert.MixKernelIdeal.nD Cert.MixKernelIdeal.τ).loc Cert.MixKernelIdeal.main_arg3)
      ∧ m' ((c.tc : Thread Cert.MixReferenceIdeal.nD Cert.MixReferenceIdeal.τ).loc Cert.MixReferenceIdeal.main_arg4) = m ((c.tc : Thread Cert.MixKernelIdeal.nD Cert.MixKernelIdeal.τ).loc Cert.MixKernelIdeal.main_arg4)
      ∧ m' ((c.tc : Thread Cert.MixReferenceIdeal.nD Cert.MixReferenceIdeal.τ).loc Cert.MixReferenceIdeal.main_arg5) = m ((c.tc : Thread Cert.MixKernelIdeal.nD Cert.MixKernelIdeal.τ).loc Cert.MixKernelIdeal.main_arg5)) →
    ∃ (v0 : (c : Dev Cert.MixKernelIdeal.nD) → Buf (Elt Ideal) ((c.tc : Thread Cert.MixKernelIdeal.nD Cert.MixKernelIdeal.τ).loc Cert.MixKernelIdeal.main_v2_0)) (v1 : (c : Dev Cert.MixKernelIdeal.nD) → Buf (Elt Ideal) ((c.tc : Thread Cert.MixKernelIdeal.nD Cert.MixKernelIdeal.τ).loc Cert.MixKernelIdeal.main_v2_1)) (v2 : (c : Dev Cert.MixKernelIdeal.nD) → Buf (Elt Ideal) ((c.tc : Thread Cert.MixKernelIdeal.nD Cert.MixKernelIdeal.τ).loc Cert.MixKernelIdeal.main_v2_2)) (v3 : (c : Dev Cert.MixKernelIdeal.nD) → Buf (Elt Ideal) ((c.tc : Thread Cert.MixKernelIdeal.nD Cert.MixKernelIdeal.τ).loc Cert.MixKernelIdeal.main_v2_3)) (v4 : (c : Dev Cert.MixKernelIdeal.nD) → Buf (Elt Ideal) ((c.tc : Thread Cert.MixKernelIdeal.nD Cert.MixKernelIdeal.τ).loc Cert.MixKernelIdeal.main_v2_4)) (v5 : (c : Dev Cert.MixKernelIdeal.nD) → Buf (Elt Ideal) ((c.tc : Thread Cert.MixKernelIdeal.nD Cert.MixKernelIdeal.τ).loc Cert.MixKernelIdeal.main_v2_5)),
      θ_run (Cert.MixKernelIdeal.defs (F := Ideal)) (onTc (τ := Cert.MixKernelIdeal.τ) (Cert.MixKernelIdeal.main (F := Ideal))) ⟨m, fun _ => 0, g⟩ (fun r => ∀ c : Dev Cert.MixKernelIdeal.nD,
          r.2.mem ((c.tc : Thread Cert.MixKernelIdeal.nD Cert.MixKernelIdeal.τ).loc Cert.MixKernelIdeal.main_v2_0) = v0 c
          ∧ r.2.mem ((c.tc : Thread Cert.MixKernelIdeal.nD Cert.MixKernelIdeal.τ).loc Cert.MixKernelIdeal.main_v2_1) = v1 c
          ∧ r.2.mem ((c.tc : Thread Cert.MixKernelIdeal.nD Cert.MixKernelIdeal.τ).loc Cert.MixKernelIdeal.main_v2_2) = v2 c
          ∧ r.2.mem ((c.tc : Thread Cert.MixKernelIdeal.nD Cert.MixKernelIdeal.τ).loc Cert.MixKernelIdeal.main_v2_3) = v3 c
          ∧ r.2.mem ((c.tc : Thread Cert.MixKernelIdeal.nD Cert.MixKernelIdeal.τ).loc Cert.MixKernelIdeal.main_v2_4) = v4 c
          ∧ r.2.mem ((c.tc : Thread Cert.MixKernelIdeal.nD Cert.MixKernelIdeal.τ).loc Cert.MixKernelIdeal.main_v2_5) = v5 c
          ∧ r.2.mem ((c.tc : Thread Cert.MixKernelIdeal.nD Cert.MixKernelIdeal.τ).loc Cert.MixKernelIdeal.main_arg0) = m ((c.tc : Thread Cert.MixKernelIdeal.nD Cert.MixKernelIdeal.τ).loc Cert.MixKernelIdeal.main_arg0)
          ∧ r.2.mem ((c.tc : Thread Cert.MixKernelIdeal.nD Cert.MixKernelIdeal.τ).loc Cert.MixKernelIdeal.main_arg1) = m ((c.tc : Thread Cert.MixKernelIdeal.nD Cert.MixKernelIdeal.τ).loc Cert.MixKernelIdeal.main_arg1)
          ∧ r.2.mem ((c.tc : Thread Cert.MixKernelIdeal.nD Cert.MixKernelIdeal.τ).loc Cert.MixKernelIdeal.main_arg2) = m ((c.tc : Thread Cert.MixKernelIdeal.nD Cert.MixKernelIdeal.τ).loc Cert.MixKernelIdeal.main_arg2)
          ∧ r.2.mem ((c.tc : Thread Cert.MixKernelIdeal.nD Cert.MixKernelIdeal.τ).loc Cert.MixKernelIdeal.main_arg3) = m ((c.tc : Thread Cert.MixKernelIdeal.nD Cert.MixKernelIdeal.τ).loc Cert.MixKernelIdeal.main_arg3)
          ∧ r.2.mem ((c.tc : Thread Cert.MixKernelIdeal.nD Cert.MixKernelIdeal.τ).loc Cert.MixKernelIdeal.main_arg4) = m ((c.tc : Thread Cert.MixKernelIdeal.nD Cert.MixKernelIdeal.τ).loc Cert.MixKernelIdeal.main_arg4)
          ∧ r.2.mem ((c.tc : Thread Cert.MixKernelIdeal.nD Cert.MixKernelIdeal.τ).loc Cert.MixKernelIdeal.main_arg5) = m ((c.tc : Thread Cert.MixKernelIdeal.nD Cert.MixKernelIdeal.τ).loc Cert.MixKernelIdeal.main_arg5))
      ∧ θ_run (Cert.MixReferenceIdeal.defs (F := Ideal)) (onTc (τ := Cert.MixReferenceIdeal.τ) (Cert.MixReferenceIdeal.main (F := Ideal))) ⟨m', fun _ => 0, g'⟩ (fun r => ∀ c : Dev Cert.MixReferenceIdeal.nD,
          r.2.mem ((c.tc : Thread Cert.MixReferenceIdeal.nD Cert.MixReferenceIdeal.τ).loc Cert.MixReferenceIdeal.main_v79) = v0 c
          ∧ r.2.mem ((c.tc : Thread Cert.MixReferenceIdeal.nD Cert.MixReferenceIdeal.τ).loc Cert.MixReferenceIdeal.main_v80) = v1 c
          ∧ r.2.mem ((c.tc : Thread Cert.MixReferenceIdeal.nD Cert.MixReferenceIdeal.τ).loc Cert.MixReferenceIdeal.main_v83) = v2 c
          ∧ r.2.mem ((c.tc : Thread Cert.MixReferenceIdeal.nD Cert.MixReferenceIdeal.τ).loc Cert.MixReferenceIdeal.main_v86) = v3 c
          ∧ r.2.mem ((c.tc : Thread Cert.MixReferenceIdeal.nD Cert.MixReferenceIdeal.τ).loc Cert.MixReferenceIdeal.main_v87) = v4 c
          ∧ r.2.mem ((c.tc : Thread Cert.MixReferenceIdeal.nD Cert.MixReferenceIdeal.τ).loc Cert.MixReferenceIdeal.main_v88) = v5 c
          ∧ r.2.mem ((c.tc : Thread Cert.MixReferenceIdeal.nD Cert.MixReferenceIdeal.τ).loc Cert.MixReferenceIdeal.main_arg0) = m' ((c.tc : Thread Cert.MixReferenceIdeal.nD Cert.MixReferenceIdeal.τ).loc Cert.MixReferenceIdeal.main_arg0)
          ∧ r.2.mem ((c.tc : Thread Cert.MixReferenceIdeal.nD Cert.MixReferenceIdeal.τ).loc Cert.MixReferenceIdeal.main_arg1) = m' ((c.tc : Thread Cert.MixReferenceIdeal.nD Cert.MixReferenceIdeal.τ).loc Cert.MixReferenceIdeal.main_arg1)
          ∧ r.2.mem ((c.tc : Thread Cert.MixReferenceIdeal.nD Cert.MixReferenceIdeal.τ).loc Cert.MixReferenceIdeal.main_arg2) = m' ((c.tc : Thread Cert.MixReferenceIdeal.nD Cert.MixReferenceIdeal.τ).loc Cert.MixReferenceIdeal.main_arg2)
          ∧ r.2.mem ((c.tc : Thread Cert.MixReferenceIdeal.nD Cert.MixReferenceIdeal.τ).loc Cert.MixReferenceIdeal.main_arg3) = m' ((c.tc : Thread Cert.MixReferenceIdeal.nD Cert.MixReferenceIdeal.τ).loc Cert.MixReferenceIdeal.main_arg3)
          ∧ r.2.mem ((c.tc : Thread Cert.MixReferenceIdeal.nD Cert.MixReferenceIdeal.τ).loc Cert.MixReferenceIdeal.main_arg4) = m' ((c.tc : Thread Cert.MixReferenceIdeal.nD Cert.MixReferenceIdeal.τ).loc Cert.MixReferenceIdeal.main_arg4)
          ∧ r.2.mem ((c.tc : Thread Cert.MixReferenceIdeal.nD Cert.MixReferenceIdeal.τ).loc Cert.MixReferenceIdeal.main_arg5) = m' ((c.tc : Thread Cert.MixReferenceIdeal.nD Cert.MixReferenceIdeal.τ).loc Cert.MixReferenceIdeal.main_arg5))

def preserves_SwiFKernel_SwiFKernelIdeal : Prop :=
  True

def algebraic_SwiFKernelIdeal_SwiFReferenceIdeal_pre_swif_finite [hSwiFKernelIdeal : Cert.SwiFKernelIdeal.Facts] [hSwiFReferenceIdeal : Cert.SwiFReferenceIdeal.Facts] [hPre_swif_finite : Cert.Pre_swif_finite.Facts] : Prop :=
  ∀ (m : (ℓ : Loc Cert.SwiFKernelIdeal.nD Cert.SwiFKernelIdeal.τ Cert.SwiFKernelIdeal.sig) → Buf (Elt Ideal) ℓ) (g : Dev Cert.SwiFKernelIdeal.nD → PrngReg)
    (m' : (ℓ : Loc Cert.SwiFReferenceIdeal.nD Cert.SwiFReferenceIdeal.τ Cert.SwiFReferenceIdeal.sig) → Buf (Elt Ideal) ℓ) (g' : Dev Cert.SwiFReferenceIdeal.nD → PrngReg), Pre_SwiFKernelIdeal_swif_finite m →
    (∀ c : Dev Cert.SwiFKernelIdeal.nD,
      m' ((c.tc : Thread Cert.SwiFReferenceIdeal.nD Cert.SwiFReferenceIdeal.τ).loc Cert.SwiFReferenceIdeal.main_arg0) = m ((c.tc : Thread Cert.SwiFKernelIdeal.nD Cert.SwiFKernelIdeal.τ).loc Cert.SwiFKernelIdeal.main_arg0)
      ∧ m' ((c.tc : Thread Cert.SwiFReferenceIdeal.nD Cert.SwiFReferenceIdeal.τ).loc Cert.SwiFReferenceIdeal.main_arg1) = m ((c.tc : Thread Cert.SwiFKernelIdeal.nD Cert.SwiFKernelIdeal.τ).loc Cert.SwiFKernelIdeal.main_arg1)
      ∧ m' ((c.tc : Thread Cert.SwiFReferenceIdeal.nD Cert.SwiFReferenceIdeal.τ).loc Cert.SwiFReferenceIdeal.main_arg2) = m ((c.tc : Thread Cert.SwiFKernelIdeal.nD Cert.SwiFKernelIdeal.τ).loc Cert.SwiFKernelIdeal.main_arg2)) →
    ∃ (v0 : (c : Dev Cert.SwiFKernelIdeal.nD) → Buf (Elt Ideal) ((c.tc : Thread Cert.SwiFKernelIdeal.nD Cert.SwiFKernelIdeal.τ).loc Cert.SwiFKernelIdeal.main_v5_0)) (v1 : (c : Dev Cert.SwiFKernelIdeal.nD) → Buf (Elt Ideal) ((c.tc : Thread Cert.SwiFKernelIdeal.nD Cert.SwiFKernelIdeal.τ).loc Cert.SwiFKernelIdeal.main_v5_1)) (v2 : (c : Dev Cert.SwiFKernelIdeal.nD) → Buf (Elt Ideal) ((c.tc : Thread Cert.SwiFKernelIdeal.nD Cert.SwiFKernelIdeal.τ).loc Cert.SwiFKernelIdeal.main_v5_2)),
      θ_run (Cert.SwiFKernelIdeal.defs (F := Ideal)) (onTc (τ := Cert.SwiFKernelIdeal.τ) (Cert.SwiFKernelIdeal.main (F := Ideal))) ⟨m, fun _ => 0, g⟩ (fun r => ∀ c : Dev Cert.SwiFKernelIdeal.nD,
          r.2.mem ((c.tc : Thread Cert.SwiFKernelIdeal.nD Cert.SwiFKernelIdeal.τ).loc Cert.SwiFKernelIdeal.main_v5_0) = v0 c
          ∧ r.2.mem ((c.tc : Thread Cert.SwiFKernelIdeal.nD Cert.SwiFKernelIdeal.τ).loc Cert.SwiFKernelIdeal.main_v5_1) = v1 c
          ∧ r.2.mem ((c.tc : Thread Cert.SwiFKernelIdeal.nD Cert.SwiFKernelIdeal.τ).loc Cert.SwiFKernelIdeal.main_v5_2) = v2 c
          ∧ r.2.mem ((c.tc : Thread Cert.SwiFKernelIdeal.nD Cert.SwiFKernelIdeal.τ).loc Cert.SwiFKernelIdeal.main_arg0) = m ((c.tc : Thread Cert.SwiFKernelIdeal.nD Cert.SwiFKernelIdeal.τ).loc Cert.SwiFKernelIdeal.main_arg0)
          ∧ r.2.mem ((c.tc : Thread Cert.SwiFKernelIdeal.nD Cert.SwiFKernelIdeal.τ).loc Cert.SwiFKernelIdeal.main_arg1) = m ((c.tc : Thread Cert.SwiFKernelIdeal.nD Cert.SwiFKernelIdeal.τ).loc Cert.SwiFKernelIdeal.main_arg1)
          ∧ r.2.mem ((c.tc : Thread Cert.SwiFKernelIdeal.nD Cert.SwiFKernelIdeal.τ).loc Cert.SwiFKernelIdeal.main_arg2) = m ((c.tc : Thread Cert.SwiFKernelIdeal.nD Cert.SwiFKernelIdeal.τ).loc Cert.SwiFKernelIdeal.main_arg2))
      ∧ θ_run (Cert.SwiFReferenceIdeal.defs (F := Ideal)) (onTc (τ := Cert.SwiFReferenceIdeal.τ) (Cert.SwiFReferenceIdeal.main (F := Ideal))) ⟨m', fun _ => 0, g'⟩ (fun r => ∀ c : Dev Cert.SwiFReferenceIdeal.nD,
          r.2.mem ((c.tc : Thread Cert.SwiFReferenceIdeal.nD Cert.SwiFReferenceIdeal.τ).loc Cert.SwiFReferenceIdeal.main_v8) = v0 c
          ∧ r.2.mem ((c.tc : Thread Cert.SwiFReferenceIdeal.nD Cert.SwiFReferenceIdeal.τ).loc Cert.SwiFReferenceIdeal.main_v9) = v1 c
          ∧ r.2.mem ((c.tc : Thread Cert.SwiFReferenceIdeal.nD Cert.SwiFReferenceIdeal.τ).loc Cert.SwiFReferenceIdeal.main_v10) = v2 c
          ∧ r.2.mem ((c.tc : Thread Cert.SwiFReferenceIdeal.nD Cert.SwiFReferenceIdeal.τ).loc Cert.SwiFReferenceIdeal.main_arg0) = m' ((c.tc : Thread Cert.SwiFReferenceIdeal.nD Cert.SwiFReferenceIdeal.τ).loc Cert.SwiFReferenceIdeal.main_arg0)
          ∧ r.2.mem ((c.tc : Thread Cert.SwiFReferenceIdeal.nD Cert.SwiFReferenceIdeal.τ).loc Cert.SwiFReferenceIdeal.main_arg1) = m' ((c.tc : Thread Cert.SwiFReferenceIdeal.nD Cert.SwiFReferenceIdeal.τ).loc Cert.SwiFReferenceIdeal.main_arg1)
          ∧ r.2.mem ((c.tc : Thread Cert.SwiFReferenceIdeal.nD Cert.SwiFReferenceIdeal.τ).loc Cert.SwiFReferenceIdeal.main_arg2) = m' ((c.tc : Thread Cert.SwiFReferenceIdeal.nD Cert.SwiFReferenceIdeal.τ).loc Cert.SwiFReferenceIdeal.main_arg2))

def preserves_PrepKernel_PrepKernelIdeal : Prop :=
  True

def algebraic_PrepKernelIdeal_PrepReferenceIdeal_pre_prep_finite [hPrepKernelIdeal : Cert.PrepKernelIdeal.Facts] [hPrepReferenceIdeal : Cert.PrepReferenceIdeal.Facts] [hPre_prep_finite : Cert.Pre_prep_finite.Facts] : Prop :=
  ∀ (m : (ℓ : Loc Cert.PrepKernelIdeal.nD Cert.PrepKernelIdeal.τ Cert.PrepKernelIdeal.sig) → Buf (Elt Ideal) ℓ) (g : Dev Cert.PrepKernelIdeal.nD → PrngReg)
    (m' : (ℓ : Loc Cert.PrepReferenceIdeal.nD Cert.PrepReferenceIdeal.τ Cert.PrepReferenceIdeal.sig) → Buf (Elt Ideal) ℓ) (g' : Dev Cert.PrepReferenceIdeal.nD → PrngReg), Pre_PrepKernelIdeal_prep_finite m →
    (∀ c : Dev Cert.PrepKernelIdeal.nD,
      m' ((c.tc : Thread Cert.PrepReferenceIdeal.nD Cert.PrepReferenceIdeal.τ).loc Cert.PrepReferenceIdeal.main_arg0) = m ((c.tc : Thread Cert.PrepKernelIdeal.nD Cert.PrepKernelIdeal.τ).loc Cert.PrepKernelIdeal.main_arg0)
      ∧ m' ((c.tc : Thread Cert.PrepReferenceIdeal.nD Cert.PrepReferenceIdeal.τ).loc Cert.PrepReferenceIdeal.main_arg1) = m ((c.tc : Thread Cert.PrepKernelIdeal.nD Cert.PrepKernelIdeal.τ).loc Cert.PrepKernelIdeal.main_arg1)
      ∧ m' ((c.tc : Thread Cert.PrepReferenceIdeal.nD Cert.PrepReferenceIdeal.τ).loc Cert.PrepReferenceIdeal.main_arg2) = m ((c.tc : Thread Cert.PrepKernelIdeal.nD Cert.PrepKernelIdeal.τ).loc Cert.PrepKernelIdeal.main_arg2)
      ∧ m' ((c.tc : Thread Cert.PrepReferenceIdeal.nD Cert.PrepReferenceIdeal.τ).loc Cert.PrepReferenceIdeal.main_arg3) = m ((c.tc : Thread Cert.PrepKernelIdeal.nD Cert.PrepKernelIdeal.τ).loc Cert.PrepKernelIdeal.main_arg3)
      ∧ m' ((c.tc : Thread Cert.PrepReferenceIdeal.nD Cert.PrepReferenceIdeal.τ).loc Cert.PrepReferenceIdeal.main_arg4) = m ((c.tc : Thread Cert.PrepKernelIdeal.nD Cert.PrepKernelIdeal.τ).loc Cert.PrepKernelIdeal.main_arg4)
      ∧ m' ((c.tc : Thread Cert.PrepReferenceIdeal.nD Cert.PrepReferenceIdeal.τ).loc Cert.PrepReferenceIdeal.main_arg5) = m ((c.tc : Thread Cert.PrepKernelIdeal.nD Cert.PrepKernelIdeal.τ).loc Cert.PrepKernelIdeal.main_arg5)
      ∧ m' ((c.tc : Thread Cert.PrepReferenceIdeal.nD Cert.PrepReferenceIdeal.τ).loc Cert.PrepReferenceIdeal.main_arg6) = m ((c.tc : Thread Cert.PrepKernelIdeal.nD Cert.PrepKernelIdeal.τ).loc Cert.PrepKernelIdeal.main_arg6)
      ∧ m' ((c.tc : Thread Cert.PrepReferenceIdeal.nD Cert.PrepReferenceIdeal.τ).loc Cert.PrepReferenceIdeal.main_arg7) = m ((c.tc : Thread Cert.PrepKernelIdeal.nD Cert.PrepKernelIdeal.τ).loc Cert.PrepKernelIdeal.main_arg7)
      ∧ m' ((c.tc : Thread Cert.PrepReferenceIdeal.nD Cert.PrepReferenceIdeal.τ).loc Cert.PrepReferenceIdeal.main_arg8) = m ((c.tc : Thread Cert.PrepKernelIdeal.nD Cert.PrepKernelIdeal.τ).loc Cert.PrepKernelIdeal.main_arg8)
      ∧ m' ((c.tc : Thread Cert.PrepReferenceIdeal.nD Cert.PrepReferenceIdeal.τ).loc Cert.PrepReferenceIdeal.main_arg9) = m ((c.tc : Thread Cert.PrepKernelIdeal.nD Cert.PrepKernelIdeal.τ).loc Cert.PrepKernelIdeal.main_arg9)
      ∧ m' ((c.tc : Thread Cert.PrepReferenceIdeal.nD Cert.PrepReferenceIdeal.τ).loc Cert.PrepReferenceIdeal.main_arg10) = m ((c.tc : Thread Cert.PrepKernelIdeal.nD Cert.PrepKernelIdeal.τ).loc Cert.PrepKernelIdeal.main_arg10)
      ∧ m' ((c.tc : Thread Cert.PrepReferenceIdeal.nD Cert.PrepReferenceIdeal.τ).loc Cert.PrepReferenceIdeal.main_arg11) = m ((c.tc : Thread Cert.PrepKernelIdeal.nD Cert.PrepKernelIdeal.τ).loc Cert.PrepKernelIdeal.main_arg11)) →
    ∃ (v0 : (c : Dev Cert.PrepKernelIdeal.nD) → Buf (Elt Ideal) ((c.tc : Thread Cert.PrepKernelIdeal.nD Cert.PrepKernelIdeal.τ).loc Cert.PrepKernelIdeal.main_v64_0)) (v1 : (c : Dev Cert.PrepKernelIdeal.nD) → Buf (Elt Ideal) ((c.tc : Thread Cert.PrepKernelIdeal.nD Cert.PrepKernelIdeal.τ).loc Cert.PrepKernelIdeal.main_v64_1)) (v2 : (c : Dev Cert.PrepKernelIdeal.nD) → Buf (Elt Ideal) ((c.tc : Thread Cert.PrepKernelIdeal.nD Cert.PrepKernelIdeal.τ).loc Cert.PrepKernelIdeal.main_v64_2)) (v3 : (c : Dev Cert.PrepKernelIdeal.nD) → Buf (Elt Ideal) ((c.tc : Thread Cert.PrepKernelIdeal.nD Cert.PrepKernelIdeal.τ).loc Cert.PrepKernelIdeal.main_v64_3)),
      θ_run (Cert.PrepKernelIdeal.defs (F := Ideal)) (onTc (τ := Cert.PrepKernelIdeal.τ) (Cert.PrepKernelIdeal.main (F := Ideal))) ⟨m, fun _ => 0, g⟩ (fun r => ∀ c : Dev Cert.PrepKernelIdeal.nD,
          r.2.mem ((c.tc : Thread Cert.PrepKernelIdeal.nD Cert.PrepKernelIdeal.τ).loc Cert.PrepKernelIdeal.main_v64_0) = v0 c
          ∧ r.2.mem ((c.tc : Thread Cert.PrepKernelIdeal.nD Cert.PrepKernelIdeal.τ).loc Cert.PrepKernelIdeal.main_v64_1) = v1 c
          ∧ r.2.mem ((c.tc : Thread Cert.PrepKernelIdeal.nD Cert.PrepKernelIdeal.τ).loc Cert.PrepKernelIdeal.main_v64_2) = v2 c
          ∧ r.2.mem ((c.tc : Thread Cert.PrepKernelIdeal.nD Cert.PrepKernelIdeal.τ).loc Cert.PrepKernelIdeal.main_v64_3) = v3 c
          ∧ r.2.mem ((c.tc : Thread Cert.PrepKernelIdeal.nD Cert.PrepKernelIdeal.τ).loc Cert.PrepKernelIdeal.main_arg0) = m ((c.tc : Thread Cert.PrepKernelIdeal.nD Cert.PrepKernelIdeal.τ).loc Cert.PrepKernelIdeal.main_arg0)
          ∧ r.2.mem ((c.tc : Thread Cert.PrepKernelIdeal.nD Cert.PrepKernelIdeal.τ).loc Cert.PrepKernelIdeal.main_arg1) = m ((c.tc : Thread Cert.PrepKernelIdeal.nD Cert.PrepKernelIdeal.τ).loc Cert.PrepKernelIdeal.main_arg1)
          ∧ r.2.mem ((c.tc : Thread Cert.PrepKernelIdeal.nD Cert.PrepKernelIdeal.τ).loc Cert.PrepKernelIdeal.main_arg2) = m ((c.tc : Thread Cert.PrepKernelIdeal.nD Cert.PrepKernelIdeal.τ).loc Cert.PrepKernelIdeal.main_arg2)
          ∧ r.2.mem ((c.tc : Thread Cert.PrepKernelIdeal.nD Cert.PrepKernelIdeal.τ).loc Cert.PrepKernelIdeal.main_arg3) = m ((c.tc : Thread Cert.PrepKernelIdeal.nD Cert.PrepKernelIdeal.τ).loc Cert.PrepKernelIdeal.main_arg3)
          ∧ r.2.mem ((c.tc : Thread Cert.PrepKernelIdeal.nD Cert.PrepKernelIdeal.τ).loc Cert.PrepKernelIdeal.main_arg4) = m ((c.tc : Thread Cert.PrepKernelIdeal.nD Cert.PrepKernelIdeal.τ).loc Cert.PrepKernelIdeal.main_arg4)
          ∧ r.2.mem ((c.tc : Thread Cert.PrepKernelIdeal.nD Cert.PrepKernelIdeal.τ).loc Cert.PrepKernelIdeal.main_arg5) = m ((c.tc : Thread Cert.PrepKernelIdeal.nD Cert.PrepKernelIdeal.τ).loc Cert.PrepKernelIdeal.main_arg5)
          ∧ r.2.mem ((c.tc : Thread Cert.PrepKernelIdeal.nD Cert.PrepKernelIdeal.τ).loc Cert.PrepKernelIdeal.main_arg6) = m ((c.tc : Thread Cert.PrepKernelIdeal.nD Cert.PrepKernelIdeal.τ).loc Cert.PrepKernelIdeal.main_arg6)
          ∧ r.2.mem ((c.tc : Thread Cert.PrepKernelIdeal.nD Cert.PrepKernelIdeal.τ).loc Cert.PrepKernelIdeal.main_arg7) = m ((c.tc : Thread Cert.PrepKernelIdeal.nD Cert.PrepKernelIdeal.τ).loc Cert.PrepKernelIdeal.main_arg7)
          ∧ r.2.mem ((c.tc : Thread Cert.PrepKernelIdeal.nD Cert.PrepKernelIdeal.τ).loc Cert.PrepKernelIdeal.main_arg8) = m ((c.tc : Thread Cert.PrepKernelIdeal.nD Cert.PrepKernelIdeal.τ).loc Cert.PrepKernelIdeal.main_arg8)
          ∧ r.2.mem ((c.tc : Thread Cert.PrepKernelIdeal.nD Cert.PrepKernelIdeal.τ).loc Cert.PrepKernelIdeal.main_arg9) = m ((c.tc : Thread Cert.PrepKernelIdeal.nD Cert.PrepKernelIdeal.τ).loc Cert.PrepKernelIdeal.main_arg9)
          ∧ r.2.mem ((c.tc : Thread Cert.PrepKernelIdeal.nD Cert.PrepKernelIdeal.τ).loc Cert.PrepKernelIdeal.main_arg10) = m ((c.tc : Thread Cert.PrepKernelIdeal.nD Cert.PrepKernelIdeal.τ).loc Cert.PrepKernelIdeal.main_arg10)
          ∧ r.2.mem ((c.tc : Thread Cert.PrepKernelIdeal.nD Cert.PrepKernelIdeal.τ).loc Cert.PrepKernelIdeal.main_arg11) = m ((c.tc : Thread Cert.PrepKernelIdeal.nD Cert.PrepKernelIdeal.τ).loc Cert.PrepKernelIdeal.main_arg11))
      ∧ θ_run (Cert.PrepReferenceIdeal.defs (F := Ideal)) (onTc (τ := Cert.PrepReferenceIdeal.τ) (Cert.PrepReferenceIdeal.main (F := Ideal))) ⟨m', fun _ => 0, g'⟩ (fun r => ∀ c : Dev Cert.PrepReferenceIdeal.nD,
          r.2.mem ((c.tc : Thread Cert.PrepReferenceIdeal.nD Cert.PrepReferenceIdeal.τ).loc Cert.PrepReferenceIdeal.main_v180) = v0 c
          ∧ r.2.mem ((c.tc : Thread Cert.PrepReferenceIdeal.nD Cert.PrepReferenceIdeal.τ).loc Cert.PrepReferenceIdeal.main_v181) = v1 c
          ∧ r.2.mem ((c.tc : Thread Cert.PrepReferenceIdeal.nD Cert.PrepReferenceIdeal.τ).loc Cert.PrepReferenceIdeal.main_v182) = v2 c
          ∧ r.2.mem ((c.tc : Thread Cert.PrepReferenceIdeal.nD Cert.PrepReferenceIdeal.τ).loc Cert.PrepReferenceIdeal.main_v183) = v3 c
          ∧ r.2.mem ((c.tc : Thread Cert.PrepReferenceIdeal.nD Cert.PrepReferenceIdeal.τ).loc Cert.PrepReferenceIdeal.main_arg0) = m' ((c.tc : Thread Cert.PrepReferenceIdeal.nD Cert.PrepReferenceIdeal.τ).loc Cert.PrepReferenceIdeal.main_arg0)
          ∧ r.2.mem ((c.tc : Thread Cert.PrepReferenceIdeal.nD Cert.PrepReferenceIdeal.τ).loc Cert.PrepReferenceIdeal.main_arg1) = m' ((c.tc : Thread Cert.PrepReferenceIdeal.nD Cert.PrepReferenceIdeal.τ).loc Cert.PrepReferenceIdeal.main_arg1)
          ∧ r.2.mem ((c.tc : Thread Cert.PrepReferenceIdeal.nD Cert.PrepReferenceIdeal.τ).loc Cert.PrepReferenceIdeal.main_arg2) = m' ((c.tc : Thread Cert.PrepReferenceIdeal.nD Cert.PrepReferenceIdeal.τ).loc Cert.PrepReferenceIdeal.main_arg2)
          ∧ r.2.mem ((c.tc : Thread Cert.PrepReferenceIdeal.nD Cert.PrepReferenceIdeal.τ).loc Cert.PrepReferenceIdeal.main_arg3) = m' ((c.tc : Thread Cert.PrepReferenceIdeal.nD Cert.PrepReferenceIdeal.τ).loc Cert.PrepReferenceIdeal.main_arg3)
          ∧ r.2.mem ((c.tc : Thread Cert.PrepReferenceIdeal.nD Cert.PrepReferenceIdeal.τ).loc Cert.PrepReferenceIdeal.main_arg4) = m' ((c.tc : Thread Cert.PrepReferenceIdeal.nD Cert.PrepReferenceIdeal.τ).loc Cert.PrepReferenceIdeal.main_arg4)
          ∧ r.2.mem ((c.tc : Thread Cert.PrepReferenceIdeal.nD Cert.PrepReferenceIdeal.τ).loc Cert.PrepReferenceIdeal.main_arg5) = m' ((c.tc : Thread Cert.PrepReferenceIdeal.nD Cert.PrepReferenceIdeal.τ).loc Cert.PrepReferenceIdeal.main_arg5)
          ∧ r.2.mem ((c.tc : Thread Cert.PrepReferenceIdeal.nD Cert.PrepReferenceIdeal.τ).loc Cert.PrepReferenceIdeal.main_arg6) = m' ((c.tc : Thread Cert.PrepReferenceIdeal.nD Cert.PrepReferenceIdeal.τ).loc Cert.PrepReferenceIdeal.main_arg6)
          ∧ r.2.mem ((c.tc : Thread Cert.PrepReferenceIdeal.nD Cert.PrepReferenceIdeal.τ).loc Cert.PrepReferenceIdeal.main_arg7) = m' ((c.tc : Thread Cert.PrepReferenceIdeal.nD Cert.PrepReferenceIdeal.τ).loc Cert.PrepReferenceIdeal.main_arg7)
          ∧ r.2.mem ((c.tc : Thread Cert.PrepReferenceIdeal.nD Cert.PrepReferenceIdeal.τ).loc Cert.PrepReferenceIdeal.main_arg8) = m' ((c.tc : Thread Cert.PrepReferenceIdeal.nD Cert.PrepReferenceIdeal.τ).loc Cert.PrepReferenceIdeal.main_arg8)
          ∧ r.2.mem ((c.tc : Thread Cert.PrepReferenceIdeal.nD Cert.PrepReferenceIdeal.τ).loc Cert.PrepReferenceIdeal.main_arg9) = m' ((c.tc : Thread Cert.PrepReferenceIdeal.nD Cert.PrepReferenceIdeal.τ).loc Cert.PrepReferenceIdeal.main_arg9)
          ∧ r.2.mem ((c.tc : Thread Cert.PrepReferenceIdeal.nD Cert.PrepReferenceIdeal.τ).loc Cert.PrepReferenceIdeal.main_arg10) = m' ((c.tc : Thread Cert.PrepReferenceIdeal.nD Cert.PrepReferenceIdeal.τ).loc Cert.PrepReferenceIdeal.main_arg10)
          ∧ r.2.mem ((c.tc : Thread Cert.PrepReferenceIdeal.nD Cert.PrepReferenceIdeal.τ).loc Cert.PrepReferenceIdeal.main_arg11) = m' ((c.tc : Thread Cert.PrepReferenceIdeal.nD Cert.PrepReferenceIdeal.τ).loc Cert.PrepReferenceIdeal.main_arg11))

def Claim : Prop :=
  ∃ (hGateKernel : Cert.GateKernel.Facts) (hGateKernelIdeal : Cert.GateKernelIdeal.Facts) (hGateReferenceIdeal : Cert.GateReferenceIdeal.Facts) (hFoxKernel : Cert.FoxKernel.Facts) (hFoxKernelIdeal : Cert.FoxKernelIdeal.Facts) (hFoxReferenceIdeal : Cert.FoxReferenceIdeal.Facts) (hFoxFKernel : Cert.FoxFKernel.Facts) (hFoxFKernelIdeal : Cert.FoxFKernelIdeal.Facts) (hFoxFReferenceIdeal : Cert.FoxFReferenceIdeal.Facts) (hMlaKernel : Cert.MlaKernel.Facts) (hMlaKernelIdeal : Cert.MlaKernelIdeal.Facts) (hMlaReferenceIdeal : Cert.MlaReferenceIdeal.Facts) (hSwiKernel : Cert.SwiKernel.Facts) (hSwiKernelIdeal : Cert.SwiKernelIdeal.Facts) (hSwiReferenceIdeal : Cert.SwiReferenceIdeal.Facts) (hFfnKernel : Cert.FfnKernel.Facts) (hFfnKernelIdeal : Cert.FfnKernelIdeal.Facts) (hFfnReferenceIdeal : Cert.FfnReferenceIdeal.Facts) (hLossKernel : Cert.LossKernel.Facts) (hLossKernelIdeal : Cert.LossKernelIdeal.Facts) (hLossReferenceIdeal : Cert.LossReferenceIdeal.Facts) (hInpKernel : Cert.InpKernel.Facts) (hInpKernelIdeal : Cert.InpKernelIdeal.Facts) (hInpReferenceIdeal : Cert.InpReferenceIdeal.Facts) (hMixKernel : Cert.MixKernel.Facts) (hMixKernelIdeal : Cert.MixKernelIdeal.Facts) (hMixReferenceIdeal : Cert.MixReferenceIdeal.Facts) (hSwiFKernel : Cert.SwiFKernel.Facts) (hSwiFKernelIdeal : Cert.SwiFKernelIdeal.Facts) (hSwiFReferenceIdeal : Cert.SwiFReferenceIdeal.Facts) (hPrepKernel : Cert.PrepKernel.Facts) (hPrepKernelIdeal : Cert.PrepKernelIdeal.Facts) (hPrepReferenceIdeal : Cert.PrepReferenceIdeal.Facts) (hPre_gate_finite : Cert.Pre_gate_finite.Facts) (hPre_fox_finite : Cert.Pre_fox_finite.Facts) (hPre_foxf_finite : Cert.Pre_foxf_finite.Facts) (hPre_mla_finite : Cert.Pre_mla_finite.Facts) (hPre_swi_finite : Cert.Pre_swi_finite.Facts) (hPre_ffn_finite : Cert.Pre_ffn_finite.Facts) (hPre_loss_finite : Cert.Pre_loss_finite.Facts) (hPre_inp_finite : Cert.Pre_inp_finite.Facts) (hPre_mix_finite : Cert.Pre_mix_finite.Facts) (hPre_swif_finite : Cert.Pre_swif_finite.Facts) (hPre_prep_finite : Cert.Pre_prep_finite.Facts),
    quiescent_GateKernel (hGateKernel := hGateKernel)
    ∧ quiescent_GateKernelIdeal (hGateKernelIdeal := hGateKernelIdeal)
    ∧ quiescent_GateKernelIdeal_pre_gate_finite (hGateKernelIdeal := hGateKernelIdeal) (hPre_gate_finite := hPre_gate_finite)
    ∧ quiescent_GateReferenceIdeal (hGateReferenceIdeal := hGateReferenceIdeal)
    ∧ quiescent_GateReferenceIdeal_pre_gate_finite (hGateReferenceIdeal := hGateReferenceIdeal) (hPre_gate_finite := hPre_gate_finite)
    ∧ quiescent_FoxKernel (hFoxKernel := hFoxKernel)
    ∧ quiescent_FoxKernelIdeal (hFoxKernelIdeal := hFoxKernelIdeal)
    ∧ quiescent_FoxKernelIdeal_pre_fox_finite (hFoxKernelIdeal := hFoxKernelIdeal) (hPre_fox_finite := hPre_fox_finite)
    ∧ quiescent_FoxReferenceIdeal (hFoxReferenceIdeal := hFoxReferenceIdeal)
    ∧ quiescent_FoxReferenceIdeal_pre_fox_finite (hFoxReferenceIdeal := hFoxReferenceIdeal) (hPre_fox_finite := hPre_fox_finite)
    ∧ quiescent_FoxFKernel (hFoxFKernel := hFoxFKernel)
    ∧ quiescent_FoxFKernelIdeal (hFoxFKernelIdeal := hFoxFKernelIdeal)
    ∧ quiescent_FoxFKernelIdeal_pre_foxf_finite (hFoxFKernelIdeal := hFoxFKernelIdeal) (hPre_foxf_finite := hPre_foxf_finite)
    ∧ quiescent_FoxFReferenceIdeal (hFoxFReferenceIdeal := hFoxFReferenceIdeal)
    ∧ quiescent_FoxFReferenceIdeal_pre_foxf_finite (hFoxFReferenceIdeal := hFoxFReferenceIdeal) (hPre_foxf_finite := hPre_foxf_finite)
    ∧ quiescent_MlaKernel (hMlaKernel := hMlaKernel)
    ∧ quiescent_MlaKernelIdeal (hMlaKernelIdeal := hMlaKernelIdeal)
    ∧ quiescent_MlaKernelIdeal_pre_mla_finite (hMlaKernelIdeal := hMlaKernelIdeal) (hPre_mla_finite := hPre_mla_finite)
    ∧ quiescent_MlaReferenceIdeal (hMlaReferenceIdeal := hMlaReferenceIdeal)
    ∧ quiescent_MlaReferenceIdeal_pre_mla_finite (hMlaReferenceIdeal := hMlaReferenceIdeal) (hPre_mla_finite := hPre_mla_finite)
    ∧ quiescent_SwiKernel (hSwiKernel := hSwiKernel)
    ∧ quiescent_SwiKernelIdeal (hSwiKernelIdeal := hSwiKernelIdeal)
    ∧ quiescent_SwiKernelIdeal_pre_swi_finite (hSwiKernelIdeal := hSwiKernelIdeal) (hPre_swi_finite := hPre_swi_finite)
    ∧ quiescent_SwiReferenceIdeal (hSwiReferenceIdeal := hSwiReferenceIdeal)
    ∧ quiescent_SwiReferenceIdeal_pre_swi_finite (hSwiReferenceIdeal := hSwiReferenceIdeal) (hPre_swi_finite := hPre_swi_finite)
    ∧ quiescent_FfnKernel (hFfnKernel := hFfnKernel)
    ∧ quiescent_FfnKernelIdeal (hFfnKernelIdeal := hFfnKernelIdeal)
    ∧ quiescent_FfnKernelIdeal_pre_ffn_finite (hFfnKernelIdeal := hFfnKernelIdeal) (hPre_ffn_finite := hPre_ffn_finite)
    ∧ quiescent_FfnReferenceIdeal (hFfnReferenceIdeal := hFfnReferenceIdeal)
    ∧ quiescent_FfnReferenceIdeal_pre_ffn_finite (hFfnReferenceIdeal := hFfnReferenceIdeal) (hPre_ffn_finite := hPre_ffn_finite)
    ∧ quiescent_LossKernel (hLossKernel := hLossKernel)
    ∧ quiescent_LossKernelIdeal (hLossKernelIdeal := hLossKernelIdeal)
    ∧ quiescent_LossKernelIdeal_pre_loss_finite (hLossKernelIdeal := hLossKernelIdeal) (hPre_loss_finite := hPre_loss_finite)
    ∧ quiescent_LossReferenceIdeal (hLossReferenceIdeal := hLossReferenceIdeal)
    ∧ quiescent_LossReferenceIdeal_pre_loss_finite (hLossReferenceIdeal := hLossReferenceIdeal) (hPre_loss_finite := hPre_loss_finite)
    ∧ quiescent_InpKernel (hInpKernel := hInpKernel)
    ∧ quiescent_InpKernelIdeal (hInpKernelIdeal := hInpKernelIdeal)
    ∧ quiescent_InpKernelIdeal_pre_inp_finite (hInpKernelIdeal := hInpKernelIdeal) (hPre_inp_finite := hPre_inp_finite)
    ∧ quiescent_InpReferenceIdeal (hInpReferenceIdeal := hInpReferenceIdeal)
    ∧ quiescent_InpReferenceIdeal_pre_inp_finite (hInpReferenceIdeal := hInpReferenceIdeal) (hPre_inp_finite := hPre_inp_finite)
    ∧ quiescent_MixKernel (hMixKernel := hMixKernel)
    ∧ quiescent_MixKernelIdeal (hMixKernelIdeal := hMixKernelIdeal)
    ∧ quiescent_MixKernelIdeal_pre_mix_finite (hMixKernelIdeal := hMixKernelIdeal) (hPre_mix_finite := hPre_mix_finite)
    ∧ quiescent_MixReferenceIdeal (hMixReferenceIdeal := hMixReferenceIdeal)
    ∧ quiescent_MixReferenceIdeal_pre_mix_finite (hMixReferenceIdeal := hMixReferenceIdeal) (hPre_mix_finite := hPre_mix_finite)
    ∧ quiescent_SwiFKernel (hSwiFKernel := hSwiFKernel)
    ∧ quiescent_SwiFKernelIdeal (hSwiFKernelIdeal := hSwiFKernelIdeal)
    ∧ quiescent_SwiFKernelIdeal_pre_swif_finite (hSwiFKernelIdeal := hSwiFKernelIdeal) (hPre_swif_finite := hPre_swif_finite)
    ∧ quiescent_SwiFReferenceIdeal (hSwiFReferenceIdeal := hSwiFReferenceIdeal)
    ∧ quiescent_SwiFReferenceIdeal_pre_swif_finite (hSwiFReferenceIdeal := hSwiFReferenceIdeal) (hPre_swif_finite := hPre_swif_finite)
    ∧ quiescent_PrepKernel (hPrepKernel := hPrepKernel)
    ∧ quiescent_PrepKernelIdeal (hPrepKernelIdeal := hPrepKernelIdeal)
    ∧ quiescent_PrepKernelIdeal_pre_prep_finite (hPrepKernelIdeal := hPrepKernelIdeal) (hPre_prep_finite := hPre_prep_finite)
    ∧ quiescent_PrepReferenceIdeal (hPrepReferenceIdeal := hPrepReferenceIdeal)
    ∧ quiescent_PrepReferenceIdeal_pre_prep_finite (hPrepReferenceIdeal := hPrepReferenceIdeal) (hPre_prep_finite := hPre_prep_finite)
    ∧ preserves_GateKernel_GateKernelIdeal
    ∧ algebraic_GateKernelIdeal_GateReferenceIdeal_pre_gate_finite (hGateKernelIdeal := hGateKernelIdeal) (hGateReferenceIdeal := hGateReferenceIdeal) (hPre_gate_finite := hPre_gate_finite)
    ∧ preserves_FoxKernel_FoxKernelIdeal
    ∧ algebraic_FoxKernelIdeal_FoxReferenceIdeal_pre_fox_finite (hFoxKernelIdeal := hFoxKernelIdeal) (hFoxReferenceIdeal := hFoxReferenceIdeal) (hPre_fox_finite := hPre_fox_finite)
    ∧ preserves_FoxFKernel_FoxFKernelIdeal
    ∧ algebraic_FoxFKernelIdeal_FoxFReferenceIdeal_pre_foxf_finite (hFoxFKernelIdeal := hFoxFKernelIdeal) (hFoxFReferenceIdeal := hFoxFReferenceIdeal) (hPre_foxf_finite := hPre_foxf_finite)
    ∧ preserves_MlaKernel_MlaKernelIdeal
    ∧ algebraic_MlaKernelIdeal_MlaReferenceIdeal_pre_mla_finite (hMlaKernelIdeal := hMlaKernelIdeal) (hMlaReferenceIdeal := hMlaReferenceIdeal) (hPre_mla_finite := hPre_mla_finite)
    ∧ preserves_SwiKernel_SwiKernelIdeal
    ∧ algebraic_SwiKernelIdeal_SwiReferenceIdeal_pre_swi_finite (hSwiKernelIdeal := hSwiKernelIdeal) (hSwiReferenceIdeal := hSwiReferenceIdeal) (hPre_swi_finite := hPre_swi_finite)
    ∧ preserves_FfnKernel_FfnKernelIdeal
    ∧ algebraic_FfnKernelIdeal_FfnReferenceIdeal_pre_ffn_finite (hFfnKernelIdeal := hFfnKernelIdeal) (hFfnReferenceIdeal := hFfnReferenceIdeal) (hPre_ffn_finite := hPre_ffn_finite)
    ∧ preserves_LossKernel_LossKernelIdeal
    ∧ algebraic_LossKernelIdeal_LossReferenceIdeal_pre_loss_finite (hLossKernelIdeal := hLossKernelIdeal) (hLossReferenceIdeal := hLossReferenceIdeal) (hPre_loss_finite := hPre_loss_finite)
    ∧ preserves_InpKernel_InpKernelIdeal
    ∧ algebraic_InpKernelIdeal_InpReferenceIdeal_pre_inp_finite (hInpKernelIdeal := hInpKernelIdeal) (hInpReferenceIdeal := hInpReferenceIdeal) (hPre_inp_finite := hPre_inp_finite)
    ∧ preserves_MixKernel_MixKernelIdeal
    ∧ algebraic_MixKernelIdeal_MixReferenceIdeal_pre_mix_finite (hMixKernelIdeal := hMixKernelIdeal) (hMixReferenceIdeal := hMixReferenceIdeal) (hPre_mix_finite := hPre_mix_finite)
    ∧ preserves_SwiFKernel_SwiFKernelIdeal
    ∧ algebraic_SwiFKernelIdeal_SwiFReferenceIdeal_pre_swif_finite (hSwiFKernelIdeal := hSwiFKernelIdeal) (hSwiFReferenceIdeal := hSwiFReferenceIdeal) (hPre_swif_finite := hPre_swif_finite)
    ∧ preserves_PrepKernel_PrepKernelIdeal
    ∧ algebraic_PrepKernelIdeal_PrepReferenceIdeal_pre_prep_finite (hPrepKernelIdeal := hPrepKernelIdeal) (hPrepReferenceIdeal := hPrepReferenceIdeal) (hPre_prep_finite := hPre_prep_finite)
-- ==== Pre_ffn_finite.lean ====
abbrev S8192x2816 : Shape := ⟨2, ![8192, 2816]⟩
abbrev S1024x2816 : Shape := ⟨2, ![1024, 2816]⟩
abbrev S8192x1024 : Shape := ⟨2, ![8192, 1024]⟩
abbrev S1x1024 : Shape := ⟨2, ![1, 1024]⟩
abbrev S_ : Shape := ⟨0, ![]⟩

class Facts : Prop where
  bcast_S_S8192x2816 : S_.BroadcastsInDim S8192x2816 (![] : Fin 0 → Fin S8192x2816.rank)
  reducesTo_S8192x2816_S_d0_1 : S8192x2816.ReducesTo [0, 1] S_
  h_S_ : 0 < S_.numel
  bcast_S_S1024x2816 : S_.BroadcastsInDim S1024x2816 (![] : Fin 0 → Fin S1024x2816.rank)
  reducesTo_S1024x2816_S_d0_1 : S1024x2816.ReducesTo [0, 1] S_
  bcast_S_S8192x1024 : S_.BroadcastsInDim S8192x1024 (![] : Fin 0 → Fin S8192x1024.rank)
  reducesTo_S8192x1024_S_d0_1 : S8192x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_arg4 : FVec F S8192x1024 .f32) (main_arg5 : FVec F S8192x1024 .f32) (main_arg6 : FVec F S1x1024 .f32) (main_v13 : IVec S_ 1) (main_v16 : IVec S1024x2816 1) : IVec S_ 1 :=
  let main_c_5 : IVec S_ 1 := constantI S_ 1 1#1
  let main_v17 : IVec S_ 1 := (fun x v => Host.reduce IntOp.andi x v reducesTo_S1024x2816_S_d0_1 h_S_) main_v16 main_c_5
  let main_v18 : IVec S_ 1 := andi main_v13 main_v17
  let main_v19 : FVec F S8192x1024 .f32 := Host.absf main_arg4
  let main_cst_6 : FVec F S_ .f32 := constant S_ .f32 0x7F800000#32
  let main_v20 : FVec F S8192x1024 .f32 := broadcastInDim S8192x1024 ![] bcast_S_S8192x1024 main_cst_6
  let main_v21 : IVec S8192x1024 1 := cmpf .olt main_v19 main_v20
  let main_c_7 : IVec S_ 1 := constantI S_ 1 1#1
  let main_v22 : IVec S_ 1 := (fun x v => Host.reduce IntOp.andi x v reducesTo_S8192x1024_S_d0_1 h_S_) main_v21 main_c_7
  let main_v23 : IVec S_ 1 := andi main_v18 main_v22
  let main_v24 : FVec F S8192x1024 .f32 := Host.absf main_arg5
  let main_cst_8 : FVec F S_ .f32 := constant S_ .f32 0x7F800000#32
  let main_v25 : FVec F S8192x1024 .f32 := broadcastInDim S8192x1024 ![] bcast_S_S8192x1024 main_cst_8
  let main_v26 : IVec S8192x1024 1 := cmpf .olt main_v24 main_v25
  let main_c_9 : IVec S_ 1 := constantI S_ 1 1#1
  let main_v27 : IVec S_ 1 := (fun x v => Host.reduce IntOp.andi x v reducesTo_S8192x1024_S_d0_1 h_S_) main_v26 main_c_9
  let main_v28 : IVec S_ 1 := andi main_v23 main_v27
  let main_v29 : FVec F S1x1024 .f32 := Host.absf main_arg6
  let main_cst_10 : FVec F S_ .f32 := constant S_ .f32 0x7F800000#32
  let main_v30 : FVec F S1x1024 .f32 := broadcastInDim S1x1024 ![] bcast_S_S1x1024 main_cst_10
  let main_v31 : IVec S1x1024 1 := cmpf .olt main_v29 main_v30
  let main_c_11 : IVec S_ 1 := constantI S_ 1 1#1
  let main_v32 : IVec S_ 1 := (fun x v => Host.reduce IntOp.andi x v reducesTo_S1x1024_S_d0_1 h_S_) main_v31 main_c_11
  let main_v33 : IVec S_ 1 := andi main_v28 main_v32
  main_v33

def fn {F : FTy → Type} [FloatOps F] (main_arg0 : FVec F S8192x2816 .f32) (main_arg1 : FVec F S8192x2816 .f32) (main_arg2 : FVec F S1024x2816 .f32) (main_arg3 : FVec F S1024x2816 .f32) (main_arg4 : FVec F S8192x1024 .f32) (main_arg5 : FVec F S8192x1024 .f32) (main_arg6 : FVec F S1x1024 .f32) : IVec S_ 1 :=
  let main_v0 : FVec F S8192x2816 .f32 := Host.absf main_arg0
  let main_cst : FVec F S_ .f32 := constant S_ .f32 0x7F800000#32
  let main_v1 : FVec F S8192x2816 .f32 := broadcastInDim S8192x2816 ![] bcast_S_S8192x2816 main_cst
  let main_v2 : IVec S8192x2816 1 := cmpf .olt main_v0 main_v1
  let main_c : IVec S_ 1 := constantI S_ 1 1#1
  let main_v3 : IVec S_ 1 := (fun x v => Host.reduce IntOp.andi x v reducesTo_S8192x2816_S_d0_1 h_S_) main_v2 main_c
  let main_v4 : FVec F S8192x2816 .f32 := Host.absf main_arg1
  let main_cst_0 : FVec F S_ .f32 := constant S_ .f32 0x7F800000#32
  let main_v5 : FVec F S8192x2816 .f32 := broadcastInDim S8192x2816 ![] bcast_S_S8192x2816 main_cst_0
  let main_v6 : IVec S8192x2816 1 := cmpf .olt main_v4 main_v5
  let main_c_1 : IVec S_ 1 := constantI S_ 1 1#1
  let main_v7 : IVec S_ 1 := (fun x v => Host.reduce IntOp.andi x v reducesTo_S8192x2816_S_d0_1 h_S_) main_v6 main_c_1
  let main_v8 : IVec S_ 1 := andi main_v3 main_v7
  let main_v9 : FVec F S1024x2816 .f32 := Host.absf main_arg2
  let main_cst_2 : FVec F S_ .f32 := constant S_ .f32 0x7F800000#32
  let main_v10 : FVec F S1024x2816 .f32 := broadcastInDim S1024x2816 ![] bcast_S_S1024x2816 main_cst_2
  let main_v11 : IVec S1024x2816 1 := cmpf .olt main_v9 main_v10
  let main_c_3 : IVec S_ 1 := constantI S_ 1 1#1
  let main_v12 : IVec S_ 1 := (fun x v => Host.reduce IntOp.andi x v reducesTo_S1024x2816_S_d0_1 h_S_) main_v11 main_c_3
  let main_v13 : IVec S_ 1 := andi main_v8 main_v12
  let main_v14 : FVec F S1024x2816 .f32 := Host.absf main_arg3
  let main_cst_4 : FVec F S_ .f32 := constant S_ .f32 0x7F800000#32
  let main_v15 : FVec F S1024x2816 .f32 := broadcastInDim S1024x2816 ![] bcast_S_S1024x2816 main_cst_4
  let main_v16 : IVec S1024x2816 1 := cmpf .olt main_v14 main_v15
  fn_part1 (F := F) main_arg4 main_arg5 main_arg6 main_v13 main_v16
-- ==== Pre_fox_finite.lean ====
abbrev S4x2048x512 : Shape := ⟨3, ![4, 2048, 512]⟩
abbrev S4x8x2048 : Shape := ⟨3, ![4, 8, 2048]⟩
abbrev S_ : Shape := ⟨0, ![]⟩

class Facts : Prop where
  bcast_S_S4x2048x512 : S_.BroadcastsInDim S4x2048x512 (![] : Fin 0 → Fin S4x2048x512.rank)
  reducesTo_S4x2048x512_S_d0_1_2 : S4x2048x512.ReducesTo [0, 1, 2] S_
  h_S_ : 0 < S_.numel
  bcast_S_S4x8x2048 : S_.BroadcastsInDim S4x8x2048 (![] : Fin 0 → Fin S4x8x2048.rank)
  reducesTo_S4x8x2048_S_d0_1_2 : S4x8x2048.ReducesTo [0, 1, 2] S_

variable [Facts]

def fn_part1 {F : FTy → Type} [FloatOps F] (main_arg4 : FVec F S4x2048x512 .f32) (main_v13 : IVec S_ 1) (main_v16 : IVec S4x8x2048 1) : IVec S_ 1 :=
  let main_c_5 : IVec S_ 1 := constantI S_ 1 1#1
  let main_v17 : IVec S_ 1 := (fun x v => Host.reduce IntOp.andi x v reducesTo_S4x8x2048_S_d0_1_2 h_S_) main_v16 main_c_5
  let main_v18 : IVec S_ 1 := andi main_v13 main_v17
  let main_v19 : FVec F S4x2048x512 .f32 := Host.absf main_arg4
  let main_cst_6 : FVec F S_ .f32 := constant S_ .f32 0x7F800000#32
  let main_v20 : FVec F S4x2048x512 .f32 := broadcastInDim S4x2048x512 ![] bcast_S_S4x2048x512 main_cst_6
  let main_v21 : IVec S4x2048x512 1 := cmpf .olt main_v19 main_v20
  let main_c_7 : IVec S_ 1 := constantI S_ 1 1#1
  let main_v22 : IVec S_ 1 := (fun x v => Host.reduce IntOp.andi x v reducesTo_S4x2048x512_S_d0_1_2 h_S_) main_v21 main_c_7
  let main_v23 : IVec S_ 1 := andi main_v18 main_v22
  main_v23

def fn {F : FTy → Type} [FloatOps F] (main_arg0 : FVec F S4x2048x512 .f32) (main_arg1 : FVec F S4x2048x512 .f32) (main_arg2 : FVec F S4x2048x512 .f32) (main_arg3 : FVec F S4x8x2048 .f32) (main_arg4 : FVec F S4x2048x512 .f32) : IVec S_ 1 :=
  let main_v0 : FVec F S4x2048x512 .f32 := Host.absf main_arg0
  let main_cst : FVec F S_ .f32 := constant S_ .f32 0x7F800000#32
  let main_v1 : FVec F S4x2048x512 .f32 := broadcastInDim S4x2048x512 ![] bcast_S_S4x2048x512 main_cst
  let main_v2 : IVec S4x2048x512 1 := cmpf .olt main_v0 main_v1
  let main_c : IVec S_ 1 := constantI S_ 1 1#1
  let main_v3 : IVec S_ 1 := (fun x v => Host.reduce IntOp.andi x v reducesTo_S4x2048x512_S_d0_1_2 h_S_) main_v2 main_c
  let main_v4 : FVec F S4x2048x512 .f32 := Host.absf main_arg1
  let main_cst_0 : FVec F S_ .f32 := constant S_ .f32 0x7F800000#32
  let main_v5 : FVec F S4x2048x512 .f32 := broadcastInDim S4x2048x512 ![] bcast_S_S4x2048x512 main_cst_0
  let main_v6 : IVec S4x2048x512 1 := cmpf .olt main_v4 main_v5
  let main_c_1 : IVec S_ 1 := constantI S_ 1 1#1
  let main_v7 : IVec S_ 1 := (fun x v => Host.reduce IntOp.andi x v reducesTo_S4x2048x512_S_d0_1_2 h_S_) main_v6 main_c_1
  let main_v8 : IVec S_ 1 := andi main_v3 main_v7
  let main_v9 : FVec F S4x2048x512 .f32 := Host.absf main_arg2
  let main_cst_2 : FVec F S_ .f32 := constant S_ .f32 0x7F800000#32
  let main_v10 : FVec F S4x2048x512 .f32 := broadcastInDim S4x2048x512 ![] bcast_S_S4x2048x512 main_cst_2
  let main_v11 : IVec S4x2048x512 1 := cmpf .olt main_v9 main_v10
  let main_c_3 : IVec S_ 1 := constantI S_ 1 1#1
  let main_v12 : IVec S_ 1 := (fun x v => Host.reduce IntOp.andi x v reducesTo_S4x2048x512_S_d0_1_2 h_S_) main_v11 main_c_3
  let main_v13 : IVec S_ 1 := andi main_v8 main_v12
  let main_v14 : FVec F S4x8x2048 .f32 := Host.absf main_arg3
  let main_cst_4 : FVec F S_ .f32 := constant S_ .f32 0x7F800000#32
  let main_v15 : FVec F S4x8x2048 .f32 := broadcastInDim S4x8x2048 ![] bcast_S_S4x8x2048 main_cst_4
  let main_v16 : IVec S4x8x2048 1 := cmpf .olt main_v14 main_v15
  fn_part1 (F := F) main_arg4 main_v13 main_v16
-- ==== Pre_foxf_finite.lean ====
abbrev S4x2048x512 : Shape := ⟨3, ![4, 2048, 512]⟩
abbrev S4x8x2048 : Shape := ⟨3, ![4, 8, 2048]⟩
abbrev S_ : Shape := ⟨0, ![]⟩

class Facts : Prop where
  bcast_S_S4x2048x512 : S_.BroadcastsInDim S4x2048x512 (![] : Fin 0 → Fin S4x2048x512.rank)
  reducesTo_S4x2048x512_S_d0_1_2 : S4x2048x512.ReducesTo [0, 1, 2] S_
  h_S_ : 0 < S_.numel
  bcast_S_S4x8x2048 : S_.BroadcastsInDim S4x8x2048 (![] : Fin 0 → Fin S4x8x2048.rank)
  reducesTo_S4x8x2048_S_d0_1_2 : S4x8x2048.ReducesTo [0, 1, 2] S_

variable [Facts]

def fn_part1 {F : FTy → Type} [FloatOps F] (main_v13 : IVec S_ 1) (main_v16 : IVec S4x8x2048 1) : IVec S_ 1 :=
  let main_c_5 : IVec S_ 1 := constantI S_ 1 1#1
  let main_v17 : IVec S_ 1 := (fun x v => Host.reduce IntOp.andi x v reducesTo_S4x8x2048_S_d0_1_2 h_S_) main_v16 main_c_5
  let main_v18 : IVec S_ 1 := andi main_v13 main_v17
  main_v18

def fn {F : FTy → Type} [FloatOps F] (main_arg0 : FVec F S4x2048x512 .f32) (main_arg1 : FVec F S4x2048x512 .f32) (main_arg2 : FVec F S4x2048x512 .f32) (main_arg3 : FVec F S4x8x2048 .f32) : IVec S_ 1 :=
  let main_v0 : FVec F S4x2048x512 .f32 := Host.absf main_arg0
  let main_cst : FVec F S_ .f32 := constant S_ .f32 0x7F800000#32
  let main_v1 : FVec F S4x2048x512 .f32 := broadcastInDim S4x2048x512 ![] bcast_S_S4x2048x512 main_cst
  let main_v2 : IVec S4x2048x512 1 := cmpf .olt main_v0 main_v1
  let main_c : IVec S_ 1 := constantI S_ 1 1#1
  let main_v3 : IVec S_ 1 := (fun x v => Host.reduce IntOp.andi x v reducesTo_S4x2048x512_S_d0_1_2 h_S_) main_v2 main_c
  let main_v4 : FVec F S4x2048x512 .f32 := Host.absf main_arg1
  let main_cst_0 : FVec F S_ .f32 := constant S_ .f32 0x7F800000#32
  let main_v5 : FVec F S4x2048x512 .f32 := broadcastInDim S4x2048x512 ![] bcast_S_S4x2048x512 main_cst_0
  let main_v6 : IVec S4x2048x512 1 := cmpf .olt main_v4 main_v5
  let main_c_1 : IVec S_ 1 := constantI S_ 1 1#1
  let main_v7 : IVec S_ 1 := (fun x v => Host.reduce IntOp.andi x v reducesTo_S4x2048x512_S_d0_1_2 h_S_) main_v6 main_c_1
  let main_v8 : IVec S_ 1 := andi main_v3 main_v7
  let main_v9 : FVec F S4x2048x512 .f32 := Host.absf main_arg2
  let main_cst_2 : FVec F S_ .f32 := constant S_ .f32 0x7F800000#32
  let main_v10 : FVec F S4x2048x512 .f32 := broadcastInDim S4x2048x512 ![] bcast_S_S4x2048x512 main_cst_2
  let main_v11 : IVec S4x2048x512 1 := cmpf .olt main_v9 main_v10
  let main_c_3 : IVec S_ 1 := constantI S_ 1 1#1
  let main_v12 : IVec S_ 1 := (fun x v => Host.reduce IntOp.andi x v reducesTo_S4x2048x512_S_d0_1_2 h_S_) main_v11 main_c_3
  let main_v13 : IVec S_ 1 := andi main_v8 main_v12
  let main_v14 : FVec F S4x8x2048 .f32 := Host.absf main_arg3
  let main_cst_4 : FVec F S_ .f32 := constant S_ .f32 0x7F800000#32
  let main_v15 : FVec F S4x8x2048 .f32 := broadcastInDim S4x8x2048 ![] bcast_S_S4x8x2048 main_cst_4
  let main_v16 : IVec S4x8x2048 1 := cmpf .olt main_v14 main_v15
  fn_part1 (F := F) main_v13 main_v16
-- ==== Pre_gate_finite.lean ====
abbrev S4x2048x8 : Shape := ⟨3, ![4, 2048, 8]⟩
abbrev S1x8 : Shape := ⟨2, ![1, 8]⟩
abbrev S4x8x2048 : Shape := ⟨3, ![4, 8, 2048]⟩
abbrev S_ : Shape := ⟨0, ![]⟩

class Facts : Prop where
  bcast_S_S4x2048x8 : S_.BroadcastsInDim S4x2048x8 (![] : Fin 0 → Fin S4x2048x8.rank)
  reducesTo_S4x2048x8_S_d0_1_2 : S4x2048x8.ReducesTo [0, 1, 2] S_
  h_S_ : 0 < S_.numel
  bcast_S_S1x8 : S_.BroadcastsInDim S1x8 (![] : Fin 0 → Fin S1x8.rank)
  reducesTo_S1x8_S_d0_1 : S1x8.ReducesTo [0, 1] S_
  bcast_S_S4x8x2048 : S_.BroadcastsInDim S4x8x2048 (![] : Fin 0 → Fin S4x8x2048.rank)
  reducesTo_S4x8x2048_S_d0_1_2 : S4x8x2048.ReducesTo [0, 1, 2] S_

variable [Facts]

def fn {F : FTy → Type} [FloatOps F] (main_arg0 : FVec F S4x2048x8 .f32) (main_arg1 : FVec F S1x8 .f32) (main_arg2 : FVec F S4x8x2048 .f32) : IVec S_ 1 :=
  let main_v0 : FVec F S4x2048x8 .f32 := Host.absf main_arg0
  let main_cst : FVec F S_ .f32 := constant S_ .f32 0x7F800000#32
  let main_v1 : FVec F S4x2048x8 .f32 := broadcastInDim S4x2048x8 ![] bcast_S_S4x2048x8 main_cst
  let main_v2 : IVec S4x2048x8 1 := cmpf .olt main_v0 main_v1
  let main_c : IVec S_ 1 := constantI S_ 1 1#1
  let main_v3 : IVec S_ 1 := (fun x v => Host.reduce IntOp.andi x v reducesTo_S4x2048x8_S_d0_1_2 h_S_) main_v2 main_c
  let main_v4 : FVec F S1x8 .f32 := Host.absf main_arg1
  let main_cst_0 : FVec F S_ .f32 := constant S_ .f32 0x7F800000#32
  let main_v5 : FVec F S1x8 .f32 := broadcastInDim S1x8 ![] bcast_S_S1x8 main_cst_0
  let main_v6 : IVec S1x8 1 := cmpf .olt main_v4 main_v5
  let main_c_1 : IVec S_ 1 := constantI S_ 1 1#1
  let main_v7 : IVec S_ 1 := (fun x v => Host.reduce IntOp.andi x v reducesTo_S1x8_S_d0_1 h_S_) main_v6 main_c_1
  let main_v8 : IVec S_ 1 := andi main_v3 main_v7
  let main_v9 : FVec F S4x8x2048 .f32 := Host.absf main_arg2
  let main_cst_2 : FVec F S_ .f32 := constant S_ .f32 0x7F800000#32
  let main_v10 : FVec F S4x8x2048 .f32 := broadcastInDim S4x8x2048 ![] bcast_S_S4x8x2048 main_cst_2
  let main_v11 : IVec S4x8x2048 1 := cmpf .olt main_v9 main_v10
  let main_c_3 : IVec S_ 1 := constantI S_ 1 1#1
  let main_v12 : IVec S_ 1 := (fun x v => Host.reduce IntOp.andi x v reducesTo_S4x8x2048_S_d0_1_2 h_S_) main_v11 main_c_3
  let main_v13 : IVec S_ 1 := andi main_v8 main_v12
  main_v13
-- ==== Pre_inp_finite.lean ====
abbrev S8192x1536 : Shape := ⟨2, ![8192, 1536]⟩
abbrev S8192x640 : Shape := ⟨2, ![8192, 640]⟩
abbrev S1536x1024 : Shape := ⟨2, ![1536, 1024]⟩
abbrev S640x1024 : Shape := ⟨2, ![640, 1024]⟩
abbrev S8192x1024 : Shape := ⟨2, ![8192, 1024]⟩
abbrev S1x1024 : Shape := ⟨2, ![1, 1024]⟩
abbrev S_ : Shape := ⟨0, ![]⟩

class Facts : Prop where
  bcast_S_S8192x1536 : S_.BroadcastsInDim S8192x1536 (![] : Fin 0 → Fin S8192x1536.rank)
  reducesTo_S8192x1536_S_d0_1 : S8192x1536.ReducesTo [0, 1] S_
  h_S_ : 0 < S_.numel
  bcast_S_S8192x640 : S_.BroadcastsInDim S8192x640 (![] : Fin 0 → Fin S8192x640.rank)
  reducesTo_S8192x640_S_d0_1 : S8192x640.ReducesTo [0, 1] S_
  bcast_S_S1536x1024 : S_.BroadcastsInDim S1536x1024 (![] : Fin 0 → Fin S1536x1024.rank)
  reducesTo_S1536x1024_S_d0_1 : S1536x1024.ReducesTo [0, 1] S_
  bcast_S_S640x1024 : S_.BroadcastsInDim S640x1024 (![] : Fin 0 → Fin S640x1024.rank)
  reducesTo_S640x1024_S_d0_1 : S640x1024.ReducesTo [0, 1] S_
  bcast_S_S8192x1024 : S_.BroadcastsInDim S8192x1024 (![] : Fin 0 → Fin S8192x1024.rank)
  reducesTo_S8192x1024_S_d0_1 : S8192x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_arg4 : FVec F S8192x1024 .f32) (main_arg5 : FVec F S8192x1024 .f32) (main_arg6 : FVec F S1x1024 .f32) (main_v13 : IVec S_ 1) (main_v16 : IVec S640x1024 1) : IVec S_ 1 :=
  let main_c_5 : IVec S_ 1 := constantI S_ 1 1#1
  let main_v17 : IVec S_ 1 := (fun x v => Host.reduce IntOp.andi x v reducesTo_S640x1024_S_d0_1 h_S_) main_v16 main_c_5
  let main_v18 : IVec S_ 1 := andi main_v13 main_v17
  let main_v19 : FVec F S8192x1024 .f32 := Host.absf main_arg4
  let main_cst_6 : FVec F S_ .f32 := constant S_ .f32 0x7F800000#32
  let main_v20 : FVec F S8192x1024 .f32 := broadcastInDim S8192x1024 ![] bcast_S_S8192x1024 main_cst_6
  let main_v21 : IVec S8192x1024 1 := cmpf .olt main_v19 main_v20
  let main_c_7 : IVec S_ 1 := constantI S_ 1 1#1
  let main_v22 : IVec S_ 1 := (fun x v => Host.reduce IntOp.andi x v reducesTo_S8192x1024_S_d0_1 h_S_) main_v21 main_c_7
  let main_v23 : IVec S_ 1 := andi main_v18 main_v22
  let main_v24 : FVec F S8192x1024 .f32 := Host.absf main_arg5
  let main_cst_8 : FVec F S_ .f32 := constant S_ .f32 0x7F800000#32
  let main_v25 : FVec F S8192x1024 .f32 := broadcastInDim S8192x1024 ![] bcast_S_S8192x1024 main_cst_8
  let main_v26 : IVec S8192x1024 1 := cmpf .olt main_v24 main_v25
  let main_c_9 : IVec S_ 1 := constantI S_ 1 1#1
  let main_v27 : IVec S_ 1 := (fun x v => Host.reduce IntOp.andi x v reducesTo_S8192x1024_S_d0_1 h_S_) main_v26 main_c_9
  let main_v28 : IVec S_ 1 := andi main_v23 main_v27
  let main_v29 : FVec F S1x1024 .f32 := Host.absf main_arg6
  let main_cst_10 : FVec F S_ .f32 := constant S_ .f32 0x7F800000#32
  let main_v30 : FVec F S1x1024 .f32 := broadcastInDim S1x1024 ![] bcast_S_S1x1024 main_cst_10
  let main_v31 : IVec S1x1024 1 := cmpf .olt main_v29 main_v30
  let main_c_11 : IVec S_ 1 := constantI S_ 1 1#1
  let main_v32 : IVec S_ 1 := (fun x v => Host.reduce IntOp.andi x v reducesTo_S1x1024_S_d0_1 h_S_) main_v31 main_c_11
  let main_v33 : IVec S_ 1 := andi main_v28 main_v32
  main_v33

def fn {F : FTy → Type} [FloatOps F] (main_arg0 : FVec F S8192x1536 .f32) (main_arg1 : FVec F S8192x640 .f32) (main_arg2 : FVec F S1536x1024 .f32) (main_arg3 : FVec F S640x1024 .f32) (main_arg4 : FVec F S8192x1024 .f32) (main_arg5 : FVec F S8192x1024 .f32) (main_arg6 : FVec F S1x1024 .f32) : IVec S_ 1 :=
  let main_v0 : FVec F S8192x1536 .f32 := Host.absf main_arg0
  let main_cst : FVec F S_ .f32 := constant S_ .f32 0x7F800000#32
  let main_v1 : FVec F S8192x1536 .f32 := broadcastInDim S8192x1536 ![] bcast_S_S8192x1536 main_cst
  let main_v2 : IVec S8192x1536 1 := cmpf .olt main_v0 main_v1
  let main_c : IVec S_ 1 := constantI S_ 1 1#1
  let main_v3 : IVec S_ 1 := (fun x v => Host.reduce IntOp.andi x v reducesTo_S8192x1536_S_d0_1 h_S_) main_v2 main_c
  let main_v4 : FVec F S8192x640 .f32 := Host.absf main_arg1
  let main_cst_0 : FVec F S_ .f32 := constant S_ .f32 0x7F800000#32
  let main_v5 : FVec F S8192x640 .f32 := broadcastInDim S8192x640 ![] bcast_S_S8192x640 main_cst_0
  let main_v6 : IVec S8192x640 1 := cmpf .olt main_v4 main_v5
  let main_c_1 : IVec S_ 1 := constantI S_ 1 1#1
  let main_v7 : IVec S_ 1 := (fun x v => Host.reduce IntOp.andi x v reducesTo_S8192x640_S_d0_1 h_S_) main_v6 main_c_1
  let main_v8 : IVec S_ 1 := andi main_v3 main_v7
  let main_v9 : FVec F S1536x1024 .f32 := Host.absf main_arg2
  let main_cst_2 : FVec F S_ .f32 := constant S_ .f32 0x7F800000#32
  let main_v10 : FVec F S1536x1024 .f32 := broadcastInDim S1536x1024 ![] bcast_S_S1536x1024 main_cst_2
  let main_v11 : IVec S1536x1024 1 := cmpf .olt main_v9 main_v10
  let main_c_3 : IVec S_ 1 := constantI S_ 1 1#1
  let main_v12 : IVec S_ 1 := (fun x v => Host.reduce IntOp.andi x v reducesTo_S1536x1024_S_d0_1 h_S_) main_v11 main_c_3
  let main_v13 : IVec S_ 1 := andi main_v8 main_v12
  let main_v14 : FVec F S640x1024 .f32 := Host.absf main_arg3
  let main_cst_4 : FVec F S_ .f32 := constant S_ .f32 0x7F800000#32
  let main_v15 : FVec F S640x1024 .f32 := broadcastInDim S640x1024 ![] bcast_S_S640x1024 main_cst_4
  let main_v16 : IVec S640x1024 1 := cmpf .olt main_v14 main_v15
  fn_part1 (F := F) main_arg4 main_arg5 main_arg6 main_v13 main_v16
-- ==== Pre_loss_finite.lean ====
abbrev S8192x2816 : Shape := ⟨2, ![8192, 2816]⟩
abbrev S2816x1024 : Shape := ⟨2, ![2816, 1024]⟩
abbrev S8192x1024 : Shape := ⟨2, ![8192, 1024]⟩
abbrev S1024 : Shape := ⟨1, ![1024]⟩
abbrev S_ : Shape := ⟨0, ![]⟩

class Facts : Prop where
  bcast_S_S8192x2816 : S_.BroadcastsInDim S8192x2816 (![] : Fin 0 → Fin S8192x2816.rank)
  reducesTo_S8192x2816_S_d0_1 : S8192x2816.ReducesTo [0, 1] S_
  h_S_ : 0 < S_.numel
  bcast_S_S2816x1024 : S_.BroadcastsInDim S2816x1024 (![] : Fin 0 → Fin S2816x1024.rank)
  reducesTo_S2816x1024_S_d0_1 : S2816x1024.ReducesTo [0, 1] S_
  bcast_S_S8192x1024 : S_.BroadcastsInDim S8192x1024 (![] : Fin 0 → Fin S8192x1024.rank)
  reducesTo_S8192x1024_S_d0_1 : S8192x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_v13 : IVec S_ 1) (main_v16 : IVec S8192x1024 1) : IVec S_ 1 :=
  let main_c_5 : IVec S_ 1 := constantI S_ 1 1#1
  let main_v17 : IVec S_ 1 := (fun x v => Host.reduce IntOp.andi x v reducesTo_S8192x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  main_v23

def fn {F : FTy → Type} [FloatOps F] (main_arg0 : FVec F S8192x2816 .f32) (main_arg1 : FVec F S2816x1024 .f32) (main_arg2 : FVec F S8192x1024 .f32) (main_arg3 : FVec F S8192x1024 .f32) (main_arg4 : FVec F S1024 .f32) : IVec S_ 1 :=
  let main_v0 : FVec F S8192x2816 .f32 := Host.absf main_arg0
  let main_cst : FVec F S_ .f32 := constant S_ .f32 0x7F800000#32
  let main_v1 : FVec F S8192x2816 .f32 := broadcastInDim S8192x2816 ![] bcast_S_S8192x2816 main_cst
  let main_v2 : IVec S8192x2816 1 := cmpf .olt main_v0 main_v1
  let main_c : IVec S_ 1 := constantI S_ 1 1#1
  let main_v3 : IVec S_ 1 := (fun x v => Host.reduce IntOp.andi x v reducesTo_S8192x2816_S_d0_1 h_S_) main_v2 main_c
  let main_v4 : FVec F S2816x1024 .f32 := Host.absf main_arg1
  let main_cst_0 : FVec F S_ .f32 := constant S_ .f32 0x7F800000#32
  let main_v5 : FVec F S2816x1024 .f32 := broadcastInDim S2816x1024 ![] bcast_S_S2816x1024 main_cst_0
  let main_v6 : IVec S2816x1024 1 := cmpf .olt main_v4 main_v5
  let main_c_1 : IVec S_ 1 := constantI S_ 1 1#1
  let main_v7 : IVec S_ 1 := (fun x v => Host.reduce IntOp.andi x v reducesTo_S2816x1024_S_d0_1 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  let main_v14 : FVec F S8192x1024 .f32 := Host.absf main_arg3
  let main_cst_4 : FVec F S_ .f32 := constant S_ .f32 0x7F800000#32
  let main_v15 : FVec F S8192x1024 .f32 := broadcastInDim S8192x1024 ![] bcast_S_S8192x1024 main_cst_4
  let main_v16 : IVec S8192x1024 1 := cmpf .olt main_v14 main_v15
  fn_part1 (F := F) main_arg4 main_v13 main_v16
-- ==== Pre_mix_finite.lean ====
abbrev S8192x1024 : Shape := ⟨2, ![8192, 1024]⟩
abbrev S1024x1024 : Shape := ⟨2, ![1024, 1024]⟩
abbrev S8192x512 : Shape := ⟨2, ![8192, 512]⟩
abbrev S1x512 : Shape := ⟨2, ![1, 512]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S8192x512 : S_.BroadcastsInDim S8192x512 (![] : Fin 0 → Fin S8192x512.rank)
  reducesTo_S8192x512_S_d0_1 : S8192x512.ReducesTo [0, 1] S_
  bcast_S_S1x512 : S_.BroadcastsInDim S1x512 (![] : Fin 0 → Fin S1x512.rank)
  reducesTo_S1x512_S_d0_1 : S1x512.ReducesTo [0, 1] S_

variable [Facts]

def fn_part1 {F : FTy → Type} [FloatOps F] (main_arg4 : FVec F S1x512 .f32) (main_arg5 : FVec F S1x512 .f32) (main_v13 : IVec S_ 1) (main_v16 : IVec S8192x512 1) : IVec S_ 1 :=
  let main_c_5 : IVec S_ 1 := constantI S_ 1 1#1
  let main_v17 : IVec S_ 1 := (fun x v => Host.reduce IntOp.andi x v reducesTo_S8192x512_S_d0_1 h_S_) main_v16 main_c_5
  let main_v18 : IVec S_ 1 := andi main_v13 main_v17
  let main_v19 : FVec F S1x512 .f32 := Host.absf main_arg4
  let main_cst_6 : FVec F S_ .f32 := constant S_ .f32 0x7F800000#32
  let main_v20 : FVec F S1x512 .f32 := broadcastInDim S1x512 ![] bcast_S_S1x512 main_cst_6
  let main_v21 : IVec S1x512 1 := cmpf .olt main_v19 main_v20
  let main_c_7 : IVec S_ 1 := constantI S_ 1 1#1
  let main_v22 : IVec S_ 1 := (fun x v => Host.reduce IntOp.andi x v reducesTo_S1x512_S_d0_1 h_S_) main_v21 main_c_7
  let main_v23 : IVec S_ 1 := andi main_v18 main_v22
  let main_v24 : FVec F S1x512 .f32 := Host.absf main_arg5
  let main_cst_8 : FVec F S_ .f32 := constant S_ .f32 0x7F800000#32
  let main_v25 : FVec F S1x512 .f32 := broadcastInDim S1x512 ![] bcast_S_S1x512 main_cst_8
  let main_v26 : IVec S1x512 1 := cmpf .olt main_v24 main_v25
  let main_c_9 : IVec S_ 1 := constantI S_ 1 1#1
  let main_v27 : IVec S_ 1 := (fun x v => Host.reduce IntOp.andi x v reducesTo_S1x512_S_d0_1 h_S_) main_v26 main_c_9
  let main_v28 : IVec S_ 1 := andi main_v23 main_v27
  main_v28

def fn {F : FTy → Type} [FloatOps F] (main_arg0 : FVec F S8192x1024 .f32) (main_arg1 : FVec F S1024x1024 .f32) (main_arg2 : FVec F S8192x512 .f32) (main_arg3 : FVec F S8192x512 .f32) (main_arg4 : FVec F S1x512 .f32) (main_arg5 : FVec F S1x512 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S8192x512 .f32 := Host.absf main_arg2
  let main_cst_2 : FVec F S_ .f32 := constant S_ .f32 0x7F800000#32
  let main_v10 : FVec F S8192x512 .f32 := broadcastInDim S8192x512 ![] bcast_S_S8192x512 main_cst_2
  let main_v11 : IVec S8192x512 1 := cmpf .olt main_v9 main_v10
  let main_c_3 : IVec S_ 1 := constantI S_ 1 1#1
  let main_v12 : IVec S_ 1 := (fun x v => Host.reduce IntOp.andi x v reducesTo_S8192x512_S_d0_1 h_S_) main_v11 main_c_3
  let main_v13 : IVec S_ 1 := andi main_v8 main_v12
  let main_v14 : FVec F S8192x512 .f32 := Host.absf main_arg3
  let main_cst_4 : FVec F S_ .f32 := constant S_ .f32 0x7F800000#32
  let main_v15 : FVec F S8192x512 .f32 := broadcastInDim S8192x512 ![] bcast_S_S8192x512 main_cst_4
  let main_v16 : IVec S8192x512 1 := cmpf .olt main_v14 main_v15
  fn_part1 (F := F) main_arg4 main_arg5 main_v13 main_v16
-- ==== Pre_mla_finite.lean ====
abbrev S4x8x2048x96 : Shape := ⟨4, ![4, 8, 2048, 96]⟩
abbrev S4x8x2048x64 : Shape := ⟨4, ![4, 8, 2048, 64]⟩
abbrev S4x1x2048x32 : Shape := ⟨4, ![4, 1, 2048, 32]⟩
abbrev S4x2048x512 : Shape := ⟨3, ![4, 2048, 512]⟩
abbrev S_ : Shape := ⟨0, ![]⟩

class Facts : Prop where
  bcast_S_S4x8x2048x96 : S_.BroadcastsInDim S4x8x2048x96 (![] : Fin 0 → Fin S4x8x2048x96.rank)
  reducesTo_S4x8x2048x96_S_d0_1_2_3 : S4x8x2048x96.ReducesTo [0, 1, 2, 3] S_
  h_S_ : 0 < S_.numel
  bcast_S_S4x8x2048x64 : S_.BroadcastsInDim S4x8x2048x64 (![] : Fin 0 → Fin S4x8x2048x64.rank)
  reducesTo_S4x8x2048x64_S_d0_1_2_3 : S4x8x2048x64.ReducesTo [0, 1, 2, 3] S_
  bcast_S_S4x1x2048x32 : S_.BroadcastsInDim S4x1x2048x32 (![] : Fin 0 → Fin S4x1x2048x32.rank)
  reducesTo_S4x1x2048x32_S_d0_1_2_3 : S4x1x2048x32.ReducesTo [0, 1, 2, 3] S_
  bcast_S_S4x2048x512 : S_.BroadcastsInDim S4x2048x512 (![] : Fin 0 → Fin S4x2048x512.rank)
  reducesTo_S4x2048x512_S_d0_1_2 : S4x2048x512.ReducesTo [0, 1, 2] S_

variable [Facts]

def fn_part1 {F : FTy → Type} [FloatOps F] (main_arg4 : FVec F S4x2048x512 .f32) (main_v13 : IVec S_ 1) (main_v16 : IVec S4x8x2048x64 1) : IVec S_ 1 :=
  let main_c_5 : IVec S_ 1 := constantI S_ 1 1#1
  let main_v17 : IVec S_ 1 := (fun x v => Host.reduce IntOp.andi x v reducesTo_S4x8x2048x64_S_d0_1_2_3 h_S_) main_v16 main_c_5
  let main_v18 : IVec S_ 1 := andi main_v13 main_v17
  let main_v19 : FVec F S4x2048x512 .f32 := Host.absf main_arg4
  let main_cst_6 : FVec F S_ .f32 := constant S_ .f32 0x7F800000#32
  let main_v20 : FVec F S4x2048x512 .f32 := broadcastInDim S4x2048x512 ![] bcast_S_S4x2048x512 main_cst_6
  let main_v21 : IVec S4x2048x512 1 := cmpf .olt main_v19 main_v20
  let main_c_7 : IVec S_ 1 := constantI S_ 1 1#1
  let main_v22 : IVec S_ 1 := (fun x v => Host.reduce IntOp.andi x v reducesTo_S4x2048x512_S_d0_1_2 h_S_) main_v21 main_c_7
  let main_v23 : IVec S_ 1 := andi main_v18 main_v22
  main_v23

def fn {F : FTy → Type} [FloatOps F] (main_arg0 : FVec F S4x8x2048x96 .f32) (main_arg1 : FVec F S4x8x2048x64 .f32) (main_arg2 : FVec F S4x1x2048x32 .f32) (main_arg3 : FVec F S4x8x2048x64 .f32) (main_arg4 : FVec F S4x2048x512 .f32) : IVec S_ 1 :=
  let main_v0 : FVec F S4x8x2048x96 .f32 := Host.absf main_arg0
  let main_cst : FVec F S_ .f32 := constant S_ .f32 0x7F800000#32
  let main_v1 : FVec F S4x8x2048x96 .f32 := broadcastInDim S4x8x2048x96 ![] bcast_S_S4x8x2048x96 main_cst
  let main_v2 : IVec S4x8x2048x96 1 := cmpf .olt main_v0 main_v1
  let main_c : IVec S_ 1 := constantI S_ 1 1#1
  let main_v3 : IVec S_ 1 := (fun x v => Host.reduce IntOp.andi x v reducesTo_S4x8x2048x96_S_d0_1_2_3 h_S_) main_v2 main_c
  let main_v4 : FVec F S4x8x2048x64 .f32 := Host.absf main_arg1
  let main_cst_0 : FVec F S_ .f32 := constant S_ .f32 0x7F800000#32
  let main_v5 : FVec F S4x8x2048x64 .f32 := broadcastInDim S4x8x2048x64 ![] bcast_S_S4x8x2048x64 main_cst_0
  let main_v6 : IVec S4x8x2048x64 1 := cmpf .olt main_v4 main_v5
  let main_c_1 : IVec S_ 1 := constantI S_ 1 1#1
  let main_v7 : IVec S_ 1 := (fun x v => Host.reduce IntOp.andi x v reducesTo_S4x8x2048x64_S_d0_1_2_3 h_S_) main_v6 main_c_1
  let main_v8 : IVec S_ 1 := andi main_v3 main_v7
  let main_v9 : FVec F S4x1x2048x32 .f32 := Host.absf main_arg2
  let main_cst_2 : FVec F S_ .f32 := constant S_ .f32 0x7F800000#32
  let main_v10 : FVec F S4x1x2048x32 .f32 := broadcastInDim S4x1x2048x32 ![] bcast_S_S4x1x2048x32 main_cst_2
  let main_v11 : IVec S4x1x2048x32 1 := cmpf .olt main_v9 main_v10
  let main_c_3 : IVec S_ 1 := constantI S_ 1 1#1
  let main_v12 : IVec S_ 1 := (fun x v => Host.reduce IntOp.andi x v reducesTo_S4x1x2048x32_S_d0_1_2_3 h_S_) main_v11 main_c_3
  let main_v13 : IVec S_ 1 := andi main_v8 main_v12
  let main_v14 : FVec F S4x8x2048x64 .f32 := Host.absf main_arg3
  let main_cst_4 : FVec F S_ .f32 := constant S_ .f32 0x7F800000#32
  let main_v15 : FVec F S4x8x2048x64 .f32 := broadcastInDim S4x8x2048x64 ![] bcast_S_S4x8x2048x64 main_cst_4
  let main_v16 : IVec S4x8x2048x64 1 := cmpf .olt main_v14 main_v15
  fn_part1 (F := F) main_arg4 main_v13 main_v16
-- ==== Pre_prep_finite.lean ====
abbrev S4x8x2048x96 : Shape := ⟨4, ![4, 8, 2048, 96]⟩
abbrev S4x8x2048x64 : Shape := ⟨4, ![4, 8, 2048, 64]⟩
abbrev S4x4x2048x32 : Shape := ⟨4, ![4, 4, 2048, 32]⟩
abbrev S4x2048x8 : Shape := ⟨3, ![4, 2048, 8]⟩
abbrev S8192x256 : Shape := ⟨2, ![8192, 256]⟩
abbrev S8192x128 : Shape := ⟨2, ![8192, 128]⟩
abbrev S4x2048 : Shape := ⟨2, ![4, 2048]⟩
abbrev S1x256 : Shape := ⟨2, ![1, 256]⟩
abbrev S1x128 : Shape := ⟨2, ![1, 128]⟩
abbrev S256x768 : Shape := ⟨2, ![256, 768]⟩
abbrev S128x1024 : Shape := ⟨2, ![128, 1024]⟩
abbrev S_ : Shape := ⟨0, ![]⟩

class Facts : Prop where
  bcast_S_S4x8x2048x96 : S_.BroadcastsInDim S4x8x2048x96 (![] : Fin 0 → Fin S4x8x2048x96.rank)
  reducesTo_S4x8x2048x96_S_d0_1_2_3 : S4x8x2048x96.ReducesTo [0, 1, 2, 3] S_
  h_S_ : 0 < S_.numel
  bcast_S_S4x8x2048x64 : S_.BroadcastsInDim S4x8x2048x64 (![] : Fin 0 → Fin S4x8x2048x64.rank)
  reducesTo_S4x8x2048x64_S_d0_1_2_3 : S4x8x2048x64.ReducesTo [0, 1, 2, 3] S_
  bcast_S_S4x4x2048x32 : S_.BroadcastsInDim S4x4x2048x32 (![] : Fin 0 → Fin S4x4x2048x32.rank)
  reducesTo_S4x4x2048x32_S_d0_1_2_3 : S4x4x2048x32.ReducesTo [0, 1, 2, 3] S_
  bcast_S_S8192x256 : S_.BroadcastsInDim S8192x256 (![] : Fin 0 → Fin S8192x256.rank)
  reducesTo_S8192x256_S_d0_1 : S8192x256.ReducesTo [0, 1] S_
  bcast_S_S8192x128 : S_.BroadcastsInDim S8192x128 (![] : Fin 0 → Fin S8192x128.rank)
  reducesTo_S8192x128_S_d0_1 : S8192x128.ReducesTo [0, 1] S_
  bcast_S_S1x256 : S_.BroadcastsInDim S1x256 (![] : Fin 0 → Fin S1x256.rank)
  reducesTo_S1x256_S_d0_1 : S1x256.ReducesTo [0, 1] S_
  bcast_S_S1x128 : S_.BroadcastsInDim S1x128 (![] : Fin 0 → Fin S1x128.rank)
  reducesTo_S1x128_S_d0_1 : S1x128.ReducesTo [0, 1] S_
  bcast_S_S256x768 : S_.BroadcastsInDim S256x768 (![] : Fin 0 → Fin S256x768.rank)
  reducesTo_S256x768_S_d0_1 : S256x768.ReducesTo [0, 1] S_
  bcast_S_S128x1024 : S_.BroadcastsInDim S128x1024 (![] : Fin 0 → Fin S128x1024.rank)
  reducesTo_S128x1024_S_d0_1 : S128x1024.ReducesTo [0, 1] S_

variable [Facts]

def fn_part2 {F : FTy → Type} [FloatOps F] (main_arg9 : FVec F S1x128 .f32) (main_arg10 : FVec F S256x768 .f32) (main_arg11 : FVec F S128x1024 .f32) (main_v33 : IVec S_ 1) : IVec S_ 1 :=
  let main_v34 : FVec F S1x128 .f32 := Host.absf main_arg9
  let main_cst_12 : FVec F S_ .f32 := constant S_ .f32 0x7F800000#32
  let main_v35 : FVec F S1x128 .f32 := broadcastInDim S1x128 ![] bcast_S_S1x128 main_cst_12
  let main_v36 : IVec S1x128 1 := cmpf .olt main_v34 main_v35
  let main_c_13 : IVec S_ 1 := constantI S_ 1 1#1
  let main_v37 : IVec S_ 1 := (fun x v => Host.reduce IntOp.andi x v reducesTo_S1x128_S_d0_1 h_S_) main_v36 main_c_13
  let main_v38 : IVec S_ 1 := andi main_v33 main_v37
  let main_v39 : FVec F S256x768 .f32 := Host.absf main_arg10
  let main_cst_14 : FVec F S_ .f32 := constant S_ .f32 0x7F800000#32
  let main_v40 : FVec F S256x768 .f32 := broadcastInDim S256x768 ![] bcast_S_S256x768 main_cst_14
  let main_v41 : IVec S256x768 1 := cmpf .olt main_v39 main_v40
  let main_c_15 : IVec S_ 1 := constantI S_ 1 1#1
  let main_v42 : IVec S_ 1 := (fun x v => Host.reduce IntOp.andi x v reducesTo_S256x768_S_d0_1 h_S_) main_v41 main_c_15
  let main_v43 : IVec S_ 1 := andi main_v38 main_v42
  let main_v44 : FVec F S128x1024 .f32 := Host.absf main_arg11
  let main_cst_16 : FVec F S_ .f32 := constant S_ .f32 0x7F800000#32
  let main_v45 : FVec F S128x1024 .f32 := broadcastInDim S128x1024 ![] bcast_S_S128x1024 main_cst_16
  let main_v46 : IVec S128x1024 1 := cmpf .olt main_v44 main_v45
  let main_c_17 : IVec S_ 1 := constantI S_ 1 1#1
  let main_v47 : IVec S_ 1 := (fun x v => Host.reduce IntOp.andi x v reducesTo_S128x1024_S_d0_1 h_S_) main_v46 main_c_17
  let main_v48 : IVec S_ 1 := andi main_v43 main_v47
  main_v48

def fn_part1 {F : FTy → Type} [FloatOps F] (main_arg5 : FVec F S8192x256 .f32) (main_arg6 : FVec F S8192x128 .f32) (main_arg8 : FVec F S1x256 .f32) (main_arg9 : FVec F S1x128 .f32) (main_arg10 : FVec F S256x768 .f32) (main_arg11 : FVec F S128x1024 .f32) (main_v13 : IVec S_ 1) (main_v16 : IVec S4x4x2048x32 1) : IVec S_ 1 :=
  let main_c_5 : IVec S_ 1 := constantI S_ 1 1#1
  let main_v17 : IVec S_ 1 := (fun x v => Host.reduce IntOp.andi x v reducesTo_S4x4x2048x32_S_d0_1_2_3 h_S_) main_v16 main_c_5
  let main_v18 : IVec S_ 1 := andi main_v13 main_v17
  let main_v19 : FVec F S8192x256 .f32 := Host.absf main_arg5
  let main_cst_6 : FVec F S_ .f32 := constant S_ .f32 0x7F800000#32
  let main_v20 : FVec F S8192x256 .f32 := broadcastInDim S8192x256 ![] bcast_S_S8192x256 main_cst_6
  let main_v21 : IVec S8192x256 1 := cmpf .olt main_v19 main_v20
  let main_c_7 : IVec S_ 1 := constantI S_ 1 1#1
  let main_v22 : IVec S_ 1 := (fun x v => Host.reduce IntOp.andi x v reducesTo_S8192x256_S_d0_1 h_S_) main_v21 main_c_7
  let main_v23 : IVec S_ 1 := andi main_v18 main_v22
  let main_v24 : FVec F S8192x128 .f32 := Host.absf main_arg6
  let main_cst_8 : FVec F S_ .f32 := constant S_ .f32 0x7F800000#32
  let main_v25 : FVec F S8192x128 .f32 := broadcastInDim S8192x128 ![] bcast_S_S8192x128 main_cst_8
  let main_v26 : IVec S8192x128 1 := cmpf .olt main_v24 main_v25
  let main_c_9 : IVec S_ 1 := constantI S_ 1 1#1
  let main_v27 : IVec S_ 1 := (fun x v => Host.reduce IntOp.andi x v reducesTo_S8192x128_S_d0_1 h_S_) main_v26 main_c_9
  let main_v28 : IVec S_ 1 := andi main_v23 main_v27
  let main_v29 : FVec F S1x256 .f32 := Host.absf main_arg8
  let main_cst_10 : FVec F S_ .f32 := constant S_ .f32 0x7F800000#32
  let main_v30 : FVec F S1x256 .f32 := broadcastInDim S1x256 ![] bcast_S_S1x256 main_cst_10
  let main_v31 : IVec S1x256 1 := cmpf .olt main_v29 main_v30
  let main_c_11 : IVec S_ 1 := constantI S_ 1 1#1
  let main_v32 : IVec S_ 1 := (fun x v => Host.reduce IntOp.andi x v reducesTo_S1x256_S_d0_1 h_S_) main_v31 main_c_11
  let main_v33 : IVec S_ 1 := andi main_v28 main_v32
  fn_part2 (F := F) main_arg9 main_arg10 main_arg11 main_v33

def fn {F : FTy → Type} [FloatOps F] (main_arg0 : FVec F S4x8x2048x96 .f32) (main_arg1 : FVec F S4x8x2048x64 .f32) (main_arg2 : FVec F S4x8x2048x64 .f32) (main_arg3 : FVec F S4x4x2048x32 .f32) (main_arg4 : FVec F S4x2048x8 .f32) (main_arg5 : FVec F S8192x256 .f32) (main_arg6 : FVec F S8192x128 .f32) (main_arg7 : IVec S4x2048 32) (main_arg8 : FVec F S1x256 .f32) (main_arg9 : FVec F S1x128 .f32) (main_arg10 : FVec F S256x768 .f32) (main_arg11 : FVec F S128x1024 .f32) : IVec S_ 1 :=
  let main_v0 : FVec F S4x8x2048x96 .f32 := Host.absf main_arg0
  let main_cst : FVec F S_ .f32 := constant S_ .f32 0x7F800000#32
  let main_v1 : FVec F S4x8x2048x96 .f32 := broadcastInDim S4x8x2048x96 ![] bcast_S_S4x8x2048x96 main_cst
  let main_v2 : IVec S4x8x2048x96 1 := cmpf .olt main_v0 main_v1
  let main_c : IVec S_ 1 := constantI S_ 1 1#1
  let main_v3 : IVec S_ 1 := (fun x v => Host.reduce IntOp.andi x v reducesTo_S4x8x2048x96_S_d0_1_2_3 h_S_) main_v2 main_c
  let main_v4 : FVec F S4x8x2048x64 .f32 := Host.absf main_arg1
  let main_cst_0 : FVec F S_ .f32 := constant S_ .f32 0x7F800000#32
  let main_v5 : FVec F S4x8x2048x64 .f32 := broadcastInDim S4x8x2048x64 ![] bcast_S_S4x8x2048x64 main_cst_0
  let main_v6 : IVec S4x8x2048x64 1 := cmpf .olt main_v4 main_v5
  let main_c_1 : IVec S_ 1 := constantI S_ 1 1#1
  let main_v7 : IVec S_ 1 := (fun x v => Host.reduce IntOp.andi x v reducesTo_S4x8x2048x64_S_d0_1_2_3 h_S_) main_v6 main_c_1
  let main_v8 : IVec S_ 1 := andi main_v3 main_v7
  let main_v9 : FVec F S4x8x2048x64 .f32 := Host.absf main_arg2
  let main_cst_2 : FVec F S_ .f32 := constant S_ .f32 0x7F800000#32
  let main_v10 : FVec F S4x8x2048x64 .f32 := broadcastInDim S4x8x2048x64 ![] bcast_S_S4x8x2048x64 main_cst_2
  let main_v11 : IVec S4x8x2048x64 1 := cmpf .olt main_v9 main_v10
  let main_c_3 : IVec S_ 1 := constantI S_ 1 1#1
  let main_v12 : IVec S_ 1 := (fun x v => Host.reduce IntOp.andi x v reducesTo_S4x8x2048x64_S_d0_1_2_3 h_S_) main_v11 main_c_3
  let main_v13 : IVec S_ 1 := andi main_v8 main_v12
  let main_v14 : FVec F S4x4x2048x32 .f32 := Host.absf main_arg3
  let main_cst_4 : FVec F S_ .f32 := constant S_ .f32 0x7F800000#32
  let main_v15 : FVec F S4x4x2048x32 .f32 := broadcastInDim S4x4x2048x32 ![] bcast_S_S4x4x2048x32 main_cst_4
  let main_v16 : IVec S4x4x2048x32 1 := cmpf .olt main_v14 main_v15
  fn_part1 (F := F) main_arg5 main_arg6 main_arg8 main_arg9 main_arg10 main_arg11 main_v13 main_v16
-- ==== Pre_swi_finite.lean ====
abbrev S8192x1024 : Shape := ⟨2, ![8192, 1024]⟩
abbrev S1024x2816 : Shape := ⟨2, ![1024, 2816]⟩
abbrev S2816x1024 : Shape := ⟨2, ![2816, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x2816 : S_.BroadcastsInDim S1024x2816 (![] : Fin 0 → Fin S1024x2816.rank)
  reducesTo_S1024x2816_S_d0_1 : S1024x2816.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_arg4 : FVec F S8192x1024 .f32) (main_v13 : IVec S_ 1) (main_v16 : IVec S2816x1024 1) : IVec S_ 1 :=
  let main_c_5 : IVec S_ 1 := constantI S_ 1 1#1
  let main_v17 : IVec S_ 1 := (fun x v => Host.reduce IntOp.andi x v reducesTo_S2816x1024_S_d0_1 h_S_) main_v16 main_c_5
  let main_v18 : IVec S_ 1 := andi main_v13 main_v17
  let main_v19 : FVec F S8192x1024 .f32 := Host.absf main_arg4
  let main_cst_6 : FVec F S_ .f32 := constant S_ .f32 0x7F800000#32
  let main_v20 : FVec F S8192x1024 .f32 := broadcastInDim S8192x1024 ![] bcast_S_S8192x1024 main_cst_6
  let main_v21 : IVec S8192x1024 1 := cmpf .olt main_v19 main_v20
  let main_c_7 : IVec S_ 1 := constantI S_ 1 1#1
  let main_v22 : IVec S_ 1 := (fun x v => Host.reduce IntOp.andi x v reducesTo_S8192x1024_S_d0_1 h_S_) main_v21 main_c_7
  let main_v23 : IVec S_ 1 := andi main_v18 main_v22
  main_v23

def fn {F : FTy → Type} [FloatOps F] (main_arg0 : FVec F S8192x1024 .f32) (main_arg1 : FVec F S1024x2816 .f32) (main_arg2 : FVec F S1024x2816 .f32) (main_arg3 : FVec F S2816x1024 .f32) (main_arg4 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024x2816 .f32 := Host.absf main_arg1
  let main_cst_0 : FVec F S_ .f32 := constant S_ .f32 0x7F800000#32
  let main_v5 : FVec F S1024x2816 .f32 := broadcastInDim S1024x2816 ![] bcast_S_S1024x2816 main_cst_0
  let main_v6 : IVec S1024x2816 1 := cmpf .olt main_v4 main_v5
  let main_c_1 : IVec S_ 1 := constantI S_ 1 1#1
  let main_v7 : IVec S_ 1 := (fun x v => Host.reduce IntOp.andi x v reducesTo_S1024x2816_S_d0_1 h_S_) main_v6 main_c_1
  let main_v8 : IVec S_ 1 := andi main_v3 main_v7
  let main_v9 : FVec F S1024x2816 .f32 := Host.absf main_arg2
  let main_cst_2 : FVec F S_ .f32 := constant S_ .f32 0x7F800000#32
  let main_v10 : FVec F S1024x2816 .f32 := broadcastInDim S1024x2816 ![] bcast_S_S1024x2816 main_cst_2
  let main_v11 : IVec S1024x2816 1 := cmpf .olt main_v9 main_v10
  let main_c_3 : IVec S_ 1 := constantI S_ 1 1#1
  let main_v12 : IVec S_ 1 := (fun x v => Host.reduce IntOp.andi x v reducesTo_S1024x2816_S_d0_1 h_S_) main_v11 main_c_3
  let main_v13 : IVec S_ 1 := andi main_v8 main_v12
  let main_v14 : FVec F S2816x1024 .f32 := Host.absf main_arg3
  let main_cst_4 : FVec F S_ .f32 := constant S_ .f32 0x7F800000#32
  let main_v15 : FVec F S2816x1024 .f32 := broadcastInDim S2816x1024 ![] bcast_S_S2816x1024 main_cst_4
  let main_v16 : IVec S2816x1024 1 := cmpf .olt main_v14 main_v15
  fn_part1 (F := F) main_arg4 main_v13 main_v16
-- ==== Pre_swif_finite.lean ====
abbrev S8192x1024 : Shape := ⟨2, ![8192, 1024]⟩
abbrev S1024x2816 : Shape := ⟨2, ![1024, 2816]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x2816 : S_.BroadcastsInDim S1024x2816 (![] : Fin 0 → Fin S1024x2816.rank)
  reducesTo_S1024x2816_S_d0_1 : S1024x2816.ReducesTo [0, 1] S_

variable [Facts]

def fn {F : FTy → Type} [FloatOps F] (main_arg0 : FVec F S8192x1024 .f32) (main_arg1 : FVec F S1024x2816 .f32) (main_arg2 : FVec F S1024x2816 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024x2816 .f32 := Host.absf main_arg1
  let main_cst_0 : FVec F S_ .f32 := constant S_ .f32 0x7F800000#32
  let main_v5 : FVec F S1024x2816 .f32 := broadcastInDim S1024x2816 ![] bcast_S_S1024x2816 main_cst_0
  let main_v6 : IVec S1024x2816 1 := cmpf .olt main_v4 main_v5
  let main_c_1 : IVec S_ 1 := constantI S_ 1 1#1
  let main_v7 : IVec S_ 1 := (fun x v => Host.reduce IntOp.andi x v reducesTo_S1024x2816_S_d0_1 h_S_) main_v6 main_c_1
  let main_v8 : IVec S_ 1 := andi main_v3 main_v7
  let main_v9 : FVec F S1024x2816 .f32 := Host.absf main_arg2
  let main_cst_2 : FVec F S_ .f32 := constant S_ .f32 0x7F800000#32
  let main_v10 : FVec F S1024x2816 .f32 := broadcastInDim S1024x2816 ![] bcast_S_S1024x2816 main_cst_2
  let main_v11 : IVec S1024x2816 1 := cmpf .olt main_v9 main_v10
  let main_c_3 : IVec S_ 1 := constantI S_ 1 1#1
  let main_v12 : IVec S_ 1 := (fun x v => Host.reduce IntOp.andi x v reducesTo_S1024x2816_S_d0_1 h_S_) main_v11 main_c_3
  let main_v13 : IVec S_ 1 := andi main_v8 main_v12
  main_v13
-- ==== GateKernel.lean ====
abbrev S4x2048x8 : Shape := ⟨3, ![4, 2048, 8]⟩
abbrev S1x8 : Shape := ⟨2, ![1, 8]⟩
abbrev S4x8x2048 : Shape := ⟨3, ![4, 8, 2048]⟩
abbrev S512x128 : Shape := ⟨2, ![512, 128]⟩
abbrev S1x8x1 : Shape := ⟨3, ![1, 8, 1]⟩
abbrev S4x8x16 : Shape := ⟨3, ![4, 8, 16]⟩
abbrev S512x1 : Shape := ⟨2, ![512, 1]⟩
abbrev S8x1 : Shape := ⟨2, ![8, 1]⟩
abbrev S128x128 : Shape := ⟨2, ![128, 128]⟩
abbrev S512x512 : Shape := ⟨2, ![512, 512]⟩
abbrev S8x512 : Shape := ⟨2, ![8, 512]⟩
abbrev S8x128 : Shape := ⟨2, ![8, 128]⟩
abbrev S8 : Shape := ⟨1, ![8]⟩

abbrev nBuf : Space → Nat
  | .hbm => 11
  | .vmem => 5
  | .smem => 0
  | _ => 0

abbrev bufTy : (tb : Table) → Fin (tcTables nBuf tb) → BufTy
  | .hbm, ⟨0, _⟩ => ⟨S4x2048x8, .f32⟩
  | .hbm, ⟨1, _⟩ => ⟨S1x8, .f32⟩
  | .hbm, ⟨2, _⟩ => ⟨S4x8x2048, .f32⟩
  | .hbm, ⟨3, _⟩ => ⟨S4x8x2048, .f32⟩
  | .hbm, ⟨4, _⟩ => ⟨S512x128, .f32⟩
  | .hbm, ⟨5, _⟩ => ⟨S1x8x1, .f32⟩
  | .hbm, ⟨6, _⟩ => ⟨S4x8x16, .f32⟩
  | .hbm, ⟨7, _⟩ => ⟨S512x1, .f32⟩
  | .hbm, ⟨8, _⟩ => ⟨S512x128, .f32⟩
  | .hbm, ⟨9, _⟩ => ⟨S512x128, .f32⟩
  | .hbm, ⟨10, _⟩ => ⟨S8x1, .f32⟩
  | .local _ .vmem, ⟨0, _⟩ => ⟨S512x128, .f32⟩
  | .local _ .vmem, ⟨1, _⟩ => ⟨S512x1, .f32⟩
  | .local _ .vmem, ⟨2, _⟩ => ⟨S512x128, .f32⟩
  | .local _ .vmem, ⟨3, _⟩ => ⟨S512x128, .f32⟩
  | .local _ .vmem, ⟨4, _⟩ => ⟨S8x1, .f32⟩
  | _, _ => ⟨S4x2048x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6_0 : Ref sig .tc := ⟨.hbm, 9, rfl⟩
abbrev main_v6_1 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S512x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== GateReferenceIdeal.lean ====
abbrev S4x2048x8 : Shape := ⟨3, ![4, 2048, 8]⟩
abbrev S1x8 : Shape := ⟨2, ![1, 8]⟩
abbrev S4x8x2048 : Shape := ⟨3, ![4, 8, 2048]⟩
abbrev S8 : Shape := ⟨1, ![8]⟩
abbrev S1x1x8 : Shape := ⟨3, ![1, 1, 8]⟩
abbrev S_ : Shape := ⟨0, ![]⟩
abbrev S512x128 : Shape := ⟨2, ![512, 128]⟩
abbrev S8x1 : Shape := ⟨2, ![8, 1]⟩

abbrev nBuf : Space → Nat
  | .hbm => 74
  | .vmem => 0
  | .smem => 0
  | _ => 0

abbrev bufTy : (tb : Table) → Fin (tcTables nBuf tb) → BufTy
  | .hbm, ⟨0, _⟩ => ⟨S4x2048x8, .f32⟩
  | .hbm, ⟨1, _⟩ => ⟨S1x8, .f32⟩
  | .hbm, ⟨2, _⟩ => ⟨S4x8x2048, .f32⟩
  | .hbm, ⟨3, _⟩ => ⟨S8, .f32⟩
  | .hbm, ⟨4, _⟩ => ⟨S1x1x8, .f32⟩
  | .hbm, ⟨5, _⟩ => ⟨S4x2048x8, .f32⟩
  | .hbm, ⟨6, _⟩ => ⟨S4x2048x8, .f32⟩
  | .hbm, ⟨7, _⟩ => ⟨S4x2048x8, .f32⟩
  | .hbm, ⟨8, _⟩ => ⟨S_, .f32⟩
  | .hbm, ⟨9, _⟩ => ⟨S4x2048x8, .f32⟩
  | .hbm, ⟨10, _⟩ => ⟨S4x2048x8, .f32⟩
  | .hbm, ⟨11, _⟩ => ⟨S4x2048x8, .f32⟩
  | .hbm, ⟨12, _⟩ => ⟨S4x2048x8, .f32⟩
  | .hbm, ⟨13, _⟩ => ⟨S4x2048x8, .i1⟩
  | .hbm, ⟨14, _⟩ => ⟨S4x2048x8, .f32⟩
  | .hbm, ⟨15, _⟩ => ⟨S4x2048x8, .f32⟩
  | .hbm, ⟨16, _⟩ => ⟨S4x2048x8, .f32⟩
  | .hbm, ⟨17, _⟩ => ⟨S4x2048x8, .f32⟩
  | .hbm, ⟨18, _⟩ => ⟨S4x2048x8, .f32⟩
  | .hbm, ⟨19, _⟩ => ⟨S4x2048x8, .f32⟩
  | .hbm, ⟨20, _⟩ => ⟨S4x2048x8, .f32⟩
  | .hbm, ⟨21, _⟩ => ⟨S4x2048x8, .f32⟩
  | .hbm, ⟨22, _⟩ => ⟨S_, .f32⟩
  | .hbm, ⟨23, _⟩ => ⟨S4x2048x8, .f32⟩
  | .hbm, ⟨24, _⟩ => ⟨S4x2048x8, .i1⟩
  | .hbm, ⟨25, _⟩ => ⟨S_, .f32⟩
  | .hbm, ⟨26, _⟩ => ⟨S4x2048x8, .f32⟩
  | .hbm, ⟨27, _⟩ => ⟨S4x2048x8, .f32⟩
  | .hbm, ⟨28, _⟩ => ⟨S_, .f32⟩
  | .hbm, ⟨29, _⟩ => ⟨S4x2048x8, .f32⟩
  | .hbm, ⟨30, _⟩ => ⟨S4x2048x8, .i1⟩
  | .hbm, ⟨31, _⟩ => ⟨S_, .f32⟩
  | .hbm, ⟨32, _⟩ => ⟨S4x2048x8, .f32⟩
  | .hbm, ⟨33, _⟩ => ⟨S4x2048x8, .f32⟩
  | .hbm, ⟨34, _⟩ => ⟨S4x2048x8, .f32⟩
  | .hbm, ⟨35, _⟩ => ⟨S4x2048x8, .f32⟩
  | .hbm, ⟨36, _⟩ => ⟨S_, .f32⟩
  | .hbm, ⟨37, _⟩ => ⟨S_, .f32⟩
  | .hbm, ⟨38, _⟩ => ⟨S_, .i1⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S4x2048x8, .f32⟩
  | .hbm, ⟨44, _⟩ => ⟨S4x2048x8, .i1⟩
  | .hbm, ⟨45, _⟩ => ⟨S_, .f32⟩
  | .hbm, ⟨46, _⟩ => ⟨S4x2048x8, .f32⟩
  | .hbm, ⟨47, _⟩ => ⟨S4x2048x8, .f32⟩
  | .hbm, ⟨48, _⟩ => ⟨S4x2048x8, .f32⟩
  | .hbm, ⟨49, _⟩ => ⟨S4x2048x8, .f32⟩
  | .hbm, ⟨50, _⟩ => ⟨S4x2048x8, .f32⟩
  | .hbm, ⟨51, _⟩ => ⟨S_, .f32⟩
  | .hbm, ⟨52, _⟩ => ⟨S4x2048x8, .f32⟩
  | .hbm, ⟨53, _⟩ => ⟨S4x2048x8, .f32⟩
  | .hbm, ⟨54, _⟩ => ⟨S4x2048x8, .f32⟩
  | .hbm, ⟨55, _⟩ => ⟨S_, .f32⟩
  | .hbm, ⟨56, _⟩ => ⟨S_, .f32⟩
  | .hbm, ⟨57, _⟩ => ⟨S4x2048x8, .f32⟩
  | .hbm, ⟨58, _⟩ => ⟨S4x8x2048, .f32⟩
  | .hbm, ⟨59, _⟩ => ⟨S4x2048x8, .f32⟩
  | .hbm, ⟨60, _⟩ => ⟨S_, .f32⟩
  | .hbm, ⟨61, _⟩ => ⟨S_, .f32⟩
  | .hbm, ⟨62, _⟩ => ⟨S4x2048x8, .f32⟩
  | .hbm, ⟨63, _⟩ => ⟨S4x2048x8, .f32⟩
  | .hbm, ⟨64, _⟩ => ⟨S4x2048x8, .f32⟩
  | .hbm, ⟨65, _⟩ => ⟨S4x2048x8, .f32⟩
  | .hbm, ⟨66, _⟩ => ⟨S_, .f32⟩
  | .hbm, ⟨67, _⟩ => ⟨S8, .f32⟩
  | .hbm, ⟨68, _⟩ => ⟨S1x1x8, .f32⟩
  | .hbm, ⟨69, _⟩ => ⟨S_, .f32⟩
  | .hbm, ⟨70, _⟩ => ⟨S8, .f32⟩
  | .hbm, ⟨71, _⟩ => ⟨S4x8x2048, .f32⟩
  | .hbm, ⟨72, _⟩ => ⟨S512x128, .f32⟩
  | .hbm, ⟨73, _⟩ => ⟨S8x1, .f32⟩
  | _, _ => ⟨S4x2048x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_v0 : Ref sig .tc := ⟨.hbm, 7, rfl⟩
abbrev main_call0_call0_cst : Ref sig .tc := ⟨.hbm, 8, rfl⟩
abbrev main_call0_call0_v0 : Ref sig .tc := ⟨.hbm, 9, rfl⟩
abbrev main_call0_call0_v1 : Ref sig .tc := ⟨.hbm, 10, rfl⟩
abbrev main_call0_call0_v2 : Ref sig .tc := ⟨.hbm, 11, rfl⟩
abbrev main_call0_call0_v3 : Ref sig .tc := ⟨.hbm, 12, rfl⟩
abbrev main_call0_call0_v4 : Ref sig .tc := ⟨.hbm, 13, rfl⟩
abbrev main_call0_call0_v5 : Ref sig .tc := ⟨.hbm, 14, rfl⟩
abbrev main_call0_call0_v6 : Ref sig .tc := ⟨.hbm, 15, rfl⟩
abbrev main_call0_call0_v7 : Ref sig .tc := ⟨.hbm, 16, rfl⟩
abbrev main_call0_call0_v8 : Ref sig .tc := ⟨.hbm, 17, rfl⟩
abbrev main_call0_call0_v9 : Ref sig .tc := ⟨.hbm, 18, rfl⟩
abbrev main_call0_call0_v10 : Ref sig .tc := ⟨.hbm, 19, rfl⟩
abbrev main_call0_call0_v11 : Ref sig .tc := ⟨.hbm, 20, rfl⟩
abbrev main_call0_v1_0 : Ref sig .tc := ⟨.hbm, 21, rfl⟩
abbrev main_call0_call0_cst_0 : Ref sig .tc := ⟨.hbm, 22, rfl⟩
abbrev main_call0_call0_v13 : Ref sig .tc := ⟨.hbm, 23, rfl⟩
abbrev main_call0_call0_v14 : Ref sig .tc := ⟨.hbm, 24, rfl⟩
abbrev main_call0_call0_cst_1 : Ref sig .tc := ⟨.hbm, 25, rfl⟩
abbrev main_call0_call0_v15 : Ref sig .tc := ⟨.hbm, 26, rfl⟩
abbrev main_call0_call0_v16 : Ref sig .tc := ⟨.hbm, 27, rfl⟩
abbrev main_call0_call0_cst_2 : Ref sig .tc := ⟨.hbm, 28, rfl⟩
abbrev main_call0_call0_v17 : Ref sig .tc := ⟨.hbm, 29, rfl⟩
abbrev main_call0_call0_v18 : Ref sig .tc := ⟨.hbm, 30, rfl⟩
abbrev main_call0_call0_cst_3 : Ref sig .tc := ⟨.hbm, 31, rfl⟩
abbrev main_call0_call0_v19 : Ref sig .tc := ⟨.hbm, 32, rfl⟩
abbrev main_call0_call0_v20 : Ref sig .tc := ⟨.hbm, 33, rfl⟩
abbrev main_call0_call0_v21 : Ref sig .tc := ⟨.hbm, 34, rfl⟩
abbrev main_v4_1 : Ref sig .tc := ⟨.hbm, 35, rfl⟩
abbrev main_call0_call0_cst_4 : Ref sig .tc := ⟨.hbm, 36, rfl⟩
abbrev main_call0_call0_cst_5 : Ref sig .tc := ⟨.hbm, 37, rfl⟩
abbrev main_call0_call0_v23 : Ref sig .tc := ⟨.hbm, 38, rfl⟩
abbrev main_call0_call0_cst_6 : Ref sig .tc := ⟨.hbm, 39, rfl⟩
abbrev main_call0_call0_cst_7 : Ref sig .tc := ⟨.hbm, 40, rfl⟩
abbrev main_call0_call0_v24 : Ref sig .tc := ⟨.hbm, 41, rfl⟩
abbrev main_call0_call0_cst_8 : Ref sig .tc := ⟨.hbm, 42, rfl⟩
abbrev main_call0_call0_v25 : Ref sig .tc := ⟨.hbm, 43, rfl⟩
abbrev main_call0_call0_v26 : Ref sig .tc := ⟨.hbm, 44, rfl⟩
abbrev main_call0_call0_cst_9 : Ref sig .tc := ⟨.hbm, 45, rfl⟩
abbrev main_call0_call0_v27 : Ref sig .tc := ⟨.hbm, 46, rfl⟩
abbrev main_call0_call0_v28 : Ref sig .tc := ⟨.hbm, 47, rfl⟩
abbrev main_call0_call0_v29 : Ref sig .tc := ⟨.hbm, 48, rfl⟩
abbrev main_call0_call0_v30 : Ref sig .tc := ⟨.hbm, 49, rfl⟩
abbrev main_call0_call0_v31 : Ref sig .tc := ⟨.hbm, 50, rfl⟩
abbrev main_call0_call0_cst_10 : Ref sig .tc := ⟨.hbm, 51, rfl⟩
abbrev main_call0_call0_v32 : Ref sig .tc := ⟨.hbm, 52, rfl⟩
abbrev main_v4_2 : Ref sig .tc := ⟨.hbm, 53, rfl⟩
abbrev main_v4_0 : Ref sig .tc := ⟨.hbm, 54, rfl⟩
abbrev main_call1_call0_cst : Ref sig .tc := ⟨.hbm, 55, rfl⟩
abbrev main_call1_call0_v0 : Ref sig .tc := ⟨.hbm, 56, rfl⟩
abbrev main_v5 : Ref sig .tc := ⟨.hbm, 57, rfl⟩
abbrev main_v6 : Ref sig .tc := ⟨.hbm, 58, rfl⟩
abbrev main_v7 : Ref sig .tc := ⟨.hbm, 59, rfl⟩
abbrev main_call2_call0_cst : Ref sig .tc := ⟨.hbm, 60, rfl⟩
abbrev main_call2_call0_v0 : Ref sig .tc := ⟨.hbm, 61, rfl⟩
abbrev main_v8 : Ref sig .tc := ⟨.hbm, 62, rfl⟩
abbrev main_call3_v0 : Ref sig .tc := ⟨.hbm, 63, rfl⟩
abbrev main_call3_v1 : Ref sig .tc := ⟨.hbm, 64, rfl⟩
abbrev main_v9 : Ref sig .tc := ⟨.hbm, 65, rfl⟩
abbrev main_cst : Ref sig .tc := ⟨.hbm, 66, rfl⟩
abbrev main_v10 : Ref sig .tc := ⟨.hbm, 67, rfl⟩
abbrev main_v11 : Ref sig .tc := ⟨.hbm, 68, rfl⟩
abbrev main_cst_0 : Ref sig .tc := ⟨.hbm, 69, rfl⟩
abbrev main_v12 : Ref sig .tc := ⟨.hbm, 70, rfl⟩
abbrev main_v13 : Ref sig .tc := ⟨.hbm, 71, rfl⟩
abbrev main_v14 : Ref sig .tc := ⟨.hbm, 72, rfl⟩
abbrev main_v15 : Ref sig .tc := ⟨.hbm, 73, rfl⟩

abbrev nD : Nat := 1
abbrev τ : Topo := Topo.v7x

variable {F : FTy → Type} [FloatOps F]
-- ==== FoxKernel.lean ====
abbrev S4x2048x512 : Shape := ⟨3, ![4, 2048, 512]⟩
abbrev S4x8x2048 : Shape := ⟨3, ![4, 8, 2048]⟩
abbrev S4x2048x8x64 : Shape := ⟨4, ![4, 2048, 8, 64]⟩
abbrev S4x8x2048x64 : Shape := ⟨4, ![4, 8, 2048, 64]⟩
abbrev S4x8x2048x2048 : Shape := ⟨4, ![4, 8, 2048, 2048]⟩
abbrev S_ : Shape := ⟨0, ![]⟩
abbrev S4x8x2048x1 : Shape := ⟨4, ![4, 8, 2048, 1]⟩
abbrev S4x8x1x2048 : Shape := ⟨4, ![4, 8, 1, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S8192x4x128 : Shape := ⟨3, ![8192, 4, 128]⟩
abbrev S8192x4x1x128 : Shape := ⟨4, ![8192, 4, 1, 128]⟩
abbrev S8192x4x3x128 : Shape := ⟨4, ![8192, 4, 3, 128]⟩
abbrev S8192x1536 : Shape := ⟨2, ![8192, 1536]⟩
abbrev S8192x512 : Shape := ⟨2, ![8192, 512]⟩
abbrev S32x1x2048 : Shape := ⟨3, ![32, 1, 2048]⟩
abbrev S2048x384 : Shape := ⟨2, ![2048, 384]⟩
abbrev S2048x128 : Shape := ⟨2, ![2048, 128]⟩
abbrev S2x1x2048 : Shape := ⟨3, ![2, 1, 2048]⟩
abbrev S256x256 : Shape := ⟨2, ![256, 256]⟩
abbrev S1x128 : Shape := ⟨2, ![1, 128]⟩
abbrev S256x128 : Shape := ⟨2, ![256, 128]⟩
abbrev S1x1x256 : Shape := ⟨3, ![1, 1, 256]⟩
abbrev S1x256 : Shape := ⟨2, ![1, 256]⟩
abbrev S256 : Shape := ⟨1, ![256]⟩
abbrev S256x1 : Shape := ⟨2, ![256, 1]⟩
abbrev S512x128 : Shape := ⟨2, ![512, 128]⟩
abbrev S256x512 : Shape := ⟨2, ![256, 512]⟩
abbrev S1x1x512 : Shape := ⟨3, ![1, 1, 512]⟩
abbrev S1x512 : Shape := ⟨2, ![1, 512]⟩
abbrev S512 : Shape := ⟨1, ![512]⟩

abbrev nBuf : Space → Nat
  | .hbm => 101
  | .vmem => 15
  | .smem => 0
  | _ => 0

abbrev bufTy : (tb : Table) → Fin (tcTables nBuf tb) → BufTy
  | .hbm, ⟨0, _⟩ => ⟨S4x2048x512, .f32⟩
  | .hbm, ⟨1, _⟩ => ⟨S4x2048x512, .f32⟩
  | .hbm, ⟨2, _⟩ => ⟨S4x2048x512, .f32⟩
  | .hbm, ⟨3, _⟩ => ⟨S4x8x2048, .f32⟩
  | .hbm, ⟨4, _⟩ => ⟨S4x2048x512, .f32⟩
  | .hbm, ⟨5, _⟩ => ⟨S4x2048x8x64, .f32⟩
  | .hbm, ⟨6, _⟩ => ⟨S4x8x2048x64, .f32⟩
  | .hbm, ⟨7, _⟩ => ⟨S4x2048x8x64, .f32⟩
  | .hbm, ⟨8, _⟩ => ⟨S4x8x2048x64, .f32⟩
  | .hbm, ⟨9, _⟩ => ⟨S4x2048x8x64, .f32⟩
  | .hbm, ⟨10, _⟩ => ⟨S4x8x2048x64, .f32⟩
  | .hbm, ⟨11, _⟩ => ⟨S4x2048x8x64, .f32⟩
  | .hbm, ⟨12, _⟩ => ⟨S4x8x2048x64, .f32⟩
  | .hbm, ⟨13, _⟩ => ⟨S4x8x2048x2048, .f32⟩
  | .hbm, ⟨14, _⟩ => ⟨S_, .f32⟩
  | .hbm, ⟨15, _⟩ => ⟨S4x8x2048x2048, .f32⟩
  | .hbm, ⟨16, _⟩ => ⟨S4x8x2048x2048, .f32⟩
  | .hbm, ⟨17, _⟩ => ⟨S4x8x2048x1, .f32⟩
  | .hbm, ⟨18, _⟩ => ⟨S4x8x1x2048, .f32⟩
  | .hbm, ⟨19, _⟩ => ⟨S4x8x2048x2048, .f32⟩
  | .hbm, ⟨20, _⟩ => ⟨S4x8x2048x2048, .f32⟩
  | .hbm, ⟨21, _⟩ => ⟨S4x8x2048x2048, .f32⟩
  | .hbm, ⟨22, _⟩ => ⟨S4x8x2048x2048, .f32⟩
  | .hbm, ⟨23, _⟩ => ⟨S2048, .i32⟩
  | .hbm, ⟨24, _⟩ => ⟨S1x2048, .i32⟩
  | .hbm, ⟨25, _⟩ => ⟨S2048, .i32⟩
  | .hbm, ⟨26, _⟩ => ⟨S2048x1, .i32⟩
  | .hbm, ⟨27, _⟩ => ⟨S2048x2048, .i32⟩
  | .hbm, ⟨28, _⟩ => ⟨S2048x2048, .i32⟩
  | .hbm, ⟨29, _⟩ => ⟨S2048x2048, .i1⟩
  | .hbm, ⟨30, _⟩ => ⟨S_, .f32⟩
  | .hbm, ⟨31, _⟩ => ⟨S_, .f32⟩
  | .hbm, ⟨32, _⟩ => ⟨S4x8x2048x2048, .i1⟩
  | .hbm, ⟨33, _⟩ => ⟨S4x8x2048x2048, .f32⟩
  | .hbm, ⟨34, _⟩ => ⟨S4x8x2048x2048, .f32⟩
  | .hbm, ⟨35, _⟩ => ⟨S_, .f32⟩
  | .hbm, ⟨36, _⟩ => ⟨S4x8x2048, .f32⟩
  | .hbm, ⟨37, _⟩ => ⟨S4x8x2048x1, .f32⟩
  | .hbm, ⟨38, _⟩ => ⟨S4x8x2048x2048, .f32⟩
  | .hbm, ⟨39, _⟩ => ⟨S4x8x2048x2048, .f32⟩
  | .hbm, ⟨40, _⟩ => ⟨S4x8x2048x2048, .f32⟩
  | .hbm, ⟨41, _⟩ => ⟨S_, .f32⟩
  | .hbm, ⟨42, _⟩ => ⟨S4x8x2048, .f32⟩
  | .hbm, ⟨43, _⟩ => ⟨S4x8x2048, .f32⟩
  | .hbm, ⟨44, _⟩ => ⟨S4x8x2048, .f32⟩
  | .hbm, ⟨45, _⟩ => ⟨S4x8x2048x2048, .f32⟩
  | .hbm, ⟨46, _⟩ => ⟨S_, .f32⟩
  | .hbm, ⟨47, _⟩ => ⟨S4x8x2048x2048, .f32⟩
  | .hbm, ⟨48, _⟩ => ⟨S4x8x2048x2048, .f32⟩
  | .hbm, ⟨49, _⟩ => ⟨S4x8x2048x1, .f32⟩
  | .hbm, ⟨50, _⟩ => ⟨S4x8x1x2048, .f32⟩
  | .hbm, ⟨51, _⟩ => ⟨S4x8x2048x2048, .f32⟩
  | .hbm, ⟨52, _⟩ => ⟨S4x8x2048x2048, .f32⟩
  | .hbm, ⟨53, _⟩ => ⟨S4x8x2048x2048, .f32⟩
  | .hbm, ⟨54, _⟩ => ⟨S4x8x2048x2048, .f32⟩
  | .hbm, ⟨55, _⟩ => ⟨S2048, .i32⟩
  | .hbm, ⟨56, _⟩ => ⟨S1x2048, .i32⟩
  | .hbm, ⟨57, _⟩ => ⟨S2048, .i32⟩
  | .hbm, ⟨58, _⟩ => ⟨S2048x1, .i32⟩
  | .hbm, ⟨59, _⟩ => ⟨S2048x2048, .i32⟩
  | .hbm, ⟨60, _⟩ => ⟨S2048x2048, .i32⟩
  | .hbm, ⟨61, _⟩ => ⟨S2048x2048, .i1⟩
  | .hbm, ⟨62, _⟩ => ⟨S_, .f32⟩
  | .hbm, ⟨63, _⟩ => ⟨S_, .f32⟩
  | .hbm, ⟨64, _⟩ => ⟨S4x8x2048x2048, .i1⟩
  | .hbm, ⟨65, _⟩ => ⟨S4x8x2048x2048, .f32⟩
  | .hbm, ⟨66, _⟩ => ⟨S4x8x2048x2048, .f32⟩
  | .hbm, ⟨67, _⟩ => ⟨S_, .f32⟩
  | .hbm, ⟨68, _⟩ => ⟨S4x8x2048, .f32⟩
  | .hbm, ⟨69, _⟩ => ⟨S_, .f32⟩
  | .hbm, ⟨70, _⟩ => ⟨S4x8x2048, .f32⟩
  | .hbm, ⟨71, _⟩ => ⟨S4x8x2048, .f32⟩
  | .hbm, ⟨72, _⟩ => ⟨S4x8x2048x1, .f32⟩
  | .hbm, ⟨73, _⟩ => ⟨S4x8x2048x2048, .f32⟩
  | .hbm, ⟨74, _⟩ => ⟨S4x8x2048x2048, .f32⟩
  | .hbm, ⟨75, _⟩ => ⟨S4x8x2048x2048, .f32⟩
  | .hbm, ⟨76, _⟩ => ⟨S_, .f32⟩
  | .hbm, ⟨77, _⟩ => ⟨S4x8x2048, .f32⟩
  | .hbm, ⟨78, _⟩ => ⟨S4x8x2048x1, .f32⟩
  | .hbm, ⟨79, _⟩ => ⟨S4x8x2048x2048, .f32⟩
  | .hbm, ⟨80, _⟩ => ⟨S4x8x2048x2048, .f32⟩
  | .hbm, ⟨81, _⟩ => ⟨S4x8x2048x64, .f32⟩
  | .hbm, ⟨82, _⟩ => ⟨S4x8x2048x64, .f32⟩
  | .hbm, ⟨83, _⟩ => ⟨S_, .f32⟩
  | .hbm, ⟨84, _⟩ => ⟨S4x8x2048, .f32⟩
  | .hbm, ⟨85, _⟩ => ⟨S8192x4x128, .f32⟩
  | .hbm, ⟨86, _⟩ => ⟨S8192x4x128, .f32⟩
  | .hbm, ⟨87, _⟩ => ⟨S8192x4x128, .f32⟩
  | .hbm, ⟨88, _⟩ => ⟨S8192x4x1x128, .f32⟩
  | .hbm, ⟨89, _⟩ => ⟨S8192x4x1x128, .f32⟩
  | .hbm, ⟨90, _⟩ => ⟨S8192x4x1x128, .f32⟩
  | .hbm, ⟨91, _⟩ => ⟨S8192x4x3x128, .f32⟩
  | .hbm, ⟨92, _⟩ => ⟨S8192x1536, .f32⟩
  | .hbm, ⟨93, _⟩ => ⟨S8192x1536, .bf16⟩
  | .hbm, ⟨94, _⟩ => ⟨S8192x512, .f32⟩
  | .hbm, ⟨95, _⟩ => ⟨S8192x512, .bf16⟩
  | .hbm, ⟨96, _⟩ => ⟨S32x1x2048, .f32⟩
  | .hbm, ⟨97, _⟩ => ⟨S32x1x2048, .f32⟩
  | .hbm, ⟨98, _⟩ => ⟨S32x1x2048, .f32⟩
  | .hbm, ⟨99, _⟩ => ⟨S8192x1536, .bf16⟩
  | .hbm, ⟨100, _⟩ => ⟨S32x1x2048, .f32⟩
  | .local _ .vmem, ⟨0, _⟩ => ⟨S2048x384, .bf16⟩
  | .local _ .vmem, ⟨1, _⟩ => ⟨S2048x384, .bf16⟩
  | .local _ .vmem, ⟨2, _⟩ => ⟨S2048x128, .bf16⟩
  | .local _ .vmem, ⟨3, _⟩ => ⟨S2048x128, .bf16⟩
  | .local _ .vmem, ⟨4, _⟩ => ⟨S2x1x2048, .f32⟩
  | .local _ .vmem, ⟨5, _⟩ => ⟨S2x1x2048, .f32⟩
  | .local _ .vmem, ⟨6, _⟩ => ⟨S2x1x2048, .f32⟩
  | .local _ .vmem, ⟨7, _⟩ => ⟨S2x1x2048, .f32⟩
  | .local _ .vmem, ⟨8, _⟩ => ⟨S2x1x2048, .f32⟩
  | .local _ .vmem, ⟨9, _⟩ => ⟨S2x1x2048, .f32⟩
  | .local _ .vmem, ⟨10, _⟩ => ⟨S2048x384, .bf16⟩
  | .local _ .vmem, ⟨11, _⟩ => ⟨S2048x384, .bf16⟩
  | .local _ .vmem, ⟨12, _⟩ => ⟨S2x1x2048, .f32⟩
  | .local _ .vmem, ⟨13, _⟩ => ⟨S2x1x2048, .f32⟩
  | .local _ .vmem, ⟨14, _⟩ => ⟨S2048x128, .f32⟩
  | _, _ => ⟨S4x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_0 : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_v24 : Ref sig .tc := ⟨.hbm, 34, rfl⟩
abbrev main_cst_1 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_2 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_3 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_cst_4 : Ref sig .tc := ⟨.hbm, 62, rfl⟩
abbrev main_call1_v0 : Ref sig .tc := ⟨.hbm, 63, rfl⟩
abbrev main_call1_v1 : Ref sig .tc := ⟨.hbm, 64, rfl⟩
abbrev main_call1_v2 : Ref sig .tc := ⟨.hbm, 65, rfl⟩
abbrev main_v49 : Ref sig .tc := ⟨.hbm, 66, rfl⟩
abbrev main_cst_5 : Ref sig .tc := ⟨.hbm, 67, rfl⟩
abbrev main_v50 : Ref sig .tc := ⟨.hbm, 68, rfl⟩
abbrev main_cst_6 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_cst_7 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_cst_8 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78_0 : Ref sig .tc := ⟨.hbm, 99, rfl⟩
abbrev main_v78_1 : Ref sig .tc := ⟨.hbm, 100, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

abbrev stage0_0 : Fin 2 → Memref sig .tc .vmem S2048x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x384 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2x1x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== FoxKernelIdeal.lean ====
variable {F : FTy → Type} [FloatOps F] [Named F]
def κ : String → Option EReal := fun
  | "mask" => some ⊥
  | _ => none
-- ==== FoxReferenceIdeal.lean ====
abbrev S4x2048x512 : Shape := ⟨3, ![4, 2048, 512]⟩
abbrev S4x8x2048 : Shape := ⟨3, ![4, 8, 2048]⟩
abbrev S4x2048x8x64 : Shape := ⟨4, ![4, 2048, 8, 64]⟩
abbrev S4x8x2048x64 : Shape := ⟨4, ![4, 8, 2048, 64]⟩
abbrev S4x8x2048x2048 : Shape := ⟨4, ![4, 8, 2048, 2048]⟩
abbrev S_ : Shape := ⟨0, ![]⟩
abbrev S4x8x2048x1 : Shape := ⟨4, ![4, 8, 2048, 1]⟩
abbrev S4x8x1x2048 : Shape := ⟨4, ![4, 8, 1, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S4x8x64x2048 : Shape := ⟨4, ![4, 8, 64, 2048]⟩
abbrev S8192x4x1x128 : Shape := ⟨4, ![8192, 4, 1, 128]⟩
abbrev S8192x4x3x128 : Shape := ⟨4, ![8192, 4, 3, 128]⟩
abbrev S8192x1536 : Shape := ⟨2, ![8192, 1536]⟩
abbrev S32x1x2048 : Shape := ⟨3, ![32, 1, 2048]⟩

abbrev nBuf : Space → Nat
  | .hbm => 128
  | .vmem => 0
  | .smem => 0
  | _ => 0

abbrev bufTy : (tb : Table) → Fin (tcTables nBuf tb) → BufTy
  | .hbm, ⟨0, _⟩ => ⟨S4x2048x512, .f32⟩
  | .hbm, ⟨1, _⟩ => ⟨S4x2048x512, .f32⟩
  | .hbm, ⟨2, _⟩ => ⟨S4x2048x512, .f32⟩
  | .hbm, ⟨3, _⟩ => ⟨S4x8x2048, .f32⟩
  | .hbm, ⟨4, _⟩ => ⟨S4x2048x512, .f32⟩
  | .hbm, ⟨5, _⟩ => ⟨S4x2048x8x64, .f32⟩
  | .hbm, ⟨6, _⟩ => ⟨S4x8x2048x64, .f32⟩
  | .hbm, ⟨7, _⟩ => ⟨S4x2048x8x64, .f32⟩
  | .hbm, ⟨8, _⟩ => ⟨S4x8x2048x64, .f32⟩
  | .hbm, ⟨9, _⟩ => ⟨S4x2048x8x64, .f32⟩
  | .hbm, ⟨10, _⟩ => ⟨S4x8x2048x64, .f32⟩
  | .hbm, ⟨11, _⟩ => ⟨S4x8x2048x2048, .f32⟩
  | .hbm, ⟨12, _⟩ => ⟨S_, .f32⟩
  | .hbm, ⟨13, _⟩ => ⟨S4x8x2048x2048, .f32⟩
  | .hbm, ⟨14, _⟩ => ⟨S4x8x2048x2048, .f32⟩
  | .hbm, ⟨15, _⟩ => ⟨S4x8x2048x1, .f32⟩
  | .hbm, ⟨16, _⟩ => ⟨S4x8x1x2048, .f32⟩
  | .hbm, ⟨17, _⟩ => ⟨S4x8x2048x2048, .f32⟩
  | .hbm, ⟨18, _⟩ => ⟨S4x8x2048x2048, .f32⟩
  | .hbm, ⟨19, _⟩ => ⟨S4x8x2048x2048, .f32⟩
  | .hbm, ⟨20, _⟩ => ⟨S4x8x2048x2048, .f32⟩
  | .hbm, ⟨21, _⟩ => ⟨S2048, .i32⟩
  | .hbm, ⟨22, _⟩ => ⟨S1x2048, .i32⟩
  | .hbm, ⟨23, _⟩ => ⟨S2048, .i32⟩
  | .hbm, ⟨24, _⟩ => ⟨S2048x1, .i32⟩
  | .hbm, ⟨25, _⟩ => ⟨S2048x2048, .i32⟩
  | .hbm, ⟨26, _⟩ => ⟨S2048x2048, .i32⟩
  | .hbm, ⟨27, _⟩ => ⟨S2048x2048, .i1⟩
  | .hbm, ⟨28, _⟩ => ⟨S_, .f32⟩
  | .hbm, ⟨29, _⟩ => ⟨S_, .f32⟩
  | .hbm, ⟨30, _⟩ => ⟨S4x8x2048x2048, .i1⟩
  | .hbm, ⟨31, _⟩ => ⟨S4x8x2048x2048, .f32⟩
  | .hbm, ⟨32, _⟩ => ⟨S4x8x2048x2048, .f32⟩
  | .hbm, ⟨33, _⟩ => ⟨S_, .f32⟩
  | .hbm, ⟨34, _⟩ => ⟨S4x8x2048x2048, .f32⟩
  | .hbm, ⟨35, _⟩ => ⟨S_, .f32⟩
  | .hbm, ⟨36, _⟩ => ⟨S4x8x2048, .f32⟩
  | .hbm, ⟨37, _⟩ => ⟨S4x8x2048x1, .f32⟩
  | .hbm, ⟨38, _⟩ => ⟨S4x8x2048x2048, .f32⟩
  | .hbm, ⟨39, _⟩ => ⟨S4x8x2048x2048, .i1⟩
  | .hbm, ⟨40, _⟩ => ⟨S4x8x2048x2048, .f32⟩
  | .hbm, ⟨41, _⟩ => ⟨S_, .f32⟩
  | .hbm, ⟨42, _⟩ => ⟨S4x8x2048, .f32⟩
  | .hbm, ⟨43, _⟩ => ⟨S_, .f32⟩
  | .hbm, ⟨44, _⟩ => ⟨S4x8x2048, .f32⟩
  | .hbm, ⟨45, _⟩ => ⟨S4x8x2048, .f32⟩
  | .hbm, ⟨46, _⟩ => ⟨S_, .f32⟩
  | .hbm, ⟨47, _⟩ => ⟨S4x8x2048, .f32⟩
  | .hbm, ⟨48, _⟩ => ⟨S4x8x2048, .i1⟩
  | .hbm, ⟨49, _⟩ => ⟨S_, .f32⟩
  | .hbm, ⟨50, _⟩ => ⟨S4x8x2048, .f32⟩
  | .hbm, ⟨51, _⟩ => ⟨S4x8x2048, .i1⟩
  | .hbm, ⟨52, _⟩ => ⟨S_, .f32⟩
  | .hbm, ⟨53, _⟩ => ⟨S4x8x2048, .f32⟩
  | .hbm, ⟨54, _⟩ => ⟨S_, .f32⟩
  | .hbm, ⟨55, _⟩ => ⟨S4x8x2048, .f32⟩
  | .hbm, ⟨56, _⟩ => ⟨S_, .f32⟩
  | .hbm, ⟨57, _⟩ => ⟨S4x8x2048, .f32⟩
  | .hbm, ⟨58, _⟩ => ⟨S4x8x2048, .f32⟩
  | .hbm, ⟨59, _⟩ => ⟨S4x8x2048, .f32⟩
  | .hbm, ⟨60, _⟩ => ⟨S4x8x2048x1, .f32⟩
  | .hbm, ⟨61, _⟩ => ⟨S4x8x2048x2048, .f32⟩
  | .hbm, ⟨62, _⟩ => ⟨S4x8x2048x2048, .f32⟩
  | .hbm, ⟨63, _⟩ => ⟨S4x8x2048x2048, .f32⟩
  | .hbm, ⟨64, _⟩ => ⟨S_, .f32⟩
  | .hbm, ⟨65, _⟩ => ⟨S4x8x2048, .f32⟩
  | .hbm, ⟨66, _⟩ => ⟨S4x8x2048x1, .f32⟩
  | .hbm, ⟨67, _⟩ => ⟨S4x8x2048x2048, .f32⟩
  | .hbm, ⟨68, _⟩ => ⟨S4x8x2048x2048, .f32⟩
  | .hbm, ⟨69, _⟩ => ⟨S4x8x2048x1, .f32⟩
  | .hbm, ⟨70, _⟩ => ⟨S_, .f32⟩
  | .hbm, ⟨71, _⟩ => ⟨S4x8x2048x1, .f32⟩
  | .hbm, ⟨72, _⟩ => ⟨S4x8x2048x1, .f32⟩
  | .hbm, ⟨73, _⟩ => ⟨S4x8x2048x64, .f32⟩
  | .hbm, ⟨74, _⟩ => ⟨S4x2048x8x64, .f32⟩
  | .hbm, ⟨75, _⟩ => ⟨S4x2048x512, .f32⟩
  | .hbm, ⟨76, _⟩ => ⟨S4x2048x8x64, .f32⟩
  | .hbm, ⟨77, _⟩ => ⟨S4x8x2048x64, .f32⟩
  | .hbm, ⟨78, _⟩ => ⟨S4x8x64x2048, .f32⟩
  | .hbm, ⟨79, _⟩ => ⟨S4x8x2048x64, .f32⟩
  | .hbm, ⟨80, _⟩ => ⟨S4x8x2048x2048, .f32⟩
  | .hbm, ⟨81, _⟩ => ⟨S4x8x2048x2048, .f32⟩
  | .hbm, ⟨82, _⟩ => ⟨S4x8x2048x2048, .f32⟩
  | .hbm, ⟨83, _⟩ => ⟨S4x8x2048x2048, .f32⟩
  | .hbm, ⟨84, _⟩ => ⟨S_, .f32⟩
  | .hbm, ⟨85, _⟩ => ⟨S4x8x2048, .f32⟩
  | .hbm, ⟨86, _⟩ => ⟨S4x8x2048x1, .f32⟩
  | .hbm, ⟨87, _⟩ => ⟨S4x8x2048x1, .f32⟩
  | .hbm, ⟨88, _⟩ => ⟨S4x8x2048x2048, .f32⟩
  | .hbm, ⟨89, _⟩ => ⟨S4x8x2048x2048, .f32⟩
  | .hbm, ⟨90, _⟩ => ⟨S_, .f32⟩
  | .hbm, ⟨91, _⟩ => ⟨S4x8x2048, .f32⟩
  | .hbm, ⟨92, _⟩ => ⟨S4x8x2048x2048, .f32⟩
  | .hbm, ⟨93, _⟩ => ⟨S4x8x2048x2048, .f32⟩
  | .hbm, ⟨94, _⟩ => ⟨S4x8x2048x2048, .f32⟩
  | .hbm, ⟨95, _⟩ => ⟨S_, .f32⟩
  | .hbm, ⟨96, _⟩ => ⟨S4x8x2048x2048, .f32⟩
  | .hbm, ⟨97, _⟩ => ⟨S4x8x2048x2048, .f32⟩
  | .hbm, ⟨98, _⟩ => ⟨S_, .f32⟩
  | .hbm, ⟨99, _⟩ => ⟨S4x8x2048, .f32⟩
  | .hbm, ⟨100, _⟩ => ⟨S4x8x2048x1, .f32⟩
  | .hbm, ⟨101, _⟩ => ⟨S4x8x2048x2048, .f32⟩
  | .hbm, ⟨102, _⟩ => ⟨S_, .f32⟩
  | .hbm, ⟨103, _⟩ => ⟨S4x8x2048, .f32⟩
  | .hbm, ⟨104, _⟩ => ⟨S4x8x1x2048, .f32⟩
  | .hbm, ⟨105, _⟩ => ⟨S_, .f32⟩
  | .hbm, ⟨106, _⟩ => ⟨S4x8x2048, .f32⟩
  | .hbm, ⟨107, _⟩ => ⟨S_, .f32⟩
  | .hbm, ⟨108, _⟩ => ⟨S4x8x2048, .f32⟩
  | .hbm, ⟨109, _⟩ => ⟨S4x8x2048, .f32⟩
  | .hbm, ⟨110, _⟩ => ⟨S_, .f32⟩
  | .hbm, ⟨111, _⟩ => ⟨S4x8x2048x2048, .f32⟩
  | .hbm, ⟨112, _⟩ => ⟨S4x8x2048x2048, .f32⟩
  | .hbm, ⟨113, _⟩ => ⟨S4x8x2048x64, .f32⟩
  | .hbm, ⟨114, _⟩ => ⟨S4x8x2048x64, .f32⟩
  | .hbm, ⟨115, _⟩ => ⟨S4x2048x8x64, .f32⟩
  | .hbm, ⟨116, _⟩ => ⟨S4x2048x512, .f32⟩
  | .hbm, ⟨117, _⟩ => ⟨S4x2048x8x64, .f32⟩
  | .hbm, ⟨118, _⟩ => ⟨S4x2048x512, .f32⟩
  | .hbm, ⟨119, _⟩ => ⟨S4x2048x8x64, .f32⟩
  | .hbm, ⟨120, _⟩ => ⟨S4x2048x512, .f32⟩
  | .hbm, ⟨121, _⟩ => ⟨S8192x4x1x128, .f32⟩
  | .hbm, ⟨122, _⟩ => ⟨S8192x4x1x128, .f32⟩
  | .hbm, ⟨123, _⟩ => ⟨S8192x4x1x128, .f32⟩
  | .hbm, ⟨124, _⟩ => ⟨S8192x4x3x128, .f32⟩
  | .hbm, ⟨125, _⟩ => ⟨S8192x1536, .f32⟩
  | .hbm, ⟨126, _⟩ => ⟨S8192x1536, .bf16⟩
  | .hbm, ⟨127, _⟩ => ⟨S32x1x2048, .f32⟩
  | _, _ => ⟨S4x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_0 : Ref sig .tc := ⟨.hbm, 28, rfl⟩
abbrev main_call0_v0 : Ref sig .tc := ⟨.hbm, 29, rfl⟩
abbrev main_v22_1 : Ref sig .tc := ⟨.hbm, 30, rfl⟩
abbrev main_call0_v2 : Ref sig .tc := ⟨.hbm, 31, rfl⟩
abbrev main_v22_0 : Ref sig .tc := ⟨.hbm, 32, rfl⟩
abbrev main_call0_cst : Ref sig .tc := ⟨.hbm, 33, rfl⟩
abbrev main_v22_2 : Ref sig .tc := ⟨.hbm, 34, rfl⟩
abbrev main_cst_1 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_2 : Ref sig .tc := ⟨.hbm, 41, rfl⟩
abbrev main_v28 : Ref sig .tc := ⟨.hbm, 42, rfl⟩
abbrev main_cst_3 : Ref sig .tc := ⟨.hbm, 43, rfl⟩
abbrev main_v29 : Ref sig .tc := ⟨.hbm, 44, rfl⟩
abbrev main_v30 : Ref sig .tc := ⟨.hbm, 45, rfl⟩
abbrev main_cst_4 : Ref sig .tc := ⟨.hbm, 46, rfl⟩
abbrev main_v31 : Ref sig .tc := ⟨.hbm, 47, rfl⟩
abbrev main_v32 : Ref sig .tc := ⟨.hbm, 48, rfl⟩
abbrev main_cst_5 : Ref sig .tc := ⟨.hbm, 49, rfl⟩
abbrev main_v33 : Ref sig .tc := ⟨.hbm, 50, rfl⟩
abbrev main_v34 : Ref sig .tc := ⟨.hbm, 51, rfl⟩
abbrev main_cst_6 : Ref sig .tc := ⟨.hbm, 52, rfl⟩
abbrev main_v35 : Ref sig .tc := ⟨.hbm, 53, rfl⟩
abbrev main_cst_7 : Ref sig .tc := ⟨.hbm, 54, rfl⟩
abbrev main_v36 : Ref sig .tc := ⟨.hbm, 55, rfl⟩
abbrev main_cst_8 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_9 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_10 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_cst_11 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_cst_12 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_call1_cst : Ref sig .tc := ⟨.hbm, 95, rfl⟩
abbrev main_call1_v0 : Ref sig .tc := ⟨.hbm, 96, rfl⟩
abbrev main_v71 : Ref sig .tc := ⟨.hbm, 97, rfl⟩
abbrev main_cst_13 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_cst_14 : Ref sig .tc := ⟨.hbm, 102, rfl⟩
abbrev main_v75 : Ref sig .tc := ⟨.hbm, 103, rfl⟩
abbrev main_v76 : Ref sig .tc := ⟨.hbm, 104, rfl⟩
abbrev main_cst_15 : Ref sig .tc := ⟨.hbm, 105, rfl⟩
abbrev main_v77 : Ref sig .tc := ⟨.hbm, 106, rfl⟩
abbrev main_cst_16 : Ref sig .tc := ⟨.hbm, 107, rfl⟩
abbrev main_v78 : Ref sig .tc := ⟨.hbm, 108, rfl⟩
abbrev main_v79 : Ref sig .tc := ⟨.hbm, 109, rfl⟩
abbrev main_cst_17 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩

abbrev nD : Nat := 1
abbrev τ : Topo := Topo.v7x

variable {F : FTy → Type} [FloatOps F]
-- ==== FoxFKernel.lean ====
abbrev S4x2048x512 : Shape := ⟨3, ![4, 2048, 512]⟩
abbrev S4x8x2048 : Shape := ⟨3, ![4, 8, 2048]⟩
abbrev S8192x4x128 : Shape := ⟨3, ![8192, 4, 128]⟩
abbrev S8192x4x1x128 : Shape := ⟨4, ![8192, 4, 1, 128]⟩
abbrev S8192x4x3x128 : Shape := ⟨4, ![8192, 4, 3, 128]⟩
abbrev S8192x1536 : Shape := ⟨2, ![8192, 1536]⟩
abbrev S32x1x2048 : Shape := ⟨3, ![32, 1, 2048]⟩
abbrev S8192x512 : Shape := ⟨2, ![8192, 512]⟩
abbrev S2048x384 : Shape := ⟨2, ![2048, 384]⟩
abbrev S2x1x2048 : Shape := ⟨3, ![2, 1, 2048]⟩
abbrev S2048x128 : Shape := ⟨2, ![2048, 128]⟩
abbrev S256x256 : Shape := ⟨2, ![256, 256]⟩
abbrev S1x128 : Shape := ⟨2, ![1, 128]⟩
abbrev S256x128 : Shape := ⟨2, ![256, 128]⟩
abbrev S1x1x256 : Shape := ⟨3, ![1, 1, 256]⟩
abbrev S1x256 : Shape := ⟨2, ![1, 256]⟩
abbrev S256 : Shape := ⟨1, ![256]⟩
abbrev S256x1 : Shape := ⟨2, ![256, 1]⟩
abbrev S512x128 : Shape := ⟨2, ![512, 128]⟩
abbrev S256x512 : Shape := ⟨2, ![256, 512]⟩
abbrev S1x1x512 : Shape := ⟨3, ![1, 1, 512]⟩
abbrev S1x512 : Shape := ⟨2, ![1, 512]⟩
abbrev S768x128 : Shape := ⟨2, ![768, 128]⟩
abbrev S256x768 : Shape := ⟨2, ![256, 768]⟩
abbrev S1x1x768 : Shape := ⟨3, ![1, 1, 768]⟩
abbrev S1x768 : Shape := ⟨2, ![1, 768]⟩
abbrev S1024x128 : Shape := ⟨2, ![1024, 128]⟩
abbrev S256x1024 : Shape := ⟨2, ![256, 1024]⟩
abbrev S1x1x1024 : Shape := ⟨3, ![1, 1, 1024]⟩
abbrev S1x1024 : Shape := ⟨2, ![1, 1024]⟩

abbrev nBuf : Space → Nat
  | .hbm => 16
  | .vmem => 8
  | .smem => 0
  | _ => 0

abbrev bufTy : (tb : Table) → Fin (tcTables nBuf tb) → BufTy
  | .hbm, ⟨0, _⟩ => ⟨S4x2048x512, .f32⟩
  | .hbm, ⟨1, _⟩ => ⟨S4x2048x512, .f32⟩
  | .hbm, ⟨2, _⟩ => ⟨S4x2048x512, .f32⟩
  | .hbm, ⟨3, _⟩ => ⟨S4x8x2048, .f32⟩
  | .hbm, ⟨4, _⟩ => ⟨S8192x4x128, .f32⟩
  | .hbm, ⟨5, _⟩ => ⟨S8192x4x128, .f32⟩
  | .hbm, ⟨6, _⟩ => ⟨S8192x4x128, .f32⟩
  | .hbm, ⟨7, _⟩ => ⟨S8192x4x1x128, .f32⟩
  | .hbm, ⟨8, _⟩ => ⟨S8192x4x1x128, .f32⟩
  | .hbm, ⟨9, _⟩ => ⟨S8192x4x1x128, .f32⟩
  | .hbm, ⟨10, _⟩ => ⟨S8192x4x3x128, .f32⟩
  | .hbm, ⟨11, _⟩ => ⟨S8192x1536, .f32⟩
  | .hbm, ⟨12, _⟩ => ⟨S8192x1536, .bf16⟩
  | .hbm, ⟨13, _⟩ => ⟨S32x1x2048, .f32⟩
  | .hbm, ⟨14, _⟩ => ⟨S8192x512, .f32⟩
  | .hbm, ⟨15, _⟩ => ⟨S32x1x2048, .f32⟩
  | .local _ .vmem, ⟨0, _⟩ => ⟨S2048x384, .bf16⟩
  | .local _ .vmem, ⟨1, _⟩ => ⟨S2048x384, .bf16⟩
  | .local _ .vmem, ⟨2, _⟩ => ⟨S2x1x2048, .f32⟩
  | .local _ .vmem, ⟨3, _⟩ => ⟨S2x1x2048, .f32⟩
  | .local _ .vmem, ⟨4, _⟩ => ⟨S2048x128, .f32⟩
  | .local _ .vmem, ⟨5, _⟩ => ⟨S2048x128, .f32⟩
  | .local _ .vmem, ⟨6, _⟩ => ⟨S2x1x2048, .f32⟩
  | .local _ .vmem, ⟨7, _⟩ => ⟨S2x1x2048, .f32⟩
  | _, _ => ⟨S4x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10_0 : Ref sig .tc := ⟨.hbm, 14, rfl⟩
abbrev main_v10_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

abbrev stage0_0 : Fin 2 → Memref sig .tc .vmem S2048x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== FoxFKernelIdeal.lean ====
variable {F : FTy → Type} [FloatOps F] [Named F]
def κ : String → Option EReal := fun
  | "mask" => some ⊥
  | _ => none
-- ==== FoxFReferenceIdeal.lean ====
abbrev S4x2048x512 : Shape := ⟨3, ![4, 2048, 512]⟩
abbrev S4x8x2048 : Shape := ⟨3, ![4, 8, 2048]⟩
abbrev S4x2048x8x64 : Shape := ⟨4, ![4, 2048, 8, 64]⟩
abbrev S4x8x2048x64 : Shape := ⟨4, ![4, 8, 2048, 64]⟩
abbrev S4x8x2048x2048 : Shape := ⟨4, ![4, 8, 2048, 2048]⟩
abbrev S_ : Shape := ⟨0, ![]⟩
abbrev S4x8x2048x1 : Shape := ⟨4, ![4, 8, 2048, 1]⟩
abbrev S4x8x1x2048 : Shape := ⟨4, ![4, 8, 1, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S8192x512 : Shape := ⟨2, ![8192, 512]⟩
abbrev S32x1x2048 : Shape := ⟨3, ![32, 1, 2048]⟩

abbrev nBuf : Space → Nat
  | .hbm => 83
  | .vmem => 0
  | .smem => 0
  | _ => 0

abbrev bufTy : (tb : Table) → Fin (tcTables nBuf tb) → BufTy
  | .hbm, ⟨0, _⟩ => ⟨S4x2048x512, .f32⟩
  | .hbm, ⟨1, _⟩ => ⟨S4x2048x512, .f32⟩
  | .hbm, ⟨2, _⟩ => ⟨S4x2048x512, .f32⟩
  | .hbm, ⟨3, _⟩ => ⟨S4x8x2048, .f32⟩
  | .hbm, ⟨4, _⟩ => ⟨S4x2048x8x64, .f32⟩
  | .hbm, ⟨5, _⟩ => ⟨S4x8x2048x64, .f32⟩
  | .hbm, ⟨6, _⟩ => ⟨S4x2048x8x64, .f32⟩
  | .hbm, ⟨7, _⟩ => ⟨S4x8x2048x64, .f32⟩
  | .hbm, ⟨8, _⟩ => ⟨S4x2048x8x64, .f32⟩
  | .hbm, ⟨9, _⟩ => ⟨S4x8x2048x64, .f32⟩
  | .hbm, ⟨10, _⟩ => ⟨S4x8x2048x2048, .f32⟩
  | .hbm, ⟨11, _⟩ => ⟨S_, .f32⟩
  | .hbm, ⟨12, _⟩ => ⟨S4x8x2048x2048, .f32⟩
  | .hbm, ⟨13, _⟩ => ⟨S4x8x2048x2048, .f32⟩
  | .hbm, ⟨14, _⟩ => ⟨S4x8x2048x1, .f32⟩
  | .hbm, ⟨15, _⟩ => ⟨S4x8x1x2048, .f32⟩
  | .hbm, ⟨16, _⟩ => ⟨S4x8x2048x2048, .f32⟩
  | .hbm, ⟨17, _⟩ => ⟨S4x8x2048x2048, .f32⟩
  | .hbm, ⟨18, _⟩ => ⟨S4x8x2048x2048, .f32⟩
  | .hbm, ⟨19, _⟩ => ⟨S4x8x2048x2048, .f32⟩
  | .hbm, ⟨20, _⟩ => ⟨S2048, .i32⟩
  | .hbm, ⟨21, _⟩ => ⟨S1x2048, .i32⟩
  | .hbm, ⟨22, _⟩ => ⟨S2048, .i32⟩
  | .hbm, ⟨23, _⟩ => ⟨S2048x1, .i32⟩
  | .hbm, ⟨24, _⟩ => ⟨S2048x2048, .i32⟩
  | .hbm, ⟨25, _⟩ => ⟨S2048x2048, .i32⟩
  | .hbm, ⟨26, _⟩ => ⟨S2048x2048, .i1⟩
  | .hbm, ⟨27, _⟩ => ⟨S_, .f32⟩
  | .hbm, ⟨28, _⟩ => ⟨S_, .f32⟩
  | .hbm, ⟨29, _⟩ => ⟨S4x8x2048x2048, .i1⟩
  | .hbm, ⟨30, _⟩ => ⟨S4x8x2048x2048, .f32⟩
  | .hbm, ⟨31, _⟩ => ⟨S4x8x2048x2048, .f32⟩
  | .hbm, ⟨32, _⟩ => ⟨S_, .f32⟩
  | .hbm, ⟨33, _⟩ => ⟨S4x8x2048, .f32⟩
  | .hbm, ⟨34, _⟩ => ⟨S_, .f32⟩
  | .hbm, ⟨35, _⟩ => ⟨S4x8x2048, .f32⟩
  | .hbm, ⟨36, _⟩ => ⟨S4x8x2048, .f32⟩
  | .hbm, ⟨37, _⟩ => ⟨S4x8x2048x1, .f32⟩
  | .hbm, ⟨38, _⟩ => ⟨S4x8x2048x2048, .f32⟩
  | .hbm, ⟨39, _⟩ => ⟨S4x8x2048x2048, .f32⟩
  | .hbm, ⟨40, _⟩ => ⟨S4x8x2048x2048, .f32⟩
  | .hbm, ⟨41, _⟩ => ⟨S_, .f32⟩
  | .hbm, ⟨42, _⟩ => ⟨S4x8x2048, .f32⟩
  | .hbm, ⟨43, _⟩ => ⟨S4x8x2048x1, .f32⟩
  | .hbm, ⟨44, _⟩ => ⟨S4x8x2048x2048, .f32⟩
  | .hbm, ⟨45, _⟩ => ⟨S4x8x2048x2048, .f32⟩
  | .hbm, ⟨46, _⟩ => ⟨S4x8x2048x64, .f32⟩
  | .hbm, ⟨47, _⟩ => ⟨S4x2048x8x64, .f32⟩
  | .hbm, ⟨48, _⟩ => ⟨S4x2048x512, .f32⟩
  | .hbm, ⟨49, _⟩ => ⟨S4x8x2048x2048, .f32⟩
  | .hbm, ⟨50, _⟩ => ⟨S_, .f32⟩
  | .hbm, ⟨51, _⟩ => ⟨S4x8x2048x2048, .f32⟩
  | .hbm, ⟨52, _⟩ => ⟨S4x8x2048x2048, .f32⟩
  | .hbm, ⟨53, _⟩ => ⟨S4x8x2048x1, .f32⟩
  | .hbm, ⟨54, _⟩ => ⟨S4x8x1x2048, .f32⟩
  | .hbm, ⟨55, _⟩ => ⟨S4x8x2048x2048, .f32⟩
  | .hbm, ⟨56, _⟩ => ⟨S4x8x2048x2048, .f32⟩
  | .hbm, ⟨57, _⟩ => ⟨S4x8x2048x2048, .f32⟩
  | .hbm, ⟨58, _⟩ => ⟨S4x8x2048x2048, .f32⟩
  | .hbm, ⟨59, _⟩ => ⟨S2048, .i32⟩
  | .hbm, ⟨60, _⟩ => ⟨S1x2048, .i32⟩
  | .hbm, ⟨61, _⟩ => ⟨S2048, .i32⟩
  | .hbm, ⟨62, _⟩ => ⟨S2048x1, .i32⟩
  | .hbm, ⟨63, _⟩ => ⟨S2048x2048, .i32⟩
  | .hbm, ⟨64, _⟩ => ⟨S2048x2048, .i32⟩
  | .hbm, ⟨65, _⟩ => ⟨S2048x2048, .i1⟩
  | .hbm, ⟨66, _⟩ => ⟨S_, .f32⟩
  | .hbm, ⟨67, _⟩ => ⟨S_, .f32⟩
  | .hbm, ⟨68, _⟩ => ⟨S4x8x2048x2048, .i1⟩
  | .hbm, ⟨69, _⟩ => ⟨S4x8x2048x2048, .f32⟩
  | .hbm, ⟨70, _⟩ => ⟨S4x8x2048x2048, .f32⟩
  | .hbm, ⟨71, _⟩ => ⟨S_, .f32⟩
  | .hbm, ⟨72, _⟩ => ⟨S4x8x2048, .f32⟩
  | .hbm, ⟨73, _⟩ => ⟨S4x8x2048x1, .f32⟩
  | .hbm, ⟨74, _⟩ => ⟨S4x8x2048x2048, .f32⟩
  | .hbm, ⟨75, _⟩ => ⟨S4x8x2048x2048, .f32⟩
  | .hbm, ⟨76, _⟩ => ⟨S4x8x2048x2048, .f32⟩
  | .hbm, ⟨77, _⟩ => ⟨S_, .f32⟩
  | .hbm, ⟨78, _⟩ => ⟨S4x8x2048, .f32⟩
  | .hbm, ⟨79, _⟩ => ⟨S4x8x2048, .f32⟩
  | .hbm, ⟨80, _⟩ => ⟨S4x8x2048, .f32⟩
  | .hbm, ⟨81, _⟩ => ⟨S8192x512, .f32⟩
  | .hbm, ⟨82, _⟩ => ⟨S32x1x2048, .f32⟩
  | _, _ => ⟨S4x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_cst_0 : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_v22 : Ref sig .tc := ⟨.hbm, 31, rfl⟩
abbrev main_cst_1 : Ref sig .tc := ⟨.hbm, 32, rfl⟩
abbrev main_v23 : Ref sig .tc := ⟨.hbm, 33, rfl⟩
abbrev main_cst_2 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_3 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_4 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_cst_5 : Ref sig .tc := ⟨.hbm, 66, rfl⟩
abbrev main_call1_v0 : Ref sig .tc := ⟨.hbm, 67, rfl⟩
abbrev main_call1_v1 : Ref sig .tc := ⟨.hbm, 68, rfl⟩
abbrev main_call1_v2 : Ref sig .tc := ⟨.hbm, 69, rfl⟩
abbrev main_v53 : Ref sig .tc := ⟨.hbm, 70, rfl⟩
abbrev main_cst_6 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_cst_7 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩

abbrev nD : Nat := 1
abbrev τ : Topo := Topo.v7x

variable {F : FTy → Type} [FloatOps F]
-- ==== MlaKernel.lean ====
abbrev S4x8x2048x96 : Shape := ⟨4, ![4, 8, 2048, 96]⟩
abbrev S4x8x2048x64 : Shape := ⟨4, ![4, 8, 2048, 64]⟩
abbrev S4x1x2048x32 : Shape := ⟨4, ![4, 1, 2048, 32]⟩
abbrev S4x2048x512 : Shape := ⟨3, ![4, 2048, 512]⟩
abbrev S4x8x2048x32 : Shape := ⟨4, ![4, 8, 2048, 32]⟩
abbrev S4x2048x8x64 : Shape := ⟨4, ![4, 2048, 8, 64]⟩
abbrev S4x8x2048x2048 : Shape := ⟨4, ![4, 8, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S4x8x2048 : Shape := ⟨3, ![4, 8, 2048]⟩
abbrev S4x8x2048x1 : Shape := ⟨4, ![4, 8, 2048, 1]⟩
abbrev S4x2x4x2048x2x16 : Shape := ⟨6, ![4, 2, 4, 2048, 2, 16]⟩
abbrev S4x2048x2x2x4x16 : Shape := ⟨6, ![4, 2048, 2, 2, 4, 16]⟩
abbrev S8192x256 : Shape := ⟨2, ![8192, 256]⟩
abbrev S8192x512 : Shape := ⟨2, ![8192, 512]⟩
abbrev S8192x768 : Shape := ⟨2, ![8192, 768]⟩
abbrev S8192x4x1x128 : Shape := ⟨4, ![8192, 4, 1, 128]⟩
abbrev S8192x4x2x128 : Shape := ⟨4, ![8192, 4, 2, 128]⟩
abbrev S8192x1024 : Shape := ⟨2, ![8192, 1024]⟩
abbrev S8192x2x1x16 : Shape := ⟨4, ![8192, 2, 1, 16]⟩
abbrev S8192x2x4x16 : Shape := ⟨4, ![8192, 2, 4, 16]⟩
abbrev S8192x128 : Shape := ⟨2, ![8192, 128]⟩
abbrev S32x1x2048 : Shape := ⟨3, ![32, 1, 2048]⟩
abbrev S2048x128 : Shape := ⟨2, ![2048, 128]⟩
abbrev S2048x256 : Shape := ⟨2, ![2048, 256]⟩
abbrev S2x1x2048 : Shape := ⟨3, ![2, 1, 2048]⟩
abbrev S256x256 : Shape := ⟨2, ![256, 256]⟩
abbrev S1x128 : Shape := ⟨2, ![1, 128]⟩
abbrev S256x128 : Shape := ⟨2, ![256, 128]⟩
abbrev S1x1x256 : Shape := ⟨3, ![1, 1, 256]⟩
abbrev S1x256 : Shape := ⟨2, ![1, 256]⟩
abbrev S512x256 : Shape := ⟨2, ![512, 256]⟩
abbrev S512x128 : Shape := ⟨2, ![512, 128]⟩
abbrev S256x512 : Shape := ⟨2, ![256, 512]⟩
abbrev S1x1x512 : Shape := ⟨3, ![1, 1, 512]⟩
abbrev S1x512 : Shape := ⟨2, ![1, 512]⟩

abbrev nBuf : Space → Nat
  | .hbm => 100
  | .vmem => 24
  | .smem => 0
  | _ => 0

abbrev bufTy : (tb : Table) → Fin (tcTables nBuf tb) → BufTy
  | .hbm, ⟨0, _⟩ => ⟨S4x8x2048x96, .f32⟩
  | .hbm, ⟨1, _⟩ => ⟨S4x8x2048x64, .f32⟩
  | .hbm, ⟨2, _⟩ => ⟨S4x1x2048x32, .f32⟩
  | .hbm, ⟨3, _⟩ => ⟨S4x8x2048x64, .f32⟩
  | .hbm, ⟨4, _⟩ => ⟨S4x2048x512, .f32⟩
  | .hbm, ⟨5, _⟩ => ⟨S4x8x2048x32, .f32⟩
  | .hbm, ⟨6, _⟩ => ⟨S4x8x2048x96, .f32⟩
  | .hbm, ⟨7, _⟩ => ⟨S4x2048x8x64, .f32⟩
  | .hbm, ⟨8, _⟩ => ⟨S4x8x2048x64, .f32⟩
  | .hbm, ⟨9, _⟩ => ⟨S4x8x2048x2048, .f32⟩
  | .hbm, ⟨10, _⟩ => ⟨S_, .f32⟩
  | .hbm, ⟨11, _⟩ => ⟨S4x8x2048x2048, .f32⟩
  | .hbm, ⟨12, _⟩ => ⟨S4x8x2048x2048, .f32⟩
  | .hbm, ⟨13, _⟩ => ⟨S2048, .i32⟩
  | .hbm, ⟨14, _⟩ => ⟨S1x2048, .i32⟩
  | .hbm, ⟨15, _⟩ => ⟨S2048, .i32⟩
  | .hbm, ⟨16, _⟩ => ⟨S2048x1, .i32⟩
  | .hbm, ⟨17, _⟩ => ⟨S2048x2048, .i32⟩
  | .hbm, ⟨18, _⟩ => ⟨S2048x2048, .i32⟩
  | .hbm, ⟨19, _⟩ => ⟨S2048x2048, .i1⟩
  | .hbm, ⟨20, _⟩ => ⟨S_, .f32⟩
  | .hbm, ⟨21, _⟩ => ⟨S_, .f32⟩
  | .hbm, ⟨22, _⟩ => ⟨S4x8x2048x2048, .i1⟩
  | .hbm, ⟨23, _⟩ => ⟨S4x8x2048x2048, .f32⟩
  | .hbm, ⟨24, _⟩ => ⟨S4x8x2048x2048, .f32⟩
  | .hbm, ⟨25, _⟩ => ⟨S_, .f32⟩
  | .hbm, ⟨26, _⟩ => ⟨S4x8x2048, .f32⟩
  | .hbm, ⟨27, _⟩ => ⟨S4x8x2048x1, .f32⟩
  | .hbm, ⟨28, _⟩ => ⟨S4x8x2048x2048, .f32⟩
  | .hbm, ⟨29, _⟩ => ⟨S4x8x2048x2048, .f32⟩
  | .hbm, ⟨30, _⟩ => ⟨S4x8x2048x2048, .f32⟩
  | .hbm, ⟨31, _⟩ => ⟨S_, .f32⟩
  | .hbm, ⟨32, _⟩ => ⟨S4x8x2048, .f32⟩
  | .hbm, ⟨33, _⟩ => ⟨S4x8x2048, .f32⟩
  | .hbm, ⟨34, _⟩ => ⟨S4x8x2048, .f32⟩
  | .hbm, ⟨35, _⟩ => ⟨S4x8x2048x2048, .f32⟩
  | .hbm, ⟨36, _⟩ => ⟨S_, .f32⟩
  | .hbm, ⟨37, _⟩ => ⟨S4x8x2048x2048, .f32⟩
  | .hbm, ⟨38, _⟩ => ⟨S4x8x2048x2048, .f32⟩
  | .hbm, ⟨39, _⟩ => ⟨S2048, .i32⟩
  | .hbm, ⟨40, _⟩ => ⟨S1x2048, .i32⟩
  | .hbm, ⟨41, _⟩ => ⟨S2048, .i32⟩
  | .hbm, ⟨42, _⟩ => ⟨S2048x1, .i32⟩
  | .hbm, ⟨43, _⟩ => ⟨S2048x2048, .i32⟩
  | .hbm, ⟨44, _⟩ => ⟨S2048x2048, .i32⟩
  | .hbm, ⟨45, _⟩ => ⟨S2048x2048, .i1⟩
  | .hbm, ⟨46, _⟩ => ⟨S_, .f32⟩
  | .hbm, ⟨47, _⟩ => ⟨S_, .f32⟩
  | .hbm, ⟨48, _⟩ => ⟨S4x8x2048x2048, .i1⟩
  | .hbm, ⟨49, _⟩ => ⟨S4x8x2048x2048, .f32⟩
  | .hbm, ⟨50, _⟩ => ⟨S4x8x2048x2048, .f32⟩
  | .hbm, ⟨51, _⟩ => ⟨S_, .f32⟩
  | .hbm, ⟨52, _⟩ => ⟨S4x8x2048, .f32⟩
  | .hbm, ⟨53, _⟩ => ⟨S_, .f32⟩
  | .hbm, ⟨54, _⟩ => ⟨S4x8x2048, .f32⟩
  | .hbm, ⟨55, _⟩ => ⟨S4x8x2048, .f32⟩
  | .hbm, ⟨56, _⟩ => ⟨S4x8x2048x1, .f32⟩
  | .hbm, ⟨57, _⟩ => ⟨S4x8x2048x2048, .f32⟩
  | .hbm, ⟨58, _⟩ => ⟨S4x8x2048x2048, .f32⟩
  | .hbm, ⟨59, _⟩ => ⟨S4x8x2048x2048, .f32⟩
  | .hbm, ⟨60, _⟩ => ⟨S_, .f32⟩
  | .hbm, ⟨61, _⟩ => ⟨S4x8x2048, .f32⟩
  | .hbm, ⟨62, _⟩ => ⟨S4x8x2048x1, .f32⟩
  | .hbm, ⟨63, _⟩ => ⟨S4x8x2048x2048, .f32⟩
  | .hbm, ⟨64, _⟩ => ⟨S4x8x2048x2048, .f32⟩
  | .hbm, ⟨65, _⟩ => ⟨S4x8x2048x64, .f32⟩
  | .hbm, ⟨66, _⟩ => ⟨S4x8x2048x64, .f32⟩
  | .hbm, ⟨67, _⟩ => ⟨S_, .f32⟩
  | .hbm, ⟨68, _⟩ => ⟨S4x8x2048, .f32⟩
  | .hbm, ⟨69, _⟩ => ⟨S4x8x2048x32, .f32⟩
  | .hbm, ⟨70, _⟩ => ⟨S4x2x4x2048x2x16, .f32⟩
  | .hbm, ⟨71, _⟩ => ⟨S4x2048x2x2x4x16, .f32⟩
  | .hbm, ⟨72, _⟩ => ⟨S8192x256, .f32⟩
  | .hbm, ⟨73, _⟩ => ⟨S4x8x2048x64, .f32⟩
  | .hbm, ⟨74, _⟩ => ⟨S4x2048x8x64, .f32⟩
  | .hbm, ⟨75, _⟩ => ⟨S4x2048x512, .f32⟩
  | .hbm, ⟨76, _⟩ => ⟨S8192x512, .f32⟩
  | .hbm, ⟨77, _⟩ => ⟨S8192x768, .f32⟩
  | .hbm, ⟨78, _⟩ => ⟨S8192x768, .bf16⟩
  | .hbm, ⟨79, _⟩ => ⟨S4x2048x8x64, .f32⟩
  | .hbm, ⟨80, _⟩ => ⟨S4x2048x512, .f32⟩
  | .hbm, ⟨81, _⟩ => ⟨S8192x4x1x128, .f32⟩
  | .hbm, ⟨82, _⟩ => ⟨S4x2048x8x64, .f32⟩
  | .hbm, ⟨83, _⟩ => ⟨S4x2048x512, .f32⟩
  | .hbm, ⟨84, _⟩ => ⟨S8192x4x1x128, .f32⟩
  | .hbm, ⟨85, _⟩ => ⟨S8192x4x2x128, .f32⟩
  | .hbm, ⟨86, _⟩ => ⟨S8192x1024, .f32⟩
  | .hbm, ⟨87, _⟩ => ⟨S8192x1024, .bf16⟩
  | .hbm, ⟨88, _⟩ => ⟨S8192x2x1x16, .f32⟩
  | .hbm, ⟨89, _⟩ => ⟨S8192x2x4x16, .f32⟩
  | .hbm, ⟨90, _⟩ => ⟨S8192x128, .f32⟩
  | .hbm, ⟨91, _⟩ => ⟨S8192x128, .bf16⟩
  | .hbm, ⟨92, _⟩ => ⟨S8192x512, .f32⟩
  | .hbm, ⟨93, _⟩ => ⟨S8192x512, .bf16⟩
  | .hbm, ⟨94, _⟩ => ⟨S32x1x2048, .f32⟩
  | .hbm, ⟨95, _⟩ => ⟨S32x1x2048, .f32⟩
  | .hbm, ⟨96, _⟩ => ⟨S8192x512, .bf16⟩
  | .hbm, ⟨97, _⟩ => ⟨S8192x1024, .bf16⟩
  | .hbm, ⟨98, _⟩ => ⟨S8192x256, .f32⟩
  | .hbm, ⟨99, _⟩ => ⟨S8192x128, .f32⟩
  | .local _ .vmem, ⟨0, _⟩ => ⟨S2048x128, .bf16⟩
  | .local _ .vmem, ⟨1, _⟩ => ⟨S2048x128, .bf16⟩
  | .local _ .vmem, ⟨2, _⟩ => ⟨S2048x128, .bf16⟩
  | .local _ .vmem, ⟨3, _⟩ => ⟨S2048x128, .bf16⟩
  | .local _ .vmem, ⟨4, _⟩ => ⟨S2048x256, .bf16⟩
  | .local _ .vmem, ⟨5, _⟩ => ⟨S2048x256, .bf16⟩
  | .local _ .vmem, ⟨6, _⟩ => ⟨S2048x128, .bf16⟩
  | .local _ .vmem, ⟨7, _⟩ => ⟨S2048x128, .bf16⟩
  | .local _ .vmem, ⟨8, _⟩ => ⟨S2048x128, .bf16⟩
  | .local _ .vmem, ⟨9, _⟩ => ⟨S2048x128, .bf16⟩
  | .local _ .vmem, ⟨10, _⟩ => ⟨S2x1x2048, .f32⟩
  | .local _ .vmem, ⟨11, _⟩ => ⟨S2x1x2048, .f32⟩
  | .local _ .vmem, ⟨12, _⟩ => ⟨S2x1x2048, .f32⟩
  | .local _ .vmem, ⟨13, _⟩ => ⟨S2x1x2048, .f32⟩
  | .local _ .vmem, ⟨14, _⟩ => ⟨S2048x128, .bf16⟩
  | .local _ .vmem, ⟨15, _⟩ => ⟨S2048x128, .bf16⟩
  | .local _ .vmem, ⟨16, _⟩ => ⟨S2048x256, .bf16⟩
  | .local _ .vmem, ⟨17, _⟩ => ⟨S2048x256, .bf16⟩
  | .local _ .vmem, ⟨18, _⟩ => ⟨S2048x128, .f32⟩
  | .local _ .vmem, ⟨19, _⟩ => ⟨S2048x128, .f32⟩
  | .local _ .vmem, ⟨20, _⟩ => ⟨S2048x128, .f32⟩
  | .local _ .vmem, ⟨21, _⟩ => ⟨S2048x128, .f32⟩
  | .local _ .vmem, ⟨22, _⟩ => ⟨S2048x256, .f32⟩
  | .local _ .vmem, ⟨23, _⟩ => ⟨S2048x256, .bf16⟩
  | _, _ => ⟨S4x8x2048x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_0 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_v14 : Ref sig .tc := ⟨.hbm, 24, rfl⟩
abbrev main_cst_1 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_2 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_3 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_4 : Ref sig .tc := ⟨.hbm, 46, rfl⟩
abbrev main_call1_v0 : Ref sig .tc := ⟨.hbm, 47, rfl⟩
abbrev main_call1_v1 : Ref sig .tc := ⟨.hbm, 48, rfl⟩
abbrev main_call1_v2 : Ref sig .tc := ⟨.hbm, 49, rfl⟩
abbrev main_v33 : Ref sig .tc := ⟨.hbm, 50, rfl⟩
abbrev main_cst_5 : Ref sig .tc := ⟨.hbm, 51, rfl⟩
abbrev main_v34 : Ref sig .tc := ⟨.hbm, 52, rfl⟩
abbrev main_cst_6 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_7 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_8 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75_0 : Ref sig .tc := ⟨.hbm, 96, rfl⟩
abbrev main_v75_1 : Ref sig .tc := ⟨.hbm, 97, rfl⟩
abbrev main_v75_2 : Ref sig .tc := ⟨.hbm, 98, rfl⟩
abbrev main_v75_3 : Ref sig .tc := ⟨.hbm, 99, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_scratch1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32 : BitVec 32 := 4#32
  let v17 : BitVec 32 := Scalar.addi c4_i32 v16
  let c0_i32_4 : BitVec 32 := 0#32
  ![arg0.toNat, v17.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  ![arg0.toNat, v16.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2x1x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2048x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S2048x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S2048x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S2048x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== MlaKernelIdeal.lean ====
variable {F : FTy → Type} [FloatOps F] [Named F]
def κ : String → Option EReal := fun
  | "mask" => some ⊥
  | _ => none
-- ==== MlaReferenceIdeal.lean ====
abbrev S4x8x2048x96 : Shape := ⟨4, ![4, 8, 2048, 96]⟩
abbrev S4x8x2048x64 : Shape := ⟨4, ![4, 8, 2048, 64]⟩
abbrev S4x1x2048x32 : Shape := ⟨4, ![4, 1, 2048, 32]⟩
abbrev S4x2048x512 : Shape := ⟨3, ![4, 2048, 512]⟩
abbrev S4x4x2048x32 : Shape := ⟨4, ![4, 4, 2048, 32]⟩
abbrev S4x8x2048x32 : Shape := ⟨4, ![4, 8, 2048, 32]⟩
abbrev S4x8x2048x2048 : Shape := ⟨4, ![4, 8, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S4x8x2048 : Shape := ⟨3, ![4, 8, 2048]⟩
abbrev S4x8x2048x1 : Shape := ⟨4, ![4, 8, 2048, 1]⟩
abbrev S4x2048x8x64 : Shape := ⟨4, ![4, 2048, 8, 64]⟩
abbrev S4x8x64x2048 : Shape := ⟨4, ![4, 8, 64, 2048]⟩
abbrev S8192x4x1x128 : Shape := ⟨4, ![8192, 4, 1, 128]⟩
abbrev S8192x4x2x128 : Shape := ⟨4, ![8192, 4, 2, 128]⟩
abbrev S8192x1024 : Shape := ⟨2, ![8192, 1024]⟩
abbrev S4x2x4x2048x2x16 : Shape := ⟨6, ![4, 2, 4, 2048, 2, 16]⟩
abbrev S4x2048x2x2x4x16 : Shape := ⟨6, ![4, 2048, 2, 2, 4, 16]⟩
abbrev S8192x256 : Shape := ⟨2, ![8192, 256]⟩
abbrev S4x4x2048x2x16 : Shape := ⟨5, ![4, 4, 2048, 2, 16]⟩
abbrev S4x2048x2x4x16 : Shape := ⟨5, ![4, 2048, 2, 4, 16]⟩
abbrev S8192x128 : Shape := ⟨2, ![8192, 128]⟩
abbrev S8192x512 : Shape := ⟨2, ![8192, 512]⟩

abbrev nBuf : Space → Nat
  | .hbm => 120
  | .vmem => 0
  | .smem => 0
  | _ => 0

abbrev bufTy : (tb : Table) → Fin (tcTables nBuf tb) → BufTy
  | .hbm, ⟨0, _⟩ => ⟨S4x8x2048x96, .f32⟩
  | .hbm, ⟨1, _⟩ => ⟨S4x8x2048x64, .f32⟩
  | .hbm, ⟨2, _⟩ => ⟨S4x1x2048x32, .f32⟩
  | .hbm, ⟨3, _⟩ => ⟨S4x8x2048x64, .f32⟩
  | .hbm, ⟨4, _⟩ => ⟨S4x2048x512, .f32⟩
  | .hbm, ⟨5, _⟩ => ⟨S4x4x2048x32, .f32⟩
  | .hbm, ⟨6, _⟩ => ⟨S4x8x2048x32, .f32⟩
  | .hbm, ⟨7, _⟩ => ⟨S4x8x2048x96, .f32⟩
  | .hbm, ⟨8, _⟩ => ⟨S4x8x2048x2048, .f32⟩
  | .hbm, ⟨9, _⟩ => ⟨S_, .f32⟩
  | .hbm, ⟨10, _⟩ => ⟨S4x8x2048x2048, .f32⟩
  | .hbm, ⟨11, _⟩ => ⟨S4x8x2048x2048, .f32⟩
  | .hbm, ⟨12, _⟩ => ⟨S2048, .i32⟩
  | .hbm, ⟨13, _⟩ => ⟨S1x2048, .i32⟩
  | .hbm, ⟨14, _⟩ => ⟨S2048, .i32⟩
  | .hbm, ⟨15, _⟩ => ⟨S2048x1, .i32⟩
  | .hbm, ⟨16, _⟩ => ⟨S2048x2048, .i32⟩
  | .hbm, ⟨17, _⟩ => ⟨S2048x2048, .i32⟩
  | .hbm, ⟨18, _⟩ => ⟨S2048x2048, .i1⟩
  | .hbm, ⟨19, _⟩ => ⟨S_, .f32⟩
  | .hbm, ⟨20, _⟩ => ⟨S_, .f32⟩
  | .hbm, ⟨21, _⟩ => ⟨S4x8x2048x2048, .i1⟩
  | .hbm, ⟨22, _⟩ => ⟨S4x8x2048x2048, .f32⟩
  | .hbm, ⟨23, _⟩ => ⟨S4x8x2048x2048, .f32⟩
  | .hbm, ⟨24, _⟩ => ⟨S_, .f32⟩
  | .hbm, ⟨25, _⟩ => ⟨S4x8x2048x2048, .f32⟩
  | .hbm, ⟨26, _⟩ => ⟨S_, .f32⟩
  | .hbm, ⟨27, _⟩ => ⟨S4x8x2048, .f32⟩
  | .hbm, ⟨28, _⟩ => ⟨S4x8x2048x1, .f32⟩
  | .hbm, ⟨29, _⟩ => ⟨S4x8x2048x2048, .f32⟩
  | .hbm, ⟨30, _⟩ => ⟨S4x8x2048x2048, .i1⟩
  | .hbm, ⟨31, _⟩ => ⟨S4x8x2048x2048, .f32⟩
  | .hbm, ⟨32, _⟩ => ⟨S_, .f32⟩
  | .hbm, ⟨33, _⟩ => ⟨S4x8x2048, .f32⟩
  | .hbm, ⟨34, _⟩ => ⟨S_, .f32⟩
  | .hbm, ⟨35, _⟩ => ⟨S4x8x2048, .f32⟩
  | .hbm, ⟨36, _⟩ => ⟨S4x8x2048, .f32⟩
  | .hbm, ⟨37, _⟩ => ⟨S_, .f32⟩
  | .hbm, ⟨38, _⟩ => ⟨S4x8x2048, .f32⟩
  | .hbm, ⟨39, _⟩ => ⟨S4x8x2048, .i1⟩
  | .hbm, ⟨40, _⟩ => ⟨S_, .f32⟩
  | .hbm, ⟨41, _⟩ => ⟨S4x8x2048, .f32⟩
  | .hbm, ⟨42, _⟩ => ⟨S4x8x2048, .i1⟩
  | .hbm, ⟨43, _⟩ => ⟨S_, .f32⟩
  | .hbm, ⟨44, _⟩ => ⟨S4x8x2048, .f32⟩
  | .hbm, ⟨45, _⟩ => ⟨S_, .f32⟩
  | .hbm, ⟨46, _⟩ => ⟨S4x8x2048, .f32⟩
  | .hbm, ⟨47, _⟩ => ⟨S_, .f32⟩
  | .hbm, ⟨48, _⟩ => ⟨S4x8x2048, .f32⟩
  | .hbm, ⟨49, _⟩ => ⟨S4x8x2048, .f32⟩
  | .hbm, ⟨50, _⟩ => ⟨S4x8x2048, .f32⟩
  | .hbm, ⟨51, _⟩ => ⟨S4x8x2048x1, .f32⟩
  | .hbm, ⟨52, _⟩ => ⟨S4x8x2048x2048, .f32⟩
  | .hbm, ⟨53, _⟩ => ⟨S4x8x2048x2048, .f32⟩
  | .hbm, ⟨54, _⟩ => ⟨S4x8x2048x2048, .f32⟩
  | .hbm, ⟨55, _⟩ => ⟨S_, .f32⟩
  | .hbm, ⟨56, _⟩ => ⟨S4x8x2048, .f32⟩
  | .hbm, ⟨57, _⟩ => ⟨S4x8x2048x1, .f32⟩
  | .hbm, ⟨58, _⟩ => ⟨S4x8x2048x2048, .f32⟩
  | .hbm, ⟨59, _⟩ => ⟨S4x8x2048x2048, .f32⟩
  | .hbm, ⟨60, _⟩ => ⟨S4x8x2048x1, .f32⟩
  | .hbm, ⟨61, _⟩ => ⟨S_, .f32⟩
  | .hbm, ⟨62, _⟩ => ⟨S4x8x2048x1, .f32⟩
  | .hbm, ⟨63, _⟩ => ⟨S4x8x2048x1, .f32⟩
  | .hbm, ⟨64, _⟩ => ⟨S4x8x2048x64, .f32⟩
  | .hbm, ⟨65, _⟩ => ⟨S4x2048x8x64, .f32⟩
  | .hbm, ⟨66, _⟩ => ⟨S4x2048x512, .f32⟩
  | .hbm, ⟨67, _⟩ => ⟨S4x2048x8x64, .f32⟩
  | .hbm, ⟨68, _⟩ => ⟨S4x8x2048x64, .f32⟩
  | .hbm, ⟨69, _⟩ => ⟨S4x8x64x2048, .f32⟩
  | .hbm, ⟨70, _⟩ => ⟨S4x8x2048x64, .f32⟩
  | .hbm, ⟨71, _⟩ => ⟨S4x8x2048x2048, .f32⟩
  | .hbm, ⟨72, _⟩ => ⟨S4x8x2048x2048, .f32⟩
  | .hbm, ⟨73, _⟩ => ⟨S4x8x2048x2048, .f32⟩
  | .hbm, ⟨74, _⟩ => ⟨S4x8x2048x2048, .f32⟩
  | .hbm, ⟨75, _⟩ => ⟨S_, .f32⟩
  | .hbm, ⟨76, _⟩ => ⟨S4x8x2048, .f32⟩
  | .hbm, ⟨77, _⟩ => ⟨S4x8x2048x1, .f32⟩
  | .hbm, ⟨78, _⟩ => ⟨S4x8x2048x1, .f32⟩
  | .hbm, ⟨79, _⟩ => ⟨S4x8x2048x2048, .f32⟩
  | .hbm, ⟨80, _⟩ => ⟨S4x8x2048x2048, .f32⟩
  | .hbm, ⟨81, _⟩ => ⟨S_, .f32⟩
  | .hbm, ⟨82, _⟩ => ⟨S4x8x2048, .f32⟩
  | .hbm, ⟨83, _⟩ => ⟨S4x8x2048x2048, .f32⟩
  | .hbm, ⟨84, _⟩ => ⟨S4x8x2048x2048, .f32⟩
  | .hbm, ⟨85, _⟩ => ⟨S4x8x2048x2048, .f32⟩
  | .hbm, ⟨86, _⟩ => ⟨S_, .f32⟩
  | .hbm, ⟨87, _⟩ => ⟨S4x8x2048x2048, .f32⟩
  | .hbm, ⟨88, _⟩ => ⟨S4x8x2048x2048, .f32⟩
  | .hbm, ⟨89, _⟩ => ⟨S_, .f32⟩
  | .hbm, ⟨90, _⟩ => ⟨S4x8x2048x2048, .f32⟩
  | .hbm, ⟨91, _⟩ => ⟨S4x8x2048x2048, .f32⟩
  | .hbm, ⟨92, _⟩ => ⟨S4x8x2048x96, .f32⟩
  | .hbm, ⟨93, _⟩ => ⟨S4x8x2048x96, .f32⟩
  | .hbm, ⟨94, _⟩ => ⟨S4x8x2048x64, .f32⟩
  | .hbm, ⟨95, _⟩ => ⟨S4x8x2048x32, .f32⟩
  | .hbm, ⟨96, _⟩ => ⟨S4x4x2048x32, .f32⟩
  | .hbm, ⟨97, _⟩ => ⟨S4x4x2048x32, .f32⟩
  | .hbm, ⟨98, _⟩ => ⟨S4x4x2048x32, .f32⟩
  | .hbm, ⟨99, _⟩ => ⟨S4x2048x8x64, .f32⟩
  | .hbm, ⟨100, _⟩ => ⟨S4x2048x512, .f32⟩
  | .hbm, ⟨101, _⟩ => ⟨S8192x4x1x128, .f32⟩
  | .hbm, ⟨102, _⟩ => ⟨S4x2048x8x64, .f32⟩
  | .hbm, ⟨103, _⟩ => ⟨S4x2048x512, .f32⟩
  | .hbm, ⟨104, _⟩ => ⟨S8192x4x1x128, .f32⟩
  | .hbm, ⟨105, _⟩ => ⟨S8192x4x2x128, .f32⟩
  | .hbm, ⟨106, _⟩ => ⟨S8192x1024, .f32⟩
  | .hbm, ⟨107, _⟩ => ⟨S4x8x2048x32, .f32⟩
  | .hbm, ⟨108, _⟩ => ⟨S4x2x4x2048x2x16, .f32⟩
  | .hbm, ⟨109, _⟩ => ⟨S4x2048x2x2x4x16, .f32⟩
  | .hbm, ⟨110, _⟩ => ⟨S8192x256, .f32⟩
  | .hbm, ⟨111, _⟩ => ⟨S4x4x2048x2x16, .f32⟩
  | .hbm, ⟨112, _⟩ => ⟨S4x2048x2x4x16, .f32⟩
  | .hbm, ⟨113, _⟩ => ⟨S8192x128, .f32⟩
  | .hbm, ⟨114, _⟩ => ⟨S4x8x2048x64, .f32⟩
  | .hbm, ⟨115, _⟩ => ⟨S4x2048x8x64, .f32⟩
  | .hbm, ⟨116, _⟩ => ⟨S4x2048x512, .f32⟩
  | .hbm, ⟨117, _⟩ => ⟨S8192x512, .f32⟩
  | .hbm, ⟨118, _⟩ => ⟨S8192x512, .bf16⟩
  | .hbm, ⟨119, _⟩ => ⟨S8192x1024, .bf16⟩
  | _, _ => ⟨S4x8x2048x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_call0_v0 : Ref sig .tc := ⟨.hbm, 20, rfl⟩
abbrev main_v13_1 : Ref sig .tc := ⟨.hbm, 21, rfl⟩
abbrev main_call0_v2 : Ref sig .tc := ⟨.hbm, 22, rfl⟩
abbrev main_v13_0 : Ref sig .tc := ⟨.hbm, 23, rfl⟩
abbrev main_call0_cst : Ref sig .tc := ⟨.hbm, 24, rfl⟩
abbrev main_v13_2 : Ref sig .tc := ⟨.hbm, 25, rfl⟩
abbrev main_cst_1 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_2 : Ref sig .tc := ⟨.hbm, 32, rfl⟩
abbrev main_v19 : Ref sig .tc := ⟨.hbm, 33, rfl⟩
abbrev main_cst_3 : Ref sig .tc := ⟨.hbm, 34, rfl⟩
abbrev main_v20 : Ref sig .tc := ⟨.hbm, 35, rfl⟩
abbrev main_v21 : Ref sig .tc := ⟨.hbm, 36, rfl⟩
abbrev main_cst_4 : Ref sig .tc := ⟨.hbm, 37, rfl⟩
abbrev main_v22 : Ref sig .tc := ⟨.hbm, 38, rfl⟩
abbrev main_v23 : Ref sig .tc := ⟨.hbm, 39, rfl⟩
abbrev main_cst_5 : Ref sig .tc := ⟨.hbm, 40, rfl⟩
abbrev main_v24 : Ref sig .tc := ⟨.hbm, 41, rfl⟩
abbrev main_v25 : Ref sig .tc := ⟨.hbm, 42, rfl⟩
abbrev main_cst_6 : Ref sig .tc := ⟨.hbm, 43, rfl⟩
abbrev main_v26 : Ref sig .tc := ⟨.hbm, 44, rfl⟩
abbrev main_cst_7 : Ref sig .tc := ⟨.hbm, 45, rfl⟩
abbrev main_v27 : Ref sig .tc := ⟨.hbm, 46, rfl⟩
abbrev main_cst_8 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_9 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_10 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_11 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_12 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_call1_cst : Ref sig .tc := ⟨.hbm, 86, rfl⟩
abbrev main_call1_v0 : Ref sig .tc := ⟨.hbm, 87, rfl⟩
abbrev main_v62 : Ref sig .tc := ⟨.hbm, 88, rfl⟩
abbrev main_cst_13 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩

abbrev nD : Nat := 1
abbrev τ : Topo := Topo.v7x

variable {F : FTy → Type} [FloatOps F]
-- ==== SwiKernel.lean ====
abbrev S8192x1024 : Shape := ⟨2, ![8192, 1024]⟩
abbrev S1024x2816 : Shape := ⟨2, ![1024, 2816]⟩
abbrev S2816x1024 : Shape := ⟨2, ![2816, 1024]⟩
abbrev S8192x2816 : Shape := ⟨2, ![8192, 2816]⟩
abbrev S_ : Shape := ⟨0, ![]⟩
abbrev S512x1024 : Shape := ⟨2, ![512, 1024]⟩
abbrev S1408x1024 : Shape := ⟨2, ![1408, 1024]⟩
abbrev S512x1408 : Shape := ⟨2, ![512, 1408]⟩

abbrev nBuf : Space → Nat
  | .hbm => 31
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S8192x1024, .f32⟩
  | .hbm, ⟨5, _⟩ => ⟨S8192x2816, .f32⟩
  | .hbm, ⟨6, _⟩ => ⟨S8192x2816, .f32⟩
  | .hbm, ⟨7, _⟩ => ⟨S8192x2816, .f32⟩
  | .hbm, ⟨8, _⟩ => ⟨S8192x2816, .f32⟩
  | .hbm, ⟨9, _⟩ => ⟨S_, .f32⟩
  | .hbm, ⟨10, _⟩ => ⟨S8192x2816, .f32⟩
  | .hbm, ⟨11, _⟩ => ⟨S8192x2816, .f32⟩
  | .hbm, ⟨12, _⟩ => ⟨S_, .f32⟩
  | .hbm, ⟨13, _⟩ => ⟨S8192x2816, .f32⟩
  | .hbm, ⟨14, _⟩ => ⟨S8192x2816, .f32⟩
  | .hbm, ⟨15, _⟩ => ⟨S_, .f32⟩
  | .hbm, ⟨16, _⟩ => ⟨S8192x2816, .f32⟩
  | .hbm, ⟨17, _⟩ => ⟨S8192x2816, .f32⟩
  | .hbm, ⟨18, _⟩ => ⟨S8192x2816, .f32⟩
  | .hbm, ⟨19, _⟩ => ⟨S_, .f32⟩
  | .hbm, ⟨20, _⟩ => ⟨S8192x2816, .f32⟩
  | .hbm, ⟨21, _⟩ => ⟨S8192x2816, .f32⟩
  | .hbm, ⟨22, _⟩ => ⟨S8192x2816, .f32⟩
  | .hbm, ⟨23, _⟩ => ⟨S8192x2816, .f32⟩
  | .hbm, ⟨24, _⟩ => ⟨S8192x2816, .f32⟩
  | .hbm, ⟨25, _⟩ => ⟨S8192x1024, .bf16⟩
  | .hbm, ⟨26, _⟩ => ⟨S2816x1024, .bf16⟩
  | .hbm, ⟨27, _⟩ => ⟨S8192x2816, .bf16⟩
  | .hbm, ⟨28, _⟩ => ⟨S8192x2816, .bf16⟩
  | .hbm, ⟨29, _⟩ => ⟨S8192x2816, .bf16⟩
  | .hbm, ⟨30, _⟩ => ⟨S8192x2816, .bf16⟩
  | .local _ .vmem, ⟨0, _⟩ => ⟨S512x1024, .bf16⟩
  | .local _ .vmem, ⟨1, _⟩ => ⟨S512x1024, .bf16⟩
  | .local _ .vmem, ⟨2, _⟩ => ⟨S1408x1024, .bf16⟩
  | .local _ .vmem, ⟨3, _⟩ => ⟨S1408x1024, .bf16⟩
  | .local _ .vmem, ⟨4, _⟩ => ⟨S512x1408, .bf16⟩
  | .local _ .vmem, ⟨5, _⟩ => ⟨S512x1408, .bf16⟩
  | .local _ .vmem, ⟨6, _⟩ => ⟨S512x1408, .bf16⟩
  | .local _ .vmem, ⟨7, _⟩ => ⟨S512x1408, .bf16⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20_0 : Ref sig .tc := ⟨.hbm, 29, rfl⟩
abbrev main_v20_1 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== SwiReferenceIdeal.lean ====
abbrev S8192x1024 : Shape := ⟨2, ![8192, 1024]⟩
abbrev S1024x2816 : Shape := ⟨2, ![1024, 2816]⟩
abbrev S2816x1024 : Shape := ⟨2, ![2816, 1024]⟩
abbrev S8192x2816 : Shape := ⟨2, ![8192, 2816]⟩
abbrev S_ : Shape := ⟨0, ![]⟩

abbrev nBuf : Space → Nat
  | .hbm => 31
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S8192x1024, .f32⟩
  | .hbm, ⟨5, _⟩ => ⟨S8192x2816, .f32⟩
  | .hbm, ⟨6, _⟩ => ⟨S8192x2816, .f32⟩
  | .hbm, ⟨7, _⟩ => ⟨S8192x2816, .f32⟩
  | .hbm, ⟨8, _⟩ => ⟨S8192x2816, .f32⟩
  | .hbm, ⟨9, _⟩ => ⟨S_, .f32⟩
  | .hbm, ⟨10, _⟩ => ⟨S8192x2816, .f32⟩
  | .hbm, ⟨11, _⟩ => ⟨S8192x2816, .f32⟩
  | .hbm, ⟨12, _⟩ => ⟨S_, .f32⟩
  | .hbm, ⟨13, _⟩ => ⟨S8192x2816, .f32⟩
  | .hbm, ⟨14, _⟩ => ⟨S8192x2816, .f32⟩
  | .hbm, ⟨15, _⟩ => ⟨S_, .f32⟩
  | .hbm, ⟨16, _⟩ => ⟨S8192x2816, .f32⟩
  | .hbm, ⟨17, _⟩ => ⟨S8192x2816, .f32⟩
  | .hbm, ⟨18, _⟩ => ⟨S8192x2816, .f32⟩
  | .hbm, ⟨19, _⟩ => ⟨S8192x2816, .f32⟩
  | .hbm, ⟨20, _⟩ => ⟨S8192x2816, .f32⟩
  | .hbm, ⟨21, _⟩ => ⟨S8192x1024, .f32⟩
  | .hbm, ⟨22, _⟩ => ⟨S8192x2816, .f32⟩
  | .hbm, ⟨23, _⟩ => ⟨S8192x2816, .f32⟩
  | .hbm, ⟨24, _⟩ => ⟨S8192x2816, .f32⟩
  | .hbm, ⟨25, _⟩ => ⟨S8192x2816, .f32⟩
  | .hbm, ⟨26, _⟩ => ⟨S8192x2816, .f32⟩
  | .hbm, ⟨27, _⟩ => ⟨S8192x2816, .f32⟩
  | .hbm, ⟨28, _⟩ => ⟨S8192x2816, .f32⟩
  | .hbm, ⟨29, _⟩ => ⟨S8192x2816, .bf16⟩
  | .hbm, ⟨30, _⟩ => ⟨S8192x2816, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v2_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v2_1 : Ref sig .tc := ⟨.hbm, 18, rfl⟩
abbrev main_v2_0 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩

abbrev nD : Nat := 1
abbrev τ : Topo := Topo.v7x

variable {F : FTy → Type} [FloatOps F]
-- ==== FfnKernel.lean ====
abbrev S8192x2816 : Shape := ⟨2, ![8192, 2816]⟩
abbrev S1024x2816 : Shape := ⟨2, ![1024, 2816]⟩
abbrev S8192x1024 : Shape := ⟨2, ![8192, 1024]⟩
abbrev S1x1024 : Shape := ⟨2, ![1, 1024]⟩
abbrev S2816x1024 : Shape := ⟨2, ![2816, 1024]⟩
abbrev S512x2816 : Shape := ⟨2, ![512, 2816]⟩
abbrev S512x1024 : Shape := ⟨2, ![512, 1024]⟩
abbrev S256x1024 : Shape := ⟨2, ![256, 1024]⟩
abbrev S256x2816 : Shape := ⟨2, ![256, 2816]⟩
abbrev S256 : Shape := ⟨1, ![256]⟩
abbrev S256x1 : Shape := ⟨2, ![256, 1]⟩
abbrev S1024 : Shape := ⟨1, ![1024]⟩

abbrev nBuf : Space → Nat
  | .hbm => 16
  | .vmem => 16
  | .smem => 0
  | _ => 0

abbrev bufTy : (tb : Table) → Fin (tcTables nBuf tb) → BufTy
  | .hbm, ⟨0, _⟩ => ⟨S8192x2816, .f32⟩
  | .hbm, ⟨1, _⟩ => ⟨S8192x2816, .f32⟩
  | .hbm, ⟨2, _⟩ => ⟨S1024x2816, .f32⟩
  | .hbm, ⟨3, _⟩ => ⟨S1024x2816, .f32⟩
  | .hbm, ⟨4, _⟩ => ⟨S8192x1024, .f32⟩
  | .hbm, ⟨5, _⟩ => ⟨S8192x1024, .f32⟩
  | .hbm, ⟨6, _⟩ => ⟨S1x1024, .f32⟩
  | .hbm, ⟨7, _⟩ => ⟨S2816x1024, .f32⟩
  | .hbm, ⟨8, _⟩ => ⟨S2816x1024, .bf16⟩
  | .hbm, ⟨9, _⟩ => ⟨S2816x1024, .f32⟩
  | .hbm, ⟨10, _⟩ => ⟨S2816x1024, .bf16⟩
  | .hbm, ⟨11, _⟩ => ⟨S8192x2816, .bf16⟩
  | .hbm, ⟨12, _⟩ => ⟨S8192x2816, .bf16⟩
  | .hbm, ⟨13, _⟩ => ⟨S8192x1024, .f32⟩
  | .hbm, ⟨14, _⟩ => ⟨S8192x1024, .bf16⟩
  | .hbm, ⟨15, _⟩ => ⟨S1x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x2816, .bf16⟩
  | .local _ .vmem, ⟨4, _⟩ => ⟨S512x2816, .bf16⟩
  | .local _ .vmem, ⟨5, _⟩ => ⟨S2816x1024, .bf16⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | .local _ .vmem, ⟨15, _⟩ => ⟨S1x1024, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev main_v6_2 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== FfnReferenceIdeal.lean ====
abbrev S8192x2816 : Shape := ⟨2, ![8192, 2816]⟩
abbrev S1024x2816 : Shape := ⟨2, ![1024, 2816]⟩
abbrev S8192x1024 : Shape := ⟨2, ![8192, 1024]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩

abbrev nBuf : Space → Nat
  | .hbm => 61
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S8192x2816, .f32⟩
  | .hbm, ⟨2, _⟩ => ⟨S1024x2816, .f32⟩
  | .hbm, ⟨3, _⟩ => ⟨S1024x2816, .f32⟩
  | .hbm, ⟨4, _⟩ => ⟨S8192x1024, .f32⟩
  | .hbm, ⟨5, _⟩ => ⟨S8192x1024, .f32⟩
  | .hbm, ⟨6, _⟩ => ⟨S1x1024, .f32⟩
  | .hbm, ⟨7, _⟩ => ⟨S1024, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1024, .f32⟩
  | .hbm, ⟨24, _⟩ => ⟨S8192x1024, .f32⟩
  | .hbm, ⟨25, _⟩ => ⟨S1x1024, .f32⟩
  | .hbm, ⟨26, _⟩ => ⟨S8192x1024, .f32⟩
  | .hbm, ⟨27, _⟩ => ⟨S8192x1024, .f32⟩
  | .hbm, ⟨28, _⟩ => ⟨S8192x2816, .f32⟩
  | .hbm, ⟨29, _⟩ => ⟨S8192x2816, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S1024, .f32⟩
  | .hbm, ⟨36, _⟩ => ⟨S1x1024, .f32⟩
  | .hbm, ⟨37, _⟩ => ⟨S8192x1024, .f32⟩
  | .hbm, ⟨38, _⟩ => ⟨S8192x1024, .f32⟩
  | .hbm, ⟨39, _⟩ => ⟨S_, .f32⟩
  | .hbm, ⟨40, _⟩ => ⟨S1024, .f32⟩
  | .hbm, ⟨41, _⟩ => ⟨S8192x1024, .f32⟩
  | .hbm, ⟨42, _⟩ => ⟨S_, .f32⟩
  | .hbm, ⟨43, _⟩ => ⟨S8192, .f32⟩
  | .hbm, ⟨44, _⟩ => ⟨S8192x1, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1, .f32⟩
  | .hbm, ⟨49, _⟩ => ⟨S_, .f32⟩
  | .hbm, ⟨50, _⟩ => ⟨S8192x1, .f32⟩
  | .hbm, ⟨51, _⟩ => ⟨S8192x1, .f32⟩
  | .hbm, ⟨52, _⟩ => ⟨S_, .f32⟩
  | .hbm, ⟨53, _⟩ => ⟨S8192, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S8192x1024, .bf16⟩
  | .hbm, ⟨60, _⟩ => ⟨S1x1024, .f32⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_4 : Ref sig .tc := ⟨.hbm, 39, rfl⟩
abbrev main_v27 : Ref sig .tc := ⟨.hbm, 40, rfl⟩
abbrev main_v28 : Ref sig .tc := ⟨.hbm, 41, rfl⟩
abbrev main_cst_5 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_6 : Ref sig .tc := ⟨.hbm, 49, rfl⟩
abbrev main_v35 : Ref sig .tc := ⟨.hbm, 50, rfl⟩
abbrev main_v36 : Ref sig .tc := ⟨.hbm, 51, rfl⟩
abbrev main_cst_7 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩

abbrev nD : Nat := 1
abbrev τ : Topo := Topo.v7x

variable {F : FTy → Type} [FloatOps F]
-- ==== LossKernel.lean ====
abbrev S8192x2816 : Shape := ⟨2, ![8192, 2816]⟩
abbrev S2816x1024 : Shape := ⟨2, ![2816, 1024]⟩
abbrev S8192x1024 : Shape := ⟨2, ![8192, 1024]⟩
abbrev S1024 : Shape := ⟨1, ![1024]⟩
abbrev S1x1024 : Shape := ⟨2, ![1, 1024]⟩
abbrev S1x1 : Shape := ⟨2, ![1, 1]⟩
abbrev S512x2816 : Shape := ⟨2, ![512, 2816]⟩
abbrev S512x1024 : Shape := ⟨2, ![512, 1024]⟩
abbrev S256x1024 : Shape := ⟨2, ![256, 1024]⟩
abbrev S256x2816 : Shape := ⟨2, ![256, 2816]⟩
abbrev S256 : Shape := ⟨1, ![256]⟩
abbrev S256x1 : Shape := ⟨2, ![256, 1]⟩
abbrev S1 : Shape := ⟨1, ![1]⟩

abbrev nBuf : Space → Nat
  | .hbm => 12
  | .vmem => 14
  | .smem => 0
  | _ => 0

abbrev bufTy : (tb : Table) → Fin (tcTables nBuf tb) → BufTy
  | .hbm, ⟨0, _⟩ => ⟨S8192x2816, .f32⟩
  | .hbm, ⟨1, _⟩ => ⟨S2816x1024, .f32⟩
  | .hbm, ⟨2, _⟩ => ⟨S8192x1024, .f32⟩
  | .hbm, ⟨3, _⟩ => ⟨S8192x1024, .f32⟩
  | .hbm, ⟨4, _⟩ => ⟨S1024, .f32⟩
  | .hbm, ⟨5, _⟩ => ⟨S8192x2816, .bf16⟩
  | .hbm, ⟨6, _⟩ => ⟨S2816x1024, .bf16⟩
  | .hbm, ⟨7, _⟩ => ⟨S1x1024, .f32⟩
  | .hbm, ⟨8, _⟩ => ⟨S8192x1024, .f32⟩
  | .hbm, ⟨9, _⟩ => ⟨S8192x1024, .bf16⟩
  | .hbm, ⟨10, _⟩ => ⟨S1x1024, .f32⟩
  | .hbm, ⟨11, _⟩ => ⟨S1x1, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | .local _ .vmem, ⟨13, _⟩ => ⟨S1x1, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== LossReferenceIdeal.lean ====
abbrev S8192x2816 : Shape := ⟨2, ![8192, 2816]⟩
abbrev S2816x1024 : Shape := ⟨2, ![2816, 1024]⟩
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S1x1 : Shape := ⟨2, ![1, 1]⟩

abbrev nBuf : Space → Nat
  | .hbm => 78
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S2816x1024, .f32⟩
  | .hbm, ⟨2, _⟩ => ⟨S8192x1024, .f32⟩
  | .hbm, ⟨3, _⟩ => ⟨S8192x1024, .f32⟩
  | .hbm, ⟨4, _⟩ => ⟨S1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S1x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S8192, .f32⟩
  | .hbm, ⟨34, _⟩ => ⟨S_, .f32⟩
  | .hbm, ⟨35, _⟩ => ⟨S8192, .f32⟩
  | .hbm, ⟨36, _⟩ => ⟨S8192, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S8192, .f32⟩
  | .hbm, ⟨45, _⟩ => ⟨S_, .f32⟩
  | .hbm, ⟨46, _⟩ => ⟨S8192, .f32⟩
  | .hbm, ⟨47, _⟩ => ⟨S8192, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S_, .f32⟩
  | .hbm, ⟨52, _⟩ => ⟨S1024, .f32⟩
  | .hbm, ⟨53, _⟩ => ⟨S1x1024, .f32⟩
  | .hbm, ⟨54, _⟩ => ⟨S8192x1024, .f32⟩
  | .hbm, ⟨55, _⟩ => ⟨S8192x1024, .f32⟩
  | .hbm, ⟨56, _⟩ => ⟨S_, .f32⟩
  | .hbm, ⟨57, _⟩ => ⟨S1024, .f32⟩
  | .hbm, ⟨58, _⟩ => ⟨S8192x1024, .f32⟩
  | .hbm, ⟨59, _⟩ => ⟨S_, .f32⟩
  | .hbm, ⟨60, _⟩ => ⟨S8192, .f32⟩
  | .hbm, ⟨61, _⟩ => ⟨S8192x1, .f32⟩
  | .hbm, ⟨62, _⟩ => ⟨S8192x1024, .f32⟩
  | .hbm, ⟨63, _⟩ => ⟨S8192x1024, .f32⟩
  | .hbm, ⟨64, _⟩ => ⟨S8192x1, .f32⟩
  | .hbm, ⟨65, _⟩ => ⟨S_, .f32⟩
  | .hbm, ⟨66, _⟩ => ⟨S8192x1, .f32⟩
  | .hbm, ⟨67, _⟩ => ⟨S8192x1, .f32⟩
  | .hbm, ⟨68, _⟩ => ⟨S_, .f32⟩
  | .hbm, ⟨69, _⟩ => ⟨S8192, .f32⟩
  | .hbm, ⟨70, _⟩ => ⟨S8192x1024, .f32⟩
  | .hbm, ⟨71, _⟩ => ⟨S8192x1024, .f32⟩
  | .hbm, ⟨72, _⟩ => ⟨S8192x1024, .f32⟩
  | .hbm, ⟨73, _⟩ => ⟨S8192x1024, .f32⟩
  | .hbm, ⟨74, _⟩ => ⟨S8192x1024, .f32⟩
  | .hbm, ⟨75, _⟩ => ⟨S8192x1024, .bf16⟩
  | .hbm, ⟨76, _⟩ => ⟨S1x1024, .f32⟩
  | .hbm, ⟨77, _⟩ => ⟨S1x1, .f32⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_cst_6 : Ref sig .tc := ⟨.hbm, 37, rfl⟩
abbrev main_v25 : Ref sig .tc := ⟨.hbm, 38, rfl⟩
abbrev main_cst_7 : Ref sig .tc := ⟨.hbm, 39, rfl⟩
abbrev main_v26 : Ref sig .tc := ⟨.hbm, 40, rfl⟩
abbrev main_cst_8 : Ref sig .tc := ⟨.hbm, 41, rfl⟩
abbrev main_cst_9 : Ref sig .tc := ⟨.hbm, 42, rfl⟩
abbrev main_v27 : Ref sig .tc := ⟨.hbm, 43, rfl⟩
abbrev main_v28 : Ref sig .tc := ⟨.hbm, 44, rfl⟩
abbrev main_cst_10 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_11 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_12 : Ref sig .tc := ⟨.hbm, 56, rfl⟩
abbrev main_v38 : Ref sig .tc := ⟨.hbm, 57, rfl⟩
abbrev main_v39 : Ref sig .tc := ⟨.hbm, 58, rfl⟩
abbrev main_cst_13 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_14 : Ref sig .tc := ⟨.hbm, 65, rfl⟩
abbrev main_v45 : Ref sig .tc := ⟨.hbm, 66, rfl⟩
abbrev main_v46 : Ref sig .tc := ⟨.hbm, 67, rfl⟩
abbrev main_cst_15 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩

abbrev nD : Nat := 1
abbrev τ : Topo := Topo.v7x

variable {F : FTy → Type} [FloatOps F]
-- ==== InpKernel.lean ====
abbrev S8192x1536 : Shape := ⟨2, ![8192, 1536]⟩
abbrev S8192x640 : Shape := ⟨2, ![8192, 640]⟩
abbrev S1536x1024 : Shape := ⟨2, ![1536, 1024]⟩
abbrev S640x1024 : Shape := ⟨2, ![640, 1024]⟩
abbrev S8192x1024 : Shape := ⟨2, ![8192, 1024]⟩
abbrev S1x1024 : Shape := ⟨2, ![1, 1024]⟩
abbrev S512x1536 : Shape := ⟨2, ![512, 1536]⟩
abbrev S512x640 : Shape := ⟨2, ![512, 640]⟩
abbrev S512x1024 : Shape := ⟨2, ![512, 1024]⟩
abbrev S256x1024 : Shape := ⟨2, ![256, 1024]⟩
abbrev S256x1536 : Shape := ⟨2, ![256, 1536]⟩
abbrev S256x640 : Shape := ⟨2, ![256, 640]⟩
abbrev S256 : Shape := ⟨1, ![256]⟩
abbrev S256x1 : Shape := ⟨2, ![256, 1]⟩
abbrev S1024 : Shape := ⟨1, ![1024]⟩

abbrev nBuf : Space → Nat
  | .hbm => 13
  | .vmem => 14
  | .smem => 0
  | _ => 0

abbrev bufTy : (tb : Table) → Fin (tcTables nBuf tb) → BufTy
  | .hbm, ⟨0, _⟩ => ⟨S8192x1536, .f32⟩
  | .hbm, ⟨1, _⟩ => ⟨S8192x640, .f32⟩
  | .hbm, ⟨2, _⟩ => ⟨S1536x1024, .f32⟩
  | .hbm, ⟨3, _⟩ => ⟨S640x1024, .f32⟩
  | .hbm, ⟨4, _⟩ => ⟨S8192x1024, .f32⟩
  | .hbm, ⟨5, _⟩ => ⟨S8192x1024, .f32⟩
  | .hbm, ⟨6, _⟩ => ⟨S1x1024, .f32⟩
  | .hbm, ⟨7, _⟩ => ⟨S8192x1536, .bf16⟩
  | .hbm, ⟨8, _⟩ => ⟨S1536x1024, .bf16⟩
  | .hbm, ⟨9, _⟩ => ⟨S8192x640, .bf16⟩
  | .hbm, ⟨10, _⟩ => ⟨S640x1024, .bf16⟩
  | .hbm, ⟨11, _⟩ => ⟨S8192x1024, .f32⟩
  | .hbm, ⟨12, _⟩ => ⟨S1x1024, .f32⟩
  | .local _ .vmem, ⟨0, _⟩ => ⟨S512x1536, .bf16⟩
  | .local _ .vmem, ⟨1, _⟩ => ⟨S512x1536, .bf16⟩
  | .local _ .vmem, ⟨2, _⟩ => ⟨S1536x1024, .bf16⟩
  | .local _ .vmem, ⟨3, _⟩ => ⟨S512x640, .bf16⟩
  | .local _ .vmem, ⟨4, _⟩ => ⟨S512x640, .bf16⟩
  | .local _ .vmem, ⟨5, _⟩ => ⟨S640x1024, .bf16⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | .local _ .vmem, ⟨13, _⟩ => ⟨S1x1024, .f32⟩
  | _, _ => ⟨S8192x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1536x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x640 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S640x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== InpReferenceIdeal.lean ====
abbrev S8192x1536 : Shape := ⟨2, ![8192, 1536]⟩
abbrev S8192x640 : Shape := ⟨2, ![8192, 640]⟩
abbrev S1536x1024 : Shape := ⟨2, ![1536, 1024]⟩
abbrev S640x1024 : Shape := ⟨2, ![640, 1024]⟩
abbrev S8192x1024 : Shape := ⟨2, ![8192, 1024]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩

abbrev nBuf : Space → Nat
  | .hbm => 60
  | .vmem => 0
  | .smem => 0
  | _ => 0

abbrev bufTy : (tb : Table) → Fin (tcTables nBuf tb) → BufTy
  | .hbm, ⟨0, _⟩ => ⟨S8192x1536, .f32⟩
  | .hbm, ⟨1, _⟩ => ⟨S8192x640, .f32⟩
  | .hbm, ⟨2, _⟩ => ⟨S1536x1024, .f32⟩
  | .hbm, ⟨3, _⟩ => ⟨S640x1024, .f32⟩
  | .hbm, ⟨4, _⟩ => ⟨S8192x1024, .f32⟩
  | .hbm, ⟨5, _⟩ => ⟨S8192x1024, .f32⟩
  | .hbm, ⟨6, _⟩ => ⟨S1x1024, .f32⟩
  | .hbm, ⟨7, _⟩ => ⟨S1024, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1024, .f32⟩
  | .hbm, ⟨24, _⟩ => ⟨S8192x1024, .f32⟩
  | .hbm, ⟨25, _⟩ => ⟨S1x1024, .f32⟩
  | .hbm, ⟨26, _⟩ => ⟨S8192x1024, .f32⟩
  | .hbm, ⟨27, _⟩ => ⟨S8192x1024, .f32⟩
  | .hbm, ⟨28, _⟩ => ⟨S8192x1536, .f32⟩
  | .hbm, ⟨29, _⟩ => ⟨S8192x640, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S1024, .f32⟩
  | .hbm, ⟨36, _⟩ => ⟨S1x1024, .f32⟩
  | .hbm, ⟨37, _⟩ => ⟨S8192x1024, .f32⟩
  | .hbm, ⟨38, _⟩ => ⟨S8192x1024, .f32⟩
  | .hbm, ⟨39, _⟩ => ⟨S_, .f32⟩
  | .hbm, ⟨40, _⟩ => ⟨S1024, .f32⟩
  | .hbm, ⟨41, _⟩ => ⟨S8192x1024, .f32⟩
  | .hbm, ⟨42, _⟩ => ⟨S_, .f32⟩
  | .hbm, ⟨43, _⟩ => ⟨S8192, .f32⟩
  | .hbm, ⟨44, _⟩ => ⟨S8192x1, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1, .f32⟩
  | .hbm, ⟨49, _⟩ => ⟨S_, .f32⟩
  | .hbm, ⟨50, _⟩ => ⟨S8192x1, .f32⟩
  | .hbm, ⟨51, _⟩ => ⟨S8192x1, .f32⟩
  | .hbm, ⟨52, _⟩ => ⟨S_, .f32⟩
  | .hbm, ⟨53, _⟩ => ⟨S8192, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S1x1024, .f32⟩
  | _, _ => ⟨S8192x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_4 : Ref sig .tc := ⟨.hbm, 39, rfl⟩
abbrev main_v27 : Ref sig .tc := ⟨.hbm, 40, rfl⟩
abbrev main_v28 : Ref sig .tc := ⟨.hbm, 41, rfl⟩
abbrev main_cst_5 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_6 : Ref sig .tc := ⟨.hbm, 49, rfl⟩
abbrev main_v35 : Ref sig .tc := ⟨.hbm, 50, rfl⟩
abbrev main_v36 : Ref sig .tc := ⟨.hbm, 51, rfl⟩
abbrev main_cst_7 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩

abbrev nD : Nat := 1
abbrev τ : Topo := Topo.v7x

variable {F : FTy → Type} [FloatOps F]
-- ==== MixKernel.lean ====
abbrev S8192x1024 : Shape := ⟨2, ![8192, 1024]⟩
abbrev S1024x1024 : Shape := ⟨2, ![1024, 1024]⟩
abbrev S8192x512 : Shape := ⟨2, ![8192, 512]⟩
abbrev S1x512 : Shape := ⟨2, ![1, 512]⟩
abbrev S8192x8 : Shape := ⟨2, ![8192, 8]⟩
abbrev S512x1024 : Shape := ⟨2, ![512, 1024]⟩
abbrev S512x512 : Shape := ⟨2, ![512, 512]⟩
abbrev S512x8 : Shape := ⟨2, ![512, 8]⟩
abbrev S256x512 : Shape := ⟨2, ![256, 512]⟩
abbrev S256x1024 : Shape := ⟨2, ![256, 1024]⟩
abbrev S256 : Shape := ⟨1, ![256]⟩
abbrev S256x1 : Shape := ⟨2, ![256, 1]⟩
abbrev S512 : Shape := ⟨1, ![512]⟩
abbrev S256x8 : Shape := ⟨2, ![256, 8]⟩

abbrev nBuf : Space → Nat
  | .hbm => 14
  | .vmem => 19
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x512, .f32⟩
  | .hbm, ⟨3, _⟩ => ⟨S8192x512, .f32⟩
  | .hbm, ⟨4, _⟩ => ⟨S1x512, .f32⟩
  | .hbm, ⟨5, _⟩ => ⟨S1x512, .f32⟩
  | .hbm, ⟨6, _⟩ => ⟨S8192x1024, .bf16⟩
  | .hbm, ⟨7, _⟩ => ⟨S1024x1024, .bf16⟩
  | .hbm, ⟨8, _⟩ => ⟨S8192x512, .bf16⟩
  | .hbm, ⟨9, _⟩ => ⟨S8192x512, .bf16⟩
  | .hbm, ⟨10, _⟩ => ⟨S8192x8, .f32⟩
  | .hbm, ⟨11, _⟩ => ⟨S8192x8, .f32⟩
  | .hbm, ⟨12, _⟩ => ⟨S1x512, .f32⟩
  | .hbm, ⟨13, _⟩ => ⟨S1x512, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S1x512, .f32⟩
  | .local _ .vmem, ⟨8, _⟩ => ⟨S1x512, .f32⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x8, .f32⟩
  | .local _ .vmem, ⟨14, _⟩ => ⟨S512x8, .f32⟩
  | .local _ .vmem, ⟨15, _⟩ => ⟨S512x8, .f32⟩
  | .local _ .vmem, ⟨16, _⟩ => ⟨S512x8, .f32⟩
  | .local _ .vmem, ⟨17, _⟩ => ⟨S1x512, .f32⟩
  | .local _ .vmem, ⟨18, _⟩ => ⟨S1x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev main_v2_3 : Ref sig .tc := ⟨.hbm, 11, rfl⟩
abbrev main_v2_4 : Ref sig .tc := ⟨.hbm, 12, rfl⟩
abbrev main_v2_5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg11_0 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem11_0 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x8 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x8 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== MixReferenceIdeal.lean ====
abbrev S8192x1024 : Shape := ⟨2, ![8192, 1024]⟩
abbrev S1024x1024 : Shape := ⟨2, ![1024, 1024]⟩
abbrev S8192x512 : Shape := ⟨2, ![8192, 512]⟩
abbrev S1x512 : Shape := ⟨2, ![1, 512]⟩
abbrev S512 : Shape := ⟨1, ![512]⟩
abbrev S_ : Shape := ⟨0, ![]⟩
abbrev S8192 : Shape := ⟨1, ![8192]⟩
abbrev S8192x1 : Shape := ⟨2, ![8192, 1]⟩
abbrev S8192x8x64 : Shape := ⟨3, ![8192, 8, 64]⟩
abbrev S8192x8 : Shape := ⟨2, ![8192, 8]⟩

abbrev nBuf : Space → Nat
  | .hbm => 115
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x512, .f32⟩
  | .hbm, ⟨3, _⟩ => ⟨S8192x512, .f32⟩
  | .hbm, ⟨4, _⟩ => ⟨S1x512, .f32⟩
  | .hbm, ⟨5, _⟩ => ⟨S1x512, .f32⟩
  | .hbm, ⟨6, _⟩ => ⟨S512, .f32⟩
  | .hbm, ⟨7, _⟩ => ⟨S512, .f32⟩
  | .hbm, ⟨8, _⟩ => ⟨S8192x512, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x512, .f32⟩
  | .hbm, ⟨24, _⟩ => ⟨S8192x512, .f32⟩
  | .hbm, ⟨25, _⟩ => ⟨S1x512, .f32⟩
  | .hbm, ⟨26, _⟩ => ⟨S8192x512, .f32⟩
  | .hbm, ⟨27, _⟩ => ⟨S8192x512, .f32⟩
  | .hbm, ⟨28, _⟩ => ⟨S8192x512, .f32⟩
  | .hbm, ⟨29, _⟩ => ⟨S_, .f32⟩
  | .hbm, ⟨30, _⟩ => ⟨S8192, .f32⟩
  | .hbm, ⟨31, _⟩ => ⟨S8192x1, .f32⟩
  | .hbm, ⟨32, _⟩ => ⟨S_, .f32⟩
  | .hbm, ⟨33, _⟩ => ⟨S8192x1, .f32⟩
  | .hbm, ⟨34, _⟩ => ⟨S8192x1, .f32⟩
  | .hbm, ⟨35, _⟩ => ⟨S_, .f32⟩
  | .hbm, ⟨36, _⟩ => ⟨S8192x1, .f32⟩
  | .hbm, ⟨37, _⟩ => ⟨S8192x1, .f32⟩
  | .hbm, ⟨38, _⟩ => ⟨S8192x1, .f32⟩
  | .hbm, ⟨39, _⟩ => ⟨S8192x1, .f32⟩
  | .hbm, ⟨40, _⟩ => ⟨S_, .f32⟩
  | .hbm, ⟨41, _⟩ => ⟨S8192x1, .f32⟩
  | .hbm, ⟨42, _⟩ => ⟨S8192x1, .f32⟩
  | .hbm, ⟨43, _⟩ => ⟨S8192x512, .f32⟩
  | .hbm, ⟨44, _⟩ => ⟨S8192x512, .f32⟩
  | .hbm, ⟨45, _⟩ => ⟨S1x512, .f32⟩
  | .hbm, ⟨46, _⟩ => ⟨S8192x512, .f32⟩
  | .hbm, ⟨47, _⟩ => ⟨S8192x512, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x512, .f32⟩
  | .hbm, ⟨52, _⟩ => ⟨S8192x512, .f32⟩
  | .hbm, ⟨53, _⟩ => ⟨S8192x512, .f32⟩
  | .hbm, ⟨54, _⟩ => ⟨S_, .f32⟩
  | .hbm, ⟨55, _⟩ => ⟨S512, .f32⟩
  | .hbm, ⟨56, _⟩ => ⟨S1x512, .f32⟩
  | .hbm, ⟨57, _⟩ => ⟨S8192x512, .f32⟩
  | .hbm, ⟨58, _⟩ => ⟨S8192x512, .f32⟩
  | .hbm, ⟨59, _⟩ => ⟨S_, .f32⟩
  | .hbm, ⟨60, _⟩ => ⟨S512, .f32⟩
  | .hbm, ⟨61, _⟩ => ⟨S8192x512, .f32⟩
  | .hbm, ⟨62, _⟩ => ⟨S_, .f32⟩
  | .hbm, ⟨63, _⟩ => ⟨S8192, .f32⟩
  | .hbm, ⟨64, _⟩ => ⟨S8192x1, .f32⟩
  | .hbm, ⟨65, _⟩ => ⟨S8192x512, .f32⟩
  | .hbm, ⟨66, _⟩ => ⟨S8192x512, .f32⟩
  | .hbm, ⟨67, _⟩ => ⟨S8192x1, .f32⟩
  | .hbm, ⟨68, _⟩ => ⟨S_, .f32⟩
  | .hbm, ⟨69, _⟩ => ⟨S8192x1, .f32⟩
  | .hbm, ⟨70, _⟩ => ⟨S8192x1, .f32⟩
  | .hbm, ⟨71, _⟩ => ⟨S_, .f32⟩
  | .hbm, ⟨72, _⟩ => ⟨S8192, .f32⟩
  | .hbm, ⟨73, _⟩ => ⟨S8192x512, .f32⟩
  | .hbm, ⟨74, _⟩ => ⟨S8192x512, .f32⟩
  | .hbm, ⟨75, _⟩ => ⟨S8192x512, .f32⟩
  | .hbm, ⟨76, _⟩ => ⟨S8192x512, .f32⟩
  | .hbm, ⟨77, _⟩ => ⟨S8192x512, .f32⟩
  | .hbm, ⟨78, _⟩ => ⟨S8192x512, .f32⟩
  | .hbm, ⟨79, _⟩ => ⟨S_, .f32⟩
  | .hbm, ⟨80, _⟩ => ⟨S512, .f32⟩
  | .hbm, ⟨81, _⟩ => ⟨S1x512, .f32⟩
  | .hbm, ⟨82, _⟩ => ⟨S8192x512, .f32⟩
  | .hbm, ⟨83, _⟩ => ⟨S8192x512, .f32⟩
  | .hbm, ⟨84, _⟩ => ⟨S_, .f32⟩
  | .hbm, ⟨85, _⟩ => ⟨S512, .f32⟩
  | .hbm, ⟨86, _⟩ => ⟨S8192x512, .f32⟩
  | .hbm, ⟨87, _⟩ => ⟨S_, .f32⟩
  | .hbm, ⟨88, _⟩ => ⟨S8192, .f32⟩
  | .hbm, ⟨89, _⟩ => ⟨S8192x1, .f32⟩
  | .hbm, ⟨90, _⟩ => ⟨S8192x512, .f32⟩
  | .hbm, ⟨91, _⟩ => ⟨S8192x512, .f32⟩
  | .hbm, ⟨92, _⟩ => ⟨S8192x1, .f32⟩
  | .hbm, ⟨93, _⟩ => ⟨S_, .f32⟩
  | .hbm, ⟨94, _⟩ => ⟨S8192x1, .f32⟩
  | .hbm, ⟨95, _⟩ => ⟨S8192x1, .f32⟩
  | .hbm, ⟨96, _⟩ => ⟨S_, .f32⟩
  | .hbm, ⟨97, _⟩ => ⟨S8192, .f32⟩
  | .hbm, ⟨98, _⟩ => ⟨S8192x512, .f32⟩
  | .hbm, ⟨99, _⟩ => ⟨S8192x512, .f32⟩
  | .hbm, ⟨100, _⟩ => ⟨S8192x512, .f32⟩
  | .hbm, ⟨101, _⟩ => ⟨S8192x512, .f32⟩
  | .hbm, ⟨102, _⟩ => ⟨S8192x512, .f32⟩
  | .hbm, ⟨103, _⟩ => ⟨S8192x512, .bf16⟩
  | .hbm, ⟨104, _⟩ => ⟨S8192x512, .bf16⟩
  | .hbm, ⟨105, _⟩ => ⟨S8192x512, .f32⟩
  | .hbm, ⟨106, _⟩ => ⟨S8192x8x64, .f32⟩
  | .hbm, ⟨107, _⟩ => ⟨S_, .f32⟩
  | .hbm, ⟨108, _⟩ => ⟨S8192x8, .f32⟩
  | .hbm, ⟨109, _⟩ => ⟨S8192x512, .f32⟩
  | .hbm, ⟨110, _⟩ => ⟨S8192x8x64, .f32⟩
  | .hbm, ⟨111, _⟩ => ⟨S_, .f32⟩
  | .hbm, ⟨112, _⟩ => ⟨S8192x8, .f32⟩
  | .hbm, ⟨113, _⟩ => ⟨S1x512, .f32⟩
  | .hbm, ⟨114, _⟩ => ⟨S1x512, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_cst_5 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_6 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_7 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_8 : Ref sig .tc := ⟨.hbm, 59, rfl⟩
abbrev main_v44 : Ref sig .tc := ⟨.hbm, 60, rfl⟩
abbrev main_v45 : Ref sig .tc := ⟨.hbm, 61, rfl⟩
abbrev main_cst_9 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_cst_10 : Ref sig .tc := ⟨.hbm, 68, rfl⟩
abbrev main_v51 : Ref sig .tc := ⟨.hbm, 69, rfl⟩
abbrev main_v52 : Ref sig .tc := ⟨.hbm, 70, rfl⟩
abbrev main_cst_11 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_cst_12 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_cst_13 : Ref sig .tc := ⟨.hbm, 84, rfl⟩
abbrev main_v64 : Ref sig .tc := ⟨.hbm, 85, rfl⟩
abbrev main_v65 : Ref sig .tc := ⟨.hbm, 86, rfl⟩
abbrev main_cst_14 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_cst_15 : Ref sig .tc := ⟨.hbm, 93, rfl⟩
abbrev main_v71 : Ref sig .tc := ⟨.hbm, 94, rfl⟩
abbrev main_v72 : Ref sig .tc := ⟨.hbm, 95, rfl⟩
abbrev main_cst_16 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_cst_17 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_cst_18 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩

abbrev nD : Nat := 1
abbrev τ : Topo := Topo.v7x

variable {F : FTy → Type} [FloatOps F]
-- ==== SwiFKernel.lean ====
abbrev S8192x1024 : Shape := ⟨2, ![8192, 1024]⟩
abbrev S1024x2816 : Shape := ⟨2, ![1024, 2816]⟩
abbrev S2816x1024 : Shape := ⟨2, ![2816, 1024]⟩
abbrev S8192x2816 : Shape := ⟨2, ![8192, 2816]⟩
abbrev S512x1024 : Shape := ⟨2, ![512, 1024]⟩
abbrev S1408x1024 : Shape := ⟨2, ![1408, 1024]⟩
abbrev S512x1408 : Shape := ⟨2, ![512, 1408]⟩

abbrev nBuf : Space → Nat
  | .hbm => 11
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S1024x2816, .f32⟩
  | .hbm, ⟨2, _⟩ => ⟨S1024x2816, .f32⟩
  | .hbm, ⟨3, _⟩ => ⟨S8192x1024, .bf16⟩
  | .hbm, ⟨4, _⟩ => ⟨S2816x1024, .f32⟩
  | .hbm, ⟨5, _⟩ => ⟨S2816x1024, .bf16⟩
  | .hbm, ⟨6, _⟩ => ⟨S2816x1024, .f32⟩
  | .hbm, ⟨7, _⟩ => ⟨S2816x1024, .bf16⟩
  | .hbm, ⟨8, _⟩ => ⟨S8192x2816, .bf16⟩
  | .hbm, ⟨9, _⟩ => ⟨S8192x2816, .bf16⟩
  | .hbm, ⟨10, _⟩ => ⟨S8192x2816, .bf16⟩
  | .local _ .vmem, ⟨0, _⟩ => ⟨S512x1024, .bf16⟩
  | .local _ .vmem, ⟨1, _⟩ => ⟨S512x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1408x1024, .bf16⟩
  | .local _ .vmem, ⟨5, _⟩ => ⟨S1408x1024, .bf16⟩
  | .local _ .vmem, ⟨6, _⟩ => ⟨S512x1408, .bf16⟩
  | .local _ .vmem, ⟨7, _⟩ => ⟨S512x1408, .bf16⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev main_v5_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== SwiFReferenceIdeal.lean ====
abbrev S8192x1024 : Shape := ⟨2, ![8192, 1024]⟩
abbrev S1024x2816 : Shape := ⟨2, ![1024, 2816]⟩
abbrev S8192x2816 : Shape := ⟨2, ![8192, 2816]⟩
abbrev S_ : Shape := ⟨0, ![]⟩

abbrev nBuf : Space → Nat
  | .hbm => 30
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x2816, .f32⟩
  | .hbm, ⟨2, _⟩ => ⟨S1024x2816, .f32⟩
  | .hbm, ⟨3, _⟩ => ⟨S8192x2816, .f32⟩
  | .hbm, ⟨4, _⟩ => ⟨S8192x2816, .f32⟩
  | .hbm, ⟨5, _⟩ => ⟨S8192x2816, .f32⟩
  | .hbm, ⟨6, _⟩ => ⟨S8192x2816, .f32⟩
  | .hbm, ⟨7, _⟩ => ⟨S_, .f32⟩
  | .hbm, ⟨8, _⟩ => ⟨S8192x2816, .f32⟩
  | .hbm, ⟨9, _⟩ => ⟨S8192x2816, .f32⟩
  | .hbm, ⟨10, _⟩ => ⟨S_, .f32⟩
  | .hbm, ⟨11, _⟩ => ⟨S8192x2816, .f32⟩
  | .hbm, ⟨12, _⟩ => ⟨S8192x2816, .f32⟩
  | .hbm, ⟨13, _⟩ => ⟨S_, .f32⟩
  | .hbm, ⟨14, _⟩ => ⟨S8192x2816, .f32⟩
  | .hbm, ⟨15, _⟩ => ⟨S8192x2816, .f32⟩
  | .hbm, ⟨16, _⟩ => ⟨S8192x2816, .f32⟩
  | .hbm, ⟨17, _⟩ => ⟨S8192x2816, .f32⟩
  | .hbm, ⟨18, _⟩ => ⟨S8192x2816, .f32⟩
  | .hbm, ⟨19, _⟩ => ⟨S_, .f32⟩
  | .hbm, ⟨20, _⟩ => ⟨S8192x2816, .f32⟩
  | .hbm, ⟨21, _⟩ => ⟨S8192x2816, .f32⟩
  | .hbm, ⟨22, _⟩ => ⟨S8192x2816, .f32⟩
  | .hbm, ⟨23, _⟩ => ⟨S8192x2816, .f32⟩
  | .hbm, ⟨24, _⟩ => ⟨S8192x2816, .f32⟩
  | .hbm, ⟨25, _⟩ => ⟨S8192x2816, .f32⟩
  | .hbm, ⟨26, _⟩ => ⟨S8192x2816, .f32⟩
  | .hbm, ⟨27, _⟩ => ⟨S8192x2816, .bf16⟩
  | .hbm, ⟨28, _⟩ => ⟨S8192x2816, .bf16⟩
  | .hbm, ⟨29, _⟩ => ⟨S8192x2816, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_v2_2 : Ref sig .tc := ⟨.hbm, 12, rfl⟩
abbrev main_call0_cst_1 : Ref sig .tc := ⟨.hbm, 13, rfl⟩
abbrev main_call0_v6 : Ref sig .tc := ⟨.hbm, 14, rfl⟩
abbrev main_call0_v7 : Ref sig .tc := ⟨.hbm, 15, rfl⟩
abbrev main_v2_1 : Ref sig .tc := ⟨.hbm, 16, rfl⟩
abbrev main_v2_0 : Ref sig .tc := ⟨.hbm, 17, rfl⟩
abbrev main_v3 : Ref sig .tc := ⟨.hbm, 18, rfl⟩
abbrev main_cst : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩

abbrev nD : Nat := 1
abbrev τ : Topo := Topo.v7x

variable {F : FTy → Type} [FloatOps F]
-- ==== PrepKernel.lean ====
abbrev S4x8x2048x96 : Shape := ⟨4, ![4, 8, 2048, 96]⟩
abbrev S4x8x2048x64 : Shape := ⟨4, ![4, 8, 2048, 64]⟩
abbrev S4x4x2048x32 : Shape := ⟨4, ![4, 4, 2048, 32]⟩
abbrev S4x2048x8 : Shape := ⟨3, ![4, 2048, 8]⟩
abbrev S8192x256 : Shape := ⟨2, ![8192, 256]⟩
abbrev S8192x128 : Shape := ⟨2, ![8192, 128]⟩
abbrev S4x2048 : Shape := ⟨2, ![4, 2048]⟩
abbrev S1x256 : Shape := ⟨2, ![1, 256]⟩
abbrev S1x128 : Shape := ⟨2, ![1, 128]⟩
abbrev S256x768 : Shape := ⟨2, ![256, 768]⟩
abbrev S128x1024 : Shape := ⟨2, ![128, 1024]⟩
abbrev S4x2048x8x64 : Shape := ⟨4, ![4, 2048, 8, 64]⟩
abbrev S4x2048x512 : Shape := ⟨3, ![4, 2048, 512]⟩
abbrev S8192x512 : Shape := ⟨2, ![8192, 512]⟩
abbrev S4x8x2048x32 : Shape := ⟨4, ![4, 8, 2048, 32]⟩
abbrev S4x2x4x2048x2x16 : Shape := ⟨6, ![4, 2, 4, 2048, 2, 16]⟩
abbrev S4x2048x2x2x4x16 : Shape := ⟨6, ![4, 2048, 2, 2, 4, 16]⟩
abbrev S8192x4x1x128 : Shape := ⟨4, ![8192, 4, 1, 128]⟩
abbrev S8192x4x2x128 : Shape := ⟨4, ![8192, 4, 2, 128]⟩
abbrev S8192x1024 : Shape := ⟨2, ![8192, 1024]⟩
abbrev S4x4x2048x2x16 : Shape := ⟨5, ![4, 4, 2048, 2, 16]⟩
abbrev S4x2048x2x4x16 : Shape := ⟨5, ![4, 2048, 2, 4, 16]⟩
abbrev S8192x8 : Shape := ⟨2, ![8192, 8]⟩
abbrev S_ : Shape := ⟨0, ![]⟩
abbrev S8192x640 : Shape := ⟨2, ![8192, 640]⟩
abbrev S768x256 : Shape := ⟨2, ![768, 256]⟩
abbrev S8x96x256 : Shape := ⟨3, ![8, 96, 256]⟩
abbrev S8x16x256 : Shape := ⟨3, ![8, 16, 256]⟩
abbrev S2x1x64x256 : Shape := ⟨4, ![2, 1, 64, 256]⟩
abbrev S2x2x64x256 : Shape := ⟨4, ![2, 2, 64, 256]⟩
abbrev S256x256 : Shape := ⟨2, ![256, 256]⟩
abbrev S8x64x256 : Shape := ⟨3, ![8, 64, 256]⟩
abbrev S512x256 : Shape := ⟨2, ![512, 256]⟩
abbrev S1024x128 : Shape := ⟨2, ![1024, 128]⟩
abbrev S4x2x2x64x128 : Shape := ⟨5, ![4, 2, 2, 64, 128]⟩
abbrev S16 : Shape := ⟨1, ![16]⟩
abbrev S4x2048x1 : Shape := ⟨3, ![4, 2048, 1]⟩
abbrev S1x1x16 : Shape := ⟨3, ![1, 1, 16]⟩
abbrev S4x2048x16 : Shape := ⟨3, ![4, 2048, 16]⟩
abbrev S4x1x2048x16 : Shape := ⟨4, ![4, 1, 2048, 16]⟩
abbrev S8192x16 : Shape := ⟨2, ![8192, 16]⟩
abbrev S512x512 : Shape := ⟨2, ![512, 512]⟩
abbrev S512x1024 : Shape := ⟨2, ![512, 1024]⟩
abbrev S512x128 : Shape := ⟨2, ![512, 128]⟩
abbrev S512x640 : Shape := ⟨2, ![512, 640]⟩
abbrev S512x16 : Shape := ⟨2, ![512, 16]⟩
abbrev S16x128 : Shape := ⟨2, ![16, 128]⟩
abbrev S512 : Shape := ⟨1, ![512]⟩
abbrev S512x1 : Shape := ⟨2, ![512, 1]⟩
abbrev S256 : Shape := ⟨1, ![256]⟩
abbrev S128 : Shape := ⟨1, ![128]⟩

abbrev nBuf : Space → Nat
  | .hbm => 87
  | .vmem => 26
  | .smem => 0
  | _ => 0

abbrev bufTy : (tb : Table) → Fin (tcTables nBuf tb) → BufTy
  | .hbm, ⟨0, _⟩ => ⟨S4x8x2048x96, .f32⟩
  | .hbm, ⟨1, _⟩ => ⟨S4x8x2048x64, .f32⟩
  | .hbm, ⟨2, _⟩ => ⟨S4x8x2048x64, .f32⟩
  | .hbm, ⟨3, _⟩ => ⟨S4x4x2048x32, .f32⟩
  | .hbm, ⟨4, _⟩ => ⟨S4x2048x8, .f32⟩
  | .hbm, ⟨5, _⟩ => ⟨S8192x256, .f32⟩
  | .hbm, ⟨6, _⟩ => ⟨S8192x128, .f32⟩
  | .hbm, ⟨7, _⟩ => ⟨S4x2048, .i32⟩
  | .hbm, ⟨8, _⟩ => ⟨S1x256, .f32⟩
  | .hbm, ⟨9, _⟩ => ⟨S1x128, .f32⟩
  | .hbm, ⟨10, _⟩ => ⟨S256x768, .f32⟩
  | .hbm, ⟨11, _⟩ => ⟨S128x1024, .f32⟩
  | .hbm, ⟨12, _⟩ => ⟨S4x8x2048x64, .f32⟩
  | .hbm, ⟨13, _⟩ => ⟨S4x2048x8x64, .f32⟩
  | .hbm, ⟨14, _⟩ => ⟨S4x2048x512, .f32⟩
  | .hbm, ⟨15, _⟩ => ⟨S8192x512, .f32⟩
  | .hbm, ⟨16, _⟩ => ⟨S8192x512, .bf16⟩
  | .hbm, ⟨17, _⟩ => ⟨S4x8x2048x32, .f32⟩
  | .hbm, ⟨18, _⟩ => ⟨S4x2x4x2048x2x16, .f32⟩
  | .hbm, ⟨19, _⟩ => ⟨S4x2048x2x2x4x16, .f32⟩
  | .hbm, ⟨20, _⟩ => ⟨S8192x256, .f32⟩
  | .hbm, ⟨21, _⟩ => ⟨S4x2048x8x64, .f32⟩
  | .hbm, ⟨22, _⟩ => ⟨S4x2048x512, .f32⟩
  | .hbm, ⟨23, _⟩ => ⟨S8192x4x1x128, .f32⟩
  | .hbm, ⟨24, _⟩ => ⟨S4x2048x8x64, .f32⟩
  | .hbm, ⟨25, _⟩ => ⟨S4x2048x512, .f32⟩
  | .hbm, ⟨26, _⟩ => ⟨S8192x4x1x128, .f32⟩
  | .hbm, ⟨27, _⟩ => ⟨S8192x4x2x128, .f32⟩
  | .hbm, ⟨28, _⟩ => ⟨S8192x1024, .f32⟩
  | .hbm, ⟨29, _⟩ => ⟨S8192x1024, .bf16⟩
  | .hbm, ⟨30, _⟩ => ⟨S4x4x2048x2x16, .f32⟩
  | .hbm, ⟨31, _⟩ => ⟨S4x2048x2x4x16, .f32⟩
  | .hbm, ⟨32, _⟩ => ⟨S8192x128, .f32⟩
  | .hbm, ⟨33, _⟩ => ⟨S8192x8, .f32⟩
  | .hbm, ⟨34, _⟩ => ⟨S_, .i32⟩
  | .hbm, ⟨35, _⟩ => ⟨S_, .f32⟩
  | .hbm, ⟨36, _⟩ => ⟨S8192x128, .f32⟩
  | .hbm, ⟨37, _⟩ => ⟨S_, .f32⟩
  | .hbm, ⟨38, _⟩ => ⟨S8192x256, .f32⟩
  | .hbm, ⟨39, _⟩ => ⟨S8192x640, .f32⟩
  | .hbm, ⟨40, _⟩ => ⟨S768x256, .f32⟩
  | .hbm, ⟨41, _⟩ => ⟨S768x256, .bf16⟩
  | .hbm, ⟨42, _⟩ => ⟨S8x96x256, .bf16⟩
  | .hbm, ⟨43, _⟩ => ⟨S8x16x256, .bf16⟩
  | .hbm, ⟨44, _⟩ => ⟨S2x1x64x256, .bf16⟩
  | .hbm, ⟨45, _⟩ => ⟨S8x16x256, .bf16⟩
  | .hbm, ⟨46, _⟩ => ⟨S2x1x64x256, .bf16⟩
  | .hbm, ⟨47, _⟩ => ⟨S2x2x64x256, .bf16⟩
  | .hbm, ⟨48, _⟩ => ⟨S256x256, .bf16⟩
  | .hbm, ⟨49, _⟩ => ⟨S8x64x256, .bf16⟩
  | .hbm, ⟨50, _⟩ => ⟨S512x256, .bf16⟩
  | .hbm, ⟨51, _⟩ => ⟨S768x256, .bf16⟩
  | .hbm, ⟨52, _⟩ => ⟨S1024x128, .f32⟩
  | .hbm, ⟨53, _⟩ => ⟨S1024x128, .bf16⟩
  | .hbm, ⟨54, _⟩ => ⟨S4x2x2x64x128, .bf16⟩
  | .hbm, ⟨55, _⟩ => ⟨S4x2x2x64x128, .bf16⟩
  | .hbm, ⟨56, _⟩ => ⟨S1024x128, .bf16⟩
  | .hbm, ⟨57, _⟩ => ⟨S16, .f32⟩
  | .hbm, ⟨58, _⟩ => ⟨S_, .f32⟩
  | .hbm, ⟨59, _⟩ => ⟨S16, .f32⟩
  | .hbm, ⟨60, _⟩ => ⟨S16, .f32⟩
  | .hbm, ⟨61, _⟩ => ⟨S_, .f32⟩
  | .hbm, ⟨62, _⟩ => ⟨S16, .f32⟩
  | .hbm, ⟨63, _⟩ => ⟨S16, .f32⟩
  | .hbm, ⟨64, _⟩ => ⟨S16, .f32⟩
  | .hbm, ⟨65, _⟩ => ⟨S_, .f32⟩
  | .hbm, ⟨66, _⟩ => ⟨S16, .f32⟩
  | .hbm, ⟨67, _⟩ => ⟨S16, .f32⟩
  | .hbm, ⟨68, _⟩ => ⟨S_, .f32⟩
  | .hbm, ⟨69, _⟩ => ⟨S16, .f32⟩
  | .hbm, ⟨70, _⟩ => ⟨S16, .f32⟩
  | .hbm, ⟨71, _⟩ => ⟨S4x2048, .f32⟩
  | .hbm, ⟨72, _⟩ => ⟨S4x2048x1, .f32⟩
  | .hbm, ⟨73, _⟩ => ⟨S1x1x16, .f32⟩
  | .hbm, ⟨74, _⟩ => ⟨S4x2048x16, .f32⟩
  | .hbm, ⟨75, _⟩ => ⟨S4x2048x16, .f32⟩
  | .hbm, ⟨76, _⟩ => ⟨S4x2048x16, .f32⟩
  | .hbm, ⟨77, _⟩ => ⟨S4x2048x16, .f32⟩
  | .hbm, ⟨78, _⟩ => ⟨S4x1x2048x16, .f32⟩
  | .hbm, ⟨79, _⟩ => ⟨S4x2048x16, .f32⟩
  | .hbm, ⟨80, _⟩ => ⟨S4x1x2048x16, .f32⟩
  | .hbm, ⟨81, _⟩ => ⟨S8192x16, .f32⟩
  | .hbm, ⟨82, _⟩ => ⟨S8192x16, .f32⟩
  | .hbm, ⟨83, _⟩ => ⟨S8192x640, .bf16⟩
  | .hbm, ⟨84, _⟩ => ⟨S8192x256, .bf16⟩
  | .hbm, ⟨85, _⟩ => ⟨S1x256, .f32⟩
  | .hbm, ⟨86, _⟩ => ⟨S1x128, .f32⟩
  | .local _ .vmem, ⟨0, _⟩ => ⟨S512x512, .bf16⟩
  | .local _ .vmem, ⟨1, _⟩ => ⟨S512x512, .bf16⟩
  | .local _ .vmem, ⟨2, _⟩ => ⟨S512x256, .f32⟩
  | .local _ .vmem, ⟨3, _⟩ => ⟨S512x256, .f32⟩
  | .local _ .vmem, ⟨4, _⟩ => ⟨S512x1024, .bf16⟩
  | .local _ .vmem, ⟨5, _⟩ => ⟨S512x1024, .bf16⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x640, .f32⟩
  | .local _ .vmem, ⟨11, _⟩ => ⟨S512x640, .f32⟩
  | .local _ .vmem, ⟨12, _⟩ => ⟨S1x256, .f32⟩
  | .local _ .vmem, ⟨13, _⟩ => ⟨S1x128, .f32⟩
  | .local _ .vmem, ⟨14, _⟩ => ⟨S768x256, .bf16⟩
  | .local _ .vmem, ⟨15, _⟩ => ⟨S1024x128, .bf16⟩
  | .local _ .vmem, ⟨16, _⟩ => ⟨S512x16, .f32⟩
  | .local _ .vmem, ⟨17, _⟩ => ⟨S512x16, .f32⟩
  | .local _ .vmem, ⟨18, _⟩ => ⟨S512x16, .f32⟩
  | .local _ .vmem, ⟨19, _⟩ => ⟨S512x16, .f32⟩
  | .local _ .vmem, ⟨20, _⟩ => ⟨S512x640, .bf16⟩
  | .local _ .vmem, ⟨21, _⟩ => ⟨S512x640, .bf16⟩
  | .local _ .vmem, ⟨22, _⟩ => ⟨S512x256, .bf16⟩
  | .local _ .vmem, ⟨23, _⟩ => ⟨S512x256, .bf16⟩
  | .local _ .vmem, ⟨24, _⟩ => ⟨S1x256, .f32⟩
  | .local _ .vmem, ⟨25, _⟩ => ⟨S1x128, .f32⟩
  | _, _ => ⟨S4x8x2048x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c : Ref sig .tc := ⟨.hbm, 34, rfl⟩
abbrev main_call0_v0 : Ref sig .tc := ⟨.hbm, 35, rfl⟩
abbrev main_v22 : Ref sig .tc := ⟨.hbm, 36, rfl⟩
abbrev main_cst : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_0 : Ref sig .tc := ⟨.hbm, 58, rfl⟩
abbrev main_v43 : Ref sig .tc := ⟨.hbm, 59, rfl⟩
abbrev main_v44 : Ref sig .tc := ⟨.hbm, 60, rfl⟩
abbrev main_cst_1 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_cst_2 : Ref sig .tc := ⟨.hbm, 65, rfl⟩
abbrev main_v48 : Ref sig .tc := ⟨.hbm, 66, rfl⟩
abbrev main_v49 : Ref sig .tc := ⟨.hbm, 67, rfl⟩
abbrev main_cst_3 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64_0 : Ref sig .tc := ⟨.hbm, 83, rfl⟩
abbrev main_v64_1 : Ref sig .tc := ⟨.hbm, 84, rfl⟩
abbrev main_v64_2 : Ref sig .tc := ⟨.hbm, 85, rfl⟩
abbrev main_v64_3 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg15_0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem15_0 : DmaSem sig := 25

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x640 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S768x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x16 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x16 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x640 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S1x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== PrepReferenceIdeal.lean ====
abbrev S4x8x2048x96 : Shape := ⟨4, ![4, 8, 2048, 96]⟩
abbrev S4x8x2048x64 : Shape := ⟨4, ![4, 8, 2048, 64]⟩
abbrev S4x4x2048x32 : Shape := ⟨4, ![4, 4, 2048, 32]⟩
abbrev S4x2048x8 : Shape := ⟨3, ![4, 2048, 8]⟩
abbrev S8192x256 : Shape := ⟨2, ![8192, 256]⟩
abbrev S8192x128 : Shape := ⟨2, ![8192, 128]⟩
abbrev S4x2048 : Shape := ⟨2, ![4, 2048]⟩
abbrev S1x256 : Shape := ⟨2, ![1, 256]⟩
abbrev S1x128 : Shape := ⟨2, ![1, 128]⟩
abbrev S256x768 : Shape := ⟨2, ![256, 768]⟩
abbrev S128x1024 : Shape := ⟨2, ![128, 1024]⟩
abbrev S16 : Shape := ⟨1, ![16]⟩
abbrev S_ : Shape := ⟨0, ![]⟩
abbrev S4x2048x1 : Shape := ⟨3, ![4, 2048, 1]⟩
abbrev S1x1x16 : Shape := ⟨3, ![1, 1, 16]⟩
abbrev S4x2048x16 : Shape := ⟨3, ![4, 2048, 16]⟩
abbrev S4x1x2048x16 : Shape := ⟨4, ![4, 1, 2048, 16]⟩
abbrev S4x8x2048x32 : Shape := ⟨4, ![4, 8, 2048, 32]⟩
abbrev S4x8x2048x16 : Shape := ⟨4, ![4, 8, 2048, 16]⟩
abbrev S4x4x2048x16 : Shape := ⟨4, ![4, 4, 2048, 16]⟩
abbrev S4x8x2048x128 : Shape := ⟨4, ![4, 8, 2048, 128]⟩
abbrev S256 : Shape := ⟨1, ![256]⟩
abbrev S128 : Shape := ⟨1, ![128]⟩
abbrev S8192 : Shape := ⟨1, ![8192]⟩
abbrev S8192x1 : Shape := ⟨2, ![8192, 1]⟩
abbrev S8192x768 : Shape := ⟨2, ![8192, 768]⟩
abbrev S8192x1024 : Shape := ⟨2, ![8192, 1024]⟩
abbrev S4x2048x768 : Shape := ⟨3, ![4, 2048, 768]⟩
abbrev S4x2048x8x96 : Shape := ⟨4, ![4, 2048, 8, 96]⟩
abbrev S4x2048x1024 : Shape := ⟨3, ![4, 2048, 1024]⟩
abbrev S4x2048x8x128 : Shape := ⟨4, ![4, 2048, 8, 128]⟩
abbrev S4x2x4x2048x2x16 : Shape := ⟨6, ![4, 2, 4, 2048, 2, 16]⟩
abbrev S4x2048x2x2x4x16 : Shape := ⟨6, ![4, 2048, 2, 2, 4, 16]⟩
abbrev S4x4x2048x2x16 : Shape := ⟨5, ![4, 4, 2048, 2, 16]⟩
abbrev S4x2048x2x4x16 : Shape := ⟨5, ![4, 2048, 2, 4, 16]⟩
abbrev S8192x8 : Shape := ⟨2, ![8192, 8]⟩
abbrev S8192x640 : Shape := ⟨2, ![8192, 640]⟩

abbrev nBuf : Space → Nat
  | .hbm => 222
  | .vmem => 0
  | .smem => 0
  | _ => 0

abbrev hbmTy0_0 (i : Nat) : BufTy := match i % 128 with
  | 0 => ⟨S4x8x2048x96, .f32⟩
  | 1 => ⟨S4x8x2048x64, .f32⟩
  | 2 => ⟨S4x8x2048x64, .f32⟩
  | 3 => ⟨S4x4x2048x32, .f32⟩
  | 4 => ⟨S4x2048x8, .f32⟩
  | 5 => ⟨S8192x256, .f32⟩
  | 6 => ⟨S8192x128, .f32⟩
  | 7 => ⟨S4x2048, .i32⟩
  | 8 => ⟨S1x256, .f32⟩
  | 9 => ⟨S1x128, .f32⟩
  | 10 => ⟨S256x768, .f32⟩
  | 11 => ⟨S128x1024, .f32⟩
  | 12 => ⟨S16, .f32⟩
  | 13 => ⟨S_, .f32⟩
  | 14 => ⟨S16, .f32⟩
  | 15 => ⟨S16, .f32⟩
  | 16 => ⟨S_, .f32⟩
  | 17 => ⟨S16, .f32⟩
  | 18 => ⟨S16, .f32⟩
  | 19 => ⟨S16, .f32⟩
  | 20 => ⟨S_, .f32⟩
  | 21 => ⟨S16, .f32⟩
  | 22 => ⟨S16, .f32⟩
  | 23 => ⟨S_, .f32⟩
  | 24 => ⟨S16, .f32⟩
  | 25 => ⟨S16, .f32⟩
  | 26 => ⟨S4x2048, .f32⟩
  | 27 => ⟨S4x2048x1, .f32⟩
  | 28 => ⟨S1x1x16, .f32⟩
  | 29 => ⟨S4x2048x16, .f32⟩
  | 30 => ⟨S4x2048x16, .f32⟩
  | 31 => ⟨S4x2048x16, .f32⟩
  | 32 => ⟨S4x2048x16, .f32⟩
  | 33 => ⟨S4x1x2048x16, .f32⟩
  | 34 => ⟨S4x2048x16, .f32⟩
  | 35 => ⟨S4x1x2048x16, .f32⟩
  | 36 => ⟨S4x8x2048x32, .f32⟩
  | 37 => ⟨S_, .f32⟩
  | 38 => ⟨S4x8x2048x32, .f32⟩
  | 39 => ⟨S4x8x2048x16, .f32⟩
  | 40 => ⟨S4x8x2048x16, .f32⟩
  | 41 => ⟨S4x8x2048x16, .f32⟩
  | 42 => ⟨S4x8x2048x16, .f32⟩
  | 43 => ⟨S4x8x2048x16, .f32⟩
  | 44 => ⟨S4x8x2048x16, .f32⟩
  | 45 => ⟨S4x8x2048x16, .f32⟩
  | 46 => ⟨S4x8x2048x16, .f32⟩
  | 47 => ⟨S4x8x2048x16, .f32⟩
  | 48 => ⟨S4x8x2048x16, .f32⟩
  | 49 => ⟨S4x8x2048x16, .f32⟩
  | 50 => ⟨S4x8x2048x16, .f32⟩
  | 51 => ⟨S4x8x2048x32, .f32⟩
  | 52 => ⟨S4x8x2048x32, .f32⟩
  | 53 => ⟨S4x8x2048x16, .f32⟩
  | 54 => ⟨S4x8x2048x16, .f32⟩
  | 55 => ⟨S4x8x2048x16, .f32⟩
  | 56 => ⟨S4x8x2048x16, .f32⟩
  | 57 => ⟨S4x8x2048x16, .f32⟩
  | 58 => ⟨S4x8x2048x16, .f32⟩
  | 59 => ⟨S4x8x2048x16, .f32⟩
  | 60 => ⟨S4x8x2048x16, .f32⟩
  | 61 => ⟨S4x8x2048x16, .f32⟩
  | 62 => ⟨S4x8x2048x16, .f32⟩
  | 63 => ⟨S4x8x2048x16, .f32⟩
  | 64 => ⟨S4x8x2048x16, .f32⟩
  | 65 => ⟨S4x8x2048x16, .f32⟩
  | 66 => ⟨S4x8x2048x32, .f32⟩
  | 67 => ⟨S_, .f32⟩
  | 68 => ⟨S4x4x2048x32, .f32⟩
  | 69 => ⟨S4x4x2048x16, .f32⟩
  | 70 => ⟨S4x4x2048x16, .f32⟩
  | 71 => ⟨S4x4x2048x16, .f32⟩
  | 72 => ⟨S4x4x2048x16, .f32⟩
  | 73 => ⟨S4x4x2048x16, .f32⟩
  | 74 => ⟨S4x4x2048x16, .f32⟩
  | 75 => ⟨S4x4x2048x16, .f32⟩
  | 76 => ⟨S4x4x2048x16, .f32⟩
  | 77 => ⟨S4x4x2048x16, .f32⟩
  | 78 => ⟨S4x4x2048x16, .f32⟩
  | 79 => ⟨S4x4x2048x16, .f32⟩
  | 80 => ⟨S4x4x2048x16, .f32⟩
  | 81 => ⟨S4x4x2048x32, .f32⟩
  | 82 => ⟨S4x4x2048x16, .f32⟩
  | 83 => ⟨S4x4x2048x16, .f32⟩
  | 84 => ⟨S4x4x2048x16, .f32⟩
  | 85 => ⟨S4x4x2048x16, .f32⟩
  | 86 => ⟨S4x4x2048x16, .f32⟩
  | 87 => ⟨S4x4x2048x16, .f32⟩
  | 88 => ⟨S4x4x2048x16, .f32⟩
  | 89 => ⟨S4x4x2048x16, .f32⟩
  | 90 => ⟨S4x4x2048x16, .f32⟩
  | 91 => ⟨S4x4x2048x16, .f32⟩
  | 92 => ⟨S4x4x2048x16, .f32⟩
  | 93 => ⟨S4x4x2048x16, .f32⟩
  | 94 => ⟨S4x4x2048x16, .f32⟩
  | 95 => ⟨S4x4x2048x32, .f32⟩
  | 96 => ⟨S4x8x2048x64, .f32⟩
  | 97 => ⟨S4x8x2048x96, .f32⟩
  | 98 => ⟨S4x8x2048x128, .f32⟩
  | 99 => ⟨S256, .f32⟩
  | 100 => ⟨S128, .f32⟩
  | 101 => ⟨S8192x256, .f32⟩
  | 102 => ⟨S_, .f32⟩
  | 103 => ⟨S8192, .f32⟩
  | 104 => ⟨S8192x1, .f32⟩
  | 105 => ⟨S_, .f32⟩
  | 106 => ⟨S8192x1, .f32⟩
  | 107 => ⟨S8192x1, .f32⟩
  | 108 => ⟨S_, .f32⟩
  | 109 => ⟨S8192x1, .f32⟩
  | 110 => ⟨S8192x1, .f32⟩
  | 111 => ⟨S8192x1, .f32⟩
  | 112 => ⟨S8192x1, .f32⟩
  | 113 => ⟨S_, .f32⟩
  | 114 => ⟨S8192x1, .f32⟩
  | 115 => ⟨S8192x1, .f32⟩
  | 116 => ⟨S8192x256, .f32⟩
  | 117 => ⟨S8192x256, .f32⟩
  | 118 => ⟨S1x256, .f32⟩
  | 119 => ⟨S8192x256, .f32⟩
  | 120 => ⟨S8192x256, .f32⟩
  | 121 => ⟨S8192x768, .f32⟩
  | 122 => ⟨S8192x128, .f32⟩
  | 123 => ⟨S_, .f32⟩
  | 124 => ⟨S8192, .f32⟩
  | 125 => ⟨S8192x1, .f32⟩
  | 126 => ⟨S_, .f32⟩
  | 127 => ⟨S8192x1, .f32⟩
  | _ => ⟨S4x8x2048x96, .f32⟩

abbrev hbmTy0_1 (i : Nat) : BufTy := match i % 128 with
  | 0 => ⟨S8192x1, .f32⟩
  | 1 => ⟨S_, .f32⟩
  | 2 => ⟨S8192x1, .f32⟩
  | 3 => ⟨S8192x1, .f32⟩
  | 4 => ⟨S8192x1, .f32⟩
  | 5 => ⟨S8192x1, .f32⟩
  | 6 => ⟨S_, .f32⟩
  | 7 => ⟨S8192x1, .f32⟩
  | 8 => ⟨S8192x1, .f32⟩
  | 9 => ⟨S8192x128, .f32⟩
  | 10 => ⟨S8192x128, .f32⟩
  | 11 => ⟨S1x128, .f32⟩
  | 12 => ⟨S8192x128, .f32⟩
  | 13 => ⟨S8192x128, .f32⟩
  | 14 => ⟨S8192x1024, .f32⟩
  | 15 => ⟨S4x2048x768, .f32⟩
  | 16 => ⟨S4x2048x8x96, .f32⟩
  | 17 => ⟨S4x8x2048x96, .f32⟩
  | 18 => ⟨S4x2048x1024, .f32⟩
  | 19 => ⟨S4x2048x8x128, .f32⟩
  | 20 => ⟨S4x8x2048x128, .f32⟩
  | 21 => ⟨S4x2048x8x128, .f32⟩
  | 22 => ⟨S4x2048x1024, .f32⟩
  | 23 => ⟨S8192x1024, .f32⟩
  | 24 => ⟨S4x2048x8x96, .f32⟩
  | 25 => ⟨S4x2048x768, .f32⟩
  | 26 => ⟨S8192x768, .f32⟩
  | 27 => ⟨S8192x128, .f32⟩
  | 28 => ⟨S8192x128, .f32⟩
  | 29 => ⟨S_, .f32⟩
  | 30 => ⟨S128, .f32⟩
  | 31 => ⟨S1x128, .f32⟩
  | 32 => ⟨S8192x128, .f32⟩
  | 33 => ⟨S8192x128, .f32⟩
  | 34 => ⟨S_, .f32⟩
  | 35 => ⟨S128, .f32⟩
  | 36 => ⟨S8192x128, .f32⟩
  | 37 => ⟨S_, .f32⟩
  | 38 => ⟨S8192, .f32⟩
  | 39 => ⟨S8192x1, .f32⟩
  | 40 => ⟨S8192x128, .f32⟩
  | 41 => ⟨S8192x128, .f32⟩
  | 42 => ⟨S8192x1, .f32⟩
  | 43 => ⟨S_, .f32⟩
  | 44 => ⟨S8192x1, .f32⟩
  | 45 => ⟨S8192x1, .f32⟩
  | 46 => ⟨S_, .f32⟩
  | 47 => ⟨S8192, .f32⟩
  | 48 => ⟨S8192x128, .f32⟩
  | 49 => ⟨S8192x128, .f32⟩
  | 50 => ⟨S8192x128, .f32⟩
  | 51 => ⟨S8192x128, .f32⟩
  | 52 => ⟨S8192x128, .f32⟩
  | 53 => ⟨S8192x256, .f32⟩
  | 54 => ⟨S8192x256, .f32⟩
  | 55 => ⟨S_, .f32⟩
  | 56 => ⟨S256, .f32⟩
  | 57 => ⟨S1x256, .f32⟩
  | 58 => ⟨S8192x256, .f32⟩
  | 59 => ⟨S8192x256, .f32⟩
  | 60 => ⟨S_, .f32⟩
  | 61 => ⟨S256, .f32⟩
  | 62 => ⟨S8192x256, .f32⟩
  | 63 => ⟨S_, .f32⟩
  | 64 => ⟨S8192, .f32⟩
  | 65 => ⟨S8192x1, .f32⟩
  | 66 => ⟨S8192x256, .f32⟩
  | 67 => ⟨S8192x256, .f32⟩
  | 68 => ⟨S8192x1, .f32⟩
  | 69 => ⟨S_, .f32⟩
  | 70 => ⟨S8192x1, .f32⟩
  | 71 => ⟨S8192x1, .f32⟩
  | 72 => ⟨S_, .f32⟩
  | 73 => ⟨S8192, .f32⟩
  | 74 => ⟨S8192x256, .f32⟩
  | 75 => ⟨S8192x256, .f32⟩
  | 76 => ⟨S8192x256, .f32⟩
  | 77 => ⟨S8192x256, .f32⟩
  | 78 => ⟨S8192x256, .f32⟩
  | 79 => ⟨S4x2x4x2048x2x16, .f32⟩
  | 80 => ⟨S4x2048x2x2x4x16, .f32⟩
  | 81 => ⟨S8192x256, .f32⟩
  | 82 => ⟨S4x4x2048x2x16, .f32⟩
  | 83 => ⟨S4x2048x2x4x16, .f32⟩
  | 84 => ⟨S8192x128, .f32⟩
  | 85 => ⟨S8192x8, .f32⟩
  | 86 => ⟨S_, .i32⟩
  | 87 => ⟨S_, .f32⟩
  | 88 => ⟨S8192x128, .f32⟩
  | 89 => ⟨S8192x640, .f32⟩
  | 90 => ⟨S8192x640, .bf16⟩
  | 91 => ⟨S8192x256, .bf16⟩
  | 92 => ⟨S1x256, .f32⟩
  | 93 => ⟨S1x128, .f32⟩
  | _ => ⟨S4x8x2048x96, .f32⟩

abbrev hbmTy (i : Nat) : BufTy := match i / 128 with
  | 0 => hbmTy0_0 i
  | 1 => hbmTy0_1 i
  | _ => ⟨S4x8x2048x96, .f32⟩

abbrev bufTy : (tb : Table) → Fin (tcTables nBuf tb) → BufTy
  | .hbm, ⟨i, _⟩ => hbmTy i
  | _, _ => ⟨S4x8x2048x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_cst_0 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_cst_1 : Ref sig .tc := ⟨.hbm, 20, rfl⟩
abbrev main_v6 : Ref sig .tc := ⟨.hbm, 21, rfl⟩
abbrev main_v7 : Ref sig .tc := ⟨.hbm, 22, rfl⟩
abbrev main_cst_2 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_3 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_4 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_cst_5 : Ref sig .tc := ⟨.hbm, 102, rfl⟩
abbrev main_v84 : Ref sig .tc := ⟨.hbm, 103, rfl⟩
abbrev main_v85 : Ref sig .tc := ⟨.hbm, 104, rfl⟩
abbrev main_cst_6 : Ref sig .tc := ⟨.hbm, 105, rfl⟩
abbrev main_v86 : Ref sig .tc := ⟨.hbm, 106, rfl⟩
abbrev main_v87 : Ref sig .tc := ⟨.hbm, 107, rfl⟩
abbrev main_cst_7 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_cst_8 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_cst_9 : Ref sig .tc := ⟨.hbm, 123, rfl⟩
abbrev main_v101 : Ref sig .tc := ⟨.hbm, 124, rfl⟩
abbrev main_v102 : Ref sig .tc := ⟨.hbm, 125, rfl⟩
abbrev main_cst_10 : Ref sig .tc := ⟨.hbm, 126, rfl⟩
abbrev main_v103 : Ref sig .tc := ⟨.hbm, 127, rfl⟩
abbrev main_v104 : Ref sig .tc := ⟨.hbm, 128, rfl⟩
abbrev main_cst_11 : Ref sig .tc := ⟨.hbm, 129, rfl⟩
abbrev main_v105 : Ref sig .tc := ⟨.hbm, 130, rfl⟩
abbrev main_v106 : Ref sig .tc := ⟨.hbm, 131, rfl⟩
abbrev main_v107 : Ref sig .tc := ⟨.hbm, 132, rfl⟩
abbrev main_v108 : Ref sig .tc := ⟨.hbm, 133, rfl⟩
abbrev main_cst_12 : Ref sig .tc := ⟨.hbm, 134, rfl⟩
abbrev main_v109 : Ref sig .tc := ⟨.hbm, 135, rfl⟩
abbrev main_v110 : Ref sig .tc := ⟨.hbm, 136, rfl⟩
abbrev main_v111 : Ref sig .tc := ⟨.hbm, 137, rfl⟩
abbrev main_v112 : Ref sig .tc := ⟨.hbm, 138, rfl⟩
abbrev main_v113 : Ref sig .tc := ⟨.hbm, 139, rfl⟩
abbrev main_v114 : Ref sig .tc := ⟨.hbm, 140, rfl⟩
abbrev main_v115 : Ref sig .tc := ⟨.hbm, 141, rfl⟩
abbrev main_v116 : Ref sig .tc := ⟨.hbm, 142, rfl⟩
abbrev main_v117 : Ref sig .tc := ⟨.hbm, 143, rfl⟩
abbrev main_v118 : Ref sig .tc := ⟨.hbm, 144, rfl⟩
abbrev main_v119 : Ref sig .tc := ⟨.hbm, 145, rfl⟩
abbrev main_v120 : Ref sig .tc := ⟨.hbm, 146, rfl⟩
abbrev main_v121 : Ref sig .tc := ⟨.hbm, 147, rfl⟩
abbrev main_v122 : Ref sig .tc := ⟨.hbm, 148, rfl⟩
abbrev main_v123 : Ref sig .tc := ⟨.hbm, 149, rfl⟩
abbrev main_v124 : Ref sig .tc := ⟨.hbm, 150, rfl⟩
abbrev main_v125 : Ref sig .tc := ⟨.hbm, 151, rfl⟩
abbrev main_v126 : Ref sig .tc := ⟨.hbm, 152, rfl⟩
abbrev main_v127 : Ref sig .tc := ⟨.hbm, 153, rfl⟩
abbrev main_v128 : Ref sig .tc := ⟨.hbm, 154, rfl⟩
abbrev main_v129 : Ref sig .tc := ⟨.hbm, 155, rfl⟩
abbrev main_v130 : Ref sig .tc := ⟨.hbm, 156, rfl⟩
abbrev main_cst_13 : Ref sig .tc := ⟨.hbm, 157, rfl⟩
abbrev main_v131 : Ref sig .tc := ⟨.hbm, 158, rfl⟩
abbrev main_v132 : Ref sig .tc := ⟨.hbm, 159, rfl⟩
abbrev main_v133 : Ref sig .tc := ⟨.hbm, 160, rfl⟩
abbrev main_v134 : Ref sig .tc := ⟨.hbm, 161, rfl⟩
abbrev main_cst_14 : Ref sig .tc := ⟨.hbm, 162, rfl⟩
abbrev main_v135 : Ref sig .tc := ⟨.hbm, 163, rfl⟩
abbrev main_v136 : Ref sig .tc := ⟨.hbm, 164, rfl⟩
abbrev main_cst_15 : Ref sig .tc := ⟨.hbm, 165, rfl⟩
abbrev main_v137 : Ref sig .tc := ⟨.hbm, 166, rfl⟩
abbrev main_v138 : Ref sig .tc := ⟨.hbm, 167, rfl⟩
abbrev main_v139 : Ref sig .tc := ⟨.hbm, 168, rfl⟩
abbrev main_v140 : Ref sig .tc := ⟨.hbm, 169, rfl⟩
abbrev main_v141 : Ref sig .tc := ⟨.hbm, 170, rfl⟩
abbrev main_cst_16 : Ref sig .tc := ⟨.hbm, 171, rfl⟩
abbrev main_v142 : Ref sig .tc := ⟨.hbm, 172, rfl⟩
abbrev main_v143 : Ref sig .tc := ⟨.hbm, 173, rfl⟩
abbrev main_cst_17 : Ref sig .tc := ⟨.hbm, 174, rfl⟩
abbrev main_v144 : Ref sig .tc := ⟨.hbm, 175, rfl⟩
abbrev main_v145 : Ref sig .tc := ⟨.hbm, 176, rfl⟩
abbrev main_v146 : Ref sig .tc := ⟨.hbm, 177, rfl⟩
abbrev main_v147 : Ref sig .tc := ⟨.hbm, 178, rfl⟩
abbrev main_v148 : Ref sig .tc := ⟨.hbm, 179, rfl⟩
abbrev main_v149 : Ref sig .tc := ⟨.hbm, 180, rfl⟩
abbrev main_v150 : Ref sig .tc := ⟨.hbm, 181, rfl⟩
abbrev main_v151 : Ref sig .tc := ⟨.hbm, 182, rfl⟩
abbrev main_cst_18 : Ref sig .tc := ⟨.hbm, 183, rfl⟩
abbrev main_v152 : Ref sig .tc := ⟨.hbm, 184, rfl⟩
abbrev main_v153 : Ref sig .tc := ⟨.hbm, 185, rfl⟩
abbrev main_v154 : Ref sig .tc := ⟨.hbm, 186, rfl⟩
abbrev main_v155 : Ref sig .tc := ⟨.hbm, 187, rfl⟩
abbrev main_cst_19 : Ref sig .tc := ⟨.hbm, 188, rfl⟩
abbrev main_v156 : Ref sig .tc := ⟨.hbm, 189, rfl⟩
abbrev main_v157 : Ref sig .tc := ⟨.hbm, 190, rfl⟩
abbrev main_cst_20 : Ref sig .tc := ⟨.hbm, 191, rfl⟩
abbrev main_v158 : Ref sig .tc := ⟨.hbm, 192, rfl⟩
abbrev main_v159 : Ref sig .tc := ⟨.hbm, 193, rfl⟩
abbrev main_v160 : Ref sig .tc := ⟨.hbm, 194, rfl⟩
abbrev main_v161 : Ref sig .tc := ⟨.hbm, 195, rfl⟩
abbrev main_v162 : Ref sig .tc := ⟨.hbm, 196, rfl⟩
abbrev main_cst_21 : Ref sig .tc := ⟨.hbm, 197, rfl⟩
abbrev main_v163 : Ref sig .tc := ⟨.hbm, 198, rfl⟩
abbrev main_v164 : Ref sig .tc := ⟨.hbm, 199, rfl⟩
abbrev main_cst_22 : Ref sig .tc := ⟨.hbm, 200, rfl⟩
abbrev main_v165 : Ref sig .tc := ⟨.hbm, 201, rfl⟩
abbrev main_v166 : Ref sig .tc := ⟨.hbm, 202, rfl⟩
abbrev main_v167 : Ref sig .tc := ⟨.hbm, 203, rfl⟩
abbrev main_v168 : Ref sig .tc := ⟨.hbm, 204, rfl⟩
abbrev main_v169 : Ref sig .tc := ⟨.hbm, 205, rfl⟩
abbrev main_v170 : Ref sig .tc := ⟨.hbm, 206, rfl⟩
abbrev main_v171 : Ref sig .tc := ⟨.hbm, 207, rfl⟩
abbrev main_v172 : Ref sig .tc := ⟨.hbm, 208, rfl⟩
abbrev main_v173 : Ref sig .tc := ⟨.hbm, 209, rfl⟩
abbrev main_v174 : Ref sig .tc := ⟨.hbm, 210, rfl⟩
abbrev main_v175 : Ref sig .tc := ⟨.hbm, 211, rfl⟩
abbrev main_v176 : Ref sig .tc := ⟨.hbm, 212, rfl⟩
abbrev main_v177 : Ref sig .tc := ⟨.hbm, 213, rfl⟩
abbrev main_c : Ref sig .tc := ⟨.hbm, 214, rfl⟩
abbrev main_call0_v0 : Ref sig .tc := ⟨.hbm, 215, rfl⟩
abbrev main_v178 : Ref sig .tc := ⟨.hbm, 216, rfl⟩
abbrev main_v179 : Ref sig .tc := ⟨.hbm, 217, rfl⟩
abbrev main_v180 : Ref sig .tc := ⟨.hbm, 218, rfl⟩
abbrev main_v181 : Ref sig .tc := ⟨.hbm, 219, rfl⟩
abbrev main_v182 : Ref sig .tc := ⟨.hbm, 220, rfl⟩
abbrev main_v183 : Ref sig .tc := ⟨.hbm, 221, rfl⟩

abbrev nD : Nat := 1
abbrev τ : Topo := Topo.v7x

variable {F : FTy → Type} [FloatOps F]
-- ==== Proof.Reals.lean ====
module

public import Idealize.ShloMosaic.Lib.Pipeline.ValueKit
public import Idealize.ShloMosaic.Lib.Pointwise
public import Idealize.ShloMosaic.Lib.ReduceAll

/-! What every call's value proof uses: an array of finite values is an array of reals, and sums, differences and
    products of reals stay real. -/

@[expose] public section
set_option maxRecDepth 16384
noncomputable section

open Idealize.ShloMosaic Idealize.ShloMosaic.TcCoe Idealize.SL.Sem

namespace Reals

/-- A finite value less itself is zero. -/
theorem coe_sub_self (x : ℝ) : (x : EReal) - (x : EReal) = 0 := by rw [← EReal.coe_sub, sub_self, EReal.coe_zero]

/-- A sum of reals, taken among the extended reals. -/
theorem coe_sum {ι : Type*} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

theorem coe_max (x y : ℝ) : max (x : EReal) (y : EReal) = ((max x y : ℝ) : EReal) :=
  (EReal.coe_strictMono.monotone.map_max).symm

/-- The one-bit word of a true or false statement, read as a number. -/
theorem sitofp_bit (b : Bool) :
    FloatOps.sitofp (F := Ideal) FTy.f32 (BitVec.setWidth 32 (BitVec.ofBool b)) = (((if b then 1 else 0 : ℝ)) : EReal) := by
  cases b
  · show (((BitVec.setWidth 32 (BitVec.ofBool false)).toInt : ℝ) : EReal) = _
    simp
  · show (((BitVec.setWidth 32 (BitVec.ofBool true)).toInt : ℝ) : EReal) = _
    simp

/-- The bit of a conjunction. -/
theorem andi_bit (p q : Bool) : IntOp.andi (BitVec.ofBool p) (BitVec.ofBool q) = BitVec.ofBool (p && q) := by
  cases p <;> cases q <;> rfl

/-- A value below positive infinity in absolute value is a real. -/
theorem real_of_abs_lt (x : EReal) (h : max x (-x) < ⊤) : ∃ r : ℝ, x = r := by
  induction x with
  | bot => simp at h
  | top => simp at h
  | coe r => exact ⟨r, rfl⟩

/-- A predicate that says of a whole array that its absolute values stay below infinity makes it an array of reals. -/
theorem real_of_all {s : Shape} (x : FVec Ideal s .f32) (hb : (⟨0, ![]⟩ : Shape).BroadcastsInDim s (![] : Fin 0 → Fin s.rank))
    {axes : List (Fin s.rank)} (hr : s.ReducesTo axes ⟨0, ![]⟩) (hu : 0 < (⟨0, ![]⟩ : Shape).numel)
    (j : (⟨0, ![]⟩ : Shape).Idx)
    (h : Host.reduce IntOp.andi
      (cmpf .olt (Host.absf x) (broadcastInDim s ![] hb (constant (F := Ideal) ⟨0, ![]⟩ .f32 0x7F800000#32)))
      (constantI ⟨0, ![]⟩ 1 1#1) hr hu j = 1#1) : ∃ d : s.Idx → ℝ, x = fun i => (d i : EReal) := by
  have key : ∀ i, ∃ r : ℝ, x i = r := by
    intro i
    have : Subsingleton (⟨0, ![]⟩ : Shape).Idx := ⟨fun a b => funext fun k => k.elim0⟩
    have e := Host.reduce_andi_all _ _ hr hu j h i
    refine real_of_abs_lt _ ?_
    have e' : BitVec.ofBool (decide (max (x i) (-(x i)) < Ideal.ofBits .f32 0x7F800000#32)) = 1#1 := e
    have ht : Ideal.ofBits .f32 0x7F800000#32 = (⊤ : EReal) := by simp [Ideal.ofBits, Ideal.ieee]
    rw [ht] at e'
    by_contra hn
    rw [decide_eq_false hn] at e'
    exact absurd e' (by decide)
  choose d hd using key
  exact ⟨d, funext hd⟩

/-- A sum over `a * b` places is a sum over `a` blocks of `b` places. -/
theorem sum_split {M : Type*} [AddCommMonoid M] {a b : ℕ} (f : Fin (a * b) → M) :
    ∑ i, f i = ∑ x : Fin a, ∑ y : Fin b, f (finProdFinEquiv (x, y)) := by
  rw [← finProdFinEquiv.sum_comp, Fintype.sum_prod_type]

/-- A sum over the places `s + k` that stay below `n` is a sum over the places from `s` on. -/
theorem sum_shift {M : Type*} [AddCommMonoid M] {n : ℕ} (f : Fin n → M) (s : Fin n) :
    (∑ k : Fin n, if h : s.val + k.val < n then f ⟨s.val + k.val, h⟩ else 0) = ∑ k : Fin n, if s ≤ k then f k else 0 := by
  classical
  let g : ℕ → M := fun i => if h : i < n then f ⟨i, h⟩ else 0
  have hl : (∑ k : Fin n, if h : s.val + k.val < n then f ⟨s.val + k.val, h⟩ else 0) = ∑ k ∈ Finset.range n, g (s.val + k) := by
    rw [← Fin.sum_univ_eq_sum_range (fun k => g (s.val + k))]
  have hr : (∑ k : Fin n, if s ≤ k then f k else 0) = ∑ k ∈ Finset.range n, if s.val ≤ k then g k else 0 := by
    rw [← Fin.sum_univ_eq_sum_range (fun k => if s.val ≤ k then g k else 0)]
    refine Finset.sum_congr rfl fun k _ => ?_
    simp only [g, dif_pos k.isLt, Fin.le_def]
  rw [hl, hr, ← Finset.sum_filter]
  symm
  have hs := s.isLt
  refine Finset.sum_of_injOn (fun k => k - s.val) ?_ ?_ ?_ ?_
  · intro x hx y hy hxy
    simp only [Finset.coe_filter, Finset.mem_range, Set.mem_ofPred_eq] at hx hy
    simp only at hxy; omega
  · intro x hx
    simp only [Finset.coe_filter, Finset.mem_range, Set.mem_ofPred_eq, Finset.coe_range, Set.mem_Iio] at hx ⊢; omega
  · intro k _ hk
    simp only [Finset.coe_filter, Finset.mem_range, Set.mem_image, Set.mem_ofPred_eq, not_exists, not_and] at hk
    have : ¬ s.val + k < n := fun h => hk (s.val + k) ⟨h, by omega⟩ (by omega)
    simp only [g, dif_neg this]
  · intro k hk
    simp only [Finset.mem_filter, Finset.mem_range] at hk
    rw [Nat.add_sub_cancel' hk.2]

/-- A left fold that adds one value for each place is the first value plus their sum. -/
theorem foldl_add {ι : Type*} (f : ι → EReal) : ∀ (l : List ι) (a : EReal), l.foldl (fun r n => r + f n) a = a + (l.map f).sum
  | [], a => by simp
  | b :: l, a => by rw [List.foldl_cons, foldl_add f l, List.map_cons, List.sum_cons, add_assoc]

/-- The running sum from the back along the middle of three axes: at each place, the sum of what lies there and after. -/
theorem suffix_sum {A N C P : ℕ} (hP : P + 1 = N) (x : FVec Ideal ⟨3, ![A, N, C]⟩ .f32) (init : FVec Ideal ⟨0, ![]⟩ .f32)
    (hi : ∀ j, init j = 0) (h : (⟨3, ![A, N, C]⟩ : Shape).ReduceWindows ![1, N, 1] ![1, 1, 1] ![0, 0, 0] ![0, P, 0] ⟨3, ![A, N, C]⟩)
    (hu : 0 < (⟨0, ![]⟩ : Shape).numel) (a : Fin A) (s : Fin N) (c : Fin C) :
    Host.reduceWindowAdd ![1, N, 1] ![1, 1, 1] ![0, 0, 0] ![0, P, 0] x init h hu (ix3 a s c)
      = ∑ k : Fin N, if s ≤ k then x (ix3 a k c) else 0 := by
  rw [← sum_shift]
  unfold Host.reduceWindowAdd
  rw [hi]
  show Ideal.hostReduceWindowAdd _ _ _ _ _ x 0 _ = _
  unfold Ideal.hostReduceWindowAdd Host.reduceWindow
  simp only []
  rw [foldl_add, zero_add, ← List.ofFn_eq_map, List.sum_ofFn]
  let g : (⟨3, ![1, N, 1]⟩ : Shape).Idx → EReal := fun p =>
    if hk : s.val + (p 1).val < N then x (ix3 a ⟨s.val + (p 1).val, hk⟩ c) else 0
  have hg : ∀ p : (⟨3, ![1, N, 1]⟩ : Shape).Idx, (if hin : ∀ b : Fin 3, ![0, 0, 0] b
        ≤ (ix3 a s c (b.cast h.1.symm)).val * ![1, 1, 1] b + (p b).val
          ∧ (ix3 a s c (b.cast h.1.symm)).val * ![1, 1, 1] b + (p b).val - ![0, 0, 0] b < ![A, N, C] b then
        x (fun b => ⟨(ix3 a s c (b.cast h.1.symm)).val * ![1, 1, 1] b + (p b).val - ![0, 0, 0] b, (hin b).2⟩) else 0) = g p := by
    intro p
    have h0 : (p 0).val = 0 := by have := (p 0).isLt; change _ < 1 at this; omega
    have h2 : (p 2).val = 0 := by have := (p 2).isLt; change _ < 1 at this; omega
    have ha := a.isLt
    have hc := c.isLt
    simp only [g]
    by_cases hk : s.val + (p 1).val < N
    · rw [dif_pos hk, dif_pos]
      · congr 1
        funext b
        match b with
        | ⟨0, _⟩ => exact Fin.ext (show a.val * 1 + (p 0).val - 0 = a.val by omega)
        | ⟨1, _⟩ => exact Fin.ext (show s.val * 1 + (p 1).val - 0 = s.val + (p 1).val by omega)
        | ⟨2, _⟩ => exact Fin.ext (show c.val * 1 + (p 2).val - 0 = c.val by omega)
      · intro b
        match b with
        | ⟨0, _⟩ => exact ⟨Nat.zero_le _, show a.val * 1 + (p 0).val - 0 < A by omega⟩
        | ⟨1, _⟩ => exact ⟨Nat.zero_le _, show s.val * 1 + (p 1).val - 0 < N by omega⟩
        | ⟨2, _⟩ => exact ⟨Nat.zero_le _, show c.val * 1 + (p 2).val - 0 < C by omega⟩
    · rw [dif_neg hk, dif_neg]
      intro hin
      have := (hin 1).2
      change s.val * 1 + (p 1).val - 0 < N at this
      omega
  have hs : ∑ p, g p = ∑ k : Fin N, if hk : s.val + k.val < N then x (ix3 a ⟨s.val + k.val, hk⟩ c) else 0 := by
    rw [sum_idx3]
    simp only [Fin.sum_univ_one, Fin.isValue]
    rfl
  rw [← hs, ← (Shape.rowMajor _).symm.sum_comp g]
  exact Finset.sum_congr rfl fun n _ => hg _

/-- The host's sum over the first two of three axes. -/
theorem hostReduceAdd_r3_a01 {n0 n1 n2 : ℕ} (h : (⟨3, ![n0, n1, n2]⟩ : Shape).ReducesTo [0, 1] ⟨1, ![n2]⟩)
    (v : (⟨3, ![n0, n1, n2]⟩ : Shape).Idx → EReal) (init : EReal) (c : Fin n2) :
    Ideal.hostReduceAdd h v init (ix1 c) = init + ∑ a : Fin n0, ∑ b : Fin n1, v (ix3 a b c) := by
  unfold Ideal.hostReduceAdd
  congr 1
  have hd : ∀ i : (⟨3, ![n0, n1, n2]⟩ : Shape).Idx, h.drop i = ix1 c ↔ i 2 = c := by
    intro i
    constructor
    · intro e
      have := congrFun e 0
      exact Fin.ext (Fin.ext_iff.1 this)
    · intro e
      funext b
      match b with
      | ⟨0, _⟩ => exact Fin.ext (congrArg Fin.val e)
  rw [Finset.sum_filter]
  rw [sum_idx3]
  refine Finset.sum_congr rfl fun a _ => Finset.sum_congr rfl fun b _ => ?_
  refine (Finset.sum_congr rfl fun k _ => if_congr (Q := k = c) (hd (ix3 a b k)) rfl rfl).trans ?_
  exact (Finset.sum_ite_eq' Finset.univ c (fun k => v (ix3 a b k))).trans (if_pos (Finset.mem_univ c))

/-- A machine without semaphores has one state of its counters. -/
theorem no_counters {nD : ℕ} {τ : Topo} {sig : RefSig} {α : Sort*} (h0 : sig.nSem = 0) (h1 : sig.nDmaSem = 0) (f g : GSem nD τ sig → α) : f = g := by
  funext x
  obtain ⟨_, s⟩ := x
  cases s with
  | reg s => exact absurd s.isLt (by omega)
  | dma s => exact absurd s.isLt (by omega)

end Reals
end
-- ==== Proof.Gate.lean ====
module

public import proofs.«01_k».proof.Proof.Gen.GateKernelIdeal.Value
public import proofs.«01_k».proof.Proof.Gen.GateReferenceIdeal.Read
public import proofs.«01_k».proof.Proof.Gen.Pre_gate_finite
public import proofs.«01_k».proof.Defs
public import proofs.«01_k».proof.Proof.Reals

/-! The gradient through the forget gate: the kernel's chunked reverse running sums against the derivative of
    the running sum of the log-sigmoid. -/

@[expose] public section

set_option maxRecDepth 16384

noncomputable section

open Idealize.ShloMosaic Idealize.ShloMosaic.TcCoe Idealize.SL.Sem

namespace Cert.GateKernelIdeal.Value

open Cert.GateKernelIdeal Cert.GateKernelIdeal.Gen Reals

/-- The place's row group: sixteen rows of 128 lanes hold one sequence. -/
theorem shru4 (r : ℕ) (h : r < 512) : IntOp.shrui ArithUnit.vector (BitVec.ofNat 32 r) 4#32 = BitVec.ofNat 32 (r / 16) := by
  show BitVec.ofNat 32 r >>> (4#32 : BitVec 32) = _
  apply BitVec.eq_of_toNat_eq
  simp only [BitVec.ushiftRight_eq', BitVec.toNat_ushiftRight, BitVec.toNat_ofNat]
  rw [Nat.mod_eq_of_lt (by omega : r < 2 ^ 32), Nat.mod_eq_of_lt (by omega : r / 16 < 2 ^ 32)]
  exact Nat.shiftRight_eq_div_pow r 4

/-- A group's head: the group number modulo eight. -/
theorem and7 (r : ℕ) (h : r < 32) : IntOp.andi (BitVec.ofNat 32 r) 7#32 = BitVec.ofNat 32 (r % 8) := by
  interval_cases r <;> rfl

theorem pay4_at (i : S128x128.Idx) : k0_pay4 (F := Ideal) i = ((1 : ℝ) : EReal) := by
  idx_vars i
  pointwise [k0_pay4]
  rfl

theorem pay5_at (r s : Fin 512) :
    k0_pay5 (F := Ideal) (ix2 r s) = ((if r.val / 16 = s.val / 16 ∧ r.val < s.val then 1 else 0 : ℝ) : EReal) := by
  pointwise [k0_pay5]
  rw [shru4 _ r.isLt, shru4 _ s.isLt]
  word_cmp
  simp only [sitofp_bit, Bool.and_eq_true, decide_eq_true_eq]

theorem pay6_at (d : S512x128.Idx → ℝ) (r : Fin 512) (l : Fin 128) :
    k0_pay6 (F := Ideal) (fun i => (d i : EReal)) (ix2 r l) = ((∑ k : Fin 128, if l ≤ k then d (ix2 r k) else 0 : ℝ) : EReal) := by
  pointwise [k0_pay6, k0_pay3]
  simp only [coe_sub_self, sub_zero, zero_mul, Finset.sum_const_zero, zero_add]
  word_cmp
  simp only [sitofp_bit, ← EReal.coe_mul, coe_sum, decide_eq_true_eq, mul_ite, mul_one, mul_zero, Fin.le_def]

/-- The row's total, as the kernel takes it from three pieces. -/
def total (v14 : FVec Ideal S128x128 .bf16) (v39 v42 : FVec Ideal S512x128 .bf16) (v46 : FVec Ideal S512x128 .f32) :
    FVec Ideal S512x128 .f32 :=
  addf (addf v46 (matmul dot_S512x128_S128x128_S512x128_1_0_0_1_n_n none v42 v14 (constant S512x128 .f32 0x00000000#32)))
    (matmul dot_S512x128_S128x128_S512x128_1_0_0_1_n_n none v39 v14 (constant S512x128 .f32 0x00000000#32))

theorem total_at (d : S512x128.Idx → ℝ) (r : Fin 512) (l : Fin 128) :
    total k0_pay4 (k0_pay7 fun i => (d i : EReal)) (k0_pay9 fun i => (d i : EReal)) (k0_pay10 fun i => (d i : EReal)) (ix2 r l)
      = ((∑ k : Fin 128, d (ix2 r k) : ℝ) : EReal) := by
  pointwise [total, k0_pay7, k0_pay8, k0_pay9, k0_pay10, k0_pay3]
  simp only [coe_sub_self, sub_zero, zero_mul, Finset.sum_const_zero, zero_add, pay4_at, ← EReal.coe_mul, coe_sum, mul_one]

/-- The rows' totals summed over the later rows of the same sequence, from three pieces. -/
def across (v26 : FVec Ideal S512x512 .bf16) (x : FVec Ideal S512x128 .f32) : FVec Ideal S512x128 .f32 :=
  let p := truncf .bf16 x bitsLt_bf16_f32
  let r1 := subf x (extf .f32 p bitsLt_bf16_f32)
  let q := truncf .bf16 r1 bitsLt_bf16_f32
  let w := truncf .bf16 (subf r1 (extf .f32 q bitsLt_bf16_f32)) bitsLt_bf16_f32
  addf (addf (matmul dot_S512x512_S512x128_S512x128_1_0_0_1_n_n none v26 w (constant S512x128 .f32 0x00000000#32))
    (matmul dot_S512x512_S512x128_S512x128_1_0_0_1_n_n none v26 q (constant S512x128 .f32 0x00000000#32)))
    (matmul dot_S512x512_S512x128_S512x128_1_0_0_1_n_n none v26 p (constant S512x128 .f32 0x00000000#32))

theorem across_at (x : FVec Ideal S512x128 .f32) (d : S512x128.Idx → ℝ) (hx : ∀ i, x i = d i) (r : Fin 512) (l : Fin 128) :
    across k0_pay5 x (ix2 r l)
      = ((∑ k : Fin 512, if r.val / 16 = k.val / 16 ∧ r.val < k.val then d (ix2 k l) else 0 : ℝ) : EReal) := by
  pointwise [across]
  simp only [hx, coe_sub_self, sub_zero, mul_zero, Finset.sum_const_zero, zero_add, pay5_at, ← EReal.coe_mul, coe_sum, ite_mul,
    one_mul, zero_mul]

/-- The gradient of one place's logit, over the reals. -/
def dz (z d : S512x128.Idx → ℝ) (r : Fin 512) (l : Fin 128) : ℝ :=
  ((∑ k : Fin 128, if l ≤ k then d (ix2 r k) else 0)
    + ∑ k : Fin 512, if r.val / 16 = k.val / 16 ∧ r.val < k.val then ∑ n : Fin 128, d (ix2 k n) else 0) * (1 + Real.exp (z (ix2 r l)))⁻¹

theorem pay11_eq (v5 v14 v26 v38 v39 v42 v46) : k0_pay11 (F := Ideal) v5 v14 v26 v38 v39 v42 v46
    = mulf (addf v38 (across v26 (total v14 v39 v42 v46))) (logistic (subf (broadcast S512x128 (Scalar.ofBits .f32 0x00000000#32)) v5)) := rfl

theorem product_at (a b v5 : FVec Ideal S512x128 .f32) (r : Fin 512) (l : Fin 128) :
    mulf (addf a b) (logistic (subf (broadcast S512x128 (Scalar.ofBits .f32 0x00000000#32)) v5)) (ix2 r l)
      = (a (ix2 r l) + b (ix2 r l)) * Ideal.logistic (-(v5 (ix2 r l))) := by
  pointwise
  simp only [zero_sub]

/-- What the kernel writes of the gate's gradient. -/
theorem pay11_at (v5 : FVec Ideal S512x128 .f32) (z d : S512x128.Idx → ℝ) (hz : ∀ i, v5 i = z i) (r : Fin 512) (l : Fin 128) :
    k0_pay11 (F := Ideal) v5 k0_pay4 k0_pay5 (k0_pay6 fun i => (d i : EReal)) (k0_pay7 fun i => (d i : EReal))
      (k0_pay9 fun i => (d i : EReal)) (k0_pay10 fun i => (d i : EReal)) (ix2 r l) = ((dz z d r l : ℝ) : EReal) := by
  rw [pay11_eq]
  rw [product_at, pay6_at, hz, across_at _ (fun i => ∑ k : Fin 128, d (ix2 (i 0) k))
    (fun i => by idx_vars i; exact total_at d _ _)]
  simp only [← EReal.coe_neg, Ideal.logistic_coe, ← EReal.coe_add, ← EReal.coe_mul, neg_neg, dz]
  rfl

/-- The bit that says a row is of a head, read as a number. -/
theorem sel_at (r : Fin 512) (h : Fin 8) :
    FloatOps.sitofp (F := Ideal) FTy.f32 (BitVec.setWidth 32 (IntOp.cmpi CmpIPredicate.eq
      (IntOp.andi (IntOp.shrui ArithUnit.vector (BitVec.ofNat 32 r.val) 4#32) 7#32) (BitVec.ofNat 32 h.val)))
      = ((if r.val / 16 % 8 = h.val then 1 else 0 : ℝ) : EReal) := by
  rw [shru4 _ r.isLt, and7 _ (by omega)]
  word_cmp
  simp only [sitofp_bit, decide_eq_true_eq]

/-- One head's sum over the batch, the rows and the lanes, from three pieces. -/
theorem pay12_at (v5 v14 v26 v38 v39 v42 v46) (x : Fin 512 → Fin 128 → ℝ)
    (hx : ∀ r l, k0_pay11 (F := Ideal) v5 v14 v26 v38 v39 v42 v46 (ix2 r l) = ((x r l : ℝ) : EReal)) (h : Fin 8) :
    k0_pay12 (F := Ideal) v5 v14 v26 v38 v39 v42 v46 (ix1 h)
      = ((∑ l : Fin 128, ∑ r : Fin 512, if r.val / 16 % 8 = h.val then x r l else 0 : ℝ) : EReal) := by
  unfold k0_pay12
  generalize k0_pay11 (F := Ideal) v5 v14 v26 v38 v39 v42 v46 = y at hx ⊢
  pointwise
  simp only [hx, coe_sub_self, sub_zero, mul_zero, Finset.sum_const_zero, zero_add, sel_at, ← EReal.coe_mul, coe_sum, ite_mul,
    one_mul, zero_mul]

variable (m : (ℓ : Loc nD τ sig) → Buf (Elt Ideal) ℓ)

/-- A row's batch, its head, and a lane's place in the sequence. -/
def bOf (r : Fin 512) : Fin 4 := ⟨r.val / 128, by omega⟩
def hOf (r : Fin 512) : Fin 8 := ⟨r.val / 16 % 8, by omega⟩
def sOf (r : Fin 512) (l : Fin 128) : Fin 2048 := ⟨r.val % 16 * 128 + l.val, by omega⟩

theorem idx : ∀ t : Fin cfg0.N, win0_0.index t = ![0, 0] ∧ win0_1.index t = ![0, 0] ∧ win0_2.index t = ![0, 0]
    ∧ win0_3.index t = ![0, 0] ∧ win0_4.index t = ![0, 0] := (by decide +kernel : ∀ t : Fin grid0.N, _)

theorem blk0 (c : Dev nD) (r : Fin 512) (l : Fin 128) :
    iblk m c 0 t0_0 (ix2 r l) = m ((c : Thread nD τ).loc main_arg0) (ix3 (bOf r) (sOf r l) (hOf r)) := by
  blk_simp [iblk, idx t0_0]
  entry_read
  pointwise
  blk_ext [idx t0_0, bOf, sOf, hOf]

theorem blk1 (c : Dev nD) (r : Fin 512) :
    iblk m c 1 t0_0 (ix2 r 0) = m ((c : Thread nD τ).loc main_arg1) (ix2 0 (hOf r)) := by
  blk_simp [iblk, idx t0_0]
  entry_read
  pointwise
  blk_ext [idx t0_0, bOf, sOf, hOf]

theorem blk2 (c : Dev nD) (r : Fin 512) (l : Fin 128) :
    iblk m c 2 t0_0 (ix2 r l) = m ((c : Thread nD τ).loc main_arg2) (ix3 (bOf r) (hOf r) (sOf r l)) := by
  blk_simp [iblk, idx t0_0]
  entry_read
  pointwise
  blk_ext [idx t0_0, bOf, sOf, hOf]

section
variable (c : Dev nD) (f : S4x2048x8.Idx → ℝ) (b : S1x8.Idx → ℝ) (d : S4x8x2048.Idx → ℝ)
    (hf : m ((c : Thread nD τ).loc main_arg0) = fun i => (f i : EReal)) (hb : m ((c : Thread nD τ).loc main_arg1) = fun i => (b i : EReal))
    (hd : m ((c : Thread nD τ).loc main_arg2) = fun i => (d i : EReal))

/-- The logit with its bias and the decay's gradient, at the kernel's rows and lanes. -/
def zOf : S512x128.Idx → ℝ := fun i => f (ix3 (bOf (i 0)) (sOf (i 0) (i 1)) (hOf (i 0))) + b (ix2 0 (hOf (i 0)))
def dOf : S512x128.Idx → ℝ := fun i => d (ix3 (bOf (i 0)) (hOf (i 0)) (sOf (i 0) (i 1)))

include hd in
theorem v2_eq : iblk m c 2 t0_0 = fun i : S512x128.Idx => (dOf d i : EReal) := by
  funext i
  change S512x128.Idx at i
  idx_vars i
  rw [blk2, hd]
  rfl

include hf hb in
theorem v5_eq (i : S512x128.Idx) : k0_pay2 (F := Ideal) (iblk m c 0 t0_0) (iblk m c 1 t0_0) i = (zOf f b i : EReal) := by
  idx_vars i
  pointwise [k0_pay2]
  rw [blk0, blk1, hf, hb, ← EReal.coe_add]
  rfl

include hf hb hd in
theorem body_at (r : Fin 512) (l : Fin 128) :
    k0_pay11 (k0_pay13 (iblk m c 0 t0_0) (iblk m c 1 t0_0) (iblk m c 2 t0_0))
      (k0_pay14 (iblk m c 0 t0_0) (iblk m c 1 t0_0) (iblk m c 2 t0_0))
      (k0_pay15 (iblk m c 0 t0_0) (iblk m c 1 t0_0) (iblk m c 2 t0_0))
      (k0_pay16 (iblk m c 0 t0_0) (iblk m c 1 t0_0) (iblk m c 2 t0_0))
      (k0_pay17 (iblk m c 0 t0_0) (iblk m c 1 t0_0) (iblk m c 2 t0_0))
      (k0_pay18 (iblk m c 0 t0_0) (iblk m c 1 t0_0) (iblk m c 2 t0_0))
      (k0_pay19 (iblk m c 0 t0_0) (iblk m c 1 t0_0) (iblk m c 2 t0_0)) (ix2 r l) = ((dz (zOf f b) (dOf d) r l : ℝ) : EReal) := by
  unfold k0_pay13 k0_pay14 k0_pay15 k0_pay16 k0_pay17 k0_pay18 k0_pay19
  simp (disch := decide) only [View.ld_unit_lit']
  rw [v2_eq m c d hd]
  exact pay11_at _ _ _ (v5_eq m c f b hf hb) r l

include hf hb hd in
theorem final3 : (dats m 0 c).arrAt 3 cfg0.N = fun i : S512x128.Idx => ((dz (zOf f b) (dOf d) (i 0) (i 1) : ℝ) : EReal) := by
  refine (dats m 0 c).arrAt_eq_of_after_last 3 t0_0 (by decide +kernel) _ fun j => ?_
  blk_simp
  rw [after0_3]
  frame_out
  change S512x128.Idx at j
  idx_vars j
  exact body_at m c f b d hf hb hd _ _

include hf hb hd in
theorem final4 : (dats m 0 c).arrAt 4 cfg0.N = fun i : S8x1.Idx =>
    ((∑ l : Fin 128, ∑ r : Fin 512, if r.val / 16 % 8 = (i 0).val then dz (zOf f b) (dOf d) r l else 0 : ℝ) : EReal) := by
  refine (dats m 0 c).arrAt_eq_of_after_last 4 t0_0 (by decide +kernel) _ fun j => ?_
  blk_simp
  rw [after0_4]
  frame_out
  change S8x1.Idx at j
  idx_vars j
  have h := pay12_at _ _ _ _ _ _ _ _ (body_at m c f b d hf hb hd) j0
  pointwise [k0_pay1]
  exact h
end
end Cert.GateKernelIdeal.Value

namespace Cert.GateReferenceIdeal.Read
open Cert.GateReferenceIdeal Reals

/-- The derivative of the softplus is the logistic. -/
theorem exp_sub_softplus (x : ℝ) : Real.exp (x - (max x 0 + Real.log (1 + Real.exp (-|x|)))) = (1 + Real.exp (-x))⁻¹ := by
  have h1 : 0 < 1 + Real.exp (-|x|) := by positivity
  rw [sub_add_eq_sub_sub, Real.exp_sub, Real.exp_log h1, div_eq_iff h1.ne', eq_comm]
  rcases le_total 0 x with h | h
  · rw [abs_of_nonneg h, max_eq_left h, sub_self, Real.exp_zero, inv_mul_cancel₀]; positivity
  · rw [abs_of_nonpos h, max_eq_right h, neg_neg, sub_zero, inv_mul_eq_iff_eq_mul₀ (by positivity), add_mul, ← Real.exp_add, neg_add_cancel,
      Real.exp_zero, one_mul, add_comm]

theorem sig_at (x0 : (⟨S4x2048x8, .f32⟩ : BufTy).Contents (Elt Ideal)) (x1 : (⟨S1x8, .f32⟩ : BufTy).Contents (Elt Ideal)) (z : ℝ)
    (i : S4x2048x8.Idx) (hz : val_main_v3 x0 x1 i = (z : EReal)) : val_main_v4_1 x0 x1 i = (((1 + Real.exp z)⁻¹ : ℝ) : EReal) := by
  simp only [val_main_v4_1_apply, val_main_call0_call0_v21_apply, val_main_call0_call0_v16_apply, val_main_call0_call0_v20_apply,
    val_main_call0_call0_v14_apply, val_main_call0_call0_v18_apply, val_main_call0_call0_v13_apply, val_main_call0_call0_v17_apply,
    val_main_call0_call0_v15_apply, val_main_call0_call0_v19_apply, val_main_call0_v1_0_apply, val_main_call0_call0_v4_apply,
    val_main_call0_call0_v11_apply, val_main_call0_call0_v6_apply, val_main_call0_call0_v1_apply, val_main_call0_call0_v10_apply,
    val_main_call0_call0_v9_apply, val_main_call0_call0_v8_apply, val_main_call0_call0_v7_apply, val_main_call0_call0_v3_apply,
    val_main_call0_call0_v2_apply, val_main_call0_call0_v0_apply, val_main_call0_call0_v5_apply, val_main_call0_v0_apply,
    val_main_call0_call0_cst_apply, val_main_call0_call0_cst_0_apply, val_main_call0_call0_cst_1_apply, val_main_call0_call0_cst_2_apply, val_main_call0_call0_cst_3_apply, hz]
  pointwise
  have ht : Ideal.ofBits .f32 0x7F800000#32 = (⊤ : EReal) := by simp [Ideal.ofBits, Ideal.ieee]
  have ha : FloatOps.absf (F := Ideal) (φ := .f32) (-(z : EReal)) = ((|(-z)| : ℝ) : EReal) := by
    show max (-(z : EReal)) (-(-(z : EReal))) = _
    rw [← EReal.coe_neg, ← EReal.coe_neg, coe_max]; rfl
  have h0 : max (-(z : EReal)) 0 = ((max (-z) 0 : ℝ) : EReal) := by rw [← EReal.coe_neg, ← EReal.coe_zero, coe_max]
  have hl : Ideal.log1p (Ideal.exp (-((|(-z)| : ℝ) : EReal))) = ((Real.log (1 + Real.exp (-|(-z)|)) : ℝ) : EReal) := by
    rw [← EReal.coe_neg, Ideal.exp_coe]
    show Ideal.log (1 + _) = _
    rw [← EReal.coe_one, ← EReal.coe_add, Ideal.log_coe, if_neg (not_le.2 (by positivity))]
  rw [ht, ha, h0, hl]
  simp only [ne_eq, not_true_eq_false, if_false, ← EReal.coe_neg, ← EReal.coe_add, EReal.coe_ne_top, ← EReal.coe_sub, Ideal.exp_coe]
  rw [exp_sub_softplus, neg_neg]

/-- The running sum of the decay's gradient from the back. -/
theorem back_at (d : S4x8x2048.Idx → ℝ) (b : Fin 4) (s : Fin 2048) (h : Fin 8) :
    val_main_v8 (F := Ideal) (fun i => (d i : EReal)) (ix3 b s h) = ((∑ k : Fin 2048, if s ≤ k then d (ix3 b h k) else 0 : ℝ) : EReal) := by
  unfold val_main_v8
  rw [suffix_sum (by norm_num) _ _ (fun j => by pointwise [val_main_call2_call0_v0, val_main_call2_call0_cst]), ← coe_sum]
  refine Finset.sum_congr rfl fun k _ => ?_
  split_ifs
  · pointwise [val_main_v7]
  · rfl

/-- The logit's gradient, over the reals. -/
def gz (f : S4x2048x8.Idx → ℝ) (b : S1x8.Idx → ℝ) (d : S4x8x2048.Idx → ℝ) (n : Fin 4) (s : Fin 2048) (h : Fin 8) : ℝ :=
  (∑ k : Fin 2048, if s ≤ k then d (ix3 n h k) else 0) * (1 + Real.exp (f (ix3 n s h) + b (ix2 0 h)))⁻¹

theorem v9_at (f : S4x2048x8.Idx → ℝ) (b : S1x8.Idx → ℝ) (d : S4x8x2048.Idx → ℝ) (n : Fin 4) (s : Fin 2048) (h : Fin 8) :
    val_main_v9 (F := Ideal) (fun i => (f i : EReal)) (fun i => (b i : EReal)) (fun i => (d i : EReal)) (ix3 n s h)
      = ((gz f b d n s h : ℝ) : EReal) := by
  have hz : val_main_v3 (F := Ideal) (fun i => (f i : EReal)) (fun i => (b i : EReal)) (ix3 n s h)
      = ((f (ix3 n s h) + b (ix2 0 h) : ℝ) : EReal) := by
    pointwise [val_main_v3, val_main_v2, val_main_v1, val_main_v0]
    rw [EReal.coe_add]
  have h1 := sig_at _ _ _ _ hz
  have h2 := back_at d n s h
  simp only [val_main_v9_apply, val_main_call3_v1_apply, val_main_call3_v0_apply, h1, h2]
  show -(-(_ : EReal) * _) = _
  rw [neg_mul, neg_neg, ← EReal.coe_mul]
  rfl

theorem v14_at (f : S4x2048x8.Idx → ℝ) (b : S1x8.Idx → ℝ) (d : S4x8x2048.Idx → ℝ) (r : Fin 512) (l : Fin 128) :
    val_main_v14 (F := Ideal) (fun i => (f i : EReal)) (fun i => (b i : EReal)) (fun i => (d i : EReal)) (ix2 r l)
      = ((gz f b d ⟨r.val / 128, by omega⟩ ⟨r.val % 16 * 128 + l.val, by omega⟩ ⟨r.val / 16 % 8, by omega⟩ : ℝ) : EReal) := by
  rw [← v9_at]
  pointwise [val_main_v14, val_main_v13]

theorem v15_at (f : S4x2048x8.Idx → ℝ) (b : S1x8.Idx → ℝ) (d : S4x8x2048.Idx → ℝ) (h : Fin 8) :
    val_main_v15 (F := Ideal) (fun i => (f i : EReal)) (fun i => (b i : EReal)) (fun i => (d i : EReal)) (ix2 h 0)
      = ((∑ n : Fin 4, ∑ s : Fin 2048, gz f b d n s h : ℝ) : EReal) := by
  have h10 : val_main_v10 (F := Ideal) (fun i => (f i : EReal)) (fun i => (b i : EReal)) (fun i => (d i : EReal)) (ix1 h)
      = ((∑ n : Fin 4, ∑ s : Fin 2048, gz f b d n s h : ℝ) : EReal) := by
    simp only [← coe_sum, ← v9_at]
    pointwise [val_main_v10, val_main_cst]
    rw [hostReduceAdd_r3_a01, zero_add]
  rw [← h10]
  unfold val_main_v15 val_main_v12 val_main_v11
  generalize val_main_v10 (F := Ideal) (fun i => (f i : EReal)) (fun i => (b i : EReal)) (fun i => (d i : EReal)) = y
  pointwise [val_main_cst_0]
  rw [hostReduceAdd_r3_a01, zero_add]
  simp only [Fin.sum_univ_one]
  pointwise
end Cert.GateReferenceIdeal.Read

namespace Cert.GateKernelIdeal.Value

open Cert.GateKernelIdeal Cert.GateKernelIdeal.Gen Reals

/-- The sum from a place on is the rest of its row of lanes and the later rows. -/
theorem suffix_rows (D : Fin 2048 → ℝ) (g : Fin 16) (l : Fin 128) (s : Fin 2048) (hs : s.val = g.val * 128 + l.val) :
    (∑ k : Fin 2048, if s ≤ k then D k else 0)
      = (∑ k : Fin 128, if l ≤ k then D ⟨g.val * 128 + k.val, by omega⟩ else 0)
        + ∑ y : Fin 16, if g < y then ∑ k : Fin 128, D ⟨y.val * 128 + k.val, by omega⟩ else 0 := by
  have h1 : (∑ k : Fin 2048, if s ≤ k then D k else 0)
      = ∑ y : Fin 16, ∑ k : Fin 128, if s.val ≤ y.val * 128 + k.val then D ⟨y.val * 128 + k.val, by omega⟩ else 0 := by
    rw [sum_split (a := 16) (b := 128) (fun k : Fin 2048 => if s ≤ k then D k else 0)]
    refine Finset.sum_congr rfl fun y _ => Finset.sum_congr rfl fun k _ => ?_
    have e : (finProdFinEquiv (y, k) : Fin 2048) = ⟨y.val * 128 + k.val, by omega⟩ :=
      Fin.ext (show k.val + 128 * y.val = y.val * 128 + k.val by omega)
    rw [e]
    rfl
  have h2 : ∀ y : Fin 16, (∑ k : Fin 128, if s.val ≤ y.val * 128 + k.val then D ⟨y.val * 128 + k.val, by omega⟩ else 0)
      = (if g = y then ∑ k : Fin 128, if l ≤ k then D ⟨y.val * 128 + k.val, by omega⟩ else 0 else 0)
        + if g < y then ∑ k : Fin 128, D ⟨y.val * 128 + k.val, by omega⟩ else 0 := by
    intro y
    rcases lt_trichotomy g y with h | h | h
    · rw [if_neg h.ne, if_pos h, zero_add]
      refine Finset.sum_congr rfl fun k _ => if_pos ?_
      have := Fin.lt_def.1 h; omega
    · subst h
      rw [if_pos rfl, if_neg (lt_irrefl _), add_zero]
      refine Finset.sum_congr rfl fun k _ => if_congr ?_ rfl rfl
      rw [hs, Fin.le_def]; omega
    · rw [if_neg h.ne', if_neg h.not_gt, add_zero]
      refine Finset.sum_eq_zero fun k _ => if_neg ?_
      have := Fin.lt_def.1 h; omega
  rw [h1]
  simp only [h2, Finset.sum_add_distrib, Finset.sum_ite_eq, Finset.mem_univ, if_true]

theorem dOf_row (d : S4x8x2048.Idx → ℝ) (r : Fin 512) (y : Fin 16) (n : Fin 128) (k : Fin 512) (e : k.val = r.val / 16 * 16 + y.val) :
    dOf d (ix2 k n) = d (ix3 (bOf r) (hOf r) ⟨y.val * 128 + n.val, by omega⟩) := by
  have hb : bOf k = bOf r := Fin.ext (by show k.val / 128 = r.val / 128; omega)
  have hh : hOf k = hOf r := Fin.ext (by show k.val / 16 % 8 = r.val / 16 % 8; omega)
  have hs : sOf k n = ⟨y.val * 128 + n.val, by omega⟩ := Fin.ext (by show k.val % 16 * 128 + n.val = y.val * 128 + n.val; omega)
  show d (ix3 (bOf k) (hOf k) (sOf k n)) = _
  rw [hb, hh, hs]

/-- The kernel's gradient of a logit is the derivative's. -/
theorem dz_eq (f : S4x2048x8.Idx → ℝ) (b : S1x8.Idx → ℝ) (d : S4x8x2048.Idx → ℝ) (r : Fin 512) (l : Fin 128) :
    dz (zOf f b) (dOf d) r l = Cert.GateReferenceIdeal.Read.gz f b d (bOf r) (sOf r l) (hOf r) := by
  unfold dz Cert.GateReferenceIdeal.Read.gz
  congr 1
  rw [suffix_rows (fun k => d (ix3 (bOf r) (hOf r) k)) ⟨r.val % 16, by omega⟩ l (sOf r l) rfl]
  congr 1
  rw [sum_split (a := 32) (b := 16) (fun k : Fin 512 => if r.val / 16 = k.val / 16 ∧ r.val < k.val then ∑ n : Fin 128, dOf d (ix2 k n) else 0)]
  rw [Finset.sum_eq_single (⟨r.val / 16, by omega⟩ : Fin 32)]
  · refine Finset.sum_congr rfl fun y _ => ?_
    have e : ((finProdFinEquiv ((⟨r.val / 16, by omega⟩ : Fin 32), y) : Fin 512)).val = r.val / 16 * 16 + y.val := by
      show y.val + 16 * (r.val / 16) = _
      omega
    rw [e]
    refine if_congr ?_ (Finset.sum_congr rfl fun n _ => ?_) rfl
    · rw [Fin.lt_def]
      show _ ↔ r.val % 16 < y.val
      omega
    · exact dOf_row d r y n _ e
  · intro x _ hx
    refine Finset.sum_eq_zero fun y _ => if_neg ?_
    have e : ((finProdFinEquiv (x, y) : Fin 512)).val = x.val * 16 + y.val := by
      show y.val + 16 * x.val = _
      omega
    rw [e]
    intro h
    exact hx (Fin.ext (by show x.val = r.val / 16; omega))
  · intro h; exact absurd (Finset.mem_univ _) h

/-- One head's sum over the rows and lanes is its sum over the batch and the sequence. -/
theorem head_sum (G : Fin 4 → Fin 2048 → Fin 8 → ℝ) (h : Fin 8) :
    (∑ l : Fin 128, ∑ r : Fin 512, if r.val / 16 % 8 = h.val then G (bOf r) (sOf r l) (hOf r) else 0)
      = ∑ n : Fin 4, ∑ s : Fin 2048, G n s h := by
  rw [Finset.sum_comm, sum_split (a := 4) (b := 128) (fun r : Fin 512 => ∑ l : Fin 128, if r.val / 16 % 8 = h.val then G (bOf r) (sOf r l) (hOf r) else 0)]
  refine Finset.sum_congr rfl fun n _ => ?_
  rw [sum_split (a := 8) (b := 16) (fun q : Fin 128 => ∑ l : Fin 128, if (finProdFinEquiv (n, q) : Fin 512).val / 16 % 8 = h.val
    then G (bOf (finProdFinEquiv (n, q) : Fin 512)) (sOf (finProdFinEquiv (n, q) : Fin 512) l) (hOf (finProdFinEquiv (n, q) : Fin 512)) else 0)]
  have e : ∀ (x : Fin 8) (y : Fin 16), ((finProdFinEquiv (n, (finProdFinEquiv (x, y) : Fin 128)) : Fin 512)).val = n.val * 128 + x.val * 16 + y.val := by
    intro x y
    show (y.val + 16 * x.val) + 128 * n.val = _
    omega
  rw [Finset.sum_eq_single h, sum_split (a := 16) (b := 128) (fun s : Fin 2048 => G n s h)]
  · refine Finset.sum_congr rfl fun y _ => Finset.sum_congr rfl fun l _ => ?_
    have e1 := e h y
    rw [if_pos (by rw [e1]; omega)]
    have hn : bOf (finProdFinEquiv (n, (finProdFinEquiv (h, y) : Fin 128)) : Fin 512) = n := Fin.ext (by show _ / 128 = n.val; rw [e1]; omega)
    have hh : hOf (finProdFinEquiv (n, (finProdFinEquiv (h, y) : Fin 128)) : Fin 512) = h := Fin.ext (by show _ / 16 % 8 = h.val; rw [e1]; omega)
    have hs : sOf (finProdFinEquiv (n, (finProdFinEquiv (h, y) : Fin 128)) : Fin 512) l = (finProdFinEquiv (y, l) : Fin 2048) :=
      Fin.ext (by show _ % 16 * 128 + l.val = l.val + 128 * y.val; rw [e1]; omega)
    rw [hn, hh, hs]
  · intro x _ hx
    refine Finset.sum_eq_zero fun y _ => Finset.sum_eq_zero fun l _ => if_neg ?_
    rw [e x y]
    intro hh
    exact hx (Fin.ext (by omega))
  · intro hh; exact absurd (Finset.mem_univ _) hh

end Cert.GateKernelIdeal.Value

namespace Cert.Gate

open Reals

/-- The precondition makes all three arguments arrays of reals. -/
theorem finite (x0 : FVec Ideal Pre_gate_finite.S4x2048x8 .f32) (x1 : FVec Ideal Pre_gate_finite.S1x8 .f32) (x2 : FVec Ideal Pre_gate_finite.S4x8x2048 .f32)
    (h : Cert.Pre_gate_finite.fn (F := Ideal) x0 x1 x2 = fun _ => 1#1) :
    (∃ f : Pre_gate_finite.S4x2048x8.Idx → ℝ, x0 = fun i => (f i : EReal)) ∧ (∃ f : Pre_gate_finite.S1x8.Idx → ℝ, x1 = fun i => (f i : EReal))
      ∧ ∃ f : Pre_gate_finite.S4x8x2048.Idx → ℝ, x2 = fun i => (f i : EReal) := by
  have e := congrFun h ix0
  obtain ⟨e01, e2⟩ := IntOp.andi_eq_one.1 e
  obtain ⟨e0, e1⟩ := IntOp.andi_eq_one.1 e01
  exact ⟨real_of_all x0 _ _ _ _ e0, real_of_all x1 _ _ _ _ e1, real_of_all x2 _ _ _ _ e2⟩

section
open Cert.GateKernelIdeal Cert.GateKernelIdeal.Gen Cert.GateKernelIdeal.Value

/-- The kernel's gate gradient and its bias gradient are the reference's. -/
theorem algebraic : Cert.algebraic_GateKernelIdeal_GateReferenceIdeal_pre_gate_finite := by
  pair_intro
  · run_from Cert.GateKernelIdeal.Value.run_blocks m g
  · refine (θ_run _ _ _).mono (fun s h c => ?_) (Cert.GateReferenceIdeal.Value.run (F := Ideal) m' g')
    obtain ⟨h0, h1, h2, h3, h4⟩ := h c
    obtain ⟨a0, a1, a2⟩ := hagree c
    obtain ⟨⟨f, hf⟩, ⟨b, hb⟩, ⟨d, hd⟩⟩ := finite _ _ _ (hpre c)
    refine ⟨h0.trans ?_, h1.trans ?_, h2, h3, h4⟩
    · rw [final3 m c f b d hf hb hd]
      refine (Cert.GateReferenceIdeal.Read.val_main_v14_eq m' c).trans ?_
      rw [a0, a1, a2, hf, hb, hd]
      funext i
      idx_vars i
      refine (Cert.GateReferenceIdeal.Read.v14_at f b d _ _).trans ?_
      exact congrArg Real.toEReal (dz_eq f b d i0 i1).symm
    · rw [final4 m c f b d hf hb hd]
      refine (Cert.GateReferenceIdeal.Read.val_main_v15_eq m' c).trans ?_
      rw [a0, a1, a2, hf, hb, hd]
      funext i
      idx_vars i
      obtain rfl : i1 = 0 := Subsingleton.elim _ _
      refine (Cert.GateReferenceIdeal.Read.v15_at f b d i0).trans ?_
      refine congrArg Real.toEReal ?_
      refine (head_sum (Cert.GateReferenceIdeal.Read.gz f b d) i0).symm.trans ?_
      refine Finset.sum_congr rfl fun l _ => Finset.sum_congr rfl fun r _ => ?_
      rw [dz_eq]; rfl

/-- The reference runs and keeps its arguments; it has no counters. -/
theorem frame_reference : Cert.quiescent_GateReferenceIdeal := fun m g _ =>
  (θ_run _ _ _).mono (fun _ h => ⟨fun c => (h c).2.2, no_counters rfl rfl _ _⟩) (Cert.GateReferenceIdeal.Value.run (F := Idealize.ShloMosaic.Ideal) m g)
end
end Cert.Gate
end
-- ==== Proof.Attn.lean ====
module

public import proofs.«01_k».proof.Proof.Reals
public import Idealize.ShloMosaic.Lib.MatmulPlain
public import Idealize.ShloMosaic.Lib.ValueLayout

/-! Tiles of an attention's backward: the operations of one unit at shapes that stay variable, and what they are on
    arrays of reals. -/

@[expose] public section
set_option maxRecDepth 16384
noncomputable section

open Idealize.ShloMosaic

namespace Attn

abbrev S₁ (a : ℕ) : Shape := ⟨1, ![a]⟩
abbrev S₂ (a b : ℕ) : Shape := ⟨2, ![a, b]⟩
abbrev S₃ (a b c : ℕ) : Shape := ⟨3, ![a, b, c]⟩

theorem casts_refl (s : Shape) : s.ShapeCasts s := rfl
theorem casts_drop (n : ℕ) : (S₃ 1 1 n).ShapeCasts (S₂ 1 n) := by
  simp [Shape.ShapeCasts, Shape.numel, Fin.prod_univ_succ]
theorem casts_add (n : ℕ) : (S₂ 1 n).ShapeCasts (S₃ 1 1 n) := by
  simp [Shape.ShapeCasts, Shape.numel, Fin.prod_univ_succ]
theorem casts_row (n : ℕ) : (S₁ n).ShapeCasts (S₂ 1 n) := by
  simp [Shape.ShapeCasts, Shape.numel, Fin.prod_univ_succ]
theorem casts_col (n : ℕ) : (S₁ n).ShapeCasts (S₂ n 1) := by
  simp [Shape.ShapeCasts, Shape.numel, Fin.prod_univ_succ]
theorem casts_flat (n : ℕ) : (S₂ n 1).ShapeCasts (S₂ n 1) := rfl
theorem bc_row (m n : ℕ) : (S₂ 1 n).Broadcasts (S₂ m n) :=
  ⟨le_rfl, fun a => by fin_cases a <;> simp⟩
theorem bc_col (m n : ℕ) : (S₂ m 1).Broadcasts (S₂ m n) :=
  ⟨le_rfl, fun a => by fin_cases a <;> simp⟩
theorem red_row (m n : ℕ) : (S₂ m n).Reduces [0] (S₁ n) :=
  ⟨rfl, Nat.one_pos, fun b => by fin_cases b; rfl⟩
theorem red_col (m n : ℕ) : (S₂ m n).Reduces [1] (S₁ m) :=
  ⟨rfl, Nat.one_pos, fun b => by fin_cases b; rfl⟩

/-- The product over the first axis of both operands. -/
def dotTN (K M N : ℕ) : DotDims (S₂ K M) (S₂ K N) (S₂ M N) where
  lhsContracting := [0]
  rhsContracting := [0]
  lhsNonContracting := [1]
  rhsNonContracting := [1]
  lhsBatch := []
  rhsBatch := []
  wf := ⟨rfl, by simp, rfl, by simp, by simp, by simp, by simp [List.finRange]; exact List.Perm.swap _ _ _,
    by simp [List.finRange]; exact List.Perm.swap _ _ _, rfl, Nat.two_pos, fun b => by fin_cases b <;> rfl⟩

theorem iotas (n : ℕ) (d : Fin 2) : (S₂ 256 n).Iotas .tc 32 [d] := by
  simp [Shape.Iotas]

theorem inb₂ {a b : ℕ} {r n l w : ℕ} (h : r + n ≤ a) (h' : l + w ≤ b) :
    ∀ i, (![r, l] : Fin 2 → ℕ) i + (S₂ n w).size i ≤ (S₂ a b).size i := by
  intro i; fin_cases i <;> assumption

theorem inb₃ {r n : ℕ} (h : Fin 2) (hn : r + n ≤ 2048) :
    ∀ i, (![h.val, 0, r] : Fin 3 → ℕ) i + (S₃ 1 1 n).size i ≤ (S₃ 2 1 2048).size i := by
  intro i; fin_cases i
  · show h.val + 1 ≤ 2; omega
  · show 0 + 1 ≤ 1; omega
  · exact hn

variable {F : FTy → Type} [FloatOps F]

/-- The lanes of one head. -/
def lanes (h : Fin 2) : IVec (S₂ 1 128) 1 :=
  cmpi .eq (shrui (iota .tc (S₂ 1 128) 32 [1]) (broadcast (S₂ 1 128) 6#32)) (broadcast (S₂ 1 128) (BitVec.ofNat 32 h.val))

def laneSel (h : Fin 2) : IVec (S₂ 256 128) 1 :=
  broadcastTo (S₂ 256 128) (shapeCast (S₂ 1 128) (lanes h) (casts_refl _)) (bc_row 256 128)

def keep {φ : FTy} (h : Fin 2) (x y : FVec F (S₂ 256 128) φ) : FVec F (S₂ 256 128) φ :=
  select (laneSel h) x y

def eye : IVec (S₂ 256 256) 1 :=
  cmpi .eq (iota .tc (S₂ 256 256) 32 [0]) (iota .tc (S₂ 256 256) 32 [1])

/-- A row of per-key values turned into a column. -/
def toCol (x : FVec F (S₃ 1 1 256) .f32) : FVec F (S₂ 256 1) .f32 :=
  shapeCast _ (multiReduction .add [1] (S₁ 256)
    (select eye (broadcastTo (S₂ 256 256) (shapeCast (S₂ 1 256) (shapeCast (S₂ 1 256) x (casts_drop _)) (casts_refl _)) (bc_row _ _))
      (broadcast _ (Scalar.ofBits .f32 0x00000000#32))) 0x00000000#32 (red_col _ _) (.inl rfl) rfl) (casts_col _)

/-- A column turned into a row. -/
def toRow (x : FVec F (S₂ 256 1) .f32) : FVec F (S₂ 1 256) .f32 :=
  shapeCast _ (multiReduction .add [0] (S₁ 256)
    (select eye (broadcastTo (S₂ 256 256) (shapeCast (S₂ 256 1) x (casts_refl _)) (bc_col _ _))
      (broadcast _ (Scalar.ofBits .f32 0x00000000#32))) 0x00000000#32 (red_row _ _) (.inl rfl) rfl) (casts_row _)

def row {n : ℕ} (x : FVec F (S₃ 1 1 n) .f32) : FVec F (S₂ 1 n) .f32 := shapeCast _ x (casts_drop _)

/-! ## On reals -/

/-- The array holds the reals `f`. -/
def Is {a b : ℕ} (v : (S₂ a b).Idx → EReal) (f : ℕ → ℕ → ℝ) : Prop :=
  ∀ (r : Fin a) (c : Fin b), v (ix2 r c) = ((f r c : ℝ) : EReal)

/-- The row holds the reals `f`. -/
def IsRow {n : ℕ} (v : (S₃ 1 1 n).Idx → EReal) (f : ℕ → ℝ) : Prop :=
  ∀ c : Fin n, v (ix3 0 0 c) = ((f c : ℝ) : EReal)

variable {a b c m n : ℕ} {φ ψ : FTy}

section
variable {x y : FVec Ideal (S₂ a b) φ} {f g : ℕ → ℕ → ℝ}

theorem Is.add (hx : Is x f) (hy : Is y g) : Is (addf x y) fun r c => f r c + g r c := fun r c => by
  show x _ + y _ = _
  rw [hx, hy, EReal.coe_add]

theorem Is.sub (hx : Is x f) (hy : Is y g) : Is (subf x y) fun r c => f r c - g r c := fun r c => by
  show x _ - y _ = _
  rw [hx, hy, EReal.coe_sub]

theorem Is.mul (hx : Is x f) (hy : Is y g) : Is (mulf x y) fun r c => f r c * g r c := fun r c => by
  show x _ * y _ = _
  rw [hx, hy, EReal.coe_mul]

theorem Is.trunc {x : FVec Ideal (S₂ a b) .f32} (hx : Is x f) (h : FTy.bits .bf16 < FTy.bits .f32) : Is (truncf .bf16 x h) f := hx

theorem Is.self {x : (S₂ a b).Idx → EReal} (hx : Is x f) (h : (S₂ a b).ShapeCasts (S₂ a b)) : Is (shapeCast (S₂ a b) x h) f := fun r c => by
  rw [shapeCast_self]
  exact hx r c

theorem Is.congr {x : (S₂ a b).Idx → EReal} (hx : Is x f) (h : ∀ (r : Fin a) (c : Fin b), f r c = g r c) : Is x g := fun r c => by
  rw [hx, h]
end

theorem Is.matmulNT {M K N : ℕ} {x : FVec Ideal (S₂ M K) φ} {y : FVec Ideal (S₂ N K) ψ} {f g : ℕ → ℕ → ℝ} (hx : Is x f) (hy : Is y g) :
    Is (matmul (F := Ideal) (DotDims.transposedRhs M K N) none x y (constant _ .f32 0x00000000#32)) fun r c => ∑ k : Fin K, f r k * g c k := fun r c => by
  refine (_root_.Idealize.ShloMosaic.Ideal.matmul_transposedRhs_apply none x y _ r c).trans ?_
  rw [← Reals.coe_sum]
  refine Eq.trans (congrArg (· + _) (?_ : _ = (0 : EReal))) ?_
  · show Ideal.ofBits .f32 0x00000000#32 = 0
    simp [Ideal.ofBits, Ideal.ieee]
  · rw [zero_add]
    exact Finset.sum_congr rfl fun k _ => by
      rw [EReal.coe_mul]; exact congrArg₂ (· * ·) (hx r k) (hy c k)

theorem Is.matmulNN {M K N : ℕ} {x : FVec Ideal (S₂ M K) φ} {y : FVec Ideal (S₂ K N) ψ} {f g : ℕ → ℕ → ℝ} (hx : Is x f) (hy : Is y g) :
    Is (matmul (F := Ideal) (DotDims.plain M K N) none x y (constant _ .f32 0x00000000#32)) fun r c => ∑ k : Fin K, f r k * g k c := fun r c => by
  refine (Ideal.matmul_plain_apply none x y _ r c).trans ?_
  rw [← Reals.coe_sum]
  refine Eq.trans (congrArg (· + _) (?_ : _ = (0 : EReal))) ?_
  · show Ideal.ofBits .f32 0x00000000#32 = 0
    simp [Ideal.ofBits, Ideal.ieee]
  · rw [zero_add]
    exact Finset.sum_congr rfl fun k _ => by
      rw [EReal.coe_mul]; exact congrArg₂ (· * ·) (hx r k) (hy k c)

theorem Is.matmulTN {M K N : ℕ} {x : FVec Ideal (S₂ K M) φ} {y : FVec Ideal (S₂ K N) ψ} {f g : ℕ → ℕ → ℝ} (hx : Is x f) (hy : Is y g) :
    Is (matmul (F := Ideal) (dotTN K M N) none x y (constant _ .f32 0x00000000#32)) fun r c => ∑ k : Fin K, f k r * g k c := fun r c => by
  refine (Ideal.matmul_apply₁_of (dotTN K M N) (a := 0) rfl (K := K) rfl x y _ (ix2 r c) (fun k => ix2 k r) (fun k => ix2 k c)
    (fun k => ?_) fun k => ?_).trans ?_
  · funext d; fin_cases d <;> rfl
  · funext d; fin_cases d <;> rfl
  rw [← Reals.coe_sum]
  refine Eq.trans (congrArg (· + _) (?_ : _ = (0 : EReal))) ?_
  · show Ideal.ofBits .f32 0x00000000#32 = 0
    simp [Ideal.ofBits, Ideal.ieee]
  · rw [zero_add]
    exact Finset.sum_congr rfl fun k _ => by
      rw [EReal.coe_mul]; exact congrArg₂ (· * ·) (hx k r) (hy k c)

theorem IsRow.row {x : FVec Ideal (S₃ 1 1 n) .f32} {f : ℕ → ℝ} (hx : IsRow x f) : Is (Attn.row x) fun _ c => f c := fun r c => by
  obtain rfl : r = 0 := Subsingleton.elim _ _
  exact (ValueIdx.shapeCast_1ab_ab_apply x _ 0 c).trans (hx c)

theorem Is.rows {x : FVec Ideal (S₂ 1 n) φ} {f : ℕ → ℕ → ℝ} (hx : Is x f) (h) : IsRow (shapeCast (S₃ 1 1 n) x h) (f 0) := fun c =>
  (ValueIdx.shapeCast_ab_1ab_apply x _ 0 0 c).trans (hx 0 c)

theorem Is.bcRow {x : FVec Ideal (S₂ 1 n) φ} {f : ℕ → ℕ → ℝ} (hx : Is x f) (h) : Is (broadcastTo (S₂ m n) x h) fun _ c => f 0 c := fun r c =>
  (ValueIdx.broadcastTo_1b_ab_apply x h r c).trans (hx 0 c)

theorem Is.bcCol {x : FVec Ideal (S₂ m 1) φ} {f : ℕ → ℕ → ℝ} (hx : Is x f) (h) : Is (broadcastTo (S₂ m n) x h) fun r _ => f r 0 := fun r c => by
  refine (Idealize.ShloMosaic.broadcastTo_apply x h (ix2 r c) (ix2 r 0) fun ax => ?_).trans (hx r 0)
  match ax with
  | ⟨0, _⟩ =>
    show (r : ℕ) = if _ : m = 1 then 0 else r.val
    split_ifs with h1
    · subst h1; omega
    · rfl
  | ⟨1, _⟩ => rfl

theorem Is.colSum {x : FVec Ideal (S₂ m n) .f32} {f : ℕ → ℕ → ℝ} (hx : Is x f) (h h' h'' hc) :
    Is (shapeCast (S₂ 1 n) (multiReduction (F := Ideal) .add [0] (S₁ n) x 0x00000000#32 h h' h'') hc) fun _ c => ∑ k : Fin m, f k c := fun r c => by
  refine (ValueIdx.shapeCast_a_1a_apply _ _ r c).trans ((Ideal.reduceAdd_r2_a0 h x _).trans ?_)
  rw [← Reals.coe_sum]
  exact Finset.sum_congr rfl fun k _ => hx k c

theorem Is.rowSum {x : FVec Ideal (S₂ m n) .f32} {f : ℕ → ℕ → ℝ} (hx : Is x f) (h h' h'' hc) :
    Is (shapeCast (S₂ m 1) (multiReduction (F := Ideal) .add [1] (S₁ m) x 0x00000000#32 h h' h'') hc) fun r _ => ∑ k : Fin n, f r k := fun r c => by
  refine (Idealize.ShloMosaic.shapeCast_apply _ _ (ix2 r c) (ix1 r) ?_).trans ((Ideal.reduceAdd_r2_a1 h x _).trans ?_)
  · rw [Shape.rowMajor_val_two, Shape.rowMajor_val_one]
    show r.val = r.val * 1 + c.val
    omega
  rw [← Reals.coe_sum]
  exact Finset.sum_congr rfl fun k _ => hx r k

theorem Is.const (x : EReal) (q : ℝ) (h : x = (q : EReal)) : Is (broadcast (S₂ a b) x) fun _ _ => q := fun _ _ => h

theorem eye_at (r c : Fin 256) : eye (ix2 r c) = BitVec.ofBool (decide (r = c)) := by
  show BitVec.ofBool (decide (BitVec.ofNat 32 (0 * 256 + r.val) = BitVec.ofNat 32 (0 * 256 + c.val))) = _
  refine congrArg BitVec.ofBool (decide_eq_decide.2 ⟨fun h => ?_, fun h => by rw [h]⟩)
  have h' := congrArg BitVec.toNat h
  simp only [BitVec.toNat_ofNat, zero_mul, zero_add] at h'
  exact Fin.ext (by omega)

theorem IsRow.toCol {x : FVec Ideal (S₃ 1 1 256) .f32} {f : ℕ → ℝ} (hx : IsRow x f) : Is (Attn.toCol x) fun r _ => f r := by
  unfold Attn.toCol
  refine (Is.rowSum (f := fun r c => if r = c then f c else 0) (fun r c => ?_) _ _ _ _).congr fun r c => ?_
  · show (if eye (ix2 r c) = 1 then _ else _) = _
    rw [eye_at]
    by_cases h : r = c
    · refine (if_pos (by simp [h])).trans (Eq.trans ?_ (congrArg _ (if_pos (congrArg Fin.val h)).symm))
      exact (hx.row.self _).bcRow (φ := .f32) _ r c
    · refine (if_neg (by simp [h])).trans (Eq.trans ?_ (congrArg _ (if_neg (fun e => h (Fin.ext e))).symm))
      show Ideal.ofBits .f32 0x00000000#32 = _
      simp [Ideal.ofBits, Ideal.ieee]
  · have : ∀ k : Fin 256, (r.val = k.val) = (r = k) := fun k => propext Fin.ext_iff.symm
    simp only [this, Finset.sum_ite_eq, Finset.mem_univ, if_true]

theorem Is.toRow {x : FVec Ideal (S₂ 256 1) .f32} {f : ℕ → ℕ → ℝ} (hx : Is x f) : Is (Attn.toRow x) fun _ c => f c 0 := by
  unfold Attn.toRow
  refine (Is.colSum (f := fun r c => if r = c then f r 0 else 0) (fun r c => ?_) _ _ _ _).congr fun r c => ?_
  · show (if eye (ix2 r c) = 1 then _ else _) = _
    rw [eye_at]
    by_cases h : r = c
    · refine (if_pos (by simp [h])).trans (Eq.trans ?_ (congrArg _ (if_pos (congrArg Fin.val h)).symm))
      exact (hx.self _).bcCol (φ := .f32) _ r c
    · refine (if_neg (by simp [h])).trans (Eq.trans ?_ (congrArg _ (if_neg (fun e => h (Fin.ext e))).symm))
      show Ideal.ofBits .f32 0x00000000#32 = _
      simp [Ideal.ofBits, Ideal.ieee]
  · have : ∀ k : Fin 256, (k.val = c.val) = (k = c) := fun k => propext Fin.ext_iff.symm
    simp only [this, Finset.sum_ite_eq', Finset.mem_univ, if_true]

theorem lanes_at (h : Fin 2) (l : Fin 128) : lanes h (ix2 0 l) = BitVec.ofBool (decide (l.val / 64 = h.val)) := by
  have key : ∀ (h : Fin 2) (l : Fin 128), lanes h (ix2 0 l) = BitVec.ofBool (decide (l.val / 64 = h.val)) := by decide +kernel
  exact key h l

theorem Is.keep {x y : FVec Ideal (S₂ 256 128) φ} {f g : ℕ → ℕ → ℝ} (hx : Is x f) (hy : Is y g) (h : Fin 2) :
    Is (Attn.keep h x y) fun r c => if c / 64 = h.val then f r c else g r c := fun r c => by
  have e : laneSel h (ix2 r c) = BitVec.ofBool (decide (c.val / 64 = h.val)) := by
    unfold laneSel
    rw [shapeCast_id]
    exact (ValueIdx.broadcastTo_1b_ab_apply _ _ r c).trans (lanes_at h c)
  show (if laneSel h (ix2 r c) = 1 then _ else _) = _
  rw [e]
  by_cases hc : c.val / 64 = h.val
  · exact (if_pos (by simp [hc])).trans ((hx r c).trans (congrArg _ (if_pos hc).symm))
  · exact (if_neg (by simp [hc])).trans ((hy r c).trans (congrArg _ (if_neg hc).symm))

/-! ## Stores and loads of rectangles -/

section
variable {A B : ℕ} {e : EltTy} {Val : EltTy → Type} [∀ e, Nonempty (Val e)]
variable {r n l w : ℕ} {inb : ∀ i, (![r, l] : Fin 2 → ℕ) i + (S₂ n w).size i ≤ (S₂ A B).size i}

theorem idx₂ (i : Fin n) (c : Fin w) (hi : r + i.val < A) (hc : l + c.val < B) :
    (Rect.unit (s := S₂ A B) ![r, l] (S₂ n w).size inb).toLoadRect.idx (ix2 i c : (S₂ n w).Idx) = ix2 ⟨r + i.val, hi⟩ ⟨l + c.val, hc⟩ := by
  funext a
  refine Fin.ext ?_
  match a with
  | ⟨0, _⟩ => show r + 1 * i.val = r + i.val; omega
  | ⟨1, _⟩ => show l + 1 * c.val = l + c.val; omega

/-- Under the last store the buffer holds what was stored, -/
theorem canon_hit (pay : (S₂ n w).Idx → Val e) (L : List (View.Piece Val (S₂ A B) e)) (i : Fin A) (c : Fin B) (i' : Fin n) (c' : Fin w)
    (hi : i.val = r + i'.val) (hc : c.val = l + c'.val) :
    View.canon (⟨Rect.unit (s := S₂ A B) ![r, l] (S₂ n w).size inb, pay⟩ :: L) (ix2 i c) = pay (ix2 i' c') := by
  have e : ix2 i c = (Rect.unit (s := S₂ A B) ![r, l] (S₂ n w).size inb).emb (ix2 i' c' : (S₂ n w).Idx) := by
    refine Eq.trans ?_ (idx₂ i' c' (hi ▸ i.isLt) (hc ▸ c.isLt)).symm
    congr 1 <;> exact Fin.ext (by assumption)
  rw [e]
  exact View.canon_cons_emb _ _ _ _

/-- and off it what it held before. -/
theorem canon_miss (pay : (S₂ n w).Idx → Val e) (L : List (View.Piece Val (S₂ A B) e)) (i : Fin A) (c : Fin B)
    (h : ¬ ((r ≤ i.val ∧ i.val < r + n) ∧ (l ≤ c.val ∧ c.val < l + w))) :
    View.canon (⟨Rect.unit (s := S₂ A B) ![r, l] (S₂ n w).size inb, pay⟩ :: L) (ix2 i c) = View.canon L (ix2 i c) := by
  refine View.canon_cons_of_not_mem _ _ fun hm => h ?_
  have hm' := (Rect.mem_set_unit (inb := inb)).1 hm
  exact ⟨hm' 0, hm' 1⟩

theorem read_at {sig : RefSig} {κ : Kind} {sp : Space} (v : View sig κ sp (S₂ A B) e) (L : List (View.Piece Val (S₂ A B) e))
    (i : Fin n) (c : Fin w) (hi : r + i.val < A) (hc : l + c.val < B) :
    v.readCov L (Rect.unit (s := S₂ A B) ![r, l] (S₂ n w).size inb).toLoadRect (ix2 i c : (S₂ n w).Idx)
      = View.canon L (ix2 ⟨r + i.val, hi⟩ ⟨l + c.val, hc⟩) := by
  rw [View.readCov_eq_canon']
  exact congrArg (View.canon L) (idx₂ i c hi hc)
end

section
variable {e : EltTy} {Val : EltTy → Type} [∀ e, Nonempty (Val e)] {H N : ℕ}
variable {h r n : ℕ} {inb : ∀ i, (![h, 0, r] : Fin 3 → ℕ) i + (S₃ 1 1 n).size i ≤ (S₃ H 1 N).size i}

theorem idx₃ (hh : h < H) (i : Fin n) (hi : r + i.val < N) :
    (Rect.unit (s := S₃ H 1 N) ![h, 0, r] (S₃ 1 1 n).size inb).toLoadRect.idx (ix3 0 0 i : (S₃ 1 1 n).Idx) = ix3 ⟨h, hh⟩ 0 ⟨r + i.val, hi⟩ := by
  funext a
  refine Fin.ext ?_
  match a with
  | ⟨0, _⟩ => show h + 1 * 0 = h; omega
  | ⟨1, _⟩ => rfl
  | ⟨2, _⟩ => show r + 1 * i.val = r + i.val; omega

theorem canon_hit₃ (pay : (S₃ 1 1 n).Idx → Val e) (L : List (View.Piece Val (S₃ H 1 N) e)) (g : Fin H) (i : Fin N) (i' : Fin n)
    (hg : g.val = h) (hi : i.val = r + i'.val) :
    View.canon (⟨Rect.unit (s := S₃ H 1 N) ![h, 0, r] (S₃ 1 1 n).size inb, pay⟩ :: L) (ix3 g 0 i) = pay (ix3 0 0 i') := by
  have e : ix3 g 0 i = (Rect.unit (s := S₃ H 1 N) ![h, 0, r] (S₃ 1 1 n).size inb).emb (ix3 0 0 i' : (S₃ 1 1 n).Idx) := by
    refine Eq.trans ?_ (idx₃ (hg ▸ g.isLt) i' (hi ▸ i.isLt)).symm
    congr 1 <;> exact Fin.ext (by assumption)
  rw [e]
  exact View.canon_cons_emb _ _ _ _

theorem canon_miss₃ (pay : (S₃ 1 1 n).Idx → Val e) (L : List (View.Piece Val (S₃ H 1 N) e)) (g : Fin H) (i : Fin N)
    (hne : ¬ (g.val = h ∧ (r ≤ i.val ∧ i.val < r + n))) :
    View.canon (⟨Rect.unit (s := S₃ H 1 N) ![h, 0, r] (S₃ 1 1 n).size inb, pay⟩ :: L) (ix3 g 0 i) = View.canon L (ix3 g 0 i) := by
  refine View.canon_cons_of_not_mem _ _ fun hm => hne ?_
  have hm' := (Rect.mem_set_unit (inb := inb)).1 hm
  have h0 : h ≤ g.val ∧ g.val < h + 1 := hm' 0
  exact ⟨by omega, hm' 2⟩

theorem read_at₃ {sig : RefSig} {κ : Kind} {sp : Space} (v : View sig κ sp (S₃ H 1 N) e) (L : List (View.Piece Val (S₃ H 1 N) e))
    (hh : h < H) (i : Fin n) (hi : r + i.val < N) :
    v.readCov L (Rect.unit (s := S₃ H 1 N) ![h, 0, r] (S₃ 1 1 n).size inb).toLoadRect (ix3 0 0 i : (S₃ 1 1 n).Idx)
      = View.canon L (ix3 ⟨h, hh⟩ 0 ⟨r + i.val, hi⟩) := by
  rw [View.readCov_eq_canon']
  exact congrArg (View.canon L) (idx₃ hh i hi)
end

/-- A store over the whole buffer. -/
theorem canon_whole₃ {e : EltTy} {Val : EltTy → Type} [∀ e, Nonempty (Val e)] {a b c : ℕ}
    {inb : ∀ i, (![0, 0, 0] : Fin 3 → ℕ) i + (S₃ a b c).size i ≤ (S₃ a b c).size i}
    (pay : (S₃ a b c).Idx → Val e) (L : List (View.Piece Val (S₃ a b c) e)) (i : Fin a) (j : Fin b) (k : Fin c) :
    View.canon (⟨Rect.unit (s := S₃ a b c) ![0, 0, 0] (S₃ a b c).size inb, pay⟩ :: L) (ix3 i j k) = pay (ix3 i j k) := by
  have e : ix3 i j k = (Rect.unit (s := S₃ a b c) ![0, 0, 0] (S₃ a b c).size inb).emb (ix3 i j k : (S₃ a b c).Idx) := by
    funext x
    refine Fin.ext ?_
    match x with
    | ⟨0, _⟩ => show i.val = 0 + 1 * i.val; omega
    | ⟨1, _⟩ => show j.val = 0 + 1 * j.val; omega
    | ⟨2, _⟩ => show k.val = 0 + 1 * k.val; omega
  rw [e]
  refine (View.canon_cons_emb _ _ _ _).trans (congrArg pay e)

/-- A sum over the places of a range. -/
theorem sum_from (g : ℕ → ℝ) (q n : ℕ) : ∑ i : Fin n, g (q + i) = (∑ i ∈ Finset.range (q + n), g i) - ∑ i ∈ Finset.range q, g i := by
  rw [Finset.sum_range_add, add_sub_cancel_left, Fin.sum_univ_eq_sum_range (fun i => g (q + i))]

end Attn
end
-- ==== Proof.FoxBody.lean ====
module

public import proofs.«01_k».proof.Proof.Gen.FoxKernelIdeal.Value
public import proofs.«01_k».proof.Proof.Attn

@[expose] public section

set_option maxRecDepth 16384

noncomputable section

namespace Cert.Fox

open Idealize.ShloMosaic Cert.FoxKernelIdeal Cert.FoxKernelIdeal.Gen Attn

/-! # The forgetting attention's backward, tile by tile

One grid point holds the two heads of a lane pair. Its key rows go in tiles of 256, and each tile meets the queries at
or below it in units of 256 or 512 rows; the first unit of a tile is on the diagonal and masked. -/

variable {F : FTy → Type} [FloatOps F] [Named F]

/-- What one grid point reads: rows of the three projections and of the gradient, and pieces of the per-row vectors of
a head. -/
structure Reads (F : FTy → Type) where
  q : ∀ r n : ℕ, r + n ≤ 2048 → FVec F (S₂ n 128) .bf16
  k : ∀ r n : ℕ, r + n ≤ 2048 → FVec F (S₂ n 128) .bf16
  v : ∀ r n : ℕ, r + n ≤ 2048 → FVec F (S₂ n 128) .bf16
  dO : ∀ r n : ℕ, r + n ≤ 2048 → FVec F (S₂ n 128) .bf16
  lse : ∀ (h : Fin 2) (r n : ℕ), r + n ≤ 2048 → FVec F (S₃ 1 1 n) .f32
  delta : ∀ (h : Fin 2) (r n : ℕ), r + n ≤ 2048 → FVec F (S₃ 1 1 n) .f32
  c : ∀ (h : Fin 2) (r n : ℕ), r + n ≤ 2048 → FVec F (S₃ 1 1 n) .f32

/-- One unit: the head, the key tile's first row, and the query rows; `diag` says it is the masked one. -/
structure Job where
  h : Fin 2
  k0 : ℕ
  q0 : ℕ
  n : ℕ
  diag : Bool
  hk : k0 + 256 ≤ 2048
  hq : q0 + n ≤ 2048

variable (R : Reads F)

/-- The head's key lanes, scaled. -/
def kt (h : Fin 2) (k0 : ℕ) (hk : k0 + 256 ≤ 2048) : FVec F (S₂ 256 128) .bf16 :=
  mulf (keep h (shapeCast _ (R.k k0 256 hk) (casts_refl _)) (broadcast _ (Scalar.ofBits .bf16 0x0000#16)))
    (broadcast _ (Scalar.ofBits .bf16 0x3E00#16))

/-- The head's value lanes. -/
def vt (h : Fin 2) (k0 : ℕ) (hk : k0 + 256 ≤ 2048) : FVec F (S₂ 256 128) .bf16 :=
  keep h (shapeCast _ (R.v k0 256 hk) (casts_refl _)) (broadcast _ (Scalar.ofBits .bf16 0x0000#16))

variable (u : Job)

def qs : FVec F (S₂ u.n 128) .bf16 := shapeCast _ (R.q u.q0 u.n u.hq) (casts_refl _)
def dos : FVec F (S₂ u.n 128) .bf16 := shapeCast _ (R.dO u.q0 u.n u.hq) (casts_refl _)

/-- The logits of a unit, keys down and queries across, with the saved row shift taken off. -/
def st : FVec F (S₂ 256 u.n) .f32 :=
  subf (subf (matmul (DotDims.transposedRhs 256 128 u.n) none (kt R u.h u.k0 u.hk) (qs R u) (constant _ .f32 0x00000000#32))
      (broadcastTo _ (toCol (R.c u.h u.k0 256 u.hk)) (bc_col _ _)))
    (broadcastTo _ (subf (row (R.lse u.h u.q0 u.n u.hq)) (row (R.c u.h u.q0 u.n u.hq))) (bc_row _ _))

def stm : FVec F (S₂ 256 u.n) .f32 :=
  match u.diag with
  | true => select (cmpi .sge (iota .tc (S₂ 256 u.n) 32 [1] (iotas _ _)) (iota .tc (S₂ 256 u.n) 32 [0] (iotas _ _))) (st R u)
      (broadcast _ (Named.named κ "mask" 0xF149F2CA#32))
  | false => st R u

/-- The attention weights. -/
def pt : FVec F (S₂ 256 u.n) .f32 := exp (stm R u)

/-- The gradient at the logits. -/
def dst : FVec F (S₂ 256 u.n) .f32 :=
  mulf (pt R u) (subf (matmul (DotDims.transposedRhs 256 128 u.n) none (vt R u.h u.k0 u.hk) (dos R u) (constant _ .f32 0x00000000#32))
    (broadcastTo _ (row (R.delta u.h u.q0 u.n u.hq)) (bc_row _ _)))

def dsb : FVec F (S₂ 256 u.n) .bf16 := truncf .bf16 (dst R u) bitsLt_bf16_f32

/-- A unit's part of the gradient at the queries. -/
def dqOf : FVec F (S₂ u.n 128) .f32 :=
  matmul (dotTN 256 u.n 128) none (dsb R u) (kt R u.h u.k0 u.hk) (constant _ .f32 0x00000000#32)

/-- A unit's part of the gradient at the keys. -/
def dkOf : FVec F (S₂ 256 128) .f32 :=
  matmul (DotDims.plain 256 u.n 128) none (dsb R u) (qs R u) (constant _ .f32 0x00000000#32)

/-- A unit's part of the gradient at the values. -/
def dvOf : FVec F (S₂ 256 128) .f32 :=
  matmul (DotDims.plain 256 u.n 128) none (truncf .bf16 (pt R u) bitsLt_bf16_f32) (dos R u) (constant _ .f32 0x00000000#32)

/-- A unit's column sums. -/
def colOf : FVec F (S₂ 1 u.n) .f32 :=
  shapeCast _ (multiReduction .add [0] (S₁ u.n) (dst R u) 0x00000000#32 (red_row _ _) (.inl rfl) rfl) (casts_row _)

/-- A unit's row sums. -/
def rowOf : FVec F (S₂ 256 1) .f32 :=
  shapeCast _ (multiReduction .add [1] (S₁ 256) (dst R u) 0x00000000#32 (red_col _ _) (.inl rfl) rfl) (casts_col _)

/-- The sum of a nonempty list of parts, left to right. -/
def total {s : Shape} {φ : FTy} (f : Job → FVec F s φ) : List Job → FVec F s φ
  | [] => broadcast _ (Scalar.ofBits φ 0#_)
  | a :: l => l.foldl (fun x b => addf x (f b)) (f a)

/-- The query ranges below a tile. -/
structure Span where
  q0 : ℕ
  n : ℕ
  hq : q0 + n ≤ 2048

/-- One key tile: its first row and the spans below its diagonal. -/
structure Tile where
  k0 : ℕ
  hk : k0 + 256 ≤ 2048
  spans : List Span

def tiles : List Tile :=
  [⟨0, by decide, [⟨256, 512, by decide⟩, ⟨768, 512, by decide⟩, ⟨1280, 512, by decide⟩, ⟨1792, 256, by decide⟩]⟩,
   ⟨256, by decide, [⟨512, 512, by decide⟩, ⟨1024, 512, by decide⟩, ⟨1536, 512, by decide⟩]⟩,
   ⟨512, by decide, [⟨768, 512, by decide⟩, ⟨1280, 512, by decide⟩, ⟨1792, 256, by decide⟩]⟩,
   ⟨768, by decide, [⟨1024, 512, by decide⟩, ⟨1536, 512, by decide⟩]⟩,
   ⟨1024, by decide, [⟨1280, 512, by decide⟩, ⟨1792, 256, by decide⟩]⟩,
   ⟨1280, by decide, [⟨1536, 512, by decide⟩]⟩,
   ⟨1536, by decide, [⟨1792, 256, by decide⟩]⟩,
   ⟨1792, by decide, []⟩]

/-- The units of one tile and head. -/
def Tile.jobs (T : Tile) (h : Fin 2) : List Job :=
  ⟨h, T.k0, T.k0, 256, true, T.hk, T.hk⟩ :: T.spans.map fun s => ⟨h, T.k0, s.q0, s.n, false, T.hk, s.hq⟩

/-- Every unit, in the order they are added. -/
def jobs : List Job := tiles.flatMap fun T => T.jobs 0 ++ T.jobs 1

/-! ## The three buffers -/

abbrev Pc (F : FTy → Type) (s : Shape) (e : EltTy) := View.Piece (Elt F) s e

variable {κ' : Kind} {sp : Space}
variable (A : View sig κ' sp (S₂ 2048 128) .f32) (B : View sig κ' sp (S₂ 2048 384) .bf16) (C : View sig κ' sp (S₃ 2 1 2048) .f32)

/-- The query gradient's rows a unit adds to. -/
def Job.rect : Rect (S₂ 2048 128) := Rect.unit ![u.q0, 0] (S₂ u.n 128).size (inb₂ u.hq (by decide))

def dqList (l : List Job) : List (Pc F (S₂ 2048 128) .f32) :=
  l.foldl (fun L u => ⟨u.rect, shapeCast (S₂ u.n 128) (addf (A.readCov L u.rect.toLoadRect) (dqOf R u)) (casts_refl _)⟩ :: L)
    [⟨Rect.unit ![0, 0] (S₂ 2048 128).size (inb₂ (by decide) (by decide)),
      shapeCast _ (broadcast _ (Scalar.ofBits .f32 0x00000000#32)) (casts_refl _)⟩]

/-- The rows of a head's part of the key or value gradient. -/
def slot (l : ℕ) (hl : l + 128 ≤ 384) (T : Tile) : Rect (S₂ 2048 384) :=
  Rect.unit ![T.k0, l] (S₂ 256 128).size (inb₂ T.hk hl)

/-- The key gradient of a tile and head, over what its rows held. -/
def dkPay (T : Tile) (h : Fin 2) (old : FVec F (S₂ 256 128) .bf16) : FVec F (S₂ 256 128) .bf16 :=
  keep h (truncf .bf16 (mulf (total (dkOf R) (T.jobs h)) (broadcast _ (Scalar.ofBits .f32 0x3E000000#32))) bitsLt_bf16_f32)
    (shapeCast _ old (casts_refl _))

/-- The value gradient of a tile and head, over what its rows held. -/
def dvPay (T : Tile) (h : Fin 2) (old : FVec F (S₂ 256 128) .bf16) : FVec F (S₂ 256 128) .bf16 :=
  keep h (truncf .bf16 (total (dvOf R) (T.jobs h)) bitsLt_bf16_f32) (shapeCast _ old (casts_refl _))

def dkvList (l : List (Tile × Fin 2)) : List (Pc F (S₂ 2048 384) .bf16) :=
  l.foldl (fun L p =>
      let L' : List (Pc F (S₂ 2048 384) .bf16) := ⟨slot 128 (by decide) p.1, dkPay R p.1 p.2 (B.readCov L (slot 128 (by decide) p.1).toLoadRect)⟩ :: L
      ⟨slot 256 (by decide) p.1, dvPay R p.1 p.2 (B.readCov L' (slot 256 (by decide) p.1).toLoadRect)⟩ :: L')
    [⟨Rect.unit ![0, 0] (S₂ 2048 384).size (inb₂ (by decide) (by decide)), broadcast _ (Scalar.ofBits .bf16 0x0000#16)⟩]

def heads : List (Tile × Fin 2) := tiles.flatMap fun T => [(T, 0), (T, 1)]

/-- The stores into the block of the three gradients, last first. -/
def qkvList : List (Pc F (S₂ 2048 384) .bf16) :=
  ⟨Rect.unit ![0, 0] (S₂ 2048 128).size (inb₂ (by decide) (by decide)),
    truncf .bf16 (A.readCov (dqList R A jobs)
      (Rect.unit (s := S₂ 2048 128) ![0, 0] (S₂ 2048 128).size (inb₂ (by decide) (by decide))).toLoadRect) bitsLt_bf16_f32⟩ ::
    dkvList R B heads

/-- A piece of the row of gate gradients of a head. -/
def lane (h : Fin 2) (r n : ℕ) (hn : r + n ≤ 2048) : Rect (S₃ 2 1 2048) :=
  Rect.unit ![h.val, 0, r] (S₃ 1 1 n).size (inb₃ h hn)

/-- One change of the gate gradients: a unit's column sums added, or a tile's row sums taken off. -/
inductive Step where
  | col (u : Job)
  | row (T : Tile) (h : Fin 2)

def dcList (l : List Step) : List (Pc F (S₃ 2 1 2048) .f32) :=
  l.foldl (fun L s => match s with
      | .col u => ⟨lane u.h u.q0 u.n u.hq,
          shapeCast _ (addf (row (C.readCov L (lane u.h u.q0 u.n u.hq).toLoadRect)) (colOf R u)) (casts_add _)⟩ :: L
      | .row T h => ⟨lane h T.k0 256 T.hk,
          shapeCast _ (subf (row (C.readCov L (lane h T.k0 256 T.hk).toLoadRect)) (toRow (total (rowOf R) (T.jobs h)))) (casts_add _)⟩ :: L)
    [⟨Rect.unit ![0, 0, 0] (S₃ 2 1 2048).size (by decide), broadcast _ (Scalar.ofBits .f32 0x00000000#32)⟩]

def steps : List Step :=
  tiles.flatMap fun T => (T.jobs 0 ++ T.jobs 1).map .col ++ [.row T 0, .row T 1]

variable (c : Dev nD) (i : grid0.Coords)
 (arg2 : Memref sig Kind.tc Space.vmem S2048x384 EltTy.bf16) (harg2 : arg2.IsWhole)
 (arg3 : Memref sig Kind.tc Space.vmem S2048x128 EltTy.bf16) (harg3 : arg3.IsWhole)
 (arg4 : Memref sig Kind.tc Space.vmem S2x1x2048 EltTy.f32) (harg4 : arg4.IsWhole)
 (arg5 : Memref sig Kind.tc Space.vmem S2x1x2048 EltTy.f32) (harg5 : arg5.IsWhole)
 (arg6 : Memref sig Kind.tc Space.vmem S2x1x2048 EltTy.f32) (harg6 : arg6.IsWhole)
 (arg7 : Memref sig Kind.tc Space.vmem S2048x384 EltTy.bf16) (harg7 : arg7.IsWhole)
 (arg8 : Memref sig Kind.tc Space.vmem S2x1x2048 EltTy.f32) (harg8 : arg8.IsWhole)
 (arg9 : Memref sig Kind.tc Space.vmem S2048x128 EltTy.f32) (harg9 : arg9.IsWhole)
 (x0 : Vec F S2048x384 .bf16) (x1 : Vec F S2048x128 .bf16) (x2 x3 x4 : Vec F S2x1x2048 .f32)

/-- The reads of one grid point. -/
def reads : Reads F where
  q r n h := View.readAt (Elt F) arg2.view (Rect.unit (s := S₂ 2048 384) ![r, 0] (S₂ n 128).size (inb₂ h (by decide))).toLoadRect (harg2.unread x0)
  k r n h := View.readAt (Elt F) arg2.view (Rect.unit (s := S₂ 2048 384) ![r, 128] (S₂ n 128).size (inb₂ h (by decide))).toLoadRect (harg2.unread x0)
  v r n h := View.readAt (Elt F) arg2.view (Rect.unit (s := S₂ 2048 384) ![r, 256] (S₂ n 128).size (inb₂ h (by decide))).toLoadRect (harg2.unread x0)
  dO r n h := View.readAt (Elt F) arg3.view (Rect.unit (s := S₂ 2048 128) ![r, 0] (S₂ n 128).size (inb₂ h (by decide))).toLoadRect (harg3.unread x1)
  lse g r n h := View.readAt (Elt F) arg4.view (Rect.unit (s := S₃ 2 1 2048) ![g.val, 0, r] (S₃ 1 1 n).size (inb₃ g h)).toLoadRect (harg4.unread x2)
  delta g r n h := View.readAt (Elt F) arg5.view (Rect.unit (s := S₃ 2 1 2048) ![g.val, 0, r] (S₃ 1 1 n).size (inb₃ g h)).toLoadRect (harg5.unread x3)
  c g r n h := View.readAt (Elt F) arg6.view (Rect.unit (s := S₃ 2 1 2048) ![g.val, 0, r] (S₃ 1 1 n).size (inb₃ g h)).toLoadRect (harg6.unread x4)

/-- What the body leaves in the block of the three gradients: the last store over each index. -/
theorem out5_eq : out0_A_5 c i arg2 harg2 arg3 harg3 arg4 harg4 arg5 harg5 arg6 harg6 arg7 harg7 arg8 harg8 arg9 harg9 x0 x1 x2 x3 x4
    = View.canon (qkvList (reads arg2 harg2 arg3 harg3 arg4 harg4 arg5 harg5 arg6 harg6 x0 x1 x2 x3 x4) arg9.view arg7.view) := by
  refine (View.read_writes_junk_eq_canon _ _).trans (congrArg View.canon ?_)
  sl_kernel_rfl

/-- What it leaves in the gate gradients. -/
theorem out6_eq : out0_A_6 c i arg2 harg2 arg3 harg3 arg4 harg4 arg5 harg5 arg6 harg6 arg7 harg7 arg8 harg8 arg9 harg9 x0 x1 x2 x3 x4
    = View.canon (dcList (reads arg2 harg2 arg3 harg3 arg4 harg4 arg5 harg5 arg6 harg6 x0 x1 x2 x3 x4) arg8.view steps) := by
  refine (View.read_writes_junk_eq_canon _ _).trans (congrArg View.canon ?_)
  sl_kernel_rfl

end Cert.Fox

end
-- ==== Proof.Soft.lean ====
module

public import proofs.«01_k».proof.Proof.Reals

/-! The causal softmax of one head, over the reals: its weights, and the gradient at its logits. -/

@[expose] public section
noncomputable section

open Idealize.ShloMosaic Reals

namespace Soft

/-- Words of small numbers compare as the numbers do. -/
theorem sle_nat (x y : ℕ) (hx : x < 2 ^ 31) (hy : y < 2 ^ 31) : (BitVec.ofNat 32 x).sle (BitVec.ofNat 32 y) = decide (x ≤ y) := by
  have ex : (BitVec.ofNat 32 x).toNat = x := by rw [BitVec.toNat_ofNat]; omega
  have ey : (BitVec.ofNat 32 y).toNat = y := by rw [BitVec.toNat_ofNat]; omega
  rw [BitVec.sle_eq_decide, BitVec.toInt_eq_toNat_of_lt (by omega), BitVec.toInt_eq_toNat_of_lt (by omega), ex, ey]
  exact decide_eq_decide.2 (by omega)

theorem div_coe (x y : ℝ) (hy : y ≠ 0) : Ideal.div (x : EReal) (y : EReal) = ((x / y : ℝ) : EReal) := by
  rw [Ideal.div_coe hy, ← EReal.coe_mul, mul_one_div]

theorem eighth : (Ideal.ofBits .f32 0x3E000000#32 : EReal) = ((1 / 8 : ℝ) : EReal) := by
  simp [Ideal.ofBits, Ideal.ieee]
  rw [← EReal.coe_mul]
  norm_num
theorem bot : (Ideal.ofBits .f32 0xFF800000#32 : EReal) = ⊥ := by simp [Ideal.ofBits, Ideal.ieee]
theorem max_bot (x : EReal) : max (Ideal.ofBits .f32 0xFF800000#32 : EReal) x = x := by
  rw [Soft.bot]
  exact max_eq_right bot_le
theorem one : (Ideal.ofBits .f32 0x3F800000#32 : EReal) = ((1 : ℝ) : EReal) := by
  simp [Ideal.ofBits, Ideal.ieee]
  rw [← EReal.coe_mul]
  norm_num

variable (s : ℕ → ℕ → ℝ) (M : ℕ → ℝ) (P : ℕ → ℕ → ℝ)

/-- The exponential of a logit less the row's shift; nothing above the diagonal. -/
def ex (i t : ℕ) : ℝ := if t ≤ i then Real.exp (s i t - M i) else 0
/-- The row's sum. -/
def Z (i : ℕ) : ℝ := ∑ t : Fin 2048, ex s M i t
/-- The weight. -/
def pr (i t : ℕ) : ℝ := ex s M i t / Z s M i
/-- The row's mean of the gradient at the weights. -/
def dl (i : ℕ) : ℝ := ∑ t : Fin 2048, pr s M i t * P i t
/-- The gradient at the logits. -/
def gs (i t : ℕ) : ℝ := pr s M i t * (P i t - dl s M P i)

theorem ex_nonneg (i t : ℕ) : 0 ≤ ex s M i t := by
  unfold ex; split_ifs
  · exact (Real.exp_pos _).le
  · exact le_rfl

theorem Z_pos (i : ℕ) : 0 < Z s M i := by
  refine Finset.sum_pos' (fun t _ => ex_nonneg s M i t) ⟨⟨0, by norm_num⟩, Finset.mem_univ _, ?_⟩
  show 0 < ex s M i 0
  rw [ex, if_pos (Nat.zero_le _)]
  exact Real.exp_pos _

/-- The weight, from the logarithm of the row's sum. -/
theorem pr_eq (i t : ℕ) : (if t ≤ i then Real.exp (s i t - (M i + Real.log (Z s M i))) else 0) = pr s M i t := by
  unfold pr ex
  split_ifs
  · rw [← sub_sub, Real.exp_sub, Real.exp_log (Z_pos s M i)]
  · rw [zero_div]

/-- The gradient as the quotient rule gives it. -/
theorem gs_eq (i t : ℕ) :
    (P i t / Z s M i + -∑ k : Fin 2048, P i k * (1 / (Z s M i * Z s M i)) * ex s M i k) * ex s M i t = gs s M P i t := by
  have hz := (Z_pos s M i).ne'
  have e : ∑ k : Fin 2048, P i k * (1 / (Z s M i * Z s M i)) * ex s M i k = dl s M P i / Z s M i := by
    rw [dl, Finset.sum_div]
    refine Finset.sum_congr rfl fun k _ => ?_
    unfold pr
    field_simp
  rw [e, gs, pr]
  field_simp
  ring

/-- The greatest of reals and minus infinities, one of them a real, is a real. -/
theorem foldl_max {ι : Type*} (f : ι → EReal) (hf : ∀ n, f n = ⊥ ∨ ∃ r : ℝ, f n = r) : ∀ (l : List ι) (a : EReal), (a = ⊥ ∨ ∃ r : ℝ, a = r) →
    ((∃ r : ℝ, a = r) ∨ ∃ n ∈ l, ∃ r : ℝ, f n = r) → ∃ r : ℝ, l.foldl (fun x n => max x (f n)) a = r
  | [], a, _, h => by
    rcases h with h | ⟨n, hn, _⟩
    · exact h
    · simp at hn
  | b :: l, a, ha, h => by
    rw [List.foldl_cons]
    have hab : max a (f b) = ⊥ ∨ ∃ r : ℝ, max a (f b) = r := by
      rcases ha with rfl | ⟨r, rfl⟩
      · simpa using hf b
      · rcases hf b with e | ⟨r', e⟩ <;> rw [e]
        · exact .inr ⟨r, by simp⟩
        · exact .inr ⟨max r r', coe_max _ _⟩
    refine foldl_max f hf l _ hab ?_
    rcases h with ⟨r, rfl⟩ | ⟨n, hn, r, e⟩
    · refine .inl ?_
      rcases hf b with e | ⟨r', e⟩ <;> rw [e]
      · exact ⟨r, by simp⟩
      · exact ⟨max r r', coe_max _ _⟩
    · rcases List.mem_cons.1 hn with rfl | hn
      · refine .inl ?_
        rw [e]
        rcases ha with rfl | ⟨r', rfl⟩
        · exact ⟨r, by simp⟩
        · exact ⟨max r' r, coe_max _ _⟩
      · exact .inr ⟨n, hn, r, e⟩

/-- So a maximum over axes is a real wherever one of the values it is taken over is. -/
theorem reduce_max {s t u : Shape} {axes : List (Fin s.rank)} (x : FVec Ideal s .f32) (init : FVec Ideal u .f32) (h : s.ReducesTo axes t)
    (hu : 0 < u.numel) (j : t.Idx) (hx : ∀ i, x i = (⊥ : EReal) ∨ ∃ r : ℝ, x i = (r : EReal)) (hi : init (Shape.Idx.first hu) = (⊥ : EReal))
    (i₀ : s.Idx) (hd : h.drop i₀ = j) (h₀ : ∃ r : ℝ, x i₀ = (r : EReal)) :
    ∃ r : ℝ, Host.reduce (FloatOps.maximumf (F := Ideal) (φ := .f32)) x init h hu j = (r : EReal) :=
  foldl_max (fun n => x (s.rowMajor.symm n)) (fun n => hx _) _ _ (.inl hi)
    (.inr ⟨s.rowMajor i₀, by simp [hd], by simpa using h₀⟩)

end Soft
end
-- ==== Proof.FoxMath.lean ====
module

public import proofs.«01_k».proof.Proof.FoxBody
public import proofs.«01_k».proof.Proof.Soft

@[expose] public section

set_option maxRecDepth 16384

noncomputable section

namespace Cert.Fox

open Idealize.ShloMosaic Cert.FoxKernelIdeal Cert.FoxKernelIdeal.Gen Attn

/-- The named mask is minus infinity. -/
theorem mask_eq : (Named.named κ "mask" 0xF149F2CA#32 : Ideal .f32) = (⊥ : EReal) :=
  IdealRules.named_const.ideal_named_scalar _ _ _ _ rfl

/-- The reads of a grid point hold these reals. -/
structure Reads.Holds (R : Reads Ideal) (Q K V D : ℕ → ℕ → ℝ) (L Δ C : Fin 2 → ℕ → ℝ) : Prop where
  q : ∀ r n h, Is (R.q r n h) fun i l => Q (r + i) l
  k : ∀ r n h, Is (R.k r n h) fun i l => K (r + i) l
  v : ∀ r n h, Is (R.v r n h) fun i l => V (r + i) l
  dO : ∀ r n h, Is (R.dO r n h) fun i l => D (r + i) l
  lse : ∀ g r n h, IsRow (R.lse g r n h) fun i => L g (r + i)
  delta : ∀ g r n h, IsRow (R.delta g r n h) fun i => Δ g (r + i)
  c : ∀ g r n h, IsRow (R.c g r n h) fun i => C g (r + i)

section
variable (Q K V D : ℕ → ℕ → ℝ) (L Δ C : Fin 2 → ℕ → ℝ)

/-- The head's scaled key at a lane. -/
def keyOf (h : Fin 2) (t l : ℕ) : ℝ := (if l / 64 = h.val then K t l else 0) * (1 / 8)
def valOf (h : Fin 2) (t l : ℕ) : ℝ := if l / 64 = h.val then V t l else 0
/-- The shifted logit of key `t` and query `i`. -/
def logit (h : Fin 2) (t i : ℕ) : ℝ := (∑ l : Fin 128, keyOf K h t l * Q i l) - C h t - (L h i - C h i)
/-- The attention weight. -/
def wt (h : Fin 2) (t i : ℕ) : ℝ := if t ≤ i then Real.exp (logit Q K L C h t i) else 0
/-- The gradient at the logit. -/
def grad (h : Fin 2) (t i : ℕ) : ℝ := wt Q K L C h t i * ((∑ l : Fin 128, valOf V h t l * D i l) - Δ h i)

theorem grad_zero {h : Fin 2} {t i : ℕ} (hti : i < t) : grad Q K V D L Δ C h t i = 0 := by
  rw [grad, wt, if_neg (by omega), zero_mul]
theorem wt_zero {h : Fin 2} {t i : ℕ} (hti : i < t) : wt Q K L C h t i = 0 := by
  rw [wt, if_neg (by omega)]
end

/-- A unit's mask is the causal one. -/
def Job.Ok (u : Job) : Prop := if u.diag then u.k0 = u.q0 ∧ u.n = 256 else u.k0 + 256 ≤ u.q0

instance (u : Job) : Decidable u.Ok := by unfold Job.Ok; infer_instance

theorem jobs_ok : ∀ u ∈ jobs, u.Ok := by decide

theorem eighth : (Ideal.ofBits .bf16 0x3E00#16 : EReal) = ((1 / 8 : ℝ) : EReal) := by
  simp [Ideal.ofBits, Ideal.ieee]
  rw [← EReal.coe_mul]
  norm_num

theorem eighth' : (Ideal.ofBits .f32 0x3E000000#32 : EReal) = ((1 / 8 : ℝ) : EReal) := by
  simp [Ideal.ofBits, Ideal.ieee]
  rw [← EReal.coe_mul]
  norm_num

variable {R : Reads Ideal} {Q K V D : ℕ → ℕ → ℝ} {L Δ C : Fin 2 → ℕ → ℝ} (H : R.Holds Q K V D L Δ C)
include H

theorem kt_at (h : Fin 2) (k0 hk) : Is (kt R h k0 hk) fun r l => keyOf K h (k0 + r) l :=
  (Is.mul (φ := .bf16) (((H.k k0 256 hk).self _).keep (φ := .bf16) (Is.const _ 0 (by simp [Scalar.ofBits, Ideal.ofBits, Ideal.ieee])) h)
    (Is.const _ (1 / 8) eighth)).congr fun _ _ => rfl

theorem vt_at (h : Fin 2) (k0 hk) : Is (vt R h k0 hk) fun r l => valOf V h (k0 + r) l :=
  (((H.v k0 256 hk).self _).keep (φ := .bf16) (Is.const _ 0 (by simp [Scalar.ofBits, Ideal.ofBits, Ideal.ieee])) h).congr fun _ _ => rfl

variable (u : Job)

theorem qs_at : Is (qs R u) fun r l => Q (u.q0 + r) l := (H.q u.q0 u.n u.hq).self _
theorem dos_at : Is (dos R u) fun r l => D (u.q0 + r) l := (H.dO u.q0 u.n u.hq).self _

theorem st_at : Is (st R u) fun t i => logit Q K L C u.h (u.k0 + t) (u.q0 + i) :=
  Is.sub (φ := .f32) (Is.sub (φ := .f32) ((kt_at H u.h u.k0 u.hk).matmulNT (φ := .bf16) (ψ := .bf16) (qs_at H u)) ((H.c u.h u.k0 256 u.hk).toCol.bcCol (φ := .f32) _))
    (Is.bcRow (φ := .f32) (Is.sub (φ := .f32) (H.lse u.h u.q0 u.n u.hq).row (H.c u.h u.q0 u.n u.hq).row) _)

theorem pt_at (hu : u.Ok) : Is (pt R u) fun t i => wt Q K L C u.h (u.k0 + t) (u.q0 + i) := fun t i => by
  obtain ⟨h, k0, q0, n, d, hk, hq⟩ := u
  cases d with
  | false =>
    have hle : k0 + t.val ≤ q0 + i.val := by
      have : k0 + 256 ≤ q0 := by simpa [Job.Ok] using hu
      omega
    show (Ideal.exp _ : EReal) = _
    refine (congrArg Ideal.exp (st_at H _ t i)).trans ?_
    simp [wt, hle]
  | true =>
    obtain ⟨rfl, rfl⟩ : k0 = q0 ∧ n = 256 := by simpa [Job.Ok] using hu
    have e : cmpi .sge (iota .tc (S₂ 256 256) 32 [1] (iotas _ _)) (iota .tc (S₂ 256 256) 32 [0] (iotas _ _)) (ix2 t i)
        = BitVec.ofBool (decide (t ≤ i)) := by
      show BitVec.ofBool ((BitVec.ofNat 32 (0 * 256 + t.val)).sle (BitVec.ofNat 32 (0 * 256 + i.val))) = _
      exact congrArg BitVec.ofBool ((Soft.sle_nat _ _ (by omega) (by have := i.isLt; simp only at this; omega)).trans
        (decide_eq_decide.2 (by rw [zero_mul, zero_add, zero_add]; exact Fin.le_def.symm)))
    show (Ideal.exp (if cmpi .sge (iota .tc (S₂ 256 256) 32 [1] (iotas _ _)) (iota .tc (S₂ 256 256) 32 [0] (iotas _ _)) (ix2 t i) = 1
      then st R _ (ix2 t i) else (Named.named κ "mask" 0xF149F2CA#32 : Ideal .f32)) : EReal) = _
    rw [e, mask_eq]
    by_cases hti : t ≤ i
    · have hti' : k0 + t.val ≤ k0 + i.val := by have := Fin.le_def.1 hti; omega
      rw [if_pos (by simp [hti])]
      refine (congrArg Ideal.exp (st_at H _ t i)).trans ?_
      simp [wt, hti']
    · have hti' : ¬ k0 + t.val ≤ k0 + i.val := by have := fun h => hti (Fin.le_def.2 h); omega
      rw [if_neg (by simp [hti])]
      simp [wt, hti']

theorem dst_at (hu : u.Ok) : Is (dst R u) fun t i => grad Q K V D L Δ C u.h (u.k0 + t) (u.q0 + i) :=
  Is.mul (φ := .f32) (pt_at H u hu) (Is.sub (φ := .f32) ((vt_at H u.h u.k0 u.hk).matmulNT (φ := .bf16) (ψ := .bf16) (dos_at H u))
    ((H.delta u.h u.q0 u.n u.hq).row.bcRow (φ := .f32) _))

theorem dqOf_at (hu : u.Ok) : Is (dqOf R u) fun i l => ∑ t : Fin 256, grad Q K V D L Δ C u.h (u.k0 + t) (u.q0 + i) * keyOf K u.h (u.k0 + t) l :=
  Is.matmulTN (φ := .bf16) (ψ := .bf16) ((dst_at H u hu).trunc bitsLt_bf16_f32) (kt_at H u.h u.k0 u.hk)

theorem dkOf_at (hu : u.Ok) : Is (dkOf R u) fun t l => ∑ i : Fin u.n, grad Q K V D L Δ C u.h (u.k0 + t) (u.q0 + i) * Q (u.q0 + i) l :=
  Is.matmulNN (φ := .bf16) (ψ := .bf16) ((dst_at H u hu).trunc bitsLt_bf16_f32) (qs_at H u)

theorem dvOf_at (hu : u.Ok) : Is (dvOf R u) fun t l => ∑ i : Fin u.n, wt Q K L C u.h (u.k0 + t) (u.q0 + i) * D (u.q0 + i) l :=
  Is.matmulNN (φ := .bf16) (ψ := .bf16) ((pt_at H u hu).trunc bitsLt_bf16_f32) (dos_at H u)

theorem colOf_at (hu : u.Ok) : Is (colOf R u) fun _ i => ∑ t : Fin 256, grad Q K V D L Δ C u.h (u.k0 + t) (u.q0 + i) :=
  (dst_at H u hu).colSum _ _ _ _

theorem rowOf_at (hu : u.Ok) : Is (rowOf R u) fun t _ => ∑ i : Fin u.n, grad Q K V D L Δ C u.h (u.k0 + t) (u.q0 + i) :=
  (dst_at H u hu).rowSum _ _ _ _

end Cert.Fox

end
-- ==== Proof.FoxFold.lean ====
module

public import proofs.«01_k».proof.Proof.FoxMath

@[expose] public section

set_option maxRecDepth 16384

noncomputable section

namespace Cert.Fox

open Idealize.ShloMosaic Cert.FoxKernelIdeal Cert.FoxKernelIdeal.Gen Attn

/-! ## Sums over the units -/

theorem jobs_step : ∀ u ∈ jobs, 256 ∣ u.q0 ∧ 256 ∣ u.n := by decide

/-- The units that meet query `i` are, for each head, the key tiles up to `i`. -/
theorem sum_jobs (f : Fin 2 → ℕ → ℝ) {i : ℕ} (hi : i < 2048) (hz : ∀ h t, i < t → f h t = 0) :
    (jobs.map fun u => if u.q0 ≤ i ∧ i < u.q0 + u.n then ∑ t : Fin 256, f u.h (u.k0 + t) else 0).sum = ∑ h, ∑ t : Fin 2048, f h t := by
  have e : ∀ u ∈ jobs, (if u.q0 ≤ i ∧ i < u.q0 + u.n then ∑ t : Fin 256, f u.h (u.k0 + t) else 0)
      = if u.q0 / 256 ≤ i / 256 ∧ i / 256 < u.q0 / 256 + u.n / 256 then ∑ t : Fin 256, f u.h (u.k0 + t) else 0 := fun u hu => by
    obtain ⟨⟨x, hx⟩, ⟨y, hy⟩⟩ := jobs_step u hu
    refine if_congr ?_ rfl rfl
    omega
  rw [List.map_congr_left e]
  have hF : ∀ h k, i < k → ∑ t : Fin 256, f h (k + t) = 0 := fun h k hk => Finset.sum_eq_zero fun t _ => hz _ _ (by omega)
  have hs : ∀ h, ∑ t : Fin 2048, f h t = ∑ b : Fin 8, ∑ t : Fin 256, f h (256 * b + t) := fun h => by
    refine (Reals.sum_split (a := 8) (b := 256) fun t => f h t).trans ?_
    refine Finset.sum_congr rfl fun b _ => Finset.sum_congr rfl fun t _ => congrArg (f h) ?_
    show t.val + 256 * b.val = _
    omega
  simp only [hs, Fin.sum_univ_eight, Fin.sum_univ_two]
  generalize hG : (fun (h : Fin 2) (k : ℕ) => ∑ t : Fin 256, f h (k + t)) = G at *
  have hg : ∀ h k, (∑ t : Fin 256, f h (k + t)) = G h k := fun h k => by rw [← hG]
  simp only [hg] at hF ⊢
  obtain ⟨b, hb⟩ : ∃ b : Fin 8, i / 256 = b.val := ⟨⟨i / 256, by omega⟩, rfl⟩
  rw [hb]
  fin_cases b <;> simp only [] at hb <;> simp [jobs, tiles, Tile.jobs] <;> (try simp (disch := omega) only [hF, add_zero]) <;> ring

theorem Tile.jobs_ok : ∀ T ∈ tiles, ∀ h, ∀ u ∈ T.jobs h, u.Ok ∧ u.h = h ∧ u.k0 = T.k0 := by decide

/-- A tile's units run through the queries from its first row on. -/
theorem sum_tile (g : ℕ → ℝ) (h : Fin 2) : ∀ T ∈ tiles, (∀ i < T.k0, g i = 0) →
    ((T.jobs h).map fun u => ∑ i : Fin u.n, g (u.q0 + i)).sum = ∑ i : Fin 2048, g i := by
  have hP : ∑ i : Fin 2048, g i = ∑ i ∈ Finset.range 2048, g i := Fin.sum_univ_eq_sum_range g 2048
  simp only [sum_from, hP]
  generalize hS : (fun n => ∑ i ∈ Finset.range n, g i) = P
  have hg : ∀ n, ∑ i ∈ Finset.range n, g i = P n := fun n => by rw [← hS]
  intro T hT hz
  have h0 : P T.k0 = 0 := by
    rw [← hg]; exact Finset.sum_eq_zero fun i hi => hz i (Finset.mem_range.1 hi)
  simp only [hg]
  revert h0
  clear hz hS hP
  revert T
  simp [tiles, Tile.jobs]

theorem Is.total {s t : ℕ} {f : Job → FVec Ideal (S₂ s t) .f32} {F : Job → ℕ → ℕ → ℝ} (a : Job) (l : List Job)
    (h : ∀ u ∈ a :: l, Is (f u) (F u)) : Is (Fox.total f (a :: l)) fun r c => ((a :: l).map fun u => F u r c).sum := by
  induction l using List.reverseRecOn with
  | nil => exact (h a (by simp)).congr fun r c => by simp
  | append_singleton l b ih =>
    have e : Fox.total f (a :: (l ++ [b])) = addf (Fox.total f (a :: l)) (f b) := by
      simp [Fox.total, List.foldl_append]
    rw [e]
    refine (Is.add (φ := .f32) (ih fun u hu => h u (by simp at hu ⊢; tauto)) (h b (by simp))).congr fun r c => ?_
    simp [add_assoc]

section
variable {R : Reads Ideal} {Q K V D : ℕ → ℕ → ℝ} {L Δ C : Fin 2 → ℕ → ℝ} (H : R.Holds Q K V D L Δ C)
variable {κ' : Kind} {sp : Space}
variable (A : View sig κ' sp (S₂ 2048 128) .f32) (B : View sig κ' sp (S₂ 2048 384) .bf16) (G : View sig κ' sp (S₃ 2 1 2048) .f32)
include H

/-! ## The query gradient -/

theorem dqList_at (l : List Job) (hl : ∀ u ∈ l, u.Ok) (i : Fin 2048) (c : Fin 128) :
    View.canon (dqList R A l) (ix2 i c) = (((l.map fun u => if u.q0 ≤ i.val ∧ i.val < u.q0 + u.n then
      ∑ t : Fin 256, grad Q K V D L Δ C u.h (u.k0 + t) i * keyOf K u.h (u.k0 + t) c else 0).sum : ℝ) : EReal) := by
  induction l using List.reverseRecOn with
  | nil =>
    refine (canon_hit _ _ i c i c (by simp) (by simp)).trans ?_
    rw [shapeCast_id]
    show Ideal.ofBits .f32 0x00000000#32 = _
    simp [Ideal.ofBits, Ideal.ieee]
  | append_singleton l u ih =>
    have ih' := ih fun v hv => hl v (by simp [hv])
    have hu := hl u (by simp)
    have e : dqList R A (l ++ [u]) = ⟨u.rect, shapeCast (S₂ u.n 128) (addf (A.readCov (dqList R A l) u.rect.toLoadRect) (dqOf R u)) (casts_refl _)⟩ :: dqList R A l := by
      simp only [dqList, List.foldl_append, List.foldl_cons, List.foldl_nil]
      rfl
    rw [e, List.map_append, List.sum_append, List.map_singleton, List.sum_singleton, EReal.coe_add, ← ih']
    by_cases hc : u.q0 ≤ i.val ∧ i.val < u.q0 + u.n
    · rw [if_pos hc]
      have hi' : i.val - u.q0 < u.n := by omega
      have hi : u.q0 + (i.val - u.q0) = i.val := by omega
      refine (canon_hit _ _ i c ⟨i.val - u.q0, hi'⟩ c hi.symm (by simp)).trans ?_
      rw [shapeCast_id]
      refine congrArg₂ (· + ·) ((read_at A _ (⟨i.val - u.q0, hi'⟩ : Fin u.n) c (by show u.q0 + (i.val - u.q0) < 2048; omega) (by omega)).trans ?_)
        ((dqOf_at H u hu ⟨i.val - u.q0, hi'⟩ c).trans ?_)
      · congr 1; congr 1 <;> exact Fin.ext (by simp [hi])
      · simp only [hi]
    · rw [if_neg hc, EReal.coe_zero, add_zero]
      exact canon_miss _ _ i c fun h => hc h.1

theorem dq_at (i : Fin 2048) (c : Fin 128) : View.canon (dqList R A jobs) (ix2 i c)
    = ((∑ h, ∑ t : Fin 2048, grad Q K V D L Δ C h t i * keyOf K h t c : ℝ) : EReal) :=
  (dqList_at H A jobs jobs_ok i c).trans (congrArg _ (sum_jobs (fun h t => grad Q K V D L Δ C h t i * keyOf K h t c) i.isLt
    fun h t ht => by rw [grad_zero _ _ _ _ _ _ _ ht, zero_mul]))

/-! ## The key and value gradients -/

/-- The key gradient of a head. -/
def dkR (Q K V D : ℕ → ℕ → ℝ) (L Δ C : Fin 2 → ℕ → ℝ) (h : Fin 2) (t c : ℕ) : ℝ := (∑ i : Fin 2048, grad Q K V D L Δ C h t i * Q i c) * (1 / 8)
/-- The value gradient of a head. -/
def dvR (Q K V D : ℕ → ℕ → ℝ) (L Δ C : Fin 2 → ℕ → ℝ) (h : Fin 2) (t c : ℕ) : ℝ := ∑ i : Fin 2048, wt Q K L C h t i * D i c

theorem dkPay_at (T : Tile) (hT : T ∈ tiles) (h : Fin 2) {old : FVec Ideal (S₂ 256 128) .bf16} {f : ℕ → ℕ → ℝ} (ho : Is old f) :
    Is (dkPay R T h old) fun t c => if c / 64 = h.val then dkR Q K V D L Δ C h (T.k0 + t) c else f t c := by
  refine Is.keep (φ := .bf16) (Is.trunc (Is.mul (φ := .f32) ?_ (Is.const _ (1 / 8) eighth')) bitsLt_bf16_f32) (ho.self _) h
  refine (Is.total _ _ fun u hu => dkOf_at H u (Tile.jobs_ok T hT h u hu).1).congr fun t c => ?_
  refine Eq.trans ?_ (sum_tile (fun i => grad Q K V D L Δ C h (T.k0 + t) i * Q i c) h T hT fun i hi => by
    rw [grad_zero _ _ _ _ _ _ _ (by omega), zero_mul])
  refine congrArg List.sum (List.map_congr_left fun u hu => ?_)
  obtain ⟨-, e1, e2⟩ := Tile.jobs_ok T hT h u hu
  simp only [e1, e2]

theorem dvPay_at (T : Tile) (hT : T ∈ tiles) (h : Fin 2) {old : FVec Ideal (S₂ 256 128) .bf16} {f : ℕ → ℕ → ℝ} (ho : Is old f) :
    Is (dvPay R T h old) fun t c => if c / 64 = h.val then dvR Q K V D L Δ C h (T.k0 + t) c else f t c := by
  refine Is.keep (φ := .bf16) (Is.trunc ?_ bitsLt_bf16_f32) (ho.self _) h
  refine (Is.total _ _ fun u hu => dvOf_at H u (Tile.jobs_ok T hT h u hu).1).congr fun t c => ?_
  refine Eq.trans ?_ (sum_tile (fun i => wt Q K L C h (T.k0 + t) i * D i c) h T hT fun i hi => by
    rw [wt_zero _ _ _ _ (by omega), zero_mul])
  refine congrArg List.sum (List.map_congr_left fun u hu => ?_)
  obtain ⟨-, e1, e2⟩ := Tile.jobs_ok T hT h u hu
  simp only [e1, e2]

omit H in
/-- Row `t` of head `g` is among these. -/
def Hit (l : List (Tile × Fin 2)) (t g : ℕ) : Prop := ∃ p ∈ l, (p.1.k0 ≤ t ∧ t < p.1.k0 + 256) ∧ p.2.val = g

open Classical in
/-- What the block of key and value gradients holds after these tiles. -/
def part (Q K V D : ℕ → ℕ → ℝ) (L Δ C : Fin 2 → ℕ → ℝ) (l : List (Tile × Fin 2)) (t c : ℕ) : ℝ :=
  if Hit l t (c % 128 / 64) then (if c < 256 then dkR Q K V D L Δ C else dvR Q K V D L Δ C) ⟨c % 128 / 64, by omega⟩ t (c % 128) else 0

omit H in
theorem part_off (l : List (Tile × Fin 2)) (p : Tile × Fin 2) (t c : ℕ) (h : ¬ ((p.1.k0 ≤ t ∧ t < p.1.k0 + 256) ∧ p.2.val = c % 128 / 64)) :
    part Q K V D L Δ C (l ++ [p]) t c = part Q K V D L Δ C l t c := by
  classical
  refine if_congr ?_ rfl rfl
  simp only [Hit, List.mem_append, List.mem_singleton]
  constructor
  · rintro ⟨q, hq | rfl, hh⟩
    · exact ⟨q, hq, hh⟩
    · exact absurd hh h
  · rintro ⟨q, hq, hh⟩
    exact ⟨q, .inl hq, hh⟩

omit H in
theorem part_on (l : List (Tile × Fin 2)) (p : Tile × Fin 2) (t c : ℕ) (h : (p.1.k0 ≤ t ∧ t < p.1.k0 + 256) ∧ p.2.val = c % 128 / 64) :
    part Q K V D L Δ C (l ++ [p]) t c = (if c < 256 then dkR Q K V D L Δ C else dvR Q K V D L Δ C) p.2 t (c % 128) := by
  classical
  refine (if_pos ⟨p, by simp, h⟩).trans ?_
  have e : (⟨c % 128 / 64, by omega⟩ : Fin 2) = p.2 := Fin.ext h.2.symm
  rw [e]

theorem dkvList_at (l : List (Tile × Fin 2)) (hl : ∀ p ∈ l, p.1 ∈ tiles) (t : Fin 2048) (c : Fin 384) (hc : 128 ≤ c.val) :
    View.canon (dkvList R B l) (ix2 t c) = ((part Q K V D L Δ C l t c : ℝ) : EReal) := by
  induction l using List.reverseRecOn generalizing t c with
  | nil =>
    refine (canon_hit _ _ t c t c (by simp) (by simp)).trans ?_
    show Ideal.ofBits .bf16 0x0000#16 = _
    simp [Ideal.ofBits, Ideal.ieee, part, Hit]
  | append_singleton l p ih =>
    have ih' := fun t c hc => ih (fun v hv => hl v (by simp [hv])) t c hc
    have hT := hl p (by simp)
    set L' : List (Pc Ideal (S₂ 2048 384) .bf16) :=
      ⟨slot 128 (by decide) p.1, dkPay R p.1 p.2 (B.readCov (dkvList R B l) (slot 128 (by decide) p.1).toLoadRect)⟩ :: dkvList R B l with hL
    have e : dkvList R B (l ++ [p]) = ⟨slot 256 (by decide) p.1, dvPay R p.1 p.2 (B.readCov L' (slot 256 (by decide) p.1).toLoadRect)⟩ :: L' := by
      simp only [dkvList, List.foldl_append, List.foldl_cons, List.foldl_nil]
      rfl
    have hk := p.1.hk
    rw [e]
    by_cases ht : p.1.k0 ≤ t.val ∧ t.val < p.1.k0 + 256
    · have ht' : t.val - p.1.k0 < 256 := by omega
      have ht'' : p.1.k0 + (t.val - p.1.k0) = t.val := by omega
      by_cases hc2 : c.val < 256
      · refine (canon_miss _ _ t c (by omega)).trans ?_
        have hold : Is (B.readCov (dkvList R B l) (slot 128 (by decide) p.1).toLoadRect) fun t' c' => part Q K V D L Δ C l (p.1.k0 + t') (128 + c') :=
          fun i j => (read_at B _ i j (by omega) (by omega)).trans (ih' _ _ (by show 128 ≤ 128 + j.val; omega))
        refine (canon_hit _ _ t c ⟨t.val - p.1.k0, ht'⟩ ⟨c.val - 128, by omega⟩ ht''.symm (by show c.val = 128 + (c.val - 128); omega)).trans ?_
        refine (dkPay_at H p.1 hT p.2 hold _ _).trans (congrArg _ ?_)
        simp only [ht'']
        have h1 : c.val % 128 = c.val - 128 := by omega
        by_cases hg : (c.val - 128) / 64 = p.2.val
        · rw [if_pos hg, part_on _ _ _ _ ⟨ht, by omega⟩, if_pos hc2, h1]
        · rw [if_neg hg, part_off _ _ _ _ (by omega)]
          congr 1; omega
      · have hold : Is (B.readCov L' (slot 256 (by decide) p.1).toLoadRect) fun t' c' => part Q K V D L Δ C l (p.1.k0 + t') (256 + c') :=
          fun i j => (read_at B _ i j (by omega) (by omega)).trans
            ((canon_miss _ _ _ _ (by show ¬ (_ ∧ 128 ≤ 256 + j.val ∧ 256 + j.val < 128 + 128); omega)).trans (ih' _ _ (by show 128 ≤ 256 + j.val; omega)))
        refine (canon_hit _ _ t c ⟨t.val - p.1.k0, ht'⟩ ⟨c.val - 256, by omega⟩ ht''.symm (by show c.val = 256 + (c.val - 256); omega)).trans ?_
        refine (dvPay_at H p.1 hT p.2 hold _ _).trans (congrArg _ ?_)
        simp only [ht'']
        have h1 : c.val % 128 = c.val - 256 := by omega
        by_cases hg : (c.val - 256) / 64 = p.2.val
        · rw [if_pos hg, part_on _ _ _ _ ⟨ht, by omega⟩, if_neg hc2, h1]
        · rw [if_neg hg, part_off _ _ _ _ (by omega)]
          congr 1; omega
    · rw [part_off _ _ _ _ (fun h => ht h.1)]
      exact (canon_miss _ _ t c (fun h => ht h.1)).trans ((canon_miss _ _ t c (fun h => ht h.1)).trans (ih' t c hc))

omit H in
theorem heads_hit (t g : ℕ) (ht : t < 2048) (hg : g < 2) : Hit heads t g := by
  have h8 : ∀ b : Fin 8, ∃ T ∈ tiles, T.k0 = 256 * b.val := by decide
  obtain ⟨T, hT, e⟩ := h8 ⟨t / 256, by omega⟩
  refine ⟨(T, ⟨g, hg⟩), List.mem_flatMap.2 ⟨T, hT, ?_⟩, by simp only at e ⊢; omega, rfl⟩
  rcases g with _ | _ | g
  · exact List.mem_cons_self
  · exact List.mem_cons_of_mem _ List.mem_cons_self
  · omega

omit H in
theorem heads_tile : ∀ p ∈ heads, p.1 ∈ tiles := fun p hp => by
  obtain ⟨T, hT, h⟩ := List.mem_flatMap.1 hp
  rcases List.mem_cons.1 h with rfl | h
  · exact hT
  · rw [List.mem_singleton.1 h]; exact hT

/-- The block of the three gradients. -/
def qkvR (Q K V D : ℕ → ℕ → ℝ) (L Δ C : Fin 2 → ℕ → ℝ) (t c : ℕ) : ℝ :=
  if c < 128 then ∑ h, ∑ j : Fin 2048, grad Q K V D L Δ C h j t * keyOf K h j c
  else (if c < 256 then dkR Q K V D L Δ C else dvR Q K V D L Δ C) ⟨c % 128 / 64, by omega⟩ t (c % 128)

theorem qkv_at (t : Fin 2048) (c : Fin 384) : View.canon (qkvList R A B) (ix2 t c) = ((qkvR Q K V D L Δ C t c : ℝ) : EReal) := by
  by_cases hc : c.val < 128
  · refine (canon_hit _ _ t c t ⟨c.val, hc⟩ (by simp) (by simp)).trans ?_
    rw [qkvR, if_pos hc]
    refine (read_at A _ t (⟨c.val, hc⟩ : Fin 128) (by omega) (by simpa using hc)).trans ?_
    refine (dq_at H A _ _).trans ?_
    simp only [zero_add]
  · refine (canon_miss _ _ t c (by omega)).trans ((dkvList_at H B heads heads_tile t c (by omega)).trans (congrArg _ ?_))
    rw [qkvR, if_neg hc, part, if_pos (heads_hit _ _ t.isLt (by omega))]

/-! ## The gate gradient -/

omit H in
/-- What one step adds at a head's row. -/
def Step.add (Q K V D : ℕ → ℕ → ℝ) (L Δ C : Fin 2 → ℕ → ℝ) (h : Fin 2) (s : ℕ) : Step → ℝ
  | .col u => if u.q0 ≤ s ∧ s < u.q0 + u.n then ∑ t : Fin 256, (fun g t => if g = h then grad Q K V D L Δ C h t s else 0) u.h (u.k0 + t) else 0
  | .row T g => if g = h ∧ T.k0 ≤ s ∧ s < T.k0 + 256 then -∑ i : Fin 2048, grad Q K V D L Δ C h s i else 0

omit H in
def Step.Ok : Step → Prop
  | .col u => u.Ok
  | .row T _ => T ∈ tiles

theorem rowTotal_at (T : Tile) (hT : T ∈ tiles) (h : Fin 2) :
    Is (total (rowOf R) (T.jobs h)) fun t _ => ∑ i : Fin 2048, grad Q K V D L Δ C h (T.k0 + t) i := by
  refine (Is.total _ _ fun u hu => rowOf_at H u (Tile.jobs_ok T hT h u hu).1).congr fun t c => ?_
  refine Eq.trans ?_ (sum_tile (fun i => grad Q K V D L Δ C h (T.k0 + t) i) h T hT fun i hi => grad_zero _ _ _ _ _ _ _ (by omega))
  refine congrArg List.sum (List.map_congr_left fun u hu => ?_)
  obtain ⟨-, e1, e2⟩ := Tile.jobs_ok T hT h u hu
  simp only [e1, e2]

theorem dcList_at (l : List Step) (hl : ∀ x ∈ l, x.Ok) (h : Fin 2) (s : Fin 2048) :
    View.canon (dcList R G l) (ix3 h 0 s) = (((l.map (Step.add Q K V D L Δ C h s)).sum : ℝ) : EReal) := by
  induction l using List.reverseRecOn generalizing h s with
  | nil =>
    refine (canon_whole₃ _ _ h 0 s).trans ?_
    show Ideal.ofBits .f32 0x00000000#32 = _
    simp [Ideal.ofBits, Ideal.ieee]
  | append_singleton l x ih =>
    have ih' := fun h s => ih (fun v hv => hl v (by simp [hv])) h s
    have hx := hl x (by simp)
    rw [List.map_append, List.sum_append, List.map_singleton, List.sum_singleton]
    cases x with
    | col u =>
      have e : dcList R G (l ++ [.col u]) = ⟨lane u.h u.q0 u.n u.hq,
          shapeCast _ (addf (row (G.readCov (dcList R G l) (lane u.h u.q0 u.n u.hq).toLoadRect)) (colOf R u)) (casts_add _)⟩ :: dcList R G l := by
        simp only [dcList, List.foldl_append, List.foldl_cons, List.foldl_nil]
      rw [e]
      by_cases hc : h = u.h ∧ u.q0 ≤ s.val ∧ s.val < u.q0 + u.n
      · obtain ⟨rfl, hc⟩ := hc
        have hi' : s.val - u.q0 < u.n := by omega
        have hi : u.q0 + (s.val - u.q0) = s.val := by omega
        refine (canon_hit₃ _ _ _ s ⟨s.val - u.q0, hi'⟩ rfl hi.symm).trans ?_
        have hu := u.hq
        have hold : IsRow (G.readCov (dcList R G l) (lane u.h u.q0 u.n u.hq).toLoadRect)
            fun i => (l.map (Step.add Q K V D L Δ C u.h (u.q0 + i))).sum := fun i => (read_at₃ G _ u.h.isLt i (by omega)).trans (ih' _ _)
        refine ((Is.add (φ := .f32) hold.row (colOf_at H u hx)).rows _ _).trans (congrArg _ ?_)
        simp [Step.add, hi, hc]
      · refine (canon_miss₃ _ _ _ s fun hh => hc ⟨Fin.ext hh.1, hh.2⟩).trans ((ih' h s).trans (congrArg _ ?_))
        by_cases hr : u.q0 ≤ s.val ∧ s.val < u.q0 + u.n
        · have hne : ¬ u.h = h := fun hh => hc ⟨hh.symm, hr⟩
          simp [hne, Step.add]
        · rw [Step.add, if_neg hr, add_zero]
    | row T g =>
      have e : dcList R G (l ++ [.row T g]) = ⟨lane g T.k0 256 T.hk,
          shapeCast _ (subf (row (G.readCov (dcList R G l) (lane g T.k0 256 T.hk).toLoadRect)) (toRow (total (rowOf R) (T.jobs g)))) (casts_add _)⟩ :: dcList R G l := by
        simp only [dcList, List.foldl_append, List.foldl_cons, List.foldl_nil]
      rw [e]
      by_cases hc : h = g ∧ T.k0 ≤ s.val ∧ s.val < T.k0 + 256
      · obtain ⟨rfl, hc⟩ := hc
        have hi' : s.val - T.k0 < 256 := by omega
        have hi : T.k0 + (s.val - T.k0) = s.val := by omega
        refine (canon_hit₃ _ _ _ s ⟨s.val - T.k0, hi'⟩ rfl hi.symm).trans ?_
        have hk := T.hk
        have hold : IsRow (G.readCov (dcList R G l) (lane h T.k0 256 T.hk).toLoadRect)
            fun i => (l.map (Step.add Q K V D L Δ C h (T.k0 + i))).sum := fun i => (read_at₃ G _ h.isLt i (by omega)).trans (ih' _ _)
        refine ((Is.sub (φ := .f32) hold.row (rowTotal_at H T hx h).toRow).rows _ _).trans (congrArg _ ?_)
        simp [Step.add, hi, hc, sub_eq_add_neg]
      · refine (canon_miss₃ _ _ _ s fun hh => hc ⟨Fin.ext hh.1, hh.2⟩).trans ((ih' h s).trans (congrArg _ ?_))
        rw [Step.add, if_neg fun hh => hc ⟨hh.1.symm, hh.2⟩, add_zero]

omit H in
theorem steps_ok : ∀ x ∈ steps, x.Ok := fun x hx => by
  obtain ⟨T, hT, h⟩ := List.mem_flatMap.1 hx
  rcases List.mem_append.1 h with h | h
  · obtain ⟨u, hu, rfl⟩ := List.mem_map.1 h
    exact jobs_ok u (List.mem_flatMap.2 ⟨T, hT, hu⟩)
  · rcases List.mem_cons.1 h with rfl | h
    · exact hT
    · rw [List.mem_singleton.1 h]; exact hT

omit H in
theorem steps_sum (f : Step → ℝ) (ts : List Tile) :
    ((ts.flatMap fun T => (T.jobs 0 ++ T.jobs 1).map Step.col ++ [.row T 0, .row T 1]).map f).sum
      = ((ts.flatMap fun T => T.jobs 0 ++ T.jobs 1).map fun u => f (.col u)).sum + (ts.map fun T => f (.row T 0) + f (.row T 1)).sum := by
  induction ts with
  | nil => simp
  | cons T ts ih =>
    rw [List.flatMap_cons, List.flatMap_cons, List.map_append, List.sum_append, ih]
    simp only [List.map_append, List.map_map, List.sum_append, List.map_cons, List.sum_cons, List.map_nil, List.sum_nil]
    simp only [Function.comp_def]
    ring

omit H in
/-- Exactly one tile holds a row. -/
theorem sum_rows (x : ℝ) {s : ℕ} (hs : s < 2048) : (tiles.map fun T => if T.k0 ≤ s ∧ s < T.k0 + 256 then x else 0).sum = x := by
  have e : ∀ T ∈ tiles, (if T.k0 ≤ s ∧ s < T.k0 + 256 then x else 0) = if T.k0 / 256 = s / 256 then x else 0 := fun T hT => by
    have hd : ∀ T ∈ tiles, 256 ∣ T.k0 := by decide
    obtain ⟨y, hy⟩ := hd T hT
    refine if_congr ?_ rfl rfl
    omega
  rw [List.map_congr_left e]
  obtain ⟨b, hb⟩ : ∃ b : Fin 8, s / 256 = b.val := ⟨⟨s / 256, by omega⟩, rfl⟩
  rw [hb]
  fin_cases b <;> simp [tiles]

/-- The gate gradient of a head. -/
def dcR (Q K V D : ℕ → ℕ → ℝ) (L Δ C : Fin 2 → ℕ → ℝ) (h : Fin 2) (s : ℕ) : ℝ :=
  ∑ t : Fin 2048, grad Q K V D L Δ C h t s - ∑ i : Fin 2048, grad Q K V D L Δ C h s i

theorem dc_at (h : Fin 2) (s : Fin 2048) : View.canon (dcList R G steps) (ix3 h 0 s) = ((dcR Q K V D L Δ C h s : ℝ) : EReal) := by
  refine (dcList_at H G steps steps_ok h s).trans (congrArg _ ?_)
  refine (steps_sum _ tiles).trans ?_
  rw [dcR, sub_eq_add_neg]
  refine congrArg₂ (· + ·) ?_ ?_
  · refine (sum_jobs (fun g t => if g = h then grad Q K V D L Δ C h t s else 0) s.isLt fun g t ht => ?_).trans ?_
    · rw [grad_zero _ _ _ _ _ _ _ ht, ite_self]
    · fin_cases h <;> simp
  · refine Eq.trans (congrArg List.sum (List.map_congr_left fun T _ => ?_)) (sum_rows _ s.isLt)
    fin_cases h <;> simp [Step.add]

end

end Cert.Fox

end
-- ==== Proof.FoxRef.lean ====
module

public import proofs.«01_k».proof.Proof.Gen.FoxReferenceIdeal.Read
public import proofs.«01_k».proof.Proof.Soft

@[expose] public section
set_option maxRecDepth 16384

noncomputable section

namespace Cert.Fox

open Idealize.ShloMosaic Cert.FoxReferenceIdeal Cert.FoxReferenceIdeal.Read Reals Soft

/-- An array of reals read at numbers. -/
def X (f : S4x2048x512.Idx → ℝ) (b s c : ℕ) : ℝ := f (ix3 (Fin.ofNat 4 b) (Fin.ofNat 2048 s) (Fin.ofNat 512 c))
def Y (f : S4x8x2048.Idx → ℝ) (b h s : ℕ) : ℝ := f (ix3 (Fin.ofNat 4 b) (Fin.ofNat 8 h) (Fin.ofNat 2048 s))

variable (q k v : S4x2048x512.Idx → ℝ) (g : S4x8x2048.Idx → ℝ) (d : S4x2048x512.Idx → ℝ)

/-- The arrays among the extended reals. -/
abbrev up {s : Shape} (f : s.Idx → ℝ) : s.Idx → EReal := fun i => (f i : EReal)

/-- The logit. -/
def sc (b h i t : ℕ) : ℝ := (∑ e : Fin 64, X q b i (64 * h + e) * X k b t (64 * h + e)) * (1 / 8) + (Y g b h i - Y g b h t)
/-- The gradient at the weight. -/
def dP (b h i t : ℕ) : ℝ := ∑ e : Fin 64, X d b i (64 * h + e) * X v b t (64 * h + e)

theorem X_eq (f : S4x2048x512.Idx → ℝ) (b : Fin 4) (s : Fin 2048) (c : ℕ) (hc : c < 512) : X f b s c = f (ix3 b s ⟨c, hc⟩) := by
  unfold X
  congr 2 <;> exact Fin.ext (Nat.mod_eq_of_lt (by omega))
theorem Y_eq (f : S4x8x2048.Idx → ℝ) (b : Fin 4) (h : Fin 8) (s : Fin 2048) : Y f b h s = f (ix3 b h s) := by
  unfold Y
  congr 2 <;> exact Fin.ext (Nat.mod_eq_of_lt (by omega))

theorem head_at (f : S4x2048x512.Idx → ℝ) (b : Fin 4) (h : Fin 8) (i : Fin 2048) (e : Fin 64) :
    val_main_v1 (F := Ideal) (up f) (ix4 b h i e) = ((X f b i (64 * h + e) : ℝ) : EReal) := by
  pointwise [val_main_v1, val_main_v0]
  rw [X_eq _ _ _ _ (by omega)]
  congr 3
  exact Nat.add_right_cancel_iff.2 (Nat.mul_comm _ _)

theorem v14_at (b : Fin 4) (h : Fin 8) (i t : Fin 2048) :
    val_main_v14 (F := Ideal) (up q) (up k) (up g) (ix4 b h i t) = ((sc q k g b h i t : ℝ) : EReal) := by
  have h1 := head_at q
  have h3 : ∀ b h i e, val_main_v3 (F := Ideal) (up k) (ix4 b h i e) = _ := head_at k
  unfold val_main_v14 val_main_v13 val_main_v11 val_main_v9 val_main_v12 val_main_v10 val_main_v8 val_main_v7 val_main_v6
  generalize val_main_v1 (F := Ideal) (up q) = y at h1 ⊢
  generalize val_main_v3 (F := Ideal) (up k) = z at h3 ⊢
  pointwise [val_main_cst]
  simp only [h1, h3, ← EReal.coe_mul, coe_sum, Soft.eighth, up, ← EReal.coe_sub, ← EReal.coe_add, sc, Y_eq]

theorem v22_at (b : Fin 4) (h : Fin 8) (i t : Fin 2048) :
    val_main_v22_0 (F := Ideal) (up q) (up k) (up g) (ix4 b h i t) = if t.val ≤ i.val then ((sc q k g b h i t : ℝ) : EReal) else ⊥ := by
  have h1 := v14_at q k g
  unfold val_main_v22_0 val_main_call0_v2 val_main_v22_1 val_main_v21 val_main_v20 val_main_v19 val_main_v18 val_main_v17 val_main_v16 val_main_v15
  generalize val_main_v14 (F := Ideal) (up q) (up k) (up g) = y at h1 ⊢
  pointwise [val_main_cst_0, val_main_call0_v0]
  rw [h1]
  show (if BitVec.ofBool ((BitVec.ofNat 32 t.val).sle (BitVec.ofNat 32 i.val)) = 1 then _ else Ideal.ofBits .f32 0xFF800000#32) = _
  rw [sle_nat _ _ (by omega) (by omega), Soft.bot]
  by_cases hti : t.val ≤ i.val <;> simp [hti]

theorem v23_real (b : Fin 4) (h : Fin 8) (i : Fin 2048) : ∃ r : ℝ, val_main_v23 (F := Ideal) (up q) (up k) (up g) (ix3 b h i) = (r : EReal) := by
  have h1 := v22_at q k g
  unfold val_main_v23
  generalize val_main_v22_0 (F := Ideal) (up q) (up k) (up g) = y at h1 ⊢
  refine reduce_max y _ _ _ _ (fun j => ?_) ?_ (ix4 b h i i) ?_ ⟨_, (h1 b h i i).trans (if_pos le_rfl)⟩
  · idx_vars j
    rw [h1]
    split_ifs
    · exact .inr ⟨_, rfl⟩
    · exact .inl rfl
  · exact Soft.bot
  · funext a
    match a with
    | ⟨0, _⟩ => rfl
    | ⟨1, _⟩ => rfl
    | ⟨2, _⟩ => rfl

/-- The row's shift: its greatest logit. -/
def M (b h i : ℕ) : ℝ := Classical.choose (v23_real q k g (Fin.ofNat 4 b) (Fin.ofNat 8 h) (Fin.ofNat 2048 i))

theorem v23_at (b : Fin 4) (h : Fin 8) (i : Fin 2048) :
    val_main_v23 (F := Ideal) (up q) (up k) (up g) (ix3 b h i) = ((M q k g b h i : ℝ) : EReal) := by
  have e1 : Fin.ofNat 4 b.val = b := Fin.ext (Nat.mod_eq_of_lt b.isLt)
  have e2 : Fin.ofNat 8 h.val = h := Fin.ext (Nat.mod_eq_of_lt h.isLt)
  have e3 : Fin.ofNat 2048 i.val = i := Fin.ext (Nat.mod_eq_of_lt i.isLt)
  have hM := Classical.choose_spec (v23_real q k g (Fin.ofNat 4 b) (Fin.ofNat 8 h) (Fin.ofNat 2048 i))
  unfold M
  rw [← hM, e1, e2, e3]

theorem max_row (y : FVec Ideal S4x8x2048 .f32) (b : Fin 4) (h : Fin 8) (i : Fin 2048) :
    maximumf (val_main_v29 (F := Ideal)) y (ix3 b h i) = y (ix3 b h i) := by
  pointwise [val_main_v29, val_main_cst_3]
  exact Soft.max_bot _

theorem v30_at (b : Fin 4) (h : Fin 8) (i : Fin 2048) :
    val_main_v30 (F := Ideal) (up q) (up k) (up g) (ix3 b h i) = ((M q k g b h i : ℝ) : EReal) := by
  have h1 := v23_at q k g b h i
  unfold val_main_v30
  generalize val_main_v23 (F := Ideal) (up q) (up k) (up g) = z at h1 ⊢
  exact (max_row z b h i).trans h1

theorem v43_at (b : Fin 4) (h : Fin 8) (i t : Fin 2048) :
    val_main_v43 (F := Ideal) (up q) (up k) (up g) (ix4 b h i t) = ((ex (sc q k g b h) (M q k g b h) i t : ℝ) : EReal) := by
  have h1 := v22_at q k g
  have h2 := v30_at q k g
  unfold val_main_v43 val_main_v42 val_main_v41 val_main_v40
  generalize val_main_v22_0 (F := Ideal) (up q) (up k) (up g) = y at h1 ⊢
  generalize val_main_v30 (F := Ideal) (up q) (up k) (up g) = z at h2 ⊢
  pointwise
  rw [h1, h2]
  unfold ex
  split_ifs
  · rw [← EReal.coe_sub, Ideal.exp_coe]
  · show Ideal.exp (⊥ - ((M q k g b h i : ℝ) : EReal)) = _
    rw [EReal.bot_sub]
    simp

theorem v44_at (b : Fin 4) (h : Fin 8) (i : Fin 2048) :
    val_main_v44 (F := Ideal) (up q) (up k) (up g) (ix3 b h i) = ((Z (sc q k g b h) (M q k g b h) i : ℝ) : EReal) := by
  have h1 := v43_at q k g
  unfold val_main_v44 val_main_cst_9
  generalize val_main_v43 (F := Ideal) (up q) (up k) (up g) = y at h1 ⊢
  pointwise
  simp only [h1, coe_sum, Z]

theorem v47_at (b : Fin 4) (h : Fin 8) (i t : Fin 2048) :
    val_main_v47 (F := Ideal) (up q) (up k) (up g) (ix4 b h i t) = ((pr (sc q k g b h) (M q k g b h) i t : ℝ) : EReal) := by
  have h1 := v43_at q k g
  have h2 := v44_at q k g
  unfold val_main_v47 val_main_v46 val_main_v45
  generalize val_main_v43 (F := Ideal) (up q) (up k) (up g) = y at h1 ⊢
  generalize val_main_v44 (F := Ideal) (up q) (up k) (up g) = z at h2 ⊢
  pointwise
  rw [h1, h2, Soft.div_coe _ _ (Z_pos _ _ _).ne', pr]

theorem v58_at (b : Fin 4) (h : Fin 8) (i t : Fin 2048) :
    val_main_v58 (F := Ideal) (up v) (up d) (ix4 b h i t) = ((dP v d b h i t : ℝ) : EReal) := by
  have h1 : ∀ b h i e, val_main_v55 (F := Ideal) (up d) (ix4 b h i e) = _ := head_at d
  have h2 : ∀ b h i e, val_main_v5 (F := Ideal) (up v) (ix4 b h i e) = _ := head_at v
  unfold val_main_v58
  generalize val_main_v55 (F := Ideal) (up d) = y at h1 ⊢
  generalize val_main_v5 (F := Ideal) (up v) = z at h2 ⊢
  pointwise
  simp only [h1, h2, ← EReal.coe_mul, coe_sum, dP]

theorem v71_at (b : Fin 4) (h : Fin 8) (i t : Fin 2048) :
    val_main_v71 (F := Ideal) (up q) (up k) (up v) (up g) (up d) (ix4 b h i t)
      = ((gs (sc q k g b h) (M q k g b h) (dP v d b h) i t : ℝ) : EReal) := by
  have h1 := v43_at q k g
  have h2 := v44_at q k g
  have h3 := v58_at v d
  unfold val_main_v71 val_main_v70 val_main_v69 val_main_v68 val_main_v67 val_main_v66 val_main_v65 val_main_v64 val_main_v63 val_main_v62 val_main_v61
    val_main_v60 val_main_v59 val_main_v50 val_main_v49 val_main_v48 val_main_v45 val_main_cst_10 val_main_cst_11 val_main_cst_12 val_main_v22_1 val_main_v21
    val_main_v20 val_main_v19 val_main_v18 val_main_v17 val_main_v16 val_main_v15
  generalize val_main_v43 (F := Ideal) (up q) (up k) (up g) = y at h1 ⊢
  generalize val_main_v44 (F := Ideal) (up q) (up k) (up g) = z at h2 ⊢
  generalize val_main_v58 (F := Ideal) (up v) (up d) = w at h3 ⊢
  pointwise
  show (if BitVec.ofBool ((BitVec.ofNat 32 t.val).sle (BitVec.ofNat 32 i.val)) = 1 then _ else Ideal.ofBits .f32 0x00000000#32) = _
  rw [sle_nat _ _ (by omega) (by omega)]
  by_cases hti : t.val ≤ i.val
  · rw [decide_eq_true hti]
    have hz := (Z_pos (sc q k g b h) (M q k g b h) i).ne'
    have e1 : (1 : EReal) = ((1 : ℝ) : EReal) := rfl
    simp only [h1, h2, h3]
    rw [e1]
    simp only [← EReal.coe_mul, Soft.div_coe _ _ hz, Soft.div_coe _ _ (mul_ne_zero hz hz), coe_sum, ← EReal.coe_neg, ← EReal.coe_add, Fin.sum_univ_one]
    rw [gs_eq]
    rfl
  · have e : gs (sc q k g b h) (M q k g b h) (dP v d b h) i t = 0 := by rw [gs, pr, ex, if_neg hti, zero_div, zero_mul]
    rw [decide_eq_false hti, e]
    simp [Ideal.ofBits, Ideal.ieee]

/-! ## The four gradients -/

/-- The gradient at the logits, by batch and head. -/
abbrev gl (b h i t : ℕ) : ℝ := gs (sc q k g b h) (M q k g b h) (dP v d b h) i t

def rq (b h i e : ℕ) : ℝ := ∑ t : Fin 2048, gl q k v g d b h i t * (1 / 8) * X k b t (64 * h + e)
def rk (b h t e : ℕ) : ℝ := ∑ i : Fin 2048, gl q k v g d b h i t * (1 / 8) * X q b i (64 * h + e)
def rv (b h t e : ℕ) : ℝ := ∑ i : Fin 2048, X d b i (64 * h + e) * pr (sc q k g b h) (M q k g b h) i t
def rc (b h s : ℕ) : ℝ := (∑ i : Fin 2048, -gl q k v g d b h i s) + ∑ t : Fin 2048, gl q k v g d b h s t

theorem v57_at (b : Fin 4) (h : Fin 8) (t : Fin 2048) (e : Fin 64) :
    val_main_v57 (F := Ideal) (up q) (up k) (up g) (up d) (ix4 b h t e) = ((rv q k g d b h t e : ℝ) : EReal) := by
  have h1 := v47_at q k g
  have h2 : ∀ b h i e, val_main_v55 (F := Ideal) (up d) (ix4 b h i e) = _ := head_at d
  unfold val_main_v57 val_main_v56
  generalize val_main_v47 (F := Ideal) (up q) (up k) (up g) = y at h1 ⊢
  generalize val_main_v55 (F := Ideal) (up d) = z at h2 ⊢
  pointwise
  simp only [h1, h2, ← EReal.coe_mul, coe_sum, rv]

theorem v81_at (b : Fin 4) (h : Fin 8) (i t : Fin 2048) :
    val_main_v81 (F := Ideal) (up q) (up k) (up v) (up g) (up d) (ix4 b h i t) = ((gl q k v g d b h i t * (1 / 8) : ℝ) : EReal) := by
  have h1 := v71_at q k v g d
  unfold val_main_v81 val_main_v80
  generalize val_main_v71 (F := Ideal) (up q) (up k) (up v) (up g) (up d) = y at h1 ⊢
  pointwise [val_main_cst_17]
  simp only [h1, Soft.eighth, ← EReal.coe_mul]

theorem v82_at (b : Fin 4) (h : Fin 8) (t : Fin 2048) (e : Fin 64) :
    val_main_v82 (F := Ideal) (up q) (up k) (up v) (up g) (up d) (ix4 b h t e) = ((rk q k v g d b h t e : ℝ) : EReal) := by
  have h1 := v81_at q k v g d
  have h2 := head_at q
  unfold val_main_v82
  generalize val_main_v81 (F := Ideal) (up q) (up k) (up v) (up g) (up d) = y at h1 ⊢
  generalize val_main_v1 (F := Ideal) (up q) = z at h2 ⊢
  pointwise
  simp only [h1, h2, ← EReal.coe_mul, coe_sum, rk]

theorem v83_at (b : Fin 4) (h : Fin 8) (i : Fin 2048) (e : Fin 64) :
    val_main_v83 (F := Ideal) (up q) (up k) (up v) (up g) (up d) (ix4 b h i e) = ((rq q k v g d b h i e : ℝ) : EReal) := by
  have h1 := v81_at q k v g d
  have h2 : ∀ b h i e, val_main_v3 (F := Ideal) (up k) (ix4 b h i e) = _ := head_at k
  unfold val_main_v83
  generalize val_main_v81 (F := Ideal) (up q) (up k) (up v) (up g) (up d) = y at h1 ⊢
  generalize val_main_v3 (F := Ideal) (up k) = z at h2 ⊢
  pointwise
  simp only [h1, h2, ← EReal.coe_mul, coe_sum, rq]

theorem v96_at (b : Fin 4) (h : Fin 8) (s : Fin 2048) :
    val_main_v96 (F := Ideal) (up q) (up k) (up v) (up g) (up d) (ix3 ⟨8 * b + h, by omega⟩ 0 s) = ((rc q k v g d b h s : ℝ) : EReal) := by
  have h1 := v71_at q k v g d
  unfold val_main_v96 val_main_v79 val_main_v78 val_main_v77 val_main_v76 val_main_v75 val_main_v74 val_main_v73 val_main_v72 val_main_cst_13
    val_main_cst_14 val_main_cst_15 val_main_cst_16
  generalize val_main_v71 (F := Ideal) (up q) (up k) (up v) (up g) (up d) = y at h1 ⊢
  pointwise
  simp only [h1, ← EReal.coe_neg, coe_sum, ← EReal.coe_add, rc, Fin.sum_univ_one]

/-- A head's rows back among the columns. -/
theorem v95_at (b : Fin 4) (i : Fin 2048) (p : Fin 4) (j : Fin 3) (h : Fin 2) (e : Fin 64) :
    val_main_v95 (F := Ideal) (up q) (up k) (up v) (up g) (up d) (ix2 ⟨2048 * b + i, by omega⟩ ⟨384 * p + 128 * j + 64 * h + e, by omega⟩)
      = (((match j with | 0 => rq q k v g d | 1 => rk q k v g d | 2 => rv q k g d) b (2 * p + h) i e : ℝ) : EReal) := by
  have h1 := v83_at q k v g d
  have h2 := v82_at q k v g d
  have h3 := v57_at q k g d
  unfold val_main_v95 val_main_v94 val_main_v93 val_main_v92 val_main_v91 val_main_v90 val_main_v89 val_main_v88 val_main_v87 val_main_v86 val_main_v85 val_main_v84
  generalize val_main_v83 (F := Ideal) (up q) (up k) (up v) (up g) (up d) = y at h1 ⊢
  generalize val_main_v82 (F := Ideal) (up q) (up k) (up v) (up g) (up d) = z at h2 ⊢
  generalize val_main_v57 (F := Ideal) (up q) (up k) (up g) (up d) = w at h3 ⊢
  fin_cases j
  · pointwise
    rw [dif_pos (by omega), h1]
    refine congrArg (fun n : ℕ => ((rq q k v g d b n i e : ℝ) : EReal)) ?_
    show p.val * 2 + _ = _
    omega
  · pointwise
    rw [dif_neg (by omega), dif_pos (by omega), h2]
    refine congrArg (fun n : ℕ => ((rk q k v g d b n i e : ℝ) : EReal)) ?_
    show p.val * 2 + _ = _
    omega
  · pointwise
    rw [dif_neg (by omega), dif_neg (by omega), h3]
    refine congrArg (fun n : ℕ => ((rv q k g d b n i e : ℝ) : EReal)) ?_
    show p.val * 2 + _ = _
    omega

end Cert.Fox
-- ==== Proof.FoxHost.lean ====
module

public import proofs.«01_k».proof.Proof.FoxFold
public import proofs.«01_k».proof.Proof.FoxRef
public import proofs.«01_k».proof.Proof.Gen.FoxKernelIdeal.Value
public import Idealize.ShloMosaic.Lib.StableHlo.RunRead

/-! The arrays the host prepares for the fox attention's backward, and what they hold on arrays of reals. -/

@[expose] public section
set_option maxRecDepth 16384

noncomputable section

namespace Cert.Fox

open Idealize.ShloMosaic Idealize.ShloMosaic.TcCoe Idealize.SL.Sem
open Cert.FoxKernelIdeal Cert.FoxKernelIdeal.Gen Cert.FoxKernelIdeal.Value Reals Soft
open Cert.FoxReferenceIdeal.Read (val_main_v22_0 val_main_v23 val_main_v47 val_main_v5 val_main_v55)

section
variable {F : FTy → Type} [FloatOps F] [Named F] (m : (ℓ : Loc nD τ sig) → Buf (Elt F) ℓ) (c : Dev nD)

/-- The rows' sums of exponentials, as the forward lines on the host take them. -/
def rowSum (y : FVec F S4x8x2048x2048 .f32) (z : FVec F S4x8x2048 .f32) : FVec F S4x8x2048 .f32 :=
  Host.reduceAdd (Host.exp (subf y (broadcastInDim S4x8x2048x2048 ![0, 1, 2, 3] bcast_S4x8x2048x1_S4x8x2048x2048_0_1_2_3
    (broadcastInDim S4x8x2048x1 ![0, 1, 2] bcast_S4x8x2048_S4x8x2048x1_0_1_2 z)))) (constant S_ .f32 0x00000000#32)
    reducesTo_S4x8x2048x2048_S4x8x2048_d3 h_S_

/-- The logarithm of the rows' sums. -/
def lseOf (y : FVec F S4x8x2048x2048 .f32) (z : FVec F S4x8x2048 .f32) : FVec F S4x8x2048 .f32 := addf z (Host.log (rowSum y z))

/-- The rows' products of the output and its gradient, summed over the lanes. -/
def deltaOf (p : FVec F S4x8x2048x2048 .f32) (v d : FVec F S4x8x2048x64 .f32) : FVec F S4x8x2048 .f32 :=
  Host.reduceAdd (mulf d (Host.dotGeneral dot_S4x8x2048x2048_S4x8x2048x64_S4x8x2048x64_3_2_2_3_01_01 none p v)) (constant S_ .f32 0x00000000#32)
    reducesTo_S4x8x2048x64_S4x8x2048_d3 h_S_

/-- Queries, keys and values packed by pairs of heads. -/
def packed (x0 x1 x2 : FVec F S4x2048x512 .f32) : FVec F S8192x1536 .bf16 :=
  truncf .bf16 (shapeCast S8192x1536 (concatenate S8192x4x3x128 2
    [⟨S8192x4x1x128, broadcastInDim S8192x4x1x128 ![0, 1, 3] bcast_S8192x4x128_S8192x4x1x128_0_1_3 (shapeCast S8192x4x128 x0 shapeCasts_S4x2048x512_S8192x4x128)⟩,
     ⟨S8192x4x1x128, broadcastInDim S8192x4x1x128 ![0, 1, 3] bcast_S8192x4x128_S8192x4x1x128_0_1_3 (shapeCast S8192x4x128 x1 shapeCasts_S4x2048x512_S8192x4x128)⟩,
     ⟨S8192x4x1x128, broadcastInDim S8192x4x1x128 ![0, 1, 3] bcast_S8192x4x128_S8192x4x1x128_0_1_3 (shapeCast S8192x4x128 x2 shapeCasts_S4x2048x512_S8192x4x128)⟩]
    concatenates_S8192x4x1x128_S8192x4x1x128_S8192x4x1x128_S8192x4x3x128_d2) shapeCasts_S8192x4x3x128_S8192x1536) bitsLt_bf16_f32

def rows (x : FVec F S4x2048x512 .f32) : FVec F S8192x512 .bf16 := truncf .bf16 (shapeCast S8192x512 x shapeCasts_S4x2048x512_S8192x512) bitsLt_bf16_f32
def heads32 (x : FVec F S4x8x2048 .f32) : FVec F S32x1x2048 .f32 := shapeCast S32x1x2048 x shapeCasts_S4x8x2048_S32x1x2048

/-- The arguments. -/
abbrev a0 : FVec F S4x2048x512 .f32 := m ((c : Thread nD τ).loc main_arg0)
abbrev a1 : FVec F S4x2048x512 .f32 := m ((c : Thread nD τ).loc main_arg1)
abbrev a2 : FVec F S4x2048x512 .f32 := m ((c : Thread nD τ).loc main_arg2)
abbrev a3 : FVec F S4x8x2048 .f32 := m ((c : Thread nD τ).loc main_arg3)
abbrev a4 : FVec F S4x2048x512 .f32 := m ((c : Thread nD τ).loc main_arg4)

theorem entry72 : V m c main_v72 = packed (a0 m c) (a1 m c) (a2 m c) := by
  unfold V
  after_reads_simp
  sl_kernel_rfl
theorem entry74 : V m c main_v74 = rows (a4 m c) := by
  unfold V
  after_reads_simp
  sl_kernel_rfl
theorem entry75 : V m c main_v75 = heads32 (lseOf (val_main_v22_0 (a0 m c) (a1 m c) (a3 m c)) (val_main_v23 (a0 m c) (a1 m c) (a3 m c))) := by
  unfold V
  after_reads_simp
  sl_kernel_rfl
theorem entry76 : V m c main_v76 = heads32 (deltaOf (val_main_v47 (a0 m c) (a1 m c) (a3 m c)) (val_main_v5 (a2 m c)) (val_main_v55 (a4 m c))) := by
  unfold V
  after_reads_simp
  sl_kernel_rfl
theorem entry77 : V m c main_v77 = heads32 (a3 m c) := by
  unfold V
  after_reads_simp
  sl_kernel_rfl
end

section
variable (q k v : S4x2048x512.Idx → ℝ) (g : S4x8x2048.Idx → ℝ) (d : S4x2048x512.Idx → ℝ)

theorem rowSum_at (b : Fin 4) (h : Fin 8) (i : Fin 2048) :
    rowSum (F := Ideal) (val_main_v22_0 (F := Ideal) (up q) (up k) (up g)) (val_main_v23 (F := Ideal) (up q) (up k) (up g)) (ix3 b h i)
      = ((Z (sc q k g b h) (M q k g b h) i : ℝ) : EReal) := by
  have h1 := v22_at q k g
  have h2 := v23_at q k g
  generalize val_main_v22_0 (F := Ideal) (up q) (up k) (up g) = y at h1 ⊢
  generalize val_main_v23 (F := Ideal) (up q) (up k) (up g) = z at h2 ⊢
  pointwise [rowSum]
  simp only [h1, h2]
  have e : ∀ t : Fin 2048, Ideal.exp ((if t.val ≤ i.val then ((sc q k g b h i t : ℝ) : EReal) else ⊥) - ((M q k g b h i : ℝ) : EReal))
      = ((ex (sc q k g b h) (M q k g b h) i t : ℝ) : EReal) := fun t => by
    unfold ex
    split_ifs
    · rw [← EReal.coe_sub, Ideal.exp_coe]
    · rw [EReal.bot_sub]
      simp
  simp only [e, coe_sum, Z]

/-- The row's logarithm of its sum. -/
def lse (b h i : ℕ) : ℝ := M q k g b h i + Real.log (Z (sc q k g b h) (M q k g b h) i)

theorem lse_row (y : FVec Ideal S4x8x2048x2048 .f32) (z : FVec Ideal S4x8x2048 .f32) (i : S4x8x2048.Idx) (r s : ℝ) (hz : z i = (r : EReal))
    (hw : rowSum y z i = (s : EReal)) (hs : 0 < s) : lseOf y z i = ((r + Real.log s : ℝ) : EReal) := by
  show z i + Ideal.log (rowSum y z i) = _
  rw [hz, hw, Ideal.log_coe, if_neg (not_le.2 hs), ← EReal.coe_add]

theorem lse_at (b : Fin 4) (h : Fin 8) (i : Fin 2048) :
    lseOf (F := Ideal) (val_main_v22_0 (F := Ideal) (up q) (up k) (up g)) (val_main_v23 (F := Ideal) (up q) (up k) (up g)) (ix3 b h i) = ((lse q k g b h i : ℝ) : EReal) :=
  lse_row _ _ _ _ _ (v23_at q k g b h i) (rowSum_at q k g b h i) (Z_pos _ _ _)

theorem delta_at (b : Fin 4) (h : Fin 8) (i : Fin 2048) :
    deltaOf (F := Ideal) (val_main_v47 (F := Ideal) (up q) (up k) (up g)) (val_main_v5 (F := Ideal) (up v)) (val_main_v55 (F := Ideal) (up d)) (ix3 b h i)
      = ((dl (sc q k g b h) (M q k g b h) (dP v d b h) i : ℝ) : EReal) := by
  have h1 := v47_at q k g
  have h2 : ∀ b h i e, val_main_v55 (F := Ideal) (up d) (ix4 b h i e) = _ := head_at d
  have h3 : ∀ b h i e, val_main_v5 (F := Ideal) (up v) (ix4 b h i e) = _ := head_at v
  generalize val_main_v47 (F := Ideal) (up q) (up k) (up g) = y at h1 ⊢
  generalize val_main_v55 (F := Ideal) (up d) = z at h2 ⊢
  generalize val_main_v5 (F := Ideal) (up v) = w at h3 ⊢
  pointwise [deltaOf]
  simp only [h1, h2, h3, ← EReal.coe_mul, coe_sum]
  refine congrArg Real.toEReal ?_
  simp only [dl, dP, Finset.mul_sum]
  rw [Finset.sum_comm]
  exact Finset.sum_congr rfl fun t _ => Finset.sum_congr rfl fun e _ => by ring

theorem heads32_at (x : FVec Ideal S4x8x2048 .f32) (f : ℕ → ℕ → ℕ → ℝ) (hx : ∀ (b : Fin 4) (h : Fin 8) (i : Fin 2048), x (ix3 b h i) = ((f b h i : ℝ) : EReal))
    (r : Fin 32) (i : Fin 2048) : heads32 x (ix3 r 0 i) = ((f (r / 8) (r % 8) i : ℝ) : EReal) := by
  pointwise [heads32]
  exact hx _ _ _

theorem rows_at (r : Fin 8192) (l : Fin 512) : rows (F := Ideal) (up d) (ix2 r l) = ((X d (r / 2048) (r % 2048) l : ℝ) : EReal) := by
  pointwise [rows]
  exact congrArg Real.toEReal (X_eq d ⟨r / 2048, by omega⟩ ⟨r % 2048, by omega⟩ l l.isLt).symm

/-- Queries, keys or values. -/
def pick (j : ℕ) : S4x2048x512.Idx → ℝ := if j = 0 then q else if j = 1 then k else v

theorem packed_at (r : Fin 8192) (p : Fin 4) (j : Fin 3) (l : Fin 128) :
    packed (F := Ideal) (up q) (up k) (up v) (ix2 r ⟨384 * p + 128 * j + l, by omega⟩)
      = ((X (pick q k v j) (r / 2048) (r % 2048) (128 * p + l) : ℝ) : EReal) := by
  have e : ∀ f : S4x2048x512.Idx → ℝ, f (ix3 ⟨r / 2048, by omega⟩ ⟨r % 2048, by omega⟩ ⟨p * 128 + l, by omega⟩)
      = X f (r / 2048) (r % 2048) (128 * p + l) := fun f => by
    rw [mul_comm 128, X_eq f ⟨r / 2048, by omega⟩ ⟨r % 2048, by omega⟩ (p * 128 + l) (by omega)]
  fin_cases j
  · pointwise [packed]
    rw [dif_pos (by omega)]
    exact congrArg Real.toEReal (e q)
  · pointwise [packed]
    rw [dif_neg (by omega), dif_pos (by omega)]
    exact congrArg Real.toEReal (e k)
  · pointwise [packed]
    rw [dif_neg (by omega), dif_neg (by omega)]
    exact congrArg Real.toEReal (e v)
end
end Cert.Fox
-- ==== Proof.FoxEq.lean ====
module

public import proofs.«01_k».proof.Proof.FoxFold
public import proofs.«01_k».proof.Proof.FoxHost

/-! The kernel's gradients of a pair of heads are the derivative's, over the reals. -/

@[expose] public section
set_option maxRecDepth 16384

noncomputable section

namespace Cert.Fox

open Reals Soft Cert.FoxReferenceIdeal

/-- A sum over the lanes of one head of a pair. -/
theorem sum_head (h : Fin 2) (f : ℕ → ℝ) : (∑ l : Fin 128, if l.val / 64 = h.val then f l else 0) = ∑ e : Fin 64, f (64 * h + e) := by
  rw [sum_split (a := 2) (b := 64) (fun l : Fin 128 => if l.val / 64 = h.val then f l else 0)]
  have e : ∀ (x : Fin 2) (y : Fin 64), (finProdFinEquiv (x, y) : Fin 128).val = 64 * x.val + y.val := fun x y => by
    show y.val + 64 * x.val = _
    omega
  rw [Finset.sum_eq_single h]
  · refine Finset.sum_congr rfl fun y _ => ?_
    rw [e, if_pos (by omega)]
  · intro x _ hx
    refine Finset.sum_eq_zero fun y _ => ?_
    rw [e, if_neg fun hh => hx (Fin.ext (by omega))]
  · intro hh; exact absurd (Finset.mem_univ _) hh

variable (q k v : S4x2048x512.Idx → ℝ) (g : S4x8x2048.Idx → ℝ) (d : S4x2048x512.Idx → ℝ) (b p : ℕ)

/-- A pair's columns of an array, and its heads' rows. -/
def pairOf (f : S4x2048x512.Idx → ℝ) : ℕ → ℕ → ℝ := fun i l => X f b i (128 * p + l)
def lseR : Fin 2 → ℕ → ℝ := fun h i => lse q k g b (2 * p + h) i
def dltR : Fin 2 → ℕ → ℝ := fun h i => dl (sc q k g b (2 * p + h)) (M q k g b (2 * p + h)) (dP v d b (2 * p + h)) i
def gateR : Fin 2 → ℕ → ℝ := fun h i => Y g b (2 * p + h) i

theorem lane_eq (h : Fin 2) (e : Fin 64) : 128 * p + (64 * h + e) = 64 * (2 * p + h) + e := by omega

theorem logit_eq (h : Fin 2) (t i : ℕ) :
    logit (pairOf b p q) (pairOf b p k) (lseR q k g b p) (gateR g b p) h t i = sc q k g b (2 * p + h) i t - lse q k g b (2 * p + h) i := by
  have e : ∀ l : Fin 128, keyOf (pairOf b p k) h t l * pairOf b p q i l
      = if l.val / 64 = h.val then pairOf b p q i l * pairOf b p k t l * (1 / 8) else 0 := fun l => by
    unfold keyOf; split_ifs <;> ring
  unfold logit
  simp only [e, sum_head h (fun l => pairOf b p q i l * pairOf b p k t l * (1 / 8)), ← Finset.sum_mul]
  simp only [pairOf, lane_eq, lseR, gateR, sc]
  ring

theorem wt_eq (h : Fin 2) (t i : ℕ) : wt (pairOf b p q) (pairOf b p k) (lseR q k g b p) (gateR g b p) h t i
    = pr (sc q k g b (2 * p + h)) (M q k g b (2 * p + h)) i t := by
  rw [wt, logit_eq, lse]
  exact pr_eq _ _ _ _

theorem grad_eq (h : Fin 2) (t i : ℕ) :
    grad (pairOf b p q) (pairOf b p k) (pairOf b p v) (pairOf b p d) (lseR q k g b p) (dltR q k v g d b p) (gateR g b p) h t i
      = gl q k v g d b (2 * p + h) i t := by
  have e : ∀ l : Fin 128, valOf (pairOf b p v) h t l * pairOf b p d i l
      = if l.val / 64 = h.val then pairOf b p d i l * pairOf b p v t l else 0 := fun l => by
    unfold valOf; split_ifs <;> ring
  rw [grad, wt_eq]
  simp only [e, sum_head h (fun l => pairOf b p d i l * pairOf b p v t l)]
  simp only [pairOf, lane_eq, dltR, gs, dP]

/-- The three gradients, column by column. -/
theorem qkvR_eq (j : Fin 3) (h : Fin 2) (e : Fin 64) (t : ℕ) :
    qkvR (pairOf b p q) (pairOf b p k) (pairOf b p v) (pairOf b p d) (lseR q k g b p) (dltR q k v g d b p) (gateR g b p) t (128 * j + 64 * h + e)
      = (match j with | 0 => rq q k v g d | 1 => rk q k v g d | 2 => rv q k g d) b (2 * p + h) t e := by
  have hh : ∀ n : ℕ, n = 128 * j + 64 * h + e → (⟨n % 128 / 64, by omega⟩ : Fin 2) = h := fun n hn => Fin.ext (by show n % 128 / 64 = h.val; omega)
  have hm : (128 * j.val + 64 * h + e) % 128 = 64 * h + e := by omega
  fin_cases j
  · refine (if_pos (by show 128 * 0 + 64 * h.val + e.val < 128; omega)).trans ?_
    rw [Finset.sum_eq_single h]
    · refine Finset.sum_congr rfl fun t' _ => ?_
      rw [grad_eq, keyOf, if_pos (by show (128 * 0 + 64 * h.val + e.val) / 64 = _; omega), pairOf]
      show _ * (X k b t' (128 * p + (128 * 0 + 64 * h.val + e.val)) * _) = _
      rw [show 128 * p + (128 * 0 + 64 * h.val + e.val) = 64 * (2 * p + h) + e by omega]
      ring
    · intro x _ hx
      refine Finset.sum_eq_zero fun t' _ => ?_
      rw [keyOf, if_neg, zero_mul, mul_zero]
      show ¬ (128 * 0 + 64 * h.val + e.val) / 64 = _
      intro hc
      exact hx (Fin.ext (by omega))
    · intro hc; exact absurd (Finset.mem_univ _) hc
  · refine (if_neg (by show ¬ 128 * 1 + 64 * h.val + e.val < 128; omega)).trans ?_
    rw [if_pos (by show 128 * 1 + 64 * h.val + e.val < 256; omega), hh _ rfl, hm, dkR, Finset.sum_mul]
    refine Finset.sum_congr rfl fun i _ => ?_
    rw [grad_eq, pairOf, lane_eq]
    ring
  · refine (if_neg (by show ¬ 128 * 2 + 64 * h.val + e.val < 128; omega)).trans ?_
    rw [if_neg (by show ¬ 128 * 2 + 64 * h.val + e.val < 256; omega), hh _ rfl, hm, dvR]
    refine Finset.sum_congr rfl fun i _ => ?_
    rw [wt_eq, pairOf, lane_eq]
    ring

/-- The gate gradients. -/
theorem dcR_eq (h : Fin 2) (s : ℕ) :
    dcR (pairOf b p q) (pairOf b p k) (pairOf b p v) (pairOf b p d) (lseR q k g b p) (dltR q k v g d b p) (gateR g b p) h s
      = rc q k v g d b (2 * p + h) s := by
  simp only [dcR, rc, grad_eq, Finset.sum_neg_distrib]
  ring

end Cert.Fox
-- ==== Proof.FoxFinal.lean ====
module

public import proofs.«01_k».proof.Proof.FoxEq
public import proofs.«01_k».proof.Proof.Gen.Pre_fox_finite
public import proofs.«01_k».proof.Defs
public import Idealize.ShloMosaic.Lib.WholeRead

/-! The fox attention's backward: what the kernel's two outputs hold, and that it is the derivative. -/

@[expose] public section
set_option maxRecDepth 16384

noncomputable section

namespace Cert.Fox

open Idealize.ShloMosaic Idealize.ShloMosaic.TcCoe Idealize.SL.Sem
open Cert.FoxKernelIdeal Cert.FoxKernelIdeal.Gen Cert.FoxKernelIdeal.Value Reals Soft Attn
open Cert.FoxReferenceIdeal.Read (val_main_v22_0 val_main_v23 val_main_v47 val_main_v5 val_main_v55)

section
variable (arg2 : Memref sig Kind.tc Space.vmem S2048x384 EltTy.bf16) (harg2 : arg2.IsWhole)
 (arg3 : Memref sig Kind.tc Space.vmem S2048x128 EltTy.bf16) (harg3 : arg3.IsWhole)
 (arg4 : Memref sig Kind.tc Space.vmem S2x1x2048 EltTy.f32) (harg4 : arg4.IsWhole)
 (arg5 : Memref sig Kind.tc Space.vmem S2x1x2048 EltTy.f32) (harg5 : arg5.IsWhole)
 (arg6 : Memref sig Kind.tc Space.vmem S2x1x2048 EltTy.f32) (harg6 : arg6.IsWhole)
 (x0 : Vec Ideal S2048x384 .bf16) (x1 : Vec Ideal S2048x128 .bf16) (x2 x3 x4 : Vec Ideal S2x1x2048 .f32)

/-- The loads of one grid point hold what its blocks hold. -/
theorem reads_hold (Q K V D : ℕ → ℕ → ℝ) (L Δ C : Fin 2 → ℕ → ℝ)
    (hq : ∀ (i : Fin 2048) (l : Fin 128), x0 (ix2 i ⟨0 + l, by omega⟩) = ((Q i l : ℝ) : EReal))
    (hk : ∀ (i : Fin 2048) (l : Fin 128), x0 (ix2 i ⟨128 + l, by omega⟩) = ((K i l : ℝ) : EReal))
    (hv : ∀ (i : Fin 2048) (l : Fin 128), x0 (ix2 i ⟨256 + l, by omega⟩) = ((V i l : ℝ) : EReal))
    (hd : ∀ (i : Fin 2048) (l : Fin 128), x1 (ix2 i ⟨0 + l, by omega⟩) = ((D i l : ℝ) : EReal))
    (hL : ∀ (h : Fin 2) (i : Fin 2048), x2 (ix3 h 0 i) = ((L h i : ℝ) : EReal))
    (hΔ : ∀ (h : Fin 2) (i : Fin 2048), x3 (ix3 h 0 i) = ((Δ h i : ℝ) : EReal))
    (hC : ∀ (h : Fin 2) (i : Fin 2048), x4 (ix3 h 0 i) = ((C h i : ℝ) : EReal)) :
    (reads arg2 harg2 arg3 harg3 arg4 harg4 arg5 harg5 arg6 harg6 x0 x1 x2 x3 x4).Holds Q K V D L Δ C where
  q r n h i l := (Memref.IsWhole.readAt_unread harg2 _ _ _).trans ((congrArg x0 (idx₂ (A := 2048) i l (by omega) (by omega))).trans (hq _ l))
  k r n h i l := (Memref.IsWhole.readAt_unread harg2 _ _ _).trans ((congrArg x0 (idx₂ (A := 2048) i l (by omega) (by omega))).trans (hk _ l))
  v r n h i l := (Memref.IsWhole.readAt_unread harg2 _ _ _).trans ((congrArg x0 (idx₂ (A := 2048) i l (by omega) (by omega))).trans (hv _ l))
  dO r n h i l := (Memref.IsWhole.readAt_unread harg3 _ _ _).trans ((congrArg x1 (idx₂ (A := 2048) i l (by omega) (by omega))).trans (hd _ l))
  lse g r n h i := (Memref.IsWhole.readAt_unread harg4 _ _ _).trans ((congrArg x2 (idx₃ g.isLt i (by omega))).trans (hL _ _))
  delta g r n h i := (Memref.IsWhole.readAt_unread harg5 _ _ _).trans ((congrArg x3 (idx₃ g.isLt i (by omega))).trans (hΔ _ _))
  c g r n h i := (Memref.IsWhole.readAt_unread harg6 _ _ _).trans ((congrArg x4 (idx₃ g.isLt i (by omega))).trans (hC _ _))
end

section
variable {q k v : S4x2048x512.Idx → ℝ} {g : S4x8x2048.Idx → ℝ} {d : S4x2048x512.Idx → ℝ}
  {x0 x1 x2 x4 : FVec Ideal S4x2048x512 .f32} {x3 : FVec Ideal S4x8x2048 .f32}

theorem packed32 (h0 : x0 = up q) (h1 : x1 = up k) (h2 : x2 = up v) (r : Fin 8192) (p : Fin 4) (j : Fin 3) (l : Fin 128) :
    packed x0 x1 x2 (ix2 r ⟨384 * p + 128 * j + l, by omega⟩) = ((X (pick q k v j) (r / 2048) (r % 2048) (128 * p + l) : ℝ) : EReal) := by
  subst h0 h1 h2
  exact packed_at q k v r p j l

theorem rows32 (h4 : x4 = up d) (r : Fin 8192) (l : Fin 512) : rows x4 (ix2 r l) = ((X d (r / 2048) (r % 2048) l : ℝ) : EReal) := by
  subst h4
  exact rows_at d r l

theorem lse32 (h0 : x0 = up q) (h1 : x1 = up k) (h3 : x3 = up g) (r : Fin 32) (i : Fin 2048) :
    heads32 (F := Ideal) (lseOf (F := Ideal) (val_main_v22_0 (F := Ideal) x0 x1 x3) (val_main_v23 (F := Ideal) x0 x1 x3)) (ix3 r 0 i) = ((lse q k g (r / 8) (r % 8) i : ℝ) : EReal) := by
  subst h0 h1 h3
  exact heads32_at _ (lse q k g) (lse_at q k g) r i

theorem delta32 (h0 : x0 = up q) (h1 : x1 = up k) (h2 : x2 = up v) (h3 : x3 = up g) (h4 : x4 = up d) (r : Fin 32) (i : Fin 2048) :
    heads32 (F := Ideal) (deltaOf (F := Ideal) (val_main_v47 (F := Ideal) x0 x1 x3) (val_main_v5 (F := Ideal) x2) (val_main_v55 (F := Ideal) x4)) (ix3 r 0 i)
      = ((dl (sc q k g (r / 8) (r % 8)) (M q k g (r / 8) (r % 8)) (dP v d (r / 8) (r % 8)) i : ℝ) : EReal) := by
  subst h0 h1 h2 h3 h4
  exact heads32_at _ (fun b h i => dl (sc q k g b h) (M q k g b h) (dP v d b h) i) (delta_at q k v g d) r i

theorem gate32 (h3 : x3 = up g) (r : Fin 32) (i : Fin 2048) : heads32 x3 (ix3 r 0 i) = ((Y g (r / 8) (r % 8) i : ℝ) : EReal) := by
  subst h3
  exact heads32_at _ (Y g) (fun b h i => congrArg Real.toEReal (Y_eq g b h i).symm) r i
end

theorem idx : ∀ t : Fin cfg0.N, win0_0.index t = ![t.val / 4, t.val % 4] ∧ win0_1.index t = ![t.val / 4, t.val % 4] ∧ win0_2.index t = ![t.val, 0, 0]
    ∧ win0_3.index t = ![t.val, 0, 0] ∧ win0_4.index t = ![t.val, 0, 0] ∧ win0_5.index t = ![t.val / 4, t.val % 4] ∧ win0_6.index t = ![t.val, 0, 0] :=
  (by decide +kernel : ∀ t : Fin grid0.N, _)

theorem point_lt (t : Fin cfg0.N) : t.val < 16 := t.isLt

variable (m : (ℓ : Loc nD τ sig) → Buf (Elt Ideal) ℓ) (c : Dev nD)

/-- The blocks of grid point `t`, at places of any contents of their arrays. -/
theorem blk0 (t : Fin cfg0.N) (W : S8192x1536.Idx → EReal) (i : Fin 2048) (j : Fin 384) :
    (((cfg0.win 0).blk t).view.read (Elt Ideal) W : S2048x384.Idx → EReal) (ix2 i j) = W (ix2 ⟨2048 * (t.val / 4) + i, by have := point_lt t; omega⟩ ⟨384 * (t.val % 4) + j, by omega⟩) := by
  have := point_lt t
  blk_simp [idx t]
  blk_ext [idx t]

theorem blk1 (t : Fin cfg0.N) (W : S8192x512.Idx → EReal) (i : Fin 2048) (j : Fin 128) :
    (((cfg0.win 1).blk t).view.read (Elt Ideal) W : S2048x128.Idx → EReal) (ix2 i j) = W (ix2 ⟨2048 * (t.val / 4) + i, by have := point_lt t; omega⟩ ⟨128 * (t.val % 4) + j, by omega⟩) := by
  have := point_lt t
  blk_simp [idx t]
  blk_ext [idx t]

theorem blk2 (t : Fin cfg0.N) (W : S32x1x2048.Idx → EReal) (h : Fin 2) (i : Fin 2048) :
    (((cfg0.win 2).blk t).view.read (Elt Ideal) W : S2x1x2048.Idx → EReal) (ix3 h 0 i) = W (ix3 ⟨2 * t.val + h, by have := point_lt t; omega⟩ 0 i) := by
  have := point_lt t
  blk_simp [idx t]
  blk_ext [idx t]

theorem blk3 (t : Fin cfg0.N) (W : S32x1x2048.Idx → EReal) (h : Fin 2) (i : Fin 2048) :
    (((cfg0.win 3).blk t).view.read (Elt Ideal) W : S2x1x2048.Idx → EReal) (ix3 h 0 i) = W (ix3 ⟨2 * t.val + h, by have := point_lt t; omega⟩ 0 i) := by
  have := point_lt t
  blk_simp [idx t]
  blk_ext [idx t]

theorem blk4 (t : Fin cfg0.N) (W : S32x1x2048.Idx → EReal) (h : Fin 2) (i : Fin 2048) :
    (((cfg0.win 4).blk t).view.read (Elt Ideal) W : S2x1x2048.Idx → EReal) (ix3 h 0 i) = W (ix3 ⟨2 * t.val + h, by have := point_lt t; omega⟩ 0 i) := by
  have := point_lt t
  blk_simp [idx t]
  blk_ext [idx t]

/-- Where the blocks of the two outputs lie in their arrays. -/
theorem blk5 {α : Type} (t : Fin cfg0.N) (W : S8192x1536.Idx → α) (i : Fin 2048) (j : Fin 384) :
    W ((win0_5.blk t).view.emb (ix2 i j)) = W (ix2 ⟨2048 * (t.val / 4) + i, by have := point_lt t; omega⟩ ⟨384 * (t.val % 4) + j, by omega⟩) := by
  have := point_lt t
  refine congrArg W ?_
  blk_ext [idx t]

theorem blk6 {α : Type} (t : Fin cfg0.N) (W : S32x1x2048.Idx → α) (h : Fin 2) (i : Fin 2048) :
    W ((win0_6.blk t).view.emb (ix3 h 0 i)) = W (ix3 ⟨2 * t.val + h, by have := point_lt t; omega⟩ 0 i) := by
  have := point_lt t
  refine congrArg W ?_
  blk_ext [idx t]

/-- What the grid point leaves in the blocks of the two outputs. -/
theorem left5 (t : Fin cfg0.N) : (outsAt0 m c t).1 = View.canon (qkvList (reads (ms0_0 t) (hs0_0 t) (ms0_1 t) (hs0_1 t) (ms0_2 t) (hs0_2 t) (ms0_3 t) (hs0_3 t) (ms0_4 t) (hs0_4 t)
      (iblk m c 0 t) (iblk m c 1 t) (iblk m c 2 t) (iblk m c 3 t) (iblk m c 4 t)) scM0_0.view (ms0_5 t).view) := by
  refine Eq.trans ?_ (out5_eq c (grid0.coords t) (ms0_0 t) (hs0_0 t) (ms0_1 t) (hs0_1 t) (ms0_2 t) (hs0_2 t) (ms0_3 t) (hs0_3 t) (ms0_4 t) (hs0_4 t)
    (ms0_5 t) (hs0_5 t) (ms0_6 t) (hs0_6 t) scM0_0 (Memref.isWhole_whole _) (iblk m c 0 t) (iblk m c 1 t) (iblk m c 2 t) (iblk m c 3 t) (iblk m c 4 t))
  sl_kernel_rfl

theorem left6 (t : Fin cfg0.N) : (outsAt0 m c t).2 = View.canon (dcList (reads (ms0_0 t) (hs0_0 t) (ms0_1 t) (hs0_1 t) (ms0_2 t) (hs0_2 t) (ms0_3 t) (hs0_3 t) (ms0_4 t) (hs0_4 t)
      (iblk m c 0 t) (iblk m c 1 t) (iblk m c 2 t) (iblk m c 3 t) (iblk m c 4 t)) (ms0_6 t).view steps) := by
  refine Eq.trans ?_ (out6_eq c (grid0.coords t) (ms0_0 t) (hs0_0 t) (ms0_1 t) (hs0_1 t) (ms0_2 t) (hs0_2 t) (ms0_3 t) (hs0_3 t) (ms0_4 t) (hs0_4 t)
    (ms0_5 t) (hs0_5 t) (ms0_6 t) (hs0_6 t) scM0_0 (Memref.isWhole_whole _) (iblk m c 0 t) (iblk m c 1 t) (iblk m c 2 t) (iblk m c 3 t) (iblk m c 4 t))
  sl_kernel_rfl

section
variable (q k v : S4x2048x512.Idx → ℝ) (g : S4x8x2048.Idx → ℝ) (d : S4x2048x512.Idx → ℝ)
  (h0 : a0 m c = up q) (h1 : a1 m c = up k) (h2 : a2 m c = up v) (h3 : a3 m c = up g) (h4 : a4 m c = up d)
include h0 h1 h2 h3 h4

/-- The loads at grid point `t`: batch `t / 4`, pair `t % 4`. -/
theorem point_reads (t : Fin cfg0.N) :
    (reads (ms0_0 t) (hs0_0 t) (ms0_1 t) (hs0_1 t) (ms0_2 t) (hs0_2 t) (ms0_3 t) (hs0_3 t) (ms0_4 t) (hs0_4 t)
      (iblk m c 0 t) (iblk m c 1 t) (iblk m c 2 t) (iblk m c 3 t) (iblk m c 4 t)).Holds
      (pairOf (t.val / 4) (t.val % 4) q) (pairOf (t.val / 4) (t.val % 4) k) (pairOf (t.val / 4) (t.val % 4) v) (pairOf (t.val / 4) (t.val % 4) d)
      (lseR q k g (t.val / 4) (t.val % 4)) (dltR q k v g d (t.val / 4) (t.val % 4)) (gateR g (t.val / 4) (t.val % 4)) := by
  have ht := point_lt t
  have hp : ∀ (j : Fin 3) (i : Fin 2048) (l : Fin 128), iblk m c 0 t (ix2 i ⟨128 * j.val + l, by omega⟩)
      = ((pairOf (t.val / 4) (t.val % 4) (pick q k v j) i l : ℝ) : EReal) := fun j i l => by
    refine (blk0 t _ _ _).trans ((congrFun (entry72 m c) _).trans ?_)
    have e := packed32 h0 h1 h2 ⟨2048 * (t.val / 4) + i, by omega⟩ ⟨t.val % 4, by omega⟩ j l
    refine Eq.trans ?_ (e.trans ?_)
    · refine congrArg (packed (a0 m c) (a1 m c) (a2 m c)) (congrArg (ix2 _) (Fin.ext ?_))
      show 384 * (t.val % 4) + (128 * j.val + l.val) = 384 * (t.val % 4) + 128 * j.val + l.val
      omega
    · show ((X (pick q k v j) ((2048 * (t.val / 4) + i.val) / 2048) ((2048 * (t.val / 4) + i.val) % 2048) _ : ℝ) : EReal) = _
      rw [show (2048 * (t.val / 4) + i.val) / 2048 = t.val / 4 by omega, show (2048 * (t.val / 4) + i.val) % 2048 = i.val by omega]
      rfl
  have e8 : ∀ h : Fin 2, (2 * t.val + h.val) / 8 = t.val / 4 ∧ (2 * t.val + h.val) % 8 = 2 * (t.val % 4) + h.val := fun h => by omega
  refine reads_hold _ _ _ _ _ _ _ _ _ _ _ _ _ _ _ _ _ _ _ _ _ _ (fun i l => ?_) (fun i l => hp 1 i l) (fun i l => hp 2 i l) (fun i l => ?_)
    (fun h i => ?_) (fun h i => ?_) (fun h i => ?_)
  · exact hp 0 i l
  · refine (blk1 t _ _ _).trans ((congrFun (entry74 m c) _).trans ?_)
    refine (rows32 h4 _ _).trans ?_
    show ((X d ((2048 * (t.val / 4) + i.val) / 2048) ((2048 * (t.val / 4) + i.val) % 2048) (128 * (t.val % 4) + (0 + l.val)) : ℝ) : EReal) = _
    rw [show (2048 * (t.val / 4) + i.val) / 2048 = t.val / 4 by omega, show (2048 * (t.val / 4) + i.val) % 2048 = i.val by omega, zero_add]
    rfl
  · refine (blk2 t _ _ _).trans ((congrFun (entry75 m c) _).trans ?_)
    refine (lse32 h0 h1 h3 _ _).trans ?_
    show ((lse q k g ((2 * t.val + h.val) / 8) ((2 * t.val + h.val) % 8) i : ℝ) : EReal) = _
    rw [(e8 h).1, (e8 h).2]
    rfl
  · refine (blk3 t _ _ _).trans ((congrFun (entry76 m c) _).trans ?_)
    refine (delta32 h0 h1 h2 h3 h4 _ _).trans ?_
    show ((dl (sc q k g ((2 * t.val + h.val) / 8) ((2 * t.val + h.val) % 8)) (M q k g ((2 * t.val + h.val) / 8) ((2 * t.val + h.val) % 8))
      (dP v d ((2 * t.val + h.val) / 8) ((2 * t.val + h.val) % 8)) i : ℝ) : EReal) = _
    rw [(e8 h).1, (e8 h).2]
    rfl
  · refine (blk4 t _ _ _).trans ((congrFun (entry77 m c) _).trans ?_)
    refine (gate32 h3 _ _).trans ?_
    show ((Y g ((2 * t.val + h.val) / 8) ((2 * t.val + h.val) % 8) i : ℝ) : EReal) = _
    rw [(e8 h).1, (e8 h).2]
    rfl

omit h0 h1 h2 h3 h4 in
/-- The gradients of a batch's pair of heads, by packed column. -/
abbrev qkvOf (b p : ℕ) (t l : ℕ) : ℝ :=
  qkvR (pairOf b p q) (pairOf b p k) (pairOf b p v) (pairOf b p d) (lseR q k g b p) (dltR q k v g d b p) (gateR g b p) t l

omit h0 h1 h2 h3 h4 in
/-- The gate gradients of a batch's pair of heads. -/
abbrev dcOf (b p : ℕ) (h : Fin 2) (s : ℕ) : ℝ :=
  dcR (pairOf b p q) (pairOf b p k) (pairOf b p v) (pairOf b p d) (lseR q k g b p) (dltR q k v g d b p) (gateR g b p) h s

omit h0 h1 h2 h3 h4 in
/-- The two outputs, whole. -/
def qkvOut (i : S8192x1536.Idx) : EReal := ((qkvOf q k v g d ((i 0).val / 2048) ((i 1).val / 384) ((i 0).val % 2048) ((i 1).val % 384) : ℝ) : EReal)

theorem final5 : (dats m 0 c).arrAt 5 cfg0.N = qkvOut q k v g d := by
  refine (dats m 0 c).arrAt_eq_of_covers 5 _ (by decide +kernel) fun t hf y => ?_
  refine (congrFun (after0_5 m c t) y).trans ?_
  idx_vars y
  refine (congrFun (left5 m c t) (ix2 y0 y1)).trans ?_
  refine (qkv_at (point_reads m c q k v g d h0 h1 h2 h3 h4 t) _ _ y0 y1).trans ?_
  refine Eq.trans ?_ (blk5 t _ y0 y1).symm
  show ((qkvOf q k v g d (t.val / 4) (t.val % 4) y0 y1 : ℝ) : EReal) = ((qkvOf q k v g d ((2048 * (t.val / 4) + y0.val) / 2048)
    ((384 * (t.val % 4) + y1.val) / 384) ((2048 * (t.val / 4) + y0.val) % 2048) ((384 * (t.val % 4) + y1.val) % 384) : ℝ) : EReal)
  rw [show (2048 * (t.val / 4) + y0.val) / 2048 = t.val / 4 by omega, show (2048 * (t.val / 4) + y0.val) % 2048 = y0.val by omega,
    show (384 * (t.val % 4) + y1.val) / 384 = t.val % 4 by omega, show (384 * (t.val % 4) + y1.val) % 384 = y1.val by omega]

omit h0 h1 h2 h3 h4 in
def dcOut (i : S32x1x2048.Idx) : EReal := ((dcOf q k v g d ((i 0).val / 8) ((i 0).val % 8 / 2) ⟨(i 0).val % 2, by omega⟩ (i 2).val : ℝ) : EReal)

theorem final6 : (dats m 0 c).arrAt 6 cfg0.N = dcOut q k v g d := by
  refine (dats m 0 c).arrAt_eq_of_covers 6 _ (by decide +kernel) fun t hf y => ?_
  refine (congrFun (after0_6 m c t) y).trans ?_
  idx_vars y
  obtain rfl : y1 = 0 := Subsingleton.elim _ _
  refine (congrFun (left6 m c t) (ix3 y0 0 y2)).trans ?_
  refine (dc_at (point_reads m c q k v g d h0 h1 h2 h3 h4 t) _ y0 y2).trans ?_
  refine Eq.trans ?_ (blk6 t _ y0 y2).symm
  have e : (⟨(2 * t.val + y0.val) % 2, by omega⟩ : Fin 2) = y0 := Fin.ext (by show (2 * t.val + y0.val) % 2 = y0.val; omega)
  show ((dcOf q k v g d (t.val / 4) (t.val % 4) y0 y2 : ℝ) : EReal) = ((dcOf q k v g d ((2 * t.val + y0.val) / 8)
    ((2 * t.val + y0.val) % 8 / 2) ⟨(2 * t.val + y0.val) % 2, by omega⟩ y2 : ℝ) : EReal)
  rw [e, show (2 * t.val + y0.val) / 8 = t.val / 4 by omega, show (2 * t.val + y0.val) % 8 / 2 = t.val % 4 by omega]
end

/-- The precondition makes all five arguments arrays of reals. -/
theorem finite (x0 x1 x2 : FVec Ideal Pre_fox_finite.S4x2048x512 .f32) (x3 : FVec Ideal Pre_fox_finite.S4x8x2048 .f32) (x4 : FVec Ideal Pre_fox_finite.S4x2048x512 .f32)
    (h : Cert.Pre_fox_finite.fn (F := Ideal) x0 x1 x2 x3 x4 = fun _ => 1#1) :
    (∃ f, x0 = up f) ∧ (∃ f, x1 = up f) ∧ (∃ f, x2 = up f) ∧ (∃ f, x3 = up f) ∧ ∃ f, x4 = up f := by
  have e := congrFun h ix0
  obtain ⟨e0123, e4⟩ := IntOp.andi_eq_one.1 e
  obtain ⟨e012, e3⟩ := IntOp.andi_eq_one.1 e0123
  obtain ⟨e01, e2⟩ := IntOp.andi_eq_one.1 e012
  obtain ⟨e0, e1⟩ := IntOp.andi_eq_one.1 e01
  exact ⟨real_of_all x0 _ _ _ _ e0, real_of_all x1 _ _ _ _ e1, real_of_all x2 _ _ _ _ e2, real_of_all x3 _ _ _ _ e3, real_of_all x4 _ _ _ _ e4⟩

section
variable (q k v : S4x2048x512.Idx → ℝ) (g : S4x8x2048.Idx → ℝ) (d : S4x2048x512.Idx → ℝ)

/-- The derivative's packed array and its gate gradients, at an index. -/
theorem ref5 (r : Fin 8192) (l : Fin 1536) : Cert.FoxReferenceIdeal.Read.val_main_v95 (F := Ideal) (up q) (up k) (up v) (up g) (up d) (ix2 r l)
    = ((qkvOf q k v g d (r.val / 2048) (l.val / 384) (r.val % 2048) (l.val % 384) : ℝ) : EReal) := by
  have e := v95_at q k v g d ⟨r.val / 2048, by omega⟩ ⟨r.val % 2048, by omega⟩ ⟨l.val / 384, by omega⟩ ⟨l.val % 384 / 128, by omega⟩
    ⟨l.val % 128 / 64, by omega⟩ ⟨l.val % 64, by omega⟩
  refine Eq.trans (congrArg _ (congrArg₂ ix2 (Fin.ext ?_) (Fin.ext ?_))) (e.trans (congrArg Real.toEReal ?_))
  · show r.val = 2048 * (r.val / 2048) + r.val % 2048; omega
  · show l.val = 384 * (l.val / 384) + 128 * (l.val % 384 / 128) + 64 * (l.val % 128 / 64) + l.val % 64; omega
  · refine (qkvR_eq q k v g d (r.val / 2048) (l.val / 384) ⟨l.val % 384 / 128, by omega⟩ ⟨l.val % 128 / 64, by omega⟩ ⟨l.val % 64, by omega⟩ (r.val % 2048)).symm.trans ?_
    show qkvOf q k v g d _ _ _ (128 * (l.val % 384 / 128) + 64 * (l.val % 128 / 64) + l.val % 64) = _
    rw [show 128 * (l.val % 384 / 128) + 64 * (l.val % 128 / 64) + l.val % 64 = l.val % 384 by omega]

theorem ref6 (r : Fin 32) (s : Fin 2048) : Cert.FoxReferenceIdeal.Read.val_main_v96 (F := Ideal) (up q) (up k) (up v) (up g) (up d) (ix3 r 0 s)
    = ((dcOf q k v g d (r.val / 8) (r.val % 8 / 2) ⟨r.val % 2, by omega⟩ s.val : ℝ) : EReal) := by
  have e := v96_at q k v g d ⟨r.val / 8, by omega⟩ ⟨r.val % 8, by omega⟩ s
  refine Eq.trans (congrArg _ (congrArg (ix3 · 0 s) (Fin.ext ?_))) (e.trans (congrArg Real.toEReal ?_))
  · show r.val = 8 * (r.val / 8) + r.val % 8; omega
  · refine Eq.trans ?_ (dcR_eq q k v g d (r.val / 8) (r.val % 8 / 2) ⟨r.val % 2, by omega⟩ s.val).symm
    show rc q k v g d (r.val / 8) (r.val % 8) s = rc q k v g d (r.val / 8) (2 * (r.val % 8 / 2) + r.val % 2) s
    rw [show 2 * (r.val % 8 / 2) + r.val % 2 = r.val % 8 by omega]
end

/-- The kernel's packed gradients and gate gradients are the derivative's. -/
theorem algebraic : Cert.algebraic_FoxKernelIdeal_FoxReferenceIdeal_pre_fox_finite := by
  pair_intro
  · run_from Cert.FoxKernelIdeal.Value.run_blocks m g
  · refine (θ_run _ _ _).mono (fun s h c => ?_) (Cert.FoxReferenceIdeal.Value.run (F := Ideal) m' g')
    obtain ⟨h0, h1, h2, h3, h4, h5, h6⟩ := h c
    obtain ⟨e0, e1, e2, e3, e4⟩ := hagree c
    obtain ⟨⟨q, hq⟩, ⟨k, hk⟩, ⟨v, hv⟩, ⟨f, hf⟩, ⟨d, hd⟩⟩ := finite _ _ _ _ _ (hpre c)
    refine ⟨h0.trans ?_, h1.trans ?_, h2, h3, h4, h5, h6⟩
    · rw [final5 m c q k v f d hq hk hv hf hd]
      refine (Cert.FoxReferenceIdeal.Read.val_main_v95_eq m' c).trans ?_
      rw [e0, e1, e2, e3, e4, hq, hk, hv, hf, hd]
      funext i
      idx_vars i
      exact ref5 q k v f d i0 i1
    · rw [final6 m c q k v f d hq hk hv hf hd]
      refine (Cert.FoxReferenceIdeal.Read.val_main_v96_eq m' c).trans ?_
      rw [e0, e1, e2, e3, e4, hq, hk, hv, hf, hd]
      funext i
      idx_vars i
      obtain rfl : i1 = 0 := Subsingleton.elim _ _
      exact ref6 q k v f d i0 i2

/-- The reference runs and keeps its arguments; it has no counters. -/
theorem frame_reference : Cert.quiescent_FoxReferenceIdeal := fun m g _ =>
  (θ_run _ _ _).mono (fun _ h => ⟨fun c => (h c).2.2, no_counters rfl rfl _ _⟩) (Cert.FoxReferenceIdeal.Value.run (F := Idealize.ShloMosaic.Ideal) m g)

end Cert.Fox
-- ==== Proof.FwdBody.lean ====
module

public import proofs.«01_k».proof.Proof.Gen.FoxFKernelIdeal.Value
public import proofs.«01_k».proof.Proof.Attn

@[expose] public section

set_option maxRecDepth 16384

noncomputable section

namespace Cert.FoxF

open Idealize.ShloMosaic Cert.FoxFKernelIdeal Cert.FoxFKernelIdeal.Gen Attn

/-! # The forgetting attention's forward, tile by tile

One grid point holds the two heads of a lane pair. Its query rows go in tiles of 256, and each tile meets its own 256
keys, masked, and then the keys before it in spans of at most 1024. -/

variable {F : FTy → Type} [FloatOps F] [Named F]

/-- What one grid point reads: rows of the three projections, and pieces of the gate sums of a head. -/
structure Reads (F : FTy → Type) where
  q : ∀ r n : ℕ, r + n ≤ 2048 → FVec F (S₂ n 128) .bf16
  k : ∀ r n : ℕ, r + n ≤ 2048 → FVec F (S₂ n 128) .bf16
  v : ∀ r n : ℕ, r + n ≤ 2048 → FVec F (S₂ n 128) .bf16
  c : ∀ (h : Fin 2) (r n : ℕ), r + n ≤ 2048 → FVec F (S₃ 1 1 n) .f32

/-- One unit: the head, the query tile's first row, and the keys; `diag` says it is the masked one. -/
structure Job where
  h : Fin 2
  q0 : ℕ
  k0 : ℕ
  n : ℕ
  diag : Bool
  hq : q0 + 256 ≤ 2048
  hk : k0 + n ≤ 2048

variable (R : Reads F) (u : Job)

/-- The head's query lanes, scaled. -/
def qt (h : Fin 2) (q0 : ℕ) (hq : q0 + 256 ≤ 2048) : FVec F (S₂ 256 128) .bf16 :=
  mulf (keep h (shapeCast _ (R.q q0 256 hq) (casts_refl _)) (broadcast _ (Scalar.ofBits .bf16 0x0000#16)))
    (broadcast _ (Scalar.ofBits .bf16 0x3E00#16))

/-- The logits of a unit, queries down and keys across, less the keys' gate sums. -/
def lg : FVec F (S₂ 256 u.n) .f32 :=
  subf (matmul (DotDims.transposedRhs 256 128 u.n) none (qt R u.h u.q0 u.hq) (shapeCast _ (R.k u.k0 u.n u.hk) (casts_refl _)) (constant _ .f32 0x00000000#32))
    (broadcastTo _ (row (R.c u.h u.k0 u.n u.hk)) (bc_row _ _))

def lm : FVec F (S₂ 256 u.n) .f32 :=
  match u.diag with
  | true => select (cmpi .sle (iota .tc (S₂ 256 u.n) 32 [1] (iotas _ _)) (iota .tc (S₂ 256 u.n) 32 [0] (iotas _ _))) (lg R u)
      (broadcast _ (Named.named κ "mask" 0xF149F2CA#32))
  | false => lg R u

/-- The rows' greatest logits of a unit. -/
def top : FVec F (S₂ 256 1) .f32 :=
  shapeCast _ (multiReduction .maximumf [1] (S₁ 256) (lm R u) 0xFF800000#32 (red_col _ _) (.inl rfl) rfl) (casts_col _)

/-- The exponentials of a unit, less the rows' shift. -/
def ep (m : FVec F (S₂ 256 1) .f32) : FVec F (S₂ 256 u.n) .f32 := exp (subf (lm R u) (broadcastTo _ m (bc_col _ _)))

/-- Their row sums, -/
def es (m : FVec F (S₂ 256 1) .f32) : FVec F (S₂ 256 1) .f32 :=
  shapeCast _ (multiReduction .add [1] (S₁ 256) (ep R u m) 0x00000000#32 (red_col _ _) (.inl rfl) rfl) (casts_col _)

/-- and their products with the values. -/
def ev (m : FVec F (S₂ 256 1) .f32) : FVec F (S₂ 256 128) .f32 :=
  matmul (DotDims.plain 256 u.n 128) none (truncf .bf16 (ep R u m) bitsLt_bf16_f32) (shapeCast _ (R.v u.k0 u.n u.hk) (casts_refl _)) (constant _ .f32 0x00000000#32)

/-- The sum of parts from zero on. -/
def total {s : Shape} {φ : FTy} (f : Job → FVec F s φ) (l : List Job) : FVec F s φ :=
  l.foldl (fun x b => addf x (f b)) (broadcast _ (Scalar.ofBits φ 0#_))

/-- The keys before a tile, in spans. -/
structure Span where
  k0 : ℕ
  n : ℕ
  hk : k0 + n ≤ 2048

/-- One query tile: its first row and its spans. -/
structure Tile where
  q0 : ℕ
  hq : q0 + 256 ≤ 2048
  spans : List Span

def tiles : List Tile :=
  [⟨0, by decide, []⟩,
   ⟨256, by decide, [⟨0, 256, by decide⟩]⟩,
   ⟨512, by decide, [⟨0, 512, by decide⟩]⟩,
   ⟨768, by decide, [⟨0, 768, by decide⟩]⟩,
   ⟨1024, by decide, [⟨0, 1024, by decide⟩]⟩,
   ⟨1280, by decide, [⟨0, 1024, by decide⟩, ⟨1024, 256, by decide⟩]⟩,
   ⟨1536, by decide, [⟨0, 1024, by decide⟩, ⟨1024, 512, by decide⟩]⟩,
   ⟨1792, by decide, [⟨0, 1024, by decide⟩, ⟨1024, 768, by decide⟩]⟩]

/-- A tile's masked unit and the others. -/
def Tile.own (T : Tile) (h : Fin 2) : Job := ⟨h, T.q0, T.q0, 256, true, T.hq, T.hq⟩
def Tile.before (T : Tile) (h : Fin 2) : List Job := T.spans.map fun s => ⟨h, T.q0, s.k0, s.n, false, T.hq, s.hk⟩
def Tile.jobs (T : Tile) (h : Fin 2) : List Job := T.own h :: T.before h

variable (T : Tile) (h : Fin 2)

/-- The rows' shift of a tile and head: the greatest logit. -/
def shift : FVec F (S₂ 256 1) .f32 := (T.before h).foldl (fun x b => maximumf x (top R b)) (top R (T.own h))
/-- The rows' sums of exponentials. -/
def den : FVec F (S₂ 256 1) .f32 := total (fun u => es R u (shift R T h)) (T.jobs h)
/-- The rows' output. -/
def out : FVec F (S₂ 256 128) .f32 := divf (total (fun u => ev R u (shift R T h)) (T.jobs h)) (broadcastTo _ (den R T h) (bc_col _ _))

/-! ## The two buffers -/

abbrev Pc (F : FTy → Type) (s : Shape) (e : EltTy) := View.Piece (Elt F) s e

variable {κ' : Kind} {sp : Space} (A : View sig κ' sp (S₂ 2048 128) .f32)

def rect (T : Tile) : Rect (S₂ 2048 128) := Rect.unit ![T.q0, 0] (S₂ 256 128).size (inb₂ T.hq (by decide))

/-- The stores of the rows' outputs, last first. -/
def oList (l : List (Tile × Fin 2)) : List (Pc F (S₂ 2048 128) .f32) :=
  l.foldl (fun L p => ⟨rect p.1, keep p.2 (out R p.1 p.2) (shapeCast _ (A.readCov L (rect p.1).toLoadRect) (casts_refl _))⟩ :: L)
    [⟨Rect.unit ![0, 0] (S₂ 2048 128).size (inb₂ (by decide) (by decide)), broadcast _ (Scalar.ofBits .f32 0x00000000#32)⟩]

/-- A head's piece of the row logarithms. -/
def lane (h : Fin 2) (T : Tile) : Rect (S₃ 2 1 2048) := Rect.unit ![h.val, 0, T.q0] (S₃ 1 1 256).size (inb₃ h T.hq)

/-- The rows' logarithms of their sums of exponentials, with the query's gate sum. -/
def ls : FVec F (S₃ 1 1 256) .f32 :=
  shapeCast _ (addf (toRow (addf (shift R T h) (log (den R T h)))) (row (R.c h T.q0 256 T.hq))) (casts_add _)

def lseList (l : List (Tile × Fin 2)) : List (Pc F (S₃ 2 1 2048) .f32) :=
  l.foldl (fun L p => ⟨lane p.2 p.1, ls R p.1 p.2⟩ :: L) []

def heads : List (Tile × Fin 2) := tiles.flatMap fun T => [(T, 0), (T, 1)]

variable (c : Dev nD) (i : grid0.Coords)
 (arg2 : Memref sig Kind.tc Space.vmem S2048x384 EltTy.bf16) (harg2 : arg2.IsWhole)
 (arg3 : Memref sig Kind.tc Space.vmem S2x1x2048 EltTy.f32) (harg3 : arg3.IsWhole)
 (arg4 : Memref sig Kind.tc Space.vmem S2048x128 EltTy.f32) (harg4 : arg4.IsWhole)
 (arg5 : Memref sig Kind.tc Space.vmem S2x1x2048 EltTy.f32) (harg5 : arg5.IsWhole)
 (x0 : Vec F S2048x384 .bf16) (x1 : Vec F S2x1x2048 .f32)

/-- The reads of one grid point. -/
def reads : Reads F where
  q r n h := View.readAt (Elt F) arg2.view (Rect.unit (s := S₂ 2048 384) ![r, 0] (S₂ n 128).size (inb₂ h (by decide))).toLoadRect (harg2.unread x0)
  k r n h := View.readAt (Elt F) arg2.view (Rect.unit (s := S₂ 2048 384) ![r, 128] (S₂ n 128).size (inb₂ h (by decide))).toLoadRect (harg2.unread x0)
  v r n h := View.readAt (Elt F) arg2.view (Rect.unit (s := S₂ 2048 384) ![r, 256] (S₂ n 128).size (inb₂ h (by decide))).toLoadRect (harg2.unread x0)
  c g r n h := View.readAt (Elt F) arg3.view (Rect.unit (s := S₃ 2 1 2048) ![g.val, 0, r] (S₃ 1 1 n).size (inb₃ g h)).toLoadRect (harg3.unread x1)

/-- What the body leaves in the rows' outputs: the last store over each index. -/
theorem out2_eq : out0_A_2 c i arg2 harg2 arg3 harg3 arg4 harg4 arg5 harg5 x0 x1
    = View.canon (oList (reads arg2 harg2 arg3 harg3 x0 x1) arg4.view heads) := by
  refine (View.read_writes_junk_eq_canon _ _).trans (congrArg View.canon ?_)
  sl_kernel_rfl

/-- What it leaves in the rows' logarithms. -/
theorem out3_eq : out0_A_3 c i arg2 harg2 arg3 harg3 arg4 harg4 arg5 harg5 x0 x1
    = View.canon (lseList (reads arg2 harg2 arg3 harg3 x0 x1) heads) := by
  refine (View.read_writes_junk_eq_canon _ _).trans (congrArg View.canon ?_)
  sl_kernel_rfl

end Cert.FoxF

end
-- ==== Proof.FwdMath.lean ====
module

public import proofs.«01_k».proof.Proof.FwdBody
public import proofs.«01_k».proof.Proof.FoxMath

@[expose] public section

set_option maxRecDepth 16384

noncomputable section

/-! ## The softmax does not depend on its rows' shifts -/

namespace Soft
variable {s s' : ℕ → ℕ → ℝ} (M M' : ℕ → ℝ) {i : ℕ} {a : ℝ}

theorem ex_shift (h : ∀ t, s i t = s' i t + a) (t : ℕ) : ex s M i t = Real.exp (a + M' i - M i) * ex s' M' i t := by
  unfold ex
  split_ifs
  · rw [h, ← Real.exp_add]
    congr 1; ring
  · rw [mul_zero]

theorem Z_shift (h : ∀ t, s i t = s' i t + a) : Z s M i = Real.exp (a + M' i - M i) * Z s' M' i := by
  rw [Z, Z, Finset.mul_sum]
  exact Finset.sum_congr rfl fun t _ => ex_shift M M' h t

theorem pr_shift (h : ∀ t, s i t = s' i t + a) (t : ℕ) : pr s M i t = pr s' M' i t := by
  rw [pr, pr, ex_shift M M' h, Z_shift M M' h, mul_div_mul_left _ _ (Real.exp_pos _).ne']

theorem log_shift (h : ∀ t, s i t = s' i t + a) : M i + Real.log (Z s M i) = a + (M' i + Real.log (Z s' M' i)) := by
  rw [Z_shift M M' h, Real.log_mul (Real.exp_pos _).ne' (Z_pos _ _ _).ne', Real.log_exp]
  ring
end Soft

namespace Cert.FoxF

open Idealize.ShloMosaic Cert.FoxFKernelIdeal Cert.FoxFKernelIdeal.Gen Attn

/-- The named mask is minus infinity. -/
theorem mask_eq : (Named.named κ "mask" 0xF149F2CA#32 : Ideal .f32) = (⊥ : EReal) :=
  IdealRules.named_const.ideal_named_scalar _ _ _ _ rfl

/-- The reads of a grid point hold these reals. -/
structure Reads.Holds (R : Reads Ideal) (Q K V : ℕ → ℕ → ℝ) (C : Fin 2 → ℕ → ℝ) : Prop where
  q : ∀ r n h, Is (R.q r n h) fun i l => Q (r + i) l
  k : ∀ r n h, Is (R.k r n h) fun i l => K (r + i) l
  v : ∀ r n h, Is (R.v r n h) fun i l => V (r + i) l
  c : ∀ g r n h, IsRow (R.c g r n h) fun i => C g (r + i)

section
variable (Q K V : ℕ → ℕ → ℝ) (C : Fin 2 → ℕ → ℝ)

/-- The head's scaled query at a lane. -/
def qOf (h : Fin 2) (i l : ℕ) : ℝ := (if l / 64 = h.val then Q i l else 0) * (1 / 8)
/-- The logit of query `i` and key `t`, less the key's gate sum. -/
def sl (h : Fin 2) (i t : ℕ) : ℝ := (∑ l : Fin 128, qOf Q h i l * K t l) - C h t
/-- The attention's output, -/
def outR (h : Fin 2) (i l : ℕ) : ℝ := ∑ t : Fin 2048, Soft.pr (sl Q K C h) 0 i t * V t l
/-- and the rows' logarithms. -/
def lsR (h : Fin 2) (i : ℕ) : ℝ := Real.log (Soft.Z (sl Q K C h) 0 i) + C h i
end

/-- A unit's mask is the causal one, and it has a key. -/
def Job.Ok (u : Job) : Prop := if u.diag then u.k0 = u.q0 ∧ u.n = 256 else u.k0 + u.n ≤ u.q0 ∧ 0 < u.n

instance (u : Job) : Decidable u.Ok := by unfold Job.Ok; infer_instance

theorem Tile.jobs_ok : ∀ T ∈ tiles, ∀ h, ∀ u ∈ T.jobs h, u.Ok ∧ u.h = h ∧ u.q0 = T.q0 := by decide

/-- A tile's units run through the keys up to its last row. -/
theorem sum_tile (g : ℕ → ℝ) (h : Fin 2) : ∀ T ∈ tiles, (∀ t, T.q0 + 256 ≤ t → g t = 0) →
    ((T.jobs h).map fun u => ∑ t : Fin u.n, g (u.k0 + t)).sum = ∑ t : Fin 2048, g t := by
  intro T hT hz
  have hP : ∑ i : Fin 2048, g i = ∑ i ∈ Finset.range 2048, g i := Fin.sum_univ_eq_sum_range g 2048
  have hq := T.hq
  have h2 : ∑ i ∈ Finset.range 2048, g i = ∑ i ∈ Finset.range (T.q0 + 256), g i := by
    rw [show 2048 = T.q0 + 256 + (2048 - (T.q0 + 256)) by omega, Finset.sum_range_add,
      Finset.sum_eq_zero (s := Finset.range (2048 - (T.q0 + 256))) fun x _ => hz _ (by omega), add_zero]
  rw [hP, h2]
  simp only [sum_from]
  generalize hS : (fun n => ∑ i ∈ Finset.range n, g i) = P
  have hg : ∀ n, ∑ i ∈ Finset.range n, g i = P n := fun n => by rw [← hS]
  have h0 : P 0 = 0 := by rw [← hg]; simp
  simp only [hg]
  clear hz hS hP h2 hq
  revert T
  simp [tiles, Tile.jobs, Tile.own, Tile.before, h0]

theorem Is.total {s t : ℕ} {f : Job → FVec Ideal (S₂ s t) .f32} {F : Job → ℕ → ℕ → ℝ} (l : List Job)
    (h : ∀ u ∈ l, Is (f u) (F u)) : Is (FoxF.total f l) fun r c => (l.map fun u => F u r c).sum := by
  induction l using List.reverseRecOn with
  | nil => exact Is.const _ 0 (show (Ideal.ofBits .f32 0x00000000#32 : EReal) = _ by simp [Ideal.ofBits, Ideal.ieee])
  | append_singleton l b ih =>
    have e : FoxF.total f (l ++ [b]) = addf (FoxF.total f l) (f b) := by
      simp [FoxF.total, List.foldl_append]
    rw [e]
    refine (Is.add (φ := .f32) (ih fun u hu => h u (by simp [hu])) (h b (by simp))).congr fun r c => ?_
    simp

variable {R : Reads Ideal} {Q K V : ℕ → ℕ → ℝ} {C : Fin 2 → ℕ → ℝ} (H : R.Holds Q K V C)
include H

theorem qt_at (h : Fin 2) (q0 hq) : Is (qt R h q0 hq) fun r l => qOf Q h (q0 + r) l :=
  (Is.mul (φ := .bf16) (((H.q q0 256 hq).self _).keep (φ := .bf16) (Is.const _ 0 (by simp [Scalar.ofBits, Ideal.ofBits, Ideal.ieee])) h)
    (Is.const _ (1 / 8) Fox.eighth)).congr fun _ _ => rfl

variable (u : Job)

theorem lg_at : Is (lg R u) fun i t => sl Q K C u.h (u.q0 + i) (u.k0 + t) :=
  Is.sub (φ := .f32) ((qt_at H u.h u.q0 u.hq).matmulNT (φ := .bf16) (ψ := .bf16) ((H.k u.k0 u.n u.hk).self _))
    ((H.c u.h u.k0 u.n u.hk).row.bcRow (φ := .f32) _)

theorem lm_at (hu : u.Ok) (i : Fin 256) (t : Fin u.n) :
    lm R u (ix2 i t) = if u.k0 + t.val ≤ u.q0 + i.val then ((sl Q K C u.h (u.q0 + i) (u.k0 + t) : ℝ) : EReal) else ⊥ := by
  obtain ⟨h, q0, k0, n, d, hq, hk⟩ := u
  cases d with
  | false =>
    have hle : k0 + t.val ≤ q0 + i.val := by
      have : k0 + n ≤ q0 ∧ 0 < n := by simpa [Job.Ok] using hu
      have := t.isLt
      simp only at this
      omega
    exact (lg_at H _ i t).trans (if_pos hle).symm
  | true =>
    obtain ⟨rfl, rfl⟩ : k0 = q0 ∧ n = 256 := by simpa [Job.Ok] using hu
    have e : cmpi .sle (iota .tc (S₂ 256 256) 32 [1] (iotas _ _)) (iota .tc (S₂ 256 256) 32 [0] (iotas _ _)) (ix2 i t)
        = BitVec.ofBool (decide (t.val ≤ i.val)) := by
      show BitVec.ofBool ((BitVec.ofNat 32 (0 * 256 + t.val)).sle (BitVec.ofNat 32 (0 * 256 + i.val))) = _
      exact congrArg BitVec.ofBool ((Soft.sle_nat _ _ (by have := t.isLt; simp only at this; omega) (by omega)).trans
        (decide_eq_decide.2 (by rw [zero_mul, zero_add, zero_add])))
    show (if cmpi .sle (iota .tc (S₂ 256 256) 32 [1] (iotas _ _)) (iota .tc (S₂ 256 256) 32 [0] (iotas _ _)) (ix2 i t) = 1
      then lg R _ (ix2 i t) else (Named.named κ "mask" 0xF149F2CA#32 : Ideal .f32)) = _
    rw [e, mask_eq]
    by_cases hti : t.val ≤ i.val
    · rw [if_pos (by simp [hti]), if_pos (Nat.add_le_add_left hti _)]
      exact lg_at H _ i t
    · rw [if_neg (by simp [hti]), if_neg fun h => hti (Nat.le_of_add_le_add_left h)]

theorem top_real (hu : u.Ok) (i : Fin 256) : ∃ r : ℝ, top R u (ix2 i 0) = (r : EReal) := by
  obtain ⟨t, ht⟩ : ∃ t : Fin u.n, u.k0 + t.val ≤ u.q0 + i.val := by
    unfold Job.Ok at hu
    split_ifs at hu
    · exact ⟨⟨i, by omega⟩, by simp only; omega⟩
    · exact ⟨⟨0, hu.2⟩, by simp only; omega⟩
  have e : top R u (ix2 i 0) = multiReduction .maximumf [1] (S₁ 256) (lm R u) 0xFF800000#32 (red_col _ _) (.inl rfl) rfl (ix1 i) := by
    refine Idealize.ShloMosaic.shapeCast_apply _ _ (ix2 i 0) (ix1 i) ?_
    rw [Shape.rowMajor_val_two, Shape.rowMajor_val_one]
    show i.val = i.val * 1 + 0
    omega
  rw [e]
  simp only [multiReduction, reduceFold_eq_foldl]
  refine Soft.foldl_max (fun n => lm R u n) (fun n => ?_) _ _ (.inl Soft.bot) (.inr ⟨ix2 i t, ?_, _, (lm_at H u hu i t).trans (if_pos ht)⟩)
  · obtain ⟨a, b, rfl⟩ : ∃ a b, n = ix2 a b := ⟨n 0, n 1, by funext d; match d with | ⟨0, _⟩ => rfl | ⟨1, _⟩ => rfl⟩
    rw [lm_at H u hu]
    split_ifs
    · exact .inr ⟨_, rfl⟩
    · exact .inl rfl
  · refine List.mem_filter.2 ⟨List.mem_map.2 ⟨(S₂ 256 u.n).rowMajor (ix2 i t), List.mem_finRange _, Equiv.symm_apply_apply _ _⟩, decide_eq_true ?_⟩
    funext a
    match a with
    | ⟨0, _⟩ => rfl

theorem fold_real (l : List Job) (hl : ∀ u ∈ l, u.Ok) (x : FVec Ideal (S₂ 256 1) .f32) (hx : ∀ i : Fin 256, ∃ r : ℝ, x (ix2 i 0) = (r : EReal)) (i : Fin 256) :
    ∃ r : ℝ, l.foldl (fun x b => maximumf x (top R b)) x (ix2 i 0) = (r : EReal) := by
  induction l generalizing x with
  | nil => exact hx i
  | cons u l ih =>
    refine ih (fun v hv => hl v (by simp [hv])) _ fun i => ?_
    obtain ⟨r, hr⟩ := hx i
    obtain ⟨r', hr'⟩ := top_real H u (hl u (by simp)) i
    refine ⟨max r r', ?_⟩
    show max (x (ix2 i 0)) (top R u (ix2 i 0)) = _
    rw [hr, hr', Reals.coe_max]

/-- The shifts of a tile's rows are reals. -/
theorem shift_real (T : Tile) (hT : T ∈ tiles) (h : Fin 2) : ∃ m : ℕ → ℝ, Is (shift R T h) fun i _ => m i := by
  have key := fold_real H (T.before h) (fun u hu => (Tile.jobs_ok T hT h u (List.mem_cons_of_mem _ hu)).1) (top R (T.own h))
    (top_real H _ (Tile.jobs_ok T hT h _ List.mem_cons_self).1)
  refine ⟨fun i => Classical.choose (key (Fin.ofNat 256 i)), fun i j => ?_⟩
  obtain rfl : j = 0 := Subsingleton.elim _ _
  have hc := Classical.choose_spec (key (Fin.ofNat 256 i))
  have e : Fin.ofNat 256 i.val = i := Fin.ext (Nat.mod_eq_of_lt i.isLt)
  refine Eq.trans ?_ hc
  rw [e]
  rfl

variable {mm : FVec Ideal (S₂ 256 1) .f32} {m : ℕ → ℝ} (hm : Is mm fun i _ => m i)
include hm

theorem ep_at (hu : u.Ok) : Is (ep R u mm) fun i t => Soft.ex (sl Q K C u.h) (fun j => m (j - u.q0)) (u.q0 + i) (u.k0 + t) := fun i t => by
  show Ideal.exp (lm R u (ix2 i t) - broadcastTo _ mm (bc_col _ _) (ix2 i t)) = _
  rw [lm_at H u hu, hm.bcCol (φ := .f32) _ i t]
  simp only [Soft.ex, Nat.add_sub_cancel_left]
  split_ifs
  · rw [← EReal.coe_sub, Ideal.exp_coe]
  · rw [EReal.bot_sub]
    simp

theorem es_at (hu : u.Ok) : Is (es R u mm) fun i _ => ∑ t : Fin u.n, Soft.ex (sl Q K C u.h) (fun j => m (j - u.q0)) (u.q0 + i) (u.k0 + t) :=
  (ep_at H u hm hu).rowSum _ _ _ _

theorem ev_at (hu : u.Ok) : Is (ev R u mm) fun i l => ∑ t : Fin u.n, Soft.ex (sl Q K C u.h) (fun j => m (j - u.q0)) (u.q0 + i) (u.k0 + t) * V (u.k0 + t) l :=
  Is.matmulNN (φ := .bf16) (ψ := .bf16) ((ep_at H u hm hu).trunc bitsLt_bf16_f32) ((H.v u.k0 u.n u.hk).self _)

omit hm

theorem den_at (T : Tile) (hT : T ∈ tiles) (h : Fin 2) (hm : Is (shift R T h) fun i _ => m i) :
    Is (den R T h) fun i _ => Soft.Z (sl Q K C h) (fun j => m (j - T.q0)) (T.q0 + i) := by
  refine (Is.total (T.jobs h) fun u hu => es_at H u hm (Tile.jobs_ok T hT h u hu).1).congr fun i _ => ?_
  refine Eq.trans ?_ (sum_tile (fun t => Soft.ex (sl Q K C h) (fun j => m (j - T.q0)) (T.q0 + i) t) h T hT fun t ht => ?_)
  · refine congrArg List.sum (List.map_congr_left fun u hu => ?_)
    obtain ⟨-, e1, e2⟩ := Tile.jobs_ok T hT h u hu
    simp only [e1, e2]
  · rw [Soft.ex, if_neg (by omega)]

theorem out_at (T : Tile) (hT : T ∈ tiles) (h : Fin 2) : Is (out R T h) fun i l => outR Q K V C h (T.q0 + i) l := by
  obtain ⟨m, hm⟩ := shift_real H T hT h
  have hn : Is (total (fun u => ev R u (shift R T h)) (T.jobs h)) fun i l =>
      ∑ t : Fin 2048, Soft.ex (sl Q K C h) (fun j => m (j - T.q0)) (T.q0 + i) t * V t l := by
    refine (Is.total (T.jobs h) fun u hu => ev_at H u hm (Tile.jobs_ok T hT h u hu).1).congr fun i l => ?_
    refine Eq.trans ?_ (sum_tile (fun t => Soft.ex (sl Q K C h) (fun j => m (j - T.q0)) (T.q0 + i) t * V t l) h T hT fun t ht => ?_)
    · refine congrArg List.sum (List.map_congr_left fun u hu => ?_)
      obtain ⟨-, e1, e2⟩ := Tile.jobs_ok T hT h u hu
      simp only [e1, e2]
    · rw [Soft.ex, if_neg (by omega), zero_mul]
  intro i l
  show Ideal.div (total (fun u => ev R u (shift R T h)) (T.jobs h) (ix2 i l)) (broadcastTo _ (den R T h) (bc_col _ _) (ix2 i l)) = _
  rw [hn i l, (den_at H T hT h hm).bcCol (φ := .f32) _ i l, Soft.div_coe _ _ (Soft.Z_pos _ _ _).ne']
  refine congrArg Real.toEReal ?_
  simp only [outR, Finset.sum_div]
  refine Finset.sum_congr rfl fun t _ => ?_
  rw [Soft.pr_shift (s := sl Q K C h) (s' := sl Q K C h) 0 (fun j => m (j - T.q0)) (a := 0) (fun t => (add_zero _).symm), Soft.pr]
  ring

theorem ls_at (T : Tile) (hT : T ∈ tiles) (h : Fin 2) : IsRow (ls R T h) fun i => lsR Q K C h (T.q0 + i) := by
  obtain ⟨m, hm⟩ := shift_real H T hT h
  have hl : Is (log (den R T h)) fun i _ => Real.log (Soft.Z (sl Q K C h) (fun j => m (j - T.q0)) (T.q0 + i)) := fun i j => by
    show Ideal.log (den R T h (ix2 i j)) = _
    rw [den_at H T hT h hm i j, Ideal.log_coe, if_neg (not_le.2 (Soft.Z_pos _ _ _))]
  have := (Is.add (φ := .f32) (Is.add (φ := .f32) hm hl).toRow (H.c h T.q0 256 T.hq).row).rows (casts_add _)
  intro i
  refine (this i).trans (congrArg Real.toEReal ?_)
  have e := Soft.log_shift (s := sl Q K C h) (s' := sl Q K C h) (i := T.q0 + i) (fun j => m (j - T.q0)) 0 (a := 0) (fun t => (add_zero _).symm)
  simp only [Nat.add_sub_cancel_left, Pi.zero_apply, zero_add] at e
  simp only [lsR, ← e]

/-! ## The two buffers -/

variable {κ' : Kind} {sp : Space} (A : View sig κ' sp (S₂ 2048 128) .f32)

omit H in
/-- Row `i` of head `g` is among these. -/
def Hit (l : List (Tile × Fin 2)) (i g : ℕ) : Prop := ∃ p ∈ l, (p.1.q0 ≤ i ∧ i < p.1.q0 + 256) ∧ p.2.val = g

omit H in
theorem hit_off {l : List (Tile × Fin 2)} {p : Tile × Fin 2} {i g : ℕ} (h : ¬ ((p.1.q0 ≤ i ∧ i < p.1.q0 + 256) ∧ p.2.val = g)) :
    Hit (l ++ [p]) i g ↔ Hit l i g := by
  simp only [Hit, List.mem_append, List.mem_singleton]
  constructor
  · rintro ⟨q, hq | rfl, hh⟩
    · exact ⟨q, hq, hh⟩
    · exact absurd hh h
  · rintro ⟨q, hq, hh⟩
    exact ⟨q, .inl hq, hh⟩

omit H in
open Classical in
/-- What the block of outputs holds after these tiles. -/
def part (Q K V : ℕ → ℕ → ℝ) (C : Fin 2 → ℕ → ℝ) (l : List (Tile × Fin 2)) (i c : ℕ) : ℝ :=
  if Hit l i (c % 128 / 64) then outR Q K V C ⟨c % 128 / 64, by omega⟩ i c else 0

omit H in
theorem part_off (l : List (Tile × Fin 2)) (p : Tile × Fin 2) (i c : ℕ) (h : ¬ ((p.1.q0 ≤ i ∧ i < p.1.q0 + 256) ∧ p.2.val = c % 128 / 64)) :
    part Q K V C (l ++ [p]) i c = part Q K V C l i c := by
  classical
  exact if_congr (hit_off h) rfl rfl

omit H in
theorem part_on (l : List (Tile × Fin 2)) (p : Tile × Fin 2) (i c : ℕ) (h : (p.1.q0 ≤ i ∧ i < p.1.q0 + 256) ∧ p.2.val = c % 128 / 64) :
    part Q K V C (l ++ [p]) i c = outR Q K V C p.2 i c := by
  classical
  refine (if_pos ⟨p, by simp, h⟩).trans ?_
  have e : (⟨c % 128 / 64, by omega⟩ : Fin 2) = p.2 := Fin.ext h.2.symm
  rw [e]

theorem oList_at (l : List (Tile × Fin 2)) (hl : ∀ p ∈ l, p.1 ∈ tiles) (i : Fin 2048) (c : Fin 128) :
    View.canon (oList R A l) (ix2 i c) = ((part Q K V C l i c : ℝ) : EReal) := by
  induction l using List.reverseRecOn generalizing i c with
  | nil =>
    refine (canon_hit _ _ i c i c (by simp) (by simp)).trans ?_
    show Ideal.ofBits .f32 0x00000000#32 = _
    simp [Ideal.ofBits, Ideal.ieee, part, Hit]
  | append_singleton l p ih =>
    have ih' := fun i c => ih (fun v hv => hl v (by simp [hv])) i c
    have hT := hl p (by simp)
    have e : oList R A (l ++ [p]) = ⟨rect p.1, keep p.2 (out R p.1 p.2) (shapeCast _ (A.readCov (oList R A l) (rect p.1).toLoadRect) (casts_refl _))⟩ :: oList R A l := by
      simp only [oList, List.foldl_append, List.foldl_cons, List.foldl_nil]
    have hq := p.1.hq
    have hc : c.val % 128 = c.val := Nat.mod_eq_of_lt c.isLt
    rw [e]
    by_cases ht : p.1.q0 ≤ i.val ∧ i.val < p.1.q0 + 256
    · have ht' : i.val - p.1.q0 < 256 := by omega
      have ht'' : p.1.q0 + (i.val - p.1.q0) = i.val := by omega
      have hold : Is (A.readCov (oList R A l) (rect p.1).toLoadRect) fun i' c' => part Q K V C l (p.1.q0 + i') (0 + c') :=
        fun i j => (read_at A _ i j (by omega) (by omega)).trans (ih' _ _)
      refine (canon_hit _ _ i c ⟨i.val - p.1.q0, ht'⟩ c ht''.symm (by simp)).trans ?_
      refine (Is.keep (φ := .f32) (out_at H p.1 hT p.2) (hold.self _) p.2 _ _).trans (congrArg Real.toEReal ?_)
      simp only [ht'', zero_add]
      by_cases hg : c.val / 64 = p.2.val
      · rw [if_pos hg, part_on _ _ _ _ ⟨ht, by omega⟩]
      · rw [if_neg hg, part_off _ _ _ _ (by omega)]
    · rw [part_off _ _ _ _ (fun h => ht h.1)]
      exact (canon_miss _ _ i c (fun h => ht h.1)).trans (ih' i c)

theorem lseList_at (l : List (Tile × Fin 2)) (hl : ∀ p ∈ l, p.1 ∈ tiles) (g : Fin 2) (i : Fin 2048) (hh : Hit l i g) :
    View.canon (lseList R l) (ix3 g 0 i) = ((lsR Q K C g i : ℝ) : EReal) := by
  induction l using List.reverseRecOn with
  | nil => simp [Hit] at hh
  | append_singleton l p ih =>
    have e : lseList R (l ++ [p]) = ⟨lane p.2 p.1, ls R p.1 p.2⟩ :: lseList R l := by
      simp only [lseList, List.foldl_append, List.foldl_cons, List.foldl_nil]
    rw [e]
    by_cases ht : (p.1.q0 ≤ i.val ∧ i.val < p.1.q0 + 256) ∧ p.2.val = g.val
    · have ht' : i.val - p.1.q0 < 256 := by omega
      have ht'' : p.1.q0 + (i.val - p.1.q0) = i.val := by omega
      have hg : p.2 = g := Fin.ext ht.2
      refine (canon_hit₃ _ _ g i ⟨i.val - p.1.q0, ht'⟩ ht.2.symm ht''.symm).trans ?_
      refine (ls_at H p.1 (hl p (by simp)) p.2 _).trans (congrArg Real.toEReal ?_)
      simp only [ht'', hg]
    · exact (canon_miss₃ _ _ g i (fun h => ht ⟨h.2, h.1.symm⟩)).trans (ih (fun v hv => hl v (by simp [hv])) ((hit_off ht).1 hh))

omit H in
theorem heads_hit (i g : ℕ) (hi : i < 2048) (hg : g < 2) : Hit heads i g := by
  have h8 : ∀ b : Fin 8, ∃ T ∈ tiles, T.q0 = 256 * b.val := by decide
  obtain ⟨T, hT, e⟩ := h8 ⟨i / 256, by omega⟩
  refine ⟨(T, ⟨g, hg⟩), List.mem_flatMap.2 ⟨T, hT, ?_⟩, by simp only at e ⊢; omega, rfl⟩
  rcases g with _ | _ | g
  · exact List.mem_cons_self
  · exact List.mem_cons_of_mem _ List.mem_cons_self
  · omega

omit H in
theorem heads_tile : ∀ p ∈ heads, p.1 ∈ tiles := fun p hp => by
  obtain ⟨T, hT, h⟩ := List.mem_flatMap.1 hp
  rcases List.mem_cons.1 h with rfl | h
  · exact hT
  · rw [List.mem_singleton.1 h]; exact hT

/-- The block of outputs, -/
theorem o_at (i : Fin 2048) (c : Fin 128) : View.canon (oList R A heads) (ix2 i c) = ((outR Q K V C ⟨c / 64, by omega⟩ i c : ℝ) : EReal) := by
  refine (oList_at H A heads heads_tile i c).trans (congrArg Real.toEReal ?_)
  rw [part, if_pos (heads_hit _ _ i.isLt (by omega))]
  congr 2
  omega

/-- and the block of row logarithms. -/
theorem lse_at (g : Fin 2) (i : Fin 2048) : View.canon (lseList R heads) (ix3 g 0 i) = ((lsR Q K C g i : ℝ) : EReal) :=
  lseList_at H heads heads_tile g i (heads_hit _ _ i.isLt g.isLt)

end Cert.FoxF

end
-- ==== Proof.FwdFinal.lean ====
module

public import proofs.«01_k».proof.Proof.FwdMath
public import proofs.«01_k».proof.Proof.FoxEq
public import proofs.«01_k».proof.Proof.Gen.FoxFReferenceIdeal.Read
public import proofs.«01_k».proof.Proof.Gen.FoxFReferenceIdeal.Run
public import proofs.«01_k».proof.Proof.Gen.Pre_foxf_finite
public import proofs.«01_k».proof.Defs
public import Idealize.ShloMosaic.Lib.WholeRead

/-! The forgetting attention's forward: what the kernel's two outputs hold, and that they are the attention and the
    logarithms of its rows' sums. -/

@[expose] public section
set_option maxRecDepth 16384

noncomputable section

namespace Cert.FoxF

open Idealize.ShloMosaic Idealize.ShloMosaic.TcCoe Idealize.SL.Sem
section
open Cert.FoxFReferenceIdeal Cert.FoxFReferenceIdeal.Gen

/-- The output's heads side by side. -/
def joined {F : FTy → Type} [FloatOps F] (p : FVec F S4x8x2048x2048 .f32) (v : FVec F S4x8x2048x64 .f32) : FVec F S8192x512 .f32 :=
  shapeCast _ (shapeCast S4x2048x512 (transpose S4x2048x8x64 [0, 2, 1, 3]
    (Host.dotGeneral dot_S4x8x2048x2048_S4x8x2048x64_S4x8x2048x64_3_2_2_3_01_01 none p v)
    transposes_S4x8x2048x64_S4x2048x8x64_0_2_1_3)
    shapeCasts_S4x2048x8x64_S4x2048x512) shapeCasts_S4x2048x512_S8192x512
end

open Cert.FoxFKernelIdeal Cert.FoxFKernelIdeal.Gen Cert.FoxFKernelIdeal.Value Reals Soft Attn
open Cert.Fox (up X Y X_eq Y_eq sc pairOf gateR packed heads32 lseOf pick head_at v47_at v22_at v23_at heads32_at packed_at sum_head lane_eq)
open Cert.FoxReferenceIdeal.Read (val_main_v22_0 val_main_v23 val_main_v47 val_main_v5)

/-! ## The attention over the reals -/

section
variable (q k v : S4x2048x512.Idx → ℝ) (g : S4x8x2048.Idx → ℝ)

/-- The attention's output and its rows' logarithms, by batch and head. -/
def oR (b h i e : ℕ) : ℝ := ∑ t : Fin 2048, pr (sc q k g b h) (Fox.M q k g b h) i t * X v b t (64 * h + e)

theorem sl_eq (b p : ℕ) (h : Fin 2) (i t : ℕ) :
    sc q k g b (2 * p + h) i t = sl (pairOf b p q) (pairOf b p k) (gateR g b p) h i t + gateR g b p h i := by
  have e : ∀ l : Fin 128, qOf (pairOf b p q) h i l * pairOf b p k t l
      = if l.val / 64 = h.val then pairOf b p q i l * pairOf b p k t l * (1 / 8) else 0 := fun l => by
    unfold qOf; split_ifs <;> ring
  unfold sl
  simp only [e, sum_head h (fun l => pairOf b p q i l * pairOf b p k t l * (1 / 8)), ← Finset.sum_mul]
  simp only [pairOf, lane_eq, gateR, sc]
  ring

theorem outR_eq (b p : ℕ) (h : Fin 2) (i : ℕ) (e : Fin 64) :
    outR (pairOf b p q) (pairOf b p k) (pairOf b p v) (gateR g b p) h i (64 * h + e) = oR q k v g b (2 * p + h) i e := by
  refine Finset.sum_congr rfl fun t _ => ?_
  rw [pr_shift (Fox.M q k g b (2 * p + h)) 0 (sl_eq q k g b p h i), pairOf, lane_eq]

theorem lsR_eq (b p : ℕ) (h : Fin 2) (i : ℕ) :
    lsR (pairOf b p q) (pairOf b p k) (gateR g b p) h i = Fox.lse q k g b (2 * p + h) i := by
  rw [Fox.lse, log_shift (Fox.M q k g b (2 * p + h)) 0 (sl_eq q k g b p h i), Pi.zero_apply, zero_add, lsR, add_comm]

/-! ## The reference -/

theorem v62_eq (x0 x1 x2 : FVec Ideal S4x2048x512 .f32) (x3 : FVec Ideal S4x8x2048 .f32) :
    Cert.FoxFReferenceIdeal.Read.val_main_v62 (F := Ideal) x0 x1 x2 x3 = joined (F := Ideal) (val_main_v47 (F := Ideal) x0 x1 x3) (val_main_v5 (F := Ideal) x2) := by
  sl_kernel_rfl

theorem v63_eq (x0 x1 : FVec Ideal S4x2048x512 .f32) (x3 : FVec Ideal S4x8x2048 .f32) :
    Cert.FoxFReferenceIdeal.Read.val_main_v63 (F := Ideal) x0 x1 x3
      = heads32 (F := Ideal) (lseOf (F := Ideal) (val_main_v22_0 (F := Ideal) x0 x1 x3) (val_main_v23 (F := Ideal) x0 x1 x3)) := by
  sl_kernel_rfl

theorem joined_at (b : Fin 4) (i : Fin 2048) (h : Fin 8) (e : Fin 64) :
    joined (F := Ideal) (val_main_v47 (F := Ideal) (up q) (up k) (up g)) (val_main_v5 (F := Ideal) (up v)) (ix2 ⟨2048 * b + i, by omega⟩ ⟨64 * h + e, by omega⟩)
      = ((oR q k v g b h i e : ℝ) : EReal) := by
  have h1 := v47_at q k g
  have h2 : ∀ b h i e, val_main_v5 (F := Ideal) (up v) (ix4 b h i e) = _ := head_at v
  generalize val_main_v47 (F := Ideal) (up q) (up k) (up g) = y at h1 ⊢
  generalize val_main_v5 (F := Ideal) (up v) = z at h2 ⊢
  pointwise [joined]
  simp only [h1, h2, ← EReal.coe_mul, coe_sum, oR]
end

/-! ## The kernel -/

section
variable (arg2 : Memref sig Kind.tc Space.vmem S2048x384 EltTy.bf16) (harg2 : arg2.IsWhole)
 (arg3 : Memref sig Kind.tc Space.vmem S2x1x2048 EltTy.f32) (harg3 : arg3.IsWhole)
 (x0 : Vec Ideal S2048x384 .bf16) (x1 : Vec Ideal S2x1x2048 .f32)

/-- The loads of one grid point hold what its blocks hold. -/
theorem reads_hold (Q K V : ℕ → ℕ → ℝ) (C : Fin 2 → ℕ → ℝ)
    (hq : ∀ (i : Fin 2048) (l : Fin 128), x0 (ix2 i ⟨0 + l, by omega⟩) = ((Q i l : ℝ) : EReal))
    (hk : ∀ (i : Fin 2048) (l : Fin 128), x0 (ix2 i ⟨128 + l, by omega⟩) = ((K i l : ℝ) : EReal))
    (hv : ∀ (i : Fin 2048) (l : Fin 128), x0 (ix2 i ⟨256 + l, by omega⟩) = ((V i l : ℝ) : EReal))
    (hC : ∀ (h : Fin 2) (i : Fin 2048), x1 (ix3 h 0 i) = ((C h i : ℝ) : EReal)) :
    (reads arg2 harg2 arg3 harg3 x0 x1).Holds Q K V C where
  q r n h i l := (Memref.IsWhole.readAt_unread harg2 _ _ _).trans ((congrArg x0 (idx₂ (A := 2048) i l (by omega) (by omega))).trans (hq _ l))
  k r n h i l := (Memref.IsWhole.readAt_unread harg2 _ _ _).trans ((congrArg x0 (idx₂ (A := 2048) i l (by omega) (by omega))).trans (hk _ l))
  v r n h i l := (Memref.IsWhole.readAt_unread harg2 _ _ _).trans ((congrArg x0 (idx₂ (A := 2048) i l (by omega) (by omega))).trans (hv _ l))
  c g r n h i := (Memref.IsWhole.readAt_unread harg3 _ _ _).trans ((congrArg x1 (idx₃ g.isLt i (by omega))).trans (hC _ _))
end

theorem idx : ∀ t : Fin cfg0.N, win0_0.index t = ![t.val / 4, t.val % 4] ∧ win0_1.index t = ![t.val, 0, 0]
    ∧ win0_2.index t = ![t.val / 4, t.val % 4] ∧ win0_3.index t = ![t.val, 0, 0] :=
  (by decide +kernel : ∀ t : Fin grid0.N, _)

theorem point_lt (t : Fin cfg0.N) : t.val < 16 := t.isLt

variable (m : (ℓ : Loc nD τ sig) → Buf (Elt Ideal) ℓ) (c : Dev nD)

/-- The blocks of grid point `t`, at places of any contents of their arrays, -/
theorem blk0 (t : Fin cfg0.N) (W : S8192x1536.Idx → EReal) (i : Fin 2048) (j : Fin 384) :
    (((cfg0.win 0).blk t).view.read (Elt Ideal) W : S2048x384.Idx → EReal) (ix2 i j) = W (ix2 ⟨2048 * (t.val / 4) + i, by have := point_lt t; omega⟩ ⟨384 * (t.val % 4) + j, by omega⟩) := by
  have := point_lt t
  blk_simp [idx t]
  blk_ext [idx t]

theorem blk1 (t : Fin cfg0.N) (W : S32x1x2048.Idx → EReal) (h : Fin 2) (i : Fin 2048) :
    (((cfg0.win 1).blk t).view.read (Elt Ideal) W : S2x1x2048.Idx → EReal) (ix3 h 0 i) = W (ix3 ⟨2 * t.val + h, by have := point_lt t; omega⟩ 0 i) := by
  have := point_lt t
  blk_simp [idx t]
  blk_ext [idx t]

/-- and where the blocks of the two outputs lie in their arrays. -/
theorem blk2 {α : Type} (t : Fin cfg0.N) (W : S8192x512.Idx → α) (i : Fin 2048) (j : Fin 128) :
    W ((win0_2.blk t).view.emb (ix2 i j)) = W (ix2 ⟨2048 * (t.val / 4) + i, by have := point_lt t; omega⟩ ⟨128 * (t.val % 4) + j, by omega⟩) := by
  have := point_lt t
  refine congrArg W ?_
  blk_ext [idx t]

theorem blk3 {α : Type} (t : Fin cfg0.N) (W : S32x1x2048.Idx → α) (h : Fin 2) (i : Fin 2048) :
    W ((win0_3.blk t).view.emb (ix3 h 0 i)) = W (ix3 ⟨2 * t.val + h, by have := point_lt t; omega⟩ 0 i) := by
  have := point_lt t
  refine congrArg W ?_
  blk_ext [idx t]

/-- What the grid point leaves in the blocks of the two outputs. -/
theorem left2 (t : Fin cfg0.N) : (outsAt0 m c t).1 = View.canon (oList (reads (ms0_0 t) (hs0_0 t) (ms0_1 t) (hs0_1 t) (iblk m c 0 t) (iblk m c 1 t)) (ms0_2 t).view heads) := by
  refine Eq.trans ?_ (out2_eq c (grid0.coords t) (ms0_0 t) (hs0_0 t) (ms0_1 t) (hs0_1 t) (ms0_2 t) (hs0_2 t) (ms0_3 t) (hs0_3 t) (iblk m c 0 t) (iblk m c 1 t))
  sl_kernel_rfl

theorem left3 (t : Fin cfg0.N) : (outsAt0 m c t).2 = View.canon (lseList (reads (ms0_0 t) (hs0_0 t) (ms0_1 t) (hs0_1 t) (iblk m c 0 t) (iblk m c 1 t)) heads) := by
  refine Eq.trans ?_ (out3_eq c (grid0.coords t) (ms0_0 t) (hs0_0 t) (ms0_1 t) (hs0_1 t) (ms0_2 t) (hs0_2 t) (ms0_3 t) (hs0_3 t) (iblk m c 0 t) (iblk m c 1 t))
  sl_kernel_rfl

/-- The arguments. -/
abbrev a0 : FVec Ideal S4x2048x512 .f32 := m ((c : Thread nD τ).loc main_arg0)
abbrev a1 : FVec Ideal S4x2048x512 .f32 := m ((c : Thread nD τ).loc main_arg1)
abbrev a2 : FVec Ideal S4x2048x512 .f32 := m ((c : Thread nD τ).loc main_arg2)
abbrev a3 : FVec Ideal S4x8x2048 .f32 := m ((c : Thread nD τ).loc main_arg3)

theorem entry8 : V m c main_v8 = packed (a0 m c) (a1 m c) (a2 m c) := by
  unfold V
  after_reads_simp
  sl_kernel_rfl
theorem entry9 : V m c main_v9 = heads32 (a3 m c) := by
  unfold V
  after_reads_simp
  sl_kernel_rfl

section
variable {q k v : S4x2048x512.Idx → ℝ} {g : S4x8x2048.Idx → ℝ} {x0 x1 x2 : FVec Ideal S4x2048x512 .f32} {x3 : FVec Ideal S4x8x2048 .f32}

theorem packed32 (h0 : x0 = up q) (h1 : x1 = up k) (h2 : x2 = up v) (r : Fin 8192) (p : Fin 4) (j : Fin 3) (l : Fin 128) :
    packed x0 x1 x2 (ix2 r ⟨384 * p + 128 * j + l, by omega⟩) = ((X (pick q k v j) (r / 2048) (r % 2048) (128 * p + l) : ℝ) : EReal) := by
  subst h0 h1 h2
  exact packed_at q k v r p j l

theorem gate32 (h3 : x3 = up g) (r : Fin 32) (i : Fin 2048) : heads32 x3 (ix3 r 0 i) = ((Y g (r / 8) (r % 8) i : ℝ) : EReal) := by
  subst h3
  exact heads32_at _ (Y g) (fun b h i => congrArg Real.toEReal (Y_eq g b h i).symm) r i
end

section
variable (q k v : S4x2048x512.Idx → ℝ) (g : S4x8x2048.Idx → ℝ)
  (h0 : a0 m c = up q) (h1 : a1 m c = up k) (h2 : a2 m c = up v) (h3 : a3 m c = up g)
include h0 h1 h2 h3

/-- The loads at grid point `t`: batch `t / 4`, pair `t % 4`. -/
theorem point_reads (t : Fin cfg0.N) :
    (reads (ms0_0 t) (hs0_0 t) (ms0_1 t) (hs0_1 t) (iblk m c 0 t) (iblk m c 1 t)).Holds
      (pairOf (t.val / 4) (t.val % 4) q) (pairOf (t.val / 4) (t.val % 4) k) (pairOf (t.val / 4) (t.val % 4) v) (gateR g (t.val / 4) (t.val % 4)) := by
  have ht := point_lt t
  have hp : ∀ (j : Fin 3) (i : Fin 2048) (l : Fin 128), iblk m c 0 t (ix2 i ⟨128 * j.val + l, by omega⟩)
      = ((pairOf (t.val / 4) (t.val % 4) (pick q k v j) i l : ℝ) : EReal) := fun j i l => by
    refine (blk0 t _ _ _).trans ((congrFun (entry8 m c) _).trans ?_)
    have e := packed32 h0 h1 h2 ⟨2048 * (t.val / 4) + i, by omega⟩ ⟨t.val % 4, by omega⟩ j l
    refine Eq.trans ?_ (e.trans ?_)
    · refine congrArg (packed (a0 m c) (a1 m c) (a2 m c)) (congrArg (ix2 _) (Fin.ext ?_))
      show 384 * (t.val % 4) + (128 * j.val + l.val) = 384 * (t.val % 4) + 128 * j.val + l.val
      omega
    · show ((X (pick q k v j) ((2048 * (t.val / 4) + i.val) / 2048) ((2048 * (t.val / 4) + i.val) % 2048) _ : ℝ) : EReal) = _
      rw [show (2048 * (t.val / 4) + i.val) / 2048 = t.val / 4 by omega, show (2048 * (t.val / 4) + i.val) % 2048 = i.val by omega]
      rfl
  refine reads_hold _ _ _ _ _ _ _ _ _ _ (fun i l => hp 0 i l) (fun i l => hp 1 i l) (fun i l => hp 2 i l) (fun h i => ?_)
  refine (blk1 t _ _ _).trans ((congrFun (entry9 m c) _).trans ?_)
  refine (gate32 h3 _ _).trans ?_
  show ((Y g ((2 * t.val + h.val) / 8) ((2 * t.val + h.val) % 8) i : ℝ) : EReal) = _
  rw [show (2 * t.val + h.val) / 8 = t.val / 4 by omega, show (2 * t.val + h.val) % 8 = 2 * (t.val % 4) + h.val by omega]
  rfl

omit h0 h1 h2 h3 in
/-- The two outputs, whole. -/
def oOut (i : S8192x512.Idx) : EReal :=
  ((oR q k v g ((i 0).val / 2048) ((i 1).val / 64) ((i 0).val % 2048) ((i 1).val % 64) : ℝ) : EReal)

omit h0 h1 h2 h3 in
def lseOut (i : S32x1x2048.Idx) : EReal := ((Fox.lse q k g ((i 0).val / 8) ((i 0).val % 8) (i 2).val : ℝ) : EReal)

theorem final2 : (dats m 0 c).arrAt 2 cfg0.N = oOut q k v g := by
  refine (dats m 0 c).arrAt_eq_of_covers 2 _ (by decide +kernel) fun t hf y => ?_
  refine (congrFun (after0_2 m c t) y).trans ?_
  idx_vars y
  refine (congrFun (left2 m c t) (ix2 y0 y1)).trans ?_
  refine (o_at (point_reads m c q k v g h0 h1 h2 h3 t) _ y0 y1).trans ?_
  refine Eq.trans ?_ (blk2 t _ y0 y1).symm
  have e := outR_eq q k v g (t.val / 4) (t.val % 4) ⟨y1.val / 64, by omega⟩ y0.val ⟨y1.val % 64, by omega⟩
  rw [show 64 * (⟨y1.val / 64, by omega⟩ : Fin 2).val + (⟨y1.val % 64, by omega⟩ : Fin 64).val = y1.val by simp only; omega] at e
  refine (congrArg Real.toEReal e).trans ?_
  show ((oR q k v g (t.val / 4) (2 * (t.val % 4) + y1.val / 64) y0 (y1.val % 64) : ℝ) : EReal) = ((oR q k v g ((2048 * (t.val / 4) + y0.val) / 2048)
    ((128 * (t.val % 4) + y1.val) / 64) ((2048 * (t.val / 4) + y0.val) % 2048) ((128 * (t.val % 4) + y1.val) % 64) : ℝ) : EReal)
  rw [show (2048 * (t.val / 4) + y0.val) / 2048 = t.val / 4 by omega, show (2048 * (t.val / 4) + y0.val) % 2048 = y0.val by omega,
    show (128 * (t.val % 4) + y1.val) / 64 = 2 * (t.val % 4) + y1.val / 64 by omega, show (128 * (t.val % 4) + y1.val) % 64 = y1.val % 64 by omega]

theorem final3 : (dats m 0 c).arrAt 3 cfg0.N = lseOut q k g := by
  refine (dats m 0 c).arrAt_eq_of_covers 3 _ (by decide +kernel) fun t hf y => ?_
  refine (congrFun (after0_3 m c t) y).trans ?_
  idx_vars y
  obtain rfl : y1 = 0 := Subsingleton.elim _ _
  refine (congrFun (left3 m c t) (ix3 y0 0 y2)).trans ?_
  refine (lse_at (point_reads m c q k v g h0 h1 h2 h3 t) y0 y2).trans ?_
  refine Eq.trans ?_ (blk3 t _ y0 y2).symm
  refine (congrArg Real.toEReal (lsR_eq q k g (t.val / 4) (t.val % 4) y0 y2.val)).trans ?_
  show ((Fox.lse q k g (t.val / 4) (2 * (t.val % 4) + y0.val) y2 : ℝ) : EReal) = ((Fox.lse q k g ((2 * t.val + y0.val) / 8) ((2 * t.val + y0.val) % 8) y2 : ℝ) : EReal)
  rw [show (2 * t.val + y0.val) / 8 = t.val / 4 by omega, show (2 * t.val + y0.val) % 8 = 2 * (t.val % 4) + y0.val by omega]
end

/-- The precondition makes all four arguments arrays of reals. -/
theorem finite (x0 x1 x2 : FVec Ideal Pre_foxf_finite.S4x2048x512 .f32) (x3 : FVec Ideal Pre_foxf_finite.S4x8x2048 .f32)
    (h : Cert.Pre_foxf_finite.fn (F := Ideal) x0 x1 x2 x3 = fun _ => 1#1) :
    (∃ f, x0 = up f) ∧ (∃ f, x1 = up f) ∧ (∃ f, x2 = up f) ∧ ∃ f, x3 = up f := by
  have e := congrFun h ix0
  obtain ⟨e012, e3⟩ := IntOp.andi_eq_one.1 e
  obtain ⟨e01, e2⟩ := IntOp.andi_eq_one.1 e012
  obtain ⟨e0, e1⟩ := IntOp.andi_eq_one.1 e01
  exact ⟨real_of_all x0 _ _ _ _ e0, real_of_all x1 _ _ _ _ e1, real_of_all x2 _ _ _ _ e2, real_of_all x3 _ _ _ _ e3⟩

section
variable (q k v : S4x2048x512.Idx → ℝ) (g : S4x8x2048.Idx → ℝ)

/-- The reference's two results, at an index. -/
theorem ref2 (r : Fin 8192) (l : Fin 512) : Cert.FoxFReferenceIdeal.Read.val_main_v62 (F := Ideal) (up q) (up k) (up v) (up g) (ix2 r l)
    = oOut q k v g (ix2 r l) := by
  have e := joined_at q k v g ⟨r.val / 2048, by omega⟩ ⟨r.val % 2048, by omega⟩ ⟨l.val / 64, by omega⟩ ⟨l.val % 64, by omega⟩
  refine (congrFun (v62_eq _ _ _ _) _).trans (Eq.trans (congrArg _ (congrArg₂ ix2 (Fin.ext ?_) (Fin.ext ?_))) e)
  · show r.val = 2048 * (r.val / 2048) + r.val % 2048; omega
  · show l.val = 64 * (l.val / 64) + l.val % 64; omega

theorem ref3 (r : Fin 32) (s : Fin 2048) : Cert.FoxFReferenceIdeal.Read.val_main_v63 (F := Ideal) (up q) (up k) (up g) (ix3 r 0 s)
    = lseOut q k g (ix3 r 0 s) :=
  (congrFun (v63_eq _ _ _) _).trans (heads32_at _ (Fox.lse q k g) (Fox.lse_at q k g) r s)
end

/-- The kernel's rows and their logarithms are the attention's. -/
theorem algebraic : Cert.algebraic_FoxFKernelIdeal_FoxFReferenceIdeal_pre_foxf_finite := by
  pair_intro
  · run_from Cert.FoxFKernelIdeal.Value.run_blocks m g
  · refine (θ_run _ _ _).mono (fun s h c => ?_) (Cert.FoxFReferenceIdeal.Value.run (F := Ideal) m' g')
    obtain ⟨h0, h1, h2, h3, h4, h5⟩ := h c
    obtain ⟨e0, e1, e2, e3⟩ := hagree c
    obtain ⟨⟨q, hq⟩, ⟨k, hk⟩, ⟨v, hv⟩, ⟨f, hf⟩⟩ := finite _ _ _ _ (hpre c)
    refine ⟨h0.trans ?_, h1.trans ?_, h2, h3, h4, h5⟩
    · rw [final2 m c q k v f hq hk hv hf]
      refine (Cert.FoxFReferenceIdeal.Read.val_main_v62_eq m' c).trans ?_
      rw [e0, e1, e2, e3, hq, hk, hv, hf]
      funext i
      idx_vars i
      exact ref2 q k v f i0 i1
    · rw [final3 m c q k v f hq hk hv hf]
      refine (Cert.FoxFReferenceIdeal.Read.val_main_v63_eq m' c).trans ?_
      rw [e0, e1, e3, hq, hk, hf]
      funext i
      idx_vars i
      obtain rfl : i1 = 0 := Subsingleton.elim _ _
      exact ref3 q k f i0 i2

/-- The reference runs and keeps its arguments; it has no counters. -/
theorem frame_reference : Cert.quiescent_FoxFReferenceIdeal := fun m g _ =>
  (θ_run _ _ _).mono (fun _ h => ⟨fun c => (h c).2.2, no_counters rfl rfl _ _⟩) (Cert.FoxFReferenceIdeal.Value.run (F := Idealize.ShloMosaic.Ideal) m g)

end Cert.FoxF
-- ==== Proof.Units.lean ====
module

public import proofs.«01_k».proof.Proof.Attn

@[expose] public section

set_option maxRecDepth 16384

noncomputable section

namespace Attn

open Idealize.ShloMosaic

/-! # The units of an attention's backward

The two heads of a lane pair share one block. Key rows go in tiles of 256, and each tile meets the queries at or below
it in units of 256 or 512 rows; the first unit of a tile is on the diagonal and masked. -/

/-- One unit: the head, the key tile's first row, and the query rows; `diag` says it is the masked one. -/
structure Job where
  h : Fin 2
  k0 : ℕ
  q0 : ℕ
  n : ℕ
  diag : Bool
  hk : k0 + 256 ≤ 2048
  hq : q0 + n ≤ 2048

/-- The query ranges below a tile. -/
structure Span where
  q0 : ℕ
  n : ℕ
  hq : q0 + n ≤ 2048

/-- One key tile: its first row and the spans below its diagonal. -/
structure Tile where
  k0 : ℕ
  hk : k0 + 256 ≤ 2048
  spans : List Span

def tiles : List Tile :=
  [⟨0, by decide, [⟨256, 512, by decide⟩, ⟨768, 512, by decide⟩, ⟨1280, 512, by decide⟩, ⟨1792, 256, by decide⟩]⟩,
   ⟨256, by decide, [⟨512, 512, by decide⟩, ⟨1024, 512, by decide⟩, ⟨1536, 512, by decide⟩]⟩,
   ⟨512, by decide, [⟨768, 512, by decide⟩, ⟨1280, 512, by decide⟩, ⟨1792, 256, by decide⟩]⟩,
   ⟨768, by decide, [⟨1024, 512, by decide⟩, ⟨1536, 512, by decide⟩]⟩,
   ⟨1024, by decide, [⟨1280, 512, by decide⟩, ⟨1792, 256, by decide⟩]⟩,
   ⟨1280, by decide, [⟨1536, 512, by decide⟩]⟩,
   ⟨1536, by decide, [⟨1792, 256, by decide⟩]⟩,
   ⟨1792, by decide, []⟩]

/-- The units of one tile and head. -/
def Tile.jobs (T : Tile) (h : Fin 2) : List Job :=
  ⟨h, T.k0, T.k0, 256, true, T.hk, T.hk⟩ :: T.spans.map fun s => ⟨h, T.k0, s.q0, s.n, false, T.hk, s.hq⟩

/-- Every unit, in the order they are added. -/
def jobs : List Job := tiles.flatMap fun T => T.jobs 0 ++ T.jobs 1

def heads : List (Tile × Fin 2) := tiles.flatMap fun T => [(T, 0), (T, 1)]

/-- A unit's mask is the causal one. -/
def Job.Ok (u : Job) : Prop := if u.diag then u.k0 = u.q0 ∧ u.n = 256 else u.k0 + 256 ≤ u.q0

instance (u : Job) : Decidable u.Ok := by unfold Job.Ok; infer_instance

theorem jobs_ok : ∀ u ∈ jobs, u.Ok := by decide

theorem jobs_step : ∀ u ∈ jobs, 256 ∣ u.q0 ∧ 256 ∣ u.n := by decide

/-! ## Sums over the units -/

/-- The units that meet query `i` are, for each head, the key tiles up to `i`. -/
theorem sum_jobs (f : Fin 2 → ℕ → ℝ) {i : ℕ} (hi : i < 2048) (hz : ∀ h t, i < t → f h t = 0) :
    (jobs.map fun u => if u.q0 ≤ i ∧ i < u.q0 + u.n then ∑ t : Fin 256, f u.h (u.k0 + t) else 0).sum = ∑ h, ∑ t : Fin 2048, f h t := by
  have e : ∀ u ∈ jobs, (if u.q0 ≤ i ∧ i < u.q0 + u.n then ∑ t : Fin 256, f u.h (u.k0 + t) else 0)
      = if u.q0 / 256 ≤ i / 256 ∧ i / 256 < u.q0 / 256 + u.n / 256 then ∑ t : Fin 256, f u.h (u.k0 + t) else 0 := fun u hu => by
    obtain ⟨⟨x, hx⟩, ⟨y, hy⟩⟩ := jobs_step u hu
    refine if_congr ?_ rfl rfl
    omega
  rw [List.map_congr_left e]
  have hF : ∀ h k, i < k → ∑ t : Fin 256, f h (k + t) = 0 := fun h k hk => Finset.sum_eq_zero fun t _ => hz _ _ (by omega)
  have hs : ∀ h, ∑ t : Fin 2048, f h t = ∑ b : Fin 8, ∑ t : Fin 256, f h (256 * b + t) := fun h => by
    refine (Reals.sum_split (a := 8) (b := 256) fun t => f h t).trans ?_
    refine Finset.sum_congr rfl fun b _ => Finset.sum_congr rfl fun t _ => congrArg (f h) ?_
    show t.val + 256 * b.val = _
    omega
  simp only [hs, Fin.sum_univ_eight, Fin.sum_univ_two]
  generalize hG : (fun (h : Fin 2) (k : ℕ) => ∑ t : Fin 256, f h (k + t)) = G at *
  have hg : ∀ h k, (∑ t : Fin 256, f h (k + t)) = G h k := fun h k => by rw [← hG]
  simp only [hg] at hF ⊢
  obtain ⟨b, hb⟩ : ∃ b : Fin 8, i / 256 = b.val := ⟨⟨i / 256, by omega⟩, rfl⟩
  rw [hb]
  fin_cases b <;> simp only [] at hb <;> simp [jobs, tiles, Tile.jobs] <;> (try simp (disch := omega) only [hF, add_zero]) <;> ring

theorem Tile.jobs_ok : ∀ T ∈ tiles, ∀ h, ∀ u ∈ T.jobs h, u.Ok ∧ u.h = h ∧ u.k0 = T.k0 := by decide

/-- A tile's units run through the queries from its first row on. -/
theorem sum_tile (g : ℕ → ℝ) (h : Fin 2) : ∀ T ∈ tiles, (∀ i < T.k0, g i = 0) →
    ((T.jobs h).map fun u => ∑ i : Fin u.n, g (u.q0 + i)).sum = ∑ i : Fin 2048, g i := by
  have hP : ∑ i : Fin 2048, g i = ∑ i ∈ Finset.range 2048, g i := Fin.sum_univ_eq_sum_range g 2048
  simp only [sum_from, hP]
  generalize hS : (fun n => ∑ i ∈ Finset.range n, g i) = P
  have hg : ∀ n, ∑ i ∈ Finset.range n, g i = P n := fun n => by rw [← hS]
  intro T hT hz
  have h0 : P T.k0 = 0 := by
    rw [← hg]; exact Finset.sum_eq_zero fun i hi => hz i (Finset.mem_range.1 hi)
  simp only [hg]
  revert h0
  clear hz hS hP
  revert T
  simp [tiles, Tile.jobs]

/-- Exactly one tile holds a row. -/
theorem sum_rows (x : ℝ) {s : ℕ} (hs : s < 2048) : (tiles.map fun T => if T.k0 ≤ s ∧ s < T.k0 + 256 then x else 0).sum = x := by
  have e : ∀ T ∈ tiles, (if T.k0 ≤ s ∧ s < T.k0 + 256 then x else 0) = if T.k0 / 256 = s / 256 then x else 0 := fun T hT => by
    have hd : ∀ T ∈ tiles, 256 ∣ T.k0 := by decide
    obtain ⟨y, hy⟩ := hd T hT
    refine if_congr ?_ rfl rfl
    omega
  rw [List.map_congr_left e]
  obtain ⟨b, hb⟩ : ∃ b : Fin 8, s / 256 = b.val := ⟨⟨s / 256, by omega⟩, rfl⟩
  rw [hb]
  fin_cases b <;> simp [tiles]

variable {F : FTy → Type} [FloatOps F]

/-- The sum of a nonempty list of parts, left to right. -/
def total {s : Shape} {φ : FTy} (f : Job → FVec F s φ) : List Job → FVec F s φ
  | [] => broadcast _ (Scalar.ofBits φ 0#_)
  | a :: l => l.foldl (fun x b => addf x (f b)) (f a)

theorem Is.total {s t : ℕ} {f : Job → FVec Ideal (S₂ s t) .f32} {F : Job → ℕ → ℕ → ℝ} (a : Job) (l : List Job)
    (h : ∀ u ∈ a :: l, Is (f u) (F u)) : Is (Attn.total f (a :: l)) fun r c => ((a :: l).map fun u => F u r c).sum := by
  induction l using List.reverseRecOn with
  | nil => exact (h a (by simp)).congr fun r c => by simp
  | append_singleton l b ih =>
    have e : Attn.total f (a :: (l ++ [b])) = addf (Attn.total f (a :: l)) (f b) := by
      simp [Attn.total, List.foldl_append]
    rw [e]
    refine (Is.add (φ := .f32) (ih fun u hu => h u (by simp at hu ⊢; tauto)) (h b (by simp))).congr fun r c => ?_
    simp [add_assoc]

/-- The units of a tile, summed over their queries. -/
theorem Is.tile {s t : ℕ} {f : Job → FVec Ideal (S₂ s t) .f32} (T : Tile) (hT : T ∈ tiles) (h : Fin 2) (g : ℕ → ℕ → ℕ → ℝ)
    (hf : ∀ u : Job, u.Ok → u.h = h → u.k0 = T.k0 → Is (f u) fun r c => ∑ i : Fin u.n, g r c (u.q0 + i))
    (hz : ∀ r c i, i < T.k0 → g r c i = 0) : Is (Attn.total f (T.jobs h)) fun r c => ∑ i : Fin 2048, g r c i := by
  refine (Is.total (F := fun u r c => ∑ i : Fin u.n, g r c (u.q0 + i)) _ _ fun u hu => ?_).congr fun r c => sum_tile (g r c) h T hT (hz r c)
  obtain ⟨h1, h2, h3⟩ := Tile.jobs_ok T hT h u hu
  exact hf u h1 h2 h3

/-! ## The buffers -/

abbrev Pc (F : FTy → Type) (s : Shape) (e : EltTy) := View.Piece (Elt F) s e

variable {sig : RefSig} {κ : Kind} {sp : Space} {w : ℕ}

/-- The query gradient's rows a unit adds to. -/
def Job.rect (u : Job) (w : ℕ) : Rect (S₂ 2048 w) := Rect.unit ![u.q0, 0] (S₂ u.n w).size (inb₂ u.hq (by omega))

/-- A buffer cleared and then added to, unit by unit. -/
def accList (A : View sig κ sp (S₂ 2048 w) .f32) (f : ∀ u : Job, FVec F (S₂ u.n w) .f32) (l : List Job) : List (Pc F (S₂ 2048 w) .f32) :=
  l.foldl (fun L u => ⟨u.rect w, shapeCast (S₂ u.n w) (addf (A.readCov L (u.rect w).toLoadRect) (f u)) (casts_refl _)⟩ :: L)
    [⟨Rect.unit ![0, 0] (S₂ 2048 w).size (inb₂ (by decide) (by omega)),
      shapeCast _ (broadcast _ (Scalar.ofBits .f32 0x00000000#32)) (casts_refl _)⟩]

theorem accList_at (A : View sig κ sp (S₂ 2048 w) .f32) {f : ∀ u : Job, FVec Ideal (S₂ u.n w) .f32} {g : Job → ℕ → ℕ → ℝ}
    (hf : ∀ u : Job, u.Ok → Is (f u) fun i c => g u (u.q0 + i) c) (l : List Job) (hl : ∀ u ∈ l, u.Ok) (i : Fin 2048) (c : Fin w) :
    View.canon (accList A f l) (ix2 i c) = (((l.map fun u => if u.q0 ≤ i.val ∧ i.val < u.q0 + u.n then g u i c else 0).sum : ℝ) : EReal) := by
  induction l using List.reverseRecOn with
  | nil =>
    refine (canon_hit _ _ i c i c (by simp) (by simp)).trans ?_
    rw [shapeCast_id]
    show Ideal.ofBits .f32 0x00000000#32 = _
    simp [Ideal.ofBits, Ideal.ieee]
  | append_singleton l u ih =>
    have ih' := ih fun v hv => hl v (by simp [hv])
    have hu := hl u (by simp)
    have e : accList A f (l ++ [u]) = ⟨u.rect w, shapeCast (S₂ u.n w) (addf (A.readCov (accList A f l) (u.rect w).toLoadRect) (f u)) (casts_refl _)⟩ :: accList A f l := by
      simp only [accList, List.foldl_append, List.foldl_cons, List.foldl_nil]
      rfl
    rw [e, List.map_append, List.sum_append, List.map_singleton, List.sum_singleton, EReal.coe_add, ← ih']
    by_cases hc : u.q0 ≤ i.val ∧ i.val < u.q0 + u.n
    · rw [if_pos hc]
      have hi' : i.val - u.q0 < u.n := by omega
      have hi : u.q0 + (i.val - u.q0) = i.val := by omega
      refine (canon_hit _ _ i c ⟨i.val - u.q0, hi'⟩ c hi.symm (by simp)).trans ?_
      rw [shapeCast_id]
      refine congrArg₂ (· + ·) ((read_at A _ (⟨i.val - u.q0, hi'⟩ : Fin u.n) c (by show u.q0 + (i.val - u.q0) < 2048; omega) (by omega)).trans ?_)
        ((hf u hu ⟨i.val - u.q0, hi'⟩ c).trans ?_)
      · congr 1; congr 1 <;> exact Fin.ext (by simp [hi])
      · simp only [hi]
    · rw [if_neg hc, EReal.coe_zero, add_zero]
      exact canon_miss _ _ i c fun h => hc h.1

/-- The rows of a tile, 128 lanes from `l` on. -/
def slot {w : ℕ} (l : ℕ) (hl : l + 128 ≤ w) (T : Tile) : Rect (S₂ 2048 w) :=
  Rect.unit ![T.k0, l] (S₂ 256 128).size (inb₂ T.hk hl)

/-- A buffer cleared and then, for each tile and head, written over at lanes `a` and at lanes `b`. -/
def pairList (a b : ℕ) (ha : a + 128 ≤ w) (hb : b + 128 ≤ w) (B : View sig κ sp (S₂ 2048 w) .bf16)
    (P P' : Tile → Fin 2 → FVec F (S₂ 256 128) .bf16 → FVec F (S₂ 256 128) .bf16) (l : List (Tile × Fin 2)) : List (Pc F (S₂ 2048 w) .bf16) :=
  l.foldl (fun L p =>
      let L' : List (Pc F (S₂ 2048 w) .bf16) := ⟨slot a ha p.1, P p.1 p.2 (B.readCov L (slot a ha p.1).toLoadRect)⟩ :: L
      ⟨slot b hb p.1, P' p.1 p.2 (B.readCov L' (slot b hb p.1).toLoadRect)⟩ :: L')
    [⟨Rect.unit ![0, 0] (S₂ 2048 w).size (inb₂ (by decide) (by omega)), broadcast _ (Scalar.ofBits .bf16 0x0000#16)⟩]

/-- Row `t` of head `g` is among these. -/
def Hit (l : List (Tile × Fin 2)) (t g : ℕ) : Prop := ∃ p ∈ l, (p.1.k0 ≤ t ∧ t < p.1.k0 + 256) ∧ p.2.val = g

theorem hit_append (l : List (Tile × Fin 2)) (p : Tile × Fin 2) (t g : ℕ) (h : ¬ ((p.1.k0 ≤ t ∧ t < p.1.k0 + 256) ∧ p.2.val = g)) :
    Hit (l ++ [p]) t g ↔ Hit l t g := by
  simp only [Hit, List.mem_append, List.mem_singleton]
  constructor
  · rintro ⟨q, hq | rfl, hh⟩
    · exact ⟨q, hq, hh⟩
    · exact absurd hh h
  · rintro ⟨q, hq, hh⟩
    exact ⟨q, .inl hq, hh⟩

theorem heads_hit (t g : ℕ) (ht : t < 2048) (hg : g < 2) : Hit heads t g := by
  have h8 : ∀ b : Fin 8, ∃ T ∈ tiles, T.k0 = 256 * b.val := by decide
  obtain ⟨T, hT, e⟩ := h8 ⟨t / 256, by omega⟩
  refine ⟨(T, ⟨g, hg⟩), List.mem_flatMap.2 ⟨T, hT, ?_⟩, by simp only at e ⊢; omega, rfl⟩
  rcases g with _ | _ | g
  · exact List.mem_cons_self
  · exact List.mem_cons_of_mem _ List.mem_cons_self
  · omega

theorem heads_tile : ∀ p ∈ heads, p.1 ∈ tiles := fun p hp => by
  obtain ⟨T, hT, h⟩ := List.mem_flatMap.1 hp
  rcases List.mem_cons.1 h with rfl | h
  · exact hT
  · rw [List.mem_singleton.1 h]; exact hT

open Classical in
/-- What 128 lanes hold after these tiles, each head its own 64 lanes. -/
def part (G : Fin 2 → ℕ → ℕ → ℝ) (l : List (Tile × Fin 2)) (t c : ℕ) : ℝ :=
  if h : c / 64 < 2 ∧ Hit l t (c / 64) then G ⟨c / 64, h.1⟩ t c else 0

theorem part_off (G : Fin 2 → ℕ → ℕ → ℝ) (l : List (Tile × Fin 2)) (p : Tile × Fin 2) (t c : ℕ) (h : ¬ ((p.1.k0 ≤ t ∧ t < p.1.k0 + 256) ∧ p.2.val = c / 64)) :
    part G (l ++ [p]) t c = part G l t c := by
  classical
  simp only [part, hit_append l p t _ h]

theorem part_on (G : Fin 2 → ℕ → ℕ → ℝ) (l : List (Tile × Fin 2)) (p : Tile × Fin 2) (t c : ℕ) (h : (p.1.k0 ≤ t ∧ t < p.1.k0 + 256) ∧ p.2.val = c / 64) :
    part G (l ++ [p]) t c = G p.2 t c := by
  classical
  refine (dif_pos ⟨h.2 ▸ p.2.isLt, p, by simp, h⟩).trans ?_
  exact congrArg (fun g => G g t c) (Fin.ext h.2.symm)

theorem part_heads (G : Fin 2 → ℕ → ℕ → ℝ) (t : Fin 2048) (c : ℕ) (hc : c < 128) : part G heads t c = G ⟨c / 64, by omega⟩ t c := by
  classical
  exact dif_pos ⟨by omega, heads_hit _ _ t.isLt (by omega)⟩

/-- One step of a buffer's 128 lanes. -/
theorem slot_step {a : ℕ} (ha : a + 128 ≤ w) (B : View sig κ sp (S₂ 2048 w) .bf16) (L : List (Pc Ideal (S₂ 2048 w) .bf16))
    {G : Fin 2 → ℕ → ℕ → ℝ} {P : FVec Ideal (S₂ 256 128) .bf16 → FVec Ideal (S₂ 256 128) .bf16} (l : List (Tile × Fin 2)) (p : Tile × Fin 2)
    (hP : ∀ old f, Is old f → Is (P old) fun t c => if c / 64 = p.2.val then G p.2 (p.1.k0 + t) c else f t c)
    (hL : ∀ (t : Fin 2048) (c : Fin 128), View.canon L (ix2 t ⟨a + c, by omega⟩) = ((part G l t c : ℝ) : EReal)) (t : Fin 2048) (c : Fin 128) :
    View.canon (⟨slot a ha p.1, P (B.readCov L (slot a ha p.1).toLoadRect)⟩ :: L) (ix2 t ⟨a + c, by omega⟩) = ((part G (l ++ [p]) t c : ℝ) : EReal) := by
  have hk := p.1.hk
  by_cases ht : p.1.k0 ≤ t.val ∧ t.val < p.1.k0 + 256
  · have ht' : t.val - p.1.k0 < 256 := by omega
    have ht'' : p.1.k0 + (t.val - p.1.k0) = t.val := by omega
    have hold : Is (B.readCov L (slot a ha p.1).toLoadRect) fun t' c' => part G l (p.1.k0 + t') c' :=
      fun i j => (read_at B _ i j (by omega) (by omega)).trans (hL ⟨p.1.k0 + i.val, by omega⟩ j)
    refine (canon_hit _ _ t _ ⟨t.val - p.1.k0, ht'⟩ c ht''.symm rfl).trans ?_
    refine (hP _ _ hold _ _).trans (congrArg _ ?_)
    simp only [ht'']
    by_cases hg : c.val / 64 = p.2.val
    · rw [if_pos hg, part_on _ _ _ _ _ ⟨ht, hg.symm⟩]
    · rw [if_neg hg, part_off _ _ _ _ _ fun h => hg h.2.symm]
  · rw [part_off _ _ _ _ _ (fun h => ht h.1)]
    exact (canon_miss _ _ t _ (fun h => ht h.1)).trans (hL t c)

theorem pairList_at {a b : ℕ} (ha : a + 128 ≤ w) (hb : b + 128 ≤ w) (hab : a + 128 ≤ b) (B : View sig κ sp (S₂ 2048 w) .bf16)
    {P P' : Tile → Fin 2 → FVec Ideal (S₂ 256 128) .bf16 → FVec Ideal (S₂ 256 128) .bf16} {G G' : Fin 2 → ℕ → ℕ → ℝ}
    (hP : ∀ T ∈ tiles, ∀ h old f, Is old f → Is (P T h old) fun t c => if c / 64 = h.val then G h (T.k0 + t) c else f t c)
    (hP' : ∀ T ∈ tiles, ∀ h old f, Is old f → Is (P' T h old) fun t c => if c / 64 = h.val then G' h (T.k0 + t) c else f t c)
    (l : List (Tile × Fin 2)) (hl : ∀ p ∈ l, p.1 ∈ tiles) :
    (∀ (t : Fin 2048) (c : Fin 128), View.canon (pairList a b ha hb B P P' l) (ix2 t ⟨a + c, by omega⟩) = ((part G l t c : ℝ) : EReal))
      ∧ ∀ (t : Fin 2048) (c : Fin 128), View.canon (pairList a b ha hb B P P' l) (ix2 t ⟨b + c, by omega⟩) = ((part G' l t c : ℝ) : EReal) := by
  induction l using List.reverseRecOn with
  | nil =>
    have h0 : ∀ (t : Fin 2048) (c : Fin w), View.canon (pairList a b ha hb B P P' []) (ix2 t c) = ((0 : ℝ) : EReal) := fun t c => by
      refine (canon_hit _ _ t c t c (by simp) (by simp)).trans ?_
      show Ideal.ofBits .bf16 0x0000#16 = _
      simp [Ideal.ofBits, Ideal.ieee]
    refine ⟨fun t c => (h0 _ _).trans (congrArg _ ?_), fun t c => (h0 _ _).trans (congrArg _ ?_)⟩ <;> simp [part, Hit]
  | append_singleton l p ih =>
    obtain ⟨i1, i2⟩ := ih fun v hv => hl v (by simp [hv])
    have hT := hl p (by simp)
    set L : List (Pc Ideal (S₂ 2048 w) .bf16) := pairList a b ha hb B P P' l with hL
    set L' : List (Pc Ideal (S₂ 2048 w) .bf16) := ⟨slot a ha p.1, P p.1 p.2 (B.readCov L (slot a ha p.1).toLoadRect)⟩ :: L with hL'
    have e : pairList a b ha hb B P P' (l ++ [p]) = ⟨slot b hb p.1, P' p.1 p.2 (B.readCov L' (slot b hb p.1).toLoadRect)⟩ :: L' := by
      simp only [hL', hL, pairList, List.foldl_append, List.foldl_cons, List.foldl_nil]
    rw [e]
    have j1 := slot_step ha B L (G := G) (P := P p.1 p.2) l p (fun old f h => hP p.1 hT p.2 old f h) i1
    have j2 : ∀ (t : Fin 2048) (c : Fin 128), View.canon L' (ix2 t ⟨b + c, by omega⟩) = ((part G' l t c : ℝ) : EReal) := fun t c =>
      (canon_miss _ _ t _ (by show ¬ (_ ∧ a ≤ b + c.val ∧ b + c.val < a + 128); omega)).trans (i2 t c)
    refine ⟨fun t c => ?_, slot_step hb B L' (G := G') (P := P' p.1 p.2) l p (fun old f h => hP' p.1 hT p.2 old f h) j2⟩
    exact (canon_miss _ _ t _ (by show ¬ (_ ∧ b ≤ a + c.val ∧ a + c.val < b + 128); omega)).trans (j1 t c)

end Attn

end
-- ==== Proof.MlaBody.lean ====
module

public import proofs.«01_k».proof.Proof.Gen.MlaKernelIdeal.Value
public import proofs.«01_k».proof.Proof.Units

@[expose] public section

set_option maxRecDepth 16384

noncomputable section

namespace Cert.Mla

open Idealize.ShloMosaic Cert.MlaKernelIdeal Cert.MlaKernelIdeal.Gen Attn

/-! # The latent attention's backward, tile by tile

One grid point holds the two heads of a lane pair. A row is 128 lanes of the pair's own features followed by 128 lanes
of rotary features; of the latter a head keeps every copy of its number modulo four. -/

variable {F : FTy → Type} [FloatOps F] [Named F]

/-- What one grid point reads: rows of the queries (both halves), of the keys, values, rotary keys and of the gradient,
and pieces of the per-row vectors of a head; and the number of the lane pair. -/
structure Reads (F : FTy → Type) where
  q : ∀ r n : ℕ, r + n ≤ 2048 → FVec F (S₂ n 256) .bf16
  k : ∀ r n : ℕ, r + n ≤ 2048 → FVec F (S₂ n 128) .bf16
  v : ∀ r n : ℕ, r + n ≤ 2048 → FVec F (S₂ n 128) .bf16
  kp : ∀ r n : ℕ, r + n ≤ 2048 → FVec F (S₂ n 128) .bf16
  dO : ∀ r n : ℕ, r + n ≤ 2048 → FVec F (S₂ n 128) .bf16
  lse : ∀ (h : Fin 2) (r n : ℕ), r + n ≤ 2048 → FVec F (S₃ 1 1 n) .f32
  delta : ∀ (h : Fin 2) (r n : ℕ), r + n ≤ 2048 → FVec F (S₃ 1 1 n) .f32
  pair : BitVec 32

/-- The rotary lanes of one head of pair `w`. -/
def ropes (w : BitVec 32) (h : Fin 2) : IVec (S₂ 1 128) 1 :=
  cmpi .eq (andi (shrui (iota .tc (S₂ 1 128) 32 [1]) (broadcast (S₂ 1 128) 4#32)) (broadcast (S₂ 1 128) 3#32))
    (broadcast (S₂ 1 128) (Scalar.andi (Scalar.addi (Scalar.muli 2#32 w) (BitVec.ofNat 32 h.val)) 3#32))

variable (R : Reads F)

/-- The rotary lanes of a head kept, the others `y`. -/
def keepR {φ : FTy} (w : BitVec 32) (h : Fin 2) (x y : FVec F (S₂ 256 128) φ) : FVec F (S₂ 256 128) φ :=
  select (broadcastTo (S₂ 256 128) (shapeCast (S₂ 1 128) (ropes w h) (casts_refl _)) (bc_row 256 128)) x y

/-- The head's key lanes, its own and the rotary ones. -/
def kt (h : Fin 2) (k0 : ℕ) (hk : k0 + 256 ≤ 2048) : FVec F (S₂ 256 256) .bf16 :=
  concatenate (S₂ 256 256) 1
    [⟨S₂ 256 128, keep h (shapeCast _ (R.k k0 256 hk) (casts_refl _)) (broadcast _ (Scalar.ofBits .bf16 0x0000#16))⟩,
     ⟨S₂ 256 128, keepR R.pair h (shapeCast _ (R.kp k0 256 hk) (casts_refl _)) (broadcast _ (Scalar.ofBits .bf16 0x0000#16))⟩]
    concatenates_S256x128_S256x128_S256x256_d1

/-- The head's value lanes. -/
def vt (h : Fin 2) (k0 : ℕ) (hk : k0 + 256 ≤ 2048) : FVec F (S₂ 256 128) .bf16 :=
  keep h (shapeCast _ (R.v k0 256 hk) (casts_refl _)) (broadcast _ (Scalar.ofBits .bf16 0x0000#16))

variable (u : Job)

def dos : FVec F (S₂ u.n 128) .bf16 := shapeCast _ (R.dO u.q0 u.n u.hq) (casts_refl _)

/-- The logits of a unit, keys down and queries across, with the saved row shift taken off. -/
def st : FVec F (S₂ 256 u.n) .f32 :=
  subf (mulf (matmul (DotDims.transposedRhs 256 256 u.n) none (kt R u.h u.k0 u.hk) (R.q u.q0 u.n u.hq) (constant _ .f32 0x00000000#32))
      (broadcast _ (Scalar.ofBits .f32 0x3DD105EC#32)))
    (broadcastTo _ (row (R.lse u.h u.q0 u.n u.hq)) (bc_row _ _))

def stm : FVec F (S₂ 256 u.n) .f32 :=
  match u.diag with
  | true => select (cmpi .sge (iota .tc (S₂ 256 u.n) 32 [1] (iotas _ _)) (iota .tc (S₂ 256 u.n) 32 [0] (iotas _ _))) (st R u)
      (broadcast _ (Named.named κ "mask" 0xF149F2CA#32))
  | false => st R u

/-- The attention weights. -/
def pt : FVec F (S₂ 256 u.n) .f32 := exp (stm R u)

/-- The gradient at the products of keys and queries. -/
def dst : FVec F (S₂ 256 u.n) .f32 :=
  mulf (mulf (pt R u) (subf (matmul (DotDims.transposedRhs 256 128 u.n) none (vt R u.h u.k0 u.hk) (dos R u) (constant _ .f32 0x00000000#32))
    (broadcastTo _ (row (R.delta u.h u.q0 u.n u.hq)) (bc_row _ _)))) (broadcast _ (Scalar.ofBits .f32 0x3DD105EC#32))

def dsb : FVec F (S₂ 256 u.n) .bf16 := truncf .bf16 (dst R u) bitsLt_bf16_f32

/-- A unit's part of the gradient at the queries. -/
def dqOf : FVec F (S₂ u.n 256) .f32 :=
  matmul (dotTN 256 u.n 256) none (dsb R u) (kt R u.h u.k0 u.hk) (constant _ .f32 0x00000000#32)

/-- A unit's part of the gradient at the keys. -/
def dkOf : FVec F (S₂ 256 256) .f32 :=
  matmul (DotDims.plain 256 u.n 256) none (dsb R u) (R.q u.q0 u.n u.hq) (constant _ .f32 0x00000000#32)

/-- A unit's part of the gradient at the values. -/
def dvOf : FVec F (S₂ 256 128) .f32 :=
  matmul (DotDims.plain 256 u.n 128) none (truncf .bf16 (pt R u) bitsLt_bf16_f32) (dos R u) (constant _ .f32 0x00000000#32)

/-! ## The buffers -/

variable {κ' : Kind} {sp : Space}
variable (A : View sig κ' sp (S₂ 2048 256) .f32) (B : View sig κ' sp (S₂ 2048 256) .bf16) (C : View sig κ' sp (S₂ 2048 128) .f32)

/-- The key gradient of a tile and head, over what its rows held. -/
def dkPay (T : Tile) (h : Fin 2) (old : FVec F (S₂ 256 128) .bf16) : FVec F (S₂ 256 128) .bf16 :=
  keep h (truncf .bf16 (extractStridedSlice (S₂ 256 128) ![0, 0] (total (dkOf R) (T.jobs h)) slices_S256x256_o0_0_S256x128) bitsLt_bf16_f32)
    (shapeCast _ old (casts_refl _))

/-- The value gradient of a tile and head, over what its rows held. -/
def dvPay (T : Tile) (h : Fin 2) (old : FVec F (S₂ 256 128) .bf16) : FVec F (S₂ 256 128) .bf16 :=
  keep h (truncf .bf16 (total (dvOf R) (T.jobs h)) bitsLt_bf16_f32) (shapeCast _ old (casts_refl _))

/-- The rotary key gradient of a tile and head, added to what its rows held. -/
def pePay (T : Tile) (h : Fin 2) (old : FVec F (S₂ 256 128) .f32) : FVec F (S₂ 256 128) .f32 :=
  addf (shapeCast _ old (casts_refl _))
    (keepR R.pair h (extractStridedSlice (S₂ 256 128) ![0, 128] (total (dkOf R) (T.jobs h)) slices_S256x256_o0_128_S256x128)
      (broadcast _ (Scalar.ofBits .f32 0x00000000#32)))

/-- The whole of a block. -/
abbrev all (w : ℕ) : Rect (S₂ 2048 w) := Rect.unit ![0, 0] (S₂ 2048 w).size (inb₂ (by omega) (by omega))

/-- The cleared block. -/
def zeros : Pc F (S₂ 2048 128) .f32 := ⟨all 128, broadcast _ (Scalar.ofBits .f32 0x00000000#32)⟩

abbrev dqList := accList A (dqOf R) jobs

def dqnList : List (Pc F (S₂ 2048 128) .bf16) :=
  [⟨all 128, truncf .bf16 (A.readCov (dqList R A)
      (Rect.unit (s := S₂ 2048 256) ![0, 0] (S₂ 2048 128).size (inb₂ (by decide) (by decide))).toLoadRect) bitsLt_bf16_f32⟩]

/-- The rotary query gradient added to `old`. -/
def dqpPay (old : FVec F (S₂ 2048 128) .f32) : FVec F (S₂ 2048 128) .f32 :=
  addf (shapeCast _ old (casts_refl _)) (A.readCov (dqList R A)
    (Rect.unit (s := S₂ 2048 256) ![0, 128] (S₂ 2048 128).size (inb₂ (by decide) (by decide))).toLoadRect)

abbrev dkvList := pairList 0 128 (by decide) (by decide) B (dkPay R) (dvPay R) heads

/-- The rotary key gradient: each tile's rows from `old`, then both heads added. -/
def peList (old : List (Pc F (S₂ 2048 128) .f32) → Tile → FVec F (S₂ 256 128) .f32) (base : List (Pc F (S₂ 2048 128) .f32)) (l : List Tile) :
    List (Pc F (S₂ 2048 128) .f32) :=
  l.foldl (fun L T =>
      let L' : List (Pc F (S₂ 2048 128) .f32) := ⟨slot 0 (by decide) T, pePay R T 0 (old L T)⟩ :: L
      ⟨slot 0 (by decide) T, pePay R T 1 (C.readCov L' (slot 0 (by decide) T).toLoadRect)⟩ :: L')
    base

variable (c : Dev nD) (i : grid0.Coords)
 (arg2 : Memref sig Kind.tc Space.vmem S2048x128 EltTy.bf16) (harg2 : arg2.IsWhole)
 (arg3 : Memref sig Kind.tc Space.vmem S2048x128 EltTy.bf16) (harg3 : arg3.IsWhole)
 (arg4 : Memref sig Kind.tc Space.vmem S2048x256 EltTy.bf16) (harg4 : arg4.IsWhole)
 (arg5 : Memref sig Kind.tc Space.vmem S2048x128 EltTy.bf16) (harg5 : arg5.IsWhole)
 (arg6 : Memref sig Kind.tc Space.vmem S2048x128 EltTy.bf16) (harg6 : arg6.IsWhole)
 (arg7 : Memref sig Kind.tc Space.vmem S2x1x2048 EltTy.f32) (harg7 : arg7.IsWhole)
 (arg8 : Memref sig Kind.tc Space.vmem S2x1x2048 EltTy.f32) (harg8 : arg8.IsWhole)
 (arg9 : Memref sig Kind.tc Space.vmem S2048x128 EltTy.bf16) (harg9 : arg9.IsWhole)
 (arg10 : Memref sig Kind.tc Space.vmem S2048x256 EltTy.bf16) (harg10 : arg10.IsWhole)
 (arg11 : Memref sig Kind.tc Space.vmem S2048x128 EltTy.f32) (harg11 : arg11.IsWhole)
 (arg12 : Memref sig Kind.tc Space.vmem S2048x128 EltTy.f32) (harg12 : arg12.IsWhole)
 (arg13 : Memref sig Kind.tc Space.vmem S2048x256 EltTy.f32) (harg13 : arg13.IsWhole)
 (arg14 : Memref sig Kind.tc Space.vmem S2048x256 EltTy.bf16) (harg14 : arg14.IsWhole)
 (x0 x1 : Vec F S2048x128 .bf16) (x2 : Vec F S2048x256 .bf16) (x3 x4 : Vec F S2048x128 .bf16) (x5 x6 : Vec F S2x1x2048 .f32)
 (xo9 xo10 : Vec F S2048x128 .f32)

/-- Both halves of the queries, side by side. -/
def qcat : List (Pc F (S₂ 2048 256) .bf16) :=
  [⟨Rect.unit (s := S₂ 2048 256) ![0, 128] (S₂ 2048 128).size (inb₂ (by decide) (by decide)),
      shapeCast (S₂ 2048 128) (shapeCast (S₂ 2048 128) (View.readAt (Elt F) arg3.view (all 128).toLoadRect (harg3.unread x1)) (casts_refl _)) (casts_refl _)⟩,
   ⟨Rect.unit (s := S₂ 2048 256) ![0, 0] (S₂ 2048 128).size (inb₂ (by decide) (by decide)),
      shapeCast (S₂ 2048 128) (shapeCast (S₂ 2048 128) (View.readAt (Elt F) arg2.view (all 128).toLoadRect (harg2.unread x0)) (casts_refl _)) (casts_refl _)⟩]

/-- The reads of one grid point. -/
def reads : Reads F where
  q r n h := arg14.view.readCov (qcat arg2 harg2 arg3 harg3 x0 x1) (Rect.unit (s := S₂ 2048 256) ![r, 0] (S₂ n 256).size (inb₂ h (by decide))).toLoadRect
  k r n h := View.readAt (Elt F) arg4.view (Rect.unit (s := S₂ 2048 256) ![r, 0] (S₂ n 128).size (inb₂ h (by decide))).toLoadRect (harg4.unread x2)
  v r n h := View.readAt (Elt F) arg4.view (Rect.unit (s := S₂ 2048 256) ![r, 128] (S₂ n 128).size (inb₂ h (by decide))).toLoadRect (harg4.unread x2)
  kp r n h := View.readAt (Elt F) arg5.view (Rect.unit (s := S₂ 2048 128) ![r, 0] (S₂ n 128).size (inb₂ h (by decide))).toLoadRect (harg5.unread x3)
  dO r n h := View.readAt (Elt F) arg6.view (Rect.unit (s := S₂ 2048 128) ![r, 0] (S₂ n 128).size (inb₂ h (by decide))).toLoadRect (harg6.unread x4)
  lse g r n h := View.readAt (Elt F) arg7.view (Rect.unit (s := S₃ 2 1 2048) ![g.val, 0, r] (S₃ 1 1 n).size (inb₃ g h)).toLoadRect (harg7.unread x5)
  delta g r n h := View.readAt (Elt F) arg8.view (Rect.unit (s := S₃ 2 1 2048) ![g.val, 0, r] (S₃ 1 1 n).size (inb₃ g h)).toLoadRect (harg8.unread x6)
  pair := BitVec.ofNat 32 (i 1).val

variable {R : Reads F} (hR : R = reads i arg2 harg2 arg3 harg3 arg4 harg4 arg5 harg5 arg6 harg6 arg7 harg7 arg8 harg8 arg14 x0 x1 x2 x3 x4 x5 x6)
include hR

section
variable (hc0 : cond0_0 i) (hc1 : cond0_1 i)
theorem A7 : out0_A_7 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6
    = View.canon (dqnList R arg13.view) := by
  subst hR
  refine (View.read_writes_junk_eq_canon _ _).trans (congrArg View.canon ?_)
  sl_kernel_rfl

theorem A8 : out0_A_8 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6
    = View.canon (dkvList R arg10.view) := by
  subst hR
  refine (View.read_writes_junk_eq_canon _ _).trans (congrArg View.canon ?_)
  sl_kernel_rfl

theorem A9 : out0_A_9 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6
    = View.canon [⟨all 128, dqpPay R arg13.view (arg11.view.readCov [zeros] (all 128).toLoadRect)⟩, zeros] := by
  subst hR
  refine (View.read_writes_junk_eq_canon _ _).trans (congrArg View.canon ?_)
  sl_kernel_rfl

theorem A10 : out0_A_10 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6
    = View.canon (peList R arg12.view (fun L T => arg12.view.readCov L (slot 0 (by decide) T).toLoadRect) [zeros] tiles) := by
  subst hR
  refine (View.read_writes_junk_eq_canon _ _).trans (congrArg View.canon ?_)
  sl_kernel_rfl
end

section
variable (hc0 : ¬ cond0_0 i) (hc1 : ¬ cond0_1 i)
theorem B7 : out0_B_7 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xo9 xo10
    = View.canon (dqnList R arg13.view) := by
  subst hR
  refine (View.read_writes_junk_eq_canon _ _).trans (congrArg View.canon ?_)
  sl_kernel_rfl

theorem B8 : out0_B_8 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xo9 xo10
    = View.canon (dkvList R arg10.view) := by
  subst hR
  refine (View.read_writes_junk_eq_canon _ _).trans (congrArg View.canon ?_)
  sl_kernel_rfl

theorem B9 : out0_B_9 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xo9 xo10
    = View.canon [⟨all 128, dqpPay R arg13.view (View.readAt (Elt F) arg11.view (all 128).toLoadRect (harg11.unread xo9))⟩] := by
  subst hR
  refine (View.read_writes_junk_eq_canon _ _).trans (congrArg View.canon ?_)
  sl_kernel_rfl

theorem B10 : out0_B_10 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xo9 xo10
    = View.canon (peList R arg12.view (fun _ T => View.readAt (Elt F) arg12.view (slot 0 (by decide) T).toLoadRect (harg12.unread xo10)) [] tiles) := by
  subst hR
  refine (View.read_writes_junk_eq_canon _ _).trans (congrArg View.canon ?_)
  sl_kernel_rfl
end

section
variable (hc0 : ¬ cond0_0 i) (hc1 : cond0_1 i)
theorem C7 : out0_C_7 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xo10
    = View.canon (dqnList R arg13.view) := by
  subst hR
  refine (View.read_writes_junk_eq_canon _ _).trans (congrArg View.canon ?_)
  sl_kernel_rfl

theorem C8 : out0_C_8 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xo10
    = View.canon (dkvList R arg10.view) := by
  subst hR
  refine (View.read_writes_junk_eq_canon _ _).trans (congrArg View.canon ?_)
  sl_kernel_rfl

theorem C9 : out0_C_9 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xo10
    = View.canon [⟨all 128, dqpPay R arg13.view (arg11.view.readCov [zeros] (all 128).toLoadRect)⟩, zeros] := by
  subst hR
  refine (View.read_writes_junk_eq_canon _ _).trans (congrArg View.canon ?_)
  sl_kernel_rfl

theorem C10 : out0_C_10 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xo10
    = View.canon (peList R arg12.view (fun _ T => View.readAt (Elt F) arg12.view (slot 0 (by decide) T).toLoadRect (harg12.unread xo10)) [] tiles) := by
  subst hR
  refine (View.read_writes_junk_eq_canon _ _).trans (congrArg View.canon ?_)
  sl_kernel_rfl

end

end Cert.Mla

end
-- ==== Proof.MlaMath.lean ====
module

public import proofs.«01_k».proof.Proof.MlaBody
public import proofs.«01_k».proof.Proof.Soft

@[expose] public section

set_option maxRecDepth 16384

noncomputable section

namespace Cert.Mla

open Idealize.ShloMosaic Cert.MlaKernelIdeal Cert.MlaKernelIdeal.Gen Attn

/-- The named mask is minus infinity. -/
theorem mask_eq : (Named.named κ "mask" 0xF149F2CA#32 : Ideal .f32) = (⊥ : EReal) :=
  IdealRules.named_const.ideal_named_scalar _ _ _ _ rfl

/-- The reads of a grid point hold these reals. -/
structure Reads.Holds (R : Reads Ideal) (Q K V P D : ℕ → ℕ → ℝ) (L Δ : Fin 2 → ℕ → ℝ) (p : ℕ) : Prop where
  q : ∀ r n h, Is (R.q r n h) fun i l => Q (r + i) l
  k : ∀ r n h, Is (R.k r n h) fun i l => K (r + i) l
  v : ∀ r n h, Is (R.v r n h) fun i l => V (r + i) l
  kp : ∀ r n h, Is (R.kp r n h) fun i l => P (r + i) l
  dO : ∀ r n h, Is (R.dO r n h) fun i l => D (r + i) l
  lse : ∀ g r n h, IsRow (R.lse g r n h) fun i => L g (r + i)
  delta : ∀ g r n h, IsRow (R.delta g r n h) fun i => Δ g (r + i)
  pair : R.pair = BitVec.ofNat 32 p
  lt : p < 4

/-- The scale of the logits, as the programs hold it. -/
def sc : ℝ := 13698540 / 134217728

theorem sc_eq : (Ideal.ofBits .f32 0x3DD105EC#32 : EReal) = ((sc : ℝ) : EReal) := by
  simp [Ideal.ofBits, Ideal.ieee, sc]
  rw [← EReal.coe_mul]
  norm_num

section
variable (Q K V P D : ℕ → ℕ → ℝ) (L Δ : Fin 2 → ℕ → ℝ) (p : ℕ)

/-- The head's key at a lane: its own 64 lanes, then its copy of the rotary ones. -/
def keyOf (h : Fin 2) (t l : ℕ) : ℝ :=
  if l < 128 then (if l / 64 = h.val then K t l else 0) else if (l - 128) / 16 % 4 = (2 * p + h.val) % 4 then P t (l - 128) else 0
def valOf (h : Fin 2) (t l : ℕ) : ℝ := if l / 64 = h.val then V t l else 0
/-- The shifted logit of key `t` and query `i`. -/
def logit (h : Fin 2) (t i : ℕ) : ℝ := (∑ l : Fin 256, keyOf K P p h t l * Q i l) * sc - L h i
/-- The attention weight. -/
def wt (h : Fin 2) (t i : ℕ) : ℝ := if t ≤ i then Real.exp (logit Q K P L p h t i) else 0
/-- The gradient at the product of key and query. -/
def grad (h : Fin 2) (t i : ℕ) : ℝ := wt Q K P L p h t i * ((∑ l : Fin 128, valOf V h t l * D i l) - Δ h i) * sc

theorem grad_zero {h : Fin 2} {t i : ℕ} (hti : i < t) : grad Q K V P D L Δ p h t i = 0 := by
  rw [grad, wt, if_neg (by omega), zero_mul, zero_mul]
theorem wt_zero {h : Fin 2} {t i : ℕ} (hti : i < t) : wt Q K P L p h t i = 0 := by
  rw [wt, if_neg (by omega)]

/-- The gradients of one grid point: queries, keys, values, rotary keys. -/
def dqR (t c : ℕ) : ℝ := ∑ h, ∑ j : Fin 2048, grad Q K V P D L Δ p h j t * keyOf K P p h j c
def dkR (h : Fin 2) (t c : ℕ) : ℝ := ∑ i : Fin 2048, grad Q K V P D L Δ p h t i * Q i c
def dvR (h : Fin 2) (t c : ℕ) : ℝ := ∑ i : Fin 2048, wt Q K P L p h t i * D i c
def peR (t c : ℕ) : ℝ := ∑ h : Fin 2, if c / 16 % 4 = (2 * p + h.val) % 4 then dkR Q K V P D L Δ p h t (128 + c) else 0
end

theorem ropes_at (p : ℕ) (hp : p < 4) (h : Fin 2) (l : Fin 128) :
    ropes (BitVec.ofNat 32 p) h (ix2 0 l) = BitVec.ofBool (decide (l.val / 16 % 4 = (2 * p + h.val) % 4)) := by
  have key : ∀ (p : Fin 4) (h : Fin 2) (l : Fin 128),
      ropes (BitVec.ofNat 32 p.val) h (ix2 0 l) = BitVec.ofBool (decide (l.val / 16 % 4 = (2 * p.val + h.val) % 4)) := by decide +kernel
  exact key ⟨p, hp⟩ h l

theorem keepR_at {φ : FTy} {x y : FVec Ideal (S₂ 256 128) φ} {f g : ℕ → ℕ → ℝ} (hx : Is x f) (hy : Is y g) (p : ℕ) (hp : p < 4) (h : Fin 2) :
    Is (keepR (BitVec.ofNat 32 p) h x y) fun r c => if c / 16 % 4 = (2 * p + h.val) % 4 then f r c else g r c := fun r c => by
  have e : (broadcastTo (S₂ 256 128) (shapeCast (S₂ 1 128) (ropes (BitVec.ofNat 32 p) h) (casts_refl _)) (bc_row 256 128)) (ix2 r c)
      = BitVec.ofBool (decide (c.val / 16 % 4 = (2 * p + h.val) % 4)) := by
    rw [shapeCast_id]
    exact (ValueIdx.broadcastTo_1b_ab_apply _ _ r c).trans (ropes_at p hp h c)
  show (if (broadcastTo (S₂ 256 128) (shapeCast (S₂ 1 128) (ropes (BitVec.ofNat 32 p) h) (casts_refl _)) (bc_row 256 128)) (ix2 r c) = 1 then _ else _) = _
  rw [e]
  by_cases hc : c.val / 16 % 4 = (2 * p + h.val) % 4
  · exact (if_pos (by simp [hc])).trans ((hx r c).trans (congrArg _ (if_pos hc).symm))
  · exact (if_neg (by simp [hc])).trans ((hy r c).trans (congrArg _ (if_neg hc).symm))

/-- Two arrays of 128 lanes, side by side. -/
theorem concat_at {a : ℕ} {x y : (S₂ a 128).Idx → EReal} {f g : ℕ → ℕ → ℝ} (hx : Is x f) (hy : Is y g)
    (h : Shape.Concatenates [S₂ a 128, S₂ a 128] (S₂ a 256) 1) :
    Is (concatenate (S₂ a 256) 1 [⟨S₂ a 128, x⟩, ⟨S₂ a 128, y⟩] h) fun r c => if c < 128 then f r c else g r (c - 128) := fun r c => by
  by_cases hc : c.val < 128
  · refine (concatenate_pair_apply_left (1 : Fin 2) x y h (ix2 r c) rfl (ix2 r ⟨c.val, hc⟩) fun b => ?_).trans ((hx _ _).trans (congrArg _ (if_pos hc).symm))
    match b with
    | ⟨0, _⟩ => rfl
    | ⟨1, _⟩ => rfl
  · refine (concatenate_pair_apply_right (1 : Fin 2) x y h (ix2 r c) rfl rfl (ix2 r ⟨c.val - 128, by omega⟩) (fun b hb => ?_) ?_).trans
      ((hy _ _).trans (congrArg _ (if_neg hc).symm))
    · match b with
      | ⟨0, _⟩ => rfl
      | ⟨1, _⟩ => exact absurd rfl hb
    · show c.val - 128 + 128 = c.val
      omega

/-- 128 lanes cut out. -/
theorem slice_at {a b o : ℕ} {x : (S₂ a b).Idx → EReal} {f : ℕ → ℕ → ℝ} (hx : Is x f) (h : (S₂ a b).Slices ![0, o] (S₂ a 128)) (ho : o + 128 ≤ b) :
    Is (extractStridedSlice (S₂ a 128) ![0, o] x h) fun r c => f r (o + c) := fun r c => by
  refine (extractStridedSlice_apply _ x h (ix2 r c) (ix2 r ⟨o + c.val, by omega⟩) fun b => ?_).trans (hx _ _)
  match b with
  | ⟨0, _⟩ => show r.val = 0 + r.val; omega
  | ⟨1, _⟩ => rfl

variable {R : Reads Ideal} {Q K V P D : ℕ → ℕ → ℝ} {L Δ : Fin 2 → ℕ → ℝ} {p : ℕ} (H : R.Holds Q K V P D L Δ p)

theorem zero_at {a b : ℕ} : Is (broadcast (S₂ a b) (Scalar.ofBits (F := Ideal) .f32 0x00000000#32)) fun _ _ => 0 :=
  Is.const _ 0 (by simp [Scalar.ofBits, Ideal.ofBits, Ideal.ieee])

theorem zero_at' {a b : ℕ} : Is (broadcast (S₂ a b) (Scalar.ofBits (F := Ideal) .bf16 0x0000#16)) fun _ _ => 0 :=
  Is.const _ 0 (by simp [Scalar.ofBits, Ideal.ofBits, Ideal.ieee])

include H

theorem kt_at (h : Fin 2) (k0 hk) : Is (kt R h k0 hk) fun r l => keyOf K P p h (k0 + r) l := by
  have e := H.pair
  unfold kt
  rw [e]
  exact (concat_at (((H.k k0 256 hk).self _).keep (φ := .bf16) zero_at' h) (keepR_at (φ := .bf16) ((H.kp k0 256 hk).self _) zero_at' p H.lt h) _).congr
    fun _ _ => rfl

theorem vt_at (h : Fin 2) (k0 hk) : Is (vt R h k0 hk) fun r l => valOf V h (k0 + r) l :=
  (((H.v k0 256 hk).self _).keep (φ := .bf16) zero_at' h).congr fun _ _ => rfl

variable (u : Job)

theorem dos_at : Is (dos R u) fun r l => D (u.q0 + r) l := (H.dO u.q0 u.n u.hq).self _

theorem st_at : Is (st R u) fun t i => logit Q K P L p u.h (u.k0 + t) (u.q0 + i) :=
  Is.sub (φ := .f32) (Is.mul (φ := .f32) ((kt_at H u.h u.k0 u.hk).matmulNT (φ := .bf16) (ψ := .bf16) (H.q u.q0 u.n u.hq)) (Is.const _ sc sc_eq))
    (Is.bcRow (φ := .f32) (H.lse u.h u.q0 u.n u.hq).row _)

theorem pt_at (hu : u.Ok) : Is (pt R u) fun t i => wt Q K P L p u.h (u.k0 + t) (u.q0 + i) := fun t i => by
  obtain ⟨h, k0, q0, n, d, hk, hq⟩ := u
  cases d with
  | false =>
    have hle : k0 + t.val ≤ q0 + i.val := by
      have : k0 + 256 ≤ q0 := by simpa [Job.Ok] using hu
      omega
    show (Ideal.exp _ : EReal) = _
    refine (congrArg Ideal.exp (st_at H _ t i)).trans ?_
    simp [wt, hle]
  | true =>
    obtain ⟨rfl, rfl⟩ : k0 = q0 ∧ n = 256 := by simpa [Job.Ok] using hu
    have e : cmpi .sge (iota .tc (S₂ 256 256) 32 [1] (iotas _ _)) (iota .tc (S₂ 256 256) 32 [0] (iotas _ _)) (ix2 t i)
        = BitVec.ofBool (decide (t ≤ i)) := by
      show BitVec.ofBool ((BitVec.ofNat 32 (0 * 256 + t.val)).sle (BitVec.ofNat 32 (0 * 256 + i.val))) = _
      exact congrArg BitVec.ofBool ((Soft.sle_nat _ _ (by omega) (by have := i.isLt; simp only at this; omega)).trans
        (decide_eq_decide.2 (by rw [zero_mul, zero_add, zero_add]; exact Fin.le_def.symm)))
    show (Ideal.exp (if cmpi .sge (iota .tc (S₂ 256 256) 32 [1] (iotas _ _)) (iota .tc (S₂ 256 256) 32 [0] (iotas _ _)) (ix2 t i) = 1
      then st R _ (ix2 t i) else (Named.named κ "mask" 0xF149F2CA#32 : Ideal .f32)) : EReal) = _
    rw [e, mask_eq]
    by_cases hti : t ≤ i
    · have hti' : k0 + t.val ≤ k0 + i.val := by have := Fin.le_def.1 hti; omega
      rw [if_pos (by simp [hti])]
      refine (congrArg Ideal.exp (st_at H _ t i)).trans ?_
      simp [wt, hti']
    · have hti' : ¬ k0 + t.val ≤ k0 + i.val := by have := fun h => hti (Fin.le_def.2 h); omega
      rw [if_neg (by simp [hti])]
      simp [wt, hti']

theorem dst_at (hu : u.Ok) : Is (dst R u) fun t i => grad Q K V P D L Δ p u.h (u.k0 + t) (u.q0 + i) :=
  Is.mul (φ := .f32) (Is.mul (φ := .f32) (pt_at H u hu) (Is.sub (φ := .f32) ((vt_at H u.h u.k0 u.hk).matmulNT (φ := .bf16) (ψ := .bf16) (dos_at H u))
    ((H.delta u.h u.q0 u.n u.hq).row.bcRow (φ := .f32) _))) (Is.const _ sc sc_eq)

theorem dqOf_at (hu : u.Ok) : Is (dqOf R u) fun i l => ∑ t : Fin 256, grad Q K V P D L Δ p u.h (u.k0 + t) (u.q0 + i) * keyOf K P p u.h (u.k0 + t) l :=
  Is.matmulTN (φ := .bf16) (ψ := .bf16) ((dst_at H u hu).trunc bitsLt_bf16_f32) (kt_at H u.h u.k0 u.hk)

theorem dkOf_at (hu : u.Ok) : Is (dkOf R u) fun t l => ∑ i : Fin u.n, grad Q K V P D L Δ p u.h (u.k0 + t) (u.q0 + i) * Q (u.q0 + i) l :=
  Is.matmulNN (φ := .bf16) (ψ := .bf16) ((dst_at H u hu).trunc bitsLt_bf16_f32) (H.q u.q0 u.n u.hq)

theorem dvOf_at (hu : u.Ok) : Is (dvOf R u) fun t l => ∑ i : Fin u.n, wt Q K P L p u.h (u.k0 + t) (u.q0 + i) * D (u.q0 + i) l :=
  Is.matmulNN (φ := .bf16) (ψ := .bf16) ((pt_at H u hu).trunc bitsLt_bf16_f32) (dos_at H u)

/-! ## The four blocks -/

variable {κ' : Kind} {sp : Space}
variable (A : View sig κ' sp (S₂ 2048 256) .f32) (B : View sig κ' sp (S₂ 2048 256) .bf16) (C : View sig κ' sp (S₂ 2048 128) .f32)

theorem dq_at (i : Fin 2048) (c : Fin 256) : View.canon (dqList R A) (ix2 i c) = ((dqR Q K V P D L Δ p i c : ℝ) : EReal) :=
  (accList_at A (g := fun u i c => ∑ t : Fin 256, grad Q K V P D L Δ p u.h (u.k0 + t) i * keyOf K P p u.h (u.k0 + t) c)
      (fun u hu => dqOf_at H u hu) jobs jobs_ok i c).trans
    (congrArg _ (sum_jobs (fun h t => grad Q K V P D L Δ p h t i * keyOf K P p h t c) i.isLt
      fun h t ht => by rw [grad_zero _ _ _ _ _ _ _ _ ht, zero_mul]))

omit H in
/-- A store over the whole block. -/
theorem canon_all {w : ℕ} {e : EltTy} (pay : (S₂ 2048 w).Idx → Elt Ideal e) (l : List (Pc Ideal (S₂ 2048 w) e)) (i : Fin 2048) (c : Fin w) :
    View.canon (⟨all w, pay⟩ :: l) (ix2 i c) = pay (ix2 i c) := canon_hit _ _ i c i c (by simp) (by simp)

theorem dqn_at (i : Fin 2048) (c : Fin 128) : View.canon (dqnList R A) (ix2 i c) = ((dqR Q K V P D L Δ p i c : ℝ) : EReal) := by
  refine (canon_all _ _ i c).trans ((read_at A _ i c (by omega) (by omega)).trans ((dq_at H A _ _).trans ?_))
  simp only [zero_add]

theorem dqp_at {old : FVec Ideal (S₂ 2048 128) .f32} {f : ℕ → ℕ → ℝ} (ho : Is old f) : Is (dqpPay R A old) fun t c => f t c + dqR Q K V P D L Δ p t (128 + c) :=
  Is.add (φ := .f32) (ho.self _) fun i c => by
    refine (read_at A _ i c (by omega) (by omega)).trans ((dq_at H A _ _).trans ?_)
    simp only [zero_add]

theorem dkTotal_at (T : Tile) (hT : T ∈ tiles) (h : Fin 2) : Is (total (dkOf R) (T.jobs h)) fun t c => dkR Q K V P D L Δ p h (T.k0 + t) c :=
  Is.tile T hT h (fun t c i => grad Q K V P D L Δ p h (T.k0 + t) i * Q i c) (fun u hu e1 e2 => (dkOf_at H u hu).congr fun t c => by rw [e1, e2])
    fun t c i hi => by rw [grad_zero _ _ _ _ _ _ _ _ (by omega), zero_mul]

theorem dvTotal_at (T : Tile) (hT : T ∈ tiles) (h : Fin 2) : Is (total (dvOf R) (T.jobs h)) fun t c => dvR Q K P D L p h (T.k0 + t) c :=
  Is.tile T hT h (fun t c i => wt Q K P L p h (T.k0 + t) i * D i c) (fun u hu e1 e2 => (dvOf_at H u hu).congr fun t c => by rw [e1, e2])
    fun t c i hi => by rw [wt_zero _ _ _ _ _ (by omega), zero_mul]

theorem dkPay_at (T : Tile) (hT : T ∈ tiles) (h : Fin 2) (old : FVec Ideal (S₂ 256 128) .bf16) (f : ℕ → ℕ → ℝ) (ho : Is old f) :
    Is (dkPay R T h old) fun t c => if c / 64 = h.val then dkR Q K V P D L Δ p h (T.k0 + t) c else f t c :=
  (Is.keep (φ := .bf16) (Is.trunc (slice_at (dkTotal_at H T hT h) _ (by decide)) bitsLt_bf16_f32) (ho.self _) h).congr fun t c => by
    simp only [zero_add]

theorem dvPay_at (T : Tile) (hT : T ∈ tiles) (h : Fin 2) (old : FVec Ideal (S₂ 256 128) .bf16) (f : ℕ → ℕ → ℝ) (ho : Is old f) :
    Is (dvPay R T h old) fun t c => if c / 64 = h.val then dvR Q K P D L p h (T.k0 + t) c else f t c :=
  Is.keep (φ := .bf16) (Is.trunc (dvTotal_at H T hT h) bitsLt_bf16_f32) (ho.self _) h

theorem pePay_at (T : Tile) (hT : T ∈ tiles) (h : Fin 2) {old : FVec Ideal (S₂ 256 128) .f32} {f : ℕ → ℕ → ℝ} (ho : Is old f) :
    Is (pePay R T h old) fun t c => f t c + if c / 16 % 4 = (2 * p + h.val) % 4 then dkR Q K V P D L Δ p h (T.k0 + t) (128 + c) else 0 := by
  have e := H.pair
  unfold pePay
  rw [e]
  exact Is.add (φ := .f32) (ho.self _) (keepR_at (φ := .f32) (slice_at (dkTotal_at H T hT h) _ (by decide)) zero_at p H.lt h)

theorem dkv_at : (∀ (t : Fin 2048) (c : Fin 128), View.canon (dkvList R B) (ix2 t ⟨0 + c.val, by omega⟩) = ((part (dkR Q K V P D L Δ p) heads t c : ℝ) : EReal))
      ∧ ∀ (t : Fin 2048) (c : Fin 128), View.canon (dkvList R B) (ix2 t ⟨128 + c.val, by omega⟩) = ((part (dvR Q K P D L p) heads t c : ℝ) : EReal) :=
  pairList_at (a := 0) (b := 128) (by decide) (by decide) (by decide) B (dkPay_at H) (dvPay_at H) heads heads_tile

theorem dk_at (t : Fin 2048) (c : Fin 128) : View.canon (dkvList R B) (ix2 t ⟨c.val, by omega⟩)
    = ((dkR Q K V P D L Δ p ⟨c.val / 64, by omega⟩ t c : ℝ) : EReal) := by
  have e : (⟨c.val, by omega⟩ : Fin 256) = ⟨0 + c.val, by omega⟩ := Fin.ext (by simp)
  rw [e]
  exact ((dkv_at H B).1 t c).trans (congrArg _ (part_heads _ t c c.isLt))

theorem dv_at (t : Fin 2048) (c : Fin 128) : View.canon (dkvList R B) (ix2 t ⟨128 + c.val, by omega⟩)
    = ((dvR Q K P D L p ⟨c.val / 64, by omega⟩ t c : ℝ) : EReal) :=
  ((dkv_at H B).2 t c).trans (congrArg _ (part_heads _ t c c.isLt))

omit H in
/-- Row `t` lies in the tile. -/
def Tile.In (T : Tile) (t : ℕ) : Prop := T.k0 ≤ t ∧ t < T.k0 + 256

theorem peList_at {old : List (Pc Ideal (S₂ 2048 128) .f32) → Tile → FVec Ideal (S₂ 256 128) .f32} {base : List (Pc Ideal (S₂ 2048 128) .f32)}
    {O : ℕ → ℕ → ℝ}
    (hold : ∀ (M : List (Pc Ideal (S₂ 2048 128) .f32)) (T : Tile), (∀ (t : Fin 2048) (c : Fin 128), Tile.In T t → View.canon M (ix2 t c) = View.canon base (ix2 t c)) →
      Is (old M T) fun r c => O (T.k0 + r) c)
    (l : List Tile) (hl : ∀ T ∈ l, T ∈ tiles) (hd : l.Pairwise fun T T' => T.k0 + 256 ≤ T'.k0) (t : Fin 2048) (c : Fin 128) :
    ((∃ T ∈ l, Tile.In T t) → View.canon (peList R C old base l) (ix2 t c) = ((O t c + peR Q K V P D L Δ p t c : ℝ) : EReal))
      ∧ ((∀ T ∈ l, ¬ Tile.In T t) → View.canon (peList R C old base l) (ix2 t c) = View.canon base (ix2 t c)) := by
  induction l using List.reverseRecOn generalizing t c with
  | nil => exact ⟨fun ⟨T, hT, _⟩ => absurd hT (by simp), fun _ => rfl⟩
  | append_singleton l T ih =>
    obtain ⟨hd1, -, hd2⟩ := List.pairwise_append.1 hd
    have ih' := fun t c => ih (fun v hv => hl v (by simp [hv])) hd1 t c
    have hT := hl T (by simp)
    have hk := T.hk
    set M : List (Pc Ideal (S₂ 2048 128) .f32) := peList R C old base l with hM
    set M' : List (Pc Ideal (S₂ 2048 128) .f32) := ⟨slot 0 (by decide) T, pePay R T 0 (old M T)⟩ :: M with hM'
    have e : peList R C old base (l ++ [T]) = ⟨slot 0 (by decide) T, pePay R T 1 (C.readCov M' (slot 0 (by decide) T).toLoadRect)⟩ :: M' := by
      simp only [hM', hM, peList, List.foldl_append, List.foldl_cons, List.foldl_nil]
    have hfree : ∀ t : ℕ, Tile.In T t → ∀ T' ∈ l, ¬ Tile.In T' t := fun t ht T' hT' h => by
      have := hd2 T' hT' T (by simp)
      unfold Tile.In at ht h
      omega
    have h0 := hold M T fun t c ht => (ih' t c).2 (hfree t ht)
    have h1 : Is (C.readCov M' (slot 0 (by decide) T).toLoadRect) fun r c =>
        O (T.k0 + r) c + if c / 16 % 4 = (2 * p + (0 : Fin 2).val) % 4 then dkR Q K V P D L Δ p 0 (T.k0 + r) (128 + c) else 0 := fun r c => by
      refine (read_at C _ r c (by omega) (by omega)).trans ?_
      exact (canon_hit _ _ _ _ r c rfl rfl).trans (pePay_at H T hT 0 h0 r c)
    rw [e]
    by_cases ht : Tile.In T t
    · refine ⟨fun _ => ?_, fun hn => absurd ht (hn T (by simp))⟩
      have ht1 : T.k0 + (t.val - T.k0) = t.val := by unfold Tile.In at ht; omega
      refine (canon_hit _ _ t c ⟨t.val - T.k0, by unfold Tile.In at ht; omega⟩ c ht1.symm (by simp)).trans ?_
      refine (pePay_at H T hT 1 h1 _ _).trans (congrArg _ ?_)
      simp only [ht1, peR, Fin.sum_univ_two, add_assoc]
    · have hmiss : View.canon (⟨slot 0 (by decide) T, pePay R T 1 (C.readCov M' (slot 0 (by decide) T).toLoadRect)⟩ :: M') (ix2 t c) = View.canon M (ix2 t c) :=
        (canon_miss _ _ t c fun h => ht h.1).trans (canon_miss _ _ t c fun h => ht h.1)
      refine ⟨fun ⟨T', hT', hin⟩ => hmiss.trans ((ih' t c).1 ?_), fun hn => hmiss.trans ((ih' t c).2 fun T' hT' => hn T' (by simp [hT']))⟩
      rcases List.mem_append.1 hT' with h | h
      · exact ⟨T', h, hin⟩
      · rw [List.mem_singleton.1 h] at hin; exact absurd hin ht

omit H in
theorem tiles_cover (t : Fin 2048) : ∃ T ∈ tiles, Tile.In T t := by
  have h8 : ∀ b : Fin 8, ∃ T ∈ tiles, T.k0 = 256 * b.val := by decide
  obtain ⟨T, hT, e⟩ := h8 ⟨t.val / 256, by omega⟩
  exact ⟨T, hT, by simp only at e; unfold Tile.In; omega⟩

theorem pe_at {old : List (Pc Ideal (S₂ 2048 128) .f32) → Tile → FVec Ideal (S₂ 256 128) .f32} {base : List (Pc Ideal (S₂ 2048 128) .f32)}
    {O : ℕ → ℕ → ℝ}
    (hold : ∀ (M : List (Pc Ideal (S₂ 2048 128) .f32)) (T : Tile), (∀ (t : Fin 2048) (c : Fin 128), Tile.In T t → View.canon M (ix2 t c) = View.canon base (ix2 t c)) →
      Is (old M T) fun r c => O (T.k0 + r) c) (t : Fin 2048) (c : Fin 128) :
    View.canon (peList R C old base tiles) (ix2 t c) = ((O t c + peR Q K V P D L Δ p t c : ℝ) : EReal) :=
  (peList_at H C hold tiles (fun _ h => h) (by simp [tiles]) t c).1 (tiles_cover t)

/-- From a cleared block. -/
theorem pe_zero (t : Fin 2048) (c : Fin 128) :
    View.canon (peList R C (fun M T => C.readCov M (slot 0 (by decide) T).toLoadRect) [zeros] tiles) (ix2 t c) = ((peR Q K V P D L Δ p t c : ℝ) : EReal) := by
  refine (pe_at H C (O := fun _ _ => 0) (fun M T hM r c => ?_) t c).trans (by rw [zero_add])
  have hk := T.hk
  refine (read_at C _ r c (by omega) (by omega)).trans ((hM _ _ ⟨by show T.k0 ≤ T.k0 + r.val; omega, by show T.k0 + r.val < T.k0 + 256; omega⟩).trans ?_)
  exact (canon_all _ _ _ _).trans (zero_at (a := 2048) (b := 128) _ _)

end Cert.Mla

end
-- ==== Proof.MlaRef.lean ====
module

public import proofs.«01_k».proof.Proof.Gen.MlaReferenceIdeal.Read
public import proofs.«01_k».proof.Proof.MlaMath

@[expose] public section
set_option maxRecDepth 16384

noncomputable section

namespace Cert.Mla

open Idealize.ShloMosaic Cert.MlaReferenceIdeal Cert.MlaReferenceIdeal.Read Reals Soft

/-- Arrays of reals read at numbers. -/
def QX (f : S4x8x2048x96.Idx → ℝ) (b h s e : ℕ) : ℝ := f (ix4 (Fin.ofNat 4 b) (Fin.ofNat 8 h) (Fin.ofNat 2048 s) (Fin.ofNat 96 e))
def NX (f : S4x8x2048x64.Idx → ℝ) (b h s e : ℕ) : ℝ := f (ix4 (Fin.ofNat 4 b) (Fin.ofNat 8 h) (Fin.ofNat 2048 s) (Fin.ofNat 64 e))
def PX (f : S4x1x2048x32.Idx → ℝ) (b s e : ℕ) : ℝ := f (ix4 (Fin.ofNat 4 b) 0 (Fin.ofNat 2048 s) (Fin.ofNat 32 e))
def DX (f : S4x2048x512.Idx → ℝ) (b s c : ℕ) : ℝ := f (ix3 (Fin.ofNat 4 b) (Fin.ofNat 2048 s) (Fin.ofNat 512 c))

theorem QX_eq (f : S4x8x2048x96.Idx → ℝ) (b : Fin 4) (h : Fin 8) (s : Fin 2048) (e : ℕ) (he : e < 96) : QX f b h s e = f (ix4 b h s ⟨e, he⟩) := by
  unfold QX
  congr 2 <;> exact Fin.ext (Nat.mod_eq_of_lt (by omega))
theorem NX_eq (f : S4x8x2048x64.Idx → ℝ) (b : Fin 4) (h : Fin 8) (s : Fin 2048) (e : ℕ) (he : e < 64) : NX f b h s e = f (ix4 b h s ⟨e, he⟩) := by
  unfold NX
  congr 2 <;> exact Fin.ext (Nat.mod_eq_of_lt (by omega))
theorem PX_eq (f : S4x1x2048x32.Idx → ℝ) (b : Fin 4) (s : Fin 2048) (e : ℕ) (he : e < 32) : PX f b s e = f (ix4 b 0 s ⟨e, he⟩) := by
  unfold PX
  congr 2 <;> exact Fin.ext (Nat.mod_eq_of_lt (by omega))
theorem DX_eq (f : S4x2048x512.Idx → ℝ) (b : Fin 4) (s : Fin 2048) (c : ℕ) (hc : c < 512) : DX f b s c = f (ix3 b s ⟨c, hc⟩) := by
  unfold DX
  congr 2 <;> exact Fin.ext (Nat.mod_eq_of_lt (by omega))

/-- The arrays among the extended reals. -/
abbrev up {s : Shape} (f : s.Idx → ℝ) : s.Idx → EReal := fun i => (f i : EReal)

variable (q : S4x8x2048x96.Idx → ℝ) (k : S4x8x2048x64.Idx → ℝ) (r : S4x1x2048x32.Idx → ℝ) (v : S4x8x2048x64.Idx → ℝ) (d : S4x2048x512.Idx → ℝ)

/-- The key of a head: its own part, then the shared rotary part. -/
def key (b h t e : ℕ) : ℝ := if e < 64 then NX k b h t e else PX r b t (e - 64)
/-- The logit. -/
def lg (b h i t : ℕ) : ℝ := (∑ e : Fin 96, QX q b h i e * key k r b h t e) * sc
/-- The gradient at the weight. -/
def dP (b h i t : ℕ) : ℝ := ∑ e : Fin 64, DX d b i (64 * h + e) * NX v b h t e

theorem v2_at (b : Fin 4) (h : Fin 8) (t : Fin 2048) (e : Fin 96) : val_main_v2 (F := Ideal) (up k) (up r) (ix4 b h t e) = ((key k r b h t e : ℝ) : EReal) := by
  pointwise [val_main_v2, val_main_v1, val_main_v0]
  unfold key
  split_ifs with h1 h2
  · rw [NX_eq _ _ _ _ _ h1]
  all_goals rw [PX_eq _ _ _ _ (by omega)]

theorem do_at (b : Fin 4) (h : Fin 8) (i : Fin 2048) (e : Fin 64) : val_main_v46 (F := Ideal) (up d) (ix4 b h i e) = ((DX d b i (64 * h + e) : ℝ) : EReal) := by
  pointwise [val_main_v46, val_main_v45]
  rw [DX_eq _ _ _ _ (by omega)]
  congr 3
  exact Nat.add_right_cancel_iff.2 (Nat.mul_comm _ _)

theorem v5_at (b : Fin 4) (h : Fin 8) (i t : Fin 2048) : val_main_v5 (F := Ideal) (up q) (up k) (up r) (ix4 b h i t) = ((lg q k r b h i t : ℝ) : EReal) := by
  have h1 := v2_at k r
  unfold val_main_v5 val_main_v3 val_main_v4
  generalize val_main_v2 (F := Ideal) (up k) (up r) = y at h1 ⊢
  pointwise [val_main_cst]
  have h2 : ∀ e : Fin 96, up q (ix4 b h i e) = ((QX q b h i e : ℝ) : EReal) := fun e => congrArg Real.toEReal (QX_eq q b h i e e.isLt).symm
  simp only [h1, h2, ← EReal.coe_mul, coe_sum, sc_eq, lg]

theorem v13_at (b : Fin 4) (h : Fin 8) (i t : Fin 2048) :
    val_main_v13_0 (F := Ideal) (up q) (up k) (up r) (ix4 b h i t) = if t.val ≤ i.val then ((lg q k r b h i t : ℝ) : EReal) else ⊥ := by
  have h1 := v5_at q k r
  unfold val_main_v13_0 val_main_call0_v2 val_main_v13_1 val_main_v12 val_main_v11 val_main_v10 val_main_v9 val_main_v8 val_main_v7 val_main_v6
  generalize val_main_v5 (F := Ideal) (up q) (up k) (up r) = y at h1 ⊢
  pointwise [val_main_cst_0, val_main_call0_v0]
  rw [h1]
  show (if BitVec.ofBool ((BitVec.ofNat 32 t.val).sle (BitVec.ofNat 32 i.val)) = 1 then _ else Ideal.ofBits .f32 0xFF800000#32) = _
  rw [sle_nat _ _ (by omega) (by omega), Soft.bot]
  by_cases hti : t.val ≤ i.val <;> simp [hti]

theorem v14_real (b : Fin 4) (h : Fin 8) (i : Fin 2048) : ∃ x : ℝ, val_main_v14 (F := Ideal) (up q) (up k) (up r) (ix3 b h i) = (x : EReal) := by
  have h1 := v13_at q k r
  unfold val_main_v14
  generalize val_main_v13_0 (F := Ideal) (up q) (up k) (up r) = y at h1 ⊢
  refine reduce_max y _ _ _ _ (fun j => ?_) ?_ (ix4 b h i i) ?_ ⟨_, (h1 b h i i).trans (if_pos le_rfl)⟩
  · idx_vars j
    rw [h1]
    split_ifs
    · exact .inr ⟨_, rfl⟩
    · exact .inl rfl
  · exact Soft.bot
  · funext a
    match a with
    | ⟨0, _⟩ => rfl
    | ⟨1, _⟩ => rfl
    | ⟨2, _⟩ => rfl

/-- The row's shift: its greatest logit. -/
def M (b h i : ℕ) : ℝ := Classical.choose (v14_real q k r (Fin.ofNat 4 b) (Fin.ofNat 8 h) (Fin.ofNat 2048 i))

theorem v14_at (b : Fin 4) (h : Fin 8) (i : Fin 2048) : val_main_v14 (F := Ideal) (up q) (up k) (up r) (ix3 b h i) = ((M q k r b h i : ℝ) : EReal) := by
  have e1 : Fin.ofNat 4 b.val = b := Fin.ext (Nat.mod_eq_of_lt b.isLt)
  have e2 : Fin.ofNat 8 h.val = h := Fin.ext (Nat.mod_eq_of_lt h.isLt)
  have e3 : Fin.ofNat 2048 i.val = i := Fin.ext (Nat.mod_eq_of_lt i.isLt)
  have hM := Classical.choose_spec (v14_real q k r (Fin.ofNat 4 b) (Fin.ofNat 8 h) (Fin.ofNat 2048 i))
  unfold M
  rw [← hM, e1, e2, e3]

theorem max_row (y : FVec Ideal S4x8x2048 .f32) (b : Fin 4) (h : Fin 8) (i : Fin 2048) :
    maximumf (val_main_v20 (F := Ideal)) y (ix3 b h i) = y (ix3 b h i) := by
  pointwise [val_main_v20, val_main_cst_3]
  exact Soft.max_bot _

theorem v21_at (b : Fin 4) (h : Fin 8) (i : Fin 2048) : val_main_v21 (F := Ideal) (up q) (up k) (up r) (ix3 b h i) = ((M q k r b h i : ℝ) : EReal) := by
  have h1 := v14_at q k r b h i
  unfold val_main_v21
  generalize val_main_v14 (F := Ideal) (up q) (up k) (up r) = z at h1 ⊢
  exact (max_row z b h i).trans h1

theorem v34_at (b : Fin 4) (h : Fin 8) (i t : Fin 2048) :
    val_main_v34 (F := Ideal) (up q) (up k) (up r) (ix4 b h i t) = ((ex (lg q k r b h) (M q k r b h) i t : ℝ) : EReal) := by
  have h1 := v13_at q k r
  have h2 := v21_at q k r
  unfold val_main_v34 val_main_v33 val_main_v32 val_main_v31
  generalize val_main_v13_0 (F := Ideal) (up q) (up k) (up r) = y at h1 ⊢
  generalize val_main_v21 (F := Ideal) (up q) (up k) (up r) = z at h2 ⊢
  pointwise
  rw [h1, h2]
  unfold ex
  split_ifs
  · rw [← EReal.coe_sub, Ideal.exp_coe]
  · show Ideal.exp (⊥ - ((M q k r b h i : ℝ) : EReal)) = _
    rw [EReal.bot_sub]
    simp

theorem v35_at (b : Fin 4) (h : Fin 8) (i : Fin 2048) :
    val_main_v35 (F := Ideal) (up q) (up k) (up r) (ix3 b h i) = ((Z (lg q k r b h) (M q k r b h) i : ℝ) : EReal) := by
  have h1 := v34_at q k r
  unfold val_main_v35 val_main_cst_9
  generalize val_main_v34 (F := Ideal) (up q) (up k) (up r) = y at h1 ⊢
  pointwise
  simp only [h1, coe_sum, Z]

theorem v38_at (b : Fin 4) (h : Fin 8) (i t : Fin 2048) :
    val_main_v38 (F := Ideal) (up q) (up k) (up r) (ix4 b h i t) = ((pr (lg q k r b h) (M q k r b h) i t : ℝ) : EReal) := by
  have h1 := v34_at q k r
  have h2 := v35_at q k r
  unfold val_main_v38 val_main_v37 val_main_v36
  generalize val_main_v34 (F := Ideal) (up q) (up k) (up r) = y at h1 ⊢
  generalize val_main_v35 (F := Ideal) (up q) (up k) (up r) = z at h2 ⊢
  pointwise
  rw [h1, h2, Soft.div_coe _ _ (Z_pos _ _ _).ne', pr]

theorem v49_at (b : Fin 4) (h : Fin 8) (i t : Fin 2048) : val_main_v49 (F := Ideal) (up v) (up d) (ix4 b h i t) = ((dP v d b h i t : ℝ) : EReal) := by
  have h1 := do_at d
  unfold val_main_v49
  generalize val_main_v46 (F := Ideal) (up d) = y at h1 ⊢
  pointwise
  have h2 : ∀ e : Fin 64, up v (ix4 b h t e) = ((NX v b h t e : ℝ) : EReal) := fun e => congrArg Real.toEReal (NX_eq v b h t e e.isLt).symm
  simp only [h1, h2, ← EReal.coe_mul, coe_sum, dP]

theorem v62_at (b : Fin 4) (h : Fin 8) (i t : Fin 2048) :
    val_main_v62 (F := Ideal) (up q) (up k) (up r) (up v) (up d) (ix4 b h i t)
      = ((gs (lg q k r b h) (M q k r b h) (dP v d b h) i t : ℝ) : EReal) := by
  have h1 := v34_at q k r
  have h2 := v35_at q k r
  have h3 := v49_at v d
  unfold val_main_v62 val_main_v61 val_main_v60 val_main_v59 val_main_v58 val_main_v57 val_main_v56 val_main_v55 val_main_v54 val_main_v53 val_main_v52
    val_main_v51 val_main_v50 val_main_v41 val_main_v40 val_main_v39 val_main_v36 val_main_cst_10 val_main_cst_11 val_main_cst_12 val_main_v13_1 val_main_v12
    val_main_v11 val_main_v10 val_main_v9 val_main_v8 val_main_v7 val_main_v6
  generalize val_main_v34 (F := Ideal) (up q) (up k) (up r) = y at h1 ⊢
  generalize val_main_v35 (F := Ideal) (up q) (up k) (up r) = z at h2 ⊢
  generalize val_main_v49 (F := Ideal) (up v) (up d) = w at h3 ⊢
  pointwise
  show (if BitVec.ofBool ((BitVec.ofNat 32 t.val).sle (BitVec.ofNat 32 i.val)) = 1 then _ else Ideal.ofBits .f32 0x00000000#32) = _
  rw [sle_nat _ _ (by omega) (by omega)]
  by_cases hti : t.val ≤ i.val
  · rw [decide_eq_true hti]
    have hz := (Z_pos (lg q k r b h) (M q k r b h) i).ne'
    have e1 : (1 : EReal) = ((1 : ℝ) : EReal) := rfl
    simp only [h1, h2, h3]
    rw [e1]
    simp only [← EReal.coe_mul, Soft.div_coe _ _ hz, Soft.div_coe _ _ (mul_ne_zero hz hz), coe_sum, ← EReal.coe_neg, ← EReal.coe_add, Fin.sum_univ_one]
    rw [gs_eq]
    rfl
  · have e : gs (lg q k r b h) (M q k r b h) (dP v d b h) i t = 0 := by rw [gs, pr, ex, if_neg hti, zero_div, zero_mul]
    rw [decide_eq_false hti, e]
    simp [Ideal.ofBits, Ideal.ieee]

/-! ## The gradients -/

/-- The gradient at the product of query and key, by batch and head. -/
abbrev gl (b h i t : ℕ) : ℝ := gs (lg q k r b h) (M q k r b h) (dP v d b h) i t * sc

def rq (b h i e : ℕ) : ℝ := ∑ t : Fin 2048, gl q k r v d b h i t * key k r b h t e
def rk (b h t e : ℕ) : ℝ := ∑ i : Fin 2048, gl q k r v d b h i t * QX q b h i e
def rv (b h t e : ℕ) : ℝ := ∑ i : Fin 2048, DX d b i (64 * h + e) * pr (lg q k r b h) (M q k r b h) i t

theorem v48_at (b : Fin 4) (h : Fin 8) (t : Fin 2048) (e : Fin 64) :
    val_main_v48 (F := Ideal) (up q) (up k) (up r) (up d) (ix4 b h t e) = ((rv q k r d b h t e : ℝ) : EReal) := by
  have h1 := v38_at q k r
  have h2 := do_at d
  unfold val_main_v48 val_main_v47
  generalize val_main_v38 (F := Ideal) (up q) (up k) (up r) = y at h1 ⊢
  generalize val_main_v46 (F := Ideal) (up d) = z at h2 ⊢
  pointwise
  simp only [h1, h2, ← EReal.coe_mul, coe_sum, rv]

theorem v64_at (b : Fin 4) (h : Fin 8) (i t : Fin 2048) :
    val_main_v64 (F := Ideal) (up q) (up k) (up r) (up v) (up d) (ix4 b h i t) = ((gl q k r v d b h i t : ℝ) : EReal) := by
  have h1 := v62_at q k r v d
  unfold val_main_v64 val_main_v63
  generalize val_main_v62 (F := Ideal) (up q) (up k) (up r) (up v) (up d) = y at h1 ⊢
  pointwise [val_main_cst_13]
  simp only [h1, sc_eq, ← EReal.coe_mul]

theorem v65_at (b : Fin 4) (h : Fin 8) (t : Fin 2048) (e : Fin 96) :
    val_main_v65 (F := Ideal) (up q) (up k) (up r) (up v) (up d) (ix4 b h t e) = ((rk q k r v d b h t e : ℝ) : EReal) := by
  have h1 := v64_at q k r v d
  unfold val_main_v65
  generalize val_main_v64 (F := Ideal) (up q) (up k) (up r) (up v) (up d) = y at h1 ⊢
  pointwise
  have h2 : ∀ i : Fin 2048, up q (ix4 b h i e) = ((QX q b h i e : ℝ) : EReal) := fun i => congrArg Real.toEReal (QX_eq q b h i e e.isLt).symm
  simp only [h1, h2, ← EReal.coe_mul, coe_sum, rk]

theorem v66_at (b : Fin 4) (h : Fin 8) (i : Fin 2048) (e : Fin 96) :
    val_main_v66 (F := Ideal) (up q) (up k) (up r) (up v) (up d) (ix4 b h i e) = ((rq q k r v d b h i e : ℝ) : EReal) := by
  have h1 := v64_at q k r v d
  have h2 := v2_at k r
  unfold val_main_v66
  generalize val_main_v64 (F := Ideal) (up q) (up k) (up r) (up v) (up d) = y at h1 ⊢
  generalize val_main_v2 (F := Ideal) (up k) (up r) = z at h2 ⊢
  pointwise
  simp only [h1, h2, ← EReal.coe_mul, coe_sum, rq]

theorem v91_at (b : Fin 4) (i : Fin 2048) (h : Fin 8) (e : Fin 64) :
    val_main_v91 (F := Ideal) (up q) (up k) (up r) (up v) (up d) (ix2 ⟨2048 * b + i, by omega⟩ ⟨64 * h + e, by omega⟩) = ((rq q k r v d b h i e : ℝ) : EReal) := by
  have h1 := v66_at q k r v d
  unfold val_main_v91 val_main_v90 val_main_v89 val_main_v88 val_main_v87
  generalize val_main_v66 (F := Ideal) (up q) (up k) (up r) (up v) (up d) = y at h1 ⊢
  pointwise
  rw [h1]

theorem v92_at (b : Fin 4) (i : Fin 2048) (p : Fin 4) (j : Fin 2) (h : Fin 2) (e : Fin 64) :
    val_main_v92 (F := Ideal) (up q) (up k) (up r) (up v) (up d) (ix2 ⟨2048 * b + i, by omega⟩ ⟨256 * p + 128 * j + 64 * h + e, by omega⟩)
      = (((match j with | 0 => rk q k r v d | 1 => rv q k r d) b (2 * p + h) i e : ℝ) : EReal) := by
  have h1 := v65_at q k r v d
  have h3 := v48_at q k r d
  unfold val_main_v92 val_main_v79 val_main_v78 val_main_v77 val_main_v76 val_main_v75 val_main_v74 val_main_v73 val_main_v72 val_main_v67
  generalize val_main_v65 (F := Ideal) (up q) (up k) (up r) (up v) (up d) = y at h1 ⊢
  generalize val_main_v48 (F := Ideal) (up q) (up k) (up r) (up d) = w at h3 ⊢
  fin_cases j
  · pointwise
    rw [dif_pos (by omega), h1]
    refine congrArg (fun n : ℕ => ((rk q k r v d b n i e : ℝ) : EReal)) ?_
    show p.val * 2 + _ = _
    omega
  · pointwise
    rw [dif_neg (by omega), h3]
    refine congrArg (fun n : ℕ => ((rv q k r d b n i e : ℝ) : EReal)) ?_
    show p.val * 2 + _ = _
    omega

theorem v83_at (b : Fin 4) (i : Fin 2048) (g : Fin 2) (f : Fin 2) (u : Fin 4) (e : Fin 16) :
    val_main_v83 (F := Ideal) (up q) (up k) (up r) (up v) (up d) (ix2 ⟨2048 * b + i, by omega⟩ ⟨128 * g + 64 * f + 16 * u + e, by omega⟩)
      = ((rq q k r v d b (4 * g + u) i (64 + 16 * f + e) : ℝ) : EReal) := by
  have h1 := v66_at q k r v d
  unfold val_main_v83 val_main_v82 val_main_v81 val_main_v80
  generalize val_main_v66 (F := Ideal) (up q) (up k) (up r) (up v) (up d) = y at h1 ⊢
  pointwise
  rw [h1]
  have e1 : g.val * 4 + u.val = 4 * g.val + u.val := by omega
  have e2 : 64 + (f.val * 16 + e.val) = 64 + 16 * f.val + e.val := by omega
  simp only [e1, e2]

theorem v86_at (b : Fin 4) (i : Fin 2048) (f : Fin 2) (u : Fin 4) (e : Fin 16) :
    val_main_v86 (F := Ideal) (up q) (up k) (up r) (up v) (up d) (ix2 ⟨2048 * b + i, by omega⟩ ⟨64 * f + 16 * u + e, by omega⟩)
      = ((rk q k r v d b u i (64 + 16 * f + e) + rk q k r v d b (4 + u) i (64 + 16 * f + e) : ℝ) : EReal) := by
  have h1 := v65_at q k r v d
  unfold val_main_v86 val_main_v85 val_main_v84 val_main_v71 val_main_v70 val_main_v69 val_main_v68
  generalize val_main_v65 (F := Ideal) (up q) (up k) (up r) (up v) (up d) = y at h1 ⊢
  pointwise
  rw [h1, h1]
  have e2 : 64 + (f.val * 16 + e.val) = 64 + 16 * f.val + e.val := by omega
  simp only [e2, ← EReal.coe_add]

end Cert.Mla
-- ==== Proof.MlaHost.lean ====
module

public import proofs.«01_k».proof.Proof.MlaRef
public import proofs.«01_k».proof.Proof.Gen.MlaKernelIdeal.Value
public import Idealize.ShloMosaic.Lib.StableHlo.RunRead

/-! The arrays the host prepares for the latent attention's backward, and what they hold on arrays of reals. -/

@[expose] public section
set_option maxRecDepth 16384

noncomputable section

namespace Cert.Mla

open Idealize.ShloMosaic Idealize.ShloMosaic.TcCoe Idealize.SL.Sem
open Cert.MlaKernelIdeal Cert.MlaKernelIdeal.Gen Cert.MlaKernelIdeal.Value Reals Soft
open Cert.MlaReferenceIdeal.Read (val_main_v2 val_main_v13_0 val_main_v13_1 val_main_call0_v2 val_main_v14 val_main_v20 val_main_v38 val_main_v46 val_main_v4)

section
variable {F : FTy → Type} [FloatOps F] [Named F] (m : (ℓ : Loc nD τ sig) → Buf (Elt F) ℓ) (c : Dev nD)

/-- The keys of all heads: their own parts, and the shared rotary part repeated. -/
def keys (x1 : FVec F S4x8x2048x64 .f32) (x2 : FVec F S4x1x2048x32 .f32) : FVec F S4x8x2048x96 .f32 :=
  concatenate S4x8x2048x96 3 [⟨S4x8x2048x64, x1⟩, ⟨S4x8x2048x32, broadcastInDim S4x8x2048x32 ![0, 1, 2, 3] bcast_S4x1x2048x32_S4x8x2048x32_0_1_2_3 x2⟩]
    concatenates_S4x8x2048x64_S4x8x2048x32_S4x8x2048x96_d3

/-- The masked logits of queries and keys. -/
def masked (x y : FVec F S4x8x2048x96 .f32) : FVec F S4x8x2048x2048 .f32 :=
  select (val_main_v13_1 (F := F)) (mulf (Host.dotGeneral dot_S4x8x2048x96_S4x8x2048x96_S4x8x2048x2048_3_3_2_2_01_01 none x y) (val_main_v4 (F := F))) (val_main_call0_v2 (F := F))

/-- The rows' greatest logits. -/
def top (y : FVec F S4x8x2048x2048 .f32) : FVec F S4x8x2048 .f32 :=
  Host.reduce FloatOps.maximumf y (constant S_ .f32 0xFF800000#32) reducesTo_S4x8x2048x2048_S4x8x2048_d3 h_S_

/-- The exponentials of the logits less their rows' shifts. -/
def expOf (y : FVec F S4x8x2048x2048 .f32) (z : FVec F S4x8x2048 .f32) : FVec F S4x8x2048x2048 .f32 :=
  Host.exp (subf y (broadcastInDim S4x8x2048x2048 ![0, 1, 2, 3] bcast_S4x8x2048x1_S4x8x2048x2048_0_1_2_3
    (broadcastInDim S4x8x2048x1 ![0, 1, 2] bcast_S4x8x2048_S4x8x2048x1_0_1_2 z)))

/-- The rows' sums. -/
def sumOf (y : FVec F S4x8x2048x2048 .f32) : FVec F S4x8x2048 .f32 :=
  Host.reduceAdd y (constant S_ .f32 0x00000000#32) reducesTo_S4x8x2048x2048_S4x8x2048_d3 h_S_

/-- The weights. -/
def probs (y : FVec F S4x8x2048x2048 .f32) : FVec F S4x8x2048x2048 .f32 :=
  Host.divf (expOf y (maximumf (val_main_v20 (F := F)) (top y)))
    (broadcastInDim S4x8x2048x2048 ![0, 1, 2, 3] bcast_S4x8x2048x1_S4x8x2048x2048_0_1_2_3
      (broadcastInDim S4x8x2048x1 ![0, 1, 2] bcast_S4x8x2048_S4x8x2048x1_0_1_2 (sumOf (expOf y (maximumf (val_main_v20 (F := F)) (top y))))))

/-- The logarithm of the rows' sums. -/
def lseOf (y : FVec F S4x8x2048x2048 .f32) (z : FVec F S4x8x2048 .f32) : FVec F S4x8x2048 .f32 := addf z (Host.log (sumOf (expOf y z)))

/-- The rows' products of the output and its gradient, summed over the lanes. -/
def deltaOf (p : FVec F S4x8x2048x2048 .f32) (v d : FVec F S4x8x2048x64 .f32) : FVec F S4x8x2048 .f32 :=
  Host.reduceAdd (mulf d (Host.dotGeneral dot_S4x8x2048x2048_S4x8x2048x64_S4x8x2048x64_3_2_2_3_01_01 none p v)) (constant S_ .f32 0x00000000#32)
    reducesTo_S4x8x2048x64_S4x8x2048_d3 h_S_

/-- The queries' rows: the heads' own lanes, then the rotary lanes by groups of four heads. -/
def qAll (x : FVec F S4x8x2048x96 .f32) : FVec F S8192x768 .bf16 :=
  truncf .bf16 (concatenate S8192x768 1
    [⟨S8192x512, shapeCast S8192x512 (shapeCast S4x2048x512 (transpose S4x2048x8x64 [0, 2, 1, 3]
      (extractStridedSlice S4x8x2048x64 ![0, 0, 0, 0] x slices_S4x8x2048x96_S4x8x2048x64_0_0_0_0) transposes_S4x8x2048x64_S4x2048x8x64_0_2_1_3)
      shapeCasts_S4x2048x8x64_S4x2048x512) shapeCasts_S4x2048x512_S8192x512⟩,
     ⟨S8192x256, shapeCast S8192x256 (transpose S4x2048x2x2x4x16 [0, 3, 1, 4, 2, 5] (shapeCast S4x2x4x2048x2x16
      (extractStridedSlice S4x8x2048x32 ![0, 0, 0, 64] x slices_S4x8x2048x96_S4x8x2048x32_0_0_0_64) shapeCasts_S4x8x2048x32_S4x2x4x2048x2x16)
      transposes_S4x2x4x2048x2x16_S4x2048x2x2x4x16_0_3_1_4_2_5) shapeCasts_S4x2048x2x2x4x16_S8192x256⟩]
    concatenates_S8192x512_S8192x256_S8192x768_d1) bitsLt_bf16_f32

/-- One of keys and values by pairs of heads. -/
def byPair (x : FVec F S4x8x2048x64 .f32) : FVec F S8192x4x1x128 .f32 :=
  shapeCast S8192x4x1x128 (shapeCast S4x2048x512 (transpose S4x2048x8x64 [0, 2, 1, 3] x transposes_S4x8x2048x64_S4x2048x8x64_0_2_1_3)
    shapeCasts_S4x2048x8x64_S4x2048x512) shapeCasts_S4x2048x512_S8192x4x1x128

/-- The rows of keys and values. -/
def kvAll (x y : FVec F S4x8x2048x64 .f32) : FVec F S8192x1024 .bf16 :=
  truncf .bf16 (shapeCast S8192x1024 (concatenate S8192x4x2x128 2 [⟨S8192x4x1x128, byPair x⟩, ⟨S8192x4x1x128, byPair y⟩]
    concatenates_S8192x4x1x128_S8192x4x1x128_S8192x4x2x128_d2) shapeCasts_S8192x4x2x128_S8192x1024) bitsLt_bf16_f32

/-- The rotary keys' rows, repeated for four heads. -/
def peAll (x : FVec F S4x1x2048x32 .f32) : FVec F S8192x128 .bf16 :=
  truncf .bf16 (shapeCast S8192x128 (broadcastInDim S8192x2x4x16 ![0, 1, 2, 3] bcast_S8192x2x1x16_S8192x2x4x16_0_1_2_3
    (shapeCast S8192x2x1x16 x shapeCasts_S4x1x2048x32_S8192x2x1x16)) shapeCasts_S8192x2x4x16_S8192x128) bitsLt_bf16_f32

def rows (x : FVec F S4x2048x512 .f32) : FVec F S8192x512 .bf16 := truncf .bf16 (shapeCast S8192x512 x shapeCasts_S4x2048x512_S8192x512) bitsLt_bf16_f32
def heads32 (x : FVec F S4x8x2048 .f32) : FVec F S32x1x2048 .f32 := shapeCast S32x1x2048 x shapeCasts_S4x8x2048_S32x1x2048

/-- The arguments. -/
abbrev a0 : FVec F S4x8x2048x96 .f32 := m ((c : Thread nD τ).loc main_arg0)
abbrev a1 : FVec F S4x8x2048x64 .f32 := m ((c : Thread nD τ).loc main_arg1)
abbrev a2 : FVec F S4x1x2048x32 .f32 := m ((c : Thread nD τ).loc main_arg2)
abbrev a3 : FVec F S4x8x2048x64 .f32 := m ((c : Thread nD τ).loc main_arg3)
abbrev a4 : FVec F S4x2048x512 .f32 := m ((c : Thread nD τ).loc main_arg4)

theorem entry57 : V m c main_v57 = qAll (a0 m c) := by
  unfold V
  after_reads_simp
  sl_kernel_rfl
theorem entry66 : V m c main_v66 = kvAll (a1 m c) (a3 m c) := by
  unfold V
  after_reads_simp
  sl_kernel_rfl
theorem entry70 : V m c main_v70 = peAll (a2 m c) := by
  unfold V
  after_reads_simp
  sl_kernel_rfl
theorem entry72 : V m c main_v72 = rows (a4 m c) := by
  unfold V
  after_reads_simp
  sl_kernel_rfl
theorem entry73 : V m c main_v73 = heads32 (lseOf (masked (a0 m c) (keys (a1 m c) (a2 m c))) (top (masked (a0 m c) (keys (a1 m c) (a2 m c))))) := by
  unfold V
  after_reads_simp
  sl_kernel_rfl
theorem entry74 : V m c main_v74 = heads32 (deltaOf (probs (masked (a0 m c) (keys (a1 m c) (a2 m c)))) (a3 m c) (val_main_v46 (a4 m c))) := by
  unfold V
  after_reads_simp
  sl_kernel_rfl
theorem masked_eq (x0 : FVec F S4x8x2048x96 .f32) (x1 x2) : masked x0 (val_main_v2 (F := F) x1 x2) = val_main_v13_0 x0 x1 x2 := by sl_kernel_rfl
theorem top_eq (x0 : FVec F S4x8x2048x96 .f32) (x1 x2) : top (val_main_v13_0 (F := F) x0 x1 x2) = val_main_v14 x0 x1 x2 := by sl_kernel_rfl
theorem probs_eq (x0 : FVec F S4x8x2048x96 .f32) (x1 x2) : probs (val_main_v13_0 (F := F) x0 x1 x2) = val_main_v38 x0 x1 x2 := by sl_kernel_rfl
end

section
variable (q : S4x8x2048x96.Idx → ℝ) (k : S4x8x2048x64.Idx → ℝ) (r : S4x1x2048x32.Idx → ℝ) (v : S4x8x2048x64.Idx → ℝ) (d : S4x2048x512.Idx → ℝ)

/-- The repeated rotary part is the four copies' concatenation. -/
theorem keys_eq (x : FVec Ideal S4x8x2048x64 .f32) (y : FVec Ideal S4x1x2048x32 .f32) : keys x y = val_main_v2 (F := Ideal) x y := by
  funext i
  idx_vars i
  pointwise [keys, val_main_v2, Cert.MlaReferenceIdeal.Read.val_main_v1, Cert.MlaReferenceIdeal.Read.val_main_v0]
  split_ifs <;> first | rfl | simp

theorem sum_at (b : Fin 4) (h : Fin 8) (i : Fin 2048) :
    sumOf (F := Ideal) (expOf (F := Ideal) (val_main_v13_0 (F := Ideal) (up q) (up k) (up r)) (val_main_v14 (F := Ideal) (up q) (up k) (up r))) (ix3 b h i)
      = ((Z (lg q k r b h) (M q k r b h) i : ℝ) : EReal) := by
  have h1 := v13_at q k r
  have h2 := v14_at q k r
  generalize val_main_v13_0 (F := Ideal) (up q) (up k) (up r) = y at h1 ⊢
  generalize val_main_v14 (F := Ideal) (up q) (up k) (up r) = z at h2 ⊢
  pointwise [sumOf, expOf]
  simp only [h1, h2]
  have e : ∀ t : Fin 2048, Ideal.exp ((if t.val ≤ i.val then ((lg q k r b h i t : ℝ) : EReal) else ⊥) - ((M q k r b h i : ℝ) : EReal))
      = ((ex (lg q k r b h) (M q k r b h) i t : ℝ) : EReal) := fun t => by
    unfold ex
    split_ifs
    · rw [← EReal.coe_sub, Ideal.exp_coe]
    · rw [EReal.bot_sub]
      simp
  simp only [e, coe_sum, Z]

/-- The row's logarithm of its sum. -/
def lse (b h i : ℕ) : ℝ := M q k r b h i + Real.log (Z (lg q k r b h) (M q k r b h) i)

theorem lse_row (y : FVec Ideal S4x8x2048x2048 .f32) (z : FVec Ideal S4x8x2048 .f32) (i : S4x8x2048.Idx) (x s : ℝ) (hz : z i = (x : EReal))
    (hw : sumOf (expOf y z) i = (s : EReal)) (hs : 0 < s) : lseOf y z i = ((x + Real.log s : ℝ) : EReal) := by
  show z i + Ideal.log (sumOf (expOf y z) i) = _
  rw [hz, hw, Ideal.log_coe, if_neg (not_le.2 hs), ← EReal.coe_add]

theorem lse_at (b : Fin 4) (h : Fin 8) (i : Fin 2048) :
    lseOf (F := Ideal) (masked (F := Ideal) (up q) (keys (F := Ideal) (up k) (up r))) (top (F := Ideal) (masked (F := Ideal) (up q) (keys (F := Ideal) (up k) (up r)))) (ix3 b h i)
      = ((lse q k r b h i : ℝ) : EReal) := by
  rw [keys_eq, masked_eq, top_eq]
  exact lse_row _ _ _ _ _ (v14_at q k r b h i) (sum_at q k r b h i) (Z_pos _ _ _)

theorem delta_row (y : FVec Ideal S4x8x2048x2048 .f32) (z : FVec Ideal S4x8x2048x64 .f32) (b : Fin 4) (h : Fin 8) (i : Fin 2048) (f : ℕ → ℕ → ℝ)
    (h1 : ∀ t : Fin 2048, y (ix4 b h i t) = ((f i t : ℝ) : EReal)) (h2 : ∀ e : Fin 64, z (ix4 b h i e) = ((DX d b i (64 * h + e) : ℝ) : EReal)) :
    deltaOf (F := Ideal) y (up v) z (ix3 b h i) = ((∑ t : Fin 2048, f i t * dP v d b h i t : ℝ) : EReal) := by
  pointwise [deltaOf]
  have h3 : ∀ (t : Fin 2048) (e : Fin 64), up v (ix4 b h t e) = ((NX v b h t e : ℝ) : EReal) := fun t e => congrArg Real.toEReal (NX_eq v b h t e e.isLt).symm
  simp only [h1, h2, h3, ← EReal.coe_mul, coe_sum]
  refine congrArg Real.toEReal ?_
  simp only [dP, Finset.mul_sum]
  rw [Finset.sum_comm]
  exact Finset.sum_congr rfl fun t _ => Finset.sum_congr rfl fun e _ => by ring

theorem delta_at (b : Fin 4) (h : Fin 8) (i : Fin 2048) :
    deltaOf (F := Ideal) (probs (F := Ideal) (masked (F := Ideal) (up q) (keys (F := Ideal) (up k) (up r)))) (up v) (val_main_v46 (F := Ideal) (up d)) (ix3 b h i)
      = ((dl (lg q k r b h) (M q k r b h) (dP v d b h) i : ℝ) : EReal) := by
  rw [keys_eq, masked_eq, probs_eq]
  exact delta_row v d _ _ b h i _ (v38_at q k r b h i) (do_at d b h i)

theorem heads32_at (x : FVec Ideal S4x8x2048 .f32) (f : ℕ → ℕ → ℕ → ℝ) (hx : ∀ (b : Fin 4) (h : Fin 8) (i : Fin 2048), x (ix3 b h i) = ((f b h i : ℝ) : EReal))
    (g : Fin 32) (i : Fin 2048) : heads32 x (ix3 g 0 i) = ((f (g / 8) (g % 8) i : ℝ) : EReal) := by
  pointwise [heads32]
  exact hx _ _ _

theorem rows_at (t : Fin 8192) (l : Fin 512) : rows (F := Ideal) (up d) (ix2 t l) = ((DX d (t / 2048) (t % 2048) l : ℝ) : EReal) := by
  pointwise [rows]
  exact congrArg Real.toEReal (DX_eq d ⟨t / 2048, by omega⟩ ⟨t % 2048, by omega⟩ l l.isLt).symm

theorem q_nope (t : Fin 8192) (l : Fin 512) : qAll (F := Ideal) (up q) (ix2 t ⟨l, by omega⟩) = ((QX q (t / 2048) (l / 64) (t % 2048) (l % 64) : ℝ) : EReal) := by
  pointwise [qAll]
  exact congrArg Real.toEReal (QX_eq q ⟨t / 2048, by omega⟩ ⟨l / 64, by omega⟩ ⟨t % 2048, by omega⟩ (l % 64) (by omega)).symm

theorem q_rope (t : Fin 8192) (l : Fin 256) : qAll (F := Ideal) (up q) (ix2 t ⟨512 + l, by omega⟩)
    = ((QX q (t / 2048) (l / 128 * 4 + l / 16 % 4) (t % 2048) (64 + (l / 64 % 2 * 16 + l % 16)) : ℝ) : EReal) := by
  pointwise [qAll]
  exact congrArg Real.toEReal (QX_eq q ⟨t / 2048, by omega⟩ ⟨l / 128 * 4 + l / 16 % 4, by omega⟩ ⟨t % 2048, by omega⟩
    (64 + (l / 64 % 2 * 16 + l % 16)) (by omega)).symm

theorem kv_at (t : Fin 8192) (p : Fin 4) (j : Fin 2) (l : Fin 128) :
    kvAll (F := Ideal) (up k) (up v) (ix2 t ⟨256 * p + 128 * j + l, by omega⟩)
      = ((NX (if j.val = 0 then k else v) (t / 2048) (2 * p + l / 64) (t % 2048) (l % 64) : ℝ) : EReal) := by
  have e : ∀ f : S4x8x2048x64.Idx → ℝ, f (ix4 ⟨t / 2048, by omega⟩ ⟨p * 2 + l / 64, by omega⟩ ⟨t % 2048, by omega⟩ ⟨l % 64, by omega⟩)
      = NX f (t / 2048) (2 * p + l / 64) (t % 2048) (l % 64) := fun f => by
    rw [mul_comm 2]
    exact (NX_eq f ⟨t / 2048, by omega⟩ ⟨p * 2 + l / 64, by omega⟩ ⟨t % 2048, by omega⟩ (l % 64) (by omega)).symm
  fin_cases j
  · pointwise [kvAll, byPair]
    rw [dif_pos (by omega)]
    exact congrArg Real.toEReal (e k)
  · pointwise [kvAll, byPair]
    rw [dif_neg (by omega)]
    exact congrArg Real.toEReal (e v)

theorem pe_row (t : Fin 8192) (l : Fin 128) : peAll (F := Ideal) (up r) (ix2 t l)
    = ((PX r (t / 2048) (t % 2048) (16 * (l / 64) + l % 16) : ℝ) : EReal) := by
  pointwise [peAll]
  rw [mul_comm 16 (l.val / 64)]
  exact congrArg Real.toEReal (PX_eq r ⟨t / 2048, by omega⟩ ⟨t % 2048, by omega⟩ (l / 64 * 16 + l % 16) (by omega)).symm
end
end Cert.Mla
-- ==== Proof.MlaEq.lean ====
module

public import proofs.«01_k».proof.Proof.MlaHost

/-! The gradients of a pair of heads are the derivative's, over the reals. -/

@[expose] public section
set_option maxRecDepth 16384

noncomputable section

namespace Cert.Mla

open Reals Soft Cert.MlaReferenceIdeal

/-- A sum over the lanes of one head of a pair. -/
theorem sum_head (h : Fin 2) (f : ℕ → ℝ) : (∑ l : Fin 128, if l.val / 64 = h.val then f l else 0) = ∑ e : Fin 64, f (64 * h + e) := by
  rw [← Finset.sum_filter]
  refine Finset.sum_nbij' (fun l => ⟨l.val % 64, by omega⟩) (fun e => ⟨64 * h + e, by omega⟩) ?_ ?_ ?_ ?_ ?_
  · exact fun _ _ => Finset.mem_univ _
  · exact fun e _ => Finset.mem_filter.2 ⟨Finset.mem_univ _, by show (64 * h.val + e.val) / 64 = h.val; omega⟩
  · exact fun l hl => Fin.ext (by have := (Finset.mem_filter.1 hl).2; show 64 * h.val + l.val % 64 = l.val; omega)
  · exact fun e _ => Fin.ext (by show (64 * h.val + e.val) % 64 = e.val; omega)
  · exact fun l hl => congrArg f (by have := (Finset.mem_filter.1 hl).2; show l.val = 64 * h.val + l.val % 64; omega)

/-- A sum over the rotary lanes of one of four copies. -/
theorem sum_rope (u : Fin 4) (f : ℕ → ℝ) : (∑ l : Fin 128, if l.val / 16 % 4 = u.val then f l else 0) = ∑ e : Fin 32, f (64 * (e / 16) + 16 * u + e % 16) := by
  rw [← Finset.sum_filter]
  refine Finset.sum_nbij' (fun l => ⟨l.val / 64 * 16 + l.val % 16, by omega⟩) (fun e => ⟨64 * (e / 16) + 16 * u + e % 16, by omega⟩) ?_ ?_ ?_ ?_ ?_
  · exact fun _ _ => Finset.mem_univ _
  · exact fun e _ => Finset.mem_filter.2 ⟨Finset.mem_univ _, by show (64 * (e.val / 16) + 16 * u.val + e.val % 16) / 16 % 4 = u.val; omega⟩
  · exact fun l hl => Fin.ext (by
      have := (Finset.mem_filter.1 hl).2
      show 64 * ((l.val / 64 * 16 + l.val % 16) / 16) + 16 * u.val + (l.val / 64 * 16 + l.val % 16) % 16 = l.val; omega)
  · exact fun e _ => Fin.ext (by show (64 * (e.val / 16) + 16 * u.val + e.val % 16) / 64 * 16 + (64 * (e.val / 16) + 16 * u.val + e.val % 16) % 16 = e.val; omega)
  · exact fun l hl => congrArg f (by
      have := (Finset.mem_filter.1 hl).2
      show l.val = 64 * ((l.val / 64 * 16 + l.val % 16) / 16) + 16 * u.val + (l.val / 64 * 16 + l.val % 16) % 16; omega)

variable (q : S4x8x2048x96.Idx → ℝ) (k : S4x8x2048x64.Idx → ℝ) (r : S4x1x2048x32.Idx → ℝ) (v : S4x8x2048x64.Idx → ℝ) (d : S4x2048x512.Idx → ℝ) (b p : ℕ)

/-- What the blocks of a batch's pair of heads hold. -/
def qOf : ℕ → ℕ → ℝ := fun i l =>
  if l < 128 then QX q b (2 * p + l / 64) i (l % 64) else QX q b (p / 2 * 4 + (l - 128) / 16 % 4) i (64 + ((l - 128) / 64 * 16 + (l - 128) % 16))
def nOf : ℕ → ℕ → ℝ := fun t l => NX k b (2 * p + l / 64) t (l % 64)
def rOf : ℕ → ℕ → ℝ := fun t l => PX r b t (l / 64 * 16 + l % 16)
def dOf : ℕ → ℕ → ℝ := fun i l => DX d b i (128 * p + l)
def lseR : Fin 2 → ℕ → ℝ := fun h i => lse q k r b (2 * p + h) i
def dltR : Fin 2 → ℕ → ℝ := fun h i => dl (lg q k r b (2 * p + h)) (M q k r b (2 * p + h)) (dP v d b (2 * p + h)) i

/-- A rotary lane's feature. -/
abbrev feat (l : ℕ) : ℕ := 64 + (l / 64 * 16 + l % 16)

theorem qOf_rope (h : Fin 2) (i l : ℕ) (hl : l / 16 % 4 = (2 * p + h) % 4) : qOf q b p i (128 + l) = QX q b (2 * p + h) i (feat l) := by
  rw [qOf, if_neg (by omega), show 128 + l - 128 = l by omega, show p / 2 * 4 + l / 16 % 4 = 2 * p + h by omega]

theorem rOf_eq (h t l : ℕ) : rOf r b t l = key k r b h t (feat l) := by
  unfold key
  rw [if_neg (by unfold feat; omega), rOf, show feat l - 64 = l / 64 * 16 + l % 16 by unfold feat; omega]

theorem dot_eq (h : Fin 2) (t i : ℕ) : (∑ l : Fin 256, keyOf (nOf k b p) (rOf r b) p h t l * qOf q b p i l) = ∑ e : Fin 96, QX q b (2 * p + h) i e * key k r b (2 * p + h) t e := by
  refine (Fin.sum_univ_add (a := 128) (b := 128) fun l => keyOf (nOf k b p) (rOf r b) p h t l * qOf q b p i l).trans
    (Eq.trans (congrArg₂ (· + ·) ?_ ?_) (Fin.sum_univ_add (a := 64) (b := 32) fun e => QX q b (2 * p + h) i e * key k r b (2 * p + h) t e).symm)
  · have e : ∀ l : Fin 128, keyOf (nOf k b p) (rOf r b) p h t (l : ℕ) * qOf q b p i (l : ℕ) = if l.val / 64 = h.val then nOf k b p t l * qOf q b p i l else 0 := fun l => by
      rw [keyOf, if_pos l.isLt, ite_mul, zero_mul]
    refine (Finset.sum_congr rfl fun l _ => e l).trans ((sum_head h fun l => nOf k b p t l * qOf q b p i l).trans (Finset.sum_congr rfl fun x _ => ?_))
    show _ = QX q b (2 * p + h) i x.val * key k r b (2 * p + h) t x.val
    rw [key, if_pos x.isLt, nOf, qOf, if_pos (by omega), show (64 * h.val + x.val) / 64 = h by omega, show (64 * h.val + x.val) % 64 = x by omega, mul_comm]
  · have e : ∀ l : Fin 128, keyOf (nOf k b p) (rOf r b) p h t (128 + l : ℕ) * qOf q b p i (128 + l : ℕ)
        = if l.val / 16 % 4 = (⟨(2 * p + h) % 4, by omega⟩ : Fin 4).val then QX q b (2 * p + h) i (feat l) * key k r b (2 * p + h) t (feat l) else 0 := fun l => by
      rw [keyOf, if_neg (by omega), show 128 + l.val - 128 = l by omega]
      show _ = if l.val / 16 % 4 = (2 * p + h.val) % 4 then _ else _
      split_ifs with hl
      · rw [qOf_rope q b p h i l hl, rOf_eq k r b (2 * p + h) t l, mul_comm]
      · rw [zero_mul]
    refine (Finset.sum_congr rfl fun l _ => e l).trans ((sum_rope _ fun l => QX q b (2 * p + h) i (feat l) * key k r b (2 * p + h) t (feat l)).trans
      (Finset.sum_congr rfl fun x _ => ?_))
    show _ = QX q b (2 * p + h) i (64 + x.val) * key k r b (2 * p + h) t (64 + x.val)
    have ex : feat (64 * (x.val / 16) + 16 * ((2 * p + h.val) % 4) + x.val % 16) = 64 + x.val := by unfold feat; omega
    show QX q b (2 * p + h) i (feat (64 * (x.val / 16) + 16 * ((2 * p + h.val) % 4) + x.val % 16)) * key k r b (2 * p + h) t _ = _
    rw [ex]

theorem logit_eq (h : Fin 2) (t i : ℕ) :
    logit (qOf q b p) (nOf k b p) (rOf r b) (lseR q k r b p) p h t i = lg q k r b (2 * p + h) i t - lse q k r b (2 * p + h) i := by
  rw [logit, dot_eq, lg, lseR]

theorem wt_eq (h : Fin 2) (t i : ℕ) : wt (qOf q b p) (nOf k b p) (rOf r b) (lseR q k r b p) p h t i
    = pr (lg q k r b (2 * p + h)) (M q k r b (2 * p + h)) i t := by
  rw [wt, logit_eq, lse]
  exact pr_eq _ _ _ _

theorem grad_eq (h : Fin 2) (t i : ℕ) :
    grad (qOf q b p) (nOf k b p) (nOf v b p) (rOf r b) (dOf d b p) (lseR q k r b p) (dltR q k r v d b p) p h t i = gl q k r v d b (2 * p + h) i t := by
  have e : ∀ l : Fin 128, valOf (nOf v b p) h t l * dOf d b p i l = if l.val / 64 = h.val then nOf v b p t l * dOf d b p i l else 0 := fun l => by
    rw [valOf, ite_mul, zero_mul]
  rw [grad, wt_eq]
  simp only [e, sum_head h (fun l => nOf v b p t l * dOf d b p i l)]
  have e2 : ∀ x : Fin 64, nOf v b p t (64 * h + x) * dOf d b p i (64 * h + x) = DX d b i (64 * (2 * p + h) + x) * NX v b (2 * p + h) t x := fun x => by
    rw [nOf, dOf, show (64 * h.val + x.val) / 64 = h by omega, show (64 * h.val + x.val) % 64 = x by omega,
      show 128 * p + (64 * h.val + x.val) = 64 * (2 * p + h) + x by omega, mul_comm]
  simp only [e2, dltR, gl, gs, dP]

/-! ## The four gradients of a pair -/

abbrev dqOfPair (t c : ℕ) : ℝ := dqR (qOf q b p) (nOf k b p) (nOf v b p) (rOf r b) (dOf d b p) (lseR q k r b p) (dltR q k r v d b p) p t c
abbrev dkOfPair (h : Fin 2) (t c : ℕ) : ℝ := dkR (qOf q b p) (nOf k b p) (nOf v b p) (rOf r b) (dOf d b p) (lseR q k r b p) (dltR q k r v d b p) p h t c
abbrev dvOfPair (h : Fin 2) (t c : ℕ) : ℝ := dvR (qOf q b p) (nOf k b p) (rOf r b) (dOf d b p) (lseR q k r b p) p h t c
abbrev peOfPair (t c : ℕ) : ℝ := peR (qOf q b p) (nOf k b p) (nOf v b p) (rOf r b) (dOf d b p) (lseR q k r b p) (dltR q k r v d b p) p t c

theorem dq_nope (t c : ℕ) (hc : c < 128) : dqOfPair q k r v d b p t c = rq q k r v d b (2 * p + c / 64) t (c % 64) := by
  unfold dqOfPair dqR
  rw [Finset.sum_eq_single (⟨c / 64, by omega⟩ : Fin 2)]
  · refine Finset.sum_congr rfl fun j _ => ?_
    rw [grad_eq, keyOf, if_pos hc, if_pos rfl, nOf, key, if_pos (by omega)]
  · intro x _ hx
    refine Finset.sum_eq_zero fun j _ => ?_
    rw [keyOf, if_pos hc, if_neg fun h => hx (Fin.ext h.symm), mul_zero]
  · intro h; exact absurd (Finset.mem_univ _) h

theorem dq_rope (t c : ℕ) : dqOfPair q k r v d b p t (128 + c)
    = ∑ h : Fin 2, if c / 16 % 4 = (2 * p + h) % 4 then rq q k r v d b (2 * p + h) t (feat c) else 0 := by
  refine Finset.sum_congr rfl fun h _ => ?_
  split_ifs with hc
  · refine Finset.sum_congr rfl fun j _ => ?_
    rw [grad_eq, keyOf, if_neg (by omega), show 128 + c - 128 = c by omega, if_pos hc, rOf_eq k r b (2 * p + h)]
  · refine Finset.sum_eq_zero fun j _ => ?_
    rw [keyOf, if_neg (by omega), show 128 + c - 128 = c by omega, if_neg hc, mul_zero]

theorem dk_nope (t c : ℕ) (hc : c < 128) : dkOfPair q k r v d b p ⟨c / 64, by omega⟩ t c = rk q k r v d b (2 * p + c / 64) t (c % 64) := by
  refine Finset.sum_congr rfl fun i _ => ?_
  rw [grad_eq, qOf, if_pos hc]

theorem dv_eq (t c : ℕ) (hc : c < 128) : dvOfPair q k r d b p ⟨c / 64, by omega⟩ t c = rv q k r d b (2 * p + c / 64) t (c % 64) := by
  refine Finset.sum_congr rfl fun i _ => ?_
  rw [wt_eq, dOf, mul_comm, show 128 * p + c = 64 * (2 * p + c / 64) + c % 64 by omega]

theorem pe_eq (t c : ℕ) : peOfPair q k r v d b p t c
    = ∑ h : Fin 2, if c / 16 % 4 = (2 * p + h) % 4 then rk q k r v d b (2 * p + h) t (feat c) else 0 := by
  refine Finset.sum_congr rfl fun h _ => ?_
  split_ifs with hc
  · refine Finset.sum_congr rfl fun i _ => ?_
    rw [grad_eq, qOf_rope q b p h i c hc]
  · rfl

/-- One head of each group of four is at a rotary lane. -/
theorem heads_of_group (u : Fin 4) (f : ℕ → ℝ) (g : ℕ) :
    ((∑ h : Fin 2, if u.val = (2 * (2 * g) + h.val) % 4 then f (2 * (2 * g) + h) else 0)
      + ∑ h : Fin 2, if u.val = (2 * (2 * g + 1) + h.val) % 4 then f (2 * (2 * g + 1) + h) else 0) = f (4 * g + u) := by
  simp only [Fin.sum_univ_two]
  have e0 : (2 * (2 * g) + (0 : Fin 2).val) = 4 * g := by show 2 * (2 * g) + 0 = _; omega
  have e1 : (2 * (2 * g) + (1 : Fin 2).val) = 4 * g + 1 := by show 2 * (2 * g) + 1 = _; omega
  have e2 : (2 * (2 * g + 1) + (0 : Fin 2).val) = 4 * g + 2 := by show 2 * (2 * g + 1) + 0 = _; omega
  have e3 : (2 * (2 * g + 1) + (1 : Fin 2).val) = 4 * g + 3 := by show 2 * (2 * g + 1) + 1 = _; omega
  rw [e0, e1, e2, e3, show 4 * g % 4 = 0 by omega, show (4 * g + 1) % 4 = 1 by omega, show (4 * g + 2) % 4 = 2 by omega, show (4 * g + 3) % 4 = 3 by omega]
  fin_cases u <;> simp

/-- The rotary queries' gradients of a group. -/
theorem dq_group (g t c : ℕ) : dqOfPair q k r v d b (2 * g) t (128 + c) + dqOfPair q k r v d b (2 * g + 1) t (128 + c)
    = rq q k r v d b (4 * g + c / 16 % 4) t (feat c) := by
  rw [dq_rope, dq_rope]
  exact heads_of_group ⟨c / 16 % 4, by omega⟩ (fun n => rq q k r v d b n t (feat c)) g

/-- The rotary keys' gradients of all pairs. -/
theorem pe_all (t c : ℕ) : peOfPair q k r v d b 0 t c + peOfPair q k r v d b 1 t c + peOfPair q k r v d b 2 t c + peOfPair q k r v d b 3 t c
    = rk q k r v d b (c / 16 % 4) t (feat c) + rk q k r v d b (4 + c / 16 % 4) t (feat c) := by
  rw [pe_eq, pe_eq, pe_eq, pe_eq]
  have h0 := heads_of_group ⟨c / 16 % 4, by omega⟩ (fun n => rk q k r v d b n t (feat c)) 0
  have h1 := heads_of_group ⟨c / 16 % 4, by omega⟩ (fun n => rk q k r v d b n t (feat c)) 1
  refine (add_assoc _ _ _).trans (congrArg₂ (· + ·) (h0.trans ?_) (h1.trans ?_))
  · simp only [mul_zero, zero_add]
  · simp only [mul_one]

end Cert.Mla
-- ==== Proof.MlaFinal.lean ====
module

public import proofs.«01_k».proof.Proof.MlaEq
public import proofs.«01_k».proof.Proof.Gen.Pre_mla_finite
public import proofs.«01_k».proof.Defs
public import Idealize.ShloMosaic.Lib.WholeRead

/-! The latent attention's backward: what the kernel's four outputs hold, and that they are the derivative. -/

@[expose] public section
set_option maxRecDepth 16384

noncomputable section

namespace Cert.Mla

open Idealize.ShloMosaic Idealize.ShloMosaic.TcCoe Idealize.SL.Sem
open Cert.MlaKernelIdeal Cert.MlaKernelIdeal.Gen Cert.MlaKernelIdeal.Value Reals Soft Attn
open Cert.MlaReferenceIdeal.Read (val_main_v46)

section
variable (i : grid0.Coords)
 (arg2 : Memref sig Kind.tc Space.vmem S2048x128 EltTy.bf16) (harg2 : arg2.IsWhole)
 (arg3 : Memref sig Kind.tc Space.vmem S2048x128 EltTy.bf16) (harg3 : arg3.IsWhole)
 (arg4 : Memref sig Kind.tc Space.vmem S2048x256 EltTy.bf16) (harg4 : arg4.IsWhole)
 (arg5 : Memref sig Kind.tc Space.vmem S2048x128 EltTy.bf16) (harg5 : arg5.IsWhole)
 (arg6 : Memref sig Kind.tc Space.vmem S2048x128 EltTy.bf16) (harg6 : arg6.IsWhole)
 (arg7 : Memref sig Kind.tc Space.vmem S2x1x2048 EltTy.f32) (harg7 : arg7.IsWhole)
 (arg8 : Memref sig Kind.tc Space.vmem S2x1x2048 EltTy.f32) (harg8 : arg8.IsWhole)
 (arg14 : Memref sig Kind.tc Space.vmem S2048x256 EltTy.bf16)
 (x0 x1 : Vec Ideal S2048x128 .bf16) (x2 : Vec Ideal S2048x256 .bf16) (x3 x4 : Vec Ideal S2048x128 .bf16) (x5 x6 : Vec Ideal S2x1x2048 .f32)

/-- The queries, from both of their blocks. -/
theorem qcat_at (Q : ℕ → ℕ → ℝ)
    (hq : ∀ (i : Fin 2048) (l : Fin 128), x0 (ix2 i l) = ((Q i l : ℝ) : EReal)) (hr : ∀ (i : Fin 2048) (l : Fin 128), x1 (ix2 i l) = ((Q i (128 + l) : ℝ) : EReal))
    (i : Fin 2048) (l : Fin 256) : View.canon (qcat arg2 harg2 arg3 harg3 x0 x1) (ix2 i l) = ((Q i l : ℝ) : EReal) := by
  by_cases hl : l.val < 128
  · refine (canon_miss _ _ i l (by omega)).trans ((canon_hit _ _ i l i ⟨l.val, hl⟩ (by simp) (by simp)).trans ?_)
    rw [shapeCast_id]
    refine (congrFun (shapeCast_id _ _) _).trans ?_
    refine (Memref.IsWhole.readAt_unread harg2 _ _ _).trans ((congrArg x0 (idx₂ (A := 2048) i ⟨l.val, hl⟩ (by omega) (by simpa using hl))).trans ((hq _ _).trans ?_))
    simp only [zero_add]
  · refine (canon_hit _ _ i l i ⟨l.val - 128, by omega⟩ (by simp) (by show l.val = 128 + (l.val - 128); omega)).trans ?_
    rw [shapeCast_id]
    refine (congrFun (shapeCast_id _ _) _).trans ?_
    refine (Memref.IsWhole.readAt_unread harg3 _ _ _).trans ((congrArg x1 (idx₂ (A := 2048) i ⟨l.val - 128, by omega⟩ (by omega) (by show 0 + (l.val - 128) < 128; omega))).trans ((hr _ _).trans ?_))
    simp only [zero_add]
    rw [show 128 + (l.val - 128) = l.val by omega]

/-- The loads of one grid point hold what its blocks hold. -/
theorem reads_hold (Q K V P D : ℕ → ℕ → ℝ) (L Δ : Fin 2 → ℕ → ℝ) (p : ℕ) (hp : (i 1).val = p) (hlt : p < 4)
    (hq : ∀ (i : Fin 2048) (l : Fin 128), x0 (ix2 i l) = ((Q i l : ℝ) : EReal)) (hr : ∀ (i : Fin 2048) (l : Fin 128), x1 (ix2 i l) = ((Q i (128 + l) : ℝ) : EReal))
    (hk : ∀ (i : Fin 2048) (l : Fin 128), x2 (ix2 i ⟨0 + l, by omega⟩) = ((K i l : ℝ) : EReal))
    (hv : ∀ (i : Fin 2048) (l : Fin 128), x2 (ix2 i ⟨128 + l, by omega⟩) = ((V i l : ℝ) : EReal))
    (hP : ∀ (i : Fin 2048) (l : Fin 128), x3 (ix2 i ⟨0 + l, by omega⟩) = ((P i l : ℝ) : EReal))
    (hd : ∀ (i : Fin 2048) (l : Fin 128), x4 (ix2 i ⟨0 + l, by omega⟩) = ((D i l : ℝ) : EReal))
    (hL : ∀ (h : Fin 2) (i : Fin 2048), x5 (ix3 h 0 i) = ((L h i : ℝ) : EReal))
    (hΔ : ∀ (h : Fin 2) (i : Fin 2048), x6 (ix3 h 0 i) = ((Δ h i : ℝ) : EReal)) :
    (reads i arg2 harg2 arg3 harg3 arg4 harg4 arg5 harg5 arg6 harg6 arg7 harg7 arg8 harg8 arg14 x0 x1 x2 x3 x4 x5 x6).Holds Q K V P D L Δ p where
  q r n h i l := (read_at _ _ i l (by omega) (by omega)).trans ((qcat_at arg2 harg2 arg3 harg3 x0 x1 Q hq hr _ _).trans (by simp only [zero_add]))
  k r n h i l := (Memref.IsWhole.readAt_unread harg4 _ _ _).trans ((congrArg x2 (idx₂ (A := 2048) i l (by omega) (by omega))).trans (hk _ l))
  v r n h i l := (Memref.IsWhole.readAt_unread harg4 _ _ _).trans ((congrArg x2 (idx₂ (A := 2048) i l (by omega) (by omega))).trans (hv _ l))
  kp r n h i l := (Memref.IsWhole.readAt_unread harg5 _ _ _).trans ((congrArg x3 (idx₂ (A := 2048) i l (by omega) (by omega))).trans (hP _ l))
  dO r n h i l := (Memref.IsWhole.readAt_unread harg6 _ _ _).trans ((congrArg x4 (idx₂ (A := 2048) i l (by omega) (by omega))).trans (hd _ l))
  lse g r n h i := (Memref.IsWhole.readAt_unread harg7 _ _ _).trans ((congrArg x5 (idx₃ g.isLt i (by omega))).trans (hL _ _))
  delta g r n h i := (Memref.IsWhole.readAt_unread harg8 _ _ _).trans ((congrArg x6 (idx₃ g.isLt i (by omega))).trans (hΔ _ _))
  pair := by subst hp; rfl
  lt := hlt
end

section
variable {q : S4x8x2048x96.Idx → ℝ} {k : S4x8x2048x64.Idx → ℝ} {r : S4x1x2048x32.Idx → ℝ} {v : S4x8x2048x64.Idx → ℝ} {d : S4x2048x512.Idx → ℝ}
  {x0 : FVec Ideal S4x8x2048x96 .f32} {x1 : FVec Ideal S4x8x2048x64 .f32} {x2 : FVec Ideal S4x1x2048x32 .f32} {x3 : FVec Ideal S4x8x2048x64 .f32}
  {x4 : FVec Ideal S4x2048x512 .f32}

theorem q32 (h0 : x0 = up q) (t : Fin 8192) (l : Fin 512) :
    qAll x0 (ix2 t ⟨l, by omega⟩) = ((QX q (t / 2048) (l / 64) (t % 2048) (l % 64) : ℝ) : EReal) := by
  subst h0
  exact q_nope q t l

theorem qr32 (h0 : x0 = up q) (t : Fin 8192) (l : Fin 256) :
    qAll x0 (ix2 t ⟨512 + l, by omega⟩) = ((QX q (t / 2048) (l / 128 * 4 + l / 16 % 4) (t % 2048) (64 + (l / 64 % 2 * 16 + l % 16)) : ℝ) : EReal) := by
  subst h0
  exact q_rope q t l

theorem kv32 (h1 : x1 = up k) (h3 : x3 = up v) (t : Fin 8192) (p : Fin 4) (j : Fin 2) (l : Fin 128) :
    kvAll x1 x3 (ix2 t ⟨256 * p + 128 * j + l, by omega⟩) = ((NX (if j.val = 0 then k else v) (t / 2048) (2 * p + l / 64) (t % 2048) (l % 64) : ℝ) : EReal) := by
  subst h1 h3
  exact kv_at k v t p j l

theorem pe32 (h2 : x2 = up r) (t : Fin 8192) (l : Fin 128) : peAll x2 (ix2 t l) = ((PX r (t / 2048) (t % 2048) (16 * (l / 64) + l % 16) : ℝ) : EReal) := by
  subst h2
  exact pe_row r t l

theorem rows32 (h4 : x4 = up d) (t : Fin 8192) (l : Fin 512) : rows x4 (ix2 t l) = ((DX d (t / 2048) (t % 2048) l : ℝ) : EReal) := by
  subst h4
  exact rows_at d t l

theorem lse32 (h0 : x0 = up q) (h1 : x1 = up k) (h2 : x2 = up r) (g : Fin 32) (i : Fin 2048) :
    heads32 (F := Ideal) (lseOf (F := Ideal) (masked (F := Ideal) x0 (keys (F := Ideal) x1 x2)) (top (F := Ideal) (masked (F := Ideal) x0 (keys (F := Ideal) x1 x2)))) (ix3 g 0 i)
      = ((lse q k r (g / 8) (g % 8) i : ℝ) : EReal) := by
  subst h0 h1 h2
  exact heads32_at _ (lse q k r) (lse_at q k r) g i

theorem delta32 (h0 : x0 = up q) (h1 : x1 = up k) (h2 : x2 = up r) (h3 : x3 = up v) (h4 : x4 = up d) (g : Fin 32) (i : Fin 2048) :
    heads32 (F := Ideal) (deltaOf (F := Ideal) (probs (F := Ideal) (masked (F := Ideal) x0 (keys (F := Ideal) x1 x2))) x3 (val_main_v46 (F := Ideal) x4)) (ix3 g 0 i)
      = ((dl (lg q k r (g / 8) (g % 8)) (M q k r (g / 8) (g % 8)) (dP v d (g / 8) (g % 8)) i : ℝ) : EReal) := by
  subst h0 h1 h2 h3 h4
  exact heads32_at _ (fun b h i => dl (lg q k r b h) (M q k r b h) (dP v d b h) i) (delta_at q k r v d) g i
end

theorem idx : ∀ t : Fin cfg0.N, win0_0.index t = ![t.val / 4, t.val % 4] ∧ win0_1.index t = ![t.val / 4, 4 + t.val % 4 / 2] ∧ win0_2.index t = ![t.val / 4, t.val % 4]
    ∧ win0_3.index t = ![t.val / 4, 0] ∧ win0_4.index t = ![t.val / 4, t.val % 4] ∧ win0_5.index t = ![t.val, 0, 0] ∧ win0_6.index t = ![t.val, 0, 0]
    ∧ win0_7.index t = ![t.val / 4, t.val % 4] ∧ win0_8.index t = ![t.val / 4, t.val % 4] ∧ win0_9.index t = ![t.val / 4, t.val % 4 / 2] ∧ win0_10.index t = ![t.val / 4, 0] :=
  (by decide +kernel : ∀ t : Fin grid0.N, _)

theorem pair_of : ∀ t : Fin cfg0.N, (grid0.coords t 1).val = t.val % 4 := (by decide +kernel : ∀ t : Fin grid0.N, _)

theorem point_lt (t : Fin cfg0.N) : t.val < 16 := t.isLt

/-! The blocks of grid point `t`, at places of any contents of their arrays. -/

theorem blk0 (t : Fin cfg0.N) (W : S8192x768.Idx → EReal) (i : Fin 2048) (j : Fin 128) :
    (((cfg0.win 0).blk t).view.read (Elt Ideal) W : S2048x128.Idx → EReal) (ix2 i j) = W (ix2 ⟨2048 * (t.val / 4) + i, by have := point_lt t; omega⟩ ⟨128 * (t.val % 4) + j, by omega⟩) := by
  have := point_lt t
  blk_simp [idx t]
  blk_ext [idx t]

theorem blk1 (t : Fin cfg0.N) (W : S8192x768.Idx → EReal) (i : Fin 2048) (j : Fin 128) :
    (((cfg0.win 1).blk t).view.read (Elt Ideal) W : S2048x128.Idx → EReal) (ix2 i j)
      = W (ix2 ⟨2048 * (t.val / 4) + i, by have := point_lt t; omega⟩ ⟨128 * (4 + t.val % 4 / 2) + j, by omega⟩) := by
  have := point_lt t
  blk_simp [idx t]
  blk_ext [idx t]

theorem blk2 (t : Fin cfg0.N) (W : S8192x1024.Idx → EReal) (i : Fin 2048) (j : Fin 256) :
    (((cfg0.win 2).blk t).view.read (Elt Ideal) W : S2048x256.Idx → EReal) (ix2 i j) = W (ix2 ⟨2048 * (t.val / 4) + i, by have := point_lt t; omega⟩ ⟨256 * (t.val % 4) + j, by omega⟩) := by
  have := point_lt t
  blk_simp [idx t]
  blk_ext [idx t]

theorem blk3 (t : Fin cfg0.N) (W : S8192x128.Idx → EReal) (i : Fin 2048) (j : Fin 128) :
    (((cfg0.win 3).blk t).view.read (Elt Ideal) W : S2048x128.Idx → EReal) (ix2 i j) = W (ix2 ⟨2048 * (t.val / 4) + i, by have := point_lt t; omega⟩ j) := by
  have := point_lt t
  blk_simp [idx t]
  blk_ext [idx t]

theorem blk4 (t : Fin cfg0.N) (W : S8192x512.Idx → EReal) (i : Fin 2048) (j : Fin 128) :
    (((cfg0.win 4).blk t).view.read (Elt Ideal) W : S2048x128.Idx → EReal) (ix2 i j) = W (ix2 ⟨2048 * (t.val / 4) + i, by have := point_lt t; omega⟩ ⟨128 * (t.val % 4) + j, by omega⟩) := by
  have := point_lt t
  blk_simp [idx t]
  blk_ext [idx t]

theorem blk5 (t : Fin cfg0.N) (W : S32x1x2048.Idx → EReal) (h : Fin 2) (i : Fin 2048) :
    (((cfg0.win 5).blk t).view.read (Elt Ideal) W : S2x1x2048.Idx → EReal) (ix3 h 0 i) = W (ix3 ⟨2 * t.val + h, by have := point_lt t; omega⟩ 0 i) := by
  have := point_lt t
  blk_simp [idx t]
  blk_ext [idx t]

theorem blk6 (t : Fin cfg0.N) (W : S32x1x2048.Idx → EReal) (h : Fin 2) (i : Fin 2048) :
    (((cfg0.win 6).blk t).view.read (Elt Ideal) W : S2x1x2048.Idx → EReal) (ix3 h 0 i) = W (ix3 ⟨2 * t.val + h, by have := point_lt t; omega⟩ 0 i) := by
  have := point_lt t
  blk_simp [idx t]
  blk_ext [idx t]

/-! Where the blocks of the outputs lie in their arrays. -/

theorem blk7 {α : Type} (t : Fin cfg0.N) (W : S8192x512.Idx → α) (i : Fin 2048) (j : Fin 128) :
    W ((win0_7.blk t).view.emb (ix2 i j)) = W (ix2 ⟨2048 * (t.val / 4) + i, by have := point_lt t; omega⟩ ⟨128 * (t.val % 4) + j, by omega⟩) := by
  have := point_lt t
  refine congrArg W ?_
  blk_ext [idx t]

theorem blk8 {α : Type} (t : Fin cfg0.N) (W : S8192x1024.Idx → α) (i : Fin 2048) (j : Fin 256) :
    W ((win0_8.blk t).view.emb (ix2 i j)) = W (ix2 ⟨2048 * (t.val / 4) + i, by have := point_lt t; omega⟩ ⟨256 * (t.val % 4) + j, by omega⟩) := by
  have := point_lt t
  refine congrArg W ?_
  blk_ext [idx t]

theorem blk9 {α : Type} (t : Fin cfg0.N) (W : S8192x256.Idx → α) (i : Fin 2048) (j : Fin 128) :
    W ((win0_9.blk t).view.emb (ix2 i j)) = W (ix2 ⟨2048 * (t.val / 4) + i, by have := point_lt t; omega⟩ ⟨128 * (t.val % 4 / 2) + j, by omega⟩) := by
  have := point_lt t
  refine congrArg W ?_
  blk_ext [idx t]

theorem blk10 {α : Type} (t : Fin cfg0.N) (W : S8192x128.Idx → α) (i : Fin 2048) (j : Fin 128) :
    W ((win0_10.blk t).view.emb (ix2 i j)) = W (ix2 ⟨2048 * (t.val / 4) + i, by have := point_lt t; omega⟩ j) := by
  have := point_lt t
  refine congrArg W ?_
  blk_ext [idx t]

variable (m : (ℓ : Loc nD τ sig) → Buf (Elt Ideal) ℓ) (c : Dev nD)

/-- The reads of grid point `t`. -/
def pointReads (t : Fin cfg0.N) : Reads Ideal :=
  reads (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_1
    (iblk m c 0 t) (iblk m c 1 t) (iblk m c 2 t) (iblk m c 3 t) (iblk m c 4 t) (iblk m c 5 t) (iblk m c 6 t)

/-! What the grid point leaves in the blocks of the outputs: at a batch's first pair, at the other even pairs, at the odd ones. -/

theorem leftA (t : Fin cfg0.N) (h0 : t.val % 4 = 0) (h1 : t.val % 2 = 0) : outsAt0 m c t.val t.isLt
    = (View.canon (dqnList (pointReads m c t) scM0_0.view), View.canon (dkvList (pointReads m c t) (ms0_8 t).view),
      View.canon [⟨all 128, dqpPay (pointReads m c t) scM0_0.view ((ms0_9 t).view.readCov (Val := Elt Ideal) [zeros] (all 128).toLoadRect)⟩, zeros],
      View.canon (peList (pointReads m c t) (ms0_10 t).view (fun L T => (ms0_10 t).view.readCov L (slot 0 (by decide) T).toLoadRect) [zeros] tiles)) := by
  have e := (rfl : pointReads m c t = _)
  rw [outsAt0_A m c t h0 h1, A7 (hR := e), A8 (hR := e), A9 (hR := e), A10 (hR := e)]

theorem leftC (t : Fin cfg0.N) (h0 : ¬ t.val % 4 = 0) (h1 : t.val % 2 = 0) : outsAt0 m c t.val t.isLt
    = (View.canon (dqnList (pointReads m c t) scM0_0.view), View.canon (dkvList (pointReads m c t) (ms0_8 t).view),
      View.canon [⟨all 128, dqpPay (pointReads m c t) scM0_0.view ((ms0_9 t).view.readCov (Val := Elt Ideal) [zeros] (all 128).toLoadRect)⟩, zeros],
      View.canon (peList (pointReads m c t) (ms0_10 t).view (fun _ T => View.readAt (Elt Ideal) (ms0_10 t).view (slot 0 (by decide) T).toLoadRect
        ((hs0_10 t).unread (outsAt0 m c (t.val - 1) (Nat.lt_of_le_of_lt (Nat.sub_le _ _) t.isLt)).2.2.2)) [] tiles)) := by
  have e := (rfl : pointReads m c t = _)
  rw [outsAt0_C m c t h0 h1, C7 (hR := e), C8 (hR := e), C9 (hR := e), C10 (hR := e)]

theorem leftB (t : Fin cfg0.N) (h0 : ¬ t.val % 4 = 0) (h1 : ¬ t.val % 2 = 0) : outsAt0 m c t.val t.isLt
    = (View.canon (dqnList (pointReads m c t) scM0_0.view), View.canon (dkvList (pointReads m c t) (ms0_8 t).view),
      View.canon [⟨all 128, dqpPay (pointReads m c t) scM0_0.view (View.readAt (Elt Ideal) (ms0_9 t).view (all 128).toLoadRect
        ((hs0_9 t).unread (outsAt0 m c (t.val - 1) (Nat.lt_of_le_of_lt (Nat.sub_le _ _) t.isLt)).2.2.1))⟩],
      View.canon (peList (pointReads m c t) (ms0_10 t).view (fun _ T => View.readAt (Elt Ideal) (ms0_10 t).view (slot 0 (by decide) T).toLoadRect
        ((hs0_10 t).unread (outsAt0 m c (t.val - 1) (Nat.lt_of_le_of_lt (Nat.sub_le _ _) t.isLt)).2.2.2)) [] tiles)) := by
  have e := (rfl : pointReads m c t = _)
  rw [outsAt0_B m c t h0 h1, B7 (hR := e), B8 (hR := e), B9 (hR := e), B10 (hR := e)]

theorem left7 (t : Fin cfg0.N) : (outsAt0 m c t.val t.isLt).1 = View.canon (dqnList (pointReads m c t) scM0_0.view) := by
  by_cases h0 : t.val % 4 = 0
  · rw [leftA m c t h0 (by omega)]
  · by_cases h1 : t.val % 2 = 0
    · rw [leftC m c t h0 h1]
    · rw [leftB m c t h0 h1]

theorem left8 (t : Fin cfg0.N) : (outsAt0 m c t.val t.isLt).2.1 = View.canon (dkvList (pointReads m c t) (ms0_8 t).view) := by
  by_cases h0 : t.val % 4 = 0
  · rw [leftA m c t h0 (by omega)]
  · by_cases h1 : t.val % 2 = 0
    · rw [leftC m c t h0 h1]
    · rw [leftB m c t h0 h1]

theorem left9_even (t : Fin cfg0.N) (h1 : t.val % 2 = 0) : (outsAt0 m c t.val t.isLt).2.2.1
    = View.canon [⟨all 128, dqpPay (pointReads m c t) scM0_0.view ((ms0_9 t).view.readCov (Val := Elt Ideal) [zeros] (all 128).toLoadRect)⟩, zeros] := by
  by_cases h0 : t.val % 4 = 0
  · rw [leftA m c t h0 h1]
  · rw [leftC m c t h0 h1]

theorem left9_odd (t : Fin cfg0.N) (h1 : ¬ t.val % 2 = 0) : (outsAt0 m c t.val t.isLt).2.2.1
    = View.canon [⟨all 128, dqpPay (pointReads m c t) scM0_0.view (View.readAt (Elt Ideal) (ms0_9 t).view (all 128).toLoadRect
        ((hs0_9 t).unread (outsAt0 m c (t.val - 1) (Nat.lt_of_le_of_lt (Nat.sub_le _ _) t.isLt)).2.2.1))⟩] := by
  rw [leftB m c t (by omega) h1]

theorem left10_first (t : Fin cfg0.N) (h0 : t.val % 4 = 0) : (outsAt0 m c t.val t.isLt).2.2.2
    = View.canon (peList (pointReads m c t) (ms0_10 t).view (fun L T => (ms0_10 t).view.readCov L (slot 0 (by decide) T).toLoadRect) [zeros] tiles) := by
  rw [leftA m c t h0 (by omega)]

theorem left10_next (t : Fin cfg0.N) (h0 : ¬ t.val % 4 = 0) : (outsAt0 m c t.val t.isLt).2.2.2
    = View.canon (peList (pointReads m c t) (ms0_10 t).view (fun _ T => View.readAt (Elt Ideal) (ms0_10 t).view (slot 0 (by decide) T).toLoadRect
        ((hs0_10 t).unread (outsAt0 m c (t.val - 1) (Nat.lt_of_le_of_lt (Nat.sub_le _ _) t.isLt)).2.2.2)) [] tiles) := by
  by_cases h1 : t.val % 2 = 0
  · rw [leftC m c t h0 h1]
  · rw [leftB m c t h0 h1]

section
variable (q : S4x8x2048x96.Idx → ℝ) (k : S4x8x2048x64.Idx → ℝ) (r : S4x1x2048x32.Idx → ℝ) (v : S4x8x2048x64.Idx → ℝ) (d : S4x2048x512.Idx → ℝ)
  (h0 : a0 m c = up q) (h1 : a1 m c = up k) (h2 : a2 m c = up r) (h3 : a3 m c = up v) (h4 : a4 m c = up d)
include h0 h1 h2 h3 h4

omit h0 h1 h2 h3 h4 in
theorem row_of (t : Fin cfg0.N) (i : Fin 2048) : (2048 * (t.val / 4) + i.val) / 2048 = t.val / 4 ∧ (2048 * (t.val / 4) + i.val) % 2048 = i.val := by omega

omit h0 h1 h2 h3 h4 in
theorem head_of (t : Fin cfg0.N) (h : Fin 2) : (2 * t.val + h.val) / 8 = t.val / 4 ∧ (2 * t.val + h.val) % 8 = 2 * (t.val % 4) + h.val := by omega

/-! The blocks of grid point `t`, by place: batch `t / 4`, pair `t % 4`. -/

omit h1 h2 h3 h4 in
theorem point0 (t : Fin cfg0.N) (i : Fin 2048) (l : Fin 128) : (iblk m c 0 t : S2048x128.Idx → EReal) (ix2 i l) = ((qOf q (t.val / 4) (t.val % 4) i l : ℝ) : EReal) := by
  have ht := point_lt t
  refine (blk0 t _ _ _).trans ((congrFun (entry57 m c) _).trans ?_)
  refine (q32 h0 ⟨2048 * (t.val / 4) + i, by omega⟩ ⟨128 * (t.val % 4) + l, by omega⟩).trans ?_
  show ((QX q ((2048 * (t.val / 4) + i.val) / 2048) ((128 * (t.val % 4) + l.val) / 64) ((2048 * (t.val / 4) + i.val) % 2048) ((128 * (t.val % 4) + l.val) % 64) : ℝ) : EReal) = _
  rw [(row_of t i).1, (row_of t i).2, qOf, if_pos l.isLt, show (128 * (t.val % 4) + l.val) / 64 = 2 * (t.val % 4) + l.val / 64 by omega,
    show (128 * (t.val % 4) + l.val) % 64 = l.val % 64 by omega]

omit h1 h2 h3 h4 in
theorem point1 (t : Fin cfg0.N) (i : Fin 2048) (l : Fin 128) : (iblk m c 1 t : S2048x128.Idx → EReal) (ix2 i l) = ((qOf q (t.val / 4) (t.val % 4) i (128 + l) : ℝ) : EReal) := by
  have ht := point_lt t
  refine (blk1 t _ _ _).trans ((congrFun (entry57 m c) _).trans ?_)
  have e := qr32 h0 ⟨2048 * (t.val / 4) + i, by omega⟩ ⟨128 * (t.val % 4 / 2) + l, by omega⟩
  refine Eq.trans ?_ (e.trans ?_)
  · refine congrArg (qAll (a0 m c)) (congrArg (ix2 _) (Fin.ext ?_))
    show 128 * (4 + t.val % 4 / 2) + l.val = 512 + (128 * (t.val % 4 / 2) + l.val)
    omega
  · show ((QX q ((2048 * (t.val / 4) + i.val) / 2048) ((128 * (t.val % 4 / 2) + l.val) / 128 * 4 + (128 * (t.val % 4 / 2) + l.val) / 16 % 4) ((2048 * (t.val / 4) + i.val) % 2048)
      (64 + ((128 * (t.val % 4 / 2) + l.val) / 64 % 2 * 16 + (128 * (t.val % 4 / 2) + l.val) % 16)) : ℝ) : EReal) = _
    rw [(row_of t i).1, (row_of t i).2, qOf, if_neg (by omega), show 128 + l.val - 128 = l.val by omega,
      show (128 * (t.val % 4 / 2) + l.val) / 128 * 4 + (128 * (t.val % 4 / 2) + l.val) / 16 % 4 = t.val % 4 / 2 * 4 + l.val / 16 % 4 by omega,
      show (128 * (t.val % 4 / 2) + l.val) / 64 % 2 * 16 + (128 * (t.val % 4 / 2) + l.val) % 16 = l.val / 64 * 16 + l.val % 16 by omega]

omit h0 h2 h4 in
theorem point2 (t : Fin cfg0.N) (j : Fin 2) (i : Fin 2048) (l : Fin 128) (n : ℕ) (hn : n < 256) (en : n = 128 * j.val + l.val) :
    (iblk m c 2 t : S2048x256.Idx → EReal) (ix2 i ⟨n, hn⟩) = ((nOf (if j.val = 0 then k else v) (t.val / 4) (t.val % 4) i l : ℝ) : EReal) := by
  have ht := point_lt t
  refine (blk2 t _ _ _).trans ((congrFun (entry66 m c) _).trans ?_)
  have e := kv32 h1 h3 ⟨2048 * (t.val / 4) + i, by omega⟩ ⟨t.val % 4, by omega⟩ j l
  refine Eq.trans ?_ (e.trans ?_)
  · refine congrArg (kvAll (a1 m c) (a3 m c)) (congrArg (ix2 _) (Fin.ext ?_))
    show 256 * (t.val % 4) + n = 256 * (t.val % 4) + 128 * j.val + l.val
    omega
  · show ((NX (if j.val = 0 then k else v) ((2048 * (t.val / 4) + i.val) / 2048) _ ((2048 * (t.val / 4) + i.val) % 2048) _ : ℝ) : EReal) = _
    rw [(row_of t i).1, (row_of t i).2]
    rfl

omit h0 h1 h3 h4 in
theorem point3 (t : Fin cfg0.N) (i : Fin 2048) (l : Fin 128) (n : ℕ) (hn : n < 128) (en : n = l.val) :
    (iblk m c 3 t : S2048x128.Idx → EReal) (ix2 i ⟨n, hn⟩) = ((rOf r (t.val / 4) i l : ℝ) : EReal) := by
  subst en
  refine (blk3 t _ _ _).trans ((congrFun (entry70 m c) _).trans ?_)
  refine (pe32 h2 _ _).trans ?_
  show ((PX r ((2048 * (t.val / 4) + i.val) / 2048) ((2048 * (t.val / 4) + i.val) % 2048) (16 * (l.val / 64) + l.val % 16) : ℝ) : EReal) = _
  rw [(row_of t i).1, (row_of t i).2, mul_comm 16]
  rfl

omit h0 h1 h2 h3 in
theorem point4 (t : Fin cfg0.N) (i : Fin 2048) (l : Fin 128) (n : ℕ) (hn : n < 128) (en : n = l.val) :
    (iblk m c 4 t : S2048x128.Idx → EReal) (ix2 i ⟨n, hn⟩) = ((dOf d (t.val / 4) (t.val % 4) i l : ℝ) : EReal) := by
  subst en
  refine (blk4 t _ _ _).trans ((congrFun (entry72 m c) _).trans ?_)
  refine (rows32 h4 _ _).trans ?_
  show ((DX d ((2048 * (t.val / 4) + i.val) / 2048) ((2048 * (t.val / 4) + i.val) % 2048) (128 * (t.val % 4) + l.val) : ℝ) : EReal) = _
  rw [(row_of t i).1, (row_of t i).2]
  rfl

omit h3 h4 in
theorem point5 (t : Fin cfg0.N) (h : Fin 2) (i : Fin 2048) : (iblk m c 5 t : S2x1x2048.Idx → EReal) (ix3 h 0 i) = ((lseR q k r (t.val / 4) (t.val % 4) h i : ℝ) : EReal) := by
  refine (blk5 t _ _ _).trans ((congrFun (entry73 m c) _).trans ?_)
  refine (lse32 h0 h1 h2 _ _).trans ?_
  show ((lse q k r ((2 * t.val + h.val) / 8) ((2 * t.val + h.val) % 8) i : ℝ) : EReal) = _
  rw [(head_of t h).1, (head_of t h).2]
  rfl

theorem point6 (t : Fin cfg0.N) (h : Fin 2) (i : Fin 2048) : (iblk m c 6 t : S2x1x2048.Idx → EReal) (ix3 h 0 i) = ((dltR q k r v d (t.val / 4) (t.val % 4) h i : ℝ) : EReal) := by
  refine (blk6 t _ _ _).trans ((congrFun (entry74 m c) _).trans ?_)
  refine (delta32 h0 h1 h2 h3 h4 _ _).trans ?_
  show ((dl (lg q k r ((2 * t.val + h.val) / 8) ((2 * t.val + h.val) % 8)) (M q k r ((2 * t.val + h.val) / 8) ((2 * t.val + h.val) % 8))
    (dP v d ((2 * t.val + h.val) / 8) ((2 * t.val + h.val) % 8)) i : ℝ) : EReal) = _
  rw [(head_of t h).1, (head_of t h).2]
  rfl

/-- The loads at grid point `t`. -/
theorem point_reads (t : Fin cfg0.N) :
    (pointReads m c t).Holds (qOf q (t.val / 4) (t.val % 4)) (nOf k (t.val / 4) (t.val % 4)) (nOf v (t.val / 4) (t.val % 4)) (rOf r (t.val / 4)) (dOf d (t.val / 4) (t.val % 4))
      (lseR q k r (t.val / 4) (t.val % 4)) (dltR q k r v d (t.val / 4) (t.val % 4)) (t.val % 4) :=
  reads_hold (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_1
    (iblk m c 0 t) (iblk m c 1 t) (iblk m c 2 t) (iblk m c 3 t) (iblk m c 4 t) (iblk m c 5 t) (iblk m c 6 t) _ _ _ _ _ _ _ _ (pair_of t) (by omega)
    (point0 m c q h0 t) (point1 m c q h0 t) (fun i l => point2 m c k v h1 h3 t 0 i l _ _ rfl) (fun i l => point2 m c k v h1 h3 t 1 i l _ _ rfl)
    (fun i l => point3 m c r h2 t i l _ _ (zero_add _)) (fun i l => point4 m c d h4 t i l _ _ (zero_add _))
    (point5 m c q k r h0 h1 h2 t) (point6 m c q k r v d h0 h1 h2 h3 h4 t)

omit h0 h1 h2 h3 h4 in
/-- The first output, whole: the gradients of the queries without rotary features. -/
def dqnOut (i : S8192x512.Idx) : EReal := ((rq q k r v d ((i 0).val / 2048) ((i 1).val / 64) ((i 0).val % 2048) ((i 1).val % 64) : ℝ) : EReal)

omit h0 h1 h2 h3 h4 in
/-- The second: the gradients of the keys and of the values, by pair of heads. -/
def dkvOut (i : S8192x1024.Idx) : EReal :=
  ((if (i 1).val % 256 < 128 then rk q k r v d ((i 0).val / 2048) (2 * ((i 1).val / 256) + (i 1).val % 128 / 64) ((i 0).val % 2048) ((i 1).val % 64)
    else rv q k r d ((i 0).val / 2048) (2 * ((i 1).val / 256) + (i 1).val % 128 / 64) ((i 0).val % 2048) ((i 1).val % 64) : ℝ) : EReal)

omit h0 h1 h2 h3 h4 in
/-- The third: the gradients of the queries' rotary features, by group of four heads. -/
def dqpOut (i : S8192x256.Idx) : EReal :=
  ((rq q k r v d ((i 0).val / 2048) (4 * ((i 1).val / 128) + (i 1).val % 128 / 16 % 4) ((i 0).val % 2048) (feat ((i 1).val % 128)) : ℝ) : EReal)

omit h0 h1 h2 h3 h4 in
/-- The fourth: the gradients of the keys' rotary features, both groups together. -/
def dkpOut (i : S8192x128.Idx) : EReal :=
  ((rk q k r v d ((i 0).val / 2048) ((i 1).val / 16 % 4) ((i 0).val % 2048) (feat (i 1).val)
    + rk q k r v d ((i 0).val / 2048) (4 + (i 1).val / 16 % 4) ((i 0).val % 2048) (feat (i 1).val) : ℝ) : EReal)

theorem final7 : (dats m 0 c).arrAt 7 cfg0.N = dqnOut q k r v d := by
  refine (dats m 0 c).arrAt_eq_of_covers 7 _ (by decide +kernel) fun t hf y => ?_
  refine (congrFun (after0_7 m c t) y).trans ?_
  idx_vars y
  refine (congrFun (left7 m c t) (ix2 y0 y1)).trans ?_
  refine (dqn_at (point_reads m c q k r v d h0 h1 h2 h3 h4 t) _ y0 y1).trans ?_
  refine Eq.trans (congrArg Real.toEReal (dq_nope q k r v d (t.val / 4) (t.val % 4) y0 y1 y1.isLt)) ?_
  refine Eq.trans ?_ (blk7 t _ y0 y1).symm
  show _ = ((rq q k r v d ((2048 * (t.val / 4) + y0.val) / 2048) ((128 * (t.val % 4) + y1.val) / 64) ((2048 * (t.val / 4) + y0.val) % 2048) ((128 * (t.val % 4) + y1.val) % 64) : ℝ) : EReal)
  rw [show (2048 * (t.val / 4) + y0.val) / 2048 = t.val / 4 by omega, show (2048 * (t.val / 4) + y0.val) % 2048 = y0.val by omega,
    show (128 * (t.val % 4) + y1.val) / 64 = 2 * (t.val % 4) + y1.val / 64 by omega, show (128 * (t.val % 4) + y1.val) % 64 = y1.val % 64 by omega]

theorem final8 : (dats m 0 c).arrAt 8 cfg0.N = dkvOut q k r v d := by
  refine (dats m 0 c).arrAt_eq_of_covers 8 _ (by decide +kernel) fun t hf y => ?_
  refine (congrFun (after0_8 m c t) y).trans ?_
  idx_vars y
  refine (congrFun (left8 m c t) (ix2 y0 y1)).trans ?_
  refine Eq.trans ?_ (blk8 t _ y0 y1).symm
  show _ = ((if (256 * (t.val % 4) + y1.val) % 256 < 128 then rk q k r v d ((2048 * (t.val / 4) + y0.val) / 2048) (2 * ((256 * (t.val % 4) + y1.val) / 256) + (256 * (t.val % 4) + y1.val) % 128 / 64)
      ((2048 * (t.val / 4) + y0.val) % 2048) ((256 * (t.val % 4) + y1.val) % 64)
    else rv q k r d ((2048 * (t.val / 4) + y0.val) / 2048) (2 * ((256 * (t.val % 4) + y1.val) / 256) + (256 * (t.val % 4) + y1.val) % 128 / 64)
      ((2048 * (t.val / 4) + y0.val) % 2048) ((256 * (t.val % 4) + y1.val) % 64) : ℝ) : EReal)
  rw [show (2048 * (t.val / 4) + y0.val) / 2048 = t.val / 4 by omega, show (2048 * (t.val / 4) + y0.val) % 2048 = y0.val by omega,
    show (256 * (t.val % 4) + y1.val) % 256 = y1.val by omega, show (256 * (t.val % 4) + y1.val) / 256 = t.val % 4 by omega]
  have hR := point_reads m c q k r v d h0 h1 h2 h3 h4 t
  by_cases hl : y1.val < 128
  · rw [if_pos hl]
    refine (dk_at hR (ms0_8 t).view y0 ⟨y1.val, hl⟩).trans (congrArg Real.toEReal ?_)
    refine (dk_nope q k r v d (t.val / 4) (t.val % 4) y0 y1.val hl).trans ?_
    rw [show (256 * (t.val % 4) + y1.val) % 128 / 64 = y1.val / 64 by omega, show (256 * (t.val % 4) + y1.val) % 64 = y1.val % 64 by omega]
  · rw [if_neg hl]
    have hb : ∀ l : Fin 128, 128 + l.val < 256 := fun l => by omega
    obtain ⟨l, rfl⟩ : ∃ l : Fin 128, y1 = ⟨128 + l.val, hb l⟩ := ⟨⟨y1.val - 128, by omega⟩, Fin.ext (by show y1.val = 128 + (y1.val - 128); omega)⟩
    refine (dv_at hR (ms0_8 t).view y0 l).trans (congrArg Real.toEReal ?_)
    refine (dv_eq q k r d (t.val / 4) (t.val % 4) y0 l.val l.isLt).trans ?_
    show _ = rv q k r d _ (2 * (t.val % 4) + (256 * (t.val % 4) + (128 + l.val)) % 128 / 64) _ ((256 * (t.val % 4) + (128 + l.val)) % 64)
    rw [show (256 * (t.val % 4) + (128 + l.val)) % 128 / 64 = l.val / 64 by omega, show (256 * (t.val % 4) + (128 + l.val)) % 64 = l.val % 64 by omega]

/-! The two outputs that gather over the pairs of a batch: what each pair leaves in the block. -/

theorem even9 (t : Fin cfg0.N) (ht : t.val % 2 = 0) (i : Fin 2048) (j : Fin 128) :
    (outsAt0 m c t.val t.isLt).2.2.1 (ix2 i j) = ((dqOfPair q k r v d (t.val / 4) (t.val % 4) i (128 + j) : ℝ) : EReal) := by
  refine (congrFun (left9_even m c t ht) (ix2 i j)).trans ((canon_all _ _ i j).trans ?_)
  refine (dqp_at (point_reads m c q k r v d h0 h1 h2 h3 h4 t) _ (f := fun _ _ => 0) (fun a b => ?_) i j).trans (congrArg Real.toEReal (zero_add _))
  exact (read_at _ _ a b (by omega) (by omega)).trans ((canon_all _ _ _ _).trans (zero_at _ _))

theorem odd9 (t : Fin cfg0.N) (ht : ¬ t.val % 2 = 0) (i : Fin 2048) (j : Fin 128) :
    (outsAt0 m c t.val t.isLt).2.2.1 (ix2 i j) = ((rq q k r v d (t.val / 4) (4 * (t.val % 4 / 2) + j.val / 16 % 4) i (feat j) : ℝ) : EReal) := by
  have hlt := point_lt t
  refine (congrFun (left9_odd m c t ht) (ix2 i j)).trans ((canon_all _ _ i j).trans ?_)
  refine (dqp_at (point_reads m c q k r v d h0 h1 h2 h3 h4 t) _ (f := fun a b => dqOfPair q k r v d (t.val / 4) (2 * (t.val % 4 / 2)) a (128 + b)) (fun a b => ?_) i j).trans
    (congrArg Real.toEReal ?_)
  · refine (Memref.IsWhole.readAt_unread (hs0_9 t) _ _ _).trans ((congrArg _ (idx₂ (A := 2048) a b (by omega) (by omega))).trans ?_)
    refine (even9 m c q k r v d h0 h1 h2 h3 h4 ⟨t.val - 1, by omega⟩ (by show (t.val - 1) % 2 = 0; omega) _ _).trans ?_
    show ((dqOfPair q k r v d ((t.val - 1) / 4) ((t.val - 1) % 4) (0 + a.val) (128 + (0 + b.val)) : ℝ) : EReal) = _
    rw [show (t.val - 1) / 4 = t.val / 4 by omega, show (t.val - 1) % 4 = 2 * (t.val % 4 / 2) by omega, zero_add, zero_add]
  · refine Eq.trans ?_ (dq_group q k r v d (t.val / 4) (t.val % 4 / 2) i j)
    show _ + dqOfPair q k r v d (t.val / 4) (t.val % 4) i (128 + j) = _
    rw [show 2 * (t.val % 4 / 2) + 1 = t.val % 4 by omega]

omit h0 h1 h2 h3 h4 in
/-- The gradients of the keys' rotary features over a batch's first pairs. -/
def peSum (b n t l : ℕ) : ℝ := ∑ p ∈ Finset.range n, peOfPair q k r v d b p t l

theorem sum10 (n : ℕ) (hn : n < cfg0.N) (i : Fin 2048) (j : Fin 128) :
    (outsAt0 m c n hn).2.2.2 (ix2 i j) = ((peSum q k r v d (n / 4) (n % 4 + 1) i j : ℝ) : EReal) := by
  induction n generalizing i j with
  | zero =>
    refine (congrFun (left10_first m c ⟨0, hn⟩ rfl) (ix2 i j)).trans ?_
    refine (pe_zero (point_reads m c q k r v d h0 h1 h2 h3 h4 ⟨0, hn⟩) _ i j).trans (congrArg Real.toEReal ?_)
    simp [peSum]
  | succ n ih =>
    by_cases hz : (n + 1) % 4 = 0
    · refine (congrFun (left10_first m c ⟨n + 1, hn⟩ hz) (ix2 i j)).trans ?_
      refine (pe_zero (point_reads m c q k r v d h0 h1 h2 h3 h4 ⟨n + 1, hn⟩) _ i j).trans (congrArg Real.toEReal ?_)
      show peOfPair q k r v d ((n + 1) / 4) ((n + 1) % 4) i j = _
      rw [hz]
      simp [peSum]
    · refine (congrFun (left10_next m c ⟨n + 1, hn⟩ hz) (ix2 i j)).trans ?_
      refine (pe_at (point_reads m c q k r v d h0 h1 h2 h3 h4 ⟨n + 1, hn⟩) _ (O := fun a b => peSum q k r v d (n / 4) (n % 4 + 1) a b) (fun L T _ a b => ?_) i j).trans
        (congrArg Real.toEReal ?_)
      · refine (Memref.IsWhole.readAt_unread (hs0_10 ⟨n + 1, hn⟩) _ _ _).trans ((congrArg _ (idx₂ (A := 2048) a b (by have := T.hk; omega) (by omega))).trans ?_)
        refine (ih (by omega) _ _).trans ?_
        simp only [zero_add]
      · show peSum q k r v d (n / 4) (n % 4 + 1) i j + peOfPair q k r v d ((n + 1) / 4) ((n + 1) % 4) i j = _
        rw [show (n + 1) / 4 = n / 4 by omega, show (n + 1) % 4 = n % 4 + 1 by omega]
        exact (Finset.sum_range_succ (fun p => peOfPair q k r v d (n / 4) p i j) (n % 4 + 1)).symm

theorem final9 : (dats m 0 c).arrAt 9 cfg0.N = dqpOut q k r v d := by
  refine (dats m 0 c).arrAt_eq_of_covers 9 _ (by decide +kernel) fun t hf y => ?_
  have ho : ¬ t.val % 2 = 0 := (by decide +kernel : ∀ t : Fin grid0.N, win0_9.flush t = true → ¬ t.val % 2 = 0) t hf
  refine (congrFun (after0_9 m c t) y).trans ?_
  idx_vars y
  refine (odd9 m c q k r v d h0 h1 h2 h3 h4 t ho y0 y1).trans ?_
  refine Eq.trans ?_ (blk9 t _ y0 y1).symm
  show _ = ((rq q k r v d ((2048 * (t.val / 4) + y0.val) / 2048) (4 * ((128 * (t.val % 4 / 2) + y1.val) / 128) + (128 * (t.val % 4 / 2) + y1.val) % 128 / 16 % 4)
    ((2048 * (t.val / 4) + y0.val) % 2048) (feat ((128 * (t.val % 4 / 2) + y1.val) % 128)) : ℝ) : EReal)
  rw [show (2048 * (t.val / 4) + y0.val) / 2048 = t.val / 4 by omega, show (2048 * (t.val / 4) + y0.val) % 2048 = y0.val by omega,
    show (128 * (t.val % 4 / 2) + y1.val) / 128 = t.val % 4 / 2 by omega, show (128 * (t.val % 4 / 2) + y1.val) % 128 = y1.val by omega]

theorem final10 : (dats m 0 c).arrAt 10 cfg0.N = dkpOut q k r v d := by
  refine (dats m 0 c).arrAt_eq_of_covers 10 _ (by decide +kernel) fun t hf y => ?_
  have ho : t.val % 4 = 3 := (by decide +kernel : ∀ t : Fin grid0.N, win0_10.flush t = true → t.val % 4 = 3) t hf
  refine (congrFun (after0_10 m c t) y).trans ?_
  idx_vars y
  refine (sum10 m c q k r v d h0 h1 h2 h3 h4 t.val t.isLt y0 y1).trans ?_
  refine Eq.trans ?_ (blk10 t _ y0 y1).symm
  show _ = ((rk q k r v d ((2048 * (t.val / 4) + y0.val) / 2048) (y1.val / 16 % 4) ((2048 * (t.val / 4) + y0.val) % 2048) (feat y1)
    + rk q k r v d ((2048 * (t.val / 4) + y0.val) / 2048) (4 + y1.val / 16 % 4) ((2048 * (t.val / 4) + y0.val) % 2048) (feat y1) : ℝ) : EReal)
  rw [show (2048 * (t.val / 4) + y0.val) / 2048 = t.val / 4 by omega, show (2048 * (t.val / 4) + y0.val) % 2048 = y0.val by omega, ho, ← pe_all]
  simp only [peSum, Finset.sum_range_succ, Finset.sum_range_zero, zero_add]
end

/-- The precondition makes all five arguments arrays of reals. -/
theorem finite (x0 : FVec Ideal Pre_mla_finite.S4x8x2048x96 .f32) (x1 : FVec Ideal Pre_mla_finite.S4x8x2048x64 .f32) (x2 : FVec Ideal Pre_mla_finite.S4x1x2048x32 .f32)
    (x3 : FVec Ideal Pre_mla_finite.S4x8x2048x64 .f32) (x4 : FVec Ideal Pre_mla_finite.S4x2048x512 .f32)
    (h : Cert.Pre_mla_finite.fn (F := Ideal) x0 x1 x2 x3 x4 = fun _ => 1#1) :
    (∃ f, x0 = up f) ∧ (∃ f, x1 = up f) ∧ (∃ f, x2 = up f) ∧ (∃ f, x3 = up f) ∧ ∃ f, x4 = up f := by
  have e := congrFun h ix0
  obtain ⟨e0123, e4⟩ := IntOp.andi_eq_one.1 e
  obtain ⟨e012, e3⟩ := IntOp.andi_eq_one.1 e0123
  obtain ⟨e01, e2⟩ := IntOp.andi_eq_one.1 e012
  obtain ⟨e0, e1⟩ := IntOp.andi_eq_one.1 e01
  exact ⟨real_of_all x0 _ _ _ _ e0, real_of_all x1 _ _ _ _ e1, real_of_all x2 _ _ _ _ e2, real_of_all x3 _ _ _ _ e3, real_of_all x4 _ _ _ _ e4⟩

/-! The derivative's four results, at an index. -/

section
variable (q : S4x8x2048x96.Idx → ℝ) (k : S4x8x2048x64.Idx → ℝ) (r : S4x1x2048x32.Idx → ℝ) (v : S4x8x2048x64.Idx → ℝ) (d : S4x2048x512.Idx → ℝ)

theorem ref7 (s : Fin 8192) (l : Fin 512) : Cert.MlaReferenceIdeal.Read.val_main_v91 (F := Ideal) (up q) (up k) (up r) (up v) (up d) (ix2 s l) = dqnOut q k r v d (ix2 s l) := by
  have e := v91_at q k r v d ⟨s.val / 2048, by omega⟩ ⟨s.val % 2048, by omega⟩ ⟨l.val / 64, by omega⟩ ⟨l.val % 64, by omega⟩
  refine Eq.trans (congrArg _ (congrArg₂ ix2 (Fin.ext ?_) (Fin.ext ?_))) e
  · show s.val = 2048 * (s.val / 2048) + s.val % 2048; omega
  · show l.val = 64 * (l.val / 64) + l.val % 64; omega

theorem ref8 (s : Fin 8192) (l : Fin 1024) : Cert.MlaReferenceIdeal.Read.val_main_v92 (F := Ideal) (up q) (up k) (up r) (up v) (up d) (ix2 s l) = dkvOut q k r v d (ix2 s l) := by
  have el : ∀ j : Fin 2, l.val % 256 / 128 = j.val → l.val = 256 * (l.val / 256) + 128 * j.val + 64 * (l.val % 128 / 64) + l.val % 64 := fun j hj => by omega
  have e := fun j => v92_at q k r v d ⟨s.val / 2048, by omega⟩ ⟨s.val % 2048, by omega⟩ ⟨l.val / 256, by omega⟩ j ⟨l.val % 128 / 64, by omega⟩ ⟨l.val % 64, by omega⟩
  by_cases hl : l.val % 256 < 128
  · refine Eq.trans (congrArg _ (congrArg₂ ix2 (Fin.ext ?_) (Fin.ext ?_))) ((e 0).trans (congrArg Real.toEReal ?_))
    · show s.val = 2048 * (s.val / 2048) + s.val % 2048; omega
    · exact el 0 (by show l.val % 256 / 128 = 0; omega)
    · exact (if_pos hl).symm
  · refine Eq.trans (congrArg _ (congrArg₂ ix2 (Fin.ext ?_) (Fin.ext ?_))) ((e 1).trans (congrArg Real.toEReal ?_))
    · show s.val = 2048 * (s.val / 2048) + s.val % 2048; omega
    · exact el 1 (by show l.val % 256 / 128 = 1; omega)
    · exact (if_neg hl).symm

theorem ref9 (s : Fin 8192) (l : Fin 256) : Cert.MlaReferenceIdeal.Read.val_main_v83 (F := Ideal) (up q) (up k) (up r) (up v) (up d) (ix2 s l) = dqpOut q k r v d (ix2 s l) := by
  have e := v83_at q k r v d ⟨s.val / 2048, by omega⟩ ⟨s.val % 2048, by omega⟩ ⟨l.val / 128, by omega⟩ ⟨l.val % 128 / 64, by omega⟩ ⟨l.val % 64 / 16, by omega⟩ ⟨l.val % 16, by omega⟩
  refine Eq.trans (congrArg _ (congrArg₂ ix2 (Fin.ext ?_) (Fin.ext ?_))) (e.trans (congrArg Real.toEReal ?_))
  · show s.val = 2048 * (s.val / 2048) + s.val % 2048; omega
  · show l.val = 128 * (l.val / 128) + 64 * (l.val % 128 / 64) + 16 * (l.val % 64 / 16) + l.val % 16; omega
  · show rq q k r v d (s.val / 2048) (4 * (l.val / 128) + l.val % 64 / 16) (s.val % 2048) (64 + 16 * (l.val % 128 / 64) + l.val % 16)
      = rq q k r v d (s.val / 2048) (4 * (l.val / 128) + l.val % 128 / 16 % 4) (s.val % 2048) (64 + (l.val % 128 / 64 * 16 + l.val % 128 % 16))
    rw [show l.val % 64 / 16 = l.val % 128 / 16 % 4 by omega, show 64 + 16 * (l.val % 128 / 64) + l.val % 16 = 64 + (l.val % 128 / 64 * 16 + l.val % 128 % 16) by omega]

theorem ref10 (s : Fin 8192) (l : Fin 128) : Cert.MlaReferenceIdeal.Read.val_main_v86 (F := Ideal) (up q) (up k) (up r) (up v) (up d) (ix2 s l) = dkpOut q k r v d (ix2 s l) := by
  have e := v86_at q k r v d ⟨s.val / 2048, by omega⟩ ⟨s.val % 2048, by omega⟩ ⟨l.val / 64, by omega⟩ ⟨l.val % 64 / 16, by omega⟩ ⟨l.val % 16, by omega⟩
  refine Eq.trans (congrArg _ (congrArg₂ ix2 (Fin.ext ?_) (Fin.ext ?_))) (e.trans (congrArg Real.toEReal ?_))
  · show s.val = 2048 * (s.val / 2048) + s.val % 2048; omega
  · show l.val = 64 * (l.val / 64) + 16 * (l.val % 64 / 16) + l.val % 16; omega
  · show rk q k r v d (s.val / 2048) (l.val % 64 / 16) (s.val % 2048) (64 + 16 * (l.val / 64) + l.val % 16)
        + rk q k r v d (s.val / 2048) (4 + l.val % 64 / 16) (s.val % 2048) (64 + 16 * (l.val / 64) + l.val % 16)
      = rk q k r v d (s.val / 2048) (l.val / 16 % 4) (s.val % 2048) (64 + (l.val / 64 * 16 + l.val % 16))
        + rk q k r v d (s.val / 2048) (4 + l.val / 16 % 4) (s.val % 2048) (64 + (l.val / 64 * 16 + l.val % 16))
    rw [show l.val % 64 / 16 = l.val / 16 % 4 by omega, show 64 + 16 * (l.val / 64) + l.val % 16 = 64 + (l.val / 64 * 16 + l.val % 16) by omega]
end

/-! Each output's array is the derivative's result, where the arguments agree and are real. -/

section
variable (m' : (ℓ : Loc Cert.MlaReferenceIdeal.nD Cert.MlaReferenceIdeal.τ Cert.MlaReferenceIdeal.sig) → Buf (Elt Ideal) ℓ)
  (q : S4x8x2048x96.Idx → ℝ) (k : S4x8x2048x64.Idx → ℝ) (r : S4x1x2048x32.Idx → ℝ) (v : S4x8x2048x64.Idx → ℝ) (d : S4x2048x512.Idx → ℝ)
  (h0 : a0 m c = up q) (h1 : a1 m c = up k) (h2 : a2 m c = up r) (h3 : a3 m c = up v) (h4 : a4 m c = up d)
  (e0 : m' ((c.tc : Thread _ _).loc Cert.MlaReferenceIdeal.main_arg0) = a0 m c) (e1 : m' ((c.tc : Thread _ _).loc Cert.MlaReferenceIdeal.main_arg1) = a1 m c)
  (e2 : m' ((c.tc : Thread _ _).loc Cert.MlaReferenceIdeal.main_arg2) = a2 m c) (e3 : m' ((c.tc : Thread _ _).loc Cert.MlaReferenceIdeal.main_arg3) = a3 m c)
  (e4 : m' ((c.tc : Thread _ _).loc Cert.MlaReferenceIdeal.main_arg4) = a4 m c)
include h0 h1 h2 h3 h4 e0 e1 e2 e3 e4

theorem agree7 : (dats m 0 c).arrAt 7 cfg0.N = Cert.MlaReferenceIdeal.Value.res_main_v91 m' c := by
  rw [final7 m c q k r v d h0 h1 h2 h3 h4, Cert.MlaReferenceIdeal.Read.val_main_v91_eq, e0, e1, e2, e3, e4, h0, h1, h2, h3, h4]
  funext i
  idx_vars i
  exact (ref7 q k r v d i0 i1).symm

theorem agree8 : (dats m 0 c).arrAt 8 cfg0.N = Cert.MlaReferenceIdeal.Value.res_main_v92 m' c := by
  rw [final8 m c q k r v d h0 h1 h2 h3 h4, Cert.MlaReferenceIdeal.Read.val_main_v92_eq, e0, e1, e2, e3, e4, h0, h1, h2, h3, h4]
  funext i
  idx_vars i
  exact (ref8 q k r v d i0 i1).symm

theorem agree9 : (dats m 0 c).arrAt 9 cfg0.N = Cert.MlaReferenceIdeal.Value.res_main_v83 m' c := by
  rw [final9 m c q k r v d h0 h1 h2 h3 h4, Cert.MlaReferenceIdeal.Read.val_main_v83_eq, e0, e1, e2, e3, e4, h0, h1, h2, h3, h4]
  funext i
  idx_vars i
  exact (ref9 q k r v d i0 i1).symm

theorem agree10 : (dats m 0 c).arrAt 10 cfg0.N = Cert.MlaReferenceIdeal.Value.res_main_v86 m' c := by
  rw [final10 m c q k r v d h0 h1 h2 h3 h4, Cert.MlaReferenceIdeal.Read.val_main_v86_eq, e0, e1, e2, e3, e4, h0, h1, h2, h3, h4]
  funext i
  idx_vars i
  exact (ref10 q k r v d i0 i1).symm
end

/-- The kernel's four gradients are the derivative's. -/
theorem algebraic : Cert.algebraic_MlaKernelIdeal_MlaReferenceIdeal_pre_mla_finite := by
  pair_intro
  · run_from Cert.MlaKernelIdeal.Value.run_blocks m g
  · refine (θ_run _ _ _).mono (fun s h c => ?_) (Cert.MlaReferenceIdeal.Value.run (F := Ideal) m' g')
    obtain ⟨h0, h1, h2, h3, hk⟩ := h c
    obtain ⟨e0, e1, e2, e3, e4⟩ := hagree c
    obtain ⟨⟨q, hq⟩, ⟨k, hk'⟩, ⟨r, hr⟩, ⟨v, hv⟩, ⟨d, hd⟩⟩ := finite _ _ _ _ _ (hpre c)
    exact ⟨h0.trans (agree7 m c m' q k r v d hq hk' hr hv hd e0 e1 e2 e3 e4).symm, h1.trans (agree8 m c m' q k r v d hq hk' hr hv hd e0 e1 e2 e3 e4).symm,
      h2.trans (agree9 m c m' q k r v d hq hk' hr hv hd e0 e1 e2 e3 e4).symm, h3.trans (agree10 m c m' q k r v d hq hk' hr hv hd e0 e1 e2 e3 e4).symm, hk⟩

/-- The reference runs and keeps its arguments; it has no counters. -/
theorem frame_reference : Cert.quiescent_MlaReferenceIdeal := fun m g _ =>
  (θ_run _ _ _).mono (fun _ h => ⟨fun c => (h c).2.2.2.2, no_counters rfl rfl _ _⟩) (Cert.MlaReferenceIdeal.Value.run (F := Idealize.ShloMosaic.Ideal) m g)

end Cert.Mla
-- ==== Proof.Swi.lean ====
module

public import proofs.«01_k».proof.Proof.Attn
public import proofs.«01_k».proof.Proof.Soft
public import proofs.«01_k».proof.Proof.Gen.SwiKernelIdeal.Value
public import proofs.«01_k».proof.Proof.Gen.SwiReferenceIdeal.Read
public import proofs.«01_k».proof.Proof.Gen.SwiReferenceIdeal.Run
public import proofs.«01_k».proof.Proof.Gen.Pre_swi_finite
public import proofs.«01_k».proof.Defs
public import Idealize.ShloMosaic.Lib.WholeRead
public import Idealize.ShloMosaic.Lib.StableHlo.RunRead

/-! The gradient of the gated activation: what the kernel's two outputs hold, and that they are the gradients of
    `silu g · u` at the product of the incoming gradient with the transposed weights. -/

@[expose] public section
set_option maxRecDepth 16384

noncomputable section

namespace Cert.Swi

open Idealize.ShloMosaic Idealize.ShloMosaic.TcCoe Idealize.SL.Sem Reals Attn

/-- The logistic function as the programs write it. -/
def sg (z : ℝ) : ℝ := 1 / (1 + Real.exp (-z))

theorem one_pos (z : ℝ) : 0 < 1 + Real.exp (-z) := by positivity

theorem one : (1 : EReal) = ((1 : ℝ) : EReal) := EReal.coe_one.symm

section
open Cert.SwiReferenceIdeal Cert.SwiReferenceIdeal.Gen Cert.SwiReferenceIdeal.Read
variable (h dy : S8192x1024.Idx → ℝ) (wg wu : S1024x2816.Idx → ℝ) (wd : S2816x1024.Idx → ℝ)

/-- An array of reals. -/
abbrev up {s : Shape} (f : s.Idx → ℝ) : FVec Ideal s .f32 := fun i => ((f i : ℝ) : EReal)

/-- A product of the hidden rows with the weights of the gate or of the linear branch; -/
def lin (w : S1024x2816.Idx → ℝ) (r : Fin 8192) (c : Fin 2816) : ℝ := ∑ d : Fin 1024, h (ix2 r d) * w (ix2 d c)
/-- the gradient of the activation. -/
def da (r : Fin 8192) (c : Fin 2816) : ℝ := ∑ d : Fin 1024, dy (ix2 r d) * wd (ix2 c d)

theorem lin_at (w : S1024x2816.Idx → ℝ) (r : Fin 8192) (c : Fin 2816) : val_main_v0 (F := Ideal) (up h) (up w) (ix2 r c) = ((lin h w r c : ℝ) : EReal) := by
  pointwise [val_main_v0]
  simp only [← EReal.coe_mul, coe_sum, lin]

theorem da_at (r : Fin 8192) (c : Fin 2816) : val_main_v5 (F := Ideal) (up wd) (up dy) (ix2 r c) = ((da dy wd r c : ℝ) : EReal) := by
  pointwise [val_main_v5]
  simp only [← EReal.coe_mul, coe_sum, da]

/-- The two gradients. -/
def byGate (r : Fin 8192) (c : Fin 2816) : ℝ := da dy wd r c * (lin h wu r c * (sg (lin h wg r c) * (1 + lin h wg r c * (1 - sg (lin h wg r c)))))
def byUp (r : Fin 8192) (c : Fin 2816) : ℝ := da dy wd r c * (lin h wg r c * sg (lin h wg r c))

theorem sg_at (r : Fin 8192) (c : Fin 2816) : val_main_v2_2 (F := Ideal) (up h) (up wg) (ix2 r c) = ((sg (lin h wg r c) : ℝ) : EReal) := by
  have e := lin_at h wg r c
  unfold val_main_v2_2 val_main_call0_v3 val_main_call0_v1 val_main_call0_v0
  generalize val_main_v0 (F := Ideal) (up h) (up wg) = y at e ⊢
  pointwise [val_main_call0_v4, val_main_call0_v2, val_main_call0_cst, val_main_call0_cst_0]
  rw [e, ← EReal.coe_neg, Ideal.exp_coe, one, ← EReal.coe_add, Soft.div_coe _ _ (one_pos _).ne']
  rfl

/-- The reference's two results. -/
theorem ref9 (r : Fin 8192) (c : Fin 2816) : val_main_v9 (F := Ideal) (up h) (up wg) (up wu) (up wd) (up dy) (ix2 r c) = ((byGate h dy wg wu wd r c : ℝ) : EReal) := by
  have e0 := lin_at h wg r c
  have e1 : val_main_v1 (F := Ideal) (up h) (up wu) (ix2 r c) = _ := lin_at h wu r c
  have e2 := sg_at h wg r c
  have e5 := da_at dy wd r c
  unfold val_main_v9 val_main_v8 val_main_call1_v2 val_main_call1_v1 val_main_call1_v0 val_main_v7 val_main_v2_1 val_main_call0_v7
  generalize val_main_v0 (F := Ideal) (up h) (up wg) = y0 at e0 ⊢
  generalize val_main_v1 (F := Ideal) (up h) (up wu) = y1 at e1 ⊢
  generalize val_main_v2_2 (F := Ideal) (up h) (up wg) = y2 at e2 ⊢
  generalize val_main_v5 (F := Ideal) (up wd) (up dy) = y5 at e5 ⊢
  pointwise [val_main_call0_v6, val_main_call0_cst_1]
  simp only [e0, e1, e2, e5, one, ← EReal.coe_mul, ← EReal.coe_sub, ← EReal.coe_add]
  refine congrArg Real.toEReal ?_
  unfold byGate
  ring

theorem ref10 (r : Fin 8192) (c : Fin 2816) : val_main_v10 (F := Ideal) (up h) (up wg) (up wd) (up dy) (ix2 r c) = ((byUp h dy wg wd r c : ℝ) : EReal) := by
  have e0 := lin_at h wg r c
  have e2 := sg_at h wg r c
  have e5 := da_at dy wd r c
  unfold val_main_v10 val_main_v6 val_main_v2_0
  generalize val_main_v0 (F := Ideal) (up h) (up wg) = y0 at e0 ⊢
  generalize val_main_v2_2 (F := Ideal) (up h) (up wg) = y2 at e2 ⊢
  generalize val_main_v5 (F := Ideal) (up wd) (up dy) = y5 at e5 ⊢
  pointwise
  simp only [e0, e2, e5, ← EReal.coe_mul]
  refine congrArg Real.toEReal ?_
  unfold byUp
  ring

/-- What the forward pass saves, in the reference's own words. -/
def savedGate {F : FTy → Type} [FloatOps F] (x0 : FVec F S8192x1024 .f32) (x1 x2 : FVec F S1024x2816 .f32) : FVec F S8192x2816 .bf16 :=
  truncf .bf16 (mulf (val_main_v1 (F := F) x0 x2) (mulf (val_main_v2_2 (F := F) x0 x1) (addf (val_main_call0_v6 (F := F))
    (mulf (val_main_v0 (F := F) x0 x1) (val_main_call0_v7 (F := F) x0 x1))))) bitsLt_bf16_f32
def savedUp {F : FTy → Type} [FloatOps F] (x0 : FVec F S8192x1024 .f32) (x1 : FVec F S1024x2816 .f32) : FVec F S8192x2816 .bf16 :=
  truncf .bf16 (val_main_v2_0 (F := F) x0 x1) bitsLt_bf16_f32

theorem savedGate_at (r : Fin 8192) (c : Fin 2816) : savedGate (F := Ideal) (up h) (up wg) (up wu) (ix2 r c)
    = ((lin h wu r c * (sg (lin h wg r c) * (1 + lin h wg r c * (1 - sg (lin h wg r c)))) : ℝ) : EReal) := by
  have e0 := lin_at h wg r c
  have e1 : val_main_v1 (F := Ideal) (up h) (up wu) (ix2 r c) = _ := lin_at h wu r c
  have e2 := sg_at h wg r c
  unfold savedGate val_main_call0_v7
  generalize val_main_v0 (F := Ideal) (up h) (up wg) = y0 at e0 ⊢
  generalize val_main_v1 (F := Ideal) (up h) (up wu) = y1 at e1 ⊢
  generalize val_main_v2_2 (F := Ideal) (up h) (up wg) = y2 at e2 ⊢
  pointwise [val_main_call0_v6, val_main_call0_cst_1]
  simp only [e0, e1, e2, one, ← EReal.coe_mul, ← EReal.coe_sub, ← EReal.coe_add]

theorem savedUp_at (r : Fin 8192) (c : Fin 2816) : savedUp (F := Ideal) (up h) (up wg) (ix2 r c) = ((lin h wg r c * sg (lin h wg r c) : ℝ) : EReal) := by
  have e0 := lin_at h wg r c
  have e2 := sg_at h wg r c
  unfold savedUp val_main_v2_0
  generalize val_main_v0 (F := Ideal) (up h) (up wg) = y0 at e0 ⊢
  generalize val_main_v2_2 (F := Ideal) (up h) (up wg) = y2 at e2 ⊢
  pointwise
  simp only [e0, e2, ← EReal.coe_mul]
end

/-! ## The kernel -/

section
open Cert.SwiKernelIdeal Cert.SwiKernelIdeal.Gen Cert.SwiKernelIdeal.Value

theorem idx : ∀ t : Fin cfg0.N, win0_0.index t = ![t.val % 16, 0] ∧ win0_1.index t = ![t.val / 16, 0]
    ∧ win0_2.index t = ![t.val % 16, t.val / 16] ∧ win0_3.index t = ![t.val % 16, t.val / 16]
    ∧ win0_4.index t = ![t.val % 16, t.val / 16] ∧ win0_5.index t = ![t.val % 16, t.val / 16] :=
  (by decide +kernel : ∀ t : Fin grid0.N, _)

theorem point_lt (t : Fin cfg0.N) : t.val < 32 := t.isLt

/-- The product of a block of rows with a block of weights, on reals. -/
theorem prod_at (P0 : FVec Ideal S512x1024 .bf16) (P1 : FVec Ideal S1408x1024 .bf16) (f g : ℕ → ℕ → ℝ) (h0 : Is P0 f) (h1 : Is P1 g) :
    Is (k0_pay1 (F := Ideal) P0 P1) fun r c => ∑ d : Fin 1024, f r d * g c d :=
  (h0.self shapeCasts_S512x1024_S512x1024).matmulNT (h1.self shapeCasts_S1408x1024_S1408x1024)

variable (m : (ℓ : Loc nD τ sig) → Buf (Elt Ideal) ℓ) (c : Dev nD)

theorem blk0 (t : Fin cfg0.N) (W : S8192x1024.Idx → EReal) (i : Fin 512) (j : Fin 1024) :
    (((cfg0.win 0).blk t).view.read (Elt Ideal) W : S512x1024.Idx → EReal) (ix2 i j) = W (ix2 ⟨512 * (t.val % 16) + i, by have := point_lt t; omega⟩ j) := by
  have := point_lt t
  blk_simp [idx t]
  blk_ext [idx t]

theorem blk1 (t : Fin cfg0.N) (W : S2816x1024.Idx → EReal) (i : Fin 1408) (j : Fin 1024) :
    (((cfg0.win 1).blk t).view.read (Elt Ideal) W : S1408x1024.Idx → EReal) (ix2 i j) = W (ix2 ⟨1408 * (t.val / 16) + i, by have := point_lt t; omega⟩ j) := by
  have := point_lt t
  blk_simp [idx t]
  blk_ext [idx t]

theorem blk2 (t : Fin cfg0.N) (W : S8192x2816.Idx → EReal) (i : Fin 512) (j : Fin 1408) :
    (((cfg0.win 2).blk t).view.read (Elt Ideal) W : S512x1408.Idx → EReal) (ix2 i j)
      = W (ix2 ⟨512 * (t.val % 16) + i, by have := point_lt t; omega⟩ ⟨1408 * (t.val / 16) + j, by have := point_lt t; omega⟩) := by
  have := point_lt t
  blk_simp [idx t]
  blk_ext [idx t]

theorem blk4 {α : Type} (t : Fin cfg0.N) (W : S8192x2816.Idx → α) (i : Fin 512) (j : Fin 1408) :
    W ((win0_4.blk t).view.emb (ix2 i j)) = W (ix2 ⟨512 * (t.val % 16) + i, by have := point_lt t; omega⟩ ⟨1408 * (t.val / 16) + j, by have := point_lt t; omega⟩) := by
  have := point_lt t
  refine congrArg W ?_
  blk_ext [idx t]

abbrev a0 : FVec Ideal S8192x1024 .f32 := m ((c : Thread nD τ).loc main_arg0)
abbrev a1 : FVec Ideal S1024x2816 .f32 := m ((c : Thread nD τ).loc main_arg1)
abbrev a2 : FVec Ideal S1024x2816 .f32 := m ((c : Thread nD τ).loc main_arg2)
abbrev a3 : FVec Ideal S2816x1024 .f32 := m ((c : Thread nD τ).loc main_arg3)
abbrev a4 : FVec Ideal S8192x1024 .f32 := m ((c : Thread nD τ).loc main_arg4)

theorem entry16 : V m c main_v16 = truncf .bf16 (a4 m c) bitsLt_bf16_f32 := by
  unfold V
  after_reads_simp
theorem entry17 : V m c main_v17 = truncf .bf16 (a3 m c) bitsLt_bf16_f32 := by
  unfold V
  after_reads_simp
theorem entry18 : V m c main_v18 = savedGate (a0 m c) (a1 m c) (a2 m c) := by
  unfold V
  after_reads_simp
  sl_kernel_rfl
theorem entry19 : V m c main_v19 = savedUp (a0 m c) (a1 m c) := by
  unfold V
  after_reads_simp
  sl_kernel_rfl

section
variable (h dy : S8192x1024.Idx → ℝ) (wg wu : S1024x2816.Idx → ℝ) (wd : S2816x1024.Idx → ℝ)
  (h0 : a0 m c = up h) (h1 : a1 m c = up wg) (h2 : a2 m c = up wu) (h3 : a3 m c = up wd) (h4 : a4 m c = up dy)
include h0 h1 h2 h3 h4

/-- The product at grid point `t`. -/
theorem prod_blk (t : Fin cfg0.N) (i : Fin 512) (j : Fin 1408) :
    k0_pay1 (F := Ideal) (iblk m c 0 t) (iblk m c 1 t) (ix2 i j)
      = ((da dy wd ⟨512 * (t.val % 16) + i, by have := point_lt t; omega⟩ ⟨1408 * (t.val / 16) + j, by have := point_lt t; omega⟩ : ℝ) : EReal) := by
  have ht := point_lt t
  refine (prod_at _ _ (fun r d => dy (ix2 (Fin.ofNat 8192 (512 * (t.val % 16) + r)) (Fin.ofNat 1024 d)))
    (fun r d => wd (ix2 (Fin.ofNat 2816 (1408 * (t.val / 16) + r)) (Fin.ofNat 1024 d))) (fun r d => ?_) (fun r d => ?_) i j).trans ?_
  · refine (blk0 t _ r d).trans ((congrFun ((entry16 m c).trans (congrArg (fun x => truncf .bf16 x bitsLt_bf16_f32) h4)) _).trans ?_)
    refine congrArg Real.toEReal (congrArg dy (congrArg₂ ix2 (Fin.ext ?_) (Fin.ext ?_)))
    · exact (Nat.mod_eq_of_lt (show 512 * (t.val % 16) + r.val < 8192 by omega)).symm
    · exact (Nat.mod_eq_of_lt d.isLt).symm
  · refine (blk1 t _ r d).trans ((congrFun ((entry17 m c).trans (congrArg (fun x => truncf .bf16 x bitsLt_bf16_f32) h3)) _).trans ?_)
    refine congrArg Real.toEReal (congrArg wd (congrArg₂ ix2 (Fin.ext ?_) (Fin.ext ?_)))
    · exact (Nat.mod_eq_of_lt (show 1408 * (t.val / 16) + r.val < 2816 by omega)).symm
    · exact (Nat.mod_eq_of_lt d.isLt).symm
  · refine congrArg Real.toEReal (Finset.sum_congr rfl fun d _ => congrArg₂ (· * ·) (congrArg dy (congrArg₂ ix2 (Fin.ext ?_) (Fin.ext ?_)))
      (congrArg wd (congrArg₂ ix2 (Fin.ext ?_) (Fin.ext ?_))))
    · exact Nat.mod_eq_of_lt (show 512 * (t.val % 16) + i.val < 8192 by omega)
    · exact Nat.mod_eq_of_lt d.isLt
    · exact Nat.mod_eq_of_lt (show 1408 * (t.val / 16) + j.val < 2816 by omega)
    · exact Nat.mod_eq_of_lt d.isLt

omit h0 h1 h2 h3 h4 in
/-- The two outputs, whole. -/
def gateOut (i : S8192x2816.Idx) : EReal := ((byGate h dy wg wu wd (i 0) (i 1) : ℝ) : EReal)

omit h0 h1 h2 h3 h4 in
def upOut (i : S8192x2816.Idx) : EReal := ((byUp h dy wg wd (i 0) (i 1) : ℝ) : EReal)

theorem final4 : (dats m 0 c).arrAt 4 cfg0.N = gateOut h dy wg wu wd := by
  refine (dats m 0 c).arrAt_eq_of_covers 4 _ (by decide +kernel) fun t hf y => ?_
  refine (congrFun (after0_4 m c t) y).trans ?_
  frame_out
  idx_vars y
  refine Eq.trans ?_ (blk4 t (gateOut h dy wg wu wd) y0 y1).symm
  have e := prod_blk m c h dy wg wu wd h0 h1 h2 h3 h4 t y0 y1
  have e' : iblk m c 2 t (ix2 y0 y1) = _ := (blk2 t _ y0 y1).trans ((congrFun (entry18 m c) _).trans (by rw [h0, h1, h2]))
  pointwise [k0_pay2]
  rw [e, e', savedGate_at, ← EReal.coe_mul]
  rfl

theorem final5 : (dats m 0 c).arrAt 5 cfg0.N = upOut h dy wg wd := by
  refine (dats m 0 c).arrAt_eq_of_covers 5 _ (by decide +kernel) fun t hf y => ?_
  refine (congrFun (after0_5 m c t) y).trans ?_
  frame_out
  idx_vars y
  refine Eq.trans ?_ (blk4 t (upOut h dy wg wd) y0 y1).symm
  have e := prod_blk m c h dy wg wu wd h0 h1 h2 h3 h4 t y0 y1
  have e' : iblk m c 3 t (ix2 y0 y1) = _ := (blk2 t _ y0 y1).trans ((congrFun (entry19 m c) _).trans (by rw [h0, h1]))
  pointwise [k0_pay3]
  rw [e, e', savedUp_at, ← EReal.coe_mul]
  rfl
end

/-- The precondition makes all five arguments arrays of reals. -/
theorem finite (x0 : FVec Ideal Pre_swi_finite.S8192x1024 .f32) (x1 x2 : FVec Ideal Pre_swi_finite.S1024x2816 .f32)
    (x3 : FVec Ideal Pre_swi_finite.S2816x1024 .f32) (x4 : FVec Ideal Pre_swi_finite.S8192x1024 .f32)
    (h : Cert.Pre_swi_finite.fn (F := Ideal) x0 x1 x2 x3 x4 = fun _ => 1#1) :
    (∃ f, x0 = up f) ∧ (∃ f, x1 = up f) ∧ (∃ f, x2 = up f) ∧ (∃ f, x3 = up f) ∧ ∃ f, x4 = up f := by
  have e := congrFun h ix0
  obtain ⟨e0123, e4⟩ := IntOp.andi_eq_one.1 e
  obtain ⟨e012, e3⟩ := IntOp.andi_eq_one.1 e0123
  obtain ⟨e01, e2⟩ := IntOp.andi_eq_one.1 e012
  obtain ⟨e0, e1⟩ := IntOp.andi_eq_one.1 e01
  exact ⟨real_of_all x0 _ _ _ _ e0, real_of_all x1 _ _ _ _ e1, real_of_all x2 _ _ _ _ e2, real_of_all x3 _ _ _ _ e3, real_of_all x4 _ _ _ _ e4⟩
end

/-- The kernel's two gradients are those of the gated activation. -/
theorem algebraic : Cert.algebraic_SwiKernelIdeal_SwiReferenceIdeal_pre_swi_finite := by
  pair_intro
  · run_from Cert.SwiKernelIdeal.Value.run_blocks m g
  · refine (θ_run _ _ _).mono (fun s h c => ?_) (Cert.SwiReferenceIdeal.Value.run (F := Ideal) m' g')
    obtain ⟨h0, h1, h2, h3, h4, h5, h6⟩ := h c
    obtain ⟨e0, e1, e2, e3, e4⟩ := hagree c
    obtain ⟨⟨f0, hf0⟩, ⟨f1, hf1⟩, ⟨f2, hf2⟩, ⟨f3, hf3⟩, ⟨f4, hf4⟩⟩ := finite _ _ _ _ _ (hpre c)
    refine ⟨h0.trans ?_, h1.trans ?_, h2, h3, h4, h5, h6⟩
    · rw [final4 m c f0 f4 f1 f2 f3 hf0 hf1 hf2 hf3 hf4]
      refine (Cert.SwiReferenceIdeal.Read.val_main_v9_eq _ _ _ _ _).trans ?_
      rw [e0, e1, e2, e3, e4, hf0, hf1, hf2, hf3, hf4]
      funext i
      idx_vars i
      exact ref9 f0 f4 f1 f2 f3 i0 i1
    · rw [final5 m c f0 f4 f1 f2 f3 hf0 hf1 hf2 hf3 hf4]
      refine (Cert.SwiReferenceIdeal.Read.val_main_v10_eq _ _ _ _).trans ?_
      rw [e0, e1, e3, e4, hf0, hf1, hf3, hf4]
      funext i
      idx_vars i
      exact ref10 f0 f4 f1 f3 i0 i1

/-- The reference runs and keeps its arguments; it has no counters. -/
theorem frame_reference : Cert.quiescent_SwiReferenceIdeal := fun m g _ =>
  (θ_run _ _ _).mono (fun _ h => ⟨fun c => (h c).2.2, no_counters rfl rfl _ _⟩) (Cert.SwiReferenceIdeal.Value.run (F := Idealize.ShloMosaic.Ideal) m g)
end Cert.Swi
end
-- ==== Proof.Norm.lean ====
module

public import proofs.«01_k».proof.Proof.Attn
public import proofs.«01_k».proof.Proof.Soft

/-! The root mean square norm of rows: its gradient as the kernels write it, as differentiation writes it, and the one
    real identity by which the two agree. -/

@[expose] public section

noncomputable section

namespace Norm

open Idealize.ShloMosaic Attn

abbrev Flat (n : ℕ) : Shape := Attn.S₁ n

/-! ## The reals -/

/-- What is added to the mean square. -/
def eps : ℝ := 8796093 / 8796093022208

variable (w : ℕ) (X G A : ℕ → ℕ → ℝ)

/-- The mean square of a row, and its reciprocal root. -/
def ms (r : ℕ) : ℝ := (∑ k : Fin w, X r k * X r k) / w + eps
def rs (r : ℕ) : ℝ := (√(ms w X r))⁻¹

theorem ms_pos (r : ℕ) : 0 < ms w X r := by
  have h : 0 ≤ (∑ k : Fin w, X r k * X r k) / (w : ℝ) :=
    div_nonneg (Finset.sum_nonneg fun k _ => mul_self_nonneg _) (Nat.cast_nonneg _)
  have h' : 0 < eps := by unfold eps; norm_num
  unfold ms
  linarith

theorem rs_sq (r : ℕ) : rs w X r * rs w X r = 1 / ms w X r := by
  unfold rs
  rw [← mul_inv, Real.mul_self_sqrt (ms_pos w X r).le, one_div]

/-- The gradient at the rows, when `A` comes in at the normed and scaled rows; -/
def dxr (r c : ℕ) : ℝ :=
  rs w X r * (A r c * G 0 c - X r c * rs w X r * ((∑ k : Fin w, A r k * G 0 k * (X r k * rs w X r)) / w))
/-- one row's part of the gradient at the scale. -/
def dgr (r c : ℕ) : ℝ := A r c * (X r c * rs w X r)

/-- The gradient at the rows as differentiation leaves it. -/
theorem dxr_eq (r c : ℕ) : A r c * G 0 c * rs w X r
    + (X r c * ((∑ k : Fin w, X r k * (A r k * G 0 k)) * (-(1 / 2) * (rs w X r / ms w X r)) / w)
      + (∑ k : Fin w, X r k * (A r k * G 0 k)) * (-(1 / 2) * (rs w X r / ms w X r)) / w * X r c) = dxr w X G A r c := by
  have e : (∑ k : Fin w, A r k * G 0 k * (X r k * rs w X r)) = (∑ k : Fin w, X r k * (A r k * G 0 k)) * rs w X r := by
    rw [Finset.sum_mul]
    exact Finset.sum_congr rfl fun k _ => by ring
  have h := rs_sq w X r
  unfold dxr
  rw [e, div_eq_mul_one_div (rs w X r) (ms w X r), ← h]
  ring

/-- A real array's entries by numbers, zero outside. -/
def of2 {a b : ℕ} (f : (S₂ a b).Idx → ℝ) (r c : ℕ) : ℝ := if h : r < a ∧ c < b then f (ix2 ⟨r, h.1⟩ ⟨c, h.2⟩) else 0

theorem of2_at {a b : ℕ} (f : (S₂ a b).Idx → ℝ) {r c : ℕ} (hr : r < a) (hc : c < b) : of2 f r c = f (ix2 ⟨r, hr⟩ ⟨c, hc⟩) :=
  dif_pos ⟨hr, hc⟩

theorem of2_is {a b : ℕ} (f : (S₂ a b).Idx → ℝ) : Is (fun i => ((f i : ℝ) : EReal)) (of2 f) := fun r c =>
  congrArg Real.toEReal (of2_at f r.isLt c.isLt).symm

/-- The same row numbers shifted. -/
def from' (k : ℕ) (X : ℕ → ℕ → ℝ) (r c : ℕ) : ℝ := X (k + r) c

theorem rs_from (k r : ℕ) : rs w (from' k X) r = rs w X (k + r) := rfl
theorem dxr_from (k r c : ℕ) : dxr w (from' k X) G (from' k A) r c = dxr w X G A (k + r) c := rfl
theorem dgr_from (k r c : ℕ) : dgr w (from' k X) (from' k A) r c = dgr w X A (k + r) c := rfl

/-! ## As the kernels write it -/

section kernel
variable {F : FTy → Type} [FloatOps F] {a w : ℕ} (nw : BitVec 32) (g : FVec F (S₂ 1 w) .f32) (x y : FVec F (S₂ a w) .f32)

def rowSum : FVec F (S₂ a 1) .f32 := shapeCast _ (multiReduction .add [1] (Flat a) x 0x00000000#32 (red_col _ _) (.inl rfl) rfl) (casts_col _)
def rstd : FVec F (S₂ a 1) .f32 :=
  rsqrt (addf (divf (rowSum (mulf x x)) (broadcast _ (Scalar.ofBits .f32 nw))) (broadcast _ (Scalar.ofBits .f32 0x358637BD#32)))
def normed : FVec F (S₂ a w) .f32 := mulf x (broadcastTo _ (rstd nw x) (bc_col _ _))
def scaled : FVec F (S₂ a w) .f32 := mulf y (broadcastTo _ g (bc_row _ _))
def dxOf : FVec F (S₂ a w) .f32 :=
  mulf (broadcastTo _ (rstd nw x) (bc_col _ _)) (subf (scaled g y)
    (mulf (normed nw x) (broadcastTo _ (divf (rowSum (mulf (scaled g y) (normed nw x))) (broadcast _ (Scalar.ofBits .f32 nw))) (bc_col _ _))))
def dgOf : FVec F (S₂ 1 w) .f32 :=
  shapeCast _ (multiReduction .add [0] (Flat w) (mulf y (normed nw x)) 0x00000000#32 (red_row _ _) (.inl rfl) rfl) (casts_row _)
end kernel

section
variable {a w : ℕ} {nw : BitVec 32} {g : FVec Ideal (S₂ 1 w) .f32} {x y : FVec Ideal (S₂ a w) .f32} {X G A : ℕ → ℕ → ℝ}

theorem divs {a b : ℕ} {x y : FVec Ideal (S₂ a b) .f32} {f g : ℕ → ℕ → ℝ} (hx : Is x f) (hy : Is y g) (h : ∀ r c, g r c ≠ 0) :
    Is (divf x y) fun r c => f r c / g r c := fun r c => by
  show Ideal.div (x _) (y _) = _
  rw [hx, hy, Soft.div_coe _ _ (h r c)]

theorem root {x : EReal} {v : ℝ} (h : x = v) (hv : 0 < v) : Ideal.rsqrt x = (((√v)⁻¹ : ℝ) : EReal) := by
  rw [h, Ideal.rsqrt_coe, if_neg hv.le.not_gt, if_neg hv.ne']

theorem eps_eq : (Ideal.ofBits .f32 0x358637BD#32 : EReal) = ((eps : ℝ) : EReal) := by
  simp [Ideal.ofBits, Ideal.ieee, eps]
  rw [← EReal.coe_mul]
  norm_num

/-- The word `nw` is the number of columns. -/
def Counts (nw : BitVec 32) (w : ℕ) : Prop := (Ideal.ofBits .f32 nw : EReal) = ((w : ℝ) : EReal) ∧ (w : ℝ) ≠ 0

theorem counts1024 : Counts 0x44800000#32 1024 := by
  refine ⟨?_, by norm_num⟩
  simp [Ideal.ofBits, Ideal.ieee]
  rw [← EReal.coe_mul]
  norm_num

theorem counts512 : Counts 0x44000000#32 512 := by
  refine ⟨?_, by norm_num⟩
  simp [Ideal.ofBits, Ideal.ieee]
  rw [← EReal.coe_mul]
  norm_num

variable (hn : Counts nw w) (hx : Is x X) (hg : Is g G) (hy : Is y A)
include hn hx

theorem rstd_is : Is (rstd nw x) fun r _ => rs w X r := fun r c =>
  root ((divs ((hx.mul hx).rowSum _ _ _ _) (Attn.Is.const _ _ hn.1) fun _ _ => hn.2).add (Attn.Is.const _ _ eps_eq) r c) (ms_pos w X r)

theorem normed_is : Is (normed nw x) fun r c => X r c * rs w X r := hx.mul ((rstd_is hn hx).bcCol _)

include hy

theorem dgOf_is : Is (dgOf nw x y) fun _ c => ∑ k : Fin a, dgr w X A k c := (hy.mul (normed_is hn hx)).colSum _ _ _ _

include hg

theorem dxOf_is : Is (dxOf nw g x y) (dxr w X G A) :=
  ((rstd_is hn hx).bcCol _).mul ((hy.mul (hg.bcRow _)).sub ((normed_is hn hx).mul
    ((divs (((hy.mul (hg.bcRow _)).mul (normed_is hn hx)).rowSum _ _ _ _) (Attn.Is.const _ _ hn.1) fun _ _ => hn.2).bcCol _)))
end

/-! ## As differentiation writes it -/

abbrev S₀ : Shape := ⟨0, ![]⟩

/-- The facts about shapes that the host's operations take. -/
structure Hosted (a w : ℕ) : Prop where
  sums : (S₂ a w).ReducesTo [1] (Flat a)
  sums1 : (S₂ a 1).ReducesTo [1] (Flat a)
  cols : (S₂ a w).ReducesTo [0] (Flat w)
  cols1 : (S₂ 1 w).ReducesTo [0] (Flat w)
  one : 0 < S₀.numel
  col : (Flat a).BroadcastsInDim (S₂ a 1) ![0]
  wide : (Flat a).BroadcastsInDim (S₂ a w) ![0]
  spread : (S₂ a 1).BroadcastsInDim (S₂ a w) ![0, 1]
  scalar : S₀.BroadcastsInDim (S₂ a 1) ![]
  row : (Flat w).BroadcastsInDim (S₂ 1 w) ![1]
  down : (S₂ 1 w).BroadcastsInDim (S₂ a w) ![0, 1]

section host
variable {F : FTy → Type} [FloatOps F] {a w : ℕ} (H : Hosted a w) (nw : BitVec 32) (g : FVec F (Flat w) .f32) (x y : FVec F (S₂ a w) .f32)

def zero : FVec F S₀ .f32 := constant S₀ .f32 0x00000000#32
def lit (z : BitVec 32) : FVec F (S₂ a 1) .f32 := broadcastInDim (S₂ a 1) ![] H.scalar (constant S₀ .f32 z)
def hSum : FVec F (Flat a) .f32 := Host.reduceAdd x zero H.sums H.one
def hMs : FVec F (S₂ a 1) .f32 :=
  addf (Host.divf (broadcastInDim (S₂ a 1) ![0] H.col (hSum H (mulf x x))) (lit H nw)) (lit H 0x358637BD#32)
def hRs : FVec F (S₂ a 1) .f32 := Host.rsqrt (hMs H nw x)
def hThird : FVec F (S₂ a 1) .f32 := mulf (lit H 0xBF000000#32) (Host.divf (hRs H nw x) (hMs H nw x))
def hWide (x : FVec F (S₂ a 1) .f32) : FVec F (S₂ a w) .f32 := broadcastInDim (S₂ a w) ![0, 1] H.spread x
def hNormed : FVec F (S₂ a w) .f32 := mulf x (hWide H (hRs H nw x))
def hScale : FVec F (S₂ a w) .f32 := broadcastInDim (S₂ a w) ![0, 1] H.down (broadcastInDim (S₂ 1 w) ![1] H.row g)
def hScaled : FVec F (S₂ a w) .f32 := mulf y (hScale H g)
def hDirect : FVec F (S₂ a w) .f32 := mulf (hScaled H g y) (hWide H (hRs H nw x))
def hBack : FVec F (S₂ a w) .f32 :=
  broadcastInDim (S₂ a w) ![0] H.wide (Host.reduceAdd (Host.divf (mulf (shapeCast _ (hSum H (mulf x (hScaled H g y))) (casts_col _))
    (hThird H nw x)) (lit H nw)) zero H.sums1 H.one)
/-- The gradient at the rows, added to `z`. -/
def hDx (z : FVec F (S₂ a w) .f32) : FVec F (S₂ a w) .f32 := addf (addf z (mulf x (hBack H nw g x y))) (mulf (hBack H nw g x y) x)
def hDg : FVec F (Flat w) .f32 :=
  Host.reduceAdd (shapeCast (S₂ 1 w) (Host.reduceAdd (mulf (hNormed H nw x) y) zero H.cols H.one) (casts_row _)) zero H.cols1 H.one
end host

/-- The vector holds the reals `f`. -/
def Is₁ {n : ℕ} (v : (Flat n).Idx → EReal) (f : ℕ → ℝ) : Prop := ∀ c : Fin n, v (ix1 c) = ((f c : ℝ) : EReal)

section
variable {a w : ℕ} (H : Hosted a w) {nw : BitVec 32} {g : FVec Ideal (Flat w) .f32} {x y z : FVec Ideal (S₂ a w) .f32} {X A Z : ℕ → ℕ → ℝ} {G : ℕ → ℝ}

theorem hostSum {a w : ℕ} {x : FVec Ideal (S₂ a w) .f32} {X : ℕ → ℕ → ℝ} (hx : Is x X) (h : (S₂ a w).ReducesTo [1] (Flat a)) (hu) :
    Is₁ (Host.reduceAdd x (zero (F := Ideal)) h hu) fun r => ∑ k : Fin w, X r k := fun r => by
  refine (Ideal.hostReduceAdd_r2_a1 h x _ _).trans ?_
  rw [← Reals.coe_sum]
  have e0 : (zero (F := Ideal) (Shape.Idx.first hu) : EReal) = 0 := by simp [zero, constant, Ideal.ofBits, Ideal.ieee]
  rw [e0, zero_add]
  exact Finset.sum_congr rfl fun k _ => hx r k

theorem hostCols {a w : ℕ} {x : FVec Ideal (S₂ a w) .f32} {X : ℕ → ℕ → ℝ} (hx : Is x X) (h : (S₂ a w).ReducesTo [0] (Flat w)) (hu) :
    Is₁ (Host.reduceAdd x (zero (F := Ideal)) h hu) fun c => ∑ k : Fin a, X k c := fun c => by
  refine (Ideal.hostReduceAdd_r2_a0 h x _ _).trans ?_
  rw [← Reals.coe_sum]
  have e0 : (zero (F := Ideal) (Shape.Idx.first hu) : EReal) = 0 := by simp [zero, constant, Ideal.ofBits, Ideal.ieee]
  rw [e0, zero_add]
  exact Finset.sum_congr rfl fun k _ => hx k c

theorem unit_index {n i : ℕ} (h : i < n) : i = if n = 1 then 0 else i := by
  split_ifs with e
  · omega
  · rfl

theorem Is₁.col {v : FVec Ideal (Flat a) .f32} {f : ℕ → ℝ} (hv : Is₁ v f) (h) : Is (broadcastInDim (S₂ a w) ![0] h v) fun r _ => f r := fun r c => by
  refine (broadcastInDim_apply _ h v (ix2 r c) (ix1 r) fun ax => ?_).trans (hv r)
  match ax with
  | ⟨0, _⟩ => exact unit_index r.isLt

theorem Is₁.row {v : FVec Ideal (Flat w) .f32} {f : ℕ → ℝ} (hv : Is₁ v f) (h) : Is (broadcastInDim (S₂ 1 w) ![1] h v) fun _ c => f c := fun r c => by
  refine (broadcastInDim_apply _ h v (ix2 r c) (ix1 c) fun ax => ?_).trans (hv c)
  match ax with
  | ⟨0, _⟩ => exact unit_index c.isLt

theorem Is₁.cast {v : FVec Ideal (Flat w) .f32} {f : ℕ → ℝ} (hv : Is₁ v f) (h) : Is (shapeCast (S₂ 1 w) v h) fun _ c => f c := fun r c =>
  (ValueIdx.shapeCast_a_1a_apply _ _ r c).trans (hv c)

theorem Is₁.castCol {v : FVec Ideal (Flat a) .f32} {f : ℕ → ℝ} (hv : Is₁ v f) (h) : Is (shapeCast (S₂ a 1) v h) fun r _ => f r := fun r c => by
  refine (Idealize.ShloMosaic.shapeCast_apply _ _ (ix2 r c) (ix1 r) ?_).trans (hv r)
  rw [Shape.rowMajor_val_two, Shape.rowMajor_val_one]
  show r.val = r.val * 1 + c.val
  omega

theorem wide_is {x : FVec Ideal (S₂ a 1) .f32} {f : ℕ → ℕ → ℝ} (hx : Is x f) (h) : Is (broadcastInDim (S₂ a w) ![0, 1] h x) fun r _ => f r 0 := fun r c => by
  refine (broadcastInDim_apply _ h x (ix2 r c) (ix2 r 0) fun ax => ?_).trans (hx r 0)
  match ax with
  | ⟨0, _⟩ => exact unit_index r.isLt
  | ⟨1, _⟩ => exact (if_pos rfl).symm

theorem down_is {x : FVec Ideal (S₂ 1 w) .f32} {f : ℕ → ℕ → ℝ} (hx : Is x f) (h) : Is (broadcastInDim (S₂ a w) ![0, 1] h x) fun _ c => f 0 c := fun r c => by
  refine (broadcastInDim_apply _ h x (ix2 r c) (ix2 0 c) fun ax => ?_).trans (hx 0 c)
  match ax with
  | ⟨0, _⟩ => exact (if_pos rfl).symm
  | ⟨1, _⟩ => exact unit_index c.isLt

theorem lit_is {z : BitVec 32} {q : ℝ} (h : (Ideal.ofBits .f32 z : EReal) = q) : Is (lit (F := Ideal) H z) fun _ _ => q := fun r c =>
  (broadcastInDim_apply _ H.scalar _ (ix2 r c) ix0 fun ax => ax.elim0).trans h

theorem hostDiv {a b : ℕ} {x y : FVec Ideal (S₂ a b) .f32} {f g : ℕ → ℕ → ℝ} (hx : Is x f) (hy : Is y g) (h : ∀ (r : Fin a) (c : Fin b), g r c ≠ 0) :
    Is (Host.divf x y) fun r c => f r c / g r c := fun r c => by
  show Ideal.div (x _) (y _) = _
  rw [hx, hy, Soft.div_coe _ _ (h r c)]

theorem half_eq : (Ideal.ofBits .f32 0xBF000000#32 : EReal) = ((-(1 / 2) : ℝ) : EReal) := by
  simp [Ideal.ofBits, Ideal.ieee]
  rw [← EReal.coe_mul]
  norm_num

variable (hn : Counts nw w) (hx : Is x X) (hg : Is₁ g G) (hy : Is y A) (hz : Is z Z)
include hn hx

theorem hMs_is : Is (hMs H nw x) fun r _ => ms w X r :=
  (hostDiv ((hostSum (hx.mul hx) H.sums H.one).col H.col) (lit_is H hn.1) fun _ _ => hn.2).add (lit_is H eps_eq)

theorem hRs_is : Is (hRs H nw x) fun r _ => rs w X r := fun r c => root (hMs_is H hn hx r c) (ms_pos w X r)

theorem hNormed_is : Is (hNormed H nw x) fun r c => X r c * rs w X r := hx.mul (wide_is (hRs_is H hn hx) H.spread)

theorem hThird_is : Is (hThird H nw x) fun r _ => -(1 / 2) * (rs w X r / ms w X r) :=
  (lit_is H half_eq).mul (hostDiv (hRs_is H hn hx) (hMs_is H hn hx) fun r _ => (ms_pos w X r).ne')

include hy

theorem hDg_is : Is₁ (hDg H nw x y) fun c => ∑ k : Fin a, dgr w X A k c := by
  have h := hostCols ((hostCols ((hNormed_is H hn hx).mul hy) H.cols H.one).cast (casts_row _)) H.cols1 H.one
  intro c
  refine (h c).trans (congrArg Real.toEReal ?_)
  refine (Fin.sum_univ_one _).trans (Finset.sum_congr rfl fun k _ => ?_)
  unfold dgr
  ring

include hg

theorem hScaled_is : Is (hScaled H g y) fun r c => A r c * G c := hy.mul (down_is (hg.row H.row) H.down)

theorem hDirect_is : Is (hDirect H nw g x y) fun r c => A r c * G c * rs w X r := (hScaled_is H hn hx hg hy).mul (wide_is (hRs_is H hn hx) H.spread)

theorem hBack_is : Is (hBack H nw g x y) fun r _ =>
    (∑ k : Fin w, X r k * (A r k * G k)) * (-(1 / 2) * (rs w X r / ms w X r)) / w := by
  have h := (hostSum (hostDiv (((hostSum (hx.mul (hScaled_is H hn hx hg hy)) H.sums H.one).castCol (casts_col _)).mul (hThird_is H hn hx))
    (lit_is H hn.1) fun _ _ => hn.2) H.sums1 H.one).col (w := w) H.wide
  exact h.congr fun r c => Fin.sum_univ_one _

include hz

theorem hDx_is : Is (hDx H nw g x y z) fun r c => Z r c
    + X r c * ((∑ k : Fin w, X r k * (A r k * G k)) * (-(1 / 2) * (rs w X r / ms w X r)) / w)
    + (∑ k : Fin w, X r k * (A r k * G k)) * (-(1 / 2) * (rs w X r / ms w X r)) / w * X r c :=
  (hz.add (hx.mul (hBack_is H hn hx hg hy))).add ((hBack_is H hn hx hg hy).mul hx)
end

end Norm
end
-- ==== Proof.Halves.lean ====
module

public import proofs.«01_k».proof.Proof.Norm
public import Idealize.ShloMosaic.Lib.WholeRead

/-! A grid point that works on its rows in two halves and adds each half's column sums to a block that stays over the
    whole grid: what its stores leave. -/

@[expose] public section

noncomputable section

namespace Norm

open Idealize.ShloMosaic Attn

/-- The whole of a block of one row. -/
abbrev rowAll (w : ℕ) : Rect (S₂ 1 w) := Rect.unit ![0, 0] (S₂ 1 w).size (inb₂ (by omega) (by omega))
/-- Rows `r` to `r + n` of a block. -/
abbrev rows (N w r n : ℕ) (h : r + n ≤ N) : Rect (S₂ N w) := Rect.unit ![r, 0] (S₂ n w).size (inb₂ h (by omega))

section
variable {F : FTy → Type} [FloatOps F] {e : EltTy} {w : ℕ}

/-- The stores of the two halves. -/
def halves (p0 p1 : (S₂ 256 w).Idx → Elt F e) : List (View.Piece (Elt F) (S₂ 512 w) e) :=
  [⟨rows 512 w 256 256 (by decide), p1⟩, ⟨rows 512 w 0 256 (by decide), p0⟩]

variable {sig : RefSig} {κ : Kind} {sp : Space}

/-- Both halves' sums added in turn: `old` is what the first addition reads. -/
def added (v : View sig κ sp (S₂ 1 w) .f32) (old d0 d1 : FVec F (S₂ 1 w) .f32) (base : List (View.Piece (Elt F) (S₂ 1 w) .f32)) :
    List (View.Piece (Elt F) (S₂ 1 w) .f32) :=
  let L : List (View.Piece (Elt F) (S₂ 1 w) .f32) := ⟨rowAll w, addf (shapeCast _ old (casts_refl _)) d0⟩ :: base
  ⟨rowAll w, addf (shapeCast _ (v.readCov L (rowAll w).toLoadRect) (casts_refl _)) d1⟩ :: L

/-- The cleared row. -/
def cleared : List (View.Piece (Elt F) (S₂ 1 w) .f32) := [⟨rowAll w, broadcast _ (Scalar.ofBits .f32 0x00000000#32)⟩]
end

section
variable {w : ℕ} {sig : RefSig} {κ : Kind} {sp : Space}

theorem halves_at {e : EltTy} (p0 p1 : (S₂ 256 w).Idx → Elt Ideal e) (v : (S₂ 512 w).Idx → Elt Ideal e)
    (h0 : ∀ (r : Fin 256) (c : Fin w), p0 (ix2 r c) = v (ix2 ⟨r, by omega⟩ c)) (h1 : ∀ (r : Fin 256) (c : Fin w), p1 (ix2 r c) = v (ix2 ⟨256 + r, by omega⟩ c))
    (r : Fin 512) (c : Fin w) : View.canon (halves p0 p1) (ix2 r c) = v (ix2 r c) := by
  unfold halves
  by_cases h : r.val < 256
  · refine (canon_miss _ _ r c (by omega)).trans ((canon_hit _ _ r c ⟨r.val, h⟩ c (by simp) (by simp)).trans (h0 _ c))
  · refine (canon_hit _ _ r c ⟨r.val - 256, by omega⟩ c (by show r.val = 256 + (r.val - 256); omega) (by simp)).trans ((h1 _ c).trans ?_)
    exact congrArg v (congrArg (ix2 · c) (Fin.ext (by show 256 + (r.val - 256) = r.val; omega)))

theorem halves_is {D : ℕ → ℕ → ℝ} (p0 p1 : (S₂ 256 w).Idx → EReal) (h0 : Is p0 D) (h1 : Is p1 (from' 256 D)) :
    Is (View.canon (Val := Elt Ideal) (e := .f32) (halves (F := Ideal) p0 p1) : (S₂ 512 w).Idx → EReal) D := fun r c =>
  halves_at (e := .f32) p0 p1 (fun i => ((D (i 0).val (i 1).val : ℝ) : EReal)) h0 h1 r c

theorem halves_is' {D : ℕ → ℕ → ℝ} (p0 p1 : (S₂ 256 w).Idx → EReal) (h0 : Is p0 D) (h1 : Is p1 (from' 256 D)) :
    Is (View.canon (Val := Elt Ideal) (e := .bf16) (halves (F := Ideal) p0 p1) : (S₂ 512 w).Idx → EReal) D := fun r c =>
  halves_at (e := .bf16) p0 p1 (fun i => ((D (i 0).val (i 1).val : ℝ) : EReal)) h0 h1 r c

theorem row_read (v : View sig κ sp (S₂ 1 w) .f32) (L : List (View.Piece (Elt Ideal) (S₂ 1 w) .f32)) {O : ℕ → ℕ → ℝ}
    (h : Is (View.canon L : (S₂ 1 w).Idx → EReal) O) : Is (v.readCov L (rowAll w).toLoadRect : (S₂ 1 w).Idx → EReal) O := fun r c => by
  refine (read_at v L r c (by omega) (by omega)).trans (Eq.trans ?_ (h r c))
  exact congrArg (View.canon L) (congrArg₂ ix2 (Fin.ext (Nat.zero_add _)) (Fin.ext (Nat.zero_add _)))

theorem row_canon (p : (S₂ 1 w).Idx → EReal) (L : List (View.Piece (Elt Ideal) (S₂ 1 w) .f32)) {O : ℕ → ℕ → ℝ} (h : Is p O) :
    Is (View.canon (Val := Elt Ideal) (⟨rowAll w, p⟩ :: L) : (S₂ 1 w).Idx → EReal) O := fun r c =>
  (canon_hit _ _ r c r c (by simp) (by simp)).trans (h r c)

theorem zero_eq : (Scalar.ofBits .f32 0x00000000#32 : Ideal .f32) = ((0 : ℝ) : EReal) := by
  show Ideal.ofBits .f32 0x00000000#32 = _
  simp [Ideal.ofBits, Ideal.ieee]

theorem cleared_is : Is (View.canon (cleared (F := Ideal)) : (S₂ 1 w).Idx → EReal) fun _ _ => 0 :=
  row_canon _ _ (Is.const _ _ zero_eq)

theorem added_is (v : View sig κ sp (S₂ 1 w) .f32) {old d0 d1 : FVec Ideal (S₂ 1 w) .f32} {O D0 D1 : ℕ → ℕ → ℝ} (ho : Is old O) (h0 : Is d0 D0) (h1 : Is d1 D1) (base) :
    Is (View.canon (added v old d0 d1 base) : (S₂ 1 w).Idx → EReal) fun r c => O r c + D0 r c + D1 r c :=
  row_canon _ _ (((row_read v _ (row_canon _ _ ((ho.self _).add h0))).self _).add h1)

theorem unread_is {N n r : ℕ} (v : Memref sig κ sp (S₂ N w) .f32) (hv : v.IsWhole) (x : (S₂ N w).Idx → EReal) {X : ℕ → ℕ → ℝ} (hx : Is x X)
    (h : r + n ≤ N) : Is (View.readAt (Elt Ideal) v.view (rows N w r n h).toLoadRect (hv.unread x) : (S₂ n w).Idx → EReal) (from' r X) := fun i c => by
  have hi := i.isLt
  have hc := c.isLt
  refine (Memref.IsWhole.readAt_unread hv _ _ _).trans
    ((congrArg x (idx₂ (A := N) (B := w) (r := r) (l := 0) i c (by omega) (by omega))).trans ((hx _ _).trans ?_))
  exact congrArg Real.toEReal (congrArg (X (r + i.val)) (Nat.zero_add _))

theorem unread_is' {N n r : ℕ} (v : Memref sig κ sp (S₂ N w) .bf16) (hv : v.IsWhole) (x : (S₂ N w).Idx → EReal) {X : ℕ → ℕ → ℝ} (hx : Is x X)
    (h : r + n ≤ N) : Is (View.readAt (Elt Ideal) v.view (rows N w r n h).toLoadRect (hv.unread x) : (S₂ n w).Idx → EReal) (from' r X) := fun i c => by
  have hi := i.isLt
  have hc := c.isLt
  refine (Memref.IsWhole.readAt_unread hv _ _ _).trans
    ((congrArg x (idx₂ (A := N) (B := w) (r := r) (l := 0) i c (by omega) (by omega))).trans ((hx _ _).trans ?_))
  exact congrArg Real.toEReal (congrArg (X (r + i.val)) (Nat.zero_add _))

theorem unread_all {N : ℕ} (v : Memref sig κ sp (S₂ N w) .f32) (hv : v.IsWhole) (x : (S₂ N w).Idx → EReal) {X : ℕ → ℕ → ℝ} (hx : Is x X) (h : 0 + N ≤ N) :
    Is (View.readAt (Elt Ideal) v.view (rows N w 0 N h).toLoadRect (hv.unread x) : (S₂ N w).Idx → EReal) X :=
  (unread_is v hv x hx h).congr fun r d => congrArg (X · d) (Nat.zero_add _)

theorem unread_all' {N : ℕ} (v : Memref sig κ sp (S₂ N w) .bf16) (hv : v.IsWhole) (x : (S₂ N w).Idx → EReal) {X : ℕ → ℕ → ℝ} (hx : Is x X) (h : 0 + N ≤ N) :
    Is (View.readAt (Elt Ideal) v.view (rows N w 0 N h).toLoadRect (hv.unread x) : (S₂ N w).Idx → EReal) X :=
  (unread_is' v hv x hx h).congr fun r d => congrArg (X · d) (Nat.zero_add _)

/-- The column sums over the first `n` rows. -/
def upto (D : ℕ → ℕ → ℝ) (n : ℕ) (_ c : ℕ) : ℝ := ∑ r ∈ Finset.range n, D r c

theorem upto_all (D : ℕ → ℕ → ℝ) (n r c : ℕ) : upto D n r c = ∑ k : Fin n, D k c := (Fin.sum_univ_eq_sum_range (fun k => D k c) n).symm

theorem upto_step (D : ℕ → ℕ → ℝ) (t r c : ℕ) : upto D (512 * t) r c + (∑ k : Fin 256, from' (512 * t) D k c) + (∑ k : Fin 256, from' (512 * t + 256) D k c)
    = upto D (512 * (t + 1)) r c := by
  unfold upto from'
  rw [Fin.sum_univ_eq_sum_range (fun k => D (512 * t + k) c), Fin.sum_univ_eq_sum_range (fun k => D (512 * t + 256 + k) c),
    ← Finset.sum_range_add (fun r => D r c), ← Finset.sum_range_add (fun r => D r c), show 512 * t + 256 + 256 = 512 * (t + 1) by ring]

end
end Norm
end
-- ==== Proof.Ffn.lean ====
module

public import proofs.«01_k».proof.Proof.Halves
public import proofs.«01_k».proof.Proof.Gen.FfnKernelIdeal.Value
public import proofs.«01_k».proof.Proof.Gen.FfnReferenceIdeal.Read
public import proofs.«01_k».proof.Proof.Gen.FfnReferenceIdeal.Run
public import proofs.«01_k».proof.Proof.Gen.Pre_ffn_finite
public import proofs.«01_k».proof.Defs
public import Idealize.ShloMosaic.Lib.StableHlo.RunRead

/-! The gradient through the gate's two products and the norm before them: what the kernel's three outputs hold, and that
    they are the gradients at the rows and at the norm's scale. -/

@[expose] public section
set_option maxRecDepth 16384

noncomputable section

namespace Cert.Ffn

open Idealize.ShloMosaic Idealize.ShloMosaic.TcCoe Idealize.SL.Sem Reals Attn Norm

/-- An array of reals. -/
abbrev up {s : Shape} (f : s.Idx → ℝ) : FVec Ideal s .f32 := fun i => ((f i : ℝ) : EReal)

/-! ## What one grid point stores -/

section
open Cert.FfnKernelIdeal Cert.FfnKernelIdeal.Gen
variable {F : FTy → Type} [FloatOps F]

/-- The gradient at the normed rows. -/
def cot (p q : FVec F (S₂ 256 2816) .bf16) (w v : FVec F (S₂ 2816 1024) .bf16) : FVec F (S₂ 256 1024) .f32 :=
  addf (matmul (DotDims.plain 256 2816 1024) none (shapeCast _ p (casts_refl _)) (shapeCast _ w (casts_refl _)) (constant _ .f32 0x00000000#32))
    (matmul (DotDims.plain 256 2816 1024) none (shapeCast _ q (casts_refl _)) (shapeCast _ v (casts_refl _)) (constant _ .f32 0x00000000#32))

/-- What a grid point reads: rows of both gradients, the weights, rows of the residual stream and of its gradient, the scale. -/
structure Reads (F : FTy → Type) where
  p : ∀ r, r + 256 ≤ 512 → FVec F (S₂ 256 2816) .bf16
  w : FVec F (S₂ 2816 1024) .bf16
  q : ∀ r, r + 256 ≤ 512 → FVec F (S₂ 256 2816) .bf16
  v : FVec F (S₂ 2816 1024) .bf16
  x : ∀ r, r + 256 ≤ 512 → FVec F (S₂ 256 1024) .f32
  z : ∀ r, r + 256 ≤ 512 → FVec F (S₂ 256 1024) .f32
  g : FVec F (S₂ 1 1024) .f32

namespace Reads
variable (R : Reads F)
def y (r : ℕ) (h : r + 256 ≤ 512) : FVec F (S₂ 256 1024) .f32 := cot (R.p r h) (R.q r h) R.w R.v
def dx (r : ℕ) (h : r + 256 ≤ 512) : FVec F (S₂ 256 1024) .f32 := addf (dxOf 0x44800000#32 R.g (R.x r h) (R.y r h)) (R.z r h)
def dxb (r : ℕ) (h : r + 256 ≤ 512) : FVec F (S₂ 256 1024) .bf16 := truncf .bf16 (R.dx r h) bitsLt_bf16_f32
def dg (r : ℕ) (h : r + 256 ≤ 512) : FVec F (S₂ 1 1024) .f32 := dgOf 0x44800000#32 (R.x r h) (R.y r h)
end Reads

variable (c : Dev nD) (i : grid0.Coords)
  (arg1 : Memref sig .tc .vmem S512x2816 .bf16) (harg1 : arg1.IsWhole) (arg2 : Memref sig .tc .vmem S2816x1024 .bf16) (harg2 : arg2.IsWhole)
  (arg3 : Memref sig .tc .vmem S512x2816 .bf16) (harg3 : arg3.IsWhole) (arg4 : Memref sig .tc .vmem S2816x1024 .bf16) (harg4 : arg4.IsWhole)
  (arg5 : Memref sig .tc .vmem S512x1024 .f32) (harg5 : arg5.IsWhole) (arg6 : Memref sig .tc .vmem S512x1024 .f32) (harg6 : arg6.IsWhole)
  (arg7 : Memref sig .tc .vmem S1x1024 .f32) (harg7 : arg7.IsWhole) (arg8 : Memref sig .tc .vmem S512x1024 .f32) (harg8 : arg8.IsWhole)
  (arg9 : Memref sig .tc .vmem S512x1024 .bf16) (harg9 : arg9.IsWhole) (arg10 : Memref sig .tc .vmem S1x1024 .f32) (harg10 : arg10.IsWhole)
  (x0 : Vec F S512x2816 .bf16) (x1 : Vec F S2816x1024 .bf16) (x2 : Vec F S512x2816 .bf16) (x3 : Vec F S2816x1024 .bf16)
  (x4 : Vec F S512x1024 .f32) (x5 : Vec F S512x1024 .f32) (x6 : Vec F S1x1024 .f32)

def reads : Reads F where
  p r h := View.readAt (Elt F) arg1.view (rows 512 2816 r 256 h).toLoadRect (harg1.unread x0)
  w := View.readAt (Elt F) arg2.view (rows 2816 1024 0 2816 (by decide)).toLoadRect (harg2.unread x1)
  q r h := View.readAt (Elt F) arg3.view (rows 512 2816 r 256 h).toLoadRect (harg3.unread x2)
  v := View.readAt (Elt F) arg4.view (rows 2816 1024 0 2816 (by decide)).toLoadRect (harg4.unread x3)
  x r h := View.readAt (Elt F) arg5.view (rows 512 1024 r 256 h).toLoadRect (harg5.unread x4)
  z r h := View.readAt (Elt F) arg6.view (rows 512 1024 r 256 h).toLoadRect (harg6.unread x5)
  g := View.readAt (Elt F) arg7.view (rowAll 1024).toLoadRect (harg7.unread x6)

abbrev lo : 0 + 256 ≤ 512 := by decide
abbrev hi : 256 + 256 ≤ 512 := by decide

variable (R : Reads F) (hR : R = reads arg1 harg1 arg2 harg2 arg3 harg3 arg4 harg4 arg5 harg5 arg6 harg6 arg7 harg7 x0 x1 x2 x3 x4 x5 x6)

section
variable (hc0 : cond0_0 i)
include hR

theorem A7 : out0_A_7 c i arg1 harg1 arg2 harg2 arg3 harg3 arg4 harg4 arg5 harg5 arg6 harg6 arg7 harg7 arg8 harg8 arg9 harg9 arg10 harg10 hc0 x0 x1 x2 x3 x4 x5 x6
    = View.canon (halves (e := .f32) (R.dx 0 lo) (R.dx 256 hi)) := by
  subst hR
  refine (View.read_writes_junk_eq_canon _ _).trans (congrArg View.canon ?_)
  sl_kernel_rfl

theorem A8 : out0_A_8 c i arg1 harg1 arg2 harg2 arg3 harg3 arg4 harg4 arg5 harg5 arg6 harg6 arg7 harg7 arg8 harg8 arg9 harg9 arg10 harg10 hc0 x0 x1 x2 x3 x4 x5 x6
    = View.canon (halves (e := .bf16) (R.dxb 0 lo) (R.dxb 256 hi)) := by
  subst hR
  refine (View.read_writes_junk_eq_canon _ _).trans (congrArg View.canon ?_)
  sl_kernel_rfl

theorem A9 : out0_A_9 c i arg1 harg1 arg2 harg2 arg3 harg3 arg4 harg4 arg5 harg5 arg6 harg6 arg7 harg7 arg8 harg8 arg9 harg9 arg10 harg10 hc0 x0 x1 x2 x3 x4 x5 x6
    = View.canon (added arg10.view (arg10.view.readCov cleared (rowAll 1024).toLoadRect) (R.dg 0 lo) (R.dg 256 hi) cleared) := by
  subst hR
  refine (View.read_writes_junk_eq_canon _ _).trans (congrArg View.canon ?_)
  sl_kernel_rfl
end

section
variable (hc0 : ¬ cond0_0 i) (xo9 : Vec F S1x1024 .f32)
include hR

theorem B7 : out0_B_7 c i arg1 harg1 arg2 harg2 arg3 harg3 arg4 harg4 arg5 harg5 arg6 harg6 arg7 harg7 arg8 harg8 arg9 harg9 arg10 harg10 hc0 x0 x1 x2 x3 x4 x5 x6 xo9
    = View.canon (halves (e := .f32) (R.dx 0 lo) (R.dx 256 hi)) := by
  subst hR
  refine (View.read_writes_junk_eq_canon _ _).trans (congrArg View.canon ?_)
  sl_kernel_rfl

theorem B8 : out0_B_8 c i arg1 harg1 arg2 harg2 arg3 harg3 arg4 harg4 arg5 harg5 arg6 harg6 arg7 harg7 arg8 harg8 arg9 harg9 arg10 harg10 hc0 x0 x1 x2 x3 x4 x5 x6 xo9
    = View.canon (halves (e := .bf16) (R.dxb 0 lo) (R.dxb 256 hi)) := by
  subst hR
  refine (View.read_writes_junk_eq_canon _ _).trans (congrArg View.canon ?_)
  sl_kernel_rfl

theorem B9 : out0_B_9 c i arg1 harg1 arg2 harg2 arg3 harg3 arg4 harg4 arg5 harg5 arg6 harg6 arg7 harg7 arg8 harg8 arg9 harg9 arg10 harg10 hc0 x0 x1 x2 x3 x4 x5 x6 xo9
    = View.canon (added arg10.view (View.readAt (Elt F) arg10.view (rowAll 1024).toLoadRect (harg10.unread xo9)) (R.dg 0 lo) (R.dg 256 hi) []) := by
  subst hR
  refine (View.read_writes_junk_eq_canon _ _).trans (congrArg View.canon ?_)
  sl_kernel_rfl
end
end

/-! ## Over the whole grid -/

section
variable (p0 p1 : Cert.FfnKernelIdeal.S8192x2816.Idx → ℝ) (w0 w1 : Cert.FfnKernelIdeal.S1024x2816.Idx → ℝ)
  (f z : Cert.FfnKernelIdeal.S8192x1024.Idx → ℝ) (g : Cert.FfnKernelIdeal.S1x1024.Idx → ℝ)

/-- The gradient at the normed rows, -/
def A (r c : ℕ) : ℝ := (∑ k : Fin 2816, of2 p0 r k * of2 w0 c k) + ∑ k : Fin 2816, of2 p1 r k * of2 w1 c k
/-- at the rows, -/
def D (r c : ℕ) : ℝ := dxr 1024 (of2 f) (of2 g) (A p0 p1 w0 w1) r c + of2 z r c
/-- and one row's part of the gradient at the scale. -/
def E (r c : ℕ) : ℝ := dgr 1024 (of2 f) (A p0 p1 w0 w1) r c
end

section
open Cert.FfnKernelIdeal Cert.FfnKernelIdeal.Gen Cert.FfnKernelIdeal.Value

theorem cot_is {p q : FVec Ideal (S₂ 256 2816) .bf16} {w v : FVec Ideal (S₂ 2816 1024) .bf16} {P Q W V : ℕ → ℕ → ℝ} (hp : Is p P) (hq : Is q Q) (hw : Is w W) (hv : Is v V) :
    Is (cot p q w v) fun r c => (∑ k : Fin 2816, P r k * W k c) + ∑ k : Fin 2816, Q r k * V k c :=
  ((hp.self _).matmulNN (hw.self _)).add ((hq.self _).matmulNN (hv.self _))

theorem idx : ∀ t : Fin cfg0.N, win0_0.index t = ![t.val, 0] ∧ win0_1.index t = ![0, 0] ∧ win0_2.index t = ![t.val, 0] ∧ win0_3.index t = ![0, 0]
    ∧ win0_4.index t = ![t.val, 0] ∧ win0_5.index t = ![t.val, 0] ∧ win0_6.index t = ![0, 0]
    ∧ win0_7.index t = ![t.val, 0] ∧ win0_8.index t = ![t.val, 0] ∧ win0_9.index t = ![0, 0] :=
  (by decide +kernel : ∀ t : Fin grid0.N, _)

theorem point_lt (t : Fin cfg0.N) : t.val < 16 := t.isLt

theorem blk0 (t : Fin cfg0.N) (W : S8192x2816.Idx → EReal) (i : Fin 512) (j : Fin 2816) :
    (((cfg0.win 0).blk t).view.read (Elt Ideal) W : S512x2816.Idx → EReal) (ix2 i j) = W (ix2 ⟨512 * t.val + i, by have := point_lt t; omega⟩ j) := by
  have := point_lt t
  blk_simp [idx t]
  blk_ext [idx t]

theorem blk1 (t : Fin cfg0.N) (W : S2816x1024.Idx → EReal) (i : Fin 2816) (j : Fin 1024) :
    (((cfg0.win 1).blk t).view.read (Elt Ideal) W : S2816x1024.Idx → EReal) (ix2 i j) = W (ix2 i j) := by
  blk_simp [idx t]
  blk_ext [idx t]

theorem blk2 (t : Fin cfg0.N) (W : S8192x2816.Idx → EReal) (i : Fin 512) (j : Fin 2816) :
    (((cfg0.win 2).blk t).view.read (Elt Ideal) W : S512x2816.Idx → EReal) (ix2 i j) = W (ix2 ⟨512 * t.val + i, by have := point_lt t; omega⟩ j) := by
  have := point_lt t
  blk_simp [idx t]
  blk_ext [idx t]

theorem blk3 (t : Fin cfg0.N) (W : S2816x1024.Idx → EReal) (i : Fin 2816) (j : Fin 1024) :
    (((cfg0.win 3).blk t).view.read (Elt Ideal) W : S2816x1024.Idx → EReal) (ix2 i j) = W (ix2 i j) := by
  blk_simp [idx t]
  blk_ext [idx t]

theorem blk4 (t : Fin cfg0.N) (W : S8192x1024.Idx → EReal) (i : Fin 512) (j : Fin 1024) :
    (((cfg0.win 4).blk t).view.read (Elt Ideal) W : S512x1024.Idx → EReal) (ix2 i j) = W (ix2 ⟨512 * t.val + i, by have := point_lt t; omega⟩ j) := by
  have := point_lt t
  blk_simp [idx t]
  blk_ext [idx t]

theorem blk5 (t : Fin cfg0.N) (W : S8192x1024.Idx → EReal) (i : Fin 512) (j : Fin 1024) :
    (((cfg0.win 5).blk t).view.read (Elt Ideal) W : S512x1024.Idx → EReal) (ix2 i j) = W (ix2 ⟨512 * t.val + i, by have := point_lt t; omega⟩ j) := by
  have := point_lt t
  blk_simp [idx t]
  blk_ext [idx t]

theorem blk6 (t : Fin cfg0.N) (W : S1x1024.Idx → EReal) (i : Fin 1) (j : Fin 1024) :
    (((cfg0.win 6).blk t).view.read (Elt Ideal) W : S1x1024.Idx → EReal) (ix2 i j) = W (ix2 i j) := by
  blk_simp [idx t]
  blk_ext [idx t]

theorem blk7 {α : Type} (t : Fin cfg0.N) (W : S8192x1024.Idx → α) (i : Fin 512) (j : Fin 1024) :
    W ((win0_7.blk t).view.emb (ix2 i j)) = W (ix2 ⟨512 * t.val + i, by have := point_lt t; omega⟩ j) := by
  have := point_lt t
  refine congrArg W ?_
  blk_ext [idx t]

theorem blk8 {α : Type} (t : Fin cfg0.N) (W : S8192x1024.Idx → α) (i : Fin 512) (j : Fin 1024) :
    W ((win0_8.blk t).view.emb (ix2 i j)) = W (ix2 ⟨512 * t.val + i, by have := point_lt t; omega⟩ j) := by
  have := point_lt t
  refine congrArg W ?_
  blk_ext [idx t]

theorem blk9 {α : Type} (t : Fin cfg0.N) (W : S1x1024.Idx → α) (i : Fin 1) (j : Fin 1024) : W ((win0_9.blk t).view.emb (ix2 i j)) = W (ix2 i j) := by
  refine congrArg W ?_
  blk_ext [idx t]

variable (m : (ℓ : Loc nD τ sig) → Buf (Elt Ideal) ℓ) (c : Dev nD)

/-- The reads of grid point `t`. -/
def pointReads (t : Fin cfg0.N) : Reads Ideal :=
  reads (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t)
    (iblk m c 0 t) (iblk m c 1 t) (iblk m c 2 t) (iblk m c 3 t) (iblk m c 4 t) (iblk m c 5 t) (iblk m c 6 t)

theorem leftA (t : Fin cfg0.N) (h0 : t.val % 16 = 0) : outsAt0 m c t.val t.isLt
    = (View.canon (halves (e := .f32) ((pointReads m c t).dx 0 lo) ((pointReads m c t).dx 256 hi)),
      View.canon (halves (e := .bf16) ((pointReads m c t).dxb 0 lo) ((pointReads m c t).dxb 256 hi)),
      View.canon (added (ms0_9 t).view ((ms0_9 t).view.readCov cleared (rowAll 1024).toLoadRect) ((pointReads m c t).dg 0 lo) ((pointReads m c t).dg 256 hi) cleared)) := by
  have e := (rfl : pointReads m c t = _)
  rw [outsAt0_A m c t h0, A7 (hR := e), A8 (hR := e), A9 (hR := e)]

/-- What the point before left in the row of sums. -/
abbrev before (t : Fin cfg0.N) : Vec Ideal S1x1024 .f32 := (outsAt0 m c (t.val - 1) (Nat.lt_of_le_of_lt (Nat.sub_le _ _) t.isLt)).2.2

theorem leftB (t : Fin cfg0.N) (h0 : ¬ t.val % 16 = 0) : outsAt0 m c t.val t.isLt
    = (View.canon (halves (e := .f32) ((pointReads m c t).dx 0 lo) ((pointReads m c t).dx 256 hi)),
      View.canon (halves (e := .bf16) ((pointReads m c t).dxb 0 lo) ((pointReads m c t).dxb 256 hi)),
      View.canon (added (ms0_9 t).view (View.readAt (Elt Ideal) (ms0_9 t).view (rowAll 1024).toLoadRect ((hs0_9 t).unread (before m c t)))
        ((pointReads m c t).dg 0 lo) ((pointReads m c t).dg 256 hi) [])) := by
  have e := (rfl : pointReads m c t = _)
  rw [outsAt0_B m c t h0, B7 (hR := e), B8 (hR := e), B9 (hR := e)]

theorem left7 (t : Fin cfg0.N) : (outsAt0 m c t.val t.isLt).1 = View.canon (halves (e := .f32) ((pointReads m c t).dx 0 lo) ((pointReads m c t).dx 256 hi)) := by
  by_cases h0 : t.val % 16 = 0
  · rw [leftA m c t h0]
  · rw [leftB m c t h0]

theorem left8 (t : Fin cfg0.N) : (outsAt0 m c t.val t.isLt).2.1 = View.canon (halves (e := .bf16) ((pointReads m c t).dxb 0 lo) ((pointReads m c t).dxb 256 hi)) := by
  by_cases h0 : t.val % 16 = 0
  · rw [leftA m c t h0]
  · rw [leftB m c t h0]

theorem left9A (t : Fin cfg0.N) (h0 : t.val % 16 = 0) : (outsAt0 m c t.val t.isLt).2.2
    = View.canon (added (ms0_9 t).view ((ms0_9 t).view.readCov cleared (rowAll 1024).toLoadRect) ((pointReads m c t).dg 0 lo) ((pointReads m c t).dg 256 hi) cleared) := by
  rw [leftA m c t h0]

theorem left9B (t : Fin cfg0.N) (h0 : ¬ t.val % 16 = 0) : (outsAt0 m c t.val t.isLt).2.2
    = View.canon (added (ms0_9 t).view (View.readAt (Elt Ideal) (ms0_9 t).view (rowAll 1024).toLoadRect ((hs0_9 t).unread (before m c t)))
        ((pointReads m c t).dg 0 lo) ((pointReads m c t).dg 256 hi) []) := by
  rw [leftB m c t h0]

abbrev a0 : FVec Ideal S8192x2816 .f32 := m ((c : Thread nD τ).loc main_arg0)
abbrev a1 : FVec Ideal S8192x2816 .f32 := m ((c : Thread nD τ).loc main_arg1)
abbrev a2 : FVec Ideal S1024x2816 .f32 := m ((c : Thread nD τ).loc main_arg2)
abbrev a3 : FVec Ideal S1024x2816 .f32 := m ((c : Thread nD τ).loc main_arg3)
abbrev a4 : FVec Ideal S8192x1024 .f32 := m ((c : Thread nD τ).loc main_arg4)
abbrev a5 : FVec Ideal S8192x1024 .f32 := m ((c : Thread nD τ).loc main_arg5)
abbrev a6 : FVec Ideal S1x1024 .f32 := m ((c : Thread nD τ).loc main_arg6)

theorem entry1 : V m c main_v1 = truncf .bf16 (transpose S2816x1024 [1, 0] (a2 m c) transposes_S1024x2816_S2816x1024_1_0) bitsLt_bf16_f32 := by
  unfold V
  after_reads_simp
theorem entry3 : V m c main_v3 = truncf .bf16 (transpose S2816x1024 [1, 0] (a3 m c) transposes_S1024x2816_S2816x1024_1_0) bitsLt_bf16_f32 := by
  unfold V
  after_reads_simp
theorem entry4 : V m c main_v4 = truncf .bf16 (a0 m c) bitsLt_bf16_f32 := by
  unfold V
  after_reads_simp
theorem entry5 : V m c main_v5 = truncf .bf16 (a1 m c) bitsLt_bf16_f32 := by
  unfold V
  after_reads_simp

theorem turned_at (w : S1024x2816.Idx → ℝ) (r : Fin 2816) (d : Fin 1024) :
    truncf .bf16 (transpose S2816x1024 [1, 0] (up w) transposes_S1024x2816_S2816x1024_1_0) bitsLt_bf16_f32 (ix2 r d) = ((of2 w d r : ℝ) : EReal) := by
  pointwise
  exact of2_is w d r

section
variable (p0 p1 : S8192x2816.Idx → ℝ) (w0 w1 : S1024x2816.Idx → ℝ) (f z : S8192x1024.Idx → ℝ) (g : S1x1024.Idx → ℝ)
  (h0 : a0 m c = up p0) (h1 : a1 m c = up p1) (h2 : a2 m c = up w0) (h3 : a3 m c = up w1) (h4 : a4 m c = up f) (h5 : a5 m c = up z) (h6 : a6 m c = up g)
include h0 h1 h2 h3 h4 h5 h6

theorem win_is (t : Fin cfg0.N) : Is (iblk m c 0 t : S512x2816.Idx → EReal) (from' (512 * t) (of2 p0)) ∧ Is (iblk m c 1 t : S2816x1024.Idx → EReal) (fun r d => of2 w0 d r)
    ∧ Is (iblk m c 2 t : S512x2816.Idx → EReal) (from' (512 * t) (of2 p1)) ∧ Is (iblk m c 3 t : S2816x1024.Idx → EReal) (fun r d => of2 w1 d r)
    ∧ Is (iblk m c 4 t : S512x1024.Idx → EReal) (from' (512 * t) (of2 f)) ∧ Is (iblk m c 5 t : S512x1024.Idx → EReal) (from' (512 * t) (of2 z))
    ∧ Is (iblk m c 6 t : S1x1024.Idx → EReal) (of2 g) := by
  refine ⟨fun r d => ?_, fun r d => ?_, fun r d => ?_, fun r d => ?_, fun r d => ?_, fun r d => ?_, fun r d => ?_⟩
  · exact (blk0 t _ r d).trans ((congrFun ((entry4 m c).trans (congrArg (fun x => truncf .bf16 x bitsLt_bf16_f32) h0)) _).trans (of2_is p0 _ d))
  · exact (blk1 t _ r d).trans ((congrFun ((entry1 m c).trans (congrArg (fun x => truncf .bf16 (transpose S2816x1024 [1, 0] x transposes_S1024x2816_S2816x1024_1_0) bitsLt_bf16_f32) h2)) _).trans (turned_at w0 r d))
  · exact (blk2 t _ r d).trans ((congrFun ((entry5 m c).trans (congrArg (fun x => truncf .bf16 x bitsLt_bf16_f32) h1)) _).trans (of2_is p1 _ d))
  · exact (blk3 t _ r d).trans ((congrFun ((entry3 m c).trans (congrArg (fun x => truncf .bf16 (transpose S2816x1024 [1, 0] x transposes_S1024x2816_S2816x1024_1_0) bitsLt_bf16_f32) h3)) _).trans (turned_at w1 r d))
  · exact (blk4 t _ r d).trans ((congrFun ((V_main_arg4 m c).trans h4) _).trans (of2_is f _ d))
  · exact (blk5 t _ r d).trans ((congrFun ((V_main_arg5 m c).trans h5) _).trans (of2_is z _ d))
  · exact (blk6 t _ r d).trans ((congrFun ((V_main_arg6 m c).trans h6) _).trans (of2_is g r d))

/-- What the grid point computes in one half. -/
theorem half_is (t : Fin cfg0.N) (r : ℕ) (h : r + 256 ≤ 512) :
    Is ((pointReads m c t).dx r h) (from' (512 * t + r) (D p0 p1 w0 w1 f z g)) ∧ Is ((pointReads m c t).dg r h) fun _ d => ∑ k : Fin 256, from' (512 * t + r) (E p0 p1 w0 w1 f) k d := by
  obtain ⟨i0, i1, i2, i3, i4, i5, i6⟩ := win_is m c p0 p1 w0 w1 f z g h0 h1 h2 h3 h4 h5 h6 t
  have j0 := unread_is' (ms0_0 t) (hs0_0 t) _ i0 h
  have j1 := unread_all' (ms0_1 t) (hs0_1 t) _ i1 (by decide)
  have j2 := unread_is' (ms0_2 t) (hs0_2 t) _ i2 h
  have j3 := unread_all' (ms0_3 t) (hs0_3 t) _ i3 (by decide)
  have j4 := unread_is (ms0_4 t) (hs0_4 t) _ i4 h
  have j5 := unread_is (ms0_5 t) (hs0_5 t) _ i5 h
  have j6 := unread_all (ms0_6 t) (hs0_6 t) _ i6 (by decide)
  have y := cot_is j0 j2 j1 j3
  refine ⟨((dxOf_is counts1024 j4 j6 y).add j5).congr fun a b => ?_, (dgOf_is counts1024 j4 y).congr fun a b => ?_⟩
  · show _ = dxr 1024 (of2 f) (of2 g) (A p0 p1 w0 w1) (512 * t + r + a) b + of2 z (512 * t + r + a) b
    rw [Nat.add_assoc]
    rfl
  · refine Finset.sum_congr rfl fun k _ => ?_
    show _ = dgr 1024 (of2 f) (A p0 p1 w0 w1) (512 * t + r + k) b
    rw [Nat.add_assoc]
    rfl

theorem sums_is : ∀ (n : ℕ) (t : Fin cfg0.N), t.val = n → Is ((outsAt0 m c t.val t.isLt).2.2 : S1x1024.Idx → EReal) (upto (E p0 p1 w0 w1 f) (512 * (t.val + 1))) := by
  intro n
  induction n with
  | zero =>
    intro t ht
    rw [left9A m c t (by omega)]
    refine (added_is _ (row_read _ _ cleared_is) (half_is m c p0 p1 w0 w1 f z g h0 h1 h2 h3 h4 h5 h6 t 0 lo).2
      (half_is m c p0 p1 w0 w1 f z g h0 h1 h2 h3 h4 h5 h6 t 256 hi).2 _).congr fun a b => Eq.trans ?_ (upto_step (E p0 p1 w0 w1 f) t.val a b)
    rw [ht]
    rfl
  | succ n ih =>
    intro t ht
    have hlt := point_lt t
    have hp : t.val - 1 + 1 = t.val := by omega
    have o := unread_all (ms0_9 t) (hs0_9 t) (before m c t) (ih ⟨t.val - 1, Nat.lt_of_le_of_lt (Nat.sub_le _ _) t.isLt⟩ (by show t.val - 1 = n; omega)) (by decide)
    rw [left9B m c t (by omega)]
    refine (added_is _ o (half_is m c p0 p1 w0 w1 f z g h0 h1 h2 h3 h4 h5 h6 t 0 lo).2
      (half_is m c p0 p1 w0 w1 f z g h0 h1 h2 h3 h4 h5 h6 t 256 hi).2 _).congr fun a b => Eq.trans ?_ (upto_step (E p0 p1 w0 w1 f) t.val a b)
    show upto (E p0 p1 w0 w1 f) (512 * (t.val - 1 + 1)) a b + _ + _ = _
    rw [hp]
    rfl

omit h0 h1 h2 h3 h4 h5 h6 in
/-- The outputs, whole. -/
def dxOut (i : S8192x1024.Idx) : EReal := ((D p0 p1 w0 w1 f z g (i 0).val (i 1).val : ℝ) : EReal)
omit h0 h1 h2 h3 h4 h5 h6 in
def dgOut (i : S1x1024.Idx) : EReal := ((∑ k : Fin 8192, E p0 p1 w0 w1 f k (i 1).val : ℝ) : EReal)

theorem final7 : (dats m 0 c).arrAt 7 cfg0.N = dxOut p0 p1 w0 w1 f z g := by
  refine (dats m 0 c).arrAt_eq_of_covers 7 _ (by decide +kernel) fun t hf y => ?_
  refine (congrFun ((after0_7 m c t).trans (left7 m c t)) y).trans ?_
  idx_vars y
  refine Eq.trans ?_ (blk7 t (dxOut p0 p1 w0 w1 f z g) y0 y1).symm
  exact halves_is (D := from' (512 * t) (D p0 p1 w0 w1 f z g)) _ _ (half_is m c p0 p1 w0 w1 f z g h0 h1 h2 h3 h4 h5 h6 t 0 lo).1
    ((half_is m c p0 p1 w0 w1 f z g h0 h1 h2 h3 h4 h5 h6 t 256 hi).1.congr fun a b => congrArg (D p0 p1 w0 w1 f z g · b) (Nat.add_assoc _ _ _)) y0 y1

theorem final8 : (dats m 0 c).arrAt 8 cfg0.N = dxOut p0 p1 w0 w1 f z g := by
  refine (dats m 0 c).arrAt_eq_of_covers 8 _ (by decide +kernel) fun t hf y => ?_
  refine (congrFun ((after0_8 m c t).trans (left8 m c t)) y).trans ?_
  idx_vars y
  refine Eq.trans ?_ (blk8 t (dxOut p0 p1 w0 w1 f z g) y0 y1).symm
  exact halves_is' (D := from' (512 * t) (D p0 p1 w0 w1 f z g)) _ _ (half_is m c p0 p1 w0 w1 f z g h0 h1 h2 h3 h4 h5 h6 t 0 lo).1
    ((half_is m c p0 p1 w0 w1 f z g h0 h1 h2 h3 h4 h5 h6 t 256 hi).1.congr fun a b => congrArg (D p0 p1 w0 w1 f z g · b) (Nat.add_assoc _ _ _)) y0 y1

theorem final9 : (dats m 0 c).arrAt 9 cfg0.N = dgOut p0 p1 w0 w1 f := by
  refine (dats m 0 c).arrAt_eq_of_covers 9 _ (by decide +kernel) fun t hf y => ?_
  refine (congrFun (after0_9 m c t) y).trans ?_
  have ht : 512 * (t.val + 1) = 8192 := by
    have := (flush0_9 t).mp hf
    have := point_lt t
    omega
  idx_vars y
  refine Eq.trans ?_ (blk9 t (dgOut p0 p1 w0 w1 f) y0 y1).symm
  refine (sums_is m c p0 p1 w0 w1 f z g h0 h1 h2 h3 h4 h5 h6 t.val t rfl y0 y1).trans ?_
  rw [ht, upto_all]
  rfl
end
end

/-! ## The reference -/

section
open Cert.FfnReferenceIdeal Cert.FfnReferenceIdeal.Gen Cert.FfnReferenceIdeal.Read

theorem hosted : Hosted 8192 1024 where
  sums := reducesTo_S8192x1024_S8192_d1
  sums1 := reducesTo_S8192x1_S8192_d1
  cols := reducesTo_S8192x1024_S1024_d0
  cols1 := reducesTo_S1x1024_S1024_d0
  one := h_S_
  col := bcast_S8192_S8192x1_0
  wide := bcast_S8192_S8192x1024_0
  spread := bcast_S8192x1_S8192x1024_0_1
  scalar := bcast_S_S8192x1
  row := bcast_S1024_S1x1024_1
  down := bcast_S1x1024_S8192x1024_0_1

section
variable {F : FTy → Type} [FloatOps F] (x0 x1 : FVec F S8192x2816 .f32) (x2 x3 : FVec F S1024x2816 .f32) (x4 x5 : FVec F S8192x1024 .f32) (x6 : FVec F S1x1024 .f32)

def flat : FVec F S1024 .f32 := shapeCast _ x6 shapeCasts_S1x1024_S1024

theorem stage42 : val_main_v42 (F := F) x0 x1 x2 x3 x4 x5 x6
    = hDx hosted 0x44800000#32 (flat x6) x4 (val_main_v21 (F := F) x0 x1 x2 x3) (addf x5 (hDirect hosted 0x44800000#32 (flat x6) x4 (val_main_v21 (F := F) x0 x1 x2 x3))) := by
  sl_kernel_rfl
theorem stage44 : val_main_v44 (F := F) x0 x1 x2 x3 x4 = shapeCast S1x1024 (hDg hosted 0x44800000#32 x4 (val_main_v21 (F := F) x0 x1 x2 x3)) shapeCasts_S1024_S1x1024 := by
  sl_kernel_rfl
end

variable (p0 p1 : S8192x2816.Idx → ℝ) (w0 w1 : S1024x2816.Idx → ℝ) (f z : S8192x1024.Idx → ℝ) (g : S1x1024.Idx → ℝ)

theorem prod_at (p : S8192x2816.Idx → ℝ) (w : S1024x2816.Idx → ℝ) (r : Fin 8192) (c : Fin 1024) :
    Host.dotGeneral (F := Ideal) dot_S8192x2816_S1024x2816_S8192x1024_1_1_0_0_n_n none (up p) (up w) (ix2 r c) = ((∑ k : Fin 2816, of2 p r k * of2 w c k : ℝ) : EReal) := by
  pointwise
  simp only [← EReal.coe_mul, coe_sum]
  refine congrArg Real.toEReal (Finset.sum_congr rfl fun k _ => congrArg₂ (· * ·) ?_ ?_)
  · exact (of2_at p r.isLt k.isLt).symm
  · exact (of2_at w c.isLt k.isLt).symm

theorem y_is : Is (val_main_v21 (F := Ideal) (up p0) (up p1) (up w0) (up w1)) (A p0 p1 w0 w1) := fun r c => by
  have e0 : val_main_v20 (F := Ideal) (up p0) (up w0) (ix2 r c) = _ := prod_at p0 w0 r c
  have e1 : val_main_v19 (F := Ideal) (up p1) (up w1) (ix2 r c) = _ := prod_at p1 w1 r c
  refine (val_main_v21_apply _ _ _ _ _).trans ?_
  rw [e0, e1]
  exact (EReal.coe_add _ _).symm.trans (congrArg Real.toEReal (add_comm _ _))

theorem flat_is : Is₁ (flat (F := Ideal) (up g)) fun c => of2 g 0 c := fun c =>
  (ValueIdx.shapeCast_1a_a_apply _ _ c).trans (of2_is g 0 c)

theorem ref42 : val_main_v42 (F := Ideal) (up p0) (up p1) (up w0) (up w1) (up f) (up z) (up g) = dxOut p0 p1 w0 w1 f z g := by
  rw [stage42]
  have hy := y_is p0 p1 w0 w1
  generalize val_main_v21 (F := Ideal) (up p0) (up p1) (up w0) (up w1) = y at hy ⊢
  have h := hDx_is hosted counts1024 (of2_is f) (flat_is g) hy ((of2_is z).add (hDirect_is hosted counts1024 (of2_is f) (flat_is g) hy))
  funext i
  idx_vars i
  refine (h i0 i1).trans (congrArg Real.toEReal ?_)
  show _ = dxr 1024 (of2 f) (of2 g) (A p0 p1 w0 w1) i0 i1 + of2 z i0 i1
  rw [← dxr_eq]
  ring

theorem ref44 : val_main_v44 (F := Ideal) (up p0) (up p1) (up w0) (up w1) (up f) = dgOut p0 p1 w0 w1 f := by
  rw [stage44]
  have h := (hDg_is hosted counts1024 (of2_is f) (y_is p0 p1 w0 w1)).cast shapeCasts_S1024_S1x1024
  funext i
  idx_vars i
  exact h i0 i1

/-- The precondition makes all arguments arrays of reals. -/
theorem finite (x0 x1 : FVec Ideal Pre_ffn_finite.S8192x2816 .f32) (x2 x3 : FVec Ideal Pre_ffn_finite.S1024x2816 .f32)
    (x4 x5 : FVec Ideal Pre_ffn_finite.S8192x1024 .f32) (x6 : FVec Ideal Pre_ffn_finite.S1x1024 .f32)
    (h : Cert.Pre_ffn_finite.fn (F := Ideal) x0 x1 x2 x3 x4 x5 x6 = fun _ => 1#1) :
    (∃ f, x0 = up f) ∧ (∃ f, x1 = up f) ∧ (∃ f, x2 = up f) ∧ (∃ f, x3 = up f) ∧ (∃ f, x4 = up f) ∧ (∃ f, x5 = up f) ∧ ∃ f, x6 = up f := by
  have e := congrFun h ix0
  obtain ⟨e, e6⟩ := IntOp.andi_eq_one.1 e
  obtain ⟨e, e5⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  exact ⟨real_of_all x0 _ _ _ _ e0, real_of_all x1 _ _ _ _ e1, real_of_all x2 _ _ _ _ e2, real_of_all x3 _ _ _ _ e3, real_of_all x4 _ _ _ _ e4,
    real_of_all x5 _ _ _ _ e5, real_of_all x6 _ _ _ _ e6⟩
end

/-- The kernel's three results are the gradients at the rows, twice, and at the scale. -/
theorem algebraic : Cert.algebraic_FfnKernelIdeal_FfnReferenceIdeal_pre_ffn_finite := by
  pair_intro
  · run_from Cert.FfnKernelIdeal.Value.run_blocks m g
  · refine (θ_run _ _ _).mono (fun s h c => ?_) (Cert.FfnReferenceIdeal.Value.run (F := Ideal) m' g')
    obtain ⟨h0, h1, h2, h3⟩ := h c
    obtain ⟨e0, e1, e2, e3, e4, e5, e6⟩ := hagree c
    obtain ⟨⟨f0, hf0⟩, ⟨f1, hf1⟩, ⟨f2, hf2⟩, ⟨f3, hf3⟩, ⟨f4, hf4⟩, ⟨f5, hf5⟩, ⟨f6, hf6⟩⟩ := finite _ _ _ _ _ _ _ (hpre c)
    refine ⟨h0.trans ?_, h1.trans ?_, h2.trans ?_, h3⟩
    · rw [final7 m c f0 f1 f2 f3 f4 f5 f6 hf0 hf1 hf2 hf3 hf4 hf5 hf6]
      refine (Cert.FfnReferenceIdeal.Read.val_main_v42_eq _ _).trans ?_
      rw [e0, e1, e2, e3, e4, e5, e6, hf0, hf1, hf2, hf3, hf4, hf5, hf6]
      exact ref42 f0 f1 f2 f3 f4 f5 f6
    · rw [final8 m c f0 f1 f2 f3 f4 f5 f6 hf0 hf1 hf2 hf3 hf4 hf5 hf6]
      refine (Cert.FfnReferenceIdeal.Read.val_main_v43_eq _ _).trans ?_
      rw [e0, e1, e2, e3, e4, e5, e6, hf0, hf1, hf2, hf3, hf4, hf5, hf6]
      exact ref42 f0 f1 f2 f3 f4 f5 f6
    · rw [final9 m c f0 f1 f2 f3 f4 f5 f6 hf0 hf1 hf2 hf3 hf4 hf5 hf6]
      refine (Cert.FfnReferenceIdeal.Read.val_main_v44_eq _ _ _ _ _).trans ?_
      rw [e0, e1, e2, e3, e4, hf0, hf1, hf2, hf3, hf4]
      exact ref44 f0 f1 f2 f3 f4

/-- The reference runs and keeps its arguments; it has no counters. -/
theorem frame_reference : Cert.quiescent_FfnReferenceIdeal := fun m g _ =>
  (θ_run _ _ _).mono (fun _ h => ⟨fun c => (h c).2.2.2, no_counters rfl rfl _ _⟩) (Cert.FfnReferenceIdeal.Value.run (F := Idealize.ShloMosaic.Ideal) m g)
end Cert.Ffn
end
-- ==== Proof.Loss.lean ====
module

public import proofs.«01_k».proof.Proof.Halves
public import proofs.«01_k».proof.Proof.Gen.LossKernelIdeal.Value
public import proofs.«01_k».proof.Proof.Gen.LossReferenceIdeal.Read
public import proofs.«01_k».proof.Proof.Gen.LossReferenceIdeal.Run
public import proofs.«01_k».proof.Proof.Gen.Pre_loss_finite
public import proofs.«01_k».proof.Defs
public import Idealize.ShloMosaic.Lib.StableHlo.RunRead

/-! The last product, the final norm and the loss: what the kernel's four outputs hold, and that they are the gradient at the
    rows, twice, the gradient at the norm's scale, and the loss. -/

@[expose] public section
set_option maxRecDepth 16384

noncomputable section

namespace Cert.Loss

open Idealize.ShloMosaic Idealize.ShloMosaic.TcCoe Idealize.SL.Sem Reals Attn Norm

/-- An array of reals. -/
abbrev up {s : Shape} (f : s.Idx → ℝ) : FVec Ideal s .f32 := fun i => ((f i : ℝ) : EReal)

/-- A real vector by its row numbers. -/
def of1 {n : ℕ} (f : (Flat n).Idx → ℝ) (c : ℕ) : ℝ := if h : c < n then f (ix1 ⟨c, h⟩) else 0

theorem of1_is {n : ℕ} (f : (Flat n).Idx → ℝ) : Is₁ (fun i => ((f i : ℝ) : EReal)) (of1 f) := fun c => by
  unfold of1
  rw [dif_pos c.isLt]

/-! ## What one grid point stores -/

section
open Cert.LossKernelIdeal Cert.LossKernelIdeal.Gen
variable {F : FTy → Type} [FloatOps F]

/-- Half the sum of the rows' mean squares. -/
def lossOf (d : FVec F (S₂ 256 1024) .f32) : FVec F (S₂ 1 1) .f32 :=
  mulf (broadcast _ (Scalar.ofBits .f32 0x3F000000#32)) (shapeCast _ (multiReduction .add [0] (Flat 1)
    (divf (rowSum (mulf d d)) (broadcast _ (Scalar.ofBits .f32 0x44800000#32))) 0x00000000#32 (red_row _ _) (.inl rfl) rfl) (casts_row _))

/-- What a grid point reads: rows of the activation, the weights, rows of the residual stream and of the target, the scale. -/
structure Reads (F : FTy → Type) where
  p : ∀ r, r + 256 ≤ 512 → FVec F (S₂ 256 2816) .bf16
  w : FVec F (S₂ 2816 1024) .bf16
  x : ∀ r, r + 256 ≤ 512 → FVec F (S₂ 256 1024) .f32
  t : ∀ r, r + 256 ≤ 512 → FVec F (S₂ 256 1024) .f32
  g : FVec F (S₂ 1 1024) .f32

namespace Reads
variable (R : Reads F) (r : ℕ) (h : r + 256 ≤ 512)
def scale : FVec F (S₂ 1 1024) .f32 := shapeCast _ R.g (casts_refl _)
def out : FVec F (S₂ 256 1024) .f32 :=
  addf (R.x r h) (matmul (DotDims.plain 256 2816 1024) none (shapeCast _ (R.p r h) (casts_refl _)) (shapeCast _ R.w (casts_refl _)) (constant _ .f32 0x00000000#32))
def diff : FVec F (S₂ 256 1024) .f32 := subf (mulf (normed 0x44800000#32 (R.out r h)) (broadcastTo _ R.scale (bc_row _ _))) (R.t r h)
def y : FVec F (S₂ 256 1024) .f32 := divf (R.diff r h) (broadcast _ (Scalar.ofBits .f32 0x44800000#32))
def dx : FVec F (S₂ 256 1024) .f32 := dxOf 0x44800000#32 R.scale (R.out r h) (R.y r h)
def dxb : FVec F (S₂ 256 1024) .bf16 := truncf .bf16 (R.dx r h) bitsLt_bf16_f32
def dg : FVec F (S₂ 1 1024) .f32 := dgOf 0x44800000#32 (R.out r h) (R.y r h)
def loss : FVec F (S₂ 1 1) .f32 := lossOf (R.diff r h)
end Reads

variable (c : Dev nD) (i : grid0.Coords)
  (arg1 : Memref sig .tc .vmem S512x2816 .bf16) (harg1 : arg1.IsWhole) (arg2 : Memref sig .tc .vmem S2816x1024 .bf16) (harg2 : arg2.IsWhole)
  (arg3 : Memref sig .tc .vmem S512x1024 .f32) (harg3 : arg3.IsWhole) (arg4 : Memref sig .tc .vmem S512x1024 .f32) (harg4 : arg4.IsWhole)
  (arg5 : Memref sig .tc .vmem S1x1024 .f32) (harg5 : arg5.IsWhole) (arg6 : Memref sig .tc .vmem S512x1024 .f32) (harg6 : arg6.IsWhole)
  (arg7 : Memref sig .tc .vmem S512x1024 .bf16) (harg7 : arg7.IsWhole) (arg8 : Memref sig .tc .vmem S1x1024 .f32) (harg8 : arg8.IsWhole)
  (arg9 : Memref sig .tc .vmem S1x1 .f32) (harg9 : arg9.IsWhole)
  (x0 : Vec F S512x2816 .bf16) (x1 : Vec F S2816x1024 .bf16) (x2 : Vec F S512x1024 .f32) (x3 : Vec F S512x1024 .f32) (x4 : Vec F S1x1024 .f32)

def reads : Reads F where
  p r h := View.readAt (Elt F) arg1.view (rows 512 2816 r 256 h).toLoadRect (harg1.unread x0)
  w := View.readAt (Elt F) arg2.view (rows 2816 1024 0 2816 (by decide)).toLoadRect (harg2.unread x1)
  x r h := View.readAt (Elt F) arg3.view (rows 512 1024 r 256 h).toLoadRect (harg3.unread x2)
  t r h := View.readAt (Elt F) arg4.view (rows 512 1024 r 256 h).toLoadRect (harg4.unread x3)
  g := View.readAt (Elt F) arg5.view (rowAll 1024).toLoadRect (harg5.unread x4)

abbrev lo : 0 + 256 ≤ 512 := by decide
abbrev hi : 256 + 256 ≤ 512 := by decide

variable (R : Reads F) (hR : R = reads arg1 harg1 arg2 harg2 arg3 harg3 arg4 harg4 arg5 harg5 x0 x1 x2 x3 x4)

section
variable (hc0 : cond0_0 i)
include hR

theorem A5 : out0_A_5 c i arg1 harg1 arg2 harg2 arg3 harg3 arg4 harg4 arg5 harg5 arg6 harg6 arg7 harg7 arg8 harg8 arg9 harg9 hc0 x0 x1 x2 x3 x4
    = View.canon (halves (e := .f32) (R.dx 0 lo) (R.dx 256 hi)) := by
  subst hR
  refine (View.read_writes_junk_eq_canon _ _).trans (congrArg View.canon ?_)
  sl_kernel_rfl

theorem A6 : out0_A_6 c i arg1 harg1 arg2 harg2 arg3 harg3 arg4 harg4 arg5 harg5 arg6 harg6 arg7 harg7 arg8 harg8 arg9 harg9 hc0 x0 x1 x2 x3 x4
    = View.canon (halves (e := .bf16) (R.dxb 0 lo) (R.dxb 256 hi)) := by
  subst hR
  refine (View.read_writes_junk_eq_canon _ _).trans (congrArg View.canon ?_)
  sl_kernel_rfl

theorem A7 : out0_A_7 c i arg1 harg1 arg2 harg2 arg3 harg3 arg4 harg4 arg5 harg5 arg6 harg6 arg7 harg7 arg8 harg8 arg9 harg9 hc0 x0 x1 x2 x3 x4
    = View.canon (added arg8.view (arg8.view.readCov cleared (rowAll 1024).toLoadRect) (R.dg 0 lo) (R.dg 256 hi) cleared) := by
  subst hR
  refine (View.read_writes_junk_eq_canon _ _).trans (congrArg View.canon ?_)
  sl_kernel_rfl

theorem A8 : out0_A_8 c i arg1 harg1 arg2 harg2 arg3 harg3 arg4 harg4 arg5 harg5 arg6 harg6 arg7 harg7 arg8 harg8 arg9 harg9 hc0 x0 x1 x2 x3 x4
    = View.canon (added arg9.view (arg9.view.readCov cleared (rowAll 1).toLoadRect) (R.loss 0 lo) (R.loss 256 hi) cleared) := by
  subst hR
  refine (View.read_writes_junk_eq_canon _ _).trans (congrArg View.canon ?_)
  sl_kernel_rfl
end

section
variable (hc0 : ¬ cond0_0 i) (xo7 : Vec F S1x1024 .f32) (xo8 : Vec F S1x1 .f32)
include hR

theorem B5 : out0_B_5 c i arg1 harg1 arg2 harg2 arg3 harg3 arg4 harg4 arg5 harg5 arg6 harg6 arg7 harg7 arg8 harg8 arg9 harg9 hc0 x0 x1 x2 x3 x4 xo7 xo8
    = View.canon (halves (e := .f32) (R.dx 0 lo) (R.dx 256 hi)) := by
  subst hR
  refine (View.read_writes_junk_eq_canon _ _).trans (congrArg View.canon ?_)
  sl_kernel_rfl

theorem B6 : out0_B_6 c i arg1 harg1 arg2 harg2 arg3 harg3 arg4 harg4 arg5 harg5 arg6 harg6 arg7 harg7 arg8 harg8 arg9 harg9 hc0 x0 x1 x2 x3 x4 xo7 xo8
    = View.canon (halves (e := .bf16) (R.dxb 0 lo) (R.dxb 256 hi)) := by
  subst hR
  refine (View.read_writes_junk_eq_canon _ _).trans (congrArg View.canon ?_)
  sl_kernel_rfl

theorem B7 : out0_B_7 c i arg1 harg1 arg2 harg2 arg3 harg3 arg4 harg4 arg5 harg5 arg6 harg6 arg7 harg7 arg8 harg8 arg9 harg9 hc0 x0 x1 x2 x3 x4 xo7 xo8
    = View.canon (added arg8.view (View.readAt (Elt F) arg8.view (rowAll 1024).toLoadRect (harg8.unread xo7)) (R.dg 0 lo) (R.dg 256 hi) []) := by
  subst hR
  refine (View.read_writes_junk_eq_canon _ _).trans (congrArg View.canon ?_)
  sl_kernel_rfl

theorem B8 : out0_B_8 c i arg1 harg1 arg2 harg2 arg3 harg3 arg4 harg4 arg5 harg5 arg6 harg6 arg7 harg7 arg8 harg8 arg9 harg9 hc0 x0 x1 x2 x3 x4 xo7 xo8
    = View.canon (added arg9.view (View.readAt (Elt F) arg9.view (rowAll 1).toLoadRect (harg9.unread xo8)) (R.loss 0 lo) (R.loss 256 hi) []) := by
  subst hR
  refine (View.read_writes_junk_eq_canon _ _).trans (congrArg View.canon ?_)
  sl_kernel_rfl
end
end

/-! ## Over the whole grid -/

section
variable (a : Cert.LossKernelIdeal.S8192x2816.Idx → ℝ) (w : Cert.LossKernelIdeal.S2816x1024.Idx → ℝ)
  (x t : Cert.LossKernelIdeal.S8192x1024.Idx → ℝ) (g : Cert.LossKernelIdeal.S1024.Idx → ℝ)

/-- The residual stream after the last product, the scale as a row, -/
def X2 (r c : ℕ) : ℝ := of2 x r c + ∑ k : Fin 2816, of2 a r k * of2 w k c
def G (_ c : ℕ) : ℝ := of1 g c
/-- the distance from the target and the gradient it gives, -/
def T (r c : ℕ) : ℝ := X2 a w x r c * rs 1024 (X2 a w x) r * of1 g c - of2 t r c
def Y (r c : ℕ) : ℝ := T a w x t g r c / 1024
/-- the gradient at the rows, one row's part of the gradient at the scale and of the loss. -/
def D (r c : ℕ) : ℝ := dxr 1024 (X2 a w x) (G g) (Y a w x t g) r c
def E (r c : ℕ) : ℝ := dgr 1024 (X2 a w x) (Y a w x t g) r c
def L (r _ : ℕ) : ℝ := 1 / 2 * ((∑ k : Fin 1024, T a w x t g r k * T a w x t g r k) / 1024)
end

theorem two_eq : (Ideal.ofBits .f32 0x40000000#32 : EReal) = ((2 : ℝ) : EReal) := by
  simp [Ideal.ofBits, Ideal.ieee]
  rw [← EReal.coe_mul]
  norm_num

theorem half_eq : (Ideal.ofBits .f32 0x3F000000#32 : EReal) = ((1 / 2 : ℝ) : EReal) := by
  simp [Ideal.ofBits, Ideal.ieee]
  rw [← EReal.coe_mul]
  norm_num

section
open Cert.LossKernelIdeal Cert.LossKernelIdeal.Gen Cert.LossKernelIdeal.Value

theorem lossOf_is {d : FVec Ideal (S₂ 256 1024) .f32} {V : ℕ → ℕ → ℝ} (hd : Is d V) :
    Is (lossOf d) fun _ _ => 1 / 2 * ∑ r : Fin 256, (∑ k : Fin 1024, V r k * V r k) / 1024 :=
  (Is.const _ _ half_eq).mul ((divs ((hd.mul hd).rowSum _ _ _ _) (Is.const _ _ counts1024.1) fun _ _ => counts1024.2).colSum _ _ _ _)

theorem idx : ∀ t : Fin cfg0.N, win0_0.index t = ![t.val, 0] ∧ win0_1.index t = ![0, 0] ∧ win0_2.index t = ![t.val, 0] ∧ win0_3.index t = ![t.val, 0]
    ∧ win0_4.index t = ![0, 0] ∧ win0_5.index t = ![t.val, 0] ∧ win0_6.index t = ![t.val, 0]
    ∧ win0_7.index t = ![0, 0] ∧ win0_8.index t = ![0, 0] :=
  (by decide +kernel : ∀ t : Fin grid0.N, _)

theorem point_lt (t : Fin cfg0.N) : t.val < 16 := t.isLt

theorem blk0 (t : Fin cfg0.N) (W : S8192x2816.Idx → EReal) (i : Fin 512) (j : Fin 2816) :
    (((cfg0.win 0).blk t).view.read (Elt Ideal) W : S512x2816.Idx → EReal) (ix2 i j) = W (ix2 ⟨512 * t.val + i, by have := point_lt t; omega⟩ j) := by
  have := point_lt t
  blk_simp [idx t]
  blk_ext [idx t]

theorem blk1 (t : Fin cfg0.N) (W : S2816x1024.Idx → EReal) (i : Fin 2816) (j : Fin 1024) :
    (((cfg0.win 1).blk t).view.read (Elt Ideal) W : S2816x1024.Idx → EReal) (ix2 i j) = W (ix2 i j) := by
  blk_simp [idx t]
  blk_ext [idx t]

theorem blk2 (t : Fin cfg0.N) (W : S8192x1024.Idx → EReal) (i : Fin 512) (j : Fin 1024) :
    (((cfg0.win 2).blk t).view.read (Elt Ideal) W : S512x1024.Idx → EReal) (ix2 i j) = W (ix2 ⟨512 * t.val + i, by have := point_lt t; omega⟩ j) := by
  have := point_lt t
  blk_simp [idx t]
  blk_ext [idx t]

theorem blk3 (t : Fin cfg0.N) (W : S8192x1024.Idx → EReal) (i : Fin 512) (j : Fin 1024) :
    (((cfg0.win 3).blk t).view.read (Elt Ideal) W : S512x1024.Idx → EReal) (ix2 i j) = W (ix2 ⟨512 * t.val + i, by have := point_lt t; omega⟩ j) := by
  have := point_lt t
  blk_simp [idx t]
  blk_ext [idx t]

theorem blk4 (t : Fin cfg0.N) (W : S1x1024.Idx → EReal) (i : Fin 1) (j : Fin 1024) :
    (((cfg0.win 4).blk t).view.read (Elt Ideal) W : S1x1024.Idx → EReal) (ix2 i j) = W (ix2 i j) := by
  blk_simp [idx t]
  blk_ext [idx t]

theorem blk5 {α : Type} (t : Fin cfg0.N) (W : S8192x1024.Idx → α) (i : Fin 512) (j : Fin 1024) :
    W ((win0_5.blk t).view.emb (ix2 i j)) = W (ix2 ⟨512 * t.val + i, by have := point_lt t; omega⟩ j) := by
  have := point_lt t
  refine congrArg W ?_
  blk_ext [idx t]

theorem blk6 {α : Type} (t : Fin cfg0.N) (W : S8192x1024.Idx → α) (i : Fin 512) (j : Fin 1024) :
    W ((win0_6.blk t).view.emb (ix2 i j)) = W (ix2 ⟨512 * t.val + i, by have := point_lt t; omega⟩ j) := by
  have := point_lt t
  refine congrArg W ?_
  blk_ext [idx t]

theorem blk7 {α : Type} (t : Fin cfg0.N) (W : S1x1024.Idx → α) (i : Fin 1) (j : Fin 1024) : W ((win0_7.blk t).view.emb (ix2 i j)) = W (ix2 i j) := by
  refine congrArg W ?_
  blk_ext [idx t]

theorem blk8 {α : Type} (t : Fin cfg0.N) (W : S1x1.Idx → α) (i : Fin 1) (j : Fin 1) : W ((win0_8.blk t).view.emb (ix2 i j)) = W (ix2 i j) := by
  refine congrArg W ?_
  blk_ext [idx t]

variable (m : (ℓ : Loc nD τ sig) → Buf (Elt Ideal) ℓ) (c : Dev nD)

/-- The reads of grid point `t`. -/
def pointReads (t : Fin cfg0.N) : Reads Ideal :=
  reads (ms0_0 t) (hs0_0 t) (ms0_1 t) (hs0_1 t) (ms0_2 t) (hs0_2 t) (ms0_3 t) (hs0_3 t) (ms0_4 t) (hs0_4 t) (iblk m c 0 t) (iblk m c 1 t) (iblk m c 2 t) (iblk m c 3 t) (iblk m c 4 t)

theorem leftA (t : Fin cfg0.N) (h0 : t.val % 16 = 0) : outsAt0 m c t.val t.isLt
    = (View.canon (halves (e := .f32) ((pointReads m c t).dx 0 lo) ((pointReads m c t).dx 256 hi)),
      View.canon (halves (e := .bf16) ((pointReads m c t).dxb 0 lo) ((pointReads m c t).dxb 256 hi)),
      View.canon (added (ms0_7 t).view ((ms0_7 t).view.readCov cleared (rowAll 1024).toLoadRect) ((pointReads m c t).dg 0 lo) ((pointReads m c t).dg 256 hi) cleared),
      View.canon (added (ms0_8 t).view ((ms0_8 t).view.readCov cleared (rowAll 1).toLoadRect) ((pointReads m c t).loss 0 lo) ((pointReads m c t).loss 256 hi) cleared)) := by
  have e := (rfl : pointReads m c t = _)
  rw [outsAt0_A m c t h0, A5 (hR := e), A6 (hR := e), A7 (hR := e), A8 (hR := e)]

/-- What the point before left in the row of sums and in the loss. -/
abbrev before7 (t : Fin cfg0.N) : Vec Ideal S1x1024 .f32 := (outsAt0 m c (t.val - 1) (Nat.lt_of_le_of_lt (Nat.sub_le _ _) t.isLt)).2.2.1
abbrev before8 (t : Fin cfg0.N) : Vec Ideal S1x1 .f32 := (outsAt0 m c (t.val - 1) (Nat.lt_of_le_of_lt (Nat.sub_le _ _) t.isLt)).2.2.2

theorem leftB (t : Fin cfg0.N) (h0 : ¬ t.val % 16 = 0) : outsAt0 m c t.val t.isLt
    = (View.canon (halves (e := .f32) ((pointReads m c t).dx 0 lo) ((pointReads m c t).dx 256 hi)),
      View.canon (halves (e := .bf16) ((pointReads m c t).dxb 0 lo) ((pointReads m c t).dxb 256 hi)),
      View.canon (added (ms0_7 t).view (View.readAt (Elt Ideal) (ms0_7 t).view (rowAll 1024).toLoadRect ((hs0_7 t).unread (before7 m c t)))
        ((pointReads m c t).dg 0 lo) ((pointReads m c t).dg 256 hi) []),
      View.canon (added (ms0_8 t).view (View.readAt (Elt Ideal) (ms0_8 t).view (rowAll 1).toLoadRect ((hs0_8 t).unread (before8 m c t)))
        ((pointReads m c t).loss 0 lo) ((pointReads m c t).loss 256 hi) [])) := by
  have e := (rfl : pointReads m c t = _)
  rw [outsAt0_B m c t h0, B5 (hR := e), B6 (hR := e), B7 (hR := e), B8 (hR := e)]

theorem left5 (t : Fin cfg0.N) : (outsAt0 m c t.val t.isLt).1 = View.canon (halves (e := .f32) ((pointReads m c t).dx 0 lo) ((pointReads m c t).dx 256 hi)) := by
  by_cases h0 : t.val % 16 = 0
  · rw [leftA m c t h0]
  · rw [leftB m c t h0]

theorem left6 (t : Fin cfg0.N) : (outsAt0 m c t.val t.isLt).2.1 = View.canon (halves (e := .bf16) ((pointReads m c t).dxb 0 lo) ((pointReads m c t).dxb 256 hi)) := by
  by_cases h0 : t.val % 16 = 0
  · rw [leftA m c t h0]
  · rw [leftB m c t h0]

theorem left7A (t : Fin cfg0.N) (h0 : t.val % 16 = 0) : (outsAt0 m c t.val t.isLt).2.2.1
    = View.canon (added (ms0_7 t).view ((ms0_7 t).view.readCov cleared (rowAll 1024).toLoadRect) ((pointReads m c t).dg 0 lo) ((pointReads m c t).dg 256 hi) cleared) := by
  rw [leftA m c t h0]

theorem left8A (t : Fin cfg0.N) (h0 : t.val % 16 = 0) : (outsAt0 m c t.val t.isLt).2.2.2
    = View.canon (added (ms0_8 t).view ((ms0_8 t).view.readCov cleared (rowAll 1).toLoadRect) ((pointReads m c t).loss 0 lo) ((pointReads m c t).loss 256 hi) cleared) := by
  rw [leftA m c t h0]

theorem left7B (t : Fin cfg0.N) (h0 : ¬ t.val % 16 = 0) : (outsAt0 m c t.val t.isLt).2.2.1
    = View.canon (added (ms0_7 t).view (View.readAt (Elt Ideal) (ms0_7 t).view (rowAll 1024).toLoadRect ((hs0_7 t).unread (before7 m c t)))
        ((pointReads m c t).dg 0 lo) ((pointReads m c t).dg 256 hi) []) := by
  rw [leftB m c t h0]

theorem left8B (t : Fin cfg0.N) (h0 : ¬ t.val % 16 = 0) : (outsAt0 m c t.val t.isLt).2.2.2
    = View.canon (added (ms0_8 t).view (View.readAt (Elt Ideal) (ms0_8 t).view (rowAll 1).toLoadRect ((hs0_8 t).unread (before8 m c t)))
        ((pointReads m c t).loss 0 lo) ((pointReads m c t).loss 256 hi) []) := by
  rw [leftB m c t h0]

abbrev a0 : FVec Ideal S8192x2816 .f32 := m ((c : Thread nD τ).loc main_arg0)
abbrev a1 : FVec Ideal S2816x1024 .f32 := m ((c : Thread nD τ).loc main_arg1)
abbrev a2 : FVec Ideal S8192x1024 .f32 := m ((c : Thread nD τ).loc main_arg2)
abbrev a3 : FVec Ideal S8192x1024 .f32 := m ((c : Thread nD τ).loc main_arg3)
abbrev a4 : FVec Ideal S1024 .f32 := m ((c : Thread nD τ).loc main_arg4)

theorem entry0 : V m c main_v0 = truncf .bf16 (a0 m c) bitsLt_bf16_f32 := by
  unfold V
  after_reads_simp
theorem entry1 : V m c main_v1 = truncf .bf16 (a1 m c) bitsLt_bf16_f32 := by
  unfold V
  after_reads_simp
theorem entry2 : V m c main_v2 = shapeCast S1x1024 (a4 m c) shapeCasts_S1024_S1x1024 := by
  unfold V
  after_reads_simp
  rfl

section
variable (a : S8192x2816.Idx → ℝ) (w : S2816x1024.Idx → ℝ) (x t : S8192x1024.Idx → ℝ) (g : S1024.Idx → ℝ)
  (h0 : a0 m c = up a) (h1 : a1 m c = up w) (h2 : a2 m c = up x) (h3 : a3 m c = up t) (h4 : a4 m c = up g)
include h0 h1 h2 h3 h4

theorem win_is (s : Fin cfg0.N) : Is (iblk m c 0 s : S512x2816.Idx → EReal) (from' (512 * s) (of2 a)) ∧ Is (iblk m c 1 s : S2816x1024.Idx → EReal) (of2 w)
    ∧ Is (iblk m c 2 s : S512x1024.Idx → EReal) (from' (512 * s) (of2 x)) ∧ Is (iblk m c 3 s : S512x1024.Idx → EReal) (from' (512 * s) (of2 t))
    ∧ Is (iblk m c 4 s : S1x1024.Idx → EReal) (G g) := by
  refine ⟨fun r d => ?_, fun r d => ?_, fun r d => ?_, fun r d => ?_, fun r d => ?_⟩
  · exact (blk0 s _ r d).trans ((congrFun ((entry0 m c).trans (congrArg (fun x => truncf .bf16 x bitsLt_bf16_f32) h0)) _).trans (of2_is a _ d))
  · exact (blk1 s _ r d).trans ((congrFun ((entry1 m c).trans (congrArg (fun x => truncf .bf16 x bitsLt_bf16_f32) h1)) _).trans (of2_is w r d))
  · exact (blk2 s _ r d).trans ((congrFun ((V_main_arg2 m c).trans h2) _).trans (of2_is x _ d))
  · exact (blk3 s _ r d).trans ((congrFun ((V_main_arg3 m c).trans h3) _).trans (of2_is t _ d))
  · exact (blk4 s _ r d).trans ((congrFun ((entry2 m c).trans (congrArg (fun x => shapeCast S1x1024 x shapeCasts_S1024_S1x1024) h4)) _).trans
      ((of1_is g).cast _ r d))

/-- What the grid point computes in one half. -/
theorem half_is (s : Fin cfg0.N) (r : ℕ) (h : r + 256 ≤ 512) :
    Is ((pointReads m c s).dx r h) (from' (512 * s + r) (D a w x t g)) ∧ (Is ((pointReads m c s).dg r h) fun _ d => ∑ k : Fin 256, from' (512 * s + r) (E a w x t g) k d)
      ∧ Is ((pointReads m c s).loss r h) fun _ d => ∑ k : Fin 256, from' (512 * s + r) (L a w x t g) k d := by
  obtain ⟨i0, i1, i2, i3, i4⟩ := win_is m c a w x t g h0 h1 h2 h3 h4 s
  have j0 := unread_is' (ms0_0 s) (hs0_0 s) _ i0 h
  have j1 := unread_all' (ms0_1 s) (hs0_1 s) _ i1 (by decide)
  have j2 := unread_is (ms0_2 s) (hs0_2 s) _ i2 h
  have j3 := unread_is (ms0_3 s) (hs0_3 s) _ i3 h
  have j4 : Is (pointReads m c s).scale (G g) := (unread_all (ms0_4 s) (hs0_4 s) _ i4 (by decide)).self _
  have o : Is ((pointReads m c s).out r h) (from' (512 * s + r) (X2 a w x)) := (j2.add ((j0.self _).matmulNN (j1.self _))).congr fun p q => by
    show _ = X2 a w x (512 * s + r + p) q
    rw [Nat.add_assoc]
    rfl
  have d : Is ((pointReads m c s).diff r h) (from' (512 * s + r) (T a w x t g)) := (((normed_is counts1024 o).mul (j4.bcRow _)).sub j3).congr fun p q => by
    show _ - of2 t (512 * s + (r + p)) q = _
    rw [← Nat.add_assoc]
    rfl
  have y : Is ((pointReads m c s).y r h) (from' (512 * s + r) (Y a w x t g)) := divs d (Is.const _ _ counts1024.1) fun _ _ => counts1024.2
  refine ⟨dxOf_is counts1024 o j4 y, dgOf_is counts1024 o y, (lossOf_is d).congr fun p q => ?_⟩
  rw [Finset.mul_sum]
  rfl

theorem sums7 : ∀ (n : ℕ) (s : Fin cfg0.N), s.val = n → Is ((outsAt0 m c s.val s.isLt).2.2.1 : S1x1024.Idx → EReal) (upto (E a w x t g) (512 * (s.val + 1))) := by
  intro n
  induction n with
  | zero =>
    intro s hs
    rw [left7A m c s (by omega)]
    refine (added_is _ (row_read _ _ cleared_is) (half_is m c a w x t g h0 h1 h2 h3 h4 s 0 lo).2.1
      (half_is m c a w x t g h0 h1 h2 h3 h4 s 256 hi).2.1 _).congr fun _ b => Eq.trans ?_ (upto_step (E a w x t g) s.val 0 b)
    rw [hs]
    rfl
  | succ n ih =>
    intro s hs
    have hlt := point_lt s
    have hp : s.val - 1 + 1 = s.val := by omega
    have o := unread_all (ms0_7 s) (hs0_7 s) (before7 m c s) (ih ⟨s.val - 1, Nat.lt_of_le_of_lt (Nat.sub_le _ _) s.isLt⟩ (by show s.val - 1 = n; omega)) (by decide)
    rw [left7B m c s (by omega)]
    refine (added_is _ o (half_is m c a w x t g h0 h1 h2 h3 h4 s 0 lo).2.1
      (half_is m c a w x t g h0 h1 h2 h3 h4 s 256 hi).2.1 _).congr fun _ b => Eq.trans ?_ (upto_step (E a w x t g) s.val 0 b)
    show upto (E a w x t g) (512 * (s.val - 1 + 1)) _ b + _ + _ = _
    rw [hp]
    rfl

theorem sums8 : ∀ (n : ℕ) (s : Fin cfg0.N), s.val = n → Is ((outsAt0 m c s.val s.isLt).2.2.2 : S1x1.Idx → EReal) (upto (L a w x t g) (512 * (s.val + 1))) := by
  intro n
  induction n with
  | zero =>
    intro s hs
    rw [left8A m c s (by omega)]
    refine (added_is _ (row_read _ _ cleared_is) (half_is m c a w x t g h0 h1 h2 h3 h4 s 0 lo).2.2
      (half_is m c a w x t g h0 h1 h2 h3 h4 s 256 hi).2.2 _).congr fun _ b => Eq.trans ?_ (upto_step (L a w x t g) s.val 0 b)
    rw [hs]
    rfl
  | succ n ih =>
    intro s hs
    have hlt := point_lt s
    have hp : s.val - 1 + 1 = s.val := by omega
    have o := unread_all (ms0_8 s) (hs0_8 s) (before8 m c s) (ih ⟨s.val - 1, Nat.lt_of_le_of_lt (Nat.sub_le _ _) s.isLt⟩ (by show s.val - 1 = n; omega)) (by decide)
    rw [left8B m c s (by omega)]
    refine (added_is _ o (half_is m c a w x t g h0 h1 h2 h3 h4 s 0 lo).2.2
      (half_is m c a w x t g h0 h1 h2 h3 h4 s 256 hi).2.2 _).congr fun _ b => Eq.trans ?_ (upto_step (L a w x t g) s.val 0 b)
    show upto (L a w x t g) (512 * (s.val - 1 + 1)) _ b + _ + _ = _
    rw [hp]
    rfl

omit h0 h1 h2 h3 h4 in
/-- The outputs, whole. -/
def dxOut (i : S8192x1024.Idx) : EReal := ((D a w x t g (i 0).val (i 1).val : ℝ) : EReal)
omit h0 h1 h2 h3 h4 in
def dgOut (i : S1x1024.Idx) : EReal := ((∑ k : Fin 8192, E a w x t g k (i 1).val : ℝ) : EReal)
omit h0 h1 h2 h3 h4 in
def lossOut (i : S1x1.Idx) : EReal := ((∑ k : Fin 8192, L a w x t g k (i 1).val : ℝ) : EReal)

theorem final5 : (dats m 0 c).arrAt 5 cfg0.N = dxOut a w x t g := by
  refine (dats m 0 c).arrAt_eq_of_covers 5 _ (by decide +kernel) fun s hf y => ?_
  refine (congrFun ((after0_5 m c s).trans (left5 m c s)) y).trans ?_
  idx_vars y
  refine Eq.trans ?_ (blk5 s (dxOut a w x t g) y0 y1).symm
  exact halves_is (D := from' (512 * s) (D a w x t g)) _ _ (half_is m c a w x t g h0 h1 h2 h3 h4 s 0 lo).1
    ((half_is m c a w x t g h0 h1 h2 h3 h4 s 256 hi).1.congr fun p q => congrArg (D a w x t g · q) (Nat.add_assoc _ _ _)) y0 y1

theorem final6 : (dats m 0 c).arrAt 6 cfg0.N = dxOut a w x t g := by
  refine (dats m 0 c).arrAt_eq_of_covers 6 _ (by decide +kernel) fun s hf y => ?_
  refine (congrFun ((after0_6 m c s).trans (left6 m c s)) y).trans ?_
  idx_vars y
  refine Eq.trans ?_ (blk6 s (dxOut a w x t g) y0 y1).symm
  exact halves_is' (D := from' (512 * s) (D a w x t g)) _ _ (half_is m c a w x t g h0 h1 h2 h3 h4 s 0 lo).1
    ((half_is m c a w x t g h0 h1 h2 h3 h4 s 256 hi).1.congr fun p q => congrArg (D a w x t g · q) (Nat.add_assoc _ _ _)) y0 y1

theorem final7 : (dats m 0 c).arrAt 7 cfg0.N = dgOut a w x t g := by
  refine (dats m 0 c).arrAt_eq_of_covers 7 _ (by decide +kernel) fun s hf y => ?_
  refine (congrFun (after0_7 m c s) y).trans ?_
  have ht : 512 * (s.val + 1) = 8192 := by
    have := (flush0_7 s).mp hf
    have := point_lt s
    omega
  idx_vars y
  refine Eq.trans ?_ (blk7 s (dgOut a w x t g) y0 y1).symm
  refine (sums7 m c a w x t g h0 h1 h2 h3 h4 s.val s rfl y0 y1).trans ?_
  rw [ht, upto_all]
  rfl

theorem final8 : (dats m 0 c).arrAt 8 cfg0.N = lossOut a w x t g := by
  refine (dats m 0 c).arrAt_eq_of_covers 8 _ (by decide +kernel) fun s hf y => ?_
  refine (congrFun (after0_8 m c s) y).trans ?_
  have ht : 512 * (s.val + 1) = 8192 := by
    have := (flush0_8 s).mp hf
    have := point_lt s
    omega
  idx_vars y
  refine Eq.trans ?_ (blk8 s (lossOut a w x t g) y0 y1).symm
  refine (sums8 m c a w x t g h0 h1 h2 h3 h4 s.val s rfl y0 y1).trans ?_
  rw [ht, upto_all]
  rfl

end
end

/-! ## The reference -/

section
open Cert.LossReferenceIdeal Cert.LossReferenceIdeal.Gen Cert.LossReferenceIdeal.Read

theorem hosted : Hosted 8192 1024 where
  sums := reducesTo_S8192x1024_S8192_d1
  sums1 := reducesTo_S8192x1_S8192_d1
  cols := reducesTo_S8192x1024_S1024_d0
  cols1 := reducesTo_S1x1024_S1024_d0
  one := h_S_
  col := bcast_S8192_S8192x1_0
  wide := bcast_S8192_S8192x1024_0
  spread := bcast_S8192x1_S8192x1024_0_1
  scalar := bcast_S_S8192x1
  row := bcast_S1024_S1x1024_1
  down := bcast_S1x1024_S8192x1024_0_1

section
variable {F : FTy → Type} [FloatOps F] (x0 : FVec F S8192x2816 .f32) (x1 : FVec F S2816x1024 .f32) (x2 x3 : FVec F S8192x1024 .f32) (x4 : FVec F S1024 .f32)

theorem stage18 : val_main_v18 (F := F) x0 x1 x2 x3 x4
    = subf (mulf (hNormed hosted 0x44800000#32 (val_main_v1 (F := F) x0 x1 x2)) (hScale hosted x4)) x3 := by
  sl_kernel_rfl
theorem stage52 : val_main_v52 (F := F) x0 x1 x2 x3 x4
    = hDx hosted 0x44800000#32 x4 (val_main_v1 (F := F) x0 x1 x2) (val_main_v32 (F := F) x0 x1 x2 x3 x4)
      (hDirect hosted 0x44800000#32 x4 (val_main_v1 (F := F) x0 x1 x2) (val_main_v32 (F := F) x0 x1 x2 x3 x4)) := by
  sl_kernel_rfl
theorem stage54 : val_main_v54 (F := F) x0 x1 x2 x3 x4
    = shapeCast S1x1024 (hDg hosted 0x44800000#32 (val_main_v1 (F := F) x0 x1 x2) (val_main_v32 (F := F) x0 x1 x2 x3 x4)) shapeCasts_S1024_S1x1024 := by
  sl_kernel_rfl
end

variable (a : S8192x2816.Idx → ℝ) (w : S2816x1024.Idx → ℝ) (x t : S8192x1024.Idx → ℝ) (g : S1024.Idx → ℝ)

theorem out_is : Is (val_main_v1 (F := Ideal) (up a) (up w) (up x)) (X2 a w x) := fun r c => by
  pointwise [val_main_v1, val_main_v0]
  simp only [← EReal.coe_mul, coe_sum, ← EReal.coe_add]
  refine congrArg Real.toEReal (congrArg₂ (· + ·) (of2_at x r.isLt c.isLt).symm (Finset.sum_congr rfl fun k _ => congrArg₂ (· * ·) ?_ ?_))
  · exact (of2_at a r.isLt k.isLt).symm
  · exact (of2_at w k.isLt c.isLt).symm

theorem diff_is : Is (val_main_v18 (F := Ideal) (up a) (up w) (up x) (up t) (up g)) (T a w x t g) := by
  rw [stage18]
  exact ((hNormed_is hosted counts1024 (out_is a w x)).mul (down_is ((of1_is g).row hosted.row) hosted.down)).sub (of2_is t)

theorem y_is : Is (val_main_v32 (F := Ideal) (up a) (up w) (up x) (up t) (up g)) (Y a w x t g) := fun r c => by
  have e := diff_is a w x t g r c
  unfold val_main_v32 val_main_v21
  generalize val_main_v18 (F := Ideal) (up a) (up w) (up x) (up t) (up g) = y at e ⊢
  pointwise [val_main_v31, val_main_v30, val_main_v29, val_main_v28, val_main_v27, val_main_v20, val_main_cst_3, val_main_cst_8, val_main_cst_9, val_main_cst_10]
  rw [half_eq, two_eq, counts1024.1, Soft.div_coe _ _ counts1024.2, e, ← EReal.coe_mul, ← EReal.coe_mul]
  refine congrArg Real.toEReal ?_
  show 1 / 2 / (1024 : ℝ) * (2 * T a w x t g r c) = T a w x t g r c / 1024
  ring

theorem ref52 : val_main_v52 (F := Ideal) (up a) (up w) (up x) (up t) (up g) = dxOut a w x t g := by
  rw [stage52]
  have hx := out_is a w x
  have hy := y_is a w x t g
  generalize val_main_v32 (F := Ideal) (up a) (up w) (up x) (up t) (up g) = y at hy ⊢
  generalize val_main_v1 (F := Ideal) (up a) (up w) (up x) = z at hx ⊢
  have h := hDx_is hosted counts1024 hx (of1_is g) hy (hDirect_is hosted counts1024 hx (of1_is g) hy)
  funext i
  idx_vars i
  refine (h i0 i1).trans (congrArg Real.toEReal ?_)
  show _ = dxr 1024 (X2 a w x) (G g) (Y a w x t g) i0 i1
  rw [← dxr_eq]
  unfold G
  ring

theorem ref54 : val_main_v54 (F := Ideal) (up a) (up w) (up x) (up t) (up g) = dgOut a w x t g := by
  rw [stage54]
  have h := (hDg_is hosted counts1024 (out_is a w x) (y_is a w x t g)).cast shapeCasts_S1024_S1x1024
  funext i
  idx_vars i
  exact h i0 i1

theorem ref55 : val_main_v55 (F := Ideal) (up a) (up w) (up x) (up t) (up g) = lossOut a w x t g := by
  funext i
  idx_vars i
  have e := diff_is a w x t g
  unfold val_main_v55 val_main_v26 val_main_v25 val_main_v24 val_main_v22 val_main_v19
  generalize val_main_v18 (F := Ideal) (up a) (up w) (up x) (up t) (up g) = y at e ⊢
  pointwise [val_main_v23, val_main_cst_4, val_main_cst_5, val_main_cst_6, val_main_cst_7]
  simp only [half_eq, counts1024.1, e _ _, ← EReal.coe_mul, coe_sum, Soft.div_coe _ _ counts1024.2]
  exact congrArg Real.toEReal (Finset.mul_sum _ _ _)

/-- The precondition makes all arguments arrays of reals. -/
theorem finite (x0 : FVec Ideal Pre_loss_finite.S8192x2816 .f32) (x1 : FVec Ideal Pre_loss_finite.S2816x1024 .f32)
    (x2 x3 : FVec Ideal Pre_loss_finite.S8192x1024 .f32) (x4 : FVec Ideal Pre_loss_finite.S1024 .f32)
    (h : Cert.Pre_loss_finite.fn (F := Ideal) x0 x1 x2 x3 x4 = fun _ => 1#1) :
    (∃ f, x0 = up f) ∧ (∃ f, x1 = up f) ∧ (∃ f, x2 = up f) ∧ (∃ f, x3 = up f) ∧ ∃ f, x4 = up f := by
  have e := congrFun h ix0
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  exact ⟨real_of_all x0 _ _ _ _ e0, real_of_all x1 _ _ _ _ e1, real_of_all x2 _ _ _ _ e2, real_of_all x3 _ _ _ _ e3, real_of_all x4 _ _ _ _ e4⟩
end

/-- The kernel's four results are the gradient at the rows, twice, that at the scale, and the loss. -/
theorem algebraic : Cert.algebraic_LossKernelIdeal_LossReferenceIdeal_pre_loss_finite := by
  pair_intro
  · run_from Cert.LossKernelIdeal.Value.run_blocks m g
  · refine (θ_run _ _ _).mono (fun s h c => ?_) (Cert.LossReferenceIdeal.Value.run (F := Ideal) m' g')
    obtain ⟨h0, h1, h2, h3, h4⟩ := h c
    obtain ⟨e0, e1, e2, e3, e4⟩ := hagree c
    obtain ⟨⟨f0, hf0⟩, ⟨f1, hf1⟩, ⟨f2, hf2⟩, ⟨f3, hf3⟩, ⟨f4, hf4⟩⟩ := finite _ _ _ _ _ (hpre c)
    refine ⟨h0.trans ?_, h1.trans ?_, h2.trans ?_, h3.trans ?_, h4⟩
    · rw [final5 m c f0 f1 f2 f3 f4 hf0 hf1 hf2 hf3 hf4]
      refine (Cert.LossReferenceIdeal.Read.val_main_v52_eq _ _).trans ?_
      rw [e0, e1, e2, e3, e4, hf0, hf1, hf2, hf3, hf4]
      exact ref52 f0 f1 f2 f3 f4
    · rw [final6 m c f0 f1 f2 f3 f4 hf0 hf1 hf2 hf3 hf4]
      refine (Cert.LossReferenceIdeal.Read.val_main_v53_eq _ _).trans ?_
      rw [e0, e1, e2, e3, e4, hf0, hf1, hf2, hf3, hf4]
      exact ref52 f0 f1 f2 f3 f4
    · rw [final7 m c f0 f1 f2 f3 f4 hf0 hf1 hf2 hf3 hf4]
      refine (Cert.LossReferenceIdeal.Read.val_main_v54_eq _ _ _ _ _).trans ?_
      rw [e0, e1, e2, e3, e4, hf0, hf1, hf2, hf3, hf4]
      exact ref54 f0 f1 f2 f3 f4
    · rw [final8 m c f0 f1 f2 f3 f4 hf0 hf1 hf2 hf3 hf4]
      refine (Cert.LossReferenceIdeal.Read.val_main_v55_eq _ _ _ _ _).trans ?_
      rw [e0, e1, e2, e3, e4, hf0, hf1, hf2, hf3, hf4]
      exact ref55 f0 f1 f2 f3 f4

/-- The reference runs and keeps its arguments; it has no counters. -/
theorem frame_reference : Cert.quiescent_LossReferenceIdeal := fun m g _ =>
  (θ_run _ _ _).mono (fun _ h => ⟨fun c => (h c).2.2.2.2, no_counters rfl rfl _ _⟩) (Cert.LossReferenceIdeal.Value.run (F := Idealize.ShloMosaic.Ideal) m g)
end Cert.Loss
end
-- ==== Proof.Inp.lean ====
module

public import proofs.«01_k».proof.Proof.Halves
public import proofs.«01_k».proof.Proof.Gen.InpKernelIdeal.Value
public import proofs.«01_k».proof.Proof.Gen.InpReferenceIdeal.Read
public import proofs.«01_k».proof.Proof.Gen.InpReferenceIdeal.Run
public import proofs.«01_k».proof.Proof.Gen.Pre_inp_finite
public import proofs.«01_k».proof.Defs
public import Idealize.ShloMosaic.Lib.StableHlo.RunRead

/-! The gradient through the two projections of the attentions' inputs and the norm before them: what the kernel's two
    outputs hold, and that they are the gradients at the rows and at the norm's scale. -/

@[expose] public section
set_option maxRecDepth 16384

noncomputable section

namespace Cert.Inp

open Idealize.ShloMosaic Idealize.ShloMosaic.TcCoe Idealize.SL.Sem Reals Attn Norm

/-- An array of reals. -/
abbrev up {s : Shape} (f : s.Idx → ℝ) : FVec Ideal s .f32 := fun i => ((f i : ℝ) : EReal)

/-! ## What one grid point stores -/

section
open Cert.InpKernelIdeal Cert.InpKernelIdeal.Gen
variable {F : FTy → Type} [FloatOps F]

/-- The gradient at the normed rows. -/
def cot (p : FVec F (S₂ 256 1536) .bf16) (q : FVec F (S₂ 256 640) .bf16) (w : FVec F (S₂ 1536 1024) .bf16) (v : FVec F (S₂ 640 1024) .bf16) : FVec F (S₂ 256 1024) .f32 :=
  addf (matmul (DotDims.plain 256 1536 1024) none (shapeCast _ p (casts_refl _)) (shapeCast _ w (casts_refl _)) (constant _ .f32 0x00000000#32))
    (matmul (DotDims.plain 256 640 1024) none (shapeCast _ q (casts_refl _)) (shapeCast _ v (casts_refl _)) (constant _ .f32 0x00000000#32))

/-- What a grid point reads: rows of both gradients, the weights, rows of the residual stream and of its gradient, the scale. -/
structure Reads (F : FTy → Type) where
  p : ∀ r, r + 256 ≤ 512 → FVec F (S₂ 256 1536) .bf16
  w : FVec F (S₂ 1536 1024) .bf16
  q : ∀ r, r + 256 ≤ 512 → FVec F (S₂ 256 640) .bf16
  v : FVec F (S₂ 640 1024) .bf16
  x : ∀ r, r + 256 ≤ 512 → FVec F (S₂ 256 1024) .f32
  z : ∀ r, r + 256 ≤ 512 → FVec F (S₂ 256 1024) .f32
  g : FVec F (S₂ 1 1024) .f32

namespace Reads
variable (R : Reads F)
def y (r : ℕ) (h : r + 256 ≤ 512) : FVec F (S₂ 256 1024) .f32 := cot (R.p r h) (R.q r h) R.w R.v
def dx (r : ℕ) (h : r + 256 ≤ 512) : FVec F (S₂ 256 1024) .f32 := addf (dxOf 0x44800000#32 R.g (R.x r h) (R.y r h)) (R.z r h)
def dg (r : ℕ) (h : r + 256 ≤ 512) : FVec F (S₂ 1 1024) .f32 := dgOf 0x44800000#32 (R.x r h) (R.y r h)
end Reads

variable (c : Dev nD) (i : grid0.Coords)
  (arg1 : Memref sig .tc .vmem S512x1536 .bf16) (harg1 : arg1.IsWhole) (arg2 : Memref sig .tc .vmem S1536x1024 .bf16) (harg2 : arg2.IsWhole)
  (arg3 : Memref sig .tc .vmem S512x640 .bf16) (harg3 : arg3.IsWhole) (arg4 : Memref sig .tc .vmem S640x1024 .bf16) (harg4 : arg4.IsWhole)
  (arg5 : Memref sig .tc .vmem S512x1024 .f32) (harg5 : arg5.IsWhole) (arg6 : Memref sig .tc .vmem S512x1024 .f32) (harg6 : arg6.IsWhole)
  (arg7 : Memref sig .tc .vmem S1x1024 .f32) (harg7 : arg7.IsWhole) (arg8 : Memref sig .tc .vmem S512x1024 .f32) (harg8 : arg8.IsWhole)
  (arg9 : Memref sig .tc .vmem S1x1024 .f32) (harg9 : arg9.IsWhole)
  (x0 : Vec F S512x1536 .bf16) (x1 : Vec F S1536x1024 .bf16) (x2 : Vec F S512x640 .bf16) (x3 : Vec F S640x1024 .bf16)
  (x4 : Vec F S512x1024 .f32) (x5 : Vec F S512x1024 .f32) (x6 : Vec F S1x1024 .f32)

def reads : Reads F where
  p r h := View.readAt (Elt F) arg1.view (rows 512 1536 r 256 h).toLoadRect (harg1.unread x0)
  w := View.readAt (Elt F) arg2.view (rows 1536 1024 0 1536 (by decide)).toLoadRect (harg2.unread x1)
  q r h := View.readAt (Elt F) arg3.view (rows 512 640 r 256 h).toLoadRect (harg3.unread x2)
  v := View.readAt (Elt F) arg4.view (rows 640 1024 0 640 (by decide)).toLoadRect (harg4.unread x3)
  x r h := View.readAt (Elt F) arg5.view (rows 512 1024 r 256 h).toLoadRect (harg5.unread x4)
  z r h := View.readAt (Elt F) arg6.view (rows 512 1024 r 256 h).toLoadRect (harg6.unread x5)
  g := View.readAt (Elt F) arg7.view (rowAll 1024).toLoadRect (harg7.unread x6)

abbrev lo : 0 + 256 ≤ 512 := by decide
abbrev hi : 256 + 256 ≤ 512 := by decide

variable (R : Reads F) (hR : R = reads arg1 harg1 arg2 harg2 arg3 harg3 arg4 harg4 arg5 harg5 arg6 harg6 arg7 harg7 x0 x1 x2 x3 x4 x5 x6)

section
variable (hc0 : cond0_0 i)
include hR

theorem A7 : out0_A_7 c i arg1 harg1 arg2 harg2 arg3 harg3 arg4 harg4 arg5 harg5 arg6 harg6 arg7 harg7 arg8 harg8 arg9 harg9 hc0 x0 x1 x2 x3 x4 x5 x6
    = View.canon (halves (e := .f32) (R.dx 0 lo) (R.dx 256 hi)) := by
  subst hR
  refine (View.read_writes_junk_eq_canon _ _).trans (congrArg View.canon ?_)
  sl_kernel_rfl

theorem A8 : out0_A_8 c i arg1 harg1 arg2 harg2 arg3 harg3 arg4 harg4 arg5 harg5 arg6 harg6 arg7 harg7 arg8 harg8 arg9 harg9 hc0 x0 x1 x2 x3 x4 x5 x6
    = View.canon (added arg9.view (arg9.view.readCov cleared (rowAll 1024).toLoadRect) (R.dg 0 lo) (R.dg 256 hi) cleared) := by
  subst hR
  refine (View.read_writes_junk_eq_canon _ _).trans (congrArg View.canon ?_)
  sl_kernel_rfl
end

section
variable (hc0 : ¬ cond0_0 i) (xo8 : Vec F S1x1024 .f32)
include hR

theorem B7 : out0_B_7 c i arg1 harg1 arg2 harg2 arg3 harg3 arg4 harg4 arg5 harg5 arg6 harg6 arg7 harg7 arg8 harg8 arg9 harg9 hc0 x0 x1 x2 x3 x4 x5 x6 xo8
    = View.canon (halves (e := .f32) (R.dx 0 lo) (R.dx 256 hi)) := by
  subst hR
  refine (View.read_writes_junk_eq_canon _ _).trans (congrArg View.canon ?_)
  sl_kernel_rfl

theorem B8 : out0_B_8 c i arg1 harg1 arg2 harg2 arg3 harg3 arg4 harg4 arg5 harg5 arg6 harg6 arg7 harg7 arg8 harg8 arg9 harg9 hc0 x0 x1 x2 x3 x4 x5 x6 xo8
    = View.canon (added arg9.view (View.readAt (Elt F) arg9.view (rowAll 1024).toLoadRect (harg9.unread xo8)) (R.dg 0 lo) (R.dg 256 hi) []) := by
  subst hR
  refine (View.read_writes_junk_eq_canon _ _).trans (congrArg View.canon ?_)
  sl_kernel_rfl
end
end

/-! ## Over the whole grid -/

section
variable (p0 : Cert.InpKernelIdeal.S8192x1536.Idx → ℝ) (p1 : Cert.InpKernelIdeal.S8192x640.Idx → ℝ)
  (w0 : Cert.InpKernelIdeal.S1536x1024.Idx → ℝ) (w1 : Cert.InpKernelIdeal.S640x1024.Idx → ℝ)
  (f z : Cert.InpKernelIdeal.S8192x1024.Idx → ℝ) (g : Cert.InpKernelIdeal.S1x1024.Idx → ℝ)

/-- The gradient at the normed rows, -/
def A (r c : ℕ) : ℝ := (∑ k : Fin 1536, of2 p0 r k * of2 w0 k c) + ∑ k : Fin 640, of2 p1 r k * of2 w1 k c
/-- at the rows, -/
def D (r c : ℕ) : ℝ := dxr 1024 (of2 f) (of2 g) (A p0 p1 w0 w1) r c + of2 z r c
/-- and one row's part of the gradient at the scale. -/
def E (r c : ℕ) : ℝ := dgr 1024 (of2 f) (A p0 p1 w0 w1) r c
end

section
open Cert.InpKernelIdeal Cert.InpKernelIdeal.Gen Cert.InpKernelIdeal.Value

theorem cot_is {p : FVec Ideal (S₂ 256 1536) .bf16} {q : FVec Ideal (S₂ 256 640) .bf16} {w : FVec Ideal (S₂ 1536 1024) .bf16} {v : FVec Ideal (S₂ 640 1024) .bf16} {P Q W V : ℕ → ℕ → ℝ} (hp : Is p P) (hq : Is q Q) (hw : Is w W) (hv : Is v V) :
    Is (cot p q w v) fun r c => (∑ k : Fin 1536, P r k * W k c) + ∑ k : Fin 640, Q r k * V k c :=
  ((hp.self _).matmulNN (hw.self _)).add ((hq.self _).matmulNN (hv.self _))

theorem idx : ∀ t : Fin cfg0.N, win0_0.index t = ![t.val, 0] ∧ win0_1.index t = ![0, 0] ∧ win0_2.index t = ![t.val, 0] ∧ win0_3.index t = ![0, 0]
    ∧ win0_4.index t = ![t.val, 0] ∧ win0_5.index t = ![t.val, 0] ∧ win0_6.index t = ![0, 0]
    ∧ win0_7.index t = ![t.val, 0] ∧ win0_8.index t = ![0, 0] :=
  (by decide +kernel : ∀ t : Fin grid0.N, _)

theorem point_lt (t : Fin cfg0.N) : t.val < 16 := t.isLt

theorem blk0 (t : Fin cfg0.N) (W : S8192x1536.Idx → EReal) (i : Fin 512) (j : Fin 1536) :
    (((cfg0.win 0).blk t).view.read (Elt Ideal) W : S512x1536.Idx → EReal) (ix2 i j) = W (ix2 ⟨512 * t.val + i, by have := point_lt t; omega⟩ j) := by
  have := point_lt t
  blk_simp [idx t]
  blk_ext [idx t]

theorem blk1 (t : Fin cfg0.N) (W : S1536x1024.Idx → EReal) (i : Fin 1536) (j : Fin 1024) :
    (((cfg0.win 1).blk t).view.read (Elt Ideal) W : S1536x1024.Idx → EReal) (ix2 i j) = W (ix2 i j) := by
  blk_simp [idx t]
  blk_ext [idx t]

theorem blk2 (t : Fin cfg0.N) (W : S8192x640.Idx → EReal) (i : Fin 512) (j : Fin 640) :
    (((cfg0.win 2).blk t).view.read (Elt Ideal) W : S512x640.Idx → EReal) (ix2 i j) = W (ix2 ⟨512 * t.val + i, by have := point_lt t; omega⟩ j) := by
  have := point_lt t
  blk_simp [idx t]
  blk_ext [idx t]

theorem blk3 (t : Fin cfg0.N) (W : S640x1024.Idx → EReal) (i : Fin 640) (j : Fin 1024) :
    (((cfg0.win 3).blk t).view.read (Elt Ideal) W : S640x1024.Idx → EReal) (ix2 i j) = W (ix2 i j) := by
  blk_simp [idx t]
  blk_ext [idx t]

theorem blk4 (t : Fin cfg0.N) (W : S8192x1024.Idx → EReal) (i : Fin 512) (j : Fin 1024) :
    (((cfg0.win 4).blk t).view.read (Elt Ideal) W : S512x1024.Idx → EReal) (ix2 i j) = W (ix2 ⟨512 * t.val + i, by have := point_lt t; omega⟩ j) := by
  have := point_lt t
  blk_simp [idx t]
  blk_ext [idx t]

theorem blk5 (t : Fin cfg0.N) (W : S8192x1024.Idx → EReal) (i : Fin 512) (j : Fin 1024) :
    (((cfg0.win 5).blk t).view.read (Elt Ideal) W : S512x1024.Idx → EReal) (ix2 i j) = W (ix2 ⟨512 * t.val + i, by have := point_lt t; omega⟩ j) := by
  have := point_lt t
  blk_simp [idx t]
  blk_ext [idx t]

theorem blk6 (t : Fin cfg0.N) (W : S1x1024.Idx → EReal) (i : Fin 1) (j : Fin 1024) :
    (((cfg0.win 6).blk t).view.read (Elt Ideal) W : S1x1024.Idx → EReal) (ix2 i j) = W (ix2 i j) := by
  blk_simp [idx t]
  blk_ext [idx t]

theorem blk7 {α : Type} (t : Fin cfg0.N) (W : S8192x1024.Idx → α) (i : Fin 512) (j : Fin 1024) :
    W ((win0_7.blk t).view.emb (ix2 i j)) = W (ix2 ⟨512 * t.val + i, by have := point_lt t; omega⟩ j) := by
  have := point_lt t
  refine congrArg W ?_
  blk_ext [idx t]

theorem blk8 {α : Type} (t : Fin cfg0.N) (W : S1x1024.Idx → α) (i : Fin 1) (j : Fin 1024) : W ((win0_8.blk t).view.emb (ix2 i j)) = W (ix2 i j) := by
  refine congrArg W ?_
  blk_ext [idx t]

variable (m : (ℓ : Loc nD τ sig) → Buf (Elt Ideal) ℓ) (c : Dev nD)

/-- The reads of grid point `t`. -/
def pointReads (t : Fin cfg0.N) : Reads Ideal :=
  reads (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t)
    (iblk m c 0 t) (iblk m c 1 t) (iblk m c 2 t) (iblk m c 3 t) (iblk m c 4 t) (iblk m c 5 t) (iblk m c 6 t)

theorem leftA (t : Fin cfg0.N) (h0 : t.val % 16 = 0) : outsAt0 m c t.val t.isLt
    = (View.canon (halves (e := .f32) ((pointReads m c t).dx 0 lo) ((pointReads m c t).dx 256 hi)),
      View.canon (added (ms0_8 t).view ((ms0_8 t).view.readCov cleared (rowAll 1024).toLoadRect) ((pointReads m c t).dg 0 lo) ((pointReads m c t).dg 256 hi) cleared)) := by
  have e := (rfl : pointReads m c t = _)
  rw [outsAt0_A m c t h0, A7 (hR := e), A8 (hR := e)]

/-- What the point before left in the row of sums. -/
abbrev before (t : Fin cfg0.N) : Vec Ideal S1x1024 .f32 := (outsAt0 m c (t.val - 1) (Nat.lt_of_le_of_lt (Nat.sub_le _ _) t.isLt)).2

theorem leftB (t : Fin cfg0.N) (h0 : ¬ t.val % 16 = 0) : outsAt0 m c t.val t.isLt
    = (View.canon (halves (e := .f32) ((pointReads m c t).dx 0 lo) ((pointReads m c t).dx 256 hi)),
      View.canon (added (ms0_8 t).view (View.readAt (Elt Ideal) (ms0_8 t).view (rowAll 1024).toLoadRect ((hs0_8 t).unread (before m c t)))
        ((pointReads m c t).dg 0 lo) ((pointReads m c t).dg 256 hi) [])) := by
  have e := (rfl : pointReads m c t = _)
  rw [outsAt0_B m c t h0, B7 (hR := e), B8 (hR := e)]

theorem left7 (t : Fin cfg0.N) : (outsAt0 m c t.val t.isLt).1 = View.canon (halves (e := .f32) ((pointReads m c t).dx 0 lo) ((pointReads m c t).dx 256 hi)) := by
  by_cases h0 : t.val % 16 = 0
  · rw [leftA m c t h0]
  · rw [leftB m c t h0]

theorem left8A (t : Fin cfg0.N) (h0 : t.val % 16 = 0) : (outsAt0 m c t.val t.isLt).2
    = View.canon (added (ms0_8 t).view ((ms0_8 t).view.readCov cleared (rowAll 1024).toLoadRect) ((pointReads m c t).dg 0 lo) ((pointReads m c t).dg 256 hi) cleared) := by
  rw [leftA m c t h0]

theorem left8B (t : Fin cfg0.N) (h0 : ¬ t.val % 16 = 0) : (outsAt0 m c t.val t.isLt).2
    = View.canon (added (ms0_8 t).view (View.readAt (Elt Ideal) (ms0_8 t).view (rowAll 1024).toLoadRect ((hs0_8 t).unread (before m c t)))
        ((pointReads m c t).dg 0 lo) ((pointReads m c t).dg 256 hi) []) := by
  rw [leftB m c t h0]

abbrev a0 : FVec Ideal S8192x1536 .f32 := m ((c : Thread nD τ).loc main_arg0)
abbrev a1 : FVec Ideal S8192x640 .f32 := m ((c : Thread nD τ).loc main_arg1)
abbrev a2 : FVec Ideal S1536x1024 .f32 := m ((c : Thread nD τ).loc main_arg2)
abbrev a3 : FVec Ideal S640x1024 .f32 := m ((c : Thread nD τ).loc main_arg3)
abbrev a4 : FVec Ideal S8192x1024 .f32 := m ((c : Thread nD τ).loc main_arg4)
abbrev a5 : FVec Ideal S8192x1024 .f32 := m ((c : Thread nD τ).loc main_arg5)
abbrev a6 : FVec Ideal S1x1024 .f32 := m ((c : Thread nD τ).loc main_arg6)

theorem entry0 : V m c main_v0 = truncf .bf16 (a0 m c) bitsLt_bf16_f32 := by
  unfold V
  after_reads_simp
theorem entry1 : V m c main_v1 = truncf .bf16 (a2 m c) bitsLt_bf16_f32 := by
  unfold V
  after_reads_simp
theorem entry2 : V m c main_v2 = truncf .bf16 (a1 m c) bitsLt_bf16_f32 := by
  unfold V
  after_reads_simp
theorem entry3 : V m c main_v3 = truncf .bf16 (a3 m c) bitsLt_bf16_f32 := by
  unfold V
  after_reads_simp

section
variable (p0 : S8192x1536.Idx → ℝ) (p1 : S8192x640.Idx → ℝ) (w0 : S1536x1024.Idx → ℝ) (w1 : S640x1024.Idx → ℝ) (f z : S8192x1024.Idx → ℝ) (g : S1x1024.Idx → ℝ)
  (h0 : a0 m c = up p0) (h1 : a1 m c = up p1) (h2 : a2 m c = up w0) (h3 : a3 m c = up w1) (h4 : a4 m c = up f) (h5 : a5 m c = up z) (h6 : a6 m c = up g)
include h0 h1 h2 h3 h4 h5 h6

theorem win_is (t : Fin cfg0.N) : Is (iblk m c 0 t : S512x1536.Idx → EReal) (from' (512 * t) (of2 p0)) ∧ Is (iblk m c 1 t : S1536x1024.Idx → EReal) (of2 w0)
    ∧ Is (iblk m c 2 t : S512x640.Idx → EReal) (from' (512 * t) (of2 p1)) ∧ Is (iblk m c 3 t : S640x1024.Idx → EReal) (of2 w1)
    ∧ Is (iblk m c 4 t : S512x1024.Idx → EReal) (from' (512 * t) (of2 f)) ∧ Is (iblk m c 5 t : S512x1024.Idx → EReal) (from' (512 * t) (of2 z))
    ∧ Is (iblk m c 6 t : S1x1024.Idx → EReal) (of2 g) := by
  refine ⟨fun r d => ?_, fun r d => ?_, fun r d => ?_, fun r d => ?_, fun r d => ?_, fun r d => ?_, fun r d => ?_⟩
  · exact (blk0 t _ r d).trans ((congrFun ((entry0 m c).trans (congrArg (fun x => truncf .bf16 x bitsLt_bf16_f32) h0)) _).trans (of2_is p0 _ d))
  · exact (blk1 t _ r d).trans ((congrFun ((entry1 m c).trans (congrArg (fun x => truncf .bf16 x bitsLt_bf16_f32) h2)) _).trans (of2_is w0 r d))
  · exact (blk2 t _ r d).trans ((congrFun ((entry2 m c).trans (congrArg (fun x => truncf .bf16 x bitsLt_bf16_f32) h1)) _).trans (of2_is p1 _ d))
  · exact (blk3 t _ r d).trans ((congrFun ((entry3 m c).trans (congrArg (fun x => truncf .bf16 x bitsLt_bf16_f32) h3)) _).trans (of2_is w1 r d))
  · exact (blk4 t _ r d).trans ((congrFun ((V_main_arg4 m c).trans h4) _).trans (of2_is f _ d))
  · exact (blk5 t _ r d).trans ((congrFun ((V_main_arg5 m c).trans h5) _).trans (of2_is z _ d))
  · exact (blk6 t _ r d).trans ((congrFun ((V_main_arg6 m c).trans h6) _).trans (of2_is g r d))

/-- What the grid point computes in one half. -/
theorem half_is (t : Fin cfg0.N) (r : ℕ) (h : r + 256 ≤ 512) :
    Is ((pointReads m c t).dx r h) (from' (512 * t + r) (D p0 p1 w0 w1 f z g)) ∧ Is ((pointReads m c t).dg r h) fun _ d => ∑ k : Fin 256, from' (512 * t + r) (E p0 p1 w0 w1 f) k d := by
  obtain ⟨i0, i1, i2, i3, i4, i5, i6⟩ := win_is m c p0 p1 w0 w1 f z g h0 h1 h2 h3 h4 h5 h6 t
  have j0 := unread_is' (ms0_0 t) (hs0_0 t) _ i0 h
  have j1 := unread_all' (ms0_1 t) (hs0_1 t) _ i1 (by decide)
  have j2 := unread_is' (ms0_2 t) (hs0_2 t) _ i2 h
  have j3 := unread_all' (ms0_3 t) (hs0_3 t) _ i3 (by decide)
  have j4 := unread_is (ms0_4 t) (hs0_4 t) _ i4 h
  have j5 := unread_is (ms0_5 t) (hs0_5 t) _ i5 h
  have j6 := unread_all (ms0_6 t) (hs0_6 t) _ i6 (by decide)
  have y := cot_is j0 j2 j1 j3
  refine ⟨((dxOf_is counts1024 j4 j6 y).add j5).congr fun a b => ?_, (dgOf_is counts1024 j4 y).congr fun a b => ?_⟩
  · show _ = dxr 1024 (of2 f) (of2 g) (A p0 p1 w0 w1) (512 * t + r + a) b + of2 z (512 * t + r + a) b
    rw [Nat.add_assoc]
    rfl
  · refine Finset.sum_congr rfl fun k _ => ?_
    show _ = dgr 1024 (of2 f) (A p0 p1 w0 w1) (512 * t + r + k) b
    rw [Nat.add_assoc]
    rfl

theorem sums_is : ∀ (n : ℕ) (t : Fin cfg0.N), t.val = n → Is ((outsAt0 m c t.val t.isLt).2 : S1x1024.Idx → EReal) (upto (E p0 p1 w0 w1 f) (512 * (t.val + 1))) := by
  intro n
  induction n with
  | zero =>
    intro t ht
    rw [left8A m c t (by omega)]
    refine (added_is _ (row_read _ _ cleared_is) (half_is m c p0 p1 w0 w1 f z g h0 h1 h2 h3 h4 h5 h6 t 0 lo).2
      (half_is m c p0 p1 w0 w1 f z g h0 h1 h2 h3 h4 h5 h6 t 256 hi).2 _).congr fun a b => Eq.trans ?_ (upto_step (E p0 p1 w0 w1 f) t.val a b)
    rw [ht]
    rfl
  | succ n ih =>
    intro t ht
    have hlt := point_lt t
    have hp : t.val - 1 + 1 = t.val := by omega
    have o := unread_all (ms0_8 t) (hs0_8 t) (before m c t) (ih ⟨t.val - 1, Nat.lt_of_le_of_lt (Nat.sub_le _ _) t.isLt⟩ (by show t.val - 1 = n; omega)) (by decide)
    rw [left8B m c t (by omega)]
    refine (added_is _ o (half_is m c p0 p1 w0 w1 f z g h0 h1 h2 h3 h4 h5 h6 t 0 lo).2
      (half_is m c p0 p1 w0 w1 f z g h0 h1 h2 h3 h4 h5 h6 t 256 hi).2 _).congr fun a b => Eq.trans ?_ (upto_step (E p0 p1 w0 w1 f) t.val a b)
    show upto (E p0 p1 w0 w1 f) (512 * (t.val - 1 + 1)) a b + _ + _ = _
    rw [hp]
    rfl

omit h0 h1 h2 h3 h4 h5 h6 in
/-- The outputs, whole. -/
def dxOut (i : S8192x1024.Idx) : EReal := ((D p0 p1 w0 w1 f z g (i 0).val (i 1).val : ℝ) : EReal)
omit h0 h1 h2 h3 h4 h5 h6 in
def dgOut (i : S1x1024.Idx) : EReal := ((∑ k : Fin 8192, E p0 p1 w0 w1 f k (i 1).val : ℝ) : EReal)

theorem final7 : (dats m 0 c).arrAt 7 cfg0.N = dxOut p0 p1 w0 w1 f z g := by
  refine (dats m 0 c).arrAt_eq_of_covers 7 _ (by decide +kernel) fun t hf y => ?_
  refine (congrFun ((after0_7 m c t).trans (left7 m c t)) y).trans ?_
  idx_vars y
  refine Eq.trans ?_ (blk7 t (dxOut p0 p1 w0 w1 f z g) y0 y1).symm
  exact halves_is (D := from' (512 * t) (D p0 p1 w0 w1 f z g)) _ _ (half_is m c p0 p1 w0 w1 f z g h0 h1 h2 h3 h4 h5 h6 t 0 lo).1
    ((half_is m c p0 p1 w0 w1 f z g h0 h1 h2 h3 h4 h5 h6 t 256 hi).1.congr fun a b => congrArg (D p0 p1 w0 w1 f z g · b) (Nat.add_assoc _ _ _)) y0 y1

theorem final8 : (dats m 0 c).arrAt 8 cfg0.N = dgOut p0 p1 w0 w1 f := by
  refine (dats m 0 c).arrAt_eq_of_covers 8 _ (by decide +kernel) fun t hf y => ?_
  refine (congrFun (after0_8 m c t) y).trans ?_
  have ht : 512 * (t.val + 1) = 8192 := by
    have := (flush0_8 t).mp hf
    have := point_lt t
    omega
  idx_vars y
  refine Eq.trans ?_ (blk8 t (dgOut p0 p1 w0 w1 f) y0 y1).symm
  refine (sums_is m c p0 p1 w0 w1 f z g h0 h1 h2 h3 h4 h5 h6 t.val t rfl y0 y1).trans ?_
  rw [ht, upto_all]
  rfl
end
end

/-! ## The reference -/

section
open Cert.InpReferenceIdeal Cert.InpReferenceIdeal.Gen Cert.InpReferenceIdeal.Read

theorem hosted : Hosted 8192 1024 where
  sums := reducesTo_S8192x1024_S8192_d1
  sums1 := reducesTo_S8192x1_S8192_d1
  cols := reducesTo_S8192x1024_S1024_d0
  cols1 := reducesTo_S1x1024_S1024_d0
  one := h_S_
  col := bcast_S8192_S8192x1_0
  wide := bcast_S8192_S8192x1024_0
  spread := bcast_S8192x1_S8192x1024_0_1
  scalar := bcast_S_S8192x1
  row := bcast_S1024_S1x1024_1
  down := bcast_S1x1024_S8192x1024_0_1

section
variable {F : FTy → Type} [FloatOps F] (x0 : FVec F S8192x1536 .f32) (x1 : FVec F S8192x640 .f32) (x2 : FVec F S1536x1024 .f32) (x3 : FVec F S640x1024 .f32) (x4 x5 : FVec F S8192x1024 .f32) (x6 : FVec F S1x1024 .f32)

def flat : FVec F S1024 .f32 := shapeCast _ x6 shapeCasts_S1x1024_S1024

theorem stage42 : val_main_v42 (F := F) x0 x1 x2 x3 x4 x5 x6
    = hDx hosted 0x44800000#32 (flat x6) x4 (val_main_v21 (F := F) x0 x1 x2 x3) (addf x5 (hDirect hosted 0x44800000#32 (flat x6) x4 (val_main_v21 (F := F) x0 x1 x2 x3))) := by
  sl_kernel_rfl
theorem stage43 : val_main_v43 (F := F) x0 x1 x2 x3 x4 = shapeCast S1x1024 (hDg hosted 0x44800000#32 x4 (val_main_v21 (F := F) x0 x1 x2 x3)) shapeCasts_S1024_S1x1024 := by
  sl_kernel_rfl
end

variable (p0 : S8192x1536.Idx → ℝ) (p1 : S8192x640.Idx → ℝ) (w0 : S1536x1024.Idx → ℝ) (w1 : S640x1024.Idx → ℝ) (f z : S8192x1024.Idx → ℝ) (g : S1x1024.Idx → ℝ)

theorem y_is : Is (val_main_v21 (F := Ideal) (up p0) (up p1) (up w0) (up w1)) (A p0 p1 w0 w1) := fun r c => by
  pointwise [val_main_v21, val_main_v20, val_main_v19]
  simp only [← EReal.coe_mul, coe_sum, ← EReal.coe_add]
  refine congrArg Real.toEReal ((add_comm _ _).trans (congrArg₂ (· + ·) (Finset.sum_congr rfl fun k _ => congrArg₂ (· * ·) ?_ ?_) (Finset.sum_congr rfl fun k _ => congrArg₂ (· * ·) ?_ ?_)))
  · exact (of2_at p0 r.isLt k.isLt).symm
  · exact (of2_at w0 k.isLt c.isLt).symm
  · exact (of2_at p1 r.isLt k.isLt).symm
  · exact (of2_at w1 k.isLt c.isLt).symm

theorem flat_is : Is₁ (flat (F := Ideal) (up g)) fun c => of2 g 0 c := fun c =>
  (ValueIdx.shapeCast_1a_a_apply _ _ c).trans (of2_is g 0 c)

theorem ref42 : val_main_v42 (F := Ideal) (up p0) (up p1) (up w0) (up w1) (up f) (up z) (up g) = dxOut p0 p1 w0 w1 f z g := by
  rw [stage42]
  have hy := y_is p0 p1 w0 w1
  generalize val_main_v21 (F := Ideal) (up p0) (up p1) (up w0) (up w1) = y at hy ⊢
  have h := hDx_is hosted counts1024 (of2_is f) (flat_is g) hy ((of2_is z).add (hDirect_is hosted counts1024 (of2_is f) (flat_is g) hy))
  funext i
  idx_vars i
  refine (h i0 i1).trans (congrArg Real.toEReal ?_)
  show _ = dxr 1024 (of2 f) (of2 g) (A p0 p1 w0 w1) i0 i1 + of2 z i0 i1
  rw [← dxr_eq]
  ring

theorem ref43 : val_main_v43 (F := Ideal) (up p0) (up p1) (up w0) (up w1) (up f) = dgOut p0 p1 w0 w1 f := by
  rw [stage43]
  have h := (hDg_is hosted counts1024 (of2_is f) (y_is p0 p1 w0 w1)).cast shapeCasts_S1024_S1x1024
  funext i
  idx_vars i
  exact h i0 i1

/-- The precondition makes all arguments arrays of reals. -/
theorem finite (x0 : FVec Ideal Pre_inp_finite.S8192x1536 .f32) (x1 : FVec Ideal Pre_inp_finite.S8192x640 .f32)
    (x2 : FVec Ideal Pre_inp_finite.S1536x1024 .f32) (x3 : FVec Ideal Pre_inp_finite.S640x1024 .f32)
    (x4 x5 : FVec Ideal Pre_inp_finite.S8192x1024 .f32) (x6 : FVec Ideal Pre_inp_finite.S1x1024 .f32)
    (h : Cert.Pre_inp_finite.fn (F := Ideal) x0 x1 x2 x3 x4 x5 x6 = fun _ => 1#1) :
    (∃ f, x0 = up f) ∧ (∃ f, x1 = up f) ∧ (∃ f, x2 = up f) ∧ (∃ f, x3 = up f) ∧ (∃ f, x4 = up f) ∧ (∃ f, x5 = up f) ∧ ∃ f, x6 = up f := by
  have e := congrFun h ix0
  obtain ⟨e, e6⟩ := IntOp.andi_eq_one.1 e
  obtain ⟨e, e5⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  exact ⟨real_of_all x0 _ _ _ _ e0, real_of_all x1 _ _ _ _ e1, real_of_all x2 _ _ _ _ e2, real_of_all x3 _ _ _ _ e3, real_of_all x4 _ _ _ _ e4,
    real_of_all x5 _ _ _ _ e5, real_of_all x6 _ _ _ _ e6⟩
end

/-- The kernel's two results are the gradients at the rows and at the scale. -/
theorem algebraic : Cert.algebraic_InpKernelIdeal_InpReferenceIdeal_pre_inp_finite := by
  pair_intro
  · run_from Cert.InpKernelIdeal.Value.run_blocks m g
  · refine (θ_run _ _ _).mono (fun s h c => ?_) (Cert.InpReferenceIdeal.Value.run (F := Ideal) m' g')
    obtain ⟨h0, h1, h2⟩ := h c
    obtain ⟨e0, e1, e2, e3, e4, e5, e6⟩ := hagree c
    obtain ⟨⟨f0, hf0⟩, ⟨f1, hf1⟩, ⟨f2, hf2⟩, ⟨f3, hf3⟩, ⟨f4, hf4⟩, ⟨f5, hf5⟩, ⟨f6, hf6⟩⟩ := finite _ _ _ _ _ _ _ (hpre c)
    refine ⟨h0.trans ?_, h1.trans ?_, h2⟩
    · rw [final7 m c f0 f1 f2 f3 f4 f5 f6 hf0 hf1 hf2 hf3 hf4 hf5 hf6]
      refine (Cert.InpReferenceIdeal.Read.val_main_v42_eq _ _).trans ?_
      rw [e0, e1, e2, e3, e4, e5, e6, hf0, hf1, hf2, hf3, hf4, hf5, hf6]
      exact ref42 f0 f1 f2 f3 f4 f5 f6
    · rw [final8 m c f0 f1 f2 f3 f4 f5 f6 hf0 hf1 hf2 hf3 hf4 hf5 hf6]
      refine (Cert.InpReferenceIdeal.Read.val_main_v43_eq _ _ _ _ _).trans ?_
      rw [e0, e1, e2, e3, e4, hf0, hf1, hf2, hf3, hf4]
      exact ref43 f0 f1 f2 f3 f4

/-- The reference runs and keeps its arguments; it has no counters. -/
theorem frame_reference : Cert.quiescent_InpReferenceIdeal := fun m g _ =>
  (θ_run _ _ _).mono (fun _ h => ⟨fun c => (h c).2.2, no_counters rfl rfl _ _⟩) (Cert.InpReferenceIdeal.Value.run (F := Idealize.ShloMosaic.Ideal) m g)
end Cert.Inp
end
-- ==== Proof.Mix.lean ====
module

public import proofs.«01_k».proof.Proof.Halves
public import proofs.«01_k».proof.Proof.Gen.MixKernelIdeal.Value
public import proofs.«01_k».proof.Proof.Gen.MixReferenceIdeal.Read
public import proofs.«01_k».proof.Proof.Gen.MixReferenceIdeal.Run
public import proofs.«01_k».proof.Proof.Gen.Pre_mix_finite
public import proofs.«01_k».proof.Defs
public import Idealize.ShloMosaic.Lib.StableHlo.RunRead

/-! The gradient through the output product and the two norms before it: what the kernel's six outputs hold, and that
    they are the gradients at both attentions' outputs, their products with the outputs summed over each head, and the
    gradients at both scales. -/

@[expose] public section
set_option maxRecDepth 16384

noncomputable section

namespace Cert.Mix

open Idealize.ShloMosaic Idealize.ShloMosaic.TcCoe Idealize.SL.Sem Reals Attn Norm

/-- An array of reals. -/
abbrev up {s : Shape} (f : s.Idx → ℝ) : FVec Ideal s .f32 := fun i => ((f i : ℝ) : EReal)

/-! ## What one grid point stores -/

section
open Cert.MixKernelIdeal Cert.MixKernelIdeal.Gen
variable {F : FTy → Type} [FloatOps F]

theorem cuts (b : ℕ) (h : b + 512 ≤ 1024) : (S₂ 256 1024).Slices ![0, b] (S₂ 256 512) :=
  ⟨rfl, fun a => by fin_cases a; exacts [le_rfl, h]⟩

/-- The gradient at the normed rows of both attentions. -/
def prod (p : FVec F (S₂ 256 1024) .bf16) (w : FVec F (S₂ 1024 1024) .bf16) : FVec F (S₂ 256 1024) .f32 :=
  matmul (DotDims.transposedRhs 256 1024 1024) none (shapeCast _ p (casts_refl _)) (shapeCast _ w (casts_refl _)) (constant _ .f32 0x00000000#32)

theorem iotas8 (a : Fin 2) : (S₂ 512 8).Iotas .tc 32 [a] := by simp [Shape.Iotas]

/-- The head of each lane. -/
def headBit : IVec (S₂ 512 8) 1 :=
  cmpi .eq (shrui (iota .tc (S₂ 512 8) 32 [0] (iotas8 0)) (broadcast (S₂ 512 8) 6#32)) (iota .tc (S₂ 512 8) 32 [1] (iotas8 1))
def heads : FVec F (S₂ 512 8) .bf16 := truncf .bf16 (sitofp .f32 (extui 32 headBit natLt_1_32)) bitsLt_bf16_f32

/-- The sums over each head, from three pieces. -/
def pieces (v : FVec F (S₂ 256 512) .f32) : FVec F (S₂ 256 8) .f32 :=
  let p : FVec F (S₂ 256 512) .bf16 := truncf .bf16 v bitsLt_bf16_f32
  let v' : FVec F (S₂ 256 512) .f32 := subf v (extf .f32 p bitsLt_bf16_f32)
  let q : FVec F (S₂ 256 512) .bf16 := truncf .bf16 v' bitsLt_bf16_f32
  let v'' : FVec F (S₂ 256 512) .f32 := subf v' (extf .f32 q bitsLt_bf16_f32)
  addf (addf (matmul (DotDims.plain 256 512 8) none (truncf .bf16 v'' bitsLt_bf16_f32) heads (constant _ .f32 0x00000000#32))
    (matmul (DotDims.plain 256 512 8) none q heads (constant _ .f32 0x00000000#32)))
    (matmul (DotDims.plain 256 512 8) none p heads (constant _ .f32 0x00000000#32))

/-- One attention's part: rows of its output, of the gradient at them normed, the scale. -/
structure Branch (F : FTy → Type) where
  x : ∀ r, r + 256 ≤ 512 → FVec F (S₂ 256 512) .f32
  y : ∀ r, r + 256 ≤ 512 → FVec F (S₂ 256 512) .f32
  g : FVec F (S₂ 1 512) .f32

namespace Branch
variable (B : Branch F)
def dx (r : ℕ) (h : r + 256 ≤ 512) : FVec F (S₂ 256 512) .f32 := dxOf 0x44000000#32 B.g (B.x r h) (B.y r h)
def dxb (r : ℕ) (h : r + 256 ≤ 512) : FVec F (S₂ 256 512) .bf16 := truncf .bf16 (B.dx r h) bitsLt_bf16_f32
def dot (r : ℕ) (h : r + 256 ≤ 512) : FVec F (S₂ 256 8) .f32 := pieces (mulf (B.dx r h) (B.x r h))
def dg (r : ℕ) (h : r + 256 ≤ 512) : FVec F (S₂ 1 512) .f32 := dgOf 0x44000000#32 (B.x r h) (B.y r h)
end Branch

/-- What a grid point reads: rows of the gradient, the weight, rows of both attentions' outputs, both scales. -/
structure Reads (F : FTy → Type) where
  p : ∀ r, r + 256 ≤ 512 → FVec F (S₂ 256 1024) .bf16
  w : FVec F (S₂ 1024 1024) .bf16
  x0 : ∀ r, r + 256 ≤ 512 → FVec F (S₂ 256 512) .f32
  x1 : ∀ r, r + 256 ≤ 512 → FVec F (S₂ 256 512) .f32
  g0 : FVec F (S₂ 1 512) .f32
  g1 : FVec F (S₂ 1 512) .f32

namespace Reads
variable (R : Reads F)
def fox : Branch F := ⟨R.x0, fun r h => extractStridedSlice (S₂ 256 512) ![0, 0] (prod (R.p r h) R.w) (cuts 0 (by decide)), R.g0⟩
def mla : Branch F := ⟨R.x1, fun r h => extractStridedSlice (S₂ 256 512) ![0, 512] (prod (R.p r h) R.w) (cuts 512 (by decide)), R.g1⟩
end Reads

variable (c : Dev nD) (i : grid0.Coords)
  (arg1 : Memref sig .tc .vmem S512x1024 .bf16) (harg1 : arg1.IsWhole) (arg2 : Memref sig .tc .vmem S1024x1024 .bf16) (harg2 : arg2.IsWhole)
  (arg3 : Memref sig .tc .vmem S512x512 .f32) (harg3 : arg3.IsWhole) (arg4 : Memref sig .tc .vmem S512x512 .f32) (harg4 : arg4.IsWhole)
  (arg5 : Memref sig .tc .vmem S1x512 .f32) (harg5 : arg5.IsWhole) (arg6 : Memref sig .tc .vmem S1x512 .f32) (harg6 : arg6.IsWhole)
  (arg7 : Memref sig .tc .vmem S512x512 .bf16) (harg7 : arg7.IsWhole) (arg8 : Memref sig .tc .vmem S512x512 .bf16) (harg8 : arg8.IsWhole)
  (arg9 : Memref sig .tc .vmem S512x8 .f32) (harg9 : arg9.IsWhole) (arg10 : Memref sig .tc .vmem S512x8 .f32) (harg10 : arg10.IsWhole)
  (arg11 : Memref sig .tc .vmem S1x512 .f32) (harg11 : arg11.IsWhole) (arg12 : Memref sig .tc .vmem S1x512 .f32) (harg12 : arg12.IsWhole)
  (x0 : Vec F S512x1024 .bf16) (x1 : Vec F S1024x1024 .bf16) (x2 x3 : Vec F S512x512 .f32) (x4 x5 : Vec F S1x512 .f32)

def reads : Reads F where
  p r h := View.readAt (Elt F) arg1.view (rows 512 1024 r 256 h).toLoadRect (harg1.unread x0)
  w := View.readAt (Elt F) arg2.view (rows 1024 1024 0 1024 (by decide)).toLoadRect (harg2.unread x1)
  x0 r h := View.readAt (Elt F) arg3.view (rows 512 512 r 256 h).toLoadRect (harg3.unread x2)
  x1 r h := View.readAt (Elt F) arg4.view (rows 512 512 r 256 h).toLoadRect (harg4.unread x3)
  g0 := View.readAt (Elt F) arg5.view (rowAll 512).toLoadRect (harg5.unread x4)
  g1 := View.readAt (Elt F) arg6.view (rowAll 512).toLoadRect (harg6.unread x5)

abbrev lo : 0 + 256 ≤ 512 := by decide
abbrev hi : 256 + 256 ≤ 512 := by decide

variable (R : Reads F) (hR : R = reads arg1 harg1 arg2 harg2 arg3 harg3 arg4 harg4 arg5 harg5 arg6 harg6 x0 x1 x2 x3 x4 x5)

section
variable (hc0 : cond0_0 i)
include hR

theorem A6 : out0_A_6 c i arg1 harg1 arg2 harg2 arg3 harg3 arg4 harg4 arg5 harg5 arg6 harg6 arg7 harg7 arg8 harg8 arg9 harg9 arg10 harg10 arg11 harg11 arg12 harg12 hc0 x0 x1 x2 x3 x4 x5
    = View.canon (halves (e := .bf16) (R.fox.dxb 0 lo) (R.fox.dxb 256 hi)) := by
  subst hR
  refine (View.read_writes_junk_eq_canon _ _).trans (congrArg View.canon ?_)
  sl_kernel_rfl

theorem A7 : out0_A_7 c i arg1 harg1 arg2 harg2 arg3 harg3 arg4 harg4 arg5 harg5 arg6 harg6 arg7 harg7 arg8 harg8 arg9 harg9 arg10 harg10 arg11 harg11 arg12 harg12 hc0 x0 x1 x2 x3 x4 x5
    = View.canon (halves (e := .bf16) (R.mla.dxb 0 lo) (R.mla.dxb 256 hi)) := by
  subst hR
  refine (View.read_writes_junk_eq_canon _ _).trans (congrArg View.canon ?_)
  sl_kernel_rfl

theorem A8 : out0_A_8 c i arg1 harg1 arg2 harg2 arg3 harg3 arg4 harg4 arg5 harg5 arg6 harg6 arg7 harg7 arg8 harg8 arg9 harg9 arg10 harg10 arg11 harg11 arg12 harg12 hc0 x0 x1 x2 x3 x4 x5
    = View.canon (halves (e := .f32) (R.fox.dot 0 lo) (R.fox.dot 256 hi)) := by
  subst hR
  refine (View.read_writes_junk_eq_canon _ _).trans (congrArg View.canon ?_)
  sl_kernel_rfl

theorem A9 : out0_A_9 c i arg1 harg1 arg2 harg2 arg3 harg3 arg4 harg4 arg5 harg5 arg6 harg6 arg7 harg7 arg8 harg8 arg9 harg9 arg10 harg10 arg11 harg11 arg12 harg12 hc0 x0 x1 x2 x3 x4 x5
    = View.canon (halves (e := .f32) (R.mla.dot 0 lo) (R.mla.dot 256 hi)) := by
  subst hR
  refine (View.read_writes_junk_eq_canon _ _).trans (congrArg View.canon ?_)
  sl_kernel_rfl

theorem A10 : out0_A_10 c i arg1 harg1 arg2 harg2 arg3 harg3 arg4 harg4 arg5 harg5 arg6 harg6 arg7 harg7 arg8 harg8 arg9 harg9 arg10 harg10 arg11 harg11 arg12 harg12 hc0 x0 x1 x2 x3 x4 x5
    = View.canon (added arg11.view (arg11.view.readCov cleared (rowAll 512).toLoadRect) (R.fox.dg 0 lo) (R.fox.dg 256 hi) cleared) := by
  subst hR
  refine (View.read_writes_junk_eq_canon _ _).trans (congrArg View.canon ?_)
  sl_kernel_rfl

theorem A11 : out0_A_11 c i arg1 harg1 arg2 harg2 arg3 harg3 arg4 harg4 arg5 harg5 arg6 harg6 arg7 harg7 arg8 harg8 arg9 harg9 arg10 harg10 arg11 harg11 arg12 harg12 hc0 x0 x1 x2 x3 x4 x5
    = View.canon (added arg12.view (arg12.view.readCov cleared (rowAll 512).toLoadRect) (R.mla.dg 0 lo) (R.mla.dg 256 hi) cleared) := by
  subst hR
  refine (View.read_writes_junk_eq_canon _ _).trans (congrArg View.canon ?_)
  sl_kernel_rfl
end

section
variable (hc0 : ¬ cond0_0 i) (xo10 xo11 : Vec F S1x512 .f32)
include hR

theorem B6 : out0_B_6 c i arg1 harg1 arg2 harg2 arg3 harg3 arg4 harg4 arg5 harg5 arg6 harg6 arg7 harg7 arg8 harg8 arg9 harg9 arg10 harg10 arg11 harg11 arg12 harg12 hc0 x0 x1 x2 x3 x4 x5 xo10 xo11
    = View.canon (halves (e := .bf16) (R.fox.dxb 0 lo) (R.fox.dxb 256 hi)) := by
  subst hR
  refine (View.read_writes_junk_eq_canon _ _).trans (congrArg View.canon ?_)
  sl_kernel_rfl

theorem B7 : out0_B_7 c i arg1 harg1 arg2 harg2 arg3 harg3 arg4 harg4 arg5 harg5 arg6 harg6 arg7 harg7 arg8 harg8 arg9 harg9 arg10 harg10 arg11 harg11 arg12 harg12 hc0 x0 x1 x2 x3 x4 x5 xo10 xo11
    = View.canon (halves (e := .bf16) (R.mla.dxb 0 lo) (R.mla.dxb 256 hi)) := by
  subst hR
  refine (View.read_writes_junk_eq_canon _ _).trans (congrArg View.canon ?_)
  sl_kernel_rfl

theorem B8 : out0_B_8 c i arg1 harg1 arg2 harg2 arg3 harg3 arg4 harg4 arg5 harg5 arg6 harg6 arg7 harg7 arg8 harg8 arg9 harg9 arg10 harg10 arg11 harg11 arg12 harg12 hc0 x0 x1 x2 x3 x4 x5 xo10 xo11
    = View.canon (halves (e := .f32) (R.fox.dot 0 lo) (R.fox.dot 256 hi)) := by
  subst hR
  refine (View.read_writes_junk_eq_canon _ _).trans (congrArg View.canon ?_)
  sl_kernel_rfl

theorem B9 : out0_B_9 c i arg1 harg1 arg2 harg2 arg3 harg3 arg4 harg4 arg5 harg5 arg6 harg6 arg7 harg7 arg8 harg8 arg9 harg9 arg10 harg10 arg11 harg11 arg12 harg12 hc0 x0 x1 x2 x3 x4 x5 xo10 xo11
    = View.canon (halves (e := .f32) (R.mla.dot 0 lo) (R.mla.dot 256 hi)) := by
  subst hR
  refine (View.read_writes_junk_eq_canon _ _).trans (congrArg View.canon ?_)
  sl_kernel_rfl

theorem B10 : out0_B_10 c i arg1 harg1 arg2 harg2 arg3 harg3 arg4 harg4 arg5 harg5 arg6 harg6 arg7 harg7 arg8 harg8 arg9 harg9 arg10 harg10 arg11 harg11 arg12 harg12 hc0 x0 x1 x2 x3 x4 x5 xo10 xo11
    = View.canon (added arg11.view (View.readAt (Elt F) arg11.view (rowAll 512).toLoadRect (harg11.unread xo10)) (R.fox.dg 0 lo) (R.fox.dg 256 hi) []) := by
  subst hR
  refine (View.read_writes_junk_eq_canon _ _).trans (congrArg View.canon ?_)
  sl_kernel_rfl

theorem B11 : out0_B_11 c i arg1 harg1 arg2 harg2 arg3 harg3 arg4 harg4 arg5 harg5 arg6 harg6 arg7 harg7 arg8 harg8 arg9 harg9 arg10 harg10 arg11 harg11 arg12 harg12 hc0 x0 x1 x2 x3 x4 x5 xo10 xo11
    = View.canon (added arg12.view (View.readAt (Elt F) arg12.view (rowAll 512).toLoadRect (harg12.unread xo11)) (R.mla.dg 0 lo) (R.mla.dg 256 hi) []) := by
  subst hR
  refine (View.read_writes_junk_eq_canon _ _).trans (congrArg View.canon ?_)
  sl_kernel_rfl
end
end

/-! ## Over the whole grid -/

section
variable (o : ℕ) (d : Cert.MixKernelIdeal.S8192x1024.Idx → ℝ) (w : Cert.MixKernelIdeal.S1024x1024.Idx → ℝ)

/-- The gradient at the normed rows from lane `o` on, -/
def Y (r c : ℕ) : ℝ := ∑ k : Fin 1024, of2 d r k * of2 w (o + c) k
/-- and the gradient's product with the rows, summed over a head. -/
def dotr (X G A : ℕ → ℕ → ℝ) (r h : ℕ) : ℝ := ∑ l : Fin 64, dxr 512 X G A r (64 * h + l) * X r (64 * h + l)
end

section
open Cert.MixKernelIdeal Cert.MixKernelIdeal.Gen Cert.MixKernelIdeal.Value

theorem cut_is {A B b : ℕ} {x : FVec Ideal (S₂ A B) .f32} {X : ℕ → ℕ → ℝ} (hx : Is x X) (h : (S₂ A B).Slices ![0, b] (S₂ A 512)) (hb : b + 512 ≤ B) :
    Is (extractStridedSlice (S₂ A 512) ![0, b] x h) fun r c => X r (b + c) := fun r c => by
  refine (congrArg x (funext fun a => ?_ : _ = ix2 r ⟨b + c, by have := c.isLt; omega⟩)).trans (hx r _)
  match a with
  | ⟨0, _⟩ => exact Fin.ext (Nat.zero_add _)
  | ⟨1, _⟩ => rfl

theorem head_at : ∀ (r : Fin 512) (h : Fin 8), headBit (ix2 r h) = BitVec.ofBool (decide (r.val / 64 = h.val)) := by decide +kernel

theorem heads_is : Is (heads (F := Ideal)) fun r h => if r / 64 = h then 1 else 0 := fun r h => by
  show FloatOps.sitofp (F := Ideal) FTy.f32 (BitVec.setWidth 32 (headBit (ix2 r h))) = _
  rw [head_at, sitofp_bit]
  simp only [decide_eq_true_eq]

/-- A sum over the lanes of one head. -/
theorem pick (V : ℕ → ℝ) (h : Fin 8) : ∑ k : Fin 512, V k * (if k.val / 64 = h.val then 1 else 0) = ∑ l : Fin 64, V (64 * h + l) := by
  simp only [mul_ite, mul_one, mul_zero]
  rw [← Finset.sum_filter]
  refine (Finset.sum_nbij' (fun l : Fin 64 => (⟨64 * h + l, by have := h.isLt; have := l.isLt; omega⟩ : Fin 512)) (fun k => ⟨k.val % 64, Nat.mod_lt _ (by decide)⟩)
    (fun l _ => ?_) (fun k _ => Finset.mem_univ _) (fun l _ => ?_) (fun k hk => ?_) fun l _ => rfl).symm
  · have := l.isLt
    exact Finset.mem_filter.2 ⟨Finset.mem_univ _, by show (64 * h.val + l.val) / 64 = h.val; omega⟩
  · have := l.isLt
    exact Fin.ext (by show (64 * h.val + l.val) % 64 = l.val; omega)
  · have hk' := (Finset.mem_filter.1 hk).2
    exact Fin.ext (by show 64 * h.val + k.val % 64 = k.val; omega)

theorem pieces_is {v : FVec Ideal (S₂ 256 512) .f32} {V : ℕ → ℕ → ℝ} (hv : Is v V) : Is (pieces v) fun r h => ∑ l : Fin 64, V r (64 * h + l) := by
  have hp : Is (extf .f32 (truncf (F := Ideal) .bf16 v bitsLt_bf16_f32) bitsLt_bf16_f32) V := hv
  have hv' := hv.sub hp
  have hv'' := hv'.sub (show Is (extf .f32 (truncf (F := Ideal) .bf16 (subf v (extf .f32 (truncf .bf16 v bitsLt_bf16_f32) bitsLt_bf16_f32)) bitsLt_bf16_f32) bitsLt_bf16_f32) _ from hv')
  refine ((((hv''.trunc bitsLt_bf16_f32).matmulNN heads_is).add ((hv'.trunc bitsLt_bf16_f32).matmulNN heads_is)).add ((hv.trunc bitsLt_bf16_f32).matmulNN heads_is)).congr fun r h => ?_
  simp only [sub_self, zero_mul, Finset.sum_const_zero, zero_add]
  exact pick (V r) h

theorem branch_is {B : Branch Ideal} {X G A : ℕ → ℕ → ℝ} (n r : ℕ) (h : r + 256 ≤ 512) (hx : Is (B.x r h) (from' n X)) (hg : Is B.g G) (hy : Is (B.y r h) (from' n A)) :
    Is (B.dxb r h) (from' n (dxr 512 X G A)) ∧ Is (B.dot r h) (from' n (dotr X G A)) ∧ Is (B.dg r h) fun _ c => ∑ k : Fin 256, from' n (dgr 512 X A) k c :=
  ⟨(dxOf_is counts512 hx hg hy).trunc _, pieces_is ((dxOf_is counts512 hx hg hy).mul hx), dgOf_is counts512 hx hy⟩

theorem idx : ∀ t : Fin cfg0.N, win0_0.index t = ![t.val, 0] ∧ win0_1.index t = ![0, 0] ∧ win0_2.index t = ![t.val, 0] ∧ win0_3.index t = ![t.val, 0]
    ∧ win0_4.index t = ![0, 0] ∧ win0_5.index t = ![0, 0] ∧ win0_6.index t = ![t.val, 0] ∧ win0_7.index t = ![t.val, 0] ∧ win0_8.index t = ![t.val, 0]
    ∧ win0_9.index t = ![t.val, 0] ∧ win0_10.index t = ![0, 0] ∧ win0_11.index t = ![0, 0] :=
  (by decide +kernel : ∀ t : Fin grid0.N, _)

theorem point_lt (t : Fin cfg0.N) : t.val < 16 := t.isLt

theorem blk0 (t : Fin cfg0.N) (W : S8192x1024.Idx → EReal) (i : Fin 512) (j : Fin 1024) :
    (((cfg0.win 0).blk t).view.read (Elt Ideal) W : S512x1024.Idx → EReal) (ix2 i j) = W (ix2 ⟨512 * t.val + i, by have := point_lt t; omega⟩ j) := by
  have := point_lt t
  blk_simp [idx t]
  blk_ext [idx t]

theorem blk1 (t : Fin cfg0.N) (W : S1024x1024.Idx → EReal) (i : Fin 1024) (j : Fin 1024) :
    (((cfg0.win 1).blk t).view.read (Elt Ideal) W : S1024x1024.Idx → EReal) (ix2 i j) = W (ix2 i j) := by
  blk_simp [idx t]
  blk_ext [idx t]

theorem blk2 (t : Fin cfg0.N) (W : S8192x512.Idx → EReal) (i : Fin 512) (j : Fin 512) :
    (((cfg0.win 2).blk t).view.read (Elt Ideal) W : S512x512.Idx → EReal) (ix2 i j) = W (ix2 ⟨512 * t.val + i, by have := point_lt t; omega⟩ j) := by
  have := point_lt t
  blk_simp [idx t]
  blk_ext [idx t]

theorem blk3 (t : Fin cfg0.N) (W : S8192x512.Idx → EReal) (i : Fin 512) (j : Fin 512) :
    (((cfg0.win 3).blk t).view.read (Elt Ideal) W : S512x512.Idx → EReal) (ix2 i j) = W (ix2 ⟨512 * t.val + i, by have := point_lt t; omega⟩ j) := by
  have := point_lt t
  blk_simp [idx t]
  blk_ext [idx t]

theorem blk4 (t : Fin cfg0.N) (W : S1x512.Idx → EReal) (i : Fin 1) (j : Fin 512) :
    (((cfg0.win 4).blk t).view.read (Elt Ideal) W : S1x512.Idx → EReal) (ix2 i j) = W (ix2 i j) := by
  blk_simp [idx t]
  blk_ext [idx t]

theorem blk5 (t : Fin cfg0.N) (W : S1x512.Idx → EReal) (i : Fin 1) (j : Fin 512) :
    (((cfg0.win 5).blk t).view.read (Elt Ideal) W : S1x512.Idx → EReal) (ix2 i j) = W (ix2 i j) := by
  blk_simp [idx t]
  blk_ext [idx t]

theorem blk6 {α : Type} (t : Fin cfg0.N) (W : S8192x512.Idx → α) (i : Fin 512) (j : Fin 512) : W ((win0_6.blk t).view.emb (ix2 i j)) = W (ix2 ⟨512 * t.val + i, by have := point_lt t; omega⟩ j) := by
  have := point_lt t
  refine congrArg W ?_
  blk_ext [idx t]

theorem blk7 {α : Type} (t : Fin cfg0.N) (W : S8192x512.Idx → α) (i : Fin 512) (j : Fin 512) : W ((win0_7.blk t).view.emb (ix2 i j)) = W (ix2 ⟨512 * t.val + i, by have := point_lt t; omega⟩ j) := by
  have := point_lt t
  refine congrArg W ?_
  blk_ext [idx t]

theorem blk8 {α : Type} (t : Fin cfg0.N) (W : S8192x8.Idx → α) (i : Fin 512) (j : Fin 8) : W ((win0_8.blk t).view.emb (ix2 i j)) = W (ix2 ⟨512 * t.val + i, by have := point_lt t; omega⟩ j) := by
  have := point_lt t
  refine congrArg W ?_
  blk_ext [idx t]

theorem blk9 {α : Type} (t : Fin cfg0.N) (W : S8192x8.Idx → α) (i : Fin 512) (j : Fin 8) : W ((win0_9.blk t).view.emb (ix2 i j)) = W (ix2 ⟨512 * t.val + i, by have := point_lt t; omega⟩ j) := by
  have := point_lt t
  refine congrArg W ?_
  blk_ext [idx t]

theorem blk10 {α : Type} (t : Fin cfg0.N) (W : S1x512.Idx → α) (i : Fin 1) (j : Fin 512) : W ((win0_10.blk t).view.emb (ix2 i j)) = W (ix2 i j) := by
  refine congrArg W ?_
  blk_ext [idx t]

theorem blk11 {α : Type} (t : Fin cfg0.N) (W : S1x512.Idx → α) (i : Fin 1) (j : Fin 512) : W ((win0_11.blk t).view.emb (ix2 i j)) = W (ix2 i j) := by
  refine congrArg W ?_
  blk_ext [idx t]

variable (m : (ℓ : Loc nD τ sig) → Buf (Elt Ideal) ℓ) (c : Dev nD)

/-- The reads of grid point `t`. -/
def pointReads (t : Fin cfg0.N) : Reads Ideal :=
  reads (ms0_0 t) (hs0_0 t) (ms0_1 t) (hs0_1 t) (ms0_2 t) (hs0_2 t) (ms0_3 t) (hs0_3 t) (ms0_4 t) (hs0_4 t) (ms0_5 t) (hs0_5 t)
    (iblk m c 0 t) (iblk m c 1 t) (iblk m c 2 t) (iblk m c 3 t) (iblk m c 4 t) (iblk m c 5 t)

theorem leftA (t : Fin cfg0.N) (h0 : t.val % 16 = 0) : outsAt0 m c t.val t.isLt
    = (View.canon (halves (e := .bf16) ((pointReads m c t).fox.dxb 0 lo) ((pointReads m c t).fox.dxb 256 hi)),
      View.canon (halves (e := .bf16) ((pointReads m c t).mla.dxb 0 lo) ((pointReads m c t).mla.dxb 256 hi)),
      View.canon (halves (e := .f32) ((pointReads m c t).fox.dot 0 lo) ((pointReads m c t).fox.dot 256 hi)),
      View.canon (halves (e := .f32) ((pointReads m c t).mla.dot 0 lo) ((pointReads m c t).mla.dot 256 hi)),
      View.canon (added (ms0_10 t).view ((ms0_10 t).view.readCov cleared (rowAll 512).toLoadRect) ((pointReads m c t).fox.dg 0 lo) ((pointReads m c t).fox.dg 256 hi) cleared),
      View.canon (added (ms0_11 t).view ((ms0_11 t).view.readCov cleared (rowAll 512).toLoadRect) ((pointReads m c t).mla.dg 0 lo) ((pointReads m c t).mla.dg 256 hi) cleared)) := by
  have e := (rfl : pointReads m c t = _)
  rw [outsAt0_A m c t h0, A6 (hR := e), A7 (hR := e), A8 (hR := e), A9 (hR := e), A10 (hR := e), A11 (hR := e)]

/-- What the point before left in the rows of sums. -/
abbrev before10 (t : Fin cfg0.N) : Vec Ideal S1x512 .f32 := (outsAt0 m c (t.val - 1) (Nat.lt_of_le_of_lt (Nat.sub_le _ _) t.isLt)).2.2.2.2.1
abbrev before11 (t : Fin cfg0.N) : Vec Ideal S1x512 .f32 := (outsAt0 m c (t.val - 1) (Nat.lt_of_le_of_lt (Nat.sub_le _ _) t.isLt)).2.2.2.2.2

theorem leftB (t : Fin cfg0.N) (h0 : ¬ t.val % 16 = 0) : outsAt0 m c t.val t.isLt
    = (View.canon (halves (e := .bf16) ((pointReads m c t).fox.dxb 0 lo) ((pointReads m c t).fox.dxb 256 hi)),
      View.canon (halves (e := .bf16) ((pointReads m c t).mla.dxb 0 lo) ((pointReads m c t).mla.dxb 256 hi)),
      View.canon (halves (e := .f32) ((pointReads m c t).fox.dot 0 lo) ((pointReads m c t).fox.dot 256 hi)),
      View.canon (halves (e := .f32) ((pointReads m c t).mla.dot 0 lo) ((pointReads m c t).mla.dot 256 hi)),
      View.canon (added (ms0_10 t).view (View.readAt (Elt Ideal) (ms0_10 t).view (rowAll 512).toLoadRect ((hs0_10 t).unread (before10 m c t))) ((pointReads m c t).fox.dg 0 lo) ((pointReads m c t).fox.dg 256 hi) []),
      View.canon (added (ms0_11 t).view (View.readAt (Elt Ideal) (ms0_11 t).view (rowAll 512).toLoadRect ((hs0_11 t).unread (before11 m c t))) ((pointReads m c t).mla.dg 0 lo) ((pointReads m c t).mla.dg 256 hi) [])) := by
  have e := (rfl : pointReads m c t = _)
  rw [outsAt0_B m c t h0, B6 (hR := e), B7 (hR := e), B8 (hR := e), B9 (hR := e), B10 (hR := e), B11 (hR := e)]

theorem left6 (t : Fin cfg0.N) : (outsAt0 m c t.val t.isLt).1 = View.canon (halves (e := .bf16) ((pointReads m c t).fox.dxb 0 lo) ((pointReads m c t).fox.dxb 256 hi)) := by
  by_cases h0 : t.val % 16 = 0
  · rw [leftA m c t h0]
  · rw [leftB m c t h0]

theorem left7 (t : Fin cfg0.N) : (outsAt0 m c t.val t.isLt).2.1 = View.canon (halves (e := .bf16) ((pointReads m c t).mla.dxb 0 lo) ((pointReads m c t).mla.dxb 256 hi)) := by
  by_cases h0 : t.val % 16 = 0
  · rw [leftA m c t h0]
  · rw [leftB m c t h0]

theorem left8 (t : Fin cfg0.N) : (outsAt0 m c t.val t.isLt).2.2.1 = View.canon (halves (e := .f32) ((pointReads m c t).fox.dot 0 lo) ((pointReads m c t).fox.dot 256 hi)) := by
  by_cases h0 : t.val % 16 = 0
  · rw [leftA m c t h0]
  · rw [leftB m c t h0]

theorem left9 (t : Fin cfg0.N) : (outsAt0 m c t.val t.isLt).2.2.2.1 = View.canon (halves (e := .f32) ((pointReads m c t).mla.dot 0 lo) ((pointReads m c t).mla.dot 256 hi)) := by
  by_cases h0 : t.val % 16 = 0
  · rw [leftA m c t h0]
  · rw [leftB m c t h0]

theorem left10A (t : Fin cfg0.N) (h0 : t.val % 16 = 0) : (outsAt0 m c t.val t.isLt).2.2.2.2.1
    = View.canon (added (ms0_10 t).view ((ms0_10 t).view.readCov cleared (rowAll 512).toLoadRect) ((pointReads m c t).fox.dg 0 lo) ((pointReads m c t).fox.dg 256 hi) cleared) := by
  rw [leftA m c t h0]

theorem left10B (t : Fin cfg0.N) (h0 : ¬ t.val % 16 = 0) : (outsAt0 m c t.val t.isLt).2.2.2.2.1
    = View.canon (added (ms0_10 t).view (View.readAt (Elt Ideal) (ms0_10 t).view (rowAll 512).toLoadRect ((hs0_10 t).unread (before10 m c t))) ((pointReads m c t).fox.dg 0 lo) ((pointReads m c t).fox.dg 256 hi) []) := by
  rw [leftB m c t h0]

theorem left11A (t : Fin cfg0.N) (h0 : t.val % 16 = 0) : (outsAt0 m c t.val t.isLt).2.2.2.2.2
    = View.canon (added (ms0_11 t).view ((ms0_11 t).view.readCov cleared (rowAll 512).toLoadRect) ((pointReads m c t).mla.dg 0 lo) ((pointReads m c t).mla.dg 256 hi) cleared) := by
  rw [leftA m c t h0]

theorem left11B (t : Fin cfg0.N) (h0 : ¬ t.val % 16 = 0) : (outsAt0 m c t.val t.isLt).2.2.2.2.2
    = View.canon (added (ms0_11 t).view (View.readAt (Elt Ideal) (ms0_11 t).view (rowAll 512).toLoadRect ((hs0_11 t).unread (before11 m c t))) ((pointReads m c t).mla.dg 0 lo) ((pointReads m c t).mla.dg 256 hi) []) := by
  rw [leftB m c t h0]

abbrev a0 : FVec Ideal S8192x1024 .f32 := m ((c : Thread nD τ).loc main_arg0)
abbrev a1 : FVec Ideal S1024x1024 .f32 := m ((c : Thread nD τ).loc main_arg1)
abbrev a2 : FVec Ideal S8192x512 .f32 := m ((c : Thread nD τ).loc main_arg2)
abbrev a3 : FVec Ideal S8192x512 .f32 := m ((c : Thread nD τ).loc main_arg3)
abbrev a4 : FVec Ideal S1x512 .f32 := m ((c : Thread nD τ).loc main_arg4)
abbrev a5 : FVec Ideal S1x512 .f32 := m ((c : Thread nD τ).loc main_arg5)

theorem entry0 : V m c main_v0 = truncf .bf16 (a0 m c) bitsLt_bf16_f32 := by
  unfold V
  after_reads_simp
theorem entry1 : V m c main_v1 = truncf .bf16 (a1 m c) bitsLt_bf16_f32 := by
  unfold V
  after_reads_simp

/-- The whole outputs of one attention. -/
def dxOut (x : S8192x512.Idx → ℝ) (g : S1x512.Idx → ℝ) (A : ℕ → ℕ → ℝ) (i : S8192x512.Idx) : EReal := ((dxr 512 (of2 x) (of2 g) A (i 0).val (i 1).val : ℝ) : EReal)
def dotOut (x : S8192x512.Idx → ℝ) (g : S1x512.Idx → ℝ) (A : ℕ → ℕ → ℝ) (i : S8192x8.Idx) : EReal := ((dotr (of2 x) (of2 g) A (i 0).val (i 1).val : ℝ) : EReal)
def dgOut (x : S8192x512.Idx → ℝ) (A : ℕ → ℕ → ℝ) (i : S1x512.Idx) : EReal := ((∑ k : Fin 8192, dgr 512 (of2 x) A k (i 1).val : ℝ) : EReal)

section
variable (d : S8192x1024.Idx → ℝ) (w : S1024x1024.Idx → ℝ) (f0 f1 : S8192x512.Idx → ℝ) (g0 g1 : S1x512.Idx → ℝ)
  (h0 : a0 m c = up d) (h1 : a1 m c = up w) (h2 : a2 m c = up f0) (h3 : a3 m c = up f1) (h4 : a4 m c = up g0) (h5 : a5 m c = up g1)
include h0 h1 h2 h3 h4 h5

theorem win_is (t : Fin cfg0.N) : Is (iblk m c 0 t : S512x1024.Idx → EReal) (from' (512 * t) (of2 d)) ∧ Is (iblk m c 1 t : S1024x1024.Idx → EReal) (of2 w)
    ∧ Is (iblk m c 2 t : S512x512.Idx → EReal) (from' (512 * t) (of2 f0)) ∧ Is (iblk m c 3 t : S512x512.Idx → EReal) (from' (512 * t) (of2 f1))
    ∧ Is (iblk m c 4 t : S1x512.Idx → EReal) (of2 g0) ∧ Is (iblk m c 5 t : S1x512.Idx → EReal) (of2 g1) := by
  refine ⟨fun r e => ?_, fun r e => ?_, fun r e => ?_, fun r e => ?_, fun r e => ?_, fun r e => ?_⟩
  · exact (blk0 t _ r e).trans ((congrFun ((entry0 m c).trans (congrArg (fun x => truncf .bf16 x bitsLt_bf16_f32) h0)) _).trans (of2_is d _ e))
  · exact (blk1 t _ r e).trans ((congrFun ((entry1 m c).trans (congrArg (fun x => truncf .bf16 x bitsLt_bf16_f32) h1)) _).trans (of2_is w r e))
  · exact (blk2 t _ r e).trans ((congrFun ((V_main_arg2 m c).trans h2) _).trans (of2_is f0 _ e))
  · exact (blk3 t _ r e).trans ((congrFun ((V_main_arg3 m c).trans h3) _).trans (of2_is f1 _ e))
  · exact (blk4 t _ r e).trans ((congrFun ((V_main_arg4 m c).trans h4) _).trans (of2_is g0 r e))
  · exact (blk5 t _ r e).trans ((congrFun ((V_main_arg5 m c).trans h5) _).trans (of2_is g1 r e))

/-- What the grid point computes in one half for one attention. -/
abbrev Half (B : Branch Ideal) (n r : ℕ) (h : r + 256 ≤ 512) (X G A : ℕ → ℕ → ℝ) : Prop :=
  Is (B.dxb r h) (from' n (dxr 512 X G A)) ∧ Is (B.dot r h) (from' n (dotr X G A)) ∧ Is (B.dg r h) fun _ c => ∑ k : Fin 256, from' n (dgr 512 X A) k c

theorem half_is (t : Fin cfg0.N) (r : ℕ) (h : r + 256 ≤ 512) :
    Half (pointReads m c t).fox (512 * t + r) r h (of2 f0) (of2 g0) (Y 0 d w) ∧ Half (pointReads m c t).mla (512 * t + r) r h (of2 f1) (of2 g1) (Y 512 d w) := by
  obtain ⟨i0, i1, i2, i3, i4, i5⟩ := win_is m c d w f0 f1 g0 g1 h0 h1 h2 h3 h4 h5 t
  have j0 : Is _ (from' (512 * t + r) (of2 d)) := (unread_is' (ms0_0 t) (hs0_0 t) _ i0 h).congr fun a b => congrArg (of2 d · b) (Nat.add_assoc (512 * t.val) r a.val).symm
  have j1 := unread_all' (ms0_1 t) (hs0_1 t) _ i1 (by decide)
  have j2 : Is _ (from' (512 * t + r) (of2 f0)) := (unread_is (ms0_2 t) (hs0_2 t) _ i2 h).congr fun a b => congrArg (of2 f0 · b) (Nat.add_assoc (512 * t.val) r a.val).symm
  have j3 : Is _ (from' (512 * t + r) (of2 f1)) := (unread_is (ms0_3 t) (hs0_3 t) _ i3 h).congr fun a b => congrArg (of2 f1 · b) (Nat.add_assoc (512 * t.val) r a.val).symm
  have j4 := unread_all (ms0_4 t) (hs0_4 t) _ i4 (by decide)
  have j5 := unread_all (ms0_5 t) (hs0_5 t) _ i5 (by decide)
  have y := Is.matmulNT (φ := .bf16) (ψ := .bf16) (j0.self (casts_refl _)) (j1.self (casts_refl _))
  exact ⟨branch_is (512 * t + r) r h j2 j4 (cut_is y (cuts 0 (by decide)) (by decide)), branch_is (512 * t + r) r h j3 j5 (cut_is y (cuts 512 (by decide)) (by decide))⟩

theorem sums10 : ∀ (n : ℕ) (t : Fin cfg0.N), t.val = n → Is ((outsAt0 m c t.val t.isLt).2.2.2.2.1 : S1x512.Idx → EReal) (upto (dgr 512 (of2 f0) (Y 0 d w)) (512 * (t.val + 1))) := by
  intro n
  induction n with
  | zero =>
    intro t ht
    rw [left10A m c t (by omega)]
    refine (added_is _ (row_read _ _ cleared_is) (half_is m c d w f0 f1 g0 g1 h0 h1 h2 h3 h4 h5 t 0 lo).1.2.2 (half_is m c d w f0 f1 g0 g1 h0 h1 h2 h3 h4 h5 t 256 hi).1.2.2 _).congr fun a b => Eq.trans ?_ (upto_step (dgr 512 (of2 f0) (Y 0 d w)) t.val a b)
    rw [ht]
    rfl
  | succ n ih =>
    intro t ht
    have hlt := point_lt t
    have hp : t.val - 1 + 1 = t.val := by omega
    have o := unread_all (ms0_10 t) (hs0_10 t) (before10 m c t) (ih ⟨t.val - 1, Nat.lt_of_le_of_lt (Nat.sub_le _ _) t.isLt⟩ (by show t.val - 1 = n; omega)) (by decide)
    rw [left10B m c t (by omega)]
    refine (added_is _ o (half_is m c d w f0 f1 g0 g1 h0 h1 h2 h3 h4 h5 t 0 lo).1.2.2 (half_is m c d w f0 f1 g0 g1 h0 h1 h2 h3 h4 h5 t 256 hi).1.2.2 _).congr fun a b => Eq.trans ?_ (upto_step (dgr 512 (of2 f0) (Y 0 d w)) t.val a b)
    show upto (dgr 512 (of2 f0) (Y 0 d w)) (512 * (t.val - 1 + 1)) a b + _ + _ = _
    rw [hp]
    rfl

theorem sums11 : ∀ (n : ℕ) (t : Fin cfg0.N), t.val = n → Is ((outsAt0 m c t.val t.isLt).2.2.2.2.2 : S1x512.Idx → EReal) (upto (dgr 512 (of2 f1) (Y 512 d w)) (512 * (t.val + 1))) := by
  intro n
  induction n with
  | zero =>
    intro t ht
    rw [left11A m c t (by omega)]
    refine (added_is _ (row_read _ _ cleared_is) (half_is m c d w f0 f1 g0 g1 h0 h1 h2 h3 h4 h5 t 0 lo).2.2.2 (half_is m c d w f0 f1 g0 g1 h0 h1 h2 h3 h4 h5 t 256 hi).2.2.2 _).congr fun a b => Eq.trans ?_ (upto_step (dgr 512 (of2 f1) (Y 512 d w)) t.val a b)
    rw [ht]
    rfl
  | succ n ih =>
    intro t ht
    have hlt := point_lt t
    have hp : t.val - 1 + 1 = t.val := by omega
    have o := unread_all (ms0_11 t) (hs0_11 t) (before11 m c t) (ih ⟨t.val - 1, Nat.lt_of_le_of_lt (Nat.sub_le _ _) t.isLt⟩ (by show t.val - 1 = n; omega)) (by decide)
    rw [left11B m c t (by omega)]
    refine (added_is _ o (half_is m c d w f0 f1 g0 g1 h0 h1 h2 h3 h4 h5 t 0 lo).2.2.2 (half_is m c d w f0 f1 g0 g1 h0 h1 h2 h3 h4 h5 t 256 hi).2.2.2 _).congr fun a b => Eq.trans ?_ (upto_step (dgr 512 (of2 f1) (Y 512 d w)) t.val a b)
    show upto (dgr 512 (of2 f1) (Y 512 d w)) (512 * (t.val - 1 + 1)) a b + _ + _ = _
    rw [hp]
    rfl

theorem final6 : (dats m 0 c).arrAt 6 cfg0.N = dxOut f0 g0 (Y 0 d w) := by
  refine (dats m 0 c).arrAt_eq_of_covers 6 _ (by decide +kernel) fun t hf y => ?_
  refine (congrFun ((after0_6 m c t).trans (left6 m c t)) y).trans ?_
  idx_vars y
  refine Eq.trans ?_ (blk6 t (dxOut f0 g0 (Y 0 d w)) y0 y1).symm
  exact halves_is' (D := from' (512 * t) (dxr 512 (of2 f0) (of2 g0) (Y 0 d w))) _ _ (half_is m c d w f0 f1 g0 g1 h0 h1 h2 h3 h4 h5 t 0 lo).1.1
    ((half_is m c d w f0 f1 g0 g1 h0 h1 h2 h3 h4 h5 t 256 hi).1.1.congr fun a b => congrArg ((dxr 512 (of2 f0) (of2 g0) (Y 0 d w)) · b) (Nat.add_assoc _ _ _)) y0 y1

theorem final7 : (dats m 0 c).arrAt 7 cfg0.N = dxOut f1 g1 (Y 512 d w) := by
  refine (dats m 0 c).arrAt_eq_of_covers 7 _ (by decide +kernel) fun t hf y => ?_
  refine (congrFun ((after0_7 m c t).trans (left7 m c t)) y).trans ?_
  idx_vars y
  refine Eq.trans ?_ (blk7 t (dxOut f1 g1 (Y 512 d w)) y0 y1).symm
  exact halves_is' (D := from' (512 * t) (dxr 512 (of2 f1) (of2 g1) (Y 512 d w))) _ _ (half_is m c d w f0 f1 g0 g1 h0 h1 h2 h3 h4 h5 t 0 lo).2.1
    ((half_is m c d w f0 f1 g0 g1 h0 h1 h2 h3 h4 h5 t 256 hi).2.1.congr fun a b => congrArg ((dxr 512 (of2 f1) (of2 g1) (Y 512 d w)) · b) (Nat.add_assoc _ _ _)) y0 y1

theorem final8 : (dats m 0 c).arrAt 8 cfg0.N = dotOut f0 g0 (Y 0 d w) := by
  refine (dats m 0 c).arrAt_eq_of_covers 8 _ (by decide +kernel) fun t hf y => ?_
  refine (congrFun ((after0_8 m c t).trans (left8 m c t)) y).trans ?_
  idx_vars y
  refine Eq.trans ?_ (blk8 t (dotOut f0 g0 (Y 0 d w)) y0 y1).symm
  exact halves_is (D := from' (512 * t) (dotr (of2 f0) (of2 g0) (Y 0 d w))) _ _ (half_is m c d w f0 f1 g0 g1 h0 h1 h2 h3 h4 h5 t 0 lo).1.2.1
    ((half_is m c d w f0 f1 g0 g1 h0 h1 h2 h3 h4 h5 t 256 hi).1.2.1.congr fun a b => congrArg ((dotr (of2 f0) (of2 g0) (Y 0 d w)) · b) (Nat.add_assoc _ _ _)) y0 y1

theorem final9 : (dats m 0 c).arrAt 9 cfg0.N = dotOut f1 g1 (Y 512 d w) := by
  refine (dats m 0 c).arrAt_eq_of_covers 9 _ (by decide +kernel) fun t hf y => ?_
  refine (congrFun ((after0_9 m c t).trans (left9 m c t)) y).trans ?_
  idx_vars y
  refine Eq.trans ?_ (blk9 t (dotOut f1 g1 (Y 512 d w)) y0 y1).symm
  exact halves_is (D := from' (512 * t) (dotr (of2 f1) (of2 g1) (Y 512 d w))) _ _ (half_is m c d w f0 f1 g0 g1 h0 h1 h2 h3 h4 h5 t 0 lo).2.2.1
    ((half_is m c d w f0 f1 g0 g1 h0 h1 h2 h3 h4 h5 t 256 hi).2.2.1.congr fun a b => congrArg ((dotr (of2 f1) (of2 g1) (Y 512 d w)) · b) (Nat.add_assoc _ _ _)) y0 y1

theorem final10 : (dats m 0 c).arrAt 10 cfg0.N = dgOut f0 (Y 0 d w) := by
  refine (dats m 0 c).arrAt_eq_of_covers 10 _ (by decide +kernel) fun t hf y => ?_
  refine (congrFun (after0_10 m c t) y).trans ?_
  have ht : 512 * (t.val + 1) = 8192 := by
    have := (flush0_10 t).mp hf
    have := point_lt t
    omega
  idx_vars y
  refine Eq.trans ?_ (blk10 t (dgOut f0 (Y 0 d w)) y0 y1).symm
  refine (sums10 m c d w f0 f1 g0 g1 h0 h1 h2 h3 h4 h5 t.val t rfl y0 y1).trans ?_
  rw [ht, upto_all]
  rfl

theorem final11 : (dats m 0 c).arrAt 11 cfg0.N = dgOut f1 (Y 512 d w) := by
  refine (dats m 0 c).arrAt_eq_of_covers 11 _ (by decide +kernel) fun t hf y => ?_
  refine (congrFun (after0_11 m c t) y).trans ?_
  have ht : 512 * (t.val + 1) = 8192 := by
    have := (flush0_11 t).mp hf
    have := point_lt t
    omega
  idx_vars y
  refine Eq.trans ?_ (blk11 t (dgOut f1 (Y 512 d w)) y0 y1).symm
  refine (sums11 m c d w f0 f1 g0 g1 h0 h1 h2 h3 h4 h5 t.val t rfl y0 y1).trans ?_
  rw [ht, upto_all]
  rfl

end
end

/-! ## The reference -/

section
open Cert.MixReferenceIdeal Cert.MixReferenceIdeal.Gen Cert.MixReferenceIdeal.Read

theorem hosted : Hosted 8192 512 where
  sums := reducesTo_S8192x512_S8192_d1
  sums1 := reducesTo_S8192x1_S8192_d1
  cols := reducesTo_S8192x512_S512_d0
  cols1 := reducesTo_S1x512_S512_d0
  one := h_S_
  col := bcast_S8192_S8192x1_0
  wide := bcast_S8192_S8192x512_0
  spread := bcast_S8192x1_S8192x512_0_1
  scalar := bcast_S_S8192x1
  row := bcast_S512_S1x512_1
  down := bcast_S1x512_S8192x512_0_1

section
variable {F : FTy → Type} [FloatOps F] (x0 : FVec F S8192x1024 .f32) (x1 : FVec F S1024x1024 .f32) (x2 x3 : FVec F S8192x512 .f32) (x4 x5 : FVec F S1x512 .f32)

def flat (x : FVec F S1x512 .f32) : FVec F S512 .f32 := shapeCast _ x shapeCasts_S1x512_S512

/-- The gradient at one attention's output from that at its normed rows. -/
def back (x : FVec F S8192x512 .f32) (g : FVec F S1x512 .f32) (y : FVec F S8192x512 .f32) : FVec F S8192x512 .f32 :=
  hDx hosted 0x44000000#32 (flat g) x y (hDirect hosted 0x44000000#32 (flat g) x y)

theorem stage78 : val_main_v78 (F := F) x0 x1 x2 x4 = back x2 x4 (val_main_v37 (F := F) x0 x1) := by
  sl_kernel_rfl
theorem stage58 : val_main_v58 (F := F) x0 x1 x3 x5 = back x3 x5 (val_main_v38 (F := F) x0 x1) := by
  sl_kernel_rfl
theorem stage87 : val_main_v87 (F := F) x0 x1 x2 = shapeCast S1x512 (hDg hosted 0x44000000#32 x2 (val_main_v37 (F := F) x0 x1)) shapeCasts_S512_S1x512 := by
  sl_kernel_rfl
theorem stage88 : val_main_v88 (F := F) x0 x1 x3 = shapeCast S1x512 (hDg hosted 0x44000000#32 x3 (val_main_v38 (F := F) x0 x1)) shapeCasts_S512_S1x512 := by
  sl_kernel_rfl
end

variable (d : S8192x1024.Idx → ℝ) (w : S1024x1024.Idx → ℝ) (f f0 f1 : S8192x512.Idx → ℝ) (g g0 g1 : S1x512.Idx → ℝ)

theorem prod_is : Is (val_main_v36 (F := Ideal) (up d) (up w)) fun r c => ∑ k : Fin 1024, of2 d r k * of2 w c k := fun r c => by
  unfold val_main_v36
  pointwise
  simp only [← EReal.coe_mul, coe_sum]
  refine congrArg Real.toEReal (Finset.sum_congr rfl fun k _ => congrArg₂ (· * ·) ?_ ?_)
  · exact (of2_at d r.isLt k.isLt).symm
  · exact (of2_at w c.isLt k.isLt).symm

theorem y37 : Is (val_main_v37 (F := Ideal) (up d) (up w)) (Y 0 d w) := cut_is (prod_is d w) _ (by decide)
theorem y38 : Is (val_main_v38 (F := Ideal) (up d) (up w)) (Y 512 d w) := cut_is (prod_is d w) _ (by decide)

theorem flat_is : Is₁ (flat (F := Ideal) (up g)) fun c => of2 g 0 c := fun c =>
  (ValueIdx.shapeCast_1a_a_apply _ _ c).trans (of2_is g 0 c)

theorem back_is {y : FVec Ideal S8192x512 .f32} {A : ℕ → ℕ → ℝ} (hy : Is y A) : Is (back (up f) (up g) y) (dxr 512 (of2 f) (of2 g) A) :=
  (hDx_is hosted counts512 (of2_is f) (flat_is g) hy (hDirect_is hosted counts512 (of2_is f) (flat_is g) hy)).congr fun r c => by
    rw [← dxr_eq]
    ring

theorem whole {x : FVec Ideal S8192x512 .f32} {A : ℕ → ℕ → ℝ} (hx : Is x (dxr 512 (of2 f) (of2 g) A)) : x = dxOut f g A := by
  funext i
  idx_vars i
  exact hx i0 i1

theorem r78 : Is (val_main_v78 (F := Ideal) (up d) (up w) (up f0) (up g0)) (dxr 512 (of2 f0) (of2 g0) (Y 0 d w)) := by
  rw [stage78]
  exact back_is f0 g0 (y37 d w)
theorem r58 : Is (val_main_v58 (F := Ideal) (up d) (up w) (up f1) (up g1)) (dxr 512 (of2 f1) (of2 g1) (Y 512 d w)) := by
  rw [stage58]
  exact back_is f1 g1 (y38 d w)

theorem ref79 : val_main_v79 (F := Ideal) (up d) (up w) (up f0) (up g0) = dxOut f0 g0 (Y 0 d w) := whole f0 g0 (r78 d w f0 g0)
theorem ref80 : val_main_v80 (F := Ideal) (up d) (up w) (up f1) (up g1) = dxOut f1 g1 (Y 512 d w) := whole f1 g1 (r58 d w f1 g1)

theorem at_head {x : FVec Ideal S8192x512 .f32} {A : ℕ → ℕ → ℝ} (hx : Is x (dxr 512 (of2 f) (of2 g) A)) (r : Fin 8192) (h : Fin 8) (k : Fin 64) (j : S8192x512.Idx)
    (e0 : (j 0).val = ((r.val * 8 + h.val) * 64 + k.val) / 512) (e1 : (j 1).val = ((r.val * 8 + h.val) * 64 + k.val) % 512) :
    mulf (F := Ideal) x (up f) j = ((dxr 512 (of2 f) (of2 g) A r (64 * h + k) * of2 f r (64 * h + k) : ℝ) : EReal) := by
  have hh := h.isLt
  have hk := k.isLt
  have e : j = ix2 r ⟨64 * h.val + k.val, by omega⟩ := funext fun a => Fin.ext <| match a with
    | ⟨0, _⟩ => e0.trans (by show _ = r.val; omega)
    | ⟨1, _⟩ => e1.trans (by show _ = 64 * h.val + k.val; omega)
  rw [e]
  exact hx.mul (of2_is f) r _

theorem ref83 : val_main_v83 (F := Ideal) (up d) (up w) (up f0) (up g0) = dotOut f0 g0 (Y 0 d w) := by
  funext i
  idx_vars i
  refine (val_main_v83_apply _ _ _ _ _).trans ?_
  have e : ∀ k : Fin 64, val_main_v82 (F := Ideal) (up d) (up w) (up f0) (up g0) (idx_main_v83 (ix2 i0 i1) k) = _ := fun k =>
    (val_main_v82_apply _ _ _ _ _).trans (at_head f0 g0 (r78 d w f0 g0) i0 i1 k _ rfl rfl)
  have z : val_main_cst_17 (F := Ideal) (Shape.Idx.first h_S_) = ((0 : ℝ) : EReal) := zero_eq
  rw [Finset.sum_congr rfl fun k _ => e k, coe_sum, z, ← EReal.coe_add, zero_add]
  rfl

theorem ref86 : val_main_v86 (F := Ideal) (up d) (up w) (up f1) (up g1) = dotOut f1 g1 (Y 512 d w) := by
  funext i
  idx_vars i
  refine (val_main_v86_apply _ _ _ _ _).trans ?_
  have e : ∀ k : Fin 64, val_main_v85 (F := Ideal) (up d) (up w) (up f1) (up g1) (idx_main_v86 (ix2 i0 i1) k) = _ := fun k =>
    (val_main_v85_apply _ _ _ _ _).trans (at_head f1 g1 (r58 d w f1 g1) i0 i1 k _ rfl rfl)
  have z : val_main_cst_18 (F := Ideal) (Shape.Idx.first h_S_) = ((0 : ℝ) : EReal) := zero_eq
  rw [Finset.sum_congr rfl fun k _ => e k, coe_sum, z, ← EReal.coe_add, zero_add]
  rfl

theorem ref87 : val_main_v87 (F := Ideal) (up d) (up w) (up f0) = dgOut f0 (Y 0 d w) := by
  rw [stage87]
  have h := (hDg_is hosted counts512 (of2_is f0) (y37 d w)).cast shapeCasts_S512_S1x512
  funext i
  idx_vars i
  exact h i0 i1

theorem ref88 : val_main_v88 (F := Ideal) (up d) (up w) (up f1) = dgOut f1 (Y 512 d w) := by
  rw [stage88]
  have h := (hDg_is hosted counts512 (of2_is f1) (y38 d w)).cast shapeCasts_S512_S1x512
  funext i
  idx_vars i
  exact h i0 i1

/-- The precondition makes all arguments arrays of reals. -/
theorem finite (x0 : FVec Ideal Pre_mix_finite.S8192x1024 .f32) (x1 : FVec Ideal Pre_mix_finite.S1024x1024 .f32)
    (x2 x3 : FVec Ideal Pre_mix_finite.S8192x512 .f32) (x4 x5 : FVec Ideal Pre_mix_finite.S1x512 .f32)
    (h : Cert.Pre_mix_finite.fn (F := Ideal) x0 x1 x2 x3 x4 x5 = fun _ => 1#1) :
    (∃ f, x0 = up f) ∧ (∃ f, x1 = up f) ∧ (∃ f, x2 = up f) ∧ (∃ f, x3 = up f) ∧ (∃ f, x4 = up f) ∧ ∃ f, x5 = up f := by
  have e := congrFun h ix0
  obtain ⟨e, e5⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  exact ⟨real_of_all x0 _ _ _ _ e0, real_of_all x1 _ _ _ _ e1, real_of_all x2 _ _ _ _ e2, real_of_all x3 _ _ _ _ e3, real_of_all x4 _ _ _ _ e4, real_of_all x5 _ _ _ _ e5⟩
end

/-- The kernel's six results are the gradients at both outputs, their sums over each head, and the gradients at both scales. -/
theorem algebraic : Cert.algebraic_MixKernelIdeal_MixReferenceIdeal_pre_mix_finite := by
  pair_intro
  · run_from Cert.MixKernelIdeal.Value.run_blocks m g
  · refine (θ_run _ _ _).mono (fun s h c => ?_) (Cert.MixReferenceIdeal.Value.run (F := Ideal) m' g')
    obtain ⟨q6, q7, q8, q9, q10, q11, rest⟩ := h c
    obtain ⟨e0, e1, e2, e3, e4, e5⟩ := hagree c
    obtain ⟨⟨d, hd⟩, ⟨w, hw⟩, ⟨f0, hf0⟩, ⟨f1, hf1⟩, ⟨g0, hg0⟩, ⟨g1, hg1⟩⟩ := finite _ _ _ _ _ _ (hpre c)
    refine ⟨q6.trans ?_, q7.trans ?_, q8.trans ?_, q9.trans ?_, q10.trans ?_, q11.trans ?_, rest⟩
    · rw [final6 m c d w f0 f1 g0 g1 hd hw hf0 hf1 hg0 hg1]
      refine (Cert.MixReferenceIdeal.Read.val_main_v79_eq _ _).trans ?_
      rw [e0, e1, e2, e4, hd, hw, hf0, hg0]
      exact ref79 d w f0 g0
    · rw [final7 m c d w f0 f1 g0 g1 hd hw hf0 hf1 hg0 hg1]
      refine (Cert.MixReferenceIdeal.Read.val_main_v80_eq _ _).trans ?_
      rw [e0, e1, e3, e5, hd, hw, hf1, hg1]
      exact ref80 d w f1 g1
    · rw [final8 m c d w f0 f1 g0 g1 hd hw hf0 hf1 hg0 hg1]
      refine (Cert.MixReferenceIdeal.Read.val_main_v83_eq _ _).trans ?_
      rw [e0, e1, e2, e4, hd, hw, hf0, hg0]
      exact ref83 d w f0 g0
    · rw [final9 m c d w f0 f1 g0 g1 hd hw hf0 hf1 hg0 hg1]
      refine (Cert.MixReferenceIdeal.Read.val_main_v86_eq _ _).trans ?_
      rw [e0, e1, e3, e5, hd, hw, hf1, hg1]
      exact ref86 d w f1 g1
    · rw [final10 m c d w f0 f1 g0 g1 hd hw hf0 hf1 hg0 hg1]
      refine (Cert.MixReferenceIdeal.Read.val_main_v87_eq _ _ _).trans ?_
      rw [e0, e1, e2, hd, hw, hf0]
      exact ref87 d w f0
    · rw [final11 m c d w f0 f1 g0 g1 hd hw hf0 hf1 hg0 hg1]
      refine (Cert.MixReferenceIdeal.Read.val_main_v88_eq _ _ _).trans ?_
      rw [e0, e1, e3, hd, hw, hf1]
      exact ref88 d w f1

/-- The reference runs and keeps its arguments; it has no counters. -/
theorem frame_reference : Cert.quiescent_MixReferenceIdeal := fun m g _ =>
  (θ_run _ _ _).mono (fun _ h => ⟨fun c => (h c).2.2.2.2.2.2, no_counters rfl rfl _ _⟩) (Cert.MixReferenceIdeal.Value.run (F := Idealize.ShloMosaic.Ideal) m g)
end Cert.Mix
end
-- ==== Proof.SwiF.lean ====
module

public import proofs.«01_k».proof.Proof.Attn
public import proofs.«01_k».proof.Proof.Soft
public import proofs.«01_k».proof.Proof.Gen.SwiFKernelIdeal.Value
public import proofs.«01_k».proof.Proof.Gen.SwiFReferenceIdeal.Read
public import proofs.«01_k».proof.Proof.Gen.SwiFReferenceIdeal.Run
public import proofs.«01_k».proof.Proof.Gen.Pre_swif_finite
public import proofs.«01_k».proof.Defs
public import Idealize.ShloMosaic.Lib.WholeRead
public import Idealize.ShloMosaic.Lib.StableHlo.RunRead

/-! The gated activation with the factors its gradient takes: what the kernel's three outputs hold, and that they are
    the derivatives of `silu g · u` by `g` and by `u`, and its value. -/

@[expose] public section
set_option maxRecDepth 16384

noncomputable section

namespace Cert.SwiF

open Idealize.ShloMosaic Idealize.ShloMosaic.TcCoe Idealize.SL.Sem Reals Attn

/-- The logistic function of a real. -/
def lg (z : ℝ) : ℝ := 1 / (1 + Real.exp (-z))

theorem lg_pos (z : ℝ) : 0 < 1 + Real.exp (-z) := by positivity

theorem unit : (1 : EReal) = ((1 : ℝ) : EReal) := EReal.coe_one.symm

/-- An array of reals. -/
abbrev reals {s : Shape} (f : s.Idx → ℝ) : FVec Ideal s .f32 := fun i => ((f i : ℝ) : EReal)

section
variable (h : Cert.SwiFReferenceIdeal.S8192x1024.Idx → ℝ) (wg wu : Cert.SwiFReferenceIdeal.S1024x2816.Idx → ℝ)

/-- The product of the rows with the weights of a branch; -/
def branch (w : Cert.SwiFReferenceIdeal.S1024x2816.Idx → ℝ) (r : Fin 8192) (c : Fin 2816) : ℝ := ∑ d : Fin 1024, h (ix2 r d) * w (ix2 d c)
/-- the derivative by the gate's branch, -/
def slope (r : Fin 8192) (c : Fin 2816) : ℝ :=
  branch h wu r c * (lg (branch h wg r c) * (1 + branch h wg r c * (1 - lg (branch h wg r c))))
/-- the derivative by the linear branch, -/
def silu (r : Fin 8192) (c : Fin 2816) : ℝ := branch h wg r c * lg (branch h wg r c)
/-- and the activation. -/
def act (r : Fin 8192) (c : Fin 2816) : ℝ := silu h wg r c * branch h wu r c
end

/-! ## The reference -/

section
open Cert.SwiFReferenceIdeal Cert.SwiFReferenceIdeal.Gen Cert.SwiFReferenceIdeal.Read
variable (h : S8192x1024.Idx → ℝ) (wg wu : S1024x2816.Idx → ℝ)

theorem branch_at (w : S1024x2816.Idx → ℝ) (r : Fin 8192) (c : Fin 2816) :
    val_main_v0 (F := Ideal) (reals h) (reals w) (ix2 r c) = ((branch h w r c : ℝ) : EReal) := by
  pointwise [val_main_v0]
  simp only [← EReal.coe_mul, coe_sum, branch]

theorem logistic_at (r : Fin 8192) (c : Fin 2816) : val_main_v2_2 (F := Ideal) (reals h) (reals wg) (ix2 r c) = ((lg (branch h wg r c) : ℝ) : EReal) := by
  have e := branch_at h wg r c
  unfold val_main_v2_2 val_main_call0_v3 val_main_call0_v1 val_main_call0_v0
  generalize val_main_v0 (F := Ideal) (reals h) (reals wg) = y at e ⊢
  pointwise [val_main_call0_v4, val_main_call0_v2, val_main_call0_cst, val_main_call0_cst_0]
  rw [e, ← EReal.coe_neg, Ideal.exp_coe, unit, ← EReal.coe_add, Soft.div_coe _ _ (lg_pos _).ne']
  rfl

/-- The derivative by the gate's branch, as differentiation gives it, -/
theorem ref_slope (r : Fin 8192) (c : Fin 2816) :
    val_main_v8 (F := Ideal) (reals h) (reals wg) (reals wu) (ix2 r c) = ((slope h wg wu r c : ℝ) : EReal) := by
  have e0 := branch_at h wg r c
  have e1 : val_main_v1 (F := Ideal) (reals h) (reals wu) (ix2 r c) = _ := branch_at h wu r c
  have e2 := logistic_at h wg r c
  unfold val_main_v8 val_main_v7 val_main_call1_v2 val_main_call1_v1 val_main_call1_v0 val_main_v6 val_main_v2_1 val_main_call0_v7
  generalize val_main_v0 (F := Ideal) (reals h) (reals wg) = y0 at e0 ⊢
  generalize val_main_v1 (F := Ideal) (reals h) (reals wu) = y1 at e1 ⊢
  generalize val_main_v2_2 (F := Ideal) (reals h) (reals wg) = y2 at e2 ⊢
  pointwise [val_main_call0_v6, val_main_call0_cst_1, val_main_v4, val_main_cst]
  simp only [e0, e1, e2, unit, ← EReal.coe_mul, ← EReal.coe_sub, ← EReal.coe_add]
  refine congrArg Real.toEReal ?_
  unfold slope
  ring

/-- by the linear branch, -/
theorem ref_silu (r : Fin 8192) (c : Fin 2816) : val_main_v9 (F := Ideal) (reals h) (reals wg) (ix2 r c) = ((silu h wg r c : ℝ) : EReal) := by
  have e0 := branch_at h wg r c
  have e2 := logistic_at h wg r c
  unfold val_main_v9 val_main_v5 val_main_v2_0
  generalize val_main_v0 (F := Ideal) (reals h) (reals wg) = y0 at e0 ⊢
  generalize val_main_v2_2 (F := Ideal) (reals h) (reals wg) = y2 at e2 ⊢
  pointwise [val_main_v4, val_main_cst]
  simp only [e0, e2, ← EReal.coe_mul]
  refine congrArg Real.toEReal ?_
  unfold silu
  ring

/-- and the value. -/
theorem ref_act (r : Fin 8192) (c : Fin 2816) :
    val_main_v10 (F := Ideal) (reals h) (reals wg) (reals wu) (ix2 r c) = ((act h wg wu r c : ℝ) : EReal) := by
  have e0 := branch_at h wg r c
  have e1 : val_main_v1 (F := Ideal) (reals h) (reals wu) (ix2 r c) = _ := branch_at h wu r c
  have e2 := logistic_at h wg r c
  unfold val_main_v10 val_main_v3 val_main_v2_0
  generalize val_main_v0 (F := Ideal) (reals h) (reals wg) = y0 at e0 ⊢
  generalize val_main_v1 (F := Ideal) (reals h) (reals wu) = y1 at e1 ⊢
  generalize val_main_v2_2 (F := Ideal) (reals h) (reals wg) = y2 at e2 ⊢
  pointwise
  simp only [e0, e1, e2, ← EReal.coe_mul]
  refine congrArg Real.toEReal ?_
  unfold act silu
  ring
end

/-! ## The kernel -/

section
open Cert.SwiFKernelIdeal Cert.SwiFKernelIdeal.Gen Cert.SwiFKernelIdeal.Value

theorem places : ∀ t : Fin cfg0.N, win0_0.index t = ![t.val % 16, 0] ∧ win0_1.index t = ![t.val / 16, 0]
    ∧ win0_2.index t = ![t.val / 16, 0] ∧ win0_3.index t = ![t.val % 16, t.val / 16]
    ∧ win0_4.index t = ![t.val % 16, t.val / 16] ∧ win0_5.index t = ![t.val % 16, t.val / 16] :=
  (by decide +kernel : ∀ t : Fin grid0.N, _)

theorem small (t : Fin cfg0.N) : t.val < 32 := t.isLt

section
variable (P0 : FVec Ideal S512x1024 .bf16) (P1 P2 : FVec Ideal S1408x1024 .bf16) (f g u : ℕ → ℕ → ℝ) (h0 : Is P0 f) (h1 : Is P1 g) (h2 : Is P2 u)

/-- A product of a block of rows with a block of weights. -/
def dotp (f g : ℕ → ℕ → ℝ) (r c : ℕ) : ℝ := ∑ d : Fin 1024, f r d * g c d

include h0 h1 in
theorem gate_is : Is (k0_pay2 (F := Ideal) P0 P1) (dotp f g) :=
  (h0.self shapeCasts_S512x1024_S512x1024).matmulNT (h1.self shapeCasts_S1408x1024_S1408x1024)

include h0 h2 in
theorem lin_is : Is (k0_pay3 (F := Ideal) P0 P2) (dotp f u) :=
  (h0.self shapeCasts_S512x1024_S512x1024).matmulNT (h2.self shapeCasts_S1408x1024_S1408x1024)

include h0 h1 in
theorem logistic_is : Is (k0_pay4 (F := Ideal) P0 P1) fun r c => lg (dotp f g r c) := fun r c => by
  refine (congrArg (FloatOps.logistic (F := Ideal) (φ := .f32)) (gate_is P0 P1 f g h0 h1 r c)).trans ?_
  refine (Ideal.logistic_coe _).trans (congrArg Real.toEReal ?_)
  exact (one_div _).symm

include h0 h1 in
theorem silu_is : Is (k0_pay7 (F := Ideal) P0 P1) fun r c => dotp f g r c * lg (dotp f g r c) :=
  ((gate_is P0 P1 f g h0 h1).mul (logistic_is P0 P1 f g h0 h1)).trunc _

include h0 h1 h2 in
theorem act_is : Is (k0_pay8 (F := Ideal) P0 P1 P2) fun r c => dotp f g r c * lg (dotp f g r c) * dotp f u r c :=
  (((gate_is P0 P1 f g h0 h1).mul (logistic_is P0 P1 f g h0 h1)).mul (lin_is P0 P2 f u h0 h2)).trunc _

include h0 h1 h2 in
theorem slope_is : Is (k0_pay6 (F := Ideal) P0 P1 P2) fun r c =>
    dotp f u r c * (lg (dotp f g r c) * (1 + dotp f g r c * (1 - lg (dotp f g r c)))) := fun r c => by
  have e1 := gate_is P0 P1 f g h0 h1 r c
  have e2 := lin_is P0 P2 f u h0 h2 r c
  have e3 := logistic_is P0 P1 f g h0 h1 r c
  unfold k0_pay6
  generalize k0_pay2 (F := Ideal) P0 P1 = y1 at e1 ⊢
  generalize k0_pay3 (F := Ideal) P0 P2 = y2 at e2 ⊢
  generalize k0_pay4 (F := Ideal) P0 P1 = y3 at e3 ⊢
  pointwise
  simp only [e1, e2, e3, unit, ← EReal.coe_mul, ← EReal.coe_sub, ← EReal.coe_add]
end

variable (m : (ℓ : Loc nD τ sig) → Buf (Elt Ideal) ℓ) (c : Dev nD)

theorem rows_at (t : Fin cfg0.N) (W : S8192x1024.Idx → EReal) (i : Fin 512) (j : Fin 1024) :
    (((cfg0.win 0).blk t).view.read (Elt Ideal) W : S512x1024.Idx → EReal) (ix2 i j) = W (ix2 ⟨512 * (t.val % 16) + i, by have := small t; omega⟩ j) := by
  have := small t
  blk_simp [places t]
  blk_ext [places t]

theorem gates_at (t : Fin cfg0.N) (W : S2816x1024.Idx → EReal) (i : Fin 1408) (j : Fin 1024) :
    (((cfg0.win 1).blk t).view.read (Elt Ideal) W : S1408x1024.Idx → EReal) (ix2 i j) = W (ix2 ⟨1408 * (t.val / 16) + i, by have := small t; omega⟩ j) := by
  have := small t
  blk_simp [places t]
  blk_ext [places t]

theorem lins_at (t : Fin cfg0.N) (W : S2816x1024.Idx → EReal) (i : Fin 1408) (j : Fin 1024) :
    (((cfg0.win 2).blk t).view.read (Elt Ideal) W : S1408x1024.Idx → EReal) (ix2 i j) = W (ix2 ⟨1408 * (t.val / 16) + i, by have := small t; omega⟩ j) := by
  have := small t
  blk_simp [places t]
  blk_ext [places t]

theorem out_at {α : Type} (t : Fin cfg0.N) (W : S8192x2816.Idx → α) (i : Fin 512) (j : Fin 1408) :
    W ((win0_3.blk t).view.emb (ix2 i j)) = W (ix2 ⟨512 * (t.val % 16) + i, by have := small t; omega⟩ ⟨1408 * (t.val / 16) + j, by have := small t; omega⟩) := by
  have := small t
  refine congrArg W ?_
  blk_ext [places t]

abbrev a0 : FVec Ideal S8192x1024 .f32 := m ((c : Thread nD τ).loc main_arg0)
abbrev a1 : FVec Ideal S1024x2816 .f32 := m ((c : Thread nD τ).loc main_arg1)
abbrev a2 : FVec Ideal S1024x2816 .f32 := m ((c : Thread nD τ).loc main_arg2)

theorem host0 : V m c main_v0 = truncf .bf16 (a0 m c) bitsLt_bf16_f32 := by
  unfold V
  after_reads_simp

theorem host2 : V m c main_v2 = truncf .bf16 (transpose S2816x1024 [1, 0] (a1 m c) transposes_S1024x2816_S2816x1024_1_0) bitsLt_bf16_f32 := by
  unfold V
  after_reads_simp

theorem host4 : V m c main_v4 = truncf .bf16 (transpose S2816x1024 [1, 0] (a2 m c) transposes_S1024x2816_S2816x1024_1_0) bitsLt_bf16_f32 := by
  unfold V
  after_reads_simp

/-- The transposed weights hold the weights. -/
theorem turned (w : S1024x2816.Idx → ℝ) (i : Fin 2816) (j : Fin 1024) :
    (truncf .bf16 (transpose S2816x1024 [1, 0] (reals w) transposes_S1024x2816_S2816x1024_1_0) bitsLt_bf16_f32 : FVec Ideal S2816x1024 .bf16) (ix2 i j)
      = ((w (ix2 j i) : ℝ) : EReal) := by
  pointwise

section
variable (h : S8192x1024.Idx → ℝ) (wg wu : S1024x2816.Idx → ℝ) (h0 : a0 m c = reals h) (h1 : a1 m c = reals wg) (h2 : a2 m c = reals wu)

/-- What a grid point finds: its rows, and the weights of its columns. -/
def rowsOf (n : ℕ) (r d : ℕ) : ℝ := h (ix2 (Fin.ofNat 8192 (512 * n + r)) (Fin.ofNat 1024 d))
def colsOf (w : S1024x2816.Idx → ℝ) (n : ℕ) (r d : ℕ) : ℝ := w (ix2 (Fin.ofNat 1024 d) (Fin.ofNat 2816 (1408 * n + r)))

include h0 in
theorem rows_is (t : Fin cfg0.N) : Is (iblk m c 0 t : FVec Ideal S512x1024 .bf16) (rowsOf h (t.val % 16)) := fun r d => by
  have ht := small t
  refine (rows_at t _ r d).trans ((congrFun ((host0 m c).trans (congrArg (fun x => truncf .bf16 x bitsLt_bf16_f32) h0)) _).trans ?_)
  refine congrArg Real.toEReal (congrArg h (congrArg₂ ix2 (Fin.ext ?_) (Fin.ext ?_)))
  · exact (Nat.mod_eq_of_lt (show 512 * (t.val % 16) + r.val < 8192 by omega)).symm
  · exact (Nat.mod_eq_of_lt d.isLt).symm

theorem cols_same (w : S1024x2816.Idx → ℝ) (t : Fin cfg0.N) (r : Fin 1408) (d : Fin 1024) (hr : 1408 * (t.val / 16) + r.val < 2816) :
    ((w (ix2 d ⟨1408 * (t.val / 16) + r, hr⟩) : ℝ) : EReal) = ((colsOf w (t.val / 16) r d : ℝ) : EReal) := by
  refine congrArg Real.toEReal (congrArg w (congrArg₂ ix2 (Fin.ext ?_) (Fin.ext ?_)))
  · exact (Nat.mod_eq_of_lt d.isLt).symm
  · exact (Nat.mod_eq_of_lt hr).symm

include h1 in
theorem gates_is (t : Fin cfg0.N) : Is (iblk m c 1 t : FVec Ideal S1408x1024 .bf16) (colsOf wg (t.val / 16)) := fun r d => by
  have ht := small t
  refine (gates_at t _ r d).trans ((congrFun (host2 m c) _).trans ?_)
  rw [h1]
  exact (turned wg _ _).trans (cols_same wg t r d (by omega))

include h2 in
theorem lins_is (t : Fin cfg0.N) : Is (iblk m c 2 t : FVec Ideal S1408x1024 .bf16) (colsOf wu (t.val / 16)) := fun r d => by
  have ht := small t
  refine (lins_at t _ r d).trans ((congrFun (host4 m c) _).trans ?_)
  rw [h2]
  exact (turned wu _ _).trans (cols_same wu t r d (by omega))

/-- The block's product is the branch at the block's place. -/
theorem dotp_eq (w : S1024x2816.Idx → ℝ) (t : Fin cfg0.N) (i : Fin 512) (j : Fin 1408)
    (hi : 512 * (t.val % 16) + i.val < 8192) (hj : 1408 * (t.val / 16) + j.val < 2816) :
    dotp (rowsOf h (t.val % 16)) (colsOf w (t.val / 16)) i j = branch h w ⟨512 * (t.val % 16) + i, hi⟩ ⟨1408 * (t.val / 16) + j, hj⟩ := by
  refine Finset.sum_congr rfl fun d _ => congrArg₂ (· * ·) (congrArg h (congrArg₂ ix2 (Fin.ext ?_) (Fin.ext ?_)))
    (congrArg w (congrArg₂ ix2 (Fin.ext ?_) (Fin.ext ?_)))
  · exact Nat.mod_eq_of_lt hi
  · exact Nat.mod_eq_of_lt d.isLt
  · exact Nat.mod_eq_of_lt d.isLt
  · exact Nat.mod_eq_of_lt hj

/-- The three outputs, whole. -/
def whole (f : Fin 8192 → Fin 2816 → ℝ) (i : S8192x2816.Idx) : EReal := ((f (i 0) (i 1) : ℝ) : EReal)

include h0 h1 h2

theorem final3 : (dats m 0 c).arrAt 3 cfg0.N = whole (slope h wg wu) := by
  refine (dats m 0 c).arrAt_eq_of_covers 3 _ (by decide +kernel) fun t hf y => ?_
  refine (congrFun (after0_3 m c t) y).trans ?_
  have ht := small t
  frame_out
  idx_vars y
  refine Eq.trans ?_ (out_at t (whole (slope h wg wu)) y0 y1).symm
  refine (slope_is _ _ _ _ _ _ (rows_is m c h h0 t) (gates_is m c wg h1 t) (lins_is m c wu h2 t) y0 y1).trans (congrArg Real.toEReal ?_)
  dsimp only
  rw [dotp_eq h wg t y0 y1 (by omega) (by omega), dotp_eq h wu t y0 y1 (by omega) (by omega)]
  rfl

theorem final4 : (dats m 0 c).arrAt 4 cfg0.N = whole (silu h wg) := by
  refine (dats m 0 c).arrAt_eq_of_covers 4 _ (by decide +kernel) fun t hf y => ?_
  refine (congrFun (after0_4 m c t) y).trans ?_
  have ht := small t
  frame_out
  idx_vars y
  refine Eq.trans ?_ (out_at t (whole (silu h wg)) y0 y1).symm
  refine (silu_is _ _ _ _ (rows_is m c h h0 t) (gates_is m c wg h1 t) y0 y1).trans (congrArg Real.toEReal ?_)
  dsimp only
  rw [dotp_eq h wg t y0 y1 (by omega) (by omega)]
  rfl

theorem final5 : (dats m 0 c).arrAt 5 cfg0.N = whole (act h wg wu) := by
  refine (dats m 0 c).arrAt_eq_of_covers 5 _ (by decide +kernel) fun t hf y => ?_
  refine (congrFun (after0_5 m c t) y).trans ?_
  have ht := small t
  frame_out
  idx_vars y
  refine Eq.trans ?_ (out_at t (whole (act h wg wu)) y0 y1).symm
  refine (act_is _ _ _ _ _ _ (rows_is m c h h0 t) (gates_is m c wg h1 t) (lins_is m c wu h2 t) y0 y1).trans (congrArg Real.toEReal ?_)
  dsimp only
  rw [dotp_eq h wg t y0 y1 (by omega) (by omega), dotp_eq h wu t y0 y1 (by omega) (by omega)]
  rfl
end

/-- The precondition makes the three arguments arrays of reals. -/
theorem finite (x0 : FVec Ideal Pre_swif_finite.S8192x1024 .f32) (x1 x2 : FVec Ideal Pre_swif_finite.S1024x2816 .f32)
    (h : Cert.Pre_swif_finite.fn (F := Ideal) x0 x1 x2 = fun _ => 1#1) :
    (∃ f, x0 = reals f) ∧ (∃ f, x1 = reals f) ∧ ∃ f, x2 = reals f := by
  obtain ⟨e01, e2⟩ := IntOp.andi_eq_one.1 (congrFun h ix0)
  obtain ⟨e0, e1⟩ := IntOp.andi_eq_one.1 e01
  exact ⟨real_of_all x0 _ _ _ _ e0, real_of_all x1 _ _ _ _ e1, real_of_all x2 _ _ _ _ e2⟩
end

/-- The kernel's three results are the activation's two derivatives and its value. -/
theorem algebraic : Cert.algebraic_SwiFKernelIdeal_SwiFReferenceIdeal_pre_swif_finite := by
  pair_intro
  · run_from Cert.SwiFKernelIdeal.Value.run_blocks m g
  · refine (θ_run _ _ _).mono (fun s h c => ?_) (Cert.SwiFReferenceIdeal.Value.run (F := Ideal) m' g')
    obtain ⟨r0, r1, r2, keep⟩ := h c
    obtain ⟨e0, e1, e2⟩ := hagree c
    obtain ⟨⟨f0, hf0⟩, ⟨f1, hf1⟩, ⟨f2, hf2⟩⟩ := finite _ _ _ (hpre c)
    refine ⟨r0.trans ?_, r1.trans ?_, r2.trans ?_, keep⟩
    · rw [final3 m c f0 f1 f2 hf0 hf1 hf2]
      refine (Cert.SwiFReferenceIdeal.Read.val_main_v8_eq _ _ _).trans ?_
      rw [e0, e1, e2, hf0, hf1, hf2]
      funext i
      idx_vars i
      exact ref_slope f0 f1 f2 i0 i1
    · rw [final4 m c f0 f1 f2 hf0 hf1 hf2]
      refine (Cert.SwiFReferenceIdeal.Read.val_main_v9_eq _ _).trans ?_
      rw [e0, e1, hf0, hf1]
      funext i
      idx_vars i
      exact ref_silu f0 f1 i0 i1
    · rw [final5 m c f0 f1 f2 hf0 hf1 hf2]
      refine (Cert.SwiFReferenceIdeal.Read.val_main_v10_eq _ _ _).trans ?_
      rw [e0, e1, e2, hf0, hf1, hf2]
      funext i
      idx_vars i
      exact ref_act f0 f1 f2 i0 i1

/-- The reference runs and keeps its arguments; it has no counters. -/
theorem frame_reference : Cert.quiescent_SwiFReferenceIdeal := fun m g _ =>
  (θ_run _ _ _).mono (fun _ h => ⟨fun c => (h c).2.2.2, no_counters rfl rfl _ _⟩) (Cert.SwiFReferenceIdeal.Value.run (F := Idealize.ShloMosaic.Ideal) m g)
end Cert.SwiF
end
-- ==== Proof.PrepBody.lean ====
module

public import proofs.«01_k».proof.Proof.Halves
public import proofs.«01_k».proof.Proof.Gen.PrepKernelIdeal.Value
public import proofs.«01_k».proof.Defs

/-! The gradient through the latent attention's preparation, one grid point: the loads, the stores, and what they hold. -/

@[expose] public section
set_option maxRecDepth 16384

noncomputable section

namespace Cert.Prep

open Idealize.ShloMosaic Idealize.ShloMosaic.TcCoe Idealize.SL.Sem Reals Attn Norm

/-! ## What one grid point stores -/

section
open Cert.PrepKernelIdeal Cert.PrepKernelIdeal.Gen
variable {F : FTy → Type} [FloatOps F]

/-- Columns `l` to `l + w` of a block. -/
abbrev colRect (N W l w : ℕ) (h : l + w ≤ W) : Rect (S₂ N W) := Rect.unit ![0, l] (S₂ N w).size (inb₂ (by omega) h)

/-- One addition to a row of sums: `old` is what it reads. -/
def addedOnce {w : ℕ} (old d : FVec F (S₂ 1 w) .f32) (base : List (View.Piece (Elt F) (S₂ 1 w) .f32)) : List (View.Piece (Elt F) (S₂ 1 w) .f32) :=
  ⟨rowAll w, addf (shapeCast _ old (casts_refl _)) d⟩ :: base

theorem iotas16 (a : Fin 2) : (S₂ 16 128).Iotas .tc 32 [a] := by simp [Shape.Iotas]

/-- The lanes of each frequency, -/
def laneBit : IVec (S₂ 16 128) 1 :=
  cmpi .eq (andi (iota .tc (S₂ 16 128) 32 [1] (iotas16 1)) (broadcast (S₂ 16 128) 15#32)) (iota .tc (S₂ 16 128) 32 [0] (iotas16 0))
def ones : FVec F (S₂ 16 128) .bf16 := truncf .bf16 (sitofp .f32 (extui 32 laneBit natLt_1_32)) bitsLt_bf16_f32
/-- and with the sign of the half they lie in. -/
def halfBit : IVec (S₂ 16 128) 1 := cmpi .slt (iota .tc (S₂ 16 128) 32 [1] (iotas16 1)) (broadcast (S₂ 16 128) 64#32)
def signs : FVec F (S₂ 16 128) .bf16 :=
  truncf .bf16 (select laneBit (select halfBit (broadcast _ (Scalar.ofBits .f32 0xBF800000#32)) (broadcast _ (Scalar.ofBits .f32 0x3F800000#32)))
    (broadcast _ (Scalar.ofBits .f32 0x00000000#32))) bitsLt_bf16_f32

/-- A table spread over the lanes, from three pieces. -/
def spread (v : FVec F (S₂ 512 16) .f32) (o : FVec F (S₂ 16 128) .bf16) : FVec F (S₂ 512 128) .f32 :=
  let p : FVec F (S₂ 512 16) .bf16 := truncf .bf16 v bitsLt_bf16_f32
  let v' : FVec F (S₂ 512 16) .f32 := subf v (extf .f32 p bitsLt_bf16_f32)
  let q : FVec F (S₂ 512 16) .bf16 := truncf .bf16 v' bitsLt_bf16_f32
  let v'' : FVec F (S₂ 512 16) .f32 := subf v' (extf .f32 q bitsLt_bf16_f32)
  addf (addf (matmul (DotDims.plain 512 16 128) none (truncf .bf16 v'' bitsLt_bf16_f32) o (constant _ .f32 0x00000000#32))
    (matmul (DotDims.plain 512 16 128) none q o (constant _ .f32 0x00000000#32)))
    (matmul (DotDims.plain 512 16 128) none p o (constant _ .f32 0x00000000#32))

theorem rotates : (S₂ 512 128).Rotates 1 none := rotates_S512x128_d1

/-- The rotation of a block of lanes. -/
def turned (x a b : FVec F (S₂ 512 128) .f32) : FVec F (S₂ 512 128) .bf16 :=
  truncf .bf16 (addf (mulf (shapeCast _ x (casts_refl _)) a) (mulf (dynamicRotate 1 64#32 none (shapeCast _ x (casts_refl _)) rotates) b)) bitsLt_bf16_f32

/-- What a grid point reads. -/
structure Reads (F : FTy → Type) where
  qn : FVec F (S₂ 512 512) .bf16
  p0 : FVec F (S₂ 512 128) .f32
  p1 : FVec F (S₂ 512 128) .f32
  wn : FVec F (S₂ 512 256) .bf16
  wp : FVec F (S₂ 256 256) .bf16
  kv : FVec F (S₂ 512 1024) .bf16
  wk : FVec F (S₂ 1024 128) .bf16
  kp : FVec F (S₂ 512 128) .f32
  tl : FVec F (S₂ 512 128) .f32
  xq : FVec F (S₂ 512 256) .f32
  xk : FVec F (S₂ 512 128) .f32
  gq : FVec F (S₂ 1 256) .f32
  gk : FVec F (S₂ 1 128) .f32
  cs : FVec F (S₂ 512 16) .f32
  sn : FVec F (S₂ 512 16) .f32

namespace Reads
variable (R : Reads F)
def cosines : FVec F (S₂ 512 128) .f32 := spread (shapeCast _ R.cs (casts_refl _)) ones
def sines : FVec F (S₂ 512 128) .f32 := spread (subf (broadcast _ (Scalar.ofBits .f32 0x00000000#32)) (shapeCast _ R.sn (casts_refl _))) signs
def turns : List (View.Piece (Elt F) (S₂ 512 256) .bf16) :=
  [⟨colRect 512 256 128 128 (by decide), turned R.p1 R.cosines R.sines⟩, ⟨colRect 512 256 0 128 (by decide), turned R.p0 R.cosines R.sines⟩]
variable {κ : Kind} {sp : Space} (v : View sig κ sp (S₂ 512 256) .bf16)
def yq : FVec F (S₂ 512 256) .f32 :=
  addf (matmul (DotDims.plain 512 512 256) none (shapeCast _ R.qn (casts_refl _)) (shapeCast _ R.wn (casts_refl _)) (constant _ .f32 0x00000000#32))
    (matmul (DotDims.plain 512 256 256) none (shapeCast _ (v.readCov R.turns (colRect 512 256 0 256 (by decide)).toLoadRect) (casts_refl _)) (shapeCast _ R.wp (casts_refl _)) (constant _ .f32 0x00000000#32))
def yk : FVec F (S₂ 512 128) .f32 :=
  matmul (DotDims.plain 512 1024 128) none (shapeCast _ R.kv (casts_refl _)) (shapeCast _ R.wk (casts_refl _)) (constant _ .f32 0x00000000#32)
def dxq : FVec F (S₂ 512 256) .bf16 := truncf .bf16 (dxOf 0x43800000#32 R.gq (shapeCast _ R.xq (casts_refl _)) (R.yq v)) bitsLt_bf16_f32
def dxk : FVec F (S₂ 512 128) .bf16 := truncf .bf16 (dxOf 0x43000000#32 R.gk (shapeCast _ R.xk (casts_refl _)) R.yk) bitsLt_bf16_f32
def dgq : FVec F (S₂ 1 256) .f32 := dgOf 0x43800000#32 (shapeCast _ R.xq (casts_refl _)) (R.yq v)
def dgk : FVec F (S₂ 1 128) .f32 := dgOf 0x43000000#32 (shapeCast _ R.xk (casts_refl _)) R.yk
def columns : List (View.Piece (Elt F) (S₂ 512 640) .bf16) :=
  [⟨colRect 512 640 512 128 (by decide), truncf .bf16 (shapeCast _ R.tl (casts_refl _)) bitsLt_bf16_f32⟩,
    ⟨colRect 512 640 384 128 (by decide), turned R.kp R.cosines R.sines⟩, ⟨colRect 512 640 256 128 (by decide), R.dxk⟩, ⟨colRect 512 640 0 256 (by decide), R.dxq v⟩]
end Reads

variable (c : Dev nD) (i : grid0.Coords)
  (arg1 : Memref sig .tc .vmem S512x512 .bf16) (harg1 : arg1.IsWhole) (arg2 : Memref sig .tc .vmem S512x256 .f32) (harg2 : arg2.IsWhole)
  (arg3 : Memref sig .tc .vmem S512x1024 .bf16) (harg3 : arg3.IsWhole) (arg4 : Memref sig .tc .vmem S512x128 .f32) (harg4 : arg4.IsWhole)
  (arg5 : Memref sig .tc .vmem S512x128 .f32) (harg5 : arg5.IsWhole) (arg6 : Memref sig .tc .vmem S512x640 .f32) (harg6 : arg6.IsWhole)
  (arg7 : Memref sig .tc .vmem S1x256 .f32) (harg7 : arg7.IsWhole) (arg8 : Memref sig .tc .vmem S1x128 .f32) (harg8 : arg8.IsWhole)
  (arg9 : Memref sig .tc .vmem S768x256 .bf16) (harg9 : arg9.IsWhole) (arg10 : Memref sig .tc .vmem S1024x128 .bf16) (harg10 : arg10.IsWhole)
  (arg11 : Memref sig .tc .vmem S512x16 .f32) (harg11 : arg11.IsWhole) (arg12 : Memref sig .tc .vmem S512x16 .f32) (harg12 : arg12.IsWhole)
  (arg13 : Memref sig .tc .vmem S512x640 .bf16) (harg13 : arg13.IsWhole) (arg14 : Memref sig .tc .vmem S512x256 .bf16) (harg14 : arg14.IsWhole)
  (arg15 : Memref sig .tc .vmem S1x256 .f32) (harg15 : arg15.IsWhole) (arg16 : Memref sig .tc .vmem S1x128 .f32) (harg16 : arg16.IsWhole)
  (x0 : Vec F S512x512 .bf16) (x1 : Vec F S512x256 .f32) (x2 : Vec F S512x1024 .bf16) (x3 : Vec F S512x128 .f32) (x4 : Vec F S512x128 .f32) (x5 : Vec F S512x640 .f32) (x6 : Vec F S1x256 .f32) (x7 : Vec F S1x128 .f32) (x8 : Vec F S768x256 .bf16) (x9 : Vec F S1024x128 .bf16) (x10 : Vec F S512x16 .f32) (x11 : Vec F S512x16 .f32)

def reads : Reads F where
  qn := View.readAt (Elt F) arg1.view (rows 512 512 0 512 (by decide)).toLoadRect (harg1.unread x0)
  p0 := View.readAt (Elt F) arg2.view (colRect 512 256 0 128 (by decide)).toLoadRect (harg2.unread x1)
  p1 := View.readAt (Elt F) arg2.view (colRect 512 256 128 128 (by decide)).toLoadRect (harg2.unread x1)
  wn := View.readAt (Elt F) arg9.view (rows 768 256 0 512 (by decide)).toLoadRect (harg9.unread x8)
  wp := View.readAt (Elt F) arg9.view (rows 768 256 512 256 (by decide)).toLoadRect (harg9.unread x8)
  kv := View.readAt (Elt F) arg3.view (rows 512 1024 0 512 (by decide)).toLoadRect (harg3.unread x2)
  wk := View.readAt (Elt F) arg10.view (rows 1024 128 0 1024 (by decide)).toLoadRect (harg10.unread x9)
  kp := View.readAt (Elt F) arg4.view (rows 512 128 0 512 (by decide)).toLoadRect (harg4.unread x3)
  tl := View.readAt (Elt F) arg5.view (rows 512 128 0 512 (by decide)).toLoadRect (harg5.unread x4)
  xq := View.readAt (Elt F) arg6.view (colRect 512 640 0 256 (by decide)).toLoadRect (harg6.unread x5)
  xk := View.readAt (Elt F) arg6.view (colRect 512 640 256 128 (by decide)).toLoadRect (harg6.unread x5)
  gq := View.readAt (Elt F) arg7.view (rowAll 256).toLoadRect (harg7.unread x6)
  gk := View.readAt (Elt F) arg8.view (rowAll 128).toLoadRect (harg8.unread x7)
  cs := View.readAt (Elt F) arg11.view (rows 512 16 0 512 (by decide)).toLoadRect (harg11.unread x10)
  sn := View.readAt (Elt F) arg12.view (rows 512 16 0 512 (by decide)).toLoadRect (harg12.unread x11)

variable (R : Reads F) (hR : R = reads arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 x11)

section
variable (hc0 : cond0_0 i)
include hR

theorem A12 : out0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11
    = View.canon (R.columns arg14.view) := by
  subst hR
  refine (View.read_writes_junk_eq_canon _ _).trans (congrArg View.canon ?_)
  sl_kernel_rfl

theorem A13 : out0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11
    = View.canon (R.turns) := by
  subst hR
  refine (View.read_writes_junk_eq_canon _ _).trans (congrArg View.canon ?_)
  sl_kernel_rfl

theorem A14 : out0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11
    = View.canon (addedOnce (arg15.view.readCov cleared (rowAll 256).toLoadRect) (R.dgq arg14.view) cleared) := by
  subst hR
  refine (View.read_writes_junk_eq_canon _ _).trans (congrArg View.canon ?_)
  sl_kernel_rfl

theorem A15 : out0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11
    = View.canon (addedOnce (arg16.view.readCov cleared (rowAll 128).toLoadRect) R.dgk cleared) := by
  subst hR
  refine (View.read_writes_junk_eq_canon _ _).trans (congrArg View.canon ?_)
  sl_kernel_rfl
end

section
variable (hc0 : ¬ cond0_0 i) (xo14 : Vec F S1x256 .f32) (xo15 : Vec F S1x128 .f32)
include hR

theorem B12 : out0_B_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 xo14 xo15
    = View.canon (R.columns arg14.view) := by
  subst hR
  refine (View.read_writes_junk_eq_canon _ _).trans (congrArg View.canon ?_)
  sl_kernel_rfl

theorem B13 : out0_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 xo14 xo15
    = View.canon (R.turns) := by
  subst hR
  refine (View.read_writes_junk_eq_canon _ _).trans (congrArg View.canon ?_)
  sl_kernel_rfl

theorem B14 : out0_B_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 xo14 xo15
    = View.canon (addedOnce (View.readAt (Elt F) arg15.view (rowAll 256).toLoadRect (harg15.unread xo14)) (R.dgq arg14.view) []) := by
  subst hR
  refine (View.read_writes_junk_eq_canon _ _).trans (congrArg View.canon ?_)
  sl_kernel_rfl

theorem B15 : out0_B_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 xo14 xo15
    = View.canon (addedOnce (View.readAt (Elt F) arg16.view (rowAll 128).toLoadRect (harg16.unread xo15)) R.dgk []) := by
  subst hR
  refine (View.read_writes_junk_eq_canon _ _).trans (congrArg View.canon ?_)
  sl_kernel_rfl
end
end

/-! ## Over the grid -/

section
open Cert.PrepKernelIdeal Cert.PrepKernelIdeal.Gen Cert.PrepKernelIdeal.Value
variable (m : (ℓ : Loc nD τ sig) → Buf (Elt Ideal) ℓ) (c : Dev nD)

/-- The reads of grid point `t`. -/
def pointReads (t : Fin cfg0.N) : Reads Ideal :=
  reads (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t)
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)

/-- What the point before left in the rows of sums. -/
abbrev before14 (t : Fin cfg0.N) : Vec Ideal S1x256 .f32 := (outsAt0 m c (t.val - 1) (Nat.lt_of_le_of_lt (Nat.sub_le _ _) t.isLt)).2.2.1
abbrev before15 (t : Fin cfg0.N) : Vec Ideal S1x128 .f32 := (outsAt0 m c (t.val - 1) (Nat.lt_of_le_of_lt (Nat.sub_le _ _) t.isLt)).2.2.2

theorem leftA (t : Fin cfg0.N) (h0 : t.val % 16 = 0) : outsAt0 m c t.val t.isLt
    = (View.canon ((pointReads m c t).columns (ms0_13 t).view), View.canon (pointReads m c t).turns,
      View.canon (addedOnce ((ms0_14 t).view.readCov cleared (rowAll 256).toLoadRect) ((pointReads m c t).dgq (ms0_13 t).view) cleared),
      View.canon (addedOnce ((ms0_15 t).view.readCov cleared (rowAll 128).toLoadRect) (pointReads m c t).dgk cleared)) := by
  have e := (rfl : pointReads m c t = _)
  rw [outsAt0_A m c t h0, A12 (hR := e), A13 (hR := e), A14 (hR := e), A15 (hR := e)]

theorem leftB (t : Fin cfg0.N) (h0 : ¬ t.val % 16 = 0) : outsAt0 m c t.val t.isLt
    = (View.canon ((pointReads m c t).columns (ms0_13 t).view), View.canon (pointReads m c t).turns,
      View.canon (addedOnce (View.readAt (Elt Ideal) (ms0_14 t).view (rowAll 256).toLoadRect ((hs0_14 t).unread (before14 m c t))) ((pointReads m c t).dgq (ms0_13 t).view) []),
      View.canon (addedOnce (View.readAt (Elt Ideal) (ms0_15 t).view (rowAll 128).toLoadRect ((hs0_15 t).unread (before15 m c t))) (pointReads m c t).dgk [])) := by
  have e := (rfl : pointReads m c t = _)
  rw [outsAt0_B m c t h0, B12 (hR := e), B13 (hR := e), B14 (hR := e), B15 (hR := e)]

theorem left12 (t : Fin cfg0.N) : (outsAt0 m c t.val t.isLt).1 = View.canon ((pointReads m c t).columns (ms0_13 t).view) := by
  by_cases h0 : t.val % 16 = 0
  · rw [leftA m c t h0]
  · rw [leftB m c t h0]

theorem left13 (t : Fin cfg0.N) : (outsAt0 m c t.val t.isLt).2.1 = View.canon (pointReads m c t).turns := by
  by_cases h0 : t.val % 16 = 0
  · rw [leftA m c t h0]
  · rw [leftB m c t h0]

theorem left14A (t : Fin cfg0.N) (h0 : t.val % 16 = 0) : (outsAt0 m c t.val t.isLt).2.2.1
    = View.canon (addedOnce ((ms0_14 t).view.readCov cleared (rowAll 256).toLoadRect) ((pointReads m c t).dgq (ms0_13 t).view) cleared) := by
  rw [leftA m c t h0]

theorem left14B (t : Fin cfg0.N) (h0 : ¬ t.val % 16 = 0) : (outsAt0 m c t.val t.isLt).2.2.1
    = View.canon (addedOnce (View.readAt (Elt Ideal) (ms0_14 t).view (rowAll 256).toLoadRect ((hs0_14 t).unread (before14 m c t))) ((pointReads m c t).dgq (ms0_13 t).view) []) := by
  rw [leftB m c t h0]

theorem left15A (t : Fin cfg0.N) (h0 : t.val % 16 = 0) : (outsAt0 m c t.val t.isLt).2.2.2
    = View.canon (addedOnce ((ms0_15 t).view.readCov cleared (rowAll 128).toLoadRect) (pointReads m c t).dgk cleared) := by
  rw [leftA m c t h0]

theorem left15B (t : Fin cfg0.N) (h0 : ¬ t.val % 16 = 0) : (outsAt0 m c t.val t.isLt).2.2.2
    = View.canon (addedOnce (View.readAt (Elt Ideal) (ms0_15 t).view (rowAll 128).toLoadRect ((hs0_15 t).unread (before15 m c t))) (pointReads m c t).dgk []) := by
  rw [leftB m c t h0]
end
end Cert.Prep
end
-- ==== Proof.PrepTile.lean ====
module

public import proofs.«01_k».proof.Proof.PrepBody
public import Idealize.ShloMosaic.Lib.KernelVsHost

/-! The gradient through the latent attention's preparation: one grid point on reals. -/

@[expose] public section
set_option maxRecDepth 16384

noncomputable section

namespace Cert.Prep

open Idealize.ShloMosaic Idealize.ShloMosaic.TcCoe Idealize.SL.Sem Reals Attn Norm Cert.PrepKernelIdeal Cert.PrepKernelIdeal.Gen

theorem lane_at : ∀ (r : Fin 16) (c : Fin 128), laneBit (ix2 r c) = BitVec.ofBool (decide (c.val % 16 = r.val)) := by decide +kernel
theorem half_at : ∀ (r : Fin 16) (c : Fin 128), halfBit (ix2 r c) = BitVec.ofBool (decide (c.val < 64)) := by decide +kernel

theorem ones_is : Is (ones (F := Ideal)) fun r c => if c % 16 = r then 1 else 0 := fun r c => by
  show FloatOps.sitofp (F := Ideal) FTy.f32 (BitVec.setWidth 32 (laneBit (ix2 r c))) = _
  rw [lane_at, sitofp_bit]
  simp only [decide_eq_true_eq]

/-- The sign of a lane's partner in the rotation's transpose. -/
def sg (c : ℕ) : ℝ := if c < 64 then -1 else 1

theorem pick_bit {α : Type} (b : Bool) (x y : α) : Scalar.select (BitVec.ofBool b) x y = if b then x else y := by
  cases b <;> rfl

theorem one_eq : (Scalar.ofBits .f32 0x3F800000#32 : Ideal .f32) = ((1 : ℝ) : EReal) := by
  show Ideal.ofBits .f32 0x3F800000#32 = _
  simp [Ideal.ofBits, Ideal.ieee]
  rw [← EReal.coe_mul]
  norm_num
theorem minus_eq : (Scalar.ofBits .f32 0xBF800000#32 : Ideal .f32) = ((-1 : ℝ) : EReal) := by
  show Ideal.ofBits .f32 0xBF800000#32 = _
  simp [Ideal.ofBits, Ideal.ieee]
  rw [← EReal.coe_mul]
  norm_num

theorem signs_is : Is (signs (F := Ideal)) fun r c => if c % 16 = r then sg c else 0 := fun r c => by
  show Scalar.select (laneBit (ix2 r c)) (Scalar.select (halfBit (ix2 r c)) (Scalar.ofBits .f32 0xBF800000#32 : Ideal .f32) (Scalar.ofBits .f32 0x3F800000#32 : Ideal .f32))
    (Scalar.ofBits .f32 0x00000000#32 : Ideal .f32) = _
  rw [lane_at, half_at, pick_bit, pick_bit, zero_eq, one_eq, minus_eq]
  simp only [decide_eq_true_eq, sg]
  split_ifs <;> rfl

theorem pick (V : ℕ → ℝ) (o : ℕ → ℝ) (c : ℕ) : ∑ k : Fin 16, V k * (if c % 16 = k.val then o c else 0) = V (c % 16) * o c := by
  rw [Finset.sum_eq_single (⟨c % 16, Nat.mod_lt _ (by decide)⟩ : Fin 16) (fun k _ hk => by
    rw [if_neg fun h => hk (Fin.ext h.symm), mul_zero]) fun h => absurd (Finset.mem_univ _) h]
  rw [if_pos rfl]

theorem spread_is {v : FVec Ideal (S₂ 512 16) .f32} {V : ℕ → ℕ → ℝ} (hv : Is v V) {o : FVec Ideal (S₂ 16 128) .bf16} {O : ℕ → ℝ}
    (ho : Is o fun r c => if c % 16 = r then O c else 0) : Is (spread v o) fun r c => V r (c % 16) * O c := by
  have hp : Is (extf .f32 (truncf (F := Ideal) .bf16 v bitsLt_bf16_f32) bitsLt_bf16_f32) V := hv
  have hv' := hv.sub hp
  have hv'' := hv'.sub (show Is (extf .f32 (truncf (F := Ideal) .bf16 (subf v (extf .f32 (truncf .bf16 v bitsLt_bf16_f32) bitsLt_bf16_f32)) bitsLt_bf16_f32) bitsLt_bf16_f32) _ from hv')
  refine ((((hv''.trunc bitsLt_bf16_f32).matmulNN ho).add ((hv'.trunc bitsLt_bf16_f32).matmulNN ho)).add ((hv.trunc bitsLt_bf16_f32).matmulNN ho)).congr fun r h => ?_
  simp only [sub_self, zero_mul, Finset.sum_const_zero, zero_add]
  exact pick (V r) O h

theorem rotated_is {x : (S₂ 512 128).Idx → EReal} {X : ℕ → ℕ → ℝ} (hx : Is x X) : Is (dynamicRotate 1 64#32 none x rotates) fun r c => X r ((c + 64) % 128) := fun r c => by
  refine (dynamicRotate_apply (1 : Fin 2) 64#32 _ rotates _ (ix2 r (⟨(c.val + 64) % 128, Nat.mod_lt _ (by decide)⟩ : Fin 128)) fun b => ?_).trans (hx _ _)
  match b with
  | ⟨0, _⟩ => rfl
  | ⟨1, _⟩ =>
    show (c.val + 64) % 128 = (c.val + 128 - 64 % 128) % 128
    omega

/-- The rotation's transpose on groups of 128 lanes. -/
def turn (X C S : ℕ → ℕ → ℝ) (r c : ℕ) : ℝ := X r c * C r (c % 16) + X r (128 * (c / 128) + (c + 64) % 128) * ((0 - S r (c % 16)) * sg (c % 128))

theorem turned_is {x a b : FVec Ideal (S₂ 512 128) .f32} {X C S : ℕ → ℕ → ℝ} (l : ℕ) (hx : Is x fun r c => X r (128 * l + c))
    (ha : Is a fun r c => C r (c % 16)) (hb : Is b fun r c => (0 - S r (c % 16)) * sg c) : Is (turned x a b) fun r c => turn X C S r (128 * l + c) := by
  have h := (((hx.self (casts_refl _)).mul ha).add ((rotated_is (hx.self (casts_refl _))).mul hb)).trunc bitsLt_bf16_f32
  refine h.congr fun r c => ?_
  have hc := c.isLt
  unfold turn
  rw [show (128 * l + c.val) % 16 = c.val % 16 by omega, show (128 * l + c.val) / 128 = l by omega, show (128 * l + c.val) % 128 = c.val by omega,
    show (128 * l + c.val + 64) % 128 = (c.val + 64) % 128 by omega]

theorem counts256 : Counts 0x43800000#32 256 := by
  refine ⟨?_, by norm_num⟩
  simp [Ideal.ofBits, Ideal.ieee]
  rw [← EReal.coe_mul]
  norm_num
theorem counts128 : Counts 0x43000000#32 128 := by
  refine ⟨?_, by norm_num⟩
  simp [Ideal.ofBits, Ideal.ieee]
  rw [← EReal.coe_mul]
  norm_num

section
variable {sig : RefSig} {κ : Kind} {sp : Space}

/-- A read of some columns. -/
theorem cols_at {e : EltTy} {N W l w : ℕ} (v : Memref sig κ sp (S₂ N W) e) (hv : v.IsWhole) (x : (S₂ N W).Idx → Elt Ideal e) (h : l + w ≤ W) (i : Fin N) (c : Fin w) :
    (View.readAt (Elt Ideal) v.view (colRect N W l w h).toLoadRect (hv.unread x) : (S₂ N w).Idx → Elt Ideal e) (ix2 i c) = x (ix2 i ⟨l + c, by have := c.isLt; omega⟩) := by
  have hi := i.isLt
  have hc := c.isLt
  refine (Memref.IsWhole.readAt_unread hv _ _ _).trans
    ((congrArg x (idx₂ (A := N) (B := W) (r := 0) (l := l) i c (by omega) (by omega))).trans ?_)
  exact congrArg (fun a => x (ix2 a _)) (Fin.ext (Nat.zero_add _))

theorem cols_is {N W l w : ℕ} (v : Memref sig κ sp (S₂ N W) .f32) (hv : v.IsWhole) (x : (S₂ N W).Idx → EReal) {X : ℕ → ℕ → ℝ} (hx : Is x X)
    (h : l + w ≤ W) : Is (View.readAt (Elt Ideal) v.view (colRect N W l w h).toLoadRect (hv.unread x) : (S₂ N w).Idx → EReal) fun r c => X r (l + c) := fun i c =>
  (cols_at v hv x h i c).trans (hx _ _)

theorem added_once {w : ℕ} {old d : FVec Ideal (S₂ 1 w) .f32} {O D : ℕ → ℕ → ℝ} (ho : Is old O) (hd : Is d D) (base) :
    Is (View.canon (addedOnce old d base) : (S₂ 1 w).Idx → EReal) fun r c => O r c + D r c := row_canon _ _ ((ho.self _).add hd)

theorem upto_once (D : ℕ → ℕ → ℝ) (t r c : ℕ) : upto D (512 * t) r c + (∑ k : Fin 512, from' (512 * t) D k c) = upto D (512 * (t + 1)) r c := by
  unfold upto from'
  rw [Fin.sum_univ_eq_sum_range (fun k => D (512 * t + k) c), ← Finset.sum_range_add (fun r => D r c), show 512 * t + 512 = 512 * (t + 1) by ring]
end

/-! ## The stores of one grid point -/

section
variable {R : Reads Ideal} {qn qp kv kp xq xk wq wk gq gk C S : ℕ → ℕ → ℝ}

/-- A grid point reads these reals. -/
structure Read (R : Reads Ideal) (qn qp kv kp xq xk wq wk gq gk C S : ℕ → ℕ → ℝ) : Prop where
  qn : Is R.qn qn
  p0 : Is R.p0 fun r c => qp r (128 * 0 + c)
  p1 : Is R.p1 fun r c => qp r (128 * 1 + c)
  wn : Is R.wn wq
  wp : Is R.wp (from' 512 wq)
  kv : Is R.kv kv
  wk : Is R.wk wk
  kp : Is R.kp fun r c => kp r (128 * 0 + c)
  xq : Is R.xq xq
  xk : Is R.xk xk
  gq : Is R.gq gq
  gk : Is R.gk gk
  cs : Is R.cs C
  sn : Is R.sn S

/-- The gradient at the normed query latent from the products of its two sorts of lanes, -/
def yqOf (qn T wq : ℕ → ℕ → ℝ) (r c : ℕ) : ℝ := (∑ k : Fin 512, qn r k * wq k c) + ∑ k : Fin 256, T r k * from' 512 wq k c
/-- and at the normed key latent. -/
def ykOf (kv wk : ℕ → ℕ → ℝ) (r c : ℕ) : ℝ := ∑ k : Fin 1024, kv r k * wk k c

variable (h : Read R qn qp kv kp xq xk wq wk gq gk C S)
include h

theorem cosines_is : Is R.cosines fun r c => C r (c % 16) :=
  (spread_is (O := fun _ => 1) (h.cs.self (casts_refl _)) ones_is).congr fun r c => mul_one _

theorem sines_is : Is R.sines fun r c => (0 - S r (c % 16)) * sg c :=
  spread_is ((Is.const _ 0 zero_eq).sub (h.sn.self (casts_refl _))) signs_is

theorem turn0 : Is (turned R.p0 R.cosines R.sines) fun r c => turn qp C S r (128 * 0 + c) := turned_is 0 h.p0 (cosines_is h) (sines_is h)
theorem turn1 : Is (turned R.p1 R.cosines R.sines) fun r c => turn qp C S r (128 * 1 + c) := turned_is 1 h.p1 (cosines_is h) (sines_is h)
theorem turnk : Is (turned R.kp R.cosines R.sines) fun r c => turn kp C S r (128 * 0 + c) := turned_is 0 h.kp (cosines_is h) (sines_is h)

theorem turns_is : Is (View.canon R.turns : (S₂ 512 256).Idx → EReal) (turn qp C S) := fun r c => by
  unfold Reads.turns
  have hc := c.isLt
  by_cases hl : c.val < 128
  · refine (canon_miss _ _ r c (by omega)).trans ((canon_hit _ _ r c r ⟨c.val, hl⟩ (by simp) (by simp)).trans ((turn0 h _ _).trans ?_))
    exact congrArg (fun a => ((turn qp C S r a : ℝ) : EReal)) (by show 128 * 0 + c.val = c.val; omega)
  · refine (canon_hit _ _ r c r ⟨c.val - 128, by omega⟩ (by simp) (by show c.val = 128 + (c.val - 128); omega)).trans ((turn1 h _ _).trans ?_)
    exact congrArg (fun a => ((turn qp C S r a : ℝ) : EReal)) (by show 128 * 1 + (c.val - 128) = c.val; omega)

variable {κ : Kind} {sp : Space} (v : View sig κ sp (S₂ 512 256) .bf16)

theorem back_is : Is (v.readCov R.turns (colRect 512 256 0 256 (by decide)).toLoadRect : (S₂ 512 256).Idx → EReal) (turn qp C S) := fun r c => by
  refine (read_at v _ r c (by omega) (by omega)).trans (Eq.trans ?_ (turns_is h r c))
  exact congrArg (View.canon R.turns) (congrArg₂ ix2 (Fin.ext (Nat.zero_add _)) (Fin.ext (Nat.zero_add _)))

theorem yq_is : Is (R.yq v) (yqOf qn (turn qp C S) wq) :=
  ((h.qn.self (casts_refl _)).matmulNN (φ := .bf16) (ψ := .bf16) (h.wn.self (casts_refl _))).add
    (((back_is h v).self (casts_refl _)).matmulNN (φ := .bf16) (ψ := .bf16) (h.wp.self (casts_refl _)))
theorem yk_is : Is R.yk (ykOf kv wk) := (h.kv.self (casts_refl _)).matmulNN (φ := .bf16) (ψ := .bf16) (h.wk.self (casts_refl _))

theorem dxq_is : Is (R.dxq v) (dxr 256 xq gq (yqOf qn (turn qp C S) wq)) := (dxOf_is counts256 (h.xq.self (casts_refl _)) h.gq (yq_is h v)).trunc _
theorem dxk_is : Is R.dxk (dxr 128 xk gk (ykOf kv wk)) := (dxOf_is counts128 (h.xk.self (casts_refl _)) h.gk (yk_is h)).trunc _
theorem dgq_is : Is (R.dgq v) fun _ c => ∑ k : Fin 512, dgr 256 xq (yqOf qn (turn qp C S) wq) k c := dgOf_is counts256 (h.xq.self (casts_refl _)) (yq_is h v)
theorem dgk_is : Is R.dgk fun _ c => ∑ k : Fin 512, dgr 128 xk (ykOf kv wk) k c := dgOf_is counts128 (h.xk.self (casts_refl _)) (yk_is h)

/-- The row of projections, its tail given. -/
def joined (dq dk dp : ℕ → ℕ → ℝ) (r c : ℕ) (z : EReal) : EReal :=
  if c < 256 then ((dq r c : ℝ) : EReal) else if c < 384 then ((dk r (c - 256) : ℝ) : EReal) else if c < 512 then ((dp r (c - 384) : ℝ) : EReal) else z

omit h in
theorem columns_at (h : Read R qn qp kv kp xq xk wq wk gq gk C S) (r : Fin 512) (c : Fin 640) (z : EReal) (hz : ∀ hc : 512 ≤ c.val, R.tl (ix2 r ⟨c.val - 512, by omega⟩) = z) :
    (View.canon (R.columns v) : (S₂ 512 640).Idx → EReal) (ix2 r c)
      = joined (dxr 256 xq gq (yqOf qn (turn qp C S) wq)) (dxr 128 xk gk (ykOf kv wk)) (turn kp C S) r c z := by
  unfold Reads.columns joined
  have hc := c.isLt
  by_cases h3 : c.val < 512
  · refine (canon_miss _ _ r c (by omega)).trans ?_
    by_cases h2 : c.val < 384
    · refine (canon_miss _ _ r c (by omega)).trans ?_
      by_cases h1 : c.val < 256
      · refine (canon_miss _ _ r c (by omega)).trans ((canon_hit _ _ r c r ⟨c.val, h1⟩ (by simp) (by simp)).trans ((dxq_is h v _ _).trans ?_))
        rw [if_pos h1]
      · refine (canon_hit _ _ r c r ⟨c.val - 256, by omega⟩ (by simp) (by show c.val = 256 + (c.val - 256); omega)).trans ((dxk_is h _ _).trans ?_)
        rw [if_neg h1, if_pos h2]
    · refine (canon_hit _ _ r c r ⟨c.val - 384, by omega⟩ (by simp) (by show c.val = 384 + (c.val - 384); omega)).trans ((turnk h _ _).trans ?_)
      rw [if_neg (by omega), if_neg h2, if_pos h3]
      exact congrArg (fun a => ((turn kp C S r a : ℝ) : EReal)) (by show 128 * 0 + (c.val - 384) = c.val - 384; omega)
  · refine (canon_hit _ _ r c r ⟨c.val - 512, by omega⟩ (by simp) (by show c.val = 512 + (c.val - 512); omega)).trans ?_
    rw [if_neg (by omega), if_neg (by omega), if_neg h3, ← hz (by omega)]
    show shapeCast (S₂ 512 128) R.tl (casts_refl _) _ = _
    rw [shapeCast_self]
end

/-! ## The blocks of the grid -/

section
open Cert.PrepKernelIdeal Cert.PrepKernelIdeal.Gen Cert.PrepKernelIdeal.Value

theorem idx : ∀ t : Fin cfg0.N, (win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![0, 0] ∧ win0_7.index t = ![0, 0]) ∧ win0_8.index t = ![0, 0]
    ∧ win0_9.index t = ![0, 0] ∧ win0_10.index t = ![t.val, 0] ∧ win0_11.index t = ![t.val, 0] ∧ win0_12.index t = ![t.val, 0] ∧ win0_13.index t = ![t.val, 0]
    ∧ win0_14.index t = ![0, 0] ∧ win0_15.index t = ![0, 0] :=
  (by decide +kernel : ∀ t : Fin grid0.N, _)

theorem point_lt (t : Fin cfg0.N) : t.val < 16 := t.isLt

theorem blk0 (t : Fin cfg0.N) (W : S8192x512.Idx → EReal) (i : Fin 512) (j : Fin 512) :
    (((cfg0.win 0).blk t).view.read (Elt Ideal) W : S512x512.Idx → EReal) (ix2 i j) = W (ix2 ⟨512 * t.val + i, by have := point_lt t; omega⟩ j) := by
  have := point_lt t
  blk_simp [idx t]
  blk_ext [idx t]
theorem blk1 (t : Fin cfg0.N) (W : S8192x256.Idx → EReal) (i : Fin 512) (j : Fin 256) :
    (((cfg0.win 1).blk t).view.read (Elt Ideal) W : S512x256.Idx → EReal) (ix2 i j) = W (ix2 ⟨512 * t.val + i, by have := point_lt t; omega⟩ j) := by
  have := point_lt t
  blk_simp [idx t]
  blk_ext [idx t]
theorem blk2 (t : Fin cfg0.N) (W : S8192x1024.Idx → EReal) (i : Fin 512) (j : Fin 1024) :
    (((cfg0.win 2).blk t).view.read (Elt Ideal) W : S512x1024.Idx → EReal) (ix2 i j) = W (ix2 ⟨512 * t.val + i, by have := point_lt t; omega⟩ j) := by
  have := point_lt t
  blk_simp [idx t]
  blk_ext [idx t]
theorem blk3 (t : Fin cfg0.N) (W : S8192x128.Idx → EReal) (i : Fin 512) (j : Fin 128) :
    (((cfg0.win 3).blk t).view.read (Elt Ideal) W : S512x128.Idx → EReal) (ix2 i j) = W (ix2 ⟨512 * t.val + i, by have := point_lt t; omega⟩ j) := by
  have := point_lt t
  blk_simp [idx t]
  blk_ext [idx t]
theorem blk4 (t : Fin cfg0.N) (W : S8192x128.Idx → EReal) (i : Fin 512) (j : Fin 128) :
    (((cfg0.win 4).blk t).view.read (Elt Ideal) W : S512x128.Idx → EReal) (ix2 i j) = W (ix2 ⟨512 * t.val + i, by have := point_lt t; omega⟩ j) := by
  have := point_lt t
  blk_simp [idx t]
  blk_ext [idx t]
theorem blk5 (t : Fin cfg0.N) (W : S8192x640.Idx → EReal) (i : Fin 512) (j : Fin 640) :
    (((cfg0.win 5).blk t).view.read (Elt Ideal) W : S512x640.Idx → EReal) (ix2 i j) = W (ix2 ⟨512 * t.val + i, by have := point_lt t; omega⟩ j) := by
  have := point_lt t
  blk_simp [idx t]
  blk_ext [idx t]
theorem blk6 (t : Fin cfg0.N) (W : S1x256.Idx → EReal) (i : Fin 1) (j : Fin 256) :
    (((cfg0.win 6).blk t).view.read (Elt Ideal) W : S1x256.Idx → EReal) (ix2 i j) = W (ix2 i j) := by
  blk_simp [idx t]
  blk_ext [idx t]
theorem blk7 (t : Fin cfg0.N) (W : S1x128.Idx → EReal) (i : Fin 1) (j : Fin 128) :
    (((cfg0.win 7).blk t).view.read (Elt Ideal) W : S1x128.Idx → EReal) (ix2 i j) = W (ix2 i j) := by
  blk_simp [idx t]
  blk_ext [idx t]
theorem blk8 (t : Fin cfg0.N) (W : S768x256.Idx → EReal) (i : Fin 768) (j : Fin 256) :
    (((cfg0.win 8).blk t).view.read (Elt Ideal) W : S768x256.Idx → EReal) (ix2 i j) = W (ix2 i j) := by
  blk_simp [idx t]
  blk_ext [idx t]
theorem blk9 (t : Fin cfg0.N) (W : S1024x128.Idx → EReal) (i : Fin 1024) (j : Fin 128) :
    (((cfg0.win 9).blk t).view.read (Elt Ideal) W : S1024x128.Idx → EReal) (ix2 i j) = W (ix2 i j) := by
  blk_simp [idx t]
  blk_ext [idx t]
theorem blk10 (t : Fin cfg0.N) (W : S8192x16.Idx → EReal) (i : Fin 512) (j : Fin 16) :
    (((cfg0.win 10).blk t).view.read (Elt Ideal) W : S512x16.Idx → EReal) (ix2 i j) = W (ix2 ⟨512 * t.val + i, by have := point_lt t; omega⟩ j) := by
  have := point_lt t
  blk_simp [idx t]
  blk_ext [idx t]
theorem blk11 (t : Fin cfg0.N) (W : S8192x16.Idx → EReal) (i : Fin 512) (j : Fin 16) :
    (((cfg0.win 11).blk t).view.read (Elt Ideal) W : S512x16.Idx → EReal) (ix2 i j) = W (ix2 ⟨512 * t.val + i, by have := point_lt t; omega⟩ j) := by
  have := point_lt t
  blk_simp [idx t]
  blk_ext [idx t]
theorem blk12 {α : Type} (t : Fin cfg0.N) (W : S8192x640.Idx → α) (i : Fin 512) (j : Fin 640) : W ((win0_12.blk t).view.emb (ix2 i j)) = W (ix2 ⟨512 * t.val + i, by have := point_lt t; omega⟩ j) := by
  have := point_lt t
  refine congrArg W ?_
  blk_ext [idx t]
theorem blk13 {α : Type} (t : Fin cfg0.N) (W : S8192x256.Idx → α) (i : Fin 512) (j : Fin 256) : W ((win0_13.blk t).view.emb (ix2 i j)) = W (ix2 ⟨512 * t.val + i, by have := point_lt t; omega⟩ j) := by
  have := point_lt t
  refine congrArg W ?_
  blk_ext [idx t]
theorem blk14 {α : Type} (t : Fin cfg0.N) (W : S1x256.Idx → α) (i : Fin 1) (j : Fin 256) : W ((win0_14.blk t).view.emb (ix2 i j)) = W (ix2 i j) := by
  refine congrArg W ?_
  blk_ext [idx t]
theorem blk15 {α : Type} (t : Fin cfg0.N) (W : S1x128.Idx → α) (i : Fin 1) (j : Fin 128) : W ((win0_15.blk t).view.emb (ix2 i j)) = W (ix2 i j) := by
  refine congrArg W ?_
  blk_ext [idx t]
end
end Cert.Prep
end
-- ==== Proof.PrepHost.lean ====
module

public import proofs.«01_k».proof.Proof.PrepTile
public import proofs.«01_k».proof.Proof.Gen.PrepReferenceIdeal.Read

/-! The gradient through the latent attention's preparation: the arrays that reach the grid, on reals. -/

@[expose] public section
set_option maxRecDepth 16384

noncomputable section

namespace Cert.Prep

open Idealize.ShloMosaic Idealize.ShloMosaic.TcCoe Idealize.SL.Sem Reals Attn Norm Cert.PrepKernelIdeal Cert.PrepKernelIdeal.Gen
open Cert.PrepReferenceIdeal.Read

/-- The array of the reals `f`. -/
abbrev up {s : Shape} (f : s.Idx → ℝ) : FVec Ideal s .f32 := fun i => ((f i : ℝ) : EReal)

/-! ## Entries by numbers -/

def at4 {A B C D : ℕ} (f : (⟨4, ![A, B, C, D]⟩ : Shape).Idx → ℝ) (b h s e : ℕ) : ℝ :=
  if i : (b < A ∧ h < B) ∧ s < C ∧ e < D then f (ix4 (⟨b, i.1.1⟩ : Fin A) (⟨h, i.1.2⟩ : Fin B) (⟨s, i.2.1⟩ : Fin C) (⟨e, i.2.2⟩ : Fin D)) else 0

theorem at4_of {A B C D : ℕ} (f : (⟨4, ![A, B, C, D]⟩ : Shape).Idx → ℝ) (b : Fin A) (h : Fin B) (s : Fin C) (e : Fin D) {b' h' s' e' : ℕ}
    (hb : b.val = b' := by first | rfl | (dsimp only; omega)) (hh : h.val = h' := by first | rfl | (dsimp only; omega)) (hs : s.val = s' := by first | rfl | (dsimp only; omega)) (he : e.val = e' := by first | rfl | (dsimp only; omega)) : f (ix4 b h s e) = at4 f b' h' s' e' := by
  subst hb hh hs he
  unfold at4
  rw [dif_pos ⟨⟨b.isLt, h.isLt⟩, s.isLt, e.isLt⟩]

def at3 {A B C : ℕ} (f : (⟨3, ![A, B, C]⟩ : Shape).Idx → ℝ) (b s e : ℕ) : ℝ :=
  if i : b < A ∧ s < B ∧ e < C then f (ix3 (⟨b, i.1⟩ : Fin A) (⟨s, i.2.1⟩ : Fin B) (⟨e, i.2.2⟩ : Fin C)) else 0

theorem at3_of {A B C : ℕ} (f : (⟨3, ![A, B, C]⟩ : Shape).Idx → ℝ) (b : Fin A) (s : Fin B) (e : Fin C) {b' s' e' : ℕ}
    (hb : b.val = b' := by first | rfl | (dsimp only; omega)) (hs : s.val = s' := by first | rfl | (dsimp only; omega)) (he : e.val = e' := by first | rfl | (dsimp only; omega)) : f (ix3 b s e) = at3 f b' s' e' := by
  subst hb hs he
  unfold at3
  rw [dif_pos ⟨b.isLt, s.isLt, e.isLt⟩]

theorem at2_of {A B : ℕ} (f : (S₂ A B).Idx → ℝ) (r : Fin A) (c : Fin B) {r' c' : ℕ} (hr : r.val = r') (hc : c.val = c' := by first | rfl | (dsimp only; omega)) : f (ix2 r c) = of2 f r' c' := by
  subst hr hc
  exact (of2_at f r.isLt c.isLt).symm

/-- The gradient at a query's lanes without and with a position, -/
def qnX (f : S4x8x2048x96.Idx → ℝ) (r c : ℕ) : ℝ := at4 f (r / 2048) (c / 64) (r % 2048) (c % 64)
def qpX (f : S4x8x2048x96.Idx → ℝ) (r c : ℕ) : ℝ := at4 f (r / 2048) (4 * (c / 128) + c % 64 / 16) (r % 2048) (64 + 16 * (c % 128 / 64) + c % 16)
/-- at a pair of heads' keys and values, -/
def kvX (f g : S4x8x2048x64.Idx → ℝ) (r e : ℕ) : ℝ :=
  if e / 128 % 2 = 0 then at4 f (r / 2048) (2 * (e / 256) + e % 128 / 64) (r % 2048) (e % 64) else at4 g (r / 2048) (2 * (e / 256) + e % 128 / 64) (r % 2048) (e % 64)
/-- and at the shared key, each group of heads on its own. -/
def kpX (f : S4x4x2048x32.Idx → ℝ) (r c : ℕ) : ℝ := at4 f (r / 2048) (c / 16 % 4) (r % 2048) (16 * (c / 64) + c % 16)
/-- The column of the query's weights that lane `e` of the packing comes from, -/
def colQ (e : ℕ) : ℕ := if e < 512 then 96 * (e / 64) + e % 64 else 96 * (4 * ((e - 512) / 128) + (e - 512) % 64 / 16) + 64 + 16 * ((e - 512) % 128 / 64) + (e - 512) % 16
/-- and of the key's. -/
def colK (e : ℕ) : ℕ := 128 * (2 * (e / 256) + e / 64 % 2) + 64 * (e / 128 % 2) + e % 64
def cosX (a : S4x2048x16.Idx → ℝ) (r j : ℕ) : ℝ := Real.cos (at3 a (r / 2048) (r % 2048) j)
def sinX (a : S4x2048x16.Idx → ℝ) (r j : ℕ) : ℝ := Real.sin (at3 a (r / 2048) (r % 2048) j)

/-! ## The packings -/

section
variable {F : FTy → Type} [FloatOps F]

def qnArr (x : FVec F S4x8x2048x96 .f32) : FVec F S8192x512 .bf16 :=
  truncf .bf16 (shapeCast S8192x512 (shapeCast S4x2048x512 (transpose S4x2048x8x64 [0, 2, 1, 3]
    (extractStridedSlice S4x8x2048x64 ![0, 0, 0, 0] x slices_S4x8x2048x96_S4x8x2048x64_0_0_0_0) transposes_S4x8x2048x64_S4x2048x8x64_0_2_1_3)
    shapeCasts_S4x2048x8x64_S4x2048x512) shapeCasts_S4x2048x512_S8192x512) bitsLt_bf16_f32
def qpArr (x : FVec F S4x8x2048x96 .f32) : FVec F S8192x256 .f32 :=
  shapeCast S8192x256 (transpose S4x2048x2x2x4x16 [0, 3, 1, 4, 2, 5] (shapeCast S4x2x4x2048x2x16
    (extractStridedSlice S4x8x2048x32 ![0, 0, 0, 64] x slices_S4x8x2048x96_S4x8x2048x32_0_0_0_64) shapeCasts_S4x8x2048x32_S4x2x4x2048x2x16)
    transposes_S4x2x4x2048x2x16_S4x2048x2x2x4x16_0_3_1_4_2_5) shapeCasts_S4x2048x2x2x4x16_S8192x256
def pairArr (x : FVec F S4x8x2048x64 .f32) : FVec F S8192x4x1x128 .f32 :=
  shapeCast S8192x4x1x128 (shapeCast S4x2048x512 (transpose S4x2048x8x64 [0, 2, 1, 3] x transposes_S4x8x2048x64_S4x2048x8x64_0_2_1_3)
    shapeCasts_S4x2048x8x64_S4x2048x512) shapeCasts_S4x2048x512_S8192x4x1x128
def kvArr (x y : FVec F S4x8x2048x64 .f32) : FVec F S8192x1024 .bf16 :=
  truncf .bf16 (shapeCast S8192x1024 (concatenate S8192x4x2x128 2 [⟨S8192x4x1x128, pairArr x⟩, ⟨S8192x4x1x128, pairArr y⟩]
    concatenates_S8192x4x1x128_S8192x4x1x128_S8192x4x2x128_d2) shapeCasts_S8192x4x2x128_S8192x1024) bitsLt_bf16_f32
def kpArr (x : FVec F S4x4x2048x32 .f32) : FVec F S8192x128 .f32 :=
  shapeCast S8192x128 (transpose S4x2048x2x4x16 [0, 2, 3, 1, 4] (shapeCast S4x4x2048x2x16 x shapeCasts_S4x4x2048x32_S4x4x2048x2x16)
    transposes_S4x4x2048x2x16_S4x2048x2x4x16_0_2_3_1_4) shapeCasts_S4x2048x2x4x16_S8192x128
def latArr (x : FVec F S8192x256 .f32) (y : FVec F S8192x128 .f32) : FVec F S8192x640 .f32 :=
  concatenate S8192x640 1 [⟨S8192x256, x⟩, ⟨S8192x128, y⟩, ⟨S8192x256, broadcastInDim S8192x256 ![] bcast_S_S8192x256 (constant S_ .f32 0x00000000#32)⟩]
    concatenates_S8192x256_S8192x128_S8192x256_S8192x640_d1
def wHeads (w : FVec F S256x768 .f32) : FVec F S8x96x256 .bf16 :=
  shapeCast S8x96x256 (truncf .bf16 (transpose S768x256 [1, 0] w transposes_S256x768_S768x256_1_0) bitsLt_bf16_f32) shapeCasts_S768x256_S8x96x256
def wTail (w : FVec F S256x768 .f32) : FVec F S256x256 .bf16 :=
  shapeCast S256x256 (concatenate S2x2x64x256 1 [
    ⟨S2x1x64x256, shapeCast S2x1x64x256 (extractStridedSlice S8x16x256 ![0, 64, 0] (wHeads w) slices_S8x96x256_S8x16x256_0_64_0) shapeCasts_S8x16x256_S2x1x64x256⟩,
    ⟨S2x1x64x256, shapeCast S2x1x64x256 (extractStridedSlice S8x16x256 ![0, 80, 0] (wHeads w) slices_S8x96x256_S8x16x256_0_80_0) shapeCasts_S8x16x256_S2x1x64x256⟩]
    concatenates_S2x1x64x256_S2x1x64x256_S2x2x64x256_d1) shapeCasts_S2x2x64x256_S256x256
def wqArr (w : FVec F S256x768 .f32) : FVec F S768x256 .bf16 :=
  concatenate S768x256 0 [
    ⟨S512x256, shapeCast S512x256 (extractStridedSlice S8x64x256 ![0, 0, 0] (wHeads w) slices_S8x96x256_S8x64x256_0_0_0) shapeCasts_S8x64x256_S512x256⟩, ⟨S256x256, wTail w⟩]
    concatenates_S512x256_S256x256_S768x256_d0
def wkArr (w : FVec F S128x1024 .f32) : FVec F S1024x128 .bf16 :=
  shapeCast S1024x128 (transpose S4x2x2x64x128 [0, 2, 1, 3, 4] (shapeCast S4x2x2x64x128
    (truncf .bf16 (transpose S1024x128 [1, 0] w transposes_S128x1024_S1024x128_1_0) bitsLt_bf16_f32) shapeCasts_S1024x128_S4x2x2x64x128)
    transposes_S4x2x2x64x128_S4x2x2x64x128_0_2_1_3_4) shapeCasts_S4x2x2x64x128_S1024x128
def csArr (x : IVec S4x2048 32) : FVec F S8192x16 .f32 := shapeCast S8192x16 (val_main_v17 (F := F) x) shapeCasts_S4x1x2048x16_S8192x16
def snArr (x : IVec S4x2048 32) : FVec F S8192x16 .f32 := shapeCast S8192x16 (val_main_v19 (F := F) x) shapeCasts_S4x1x2048x16_S8192x16
end

section
variable (f0 : S4x8x2048x96.Idx → ℝ) (f1 f2 : S4x8x2048x64.Idx → ℝ) (f3 : S4x4x2048x32.Idx → ℝ) (f5 : S8192x256.Idx → ℝ) (f6 : S8192x128.Idx → ℝ)
  (w : S256x768.Idx → ℝ) (z : S128x1024.Idx → ℝ) (a : S4x2048x16.Idx → ℝ)

theorem qn_is : Is (qnArr (F := Ideal) (up f0)) (qnX f0) := fun r c => by
  pointwise [qnArr]
  exact congrArg Real.toEReal (at4_of f0 _ _ _ _)

theorem qp_is : Is (qpArr (F := Ideal) (up f0)) (qpX f0) := fun r c => by
  pointwise [qpArr]
  exact congrArg Real.toEReal (at4_of f0 _ _ _ _)

theorem kv_is : Is (kvArr (F := Ideal) (up f1) (up f2)) (kvX f1 f2) := fun r c => by
  pointwise [kvArr, pairArr]
  unfold kvX
  by_cases h : c.val / 128 % 2 = 0
  · rw [dif_pos (by omega), if_pos h]
    exact congrArg Real.toEReal (at4_of f1 _ _ _ _)
  · rw [dif_neg (by omega), if_neg h]
    exact congrArg Real.toEReal (at4_of f2 _ _ _ _)

theorem kp_is : Is (kpArr (F := Ideal) (up f3)) (kpX f3) := fun r c => by
  pointwise [kpArr]
  exact congrArg Real.toEReal (at4_of f3 _ _ _ _)

theorem lat_q (r : Fin 8192) (c : Fin 256) : latArr (F := Ideal) (up f5) (up f6) (ix2 r ⟨c, by omega⟩) = ((of2 f5 r c : ℝ) : EReal) := by
  pointwise [latArr]
  exact congrArg Real.toEReal (at2_of f5 _ _ rfl rfl)

theorem lat_k (r : Fin 8192) (c : Fin 128) : latArr (F := Ideal) (up f5) (up f6) (ix2 r ⟨256 + c, by omega⟩) = ((of2 f6 r c : ℝ) : EReal) := by
  pointwise [latArr]
  exact congrArg Real.toEReal (at2_of f6 _ _ rfl)

theorem wq_is : Is (wqArr (F := Ideal) (up w)) fun e j => of2 w j (colQ e) := fun e j => by
  pointwise [wqArr, wTail, wHeads]
  unfold colQ
  by_cases h : e.val < 512
  · rw [dif_pos h, if_pos h]
    exact congrArg Real.toEReal (at2_of w _ _ rfl)
  · rw [dif_neg h, if_neg h]
    by_cases h' : (e.val - 512) / 64 % 2 = 0
    · rw [dif_pos (by omega)]
      exact congrArg Real.toEReal (at2_of w _ _ rfl)
    · rw [dif_neg (by omega)]
      exact congrArg Real.toEReal (at2_of w _ _ rfl)

theorem wk_is : Is (wkArr (F := Ideal) (up z)) fun e j => of2 z j (colK e) := fun e j => by
  pointwise [wkArr]
  exact congrArg Real.toEReal (at2_of z _ _ rfl (by unfold colK; dsimp only; omega))

theorem cs_is {x : IVec S4x2048 32} (h : val_main_v15 (F := Ideal) x = up a) : Is (csArr (F := Ideal) x) (cosX a) := fun r c => by
  have e : csArr (F := Ideal) x = shapeCast S8192x16 (broadcastInDim S4x1x2048x16 ![0, 2, 3] bcast_S4x2048x16_S4x1x2048x16_0_2_3 (Host.cos (F := Ideal) (φ := .f32) (up a)))
      shapeCasts_S4x1x2048x16_S8192x16 := by
    rw [← h]
    rfl
  rw [e]
  pointwise
  exact congrArg (fun q => ((Real.cos q : ℝ) : EReal)) (at3_of a _ _ _)

theorem sn_is {x : IVec S4x2048 32} (h : val_main_v15 (F := Ideal) x = up a) : Is (snArr (F := Ideal) x) (sinX a) := fun r c => by
  have e : snArr (F := Ideal) x = shapeCast S8192x16 (broadcastInDim S4x1x2048x16 ![0, 2, 3] bcast_S4x2048x16_S4x1x2048x16_0_2_3 (Host.sin (F := Ideal) (φ := .f32) (up a)))
      shapeCasts_S4x1x2048x16_S8192x16 := by
    rw [← h]
    rfl
  rw [e]
  pointwise
  exact congrArg (fun q => ((Real.sin q : ℝ) : EReal)) (at3_of a _ _ _)

/-- The angles are reals. -/
theorem angles (x : IVec S4x2048 32) : ∃ a, val_main_v15 (F := Ideal) x = up a := by
  have two : (Ideal.ofBits .f32 0x40000000#32 : EReal) = ((2 : ℝ) : EReal) := by
    simp [Ideal.ofBits, Ideal.ieee]
    rw [← EReal.coe_mul]
    norm_num
  have h8 : (Ideal.ofBits .f32 0x42000000#32 : EReal) = ((32 : ℝ) : EReal) := by
    simp [Ideal.ofBits, Ideal.ieee]
    rw [← EReal.coe_mul]
    norm_num
  have h9 : (Ideal.ofBits .f32 0x461C4000#32 : EReal) = ((10000 : ℝ) : EReal) := by
    simp [Ideal.ofBits, Ideal.ieee]
    rw [← EReal.coe_mul]
    norm_num
  have h4 : ∀ i, ∃ q : ℝ, val_main_v4 (F := Ideal) i = q := fun i => by
    refine ⟨0 + 2 * ((iotaInDim S16 32 0 i).toInt : ℝ), ?_⟩
    show (Ideal.ofBits .f32 0x00000000#32 : EReal) + (Ideal.ofBits .f32 0x40000000#32 : EReal) * (((iotaInDim S16 32 0 i).toInt : ℝ) : EReal) = _
    rw [show (Ideal.ofBits .f32 0x00000000#32 : EReal) = ((0 : ℝ) : EReal) from zero_eq, two, ← EReal.coe_mul, ← EReal.coe_add]
  have h7 : ∀ i, ∃ q : ℝ, val_main_v7 (F := Ideal) i = q := fun i => by
    obtain ⟨q, hq⟩ := h4 i
    refine ⟨-q / 32, ?_⟩
    show Ideal.div (-(val_main_v4 (F := Ideal) i)) (Ideal.ofBits .f32 0x42000000#32) = _
    rw [hq, h8, ← EReal.coe_neg, Soft.div_coe _ _ (by norm_num)]
  have hp : ∀ i, ∃ q : ℝ, val_main_v9 (F := Ideal) i = q := fun i => by
    obtain ⟨q, hq⟩ := h7 i
    refine ⟨Real.rpow 10000 q, ?_⟩
    show Ideal.pow (Ideal.ofBits .f32 0x461C4000#32) (val_main_v7 (F := Ideal) i) = _
    rw [hq, h9]
    rfl
  choose g hg using hp
  refine ⟨fun i => ((x (idx_main_v11 (idx_main_v13 i))).toInt : ℝ) * g (idx_main_v12 (idx_main_v14 i)), funext fun i => ?_⟩
  rw [val_main_v15_apply, val_main_v13_apply, val_main_v11_apply, val_main_v14_apply, val_main_v12_apply, hg]
  exact (EReal.coe_mul _ _).symm
end
end Cert.Prep
end
-- ==== Proof.PrepRun.lean ====
module

public import proofs.«01_k».proof.Proof.PrepHost
public import Idealize.ShloMosaic.Lib.StableHlo.RunRead

/-! The gradient through the latent attention's preparation: the whole grid on reals. -/

@[expose] public section
set_option maxRecDepth 16384

noncomputable section

namespace Cert.Prep

open Idealize.ShloMosaic Idealize.ShloMosaic.TcCoe Idealize.SL.Sem Reals Attn Norm
open Cert.PrepKernelIdeal Cert.PrepKernelIdeal.Gen Cert.PrepKernelIdeal.Value
open Cert.PrepReferenceIdeal.Read (val_main_v178 val_main_v15)

/-- The tail's entry behind the projections. -/
def tailOf (tl : S8192x128.Idx → EReal) (r : Fin 8192) (c : Fin 640) : EReal := if h : 512 ≤ c.val then tl (ix2 r ⟨c.val - 512, by omega⟩) else 0
theorem tailOf_at (tl : S8192x128.Idx → EReal) (r : Fin 8192) (c : Fin 640) (h : 512 ≤ c.val) : tailOf tl r c = tl (ix2 r ⟨c.val - 512, by omega⟩) := dif_pos h

/-- The whole row of projections, -/
def outAll (x5 : S8192x256.Idx → ℝ) (x6 : S8192x128.Idx → ℝ) (gq : S1x256.Idx → ℝ) (gk : S1x128.Idx → ℝ) (Yq Yk Tk : ℕ → ℕ → ℝ) (tl : S8192x128.Idx → EReal) (i : S8192x640.Idx) : EReal :=
  joined (dxr 256 (of2 x5) (of2 gq) Yq) (dxr 128 (of2 x6) (of2 gk) Yk) Tk (i 0).val (i 1).val
    (tailOf tl (i 0) (i 1))
/-- the gradient at the query's lanes with a position, -/
def outTurn (T : ℕ → ℕ → ℝ) (i : S8192x256.Idx) : EReal := ((T (i 0).val (i 1).val : ℝ) : EReal)
/-- and the gradients at both scales. -/
def outQ (x : S8192x256.Idx → ℝ) (A : ℕ → ℕ → ℝ) (i : S1x256.Idx) : EReal := ((∑ k : Fin 8192, dgr 256 (of2 x) A k (i 1).val : ℝ) : EReal)
def outK (x : S8192x128.Idx → ℝ) (A : ℕ → ℕ → ℝ) (i : S1x128.Idx) : EReal := ((∑ k : Fin 8192, dgr 128 (of2 x) A k (i 1).val : ℝ) : EReal)

section
variable (m : (ℓ : Loc nD τ sig) → Buf (Elt Ideal) ℓ) (c : Dev nD)

abbrev a0 : FVec Ideal S4x8x2048x96 .f32 := m ((c : Thread nD τ).loc main_arg0)
abbrev a1 : FVec Ideal S4x8x2048x64 .f32 := m ((c : Thread nD τ).loc main_arg1)
abbrev a2 : FVec Ideal S4x8x2048x64 .f32 := m ((c : Thread nD τ).loc main_arg2)
abbrev a3 : FVec Ideal S4x4x2048x32 .f32 := m ((c : Thread nD τ).loc main_arg3)
abbrev a4 : FVec Ideal S4x2048x8 .f32 := m ((c : Thread nD τ).loc main_arg4)
abbrev a5 : FVec Ideal S8192x256 .f32 := m ((c : Thread nD τ).loc main_arg5)
abbrev a6 : FVec Ideal S8192x128 .f32 := m ((c : Thread nD τ).loc main_arg6)
abbrev a7 : IVec S4x2048 32 := m ((c : Thread nD τ).loc main_arg7)
abbrev a8 : FVec Ideal S1x256 .f32 := m ((c : Thread nD τ).loc main_arg8)
abbrev a9 : FVec Ideal S1x128 .f32 := m ((c : Thread nD τ).loc main_arg9)
abbrev a10 : FVec Ideal S256x768 .f32 := m ((c : Thread nD τ).loc main_arg10)
abbrev a11 : FVec Ideal S128x1024 .f32 := m ((c : Thread nD τ).loc main_arg11)

theorem host4 : V m c main_v4 = qnArr (a0 m c) := by
  unfold V
  after_reads_simp
  sl_kernel_rfl
theorem host8 : V m c main_v8 = qpArr (a0 m c) := by
  unfold V
  after_reads_simp
  sl_kernel_rfl
theorem host17 : V m c main_v17 = kvArr (a1 m c) (a2 m c) := by
  unfold V
  after_reads_simp
  sl_kernel_rfl
theorem host20 : V m c main_v20 = kpArr (a3 m c) := by
  unfold V
  after_reads_simp
  sl_kernel_rfl
theorem host22 : V m c main_v22 = val_main_v178 (F := Ideal) (a4 m c) := by
  unfold V
  after_reads_simp
  sl_kernel_rfl
theorem host24 : V m c main_v24 = latArr (a5 m c) (a6 m c) := by
  unfold V
  after_reads_simp
  sl_kernel_rfl
theorem host36 : V m c main_v36 = wqArr (a10 m c) := by
  unfold V
  after_reads_simp
  sl_kernel_rfl
theorem host41 : V m c main_v41 = wkArr (a11 m c) := by
  unfold V
  after_reads_simp
  sl_kernel_rfl
theorem host62 : V m c main_v62 = csArr (F := Ideal) (a7 m c) := by
  unfold V
  after_reads_simp
  sl_kernel_rfl
theorem host63 : V m c main_v63 = snArr (F := Ideal) (a7 m c) := by
  unfold V
  after_reads_simp
  sl_kernel_rfl

section
variable (f0 : S4x8x2048x96.Idx → ℝ) (f1 f2 : S4x8x2048x64.Idx → ℝ) (f3 : S4x4x2048x32.Idx → ℝ) (f5 : S8192x256.Idx → ℝ) (f6 : S8192x128.Idx → ℝ) (gq : S1x256.Idx → ℝ) (gk : S1x128.Idx → ℝ)
  (w : S256x768.Idx → ℝ) (z : S128x1024.Idx → ℝ) (a : S4x2048x16.Idx → ℝ)

/-- The reals of the call: the turned gradients and those at the normed latents. -/
abbrev TQ : ℕ → ℕ → ℝ := turn (qpX f0) (cosX a) (sinX a)
abbrev TK : ℕ → ℕ → ℝ := turn (kpX f3) (cosX a) (sinX a)
abbrev WQ : ℕ → ℕ → ℝ := fun e j => of2 w j (colQ e)
abbrev WK : ℕ → ℕ → ℝ := fun e j => of2 z j (colK e)
abbrev YQ : ℕ → ℕ → ℝ := yqOf (qnX f0) (TQ f0 a) (WQ w)
abbrev YK : ℕ → ℕ → ℝ := ykOf (kvX f1 f2) (WK z)

/-- The arguments are these reals. -/
structure Given : Prop where
  h0 : a0 m c = up f0
  h1 : a1 m c = up f1
  h2 : a2 m c = up f2
  h3 : a3 m c = up f3
  h5 : a5 m c = up f5
  h6 : a6 m c = up f6
  h7 : val_main_v15 (F := Ideal) (a7 m c) = up a
  h8 : a8 m c = up gq
  h9 : a9 m c = up gk
  h10 : a10 m c = up w
  h11 : a11 m c = up z

variable (G : Given m c f0 f1 f2 f3 f5 f6 gq gk w z a)
include G

set_option maxHeartbeats 2000000 in
theorem read_is (t : Fin cfg0.N) : Read (pointReads m c t) (from' (512 * t) (qnX f0)) (from' (512 * t) (qpX f0)) (from' (512 * t) (kvX f1 f2)) (from' (512 * t) (kpX f3))
    (from' (512 * t) (of2 f5)) (from' (512 * t) (of2 f6)) (WQ w) (WK z) (of2 gq) (of2 gk) (from' (512 * t) (cosX a)) (from' (512 * t) (sinX a)) := by
  have b0 : Is (iblk m c 0 t : S512x512.Idx → EReal) (from' (512 * t) (qnX f0)) := fun r e =>
    (blk0 t _ r e).trans ((congrFun ((host4 m c).trans (congrArg qnArr G.h0)) _).trans (qn_is f0 _ e))
  have b1 : Is (iblk m c 1 t : S512x256.Idx → EReal) (from' (512 * t) (qpX f0)) := fun r e =>
    (blk1 t _ r e).trans ((congrFun ((host8 m c).trans (congrArg qpArr G.h0)) _).trans (qp_is f0 _ e))
  have b2 : Is (iblk m c 2 t : S512x1024.Idx → EReal) (from' (512 * t) (kvX f1 f2)) := fun r e =>
    (blk2 t _ r e).trans ((congrFun ((host17 m c).trans (congrArg₂ kvArr G.h1 G.h2)) _).trans (kv_is f1 f2 _ e))
  have b3 : Is (iblk m c 3 t : S512x128.Idx → EReal) (from' (512 * t) (kpX f3)) := fun r e =>
    (blk3 t _ r e).trans ((congrFun ((host20 m c).trans (congrArg kpArr G.h3)) _).trans (kp_is f3 _ e))
  have b5 : ∀ (r : Fin 512) (e : Fin 640), (iblk m c 5 t : S512x640.Idx → EReal) (ix2 r e) = latArr (up f5) (up f6) (ix2 ⟨512 * t.val + r, by have := point_lt t; omega⟩ e) := fun r e =>
    (blk5 t _ r e).trans (congrFun ((host24 m c).trans (congrArg₂ latArr G.h5 G.h6)) _)
  have b6 : Is (iblk m c 6 t : S1x256.Idx → EReal) (of2 gq) := fun r e =>
    (blk6 t _ r e).trans ((congrFun ((V_main_arg8 m c).trans G.h8) _).trans (of2_is gq r e))
  have b7 : Is (iblk m c 7 t : S1x128.Idx → EReal) (of2 gk) := fun r e =>
    (blk7 t _ r e).trans ((congrFun ((V_main_arg9 m c).trans G.h9) _).trans (of2_is gk r e))
  have b8 : Is (iblk m c 8 t : S768x256.Idx → EReal) (WQ w) := fun r e =>
    (blk8 t _ r e).trans ((congrFun ((host36 m c).trans (congrArg wqArr G.h10)) _).trans (wq_is w r e))
  have b9 : Is (iblk m c 9 t : S1024x128.Idx → EReal) (WK z) := fun r e =>
    (blk9 t _ r e).trans ((congrFun ((host41 m c).trans (congrArg wkArr G.h11)) _).trans (wk_is z r e))
  have b10 : Is (iblk m c 10 t : S512x16.Idx → EReal) (from' (512 * t) (cosX a)) := fun r e =>
    (blk10 t _ r e).trans ((congrFun (host62 m c) _).trans (cs_is a G.h7 _ e))
  have b11 : Is (iblk m c 11 t : S512x16.Idx → EReal) (from' (512 * t) (sinX a)) := fun r e =>
    (blk11 t _ r e).trans ((congrFun (host63 m c) _).trans (sn_is a G.h7 _ e))
  constructor
  · exact unread_all' (ms0_0 t) (hs0_0 t) _ b0 (by decide)
  · exact (cols_is (ms0_1 t) (hs0_1 t) _ b1 (l := 0) (w := 128) (by decide)).congr fun r e => congrArg (from' (512 * t) (qpX f0) r) (by omega)
  · exact (cols_is (ms0_1 t) (hs0_1 t) _ b1 (l := 128) (w := 128) (by decide)).congr fun r e => congrArg (from' (512 * t) (qpX f0) r) (by omega)
  · exact (unread_is' (ms0_8 t) (hs0_8 t) _ b8 (r := 0) (n := 512) (by decide)).congr fun r e => congrArg (WQ w · e) (Nat.zero_add _)
  · exact unread_is' (ms0_8 t) (hs0_8 t) _ b8 (r := 512) (n := 256) (by decide)
  · exact unread_all' (ms0_2 t) (hs0_2 t) _ b2 (by decide)
  · exact unread_all' (ms0_9 t) (hs0_9 t) _ b9 (by decide)
  · exact (unread_all (ms0_3 t) (hs0_3 t) _ b3 (by decide)).congr fun r e => congrArg (from' (512 * t) (kpX f3) r) (by omega)
  · exact fun r e => (cols_at (ms0_5 t) (hs0_5 t) (iblk m c 5 t) (l := 0) (w := 256) (by decide) r e).trans ((b5 r _).trans
      (Eq.trans (congrArg (latArr (up f5) (up f6)) (congrArg (ix2 _) (Fin.ext (Nat.zero_add _)))) (lat_q f5 f6 ⟨512 * t.val + r, by have := point_lt t; omega⟩ e)))
  · exact fun r e => (cols_at (ms0_5 t) (hs0_5 t) (iblk m c 5 t) (l := 256) (w := 128) (by decide) r e).trans ((b5 r _).trans
      (lat_k f5 f6 ⟨512 * t.val + r, by have := point_lt t; omega⟩ e))
  · exact unread_all (ms0_6 t) (hs0_6 t) _ b6 (by decide)
  · exact unread_all (ms0_7 t) (hs0_7 t) _ b7 (by decide)
  · exact unread_all (ms0_10 t) (hs0_10 t) _ b10 (by decide)
  · exact unread_all (ms0_11 t) (hs0_11 t) _ b11 (by decide)

theorem tail_at (t : Fin cfg0.N) (r : Fin 512) (e : Fin 128) :
    (pointReads m c t).tl (ix2 r e) = val_main_v178 (F := Ideal) (a4 m c) (ix2 ⟨512 * t.val + r, by have := point_lt t; omega⟩ e) :=
  (cols_at (ms0_4 t) (hs0_4 t) (iblk m c 4 t) (l := 0) (w := 128) (by decide) r e).trans
    ((congrArg (iblk m c 4 t : S512x128.Idx → EReal) (congrArg (ix2 r) (Fin.ext (Nat.zero_add _)))).trans ((blk4 t _ r e).trans (congrFun (host22 m c) _)))

theorem sums14 : ∀ (n : ℕ) (t : Fin cfg0.N), t.val = n → Is ((outsAt0 m c t.val t.isLt).2.2.1 : S1x256.Idx → EReal) (upto (dgr 256 (of2 f5) (YQ f0 w a)) (512 * (t.val + 1))) := by
  intro n
  induction n with
  | zero =>
    intro t ht
    rw [left14A m c t (by omega)]
    refine (added_once (row_read _ _ cleared_is) (dgq_is (read_is m c f0 f1 f2 f3 f5 f6 gq gk w z a G t) (ms0_13 t).view) _).congr fun a' b => Eq.trans ?_ (upto_once (dgr 256 (of2 f5) (YQ f0 w a)) t.val a' b)
    rw [ht]
    rfl
  | succ n ih =>
    intro t ht
    have hlt := point_lt t
    have hp : t.val - 1 + 1 = t.val := by omega
    have o := unread_all (ms0_14 t) (hs0_14 t) (before14 m c t) (ih ⟨t.val - 1, Nat.lt_of_le_of_lt (Nat.sub_le _ _) t.isLt⟩ (by show t.val - 1 = n; omega)) (by decide)
    rw [left14B m c t (by omega)]
    refine (added_once o (dgq_is (read_is m c f0 f1 f2 f3 f5 f6 gq gk w z a G t) (ms0_13 t).view) _).congr fun a' b => Eq.trans ?_ (upto_once (dgr 256 (of2 f5) (YQ f0 w a)) t.val a' b)
    show upto (dgr 256 (of2 f5) (YQ f0 w a)) (512 * (t.val - 1 + 1)) a' b + _ = _
    rw [hp]
    rfl

theorem sums15 : ∀ (n : ℕ) (t : Fin cfg0.N), t.val = n → Is ((outsAt0 m c t.val t.isLt).2.2.2 : S1x128.Idx → EReal) (upto (dgr 128 (of2 f6) (YK f1 f2 z)) (512 * (t.val + 1))) := by
  intro n
  induction n with
  | zero =>
    intro t ht
    rw [left15A m c t (by omega)]
    refine (added_once (row_read _ _ cleared_is) (dgk_is (read_is m c f0 f1 f2 f3 f5 f6 gq gk w z a G t)) _).congr fun a' b => Eq.trans ?_ (upto_once (dgr 128 (of2 f6) (YK f1 f2 z)) t.val a' b)
    rw [ht]
    rfl
  | succ n ih =>
    intro t ht
    have hlt := point_lt t
    have hp : t.val - 1 + 1 = t.val := by omega
    have o := unread_all (ms0_15 t) (hs0_15 t) (before15 m c t) (ih ⟨t.val - 1, Nat.lt_of_le_of_lt (Nat.sub_le _ _) t.isLt⟩ (by show t.val - 1 = n; omega)) (by decide)
    rw [left15B m c t (by omega)]
    refine (added_once o (dgk_is (read_is m c f0 f1 f2 f3 f5 f6 gq gk w z a G t)) _).congr fun a' b => Eq.trans ?_ (upto_once (dgr 128 (of2 f6) (YK f1 f2 z)) t.val a' b)
    show upto (dgr 128 (of2 f6) (YK f1 f2 z)) (512 * (t.val - 1 + 1)) a' b + _ = _
    rw [hp]
    rfl

theorem final12 : (dats m 0 c).arrAt 12 cfg0.N = outAll f5 f6 gq gk (YQ f0 w a) (YK f1 f2 z) (TK f3 a) (val_main_v178 (F := Ideal) (a4 m c)) := by
  refine (dats m 0 c).arrAt_eq_of_covers 12 _ (by decide +kernel) fun t hf y => ?_
  refine (congrFun ((after0_12 m c t).trans (left12 m c t)) y).trans ?_
  idx_vars y
  refine Eq.trans ?_ (blk12 t (outAll f5 f6 gq gk (YQ f0 w a) (YK f1 f2 z) (TK f3 a) (val_main_v178 (F := Ideal) (a4 m c))) y0 y1).symm
  exact columns_at (ms0_13 t).view (read_is m c f0 f1 f2 f3 f5 f6 gq gk w z a G t) y0 y1 _ fun hc =>
    (tail_at m c f0 f1 f2 f3 f5 f6 gq gk w z a G t y0 _).trans (tailOf_at _ _ y1 hc).symm

theorem final13 : (dats m 0 c).arrAt 13 cfg0.N = outTurn (TQ f0 a) := by
  refine (dats m 0 c).arrAt_eq_of_covers 13 _ (by decide +kernel) fun t hf y => ?_
  refine (congrFun ((after0_13 m c t).trans (left13 m c t)) y).trans ?_
  idx_vars y
  refine Eq.trans ?_ (blk13 t (outTurn (TQ f0 a)) y0 y1).symm
  exact turns_is (read_is m c f0 f1 f2 f3 f5 f6 gq gk w z a G t) y0 y1

theorem final14 : (dats m 0 c).arrAt 14 cfg0.N = outQ f5 (YQ f0 w a) := by
  refine (dats m 0 c).arrAt_eq_of_covers 14 _ (by decide +kernel) fun t hf y => ?_
  refine (congrFun (after0_14 m c t) y).trans ?_
  have ht : 512 * (t.val + 1) = 8192 := by
    have := (flush0_14 t).mp hf
    have := point_lt t
    omega
  idx_vars y
  refine Eq.trans ?_ (blk14 t (outQ f5 (YQ f0 w a)) y0 y1).symm
  refine (sums14 m c f0 f1 f2 f3 f5 f6 gq gk w z a G t.val t rfl y0 y1).trans ?_
  rw [ht, upto_all]
  rfl

theorem final15 : (dats m 0 c).arrAt 15 cfg0.N = outK f6 (YK f1 f2 z) := by
  refine (dats m 0 c).arrAt_eq_of_covers 15 _ (by decide +kernel) fun t hf y => ?_
  refine (congrFun (after0_15 m c t) y).trans ?_
  have ht : 512 * (t.val + 1) = 8192 := by
    have := (flush0_15 t).mp hf
    have := point_lt t
    omega
  idx_vars y
  refine Eq.trans ?_ (blk15 t (outK f6 (YK f1 f2 z)) y0 y1).symm
  refine (sums15 m c f0 f1 f2 f3 f5 f6 gq gk w z a G t.val t rfl y0 y1).trans ?_
  rw [ht, upto_all]
  rfl
end
end
end Cert.Prep
end
-- ==== Proof.Prep.lean ====
module

public import proofs.«01_k».proof.Proof.PrepRun
public import proofs.«01_k».proof.Proof.Gen.PrepReferenceIdeal.Run
public import proofs.«01_k».proof.Proof.Gen.Pre_prep_finite
public import proofs.«01_k».proof.Defs

/-! The gradient through the latent attention's preparation: the reference on reals, and the equality. -/

@[expose] public section
set_option maxRecDepth 16384

noncomputable section

namespace Cert.Prep

open Idealize.ShloMosaic Idealize.ShloMosaic.TcCoe Idealize.SL.Sem Reals Attn Norm

/-! ## The gradient at the norms -/

section
variable {w : ℕ} (H : Hosted 8192 w) {nw : BitVec 32} (hn : Counts nw w) (f : (S₂ 8192 w).Idx → ℝ) (g : (S₂ 1 w).Idx → ℝ)
include hn

theorem rowsGradient {gv : FVec Ideal (Flat w) .f32} (hg : Is₁ gv fun c => of2 g 0 c) {y : FVec Ideal (S₂ 8192 w) .f32} {A : ℕ → ℕ → ℝ} (hy : Is y A) :
    Is (hDx H nw gv (up f) y (hDirect H nw gv (up f) y)) (dxr w (of2 f) (of2 g) A) :=
  (hDx_is H hn (of2_is f) hg hy (hDirect_is H hn (of2_is f) hg hy)).congr fun r c => by
    rw [← dxr_eq]
    ring
end

section
open Cert.PrepReferenceIdeal Cert.PrepReferenceIdeal.Gen Cert.PrepReferenceIdeal.Read

theorem hostedQ : Hosted 8192 256 where
  sums := reducesTo_S8192x256_S8192_d1
  sums1 := reducesTo_S8192x1_S8192_d1
  cols := reducesTo_S8192x256_S256_d0
  cols1 := reducesTo_S1x256_S256_d0
  one := h_S_
  col := bcast_S8192_S8192x1_0
  wide := bcast_S8192_S8192x256_0
  spread := bcast_S8192x1_S8192x256_0_1
  scalar := bcast_S_S8192x1
  row := bcast_S256_S1x256_1
  down := bcast_S1x256_S8192x256_0_1

theorem hostedK : Hosted 8192 128 where
  sums := reducesTo_S8192x128_S8192_d1
  sums1 := reducesTo_S8192x1_S8192_d1
  cols := reducesTo_S8192x128_S128_d0
  cols1 := reducesTo_S1x128_S128_d0
  one := h_S_
  col := bcast_S8192_S8192x1_0
  wide := bcast_S8192_S8192x128_0
  spread := bcast_S8192x1_S8192x128_0_1
  scalar := bcast_S_S8192x1
  row := bcast_S128_S1x128_1
  down := bcast_S1x128_S8192x128_0_1

/-! ## The stages -/

section
variable {F : FTy → Type} [FloatOps F]

/-- The rotation's transpose at the query's heads, -/
def rotQ (x : FVec F S4x8x2048x96 .f32) (cs sn : FVec F S4x2048x16 .f32) : FVec F S4x8x2048x32 .f32 :=
  let y := extractStridedSlice S4x8x2048x32 ![0, 0, 0, 64] x slices_S4x8x2048x96_S4x8x2048x32_0_0_0_64
  let y1 := extractStridedSlice S4x8x2048x16 ![0, 0, 0, 0] y slices_S4x8x2048x32_S4x8x2048x16_0_0_0_0
  let y2 := extractStridedSlice S4x8x2048x16 ![0, 0, 0, 16] y slices_S4x8x2048x32_S4x8x2048x16_0_0_0_16
  let C : FVec F S4x8x2048x16 .f32 := broadcastInDim S4x8x2048x16 ![0, 1, 2, 3] bcast_S4x1x2048x16_S4x8x2048x16_0_1_2_3 (broadcastInDim S4x1x2048x16 ![0, 2, 3] bcast_S4x2048x16_S4x1x2048x16_0_2_3 cs)
  let S : FVec F S4x8x2048x16 .f32 := broadcastInDim S4x8x2048x16 ![0, 1, 2, 3] bcast_S4x1x2048x16_S4x8x2048x16_0_1_2_3 (broadcastInDim S4x1x2048x16 ![0, 2, 3] bcast_S4x2048x16_S4x1x2048x16_0_2_3 sn)
  concatenate S4x8x2048x32 3 [⟨S4x8x2048x16, addf (mulf y2 S) (mulf y1 C)⟩, ⟨S4x8x2048x16, addf (mulf y2 C) (mulf (Host.negf y1) S)⟩]
    concatenates_S4x8x2048x16_S4x8x2048x16_S4x8x2048x32_d3
/-- and at the shared key. -/
def rotK (y : FVec F S4x4x2048x32 .f32) (cs sn : FVec F S4x2048x16 .f32) : FVec F S4x4x2048x32 .f32 :=
  let y1 := extractStridedSlice S4x4x2048x16 ![0, 0, 0, 0] y slices_S4x4x2048x32_S4x4x2048x16_0_0_0_0
  let y2 := extractStridedSlice S4x4x2048x16 ![0, 0, 0, 16] y slices_S4x4x2048x32_S4x4x2048x16_0_0_0_16
  let C : FVec F S4x4x2048x16 .f32 := broadcastInDim S4x4x2048x16 ![0, 1, 2, 3] bcast_S4x1x2048x16_S4x4x2048x16_0_1_2_3 (broadcastInDim S4x1x2048x16 ![0, 2, 3] bcast_S4x2048x16_S4x1x2048x16_0_2_3 cs)
  let S : FVec F S4x4x2048x16 .f32 := broadcastInDim S4x4x2048x16 ![0, 1, 2, 3] bcast_S4x1x2048x16_S4x4x2048x16_0_1_2_3 (broadcastInDim S4x1x2048x16 ![0, 2, 3] bcast_S4x2048x16_S4x1x2048x16_0_2_3 sn)
  concatenate S4x4x2048x32 3 [⟨S4x4x2048x16, addf (mulf y2 S) (mulf y1 C)⟩, ⟨S4x4x2048x16, addf (mulf y2 C) (mulf (Host.negf y1) S)⟩]
    concatenates_S4x4x2048x16_S4x4x2048x16_S4x4x2048x32_d3

/-- The packings of the turned gradients, -/
def packQ (y : FVec F S4x8x2048x32 .f32) : FVec F S8192x256 .f32 :=
  shapeCast S8192x256 (transpose S4x2048x2x2x4x16 [0, 3, 1, 4, 2, 5] (shapeCast S4x2x4x2048x2x16 y shapeCasts_S4x8x2048x32_S4x2x4x2048x2x16)
    transposes_S4x2x4x2048x2x16_S4x2048x2x2x4x16_0_3_1_4_2_5) shapeCasts_S4x2048x2x2x4x16_S8192x256
def packK (y : FVec F S4x4x2048x32 .f32) : FVec F S8192x128 .f32 :=
  shapeCast S8192x128 (transpose S4x2048x2x4x16 [0, 2, 3, 1, 4] (shapeCast S4x4x2048x2x16 y shapeCasts_S4x4x2048x32_S4x4x2048x2x16)
    transposes_S4x4x2048x2x16_S4x2048x2x4x16_0_2_3_1_4) shapeCasts_S4x2048x2x4x16_S8192x128
/-- and the heads side by side. -/
def sideQ (x : FVec F S4x8x2048x96 .f32) (y : FVec F S4x8x2048x32 .f32) : FVec F S8192x768 .f32 :=
  shapeCast S8192x768 (shapeCast S4x2048x768 (transpose S4x2048x8x96 [0, 2, 1, 3] (concatenate S4x8x2048x96 3 [
    ⟨S4x8x2048x64, extractStridedSlice S4x8x2048x64 ![0, 0, 0, 0] x slices_S4x8x2048x96_S4x8x2048x64_0_0_0_0⟩, ⟨S4x8x2048x32, y⟩]
    concatenates_S4x8x2048x64_S4x8x2048x32_S4x8x2048x96_d3) transposes_S4x8x2048x96_S4x2048x8x96_0_2_1_3) shapeCasts_S4x2048x8x96_S4x2048x768) shapeCasts_S4x2048x768_S8192x768
def sideK (x y : FVec F S4x8x2048x64 .f32) : FVec F S8192x1024 .f32 :=
  shapeCast S8192x1024 (shapeCast S4x2048x1024 (transpose S4x2048x8x128 [0, 2, 1, 3] (concatenate S4x8x2048x128 3 [⟨S4x8x2048x64, x⟩, ⟨S4x8x2048x64, y⟩]
    concatenates_S4x8x2048x64_S4x8x2048x64_S4x8x2048x128_d3) transposes_S4x8x2048x128_S4x2048x8x128_0_2_1_3) shapeCasts_S4x2048x8x128_S4x2048x1024) shapeCasts_S4x2048x1024_S8192x1024
def joinArr (p : FVec F S8192x256 .f32) (q r s : FVec F S8192x128 .f32) : FVec F S8192x640 .bf16 :=
  truncf .bf16 (concatenate S8192x640 1 [⟨S8192x256, p⟩, ⟨S8192x128, q⟩, ⟨S8192x128, r⟩, ⟨S8192x128, s⟩]
    concatenates_S8192x256_S8192x128_S8192x128_S8192x128_S8192x640_d1) bitsLt_bf16_f32

variable (x0 : FVec F S4x8x2048x96 .f32) (x1 x2 : FVec F S4x8x2048x64 .f32) (x3 : FVec F S4x4x2048x32 .f32) (x4 : FVec F S4x2048x8 .f32) (x5 : FVec F S8192x256 .f32)
  (x6 : FVec F S8192x128 .f32) (x7 : IVec S4x2048 32) (x8 : FVec F S1x256 .f32) (x9 : FVec F S1x128 .f32) (x10 : FVec F S256x768 .f32) (x11 : FVec F S128x1024 .f32)

theorem stage49 : val_main_v49 (F := F) x0 x7 = rotQ x0 (Host.cos (val_main_v15 (F := F) x7)) (Host.sin (val_main_v15 (F := F) x7)) := by
  sl_kernel_rfl
theorem stage77 : val_main_v77 (F := F) x3 x7 = rotK x3 (Host.cos (val_main_v15 (F := F) x7)) (Host.sin (val_main_v15 (F := F) x7)) := by
  sl_kernel_rfl
theorem stage173 : val_main_v173 (F := F) x0 x7 = packQ (val_main_v49 (F := F) x0 x7) := by
  sl_kernel_rfl
theorem stage176 : val_main_v176 (F := F) x3 x7 = packK (val_main_v77 (F := F) x3 x7) := by
  sl_kernel_rfl
theorem stage128 : val_main_v128 (F := F) x0 x7 = sideQ x0 (val_main_v49 (F := F) x0 x7) := by
  sl_kernel_rfl
theorem stage125 : val_main_v125 (F := F) x1 x2 = sideK x1 x2 := by
  sl_kernel_rfl
theorem stage170 : val_main_v170 (F := F) x0 x5 x7 x8 x10 = hDx hostedQ 0x43800000#32 (val_main_v81 (F := F) x8) x5 (val_main_v150 (F := F) x0 x7 x10)
    (hDirect hostedQ 0x43800000#32 (val_main_v81 (F := F) x8) x5 (val_main_v150 (F := F) x0 x7 x10)) := by
  sl_kernel_rfl
theorem stage149 : val_main_v149 (F := F) x1 x2 x6 x9 x11 = hDx hostedK 0x43000000#32 (val_main_v82 (F := F) x9) x6 (val_main_v129 (F := F) x1 x2 x11)
    (hDirect hostedK 0x43000000#32 (val_main_v82 (F := F) x9) x6 (val_main_v129 (F := F) x1 x2 x11)) := by
  sl_kernel_rfl
theorem stage180 : val_main_v180 (F := F) x0 x1 x2 x3 x4 x5 x6 x7 x8 x9 x10 x11
    = joinArr (val_main_v170 (F := F) x0 x5 x7 x8 x10) (val_main_v149 (F := F) x1 x2 x6 x9 x11) (val_main_v176 (F := F) x3 x7) (val_main_v178 (F := F) x4) := by
  sl_kernel_rfl
theorem stage182 : val_main_v182 (F := F) x0 x5 x7 x10 = shapeCast S1x256 (hDg hostedQ 0x43800000#32 x5 (val_main_v150 (F := F) x0 x7 x10)) shapeCasts_S256_S1x256 := by
  sl_kernel_rfl
theorem stage183 : val_main_v183 (F := F) x1 x2 x6 x11 = shapeCast S1x128 (hDg hostedK 0x43000000#32 x6 (val_main_v129 (F := F) x1 x2 x11)) shapeCasts_S128_S1x128 := by
  sl_kernel_rfl
end

/-! ## The turned gradients -/

/-- The rotation's transpose on one head. -/
def rotX (g : ℕ → ℕ → ℕ → ℕ → ℝ) (a : S4x2048x16.Idx → ℝ) (b h s e : ℕ) : ℝ :=
  if e < 16 then g b h s (16 + e) * Real.sin (at3 a b s e) + g b h s e * Real.cos (at3 a b s e)
  else g b h s e * Real.cos (at3 a b s (e - 16)) + -g b h s (e - 16) * Real.sin (at3 a b s (e - 16))

theorem nums (Y : ℕ → ℕ → ℕ → ℕ → ℝ) {b h s e b' h' s' e' : ℕ} (hb : b = b' := by first | rfl | (dsimp only; omega)) (hh : h = h' := by first | rfl | (dsimp only; omega)) (hs : s = s' := by first | rfl | (dsimp only; omega)) (he : e = e' := by first | rfl | (dsimp only; omega)) : ((Y b h s e : ℝ) : EReal) = ((Y b' h' s' e' : ℝ) : EReal) := by
  subst hb hh hs he
  rfl

section
variable (f0 : S4x8x2048x96.Idx → ℝ) (f1 f2 : S4x8x2048x64.Idx → ℝ) (f3 : S4x4x2048x32.Idx → ℝ) (a : S4x2048x16.Idx → ℝ)

theorem rotQ_at (b : Fin 4) (h : Fin 8) (s : Fin 2048) (e : Fin 32) : rotQ (F := Ideal) (up f0) (up fun i => Real.cos (a i)) (up fun i => Real.sin (a i)) (ix4 b h s e)
    = ((rotX (fun b h s e => at4 f0 b h s (64 + e)) a b h s e : ℝ) : EReal) := by
  pointwise [rotQ]
  unfold rotX
  by_cases hl : e.val < 16
  · rw [dif_pos hl, if_pos hl]
    simp only [← EReal.coe_mul, ← EReal.coe_add]
    refine congrArg Real.toEReal (congrArg₂ (· + ·) (congrArg₂ (· * ·) (at4_of f0 _ _ _ _ rfl rfl rfl) (congrArg Real.sin (at3_of a _ _ _ rfl rfl rfl)))
      (congrArg₂ (· * ·) (at4_of f0 _ _ _ _ rfl rfl rfl) (congrArg Real.cos (at3_of a _ _ _ rfl rfl rfl))))
  · rw [dif_neg hl, if_neg hl]
    simp only [← EReal.coe_neg, ← EReal.coe_mul, ← EReal.coe_add]
    refine congrArg Real.toEReal (congrArg₂ (· + ·) (congrArg₂ (· * ·) (at4_of f0 _ _ _ _ rfl rfl rfl) (congrArg Real.cos (at3_of a _ _ _ rfl rfl rfl)))
      (congrArg₂ (· * ·) (congrArg Neg.neg (at4_of f0 _ _ _ _ rfl rfl rfl)) (congrArg Real.sin (at3_of a _ _ _ rfl rfl rfl))))

theorem rotK_at (b : Fin 4) (h : Fin 4) (s : Fin 2048) (e : Fin 32) : rotK (F := Ideal) (up f3) (up fun i => Real.cos (a i)) (up fun i => Real.sin (a i)) (ix4 b h s e)
    = ((rotX (at4 f3) a b h s e : ℝ) : EReal) := by
  pointwise [rotK]
  unfold rotX
  by_cases hl : e.val < 16
  · rw [dif_pos hl, if_pos hl]
    simp only [← EReal.coe_mul, ← EReal.coe_add]
    refine congrArg Real.toEReal (congrArg₂ (· + ·) (congrArg₂ (· * ·) (at4_of f3 _ _ _ _ rfl rfl rfl rfl) (congrArg Real.sin (at3_of a _ _ _ rfl rfl rfl)))
      (congrArg₂ (· * ·) (at4_of f3 _ _ _ _ rfl rfl rfl rfl) (congrArg Real.cos (at3_of a _ _ _ rfl rfl rfl))))
  · rw [dif_neg hl, if_neg hl]
    simp only [← EReal.coe_neg, ← EReal.coe_mul, ← EReal.coe_add]
    refine congrArg Real.toEReal (congrArg₂ (· + ·) (congrArg₂ (· * ·) (at4_of f3 _ _ _ _ rfl rfl rfl) (congrArg Real.cos (at3_of a _ _ _ rfl rfl rfl)))
      (congrArg₂ (· * ·) (congrArg Neg.neg (at4_of f3 _ _ _ _ rfl rfl rfl rfl)) (congrArg Real.sin (at3_of a _ _ _ rfl rfl rfl))))

theorem packQ_at {y : FVec Ideal S4x8x2048x32 .f32} {Y : ℕ → ℕ → ℕ → ℕ → ℝ} (hy : ∀ (b : Fin 4) (h : Fin 8) (s : Fin 2048) (e : Fin 32), y (ix4 b h s e) = ((Y b h s e : ℝ) : EReal)) :
    Is (packQ y) fun r c => Y (r / 2048) (4 * (c / 128) + c % 64 / 16) (r % 2048) (16 * (c % 128 / 64) + c % 16) := fun r c => by
  pointwise [packQ]
  exact (hy _ _ _ _).trans (nums Y)

theorem packK_at {y : FVec Ideal S4x4x2048x32 .f32} {Y : ℕ → ℕ → ℕ → ℕ → ℝ} (hy : ∀ (b : Fin 4) (h : Fin 4) (s : Fin 2048) (e : Fin 32), y (ix4 b h s e) = ((Y b h s e : ℝ) : EReal)) :
    Is (packK y) fun r c => Y (r / 2048) (c / 16 % 4) (r % 2048) (16 * (c / 64) + c % 16) := fun r c => by
  pointwise [packK]
  exact (hy _ _ _ _).trans (nums Y)

theorem sideQ_at {y : FVec Ideal S4x8x2048x32 .f32} {Y : ℕ → ℕ → ℕ → ℕ → ℝ} (hy : ∀ (b : Fin 4) (h : Fin 8) (s : Fin 2048) (e : Fin 32), y (ix4 b h s e) = ((Y b h s e : ℝ) : EReal)) :
    Is (sideQ (up f0) y) fun r k => if k % 96 < 64 then at4 f0 (r / 2048) (k / 96) (r % 2048) (k % 96) else Y (r / 2048) (k / 96) (r % 2048) (k % 96 - 64) := fun r c => by
  pointwise [sideQ]
  by_cases hl : c.val % 96 < 64
  · refine (dif_pos hl).trans (Eq.trans ?_ (congrArg Real.toEReal (if_pos hl).symm))
    exact congrArg Real.toEReal (at4_of f0 _ _ _ _ rfl rfl rfl rfl)
  · refine (dif_neg hl).trans (Eq.trans ?_ (congrArg Real.toEReal (if_neg hl).symm))
    exact (hy _ _ _ _).trans (nums Y rfl rfl rfl rfl)

theorem sideK_at : Is (sideK (F := Ideal) (up f1) (up f2)) fun r k => if k % 128 < 64 then at4 f1 (r / 2048) (k / 128) (r % 2048) (k % 128) else at4 f2 (r / 2048) (k / 128) (r % 2048) (k % 128 - 64) := fun r c => by
  pointwise [sideK]
  by_cases hl : c.val % 128 < 64
  · rw [dif_pos (by omega), if_pos hl]
    exact congrArg Real.toEReal (at4_of f1 _ _ _ _)
  · rw [dif_neg (by omega), if_neg hl]
    exact congrArg Real.toEReal (at4_of f2 _ _ _ _)

theorem turn_rot (X : ℕ → ℕ → ℝ) (g : ℕ → ℕ → ℕ → ℕ → ℝ) (r c h : ℕ) (own : X r c = g (r / 2048) h (r % 2048) (16 * (c % 128 / 64) + c % 16))
    (other : X r (128 * (c / 128) + (c + 64) % 128) = g (r / 2048) h (r % 2048) (16 * ((c + 64) % 128 / 64) + c % 16)) :
    rotX g a (r / 2048) h (r % 2048) (16 * (c % 128 / 64) + c % 16) = turn X (cosX a) (sinX a) r c := by
  unfold turn rotX cosX sinX sg
  rw [own, other]
  by_cases hl : c % 128 < 64
  · rw [if_pos hl, if_pos (by omega), show c % 128 / 64 = 0 by omega, show (c + 64) % 128 / 64 = 1 by omega]
    simp only [Nat.mul_zero, Nat.zero_add, Nat.mul_one]
    ring
  · rw [if_neg hl, if_neg (by omega), show c % 128 / 64 = 1 by omega, show (c + 64) % 128 / 64 = 0 by omega]
    simp only [Nat.mul_zero, Nat.zero_add, Nat.mul_one, Nat.add_sub_cancel_left]
    ring

theorem turnQ (r c : ℕ) : rotX (fun b h s e => at4 f0 b h s (64 + e)) a (r / 2048) (4 * (c / 128) + c % 64 / 16) (r % 2048) (16 * (c % 128 / 64) + c % 16) = TQ f0 a r c := by
  refine turn_rot a (qpX f0) _ r c _ ?_ ?_
  · unfold qpX
    rw [Nat.add_assoc]
  · unfold qpX
    rw [show (128 * (c / 128) + (c + 64) % 128) / 128 = c / 128 by omega, show (128 * (c / 128) + (c + 64) % 128) % 64 = c % 64 by omega,
      show (128 * (c / 128) + (c + 64) % 128) % 128 = (c + 64) % 128 by omega, show (128 * (c / 128) + (c + 64) % 128) % 16 = c % 16 by omega, Nat.add_assoc]

theorem turnK (r c : ℕ) (hc : c < 128) : rotX (at4 f3) a (r / 2048) (c / 16 % 4) (r % 2048) (16 * (c / 64) + c % 16) = TK f3 a r c := by
  rw [show c / 64 = c % 128 / 64 by omega]
  refine turn_rot a (kpX f3) _ r c _ ?_ ?_
  · unfold kpX
    rw [show c / 64 = c % 128 / 64 by omega]
  · unfold kpX
    rw [show (128 * (c / 128) + (c + 64) % 128) / 16 % 4 = c / 16 % 4 by omega, show (128 * (c / 128) + (c + 64) % 128) / 64 = (c + 64) % 128 / 64 by omega,
      show (128 * (c / 128) + (c + 64) % 128) % 16 = c % 16 by omega]

/-! ## The sums in another order -/

theorem sum_by {n : ℕ} (q q' : ℕ → ℕ) (hq : ∀ e : Fin n, q e < n ∧ q' (q e) = e.val) (D : ℕ → ℝ) : ∑ k : Fin n, D k = ∑ e : Fin n, D (q e) := by
  have inj : Function.Injective fun e : Fin n => (⟨q e, (hq e).1⟩ : Fin n) := fun e e' h => Fin.ext (by
    rw [← (hq e).2, ← (hq e').2]
    exact congrArg q' (congrArg Fin.val h))
  exact (Fintype.sum_bijective _ (Finite.injective_iff_bijective.1 inj) (fun e => D (q e)) (fun k : Fin n => D k) fun _ => rfl).symm

def colQ' (k : ℕ) : ℕ := if k % 96 < 64 then 64 * (k / 96) + k % 96 else 512 + 128 * (k / 96 / 4) + 64 * ((k % 96 - 64) / 16) + 16 * (k / 96 % 4) + (k % 96 - 64) % 16

theorem colQ_back : ∀ e : Fin 768, colQ e < 768 ∧ colQ' (colQ e) = e.val := by decide +kernel
theorem colK_back : ∀ e : Fin 1024, colK e < 1024 ∧ colK (colK e) = e.val := by decide +kernel

theorem sumQ (D : ℕ → ℝ) : ∑ k : Fin 768, D k = (∑ e : Fin 512, D (colQ e)) + ∑ e : Fin 256, D (colQ (512 + e)) := by
  rw [sum_by colQ colQ' colQ_back, Fin.sum_univ_eq_sum_range (fun e => D (colQ e)) 768, Fin.sum_univ_eq_sum_range (fun e => D (colQ e)) 512,
    Fin.sum_univ_eq_sum_range (fun e => D (colQ (512 + e))) 256, ← Finset.sum_range_add (fun e => D (colQ e))]

variable {x : IVec S4x2048 32} (hx : val_main_v15 (F := Ideal) x = up a)

section
include hx
theorem v49_at (b : Fin 4) (h : Fin 8) (s : Fin 2048) (e : Fin 32) : val_main_v49 (F := Ideal) (up f0) x (ix4 b h s e) = ((rotX (fun b h s e => at4 f0 b h s (64 + e)) a b h s e : ℝ) : EReal) := by
  rw [stage49, hx]
  exact rotQ_at f0 a b h s e
theorem v77_at (b : Fin 4) (h : Fin 4) (s : Fin 2048) (e : Fin 32) : val_main_v77 (F := Ideal) (up f3) x (ix4 b h s e) = ((rotX (at4 f3) a b h s e : ℝ) : EReal) := by
  rw [stage77, hx]
  exact rotK_at f3 a b h s e

theorem v173_is : Is (val_main_v173 (F := Ideal) (up f0) x) (TQ f0 a) := by
  rw [stage173]
  exact (packQ_at (v49_at f0 a hx)).congr fun r c => turnQ f0 a r c
theorem v176_is : Is (val_main_v176 (F := Ideal) (up f3) x) (TK f3 a) := by
  rw [stage176]
  exact (packK_at (v77_at f3 a hx)).congr fun r c => turnK f3 a r c c.isLt
end

variable (f5 : S8192x256.Idx → ℝ) (f6 : S8192x128.Idx → ℝ) (gq : S1x256.Idx → ℝ) (gk : S1x128.Idx → ℝ) (w : S256x768.Idx → ℝ) (z : S128x1024.Idx → ℝ)

theorem lane96 (X f r : ℕ) (hf : f ≤ 1) (hr : r < 16) :
    ¬ (96 * X + 64 + 16 * f + r) % 96 < 64 ∧ (96 * X + 64 + 16 * f + r) / 96 = X ∧ (96 * X + 64 + 16 * f + r) % 96 - 64 = 16 * f + r := by
  refine ⟨by omega, by omega, by omega⟩

theorem v150_is (hx : val_main_v15 (F := Ideal) x = up a) : Is (val_main_v150 (F := Ideal) (up f0) x (up w)) (YQ f0 w a) := fun r j => by
  have h := sideQ_at f0 (v49_at f0 a hx)
  rw [← stage128] at h
  unfold val_main_v150
  generalize val_main_v128 (F := Ideal) (up f0) x = y at h ⊢
  pointwise
  have e : ∀ k : Fin 768, y (ix2 r k) * ((w (ix2 j k) : ℝ) : EReal) = _ := fun k => by
    rw [h r k, show w (ix2 j k) = of2 w j k from (of2_at w j.isLt k.isLt).symm, ← EReal.coe_mul]
  simp only [e, coe_sum]
  refine congrArg Real.toEReal ((sumQ fun k => (if k % 96 < 64 then at4 f0 (r / 2048) (k / 96) (r % 2048) (k % 96)
    else rotX (fun b h s e => at4 f0 b h s (64 + e)) a (r / 2048) (k / 96) (r % 2048) (k % 96 - 64)) * of2 w j k).trans ?_)
  refine congrArg₂ (· + ·) (Finset.sum_congr rfl fun e _ => congrArg (· * _) ?_) (Finset.sum_congr rfl fun e _ => congrArg (· * _) ?_)
  · have he := e.isLt
    have q : colQ e = 96 * (e / 64) + e % 64 := if_pos he
    rw [q, if_pos (by omega), show (96 * (e.val / 64) + e % 64) / 96 = e / 64 by omega, show (96 * (e.val / 64) + e % 64) % 96 = e % 64 by omega]
    rfl
  · have he := e.isLt
    have q : colQ (512 + e) = 96 * (4 * (e / 128) + e % 64 / 16) + 64 + 16 * (e % 128 / 64) + e % 16 := by
      unfold colQ
      rw [if_neg (by omega), show 512 + e.val - 512 = e by omega]
    obtain ⟨k1, k2, k3⟩ := lane96 (4 * (e.val / 128) + e % 64 / 16) (e % 128 / 64) (e % 16) (by omega) (by omega)
    rw [q, if_neg k1, k2, k3]
    exact turnQ f0 a r e

theorem v129_is : Is (val_main_v129 (F := Ideal) (up f1) (up f2) (up z)) (YK f1 f2 z) := fun r j => by
  have h := sideK_at f1 f2
  rw [← stage125] at h
  unfold val_main_v129
  generalize val_main_v125 (F := Ideal) (up f1) (up f2) = y at h ⊢
  pointwise
  have e : ∀ k : Fin 1024, y (ix2 r k) * ((z (ix2 j k) : ℝ) : EReal) = _ := fun k => by
    rw [h r k, show z (ix2 j k) = of2 z j k from (of2_at z j.isLt k.isLt).symm, ← EReal.coe_mul]
  simp only [e, coe_sum]
  refine congrArg Real.toEReal ((sum_by colK colK colK_back fun k => (if k % 128 < 64 then at4 f1 (r / 2048) (k / 128) (r % 2048) (k % 128)
    else at4 f2 (r / 2048) (k / 128) (r % 2048) (k % 128 - 64)) * of2 z j k).trans ?_)
  refine Finset.sum_congr rfl fun e _ => congrArg (· * _) ?_
  have he := e.isLt
  unfold kvX
  have e1 : colK e / 128 = 2 * (e / 256) + e % 128 / 64 := by unfold colK; omega
  have e2 : colK e % 128 = 64 * (e / 128 % 2) + e % 64 := by unfold colK; omega
  rw [e1, e2]
  by_cases hl : e.val / 128 % 2 = 0
  · rw [if_pos hl, if_pos (by omega), hl, Nat.mul_zero, Nat.zero_add]
  · rw [if_neg hl, if_neg (by omega), show 64 * (e.val / 128 % 2) + e % 64 - 64 = e % 64 by omega]

theorem flatQ : Is₁ (val_main_v81 (F := Ideal) (up gq)) fun c => of2 gq 0 c := fun c => (ValueIdx.shapeCast_1a_a_apply _ _ c).trans (of2_is gq 0 c)
theorem flatK : Is₁ (val_main_v82 (F := Ideal) (up gk)) fun c => of2 gk 0 c := fun c => (ValueIdx.shapeCast_1a_a_apply _ _ c).trans (of2_is gk 0 c)

theorem join_at {p : FVec Ideal S8192x256 .f32} {q r' : FVec Ideal S8192x128 .f32} {P Q R : ℕ → ℕ → ℝ} (hp : Is p P) (hq : Is q Q) (hr : Is r' R) (s : FVec Ideal S8192x128 .f32)
    (r : Fin 8192) (c : Fin 640) : joinArr p q r' s (ix2 r c) = joined P Q R r c (tailOf s r c) := by
  have hc := c.isLt
  pointwise [joinArr]
  unfold joined
  by_cases h1 : c.val < 256
  · rw [dif_pos h1, if_pos h1]
    exact hp _ _
  rw [dif_neg h1, if_neg h1]
  by_cases h2 : c.val < 384
  · rw [dif_pos (by omega), if_pos h2]
    exact hq _ _
  rw [dif_neg (by omega), if_neg h2]
  by_cases h3 : c.val < 512
  · rw [dif_pos (by omega), if_pos h3]
    exact (hr _ _).trans (congrArg (fun a => ((R r a : ℝ) : EReal)) (by dsimp only; omega))
  rw [dif_neg (by omega), if_neg h3, tailOf_at _ _ _ (by omega)]
  exact congrArg s (congrArg (ix2 r) (Fin.ext (by dsimp only; omega)))

theorem ref180 (hx : val_main_v15 (F := Ideal) x = up a) (x4 : FVec Ideal S4x2048x8 .f32) :
    val_main_v180 (F := Ideal) (up f0) (up f1) (up f2) (up f3) x4 (up f5) (up f6) x (up gq) (up gk) (up w) (up z)
      = outAll f5 f6 gq gk (YQ f0 w a) (YK f1 f2 z) (TK f3 a) (val_main_v178 (F := Ideal) x4) := by
  rw [stage180, stage170, stage149]
  funext i
  idx_vars i
  exact join_at (rowsGradient hostedQ counts256 f5 gq (flatQ gq) (v150_is f0 a w hx)) (rowsGradient hostedK counts128 f6 gk (flatK gk) (v129_is f1 f2 z)) (v176_is f3 a hx) _ i0 i1

theorem ref181 (hx : val_main_v15 (F := Ideal) x = up a) : val_main_v181 (F := Ideal) (up f0) x = outTurn (TQ f0 a) := by
  funext i
  idx_vars i
  exact v173_is f0 a hx i0 i1

theorem ref182 (hx : val_main_v15 (F := Ideal) x = up a) : val_main_v182 (F := Ideal) (up f0) (up f5) x (up w) = outQ f5 (YQ f0 w a) := by
  rw [stage182]
  have h := (hDg_is hostedQ counts256 (of2_is f5) (v150_is f0 a w hx)).cast shapeCasts_S256_S1x256
  funext i
  idx_vars i
  exact h i0 i1

theorem ref183 : val_main_v183 (F := Ideal) (up f1) (up f2) (up f6) (up z) = outK f6 (YK f1 f2 z) := by
  rw [stage183]
  have h := (hDg_is hostedK counts128 (of2_is f6) (v129_is f1 f2 z)).cast shapeCasts_S128_S1x128
  funext i
  idx_vars i
  exact h i0 i1
end

/-- The precondition makes the ten arrays arrays of reals. -/
theorem finite (x0 : FVec Ideal Pre_prep_finite.S4x8x2048x96 .f32) (x1 x2 : FVec Ideal Pre_prep_finite.S4x8x2048x64 .f32) (x3 : FVec Ideal Pre_prep_finite.S4x4x2048x32 .f32)
    (x4 : FVec Ideal Pre_prep_finite.S4x2048x8 .f32) (x5 : FVec Ideal Pre_prep_finite.S8192x256 .f32) (x6 : FVec Ideal Pre_prep_finite.S8192x128 .f32) (x7 : IVec Pre_prep_finite.S4x2048 32)
    (x8 : FVec Ideal Pre_prep_finite.S1x256 .f32) (x9 : FVec Ideal Pre_prep_finite.S1x128 .f32) (x10 : FVec Ideal Pre_prep_finite.S256x768 .f32) (x11 : FVec Ideal Pre_prep_finite.S128x1024 .f32)
    (h : Cert.Pre_prep_finite.fn (F := Ideal) x0 x1 x2 x3 x4 x5 x6 x7 x8 x9 x10 x11 = fun _ => 1#1) :
    ((∃ f, x0 = up f) ∧ (∃ f, x1 = up f) ∧ (∃ f, x2 = up f) ∧ (∃ f, x3 = up f) ∧ ∃ f, x5 = up f) ∧ (∃ f, x6 = up f) ∧ (∃ f, x8 = up f) ∧ (∃ f, x9 = up f) ∧ (∃ f, x10 = up f) ∧ ∃ f, x11 = up f := by
  have e := congrFun h ix0
  obtain ⟨e, e11⟩ := IntOp.andi_eq_one.1 e
  obtain ⟨e, e10⟩ := IntOp.andi_eq_one.1 e
  obtain ⟨e, e9⟩ := IntOp.andi_eq_one.1 e
  obtain ⟨e, e8⟩ := IntOp.andi_eq_one.1 e
  obtain ⟨e, e6⟩ := IntOp.andi_eq_one.1 e
  obtain ⟨e, e5⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  exact ⟨⟨real_of_all x0 _ _ _ _ e0, real_of_all x1 _ _ _ _ e1, real_of_all x2 _ _ _ _ e2, real_of_all x3 _ _ _ _ e3, real_of_all x5 _ _ _ _ e5⟩,
    real_of_all x6 _ _ _ _ e6, real_of_all x8 _ _ _ _ e8, real_of_all x9 _ _ _ _ e9, real_of_all x10 _ _ _ _ e10, real_of_all x11 _ _ _ _ e11⟩
end

/-- The kernel's four results are the gradient at the projections, the query's turned gradient, and the gradients at both scales. -/
theorem algebraic : Cert.algebraic_PrepKernelIdeal_PrepReferenceIdeal_pre_prep_finite := by
  pair_intro
  · run_from Cert.PrepKernelIdeal.Value.run_blocks m g
  · refine (θ_run _ _ _).mono (fun s h c => ?_) (Cert.PrepReferenceIdeal.Value.run (F := Ideal) m' g')
    obtain ⟨q12, q13, q14, q15, rest⟩ := h c
    obtain ⟨e0, e1, e2, e3, e4, e5, e6, e7, e8, e9, e10, e11⟩ := hagree c
    obtain ⟨⟨⟨f0, h0⟩, ⟨f1, h1⟩, ⟨f2, h2⟩, ⟨f3, h3⟩, ⟨f5, h5⟩⟩, ⟨f6, h6⟩, ⟨gq, h8⟩, ⟨gk, h9⟩, ⟨w, h10⟩, ⟨z, h11⟩⟩ := finite _ _ _ _ _ _ _ _ _ _ _ _ (hpre c)
    obtain ⟨a, h7⟩ := angles (a7 m c)
    have G : Given m c f0 f1 f2 f3 f5 f6 gq gk w z a := ⟨h0, h1, h2, h3, h5, h6, h7, h8, h9, h10, h11⟩
    have k0 := show StableHlo.launchContents m' c (Proc.tc.devRef Cert.PrepReferenceIdeal.main_arg0) = _ from e0.trans h0
    have k1 := show StableHlo.launchContents m' c (Proc.tc.devRef Cert.PrepReferenceIdeal.main_arg1) = _ from e1.trans h1
    have k2 := show StableHlo.launchContents m' c (Proc.tc.devRef Cert.PrepReferenceIdeal.main_arg2) = _ from e2.trans h2
    have k3 := show StableHlo.launchContents m' c (Proc.tc.devRef Cert.PrepReferenceIdeal.main_arg3) = _ from e3.trans h3
    have k4 := show StableHlo.launchContents m' c (Proc.tc.devRef Cert.PrepReferenceIdeal.main_arg4) = _ from e4
    have k5 := show StableHlo.launchContents m' c (Proc.tc.devRef Cert.PrepReferenceIdeal.main_arg5) = _ from e5.trans h5
    have k6 := show StableHlo.launchContents m' c (Proc.tc.devRef Cert.PrepReferenceIdeal.main_arg6) = _ from e6.trans h6
    have k7 := show StableHlo.launchContents m' c (Proc.tc.devRef Cert.PrepReferenceIdeal.main_arg7) = _ from e7
    have k8 := show StableHlo.launchContents m' c (Proc.tc.devRef Cert.PrepReferenceIdeal.main_arg8) = _ from e8.trans h8
    have k9 := show StableHlo.launchContents m' c (Proc.tc.devRef Cert.PrepReferenceIdeal.main_arg9) = _ from e9.trans h9
    have k10 := show StableHlo.launchContents m' c (Proc.tc.devRef Cert.PrepReferenceIdeal.main_arg10) = _ from e10.trans h10
    have k11 := show StableHlo.launchContents m' c (Proc.tc.devRef Cert.PrepReferenceIdeal.main_arg11) = _ from e11.trans h11
    refine ⟨q12.trans ?_, q13.trans ?_, q14.trans ?_, q15.trans ?_, rest⟩
    · rw [final12 m c f0 f1 f2 f3 f5 f6 gq gk w z a G]
      refine (Cert.PrepReferenceIdeal.Read.val_main_v180_eq _).trans ?_
      rw [k0, k1, k2, k3, k4, k5, k6, k7, k8, k9, k10, k11]
      exact ref180 f0 f1 f2 f3 a f5 f6 gq gk w z h7 _
    · rw [final13 m c f0 f1 f2 f3 f5 f6 gq gk w z a G]
      refine (Cert.PrepReferenceIdeal.Read.val_main_v181_eq _).trans ?_
      rw [k0, k7]
      exact ref181 f0 a h7
    · rw [final14 m c f0 f1 f2 f3 f5 f6 gq gk w z a G]
      refine (Cert.PrepReferenceIdeal.Read.val_main_v182_eq _).trans ?_
      rw [k0, k5, k7, k10]
      exact ref182 f0 a f5 w h7
    · rw [final15 m c f0 f1 f2 f3 f5 f6 gq gk w z a G]
      refine (Cert.PrepReferenceIdeal.Read.val_main_v183_eq _).trans ?_
      rw [k1, k2, k6, k11]
      exact ref183 f1 f2 f6 z

/-- The reference runs and keeps its arguments; it has no counters. -/
theorem frame_reference : Cert.quiescent_PrepReferenceIdeal := fun m g _ =>
  (θ_run _ _ _).mono (fun _ h => ⟨fun c => (h c).2.2.2.2, no_counters rfl rfl _ _⟩) (Cert.PrepReferenceIdeal.Value.run (F := Idealize.ShloMosaic.Ideal) m g)
end Cert.Prep
end
-- ==== Proof.lean ====
module

public import proofs.«01_k».proof.Defs
public import proofs.«01_k».proof.Proof.Gen.GateKernel
public import proofs.«01_k».proof.Proof.Gen.GateKernel.Skeleton
public import proofs.«01_k».proof.Proof.Gen.GateKernel.Launch
public import proofs.«01_k».proof.Proof.Gen.GateKernel.Points
public import proofs.«01_k».proof.Proof.Gen.GateKernel.Frame
public import proofs.«01_k».proof.Proof.Gen.GateKernelIdeal
public import proofs.«01_k».proof.Proof.Gen.GateKernelIdeal.Skeleton
public import proofs.«01_k».proof.Proof.Gen.GateKernelIdeal.Launch
public import proofs.«01_k».proof.Proof.Gen.GateKernelIdeal.Points
public import proofs.«01_k».proof.Proof.Gen.GateKernelIdeal.Frame
public import proofs.«01_k».proof.Proof.Gen.GateReferenceIdeal
public import proofs.«01_k».proof.Proof.Gen.Pre_gate_finite
public import proofs.«01_k».proof.Proof.Gen.GateKernelIdeal.Value
public import proofs.«01_k».proof.Proof.Gen.GateReferenceIdeal.Run
public import proofs.«01_k».proof.Proof.Gen.GateReferenceIdeal.Read
public import proofs.«01_k».proof.Proof.Gate
public import proofs.«01_k».proof.Proof.Gen.FoxKernel
public import proofs.«01_k».proof.Proof.Gen.FoxKernel.Skeleton
public import proofs.«01_k».proof.Proof.Gen.FoxKernel.Launch
public import proofs.«01_k».proof.Proof.Gen.FoxKernel.Points
public import proofs.«01_k».proof.Proof.Gen.FoxKernel.Frame
public import proofs.«01_k».proof.Proof.Gen.FoxKernelIdeal
public import proofs.«01_k».proof.Proof.Gen.FoxKernelIdeal.Skeleton
public import proofs.«01_k».proof.Proof.Gen.FoxKernelIdeal.Launch
public import proofs.«01_k».proof.Proof.Gen.FoxKernelIdeal.Points
public import proofs.«01_k».proof.Proof.Gen.FoxKernelIdeal.Frame
public import proofs.«01_k».proof.Proof.Gen.FoxReferenceIdeal
public import proofs.«01_k».proof.Proof.Gen.Pre_fox_finite
public import proofs.«01_k».proof.Proof.Gen.FoxKernelIdeal.Value
public import proofs.«01_k».proof.Proof.Gen.FoxReferenceIdeal.Run
public import proofs.«01_k».proof.Proof.Gen.FoxReferenceIdeal.Read
public import proofs.«01_k».proof.Proof.FoxFinal
public import proofs.«01_k».proof.Proof.Gen.FoxFKernel
public import proofs.«01_k».proof.Proof.Gen.FoxFKernel.Skeleton
public import proofs.«01_k».proof.Proof.Gen.FoxFKernel.Launch
public import proofs.«01_k».proof.Proof.Gen.FoxFKernel.Points
public import proofs.«01_k».proof.Proof.Gen.FoxFKernel.Frame
public import proofs.«01_k».proof.Proof.Gen.FoxFKernelIdeal
public import proofs.«01_k».proof.Proof.Gen.FoxFKernelIdeal.Skeleton
public import proofs.«01_k».proof.Proof.Gen.FoxFKernelIdeal.Launch
public import proofs.«01_k».proof.Proof.Gen.FoxFKernelIdeal.Points
public import proofs.«01_k».proof.Proof.Gen.FoxFKernelIdeal.Frame
public import proofs.«01_k».proof.Proof.Gen.FoxFReferenceIdeal
public import proofs.«01_k».proof.Proof.Gen.Pre_foxf_finite
public import proofs.«01_k».proof.Proof.Gen.FoxFKernelIdeal.Value
public import proofs.«01_k».proof.Proof.Gen.FoxFReferenceIdeal.Run
public import proofs.«01_k».proof.Proof.Gen.FoxFReferenceIdeal.Read
public import proofs.«01_k».proof.Proof.FwdFinal
public import proofs.«01_k».proof.Proof.Gen.MlaKernel
public import proofs.«01_k».proof.Proof.Gen.MlaKernel.Skeleton
public import proofs.«01_k».proof.Proof.Gen.MlaKernel.Launch
public import proofs.«01_k».proof.Proof.Gen.MlaKernel.Points
public import proofs.«01_k».proof.Proof.Gen.MlaKernel.Frame
public import proofs.«01_k».proof.Proof.Gen.MlaKernelIdeal
public import proofs.«01_k».proof.Proof.Gen.MlaKernelIdeal.Skeleton
public import proofs.«01_k».proof.Proof.Gen.MlaKernelIdeal.Launch
public import proofs.«01_k».proof.Proof.Gen.MlaKernelIdeal.Points
public import proofs.«01_k».proof.Proof.Gen.MlaKernelIdeal.Frame
public import proofs.«01_k».proof.Proof.Gen.MlaReferenceIdeal
public import proofs.«01_k».proof.Proof.Gen.Pre_mla_finite
public import proofs.«01_k».proof.Proof.Gen.MlaKernelIdeal.Value
public import proofs.«01_k».proof.Proof.Gen.MlaReferenceIdeal.Run
public import proofs.«01_k».proof.Proof.Gen.MlaReferenceIdeal.Read
public import proofs.«01_k».proof.Proof.MlaFinal
public import proofs.«01_k».proof.Proof.Gen.SwiKernel
public import proofs.«01_k».proof.Proof.Gen.SwiKernel.Skeleton
public import proofs.«01_k».proof.Proof.Gen.SwiKernel.Launch
public import proofs.«01_k».proof.Proof.Gen.SwiKernel.Points
public import proofs.«01_k».proof.Proof.Gen.SwiKernel.Frame
public import proofs.«01_k».proof.Proof.Gen.SwiKernelIdeal
public import proofs.«01_k».proof.Proof.Gen.SwiKernelIdeal.Skeleton
public import proofs.«01_k».proof.Proof.Gen.SwiKernelIdeal.Launch
public import proofs.«01_k».proof.Proof.Gen.SwiKernelIdeal.Points
public import proofs.«01_k».proof.Proof.Gen.SwiKernelIdeal.Frame
public import proofs.«01_k».proof.Proof.Gen.SwiReferenceIdeal
public import proofs.«01_k».proof.Proof.Gen.Pre_swi_finite
public import proofs.«01_k».proof.Proof.Gen.SwiKernelIdeal.Value
public import proofs.«01_k».proof.Proof.Gen.SwiReferenceIdeal.Run
public import proofs.«01_k».proof.Proof.Gen.SwiReferenceIdeal.Read
public import proofs.«01_k».proof.Proof.Swi
public import proofs.«01_k».proof.Proof.Gen.FfnKernel
public import proofs.«01_k».proof.Proof.Gen.FfnKernel.Skeleton
public import proofs.«01_k».proof.Proof.Gen.FfnKernel.Launch
public import proofs.«01_k».proof.Proof.Gen.FfnKernel.Points
public import proofs.«01_k».proof.Proof.Gen.FfnKernel.Frame
public import proofs.«01_k».proof.Proof.Gen.FfnKernelIdeal
public import proofs.«01_k».proof.Proof.Gen.FfnKernelIdeal.Skeleton
public import proofs.«01_k».proof.Proof.Gen.FfnKernelIdeal.Launch
public import proofs.«01_k».proof.Proof.Gen.FfnKernelIdeal.Points
public import proofs.«01_k».proof.Proof.Gen.FfnKernelIdeal.Frame
public import proofs.«01_k».proof.Proof.Gen.FfnReferenceIdeal
public import proofs.«01_k».proof.Proof.Gen.Pre_ffn_finite
public import proofs.«01_k».proof.Proof.Gen.FfnKernelIdeal.Value
public import proofs.«01_k».proof.Proof.Gen.FfnReferenceIdeal.Run
public import proofs.«01_k».proof.Proof.Gen.FfnReferenceIdeal.Read
public import proofs.«01_k».proof.Proof.Ffn
public import proofs.«01_k».proof.Proof.Gen.LossKernel
public import proofs.«01_k».proof.Proof.Gen.LossKernel.Skeleton
public import proofs.«01_k».proof.Proof.Gen.LossKernel.Launch
public import proofs.«01_k».proof.Proof.Gen.LossKernel.Points
public import proofs.«01_k».proof.Proof.Gen.LossKernel.Frame
public import proofs.«01_k».proof.Proof.Gen.LossKernelIdeal
public import proofs.«01_k».proof.Proof.Gen.LossKernelIdeal.Skeleton
public import proofs.«01_k».proof.Proof.Gen.LossKernelIdeal.Launch
public import proofs.«01_k».proof.Proof.Gen.LossKernelIdeal.Points
public import proofs.«01_k».proof.Proof.Gen.LossKernelIdeal.Frame
public import proofs.«01_k».proof.Proof.Gen.LossReferenceIdeal
public import proofs.«01_k».proof.Proof.Gen.Pre_loss_finite
public import proofs.«01_k».proof.Proof.Gen.LossKernelIdeal.Value
public import proofs.«01_k».proof.Proof.Gen.LossReferenceIdeal.Run
public import proofs.«01_k».proof.Proof.Gen.LossReferenceIdeal.Read
public import proofs.«01_k».proof.Proof.Loss
public import proofs.«01_k».proof.Proof.Gen.InpKernel
public import proofs.«01_k».proof.Proof.Gen.InpKernel.Skeleton
public import proofs.«01_k».proof.Proof.Gen.InpKernel.Launch
public import proofs.«01_k».proof.Proof.Gen.InpKernel.Points
public import proofs.«01_k».proof.Proof.Gen.InpKernel.Frame
public import proofs.«01_k».proof.Proof.Gen.InpKernelIdeal
public import proofs.«01_k».proof.Proof.Gen.InpKernelIdeal.Skeleton
public import proofs.«01_k».proof.Proof.Gen.InpKernelIdeal.Launch
public import proofs.«01_k».proof.Proof.Gen.InpKernelIdeal.Points
public import proofs.«01_k».proof.Proof.Gen.InpKernelIdeal.Frame
public import proofs.«01_k».proof.Proof.Gen.InpReferenceIdeal
public import proofs.«01_k».proof.Proof.Gen.Pre_inp_finite
public import proofs.«01_k».proof.Proof.Gen.InpKernelIdeal.Value
public import proofs.«01_k».proof.Proof.Gen.InpReferenceIdeal.Run
public import proofs.«01_k».proof.Proof.Gen.InpReferenceIdeal.Read
public import proofs.«01_k».proof.Proof.Inp
public import proofs.«01_k».proof.Proof.Gen.MixKernel
public import proofs.«01_k».proof.Proof.Gen.MixKernel.Skeleton
public import proofs.«01_k».proof.Proof.Gen.MixKernel.Launch
public import proofs.«01_k».proof.Proof.Gen.MixKernel.Points
public import proofs.«01_k».proof.Proof.Gen.MixKernel.Frame
public import proofs.«01_k».proof.Proof.Gen.MixKernelIdeal
public import proofs.«01_k».proof.Proof.Gen.MixKernelIdeal.Skeleton
public import proofs.«01_k».proof.Proof.Gen.MixKernelIdeal.Launch
public import proofs.«01_k».proof.Proof.Gen.MixKernelIdeal.Points
public import proofs.«01_k».proof.Proof.Gen.MixKernelIdeal.Frame
public import proofs.«01_k».proof.Proof.Gen.MixReferenceIdeal
public import proofs.«01_k».proof.Proof.Gen.Pre_mix_finite
public import proofs.«01_k».proof.Proof.Gen.MixKernelIdeal.Value
public import proofs.«01_k».proof.Proof.Gen.MixReferenceIdeal.Run
public import proofs.«01_k».proof.Proof.Gen.MixReferenceIdeal.Read
public import proofs.«01_k».proof.Proof.Mix
public import proofs.«01_k».proof.Proof.Gen.SwiFKernel
public import proofs.«01_k».proof.Proof.Gen.SwiFKernel.Skeleton
public import proofs.«01_k».proof.Proof.Gen.SwiFKernel.Launch
public import proofs.«01_k».proof.Proof.Gen.SwiFKernel.Points
public import proofs.«01_k».proof.Proof.Gen.SwiFKernel.Frame
public import proofs.«01_k».proof.Proof.Gen.SwiFKernelIdeal
public import proofs.«01_k».proof.Proof.Gen.SwiFKernelIdeal.Skeleton
public import proofs.«01_k».proof.Proof.Gen.SwiFKernelIdeal.Launch
public import proofs.«01_k».proof.Proof.Gen.SwiFKernelIdeal.Points
public import proofs.«01_k».proof.Proof.Gen.SwiFKernelIdeal.Frame
public import proofs.«01_k».proof.Proof.Gen.SwiFReferenceIdeal
public import proofs.«01_k».proof.Proof.Gen.Pre_swif_finite
public import proofs.«01_k».proof.Proof.Gen.SwiFKernelIdeal.Value
public import proofs.«01_k».proof.Proof.Gen.SwiFReferenceIdeal.Run
public import proofs.«01_k».proof.Proof.Gen.SwiFReferenceIdeal.Read
public import proofs.«01_k».proof.Proof.SwiF
public import proofs.«01_k».proof.Proof.Gen.PrepKernel
public import proofs.«01_k».proof.Proof.Gen.PrepKernel.Skeleton
public import proofs.«01_k».proof.Proof.Gen.PrepKernel.Launch
public import proofs.«01_k».proof.Proof.Gen.PrepKernel.Points
public import proofs.«01_k».proof.Proof.Gen.PrepKernel.Frame
public import proofs.«01_k».proof.Proof.Gen.PrepKernelIdeal
public import proofs.«01_k».proof.Proof.Gen.PrepKernelIdeal.Skeleton
public import proofs.«01_k».proof.Proof.Gen.PrepKernelIdeal.Launch
public import proofs.«01_k».proof.Proof.Gen.PrepKernelIdeal.Points
public import proofs.«01_k».proof.Proof.Gen.PrepKernelIdeal.Frame
public import proofs.«01_k».proof.Proof.Gen.PrepReferenceIdeal
public import proofs.«01_k».proof.Proof.Gen.Pre_prep_finite
public import proofs.«01_k».proof.Proof.Gen.PrepKernelIdeal.Value
public import proofs.«01_k».proof.Proof.Gen.PrepReferenceIdeal.Run
public import proofs.«01_k».proof.Proof.Gen.PrepReferenceIdeal.Read
public import proofs.«01_k».proof.Proof.Prep
public import Idealize.ShloMosaic.Adequacy
public import Idealize.ShloMosaic.Init

@[expose] public section

noncomputable section

namespace Cert.Proof

open Idealize.ShloMosaic Idealize.SL.Sem

theorem claim : Cert.Claim := ⟨Cert.GateKernel.Gen.facts, Cert.GateKernelIdeal.Gen.facts, Cert.GateReferenceIdeal.Gen.facts,
  Cert.FoxKernel.Gen.facts, Cert.FoxKernelIdeal.Gen.facts, Cert.FoxReferenceIdeal.Gen.facts,
  Cert.FoxFKernel.Gen.facts, Cert.FoxFKernelIdeal.Gen.facts, Cert.FoxFReferenceIdeal.Gen.facts,
  Cert.MlaKernel.Gen.facts, Cert.MlaKernelIdeal.Gen.facts, Cert.MlaReferenceIdeal.Gen.facts,
  Cert.SwiKernel.Gen.facts, Cert.SwiKernelIdeal.Gen.facts, Cert.SwiReferenceIdeal.Gen.facts,
  Cert.FfnKernel.Gen.facts, Cert.FfnKernelIdeal.Gen.facts, Cert.FfnReferenceIdeal.Gen.facts,
  Cert.LossKernel.Gen.facts, Cert.LossKernelIdeal.Gen.facts, Cert.LossReferenceIdeal.Gen.facts,
  Cert.InpKernel.Gen.facts, Cert.InpKernelIdeal.Gen.facts, Cert.InpReferenceIdeal.Gen.facts,
  Cert.MixKernel.Gen.facts, Cert.MixKernelIdeal.Gen.facts, Cert.MixReferenceIdeal.Gen.facts,
  Cert.SwiFKernel.Gen.facts, Cert.SwiFKernelIdeal.Gen.facts, Cert.SwiFReferenceIdeal.Gen.facts,
  Cert.PrepKernel.Gen.facts, Cert.PrepKernelIdeal.Gen.facts, Cert.PrepReferenceIdeal.Gen.facts,
  Cert.Pre_gate_finite.Gen.facts, Cert.Pre_fox_finite.Gen.facts, Cert.Pre_foxf_finite.Gen.facts, Cert.Pre_mla_finite.Gen.facts, Cert.Pre_swi_finite.Gen.facts, Cert.Pre_ffn_finite.Gen.facts, Cert.Pre_loss_finite.Gen.facts, Cert.Pre_inp_finite.Gen.facts, Cert.Pre_mix_finite.Gen.facts, Cert.Pre_swif_finite.Gen.facts, Cert.Pre_prep_finite.Gen.facts,
  fun m ρ _ => Cert.GateKernel.Gen.frame m ρ, fun m ρ _ => Cert.GateKernelIdeal.Gen.frame m ρ, fun m ρ _ => Cert.GateKernelIdeal.Gen.frame m ρ,
  Cert.Gate.frame_reference, fun m ρ _ => Cert.Gate.frame_reference m ρ trivial,
  fun m ρ _ => Cert.FoxKernel.Gen.frame m ρ, fun m ρ _ => Cert.FoxKernelIdeal.Gen.frame m ρ, fun m ρ _ => Cert.FoxKernelIdeal.Gen.frame m ρ,
  Cert.Fox.frame_reference, fun m ρ _ => Cert.Fox.frame_reference m ρ trivial,
  fun m ρ _ => Cert.FoxFKernel.Gen.frame m ρ, fun m ρ _ => Cert.FoxFKernelIdeal.Gen.frame m ρ, fun m ρ _ => Cert.FoxFKernelIdeal.Gen.frame m ρ,
  Cert.FoxF.frame_reference, fun m ρ _ => Cert.FoxF.frame_reference m ρ trivial,
  fun m ρ _ => Cert.MlaKernel.Gen.frame m ρ, fun m ρ _ => Cert.MlaKernelIdeal.Gen.frame m ρ, fun m ρ _ => Cert.MlaKernelIdeal.Gen.frame m ρ,
  Cert.Mla.frame_reference, fun m ρ _ => Cert.Mla.frame_reference m ρ trivial,
  fun m ρ _ => Cert.SwiKernel.Gen.frame m ρ, fun m ρ _ => Cert.SwiKernelIdeal.Gen.frame m ρ, fun m ρ _ => Cert.SwiKernelIdeal.Gen.frame m ρ,
  Cert.Swi.frame_reference, fun m ρ _ => Cert.Swi.frame_reference m ρ trivial,
  fun m ρ _ => Cert.FfnKernel.Gen.frame m ρ, fun m ρ _ => Cert.FfnKernelIdeal.Gen.frame m ρ, fun m ρ _ => Cert.FfnKernelIdeal.Gen.frame m ρ,
  Cert.Ffn.frame_reference, fun m ρ _ => Cert.Ffn.frame_reference m ρ trivial,
  fun m ρ _ => Cert.LossKernel.Gen.frame m ρ, fun m ρ _ => Cert.LossKernelIdeal.Gen.frame m ρ, fun m ρ _ => Cert.LossKernelIdeal.Gen.frame m ρ,
  Cert.Loss.frame_reference, fun m ρ _ => Cert.Loss.frame_reference m ρ trivial,
  fun m ρ _ => Cert.InpKernel.Gen.frame m ρ, fun m ρ _ => Cert.InpKernelIdeal.Gen.frame m ρ, fun m ρ _ => Cert.InpKernelIdeal.Gen.frame m ρ,
  Cert.Inp.frame_reference, fun m ρ _ => Cert.Inp.frame_reference m ρ trivial,
  fun m ρ _ => Cert.MixKernel.Gen.frame m ρ, fun m ρ _ => Cert.MixKernelIdeal.Gen.frame m ρ, fun m ρ _ => Cert.MixKernelIdeal.Gen.frame m ρ,
  Cert.Mix.frame_reference, fun m ρ _ => Cert.Mix.frame_reference m ρ trivial,
  fun m ρ _ => Cert.SwiFKernel.Gen.frame m ρ, fun m ρ _ => Cert.SwiFKernelIdeal.Gen.frame m ρ, fun m ρ _ => Cert.SwiFKernelIdeal.Gen.frame m ρ,
  Cert.SwiF.frame_reference, fun m ρ _ => Cert.SwiF.frame_reference m ρ trivial,
  fun m ρ _ => Cert.PrepKernel.Gen.frame m ρ, fun m ρ _ => Cert.PrepKernelIdeal.Gen.frame m ρ, fun m ρ _ => Cert.PrepKernelIdeal.Gen.frame m ρ,
  Cert.Prep.frame_reference, fun m ρ _ => Cert.Prep.frame_reference m ρ trivial,
  trivial, Cert.Gate.algebraic,
  IdealRules.named_const.statement Cert.FoxKernelIdeal.κ "mask" .f32 0xF149F2CA#32 ⊥ rfl, Cert.Fox.algebraic,
  IdealRules.named_const.statement Cert.FoxFKernelIdeal.κ "mask" .f32 0xF149F2CA#32 ⊥ rfl, Cert.FoxF.algebraic,
  IdealRules.named_const.statement Cert.MlaKernelIdeal.κ "mask" .f32 0xF149F2CA#32 ⊥ rfl, Cert.Mla.algebraic,
  trivial, Cert.Swi.algebraic,
  trivial, Cert.Ffn.algebraic,
  trivial, Cert.Loss.algebraic,
  trivial, Cert.Inp.algebraic,
  trivial, Cert.Mix.algebraic,
  trivial, Cert.SwiF.algebraic,
  trivial, Cert.Prep.algebraic⟩

end Cert.Proof

end
